-- ==== Defs.lean ====
def Pre_MixBwd (m : (ℓ : Loc Cert.MixBwd.nD Cert.MixBwd.τ Cert.MixBwd.sig) → Buf (Elt Bits) ℓ) : Prop :=
  True

def Pre_MixBwdIdeal (m : (ℓ : Loc Cert.MixBwdIdeal.nD Cert.MixBwdIdeal.τ Cert.MixBwdIdeal.sig) → Buf (Elt Ideal) ℓ) : Prop :=
  True

def Pre_MixGradIdeal (m : (ℓ : Loc Cert.MixGradIdeal.nD Cert.MixGradIdeal.τ Cert.MixGradIdeal.sig) → Buf (Elt Ideal) ℓ) : Prop :=
  True

def Pre_NormBwd (m : (ℓ : Loc Cert.NormBwd.nD Cert.NormBwd.τ Cert.NormBwd.sig) → Buf (Elt Bits) ℓ) : Prop :=
  True

def Pre_NormBwdIdeal (m : (ℓ : Loc Cert.NormBwdIdeal.nD Cert.NormBwdIdeal.τ Cert.NormBwdIdeal.sig) → Buf (Elt Ideal) ℓ) : Prop :=
  True

def Pre_NormBwdIdeal_finite_norm1 [hPre_finite_norm1 : Cert.Pre_finite_norm1.Facts] (m : (ℓ : Loc Cert.NormBwdIdeal.nD Cert.NormBwdIdeal.τ Cert.NormBwdIdeal.sig) → Buf (Elt Ideal) ℓ) : Prop :=
  ∀ c : Dev Cert.NormBwdIdeal.nD,
    (Cert.Pre_finite_norm1.fn (F := Ideal) (m ((c.tc : Thread Cert.NormBwdIdeal.nD Cert.NormBwdIdeal.τ).loc Cert.NormBwdIdeal.main_arg0)) (m ((c.tc : Thread Cert.NormBwdIdeal.nD Cert.NormBwdIdeal.τ).loc Cert.NormBwdIdeal.main_arg1)) (m ((c.tc : Thread Cert.NormBwdIdeal.nD Cert.NormBwdIdeal.τ).loc Cert.NormBwdIdeal.main_arg2)) (m ((c.tc : Thread Cert.NormBwdIdeal.nD Cert.NormBwdIdeal.τ).loc Cert.NormBwdIdeal.main_arg3)) (m ((c.tc : Thread Cert.NormBwdIdeal.nD Cert.NormBwdIdeal.τ).loc Cert.NormBwdIdeal.main_arg4)) (m ((c.tc : Thread Cert.NormBwdIdeal.nD Cert.NormBwdIdeal.τ).loc Cert.NormBwdIdeal.main_arg5)) (m ((c.tc : Thread Cert.NormBwdIdeal.nD Cert.NormBwdIdeal.τ).loc Cert.NormBwdIdeal.main_arg6))).1 = (fun _ => 1#1)
    ∧ (Cert.Pre_finite_norm1.fn (F := Ideal) (m ((c.tc : Thread Cert.NormBwdIdeal.nD Cert.NormBwdIdeal.τ).loc Cert.NormBwdIdeal.main_arg0)) (m ((c.tc : Thread Cert.NormBwdIdeal.nD Cert.NormBwdIdeal.τ).loc Cert.NormBwdIdeal.main_arg1)) (m ((c.tc : Thread Cert.NormBwdIdeal.nD Cert.NormBwdIdeal.τ).loc Cert.NormBwdIdeal.main_arg2)) (m ((c.tc : Thread Cert.NormBwdIdeal.nD Cert.NormBwdIdeal.τ).loc Cert.NormBwdIdeal.main_arg3)) (m ((c.tc : Thread Cert.NormBwdIdeal.nD Cert.NormBwdIdeal.τ).loc Cert.NormBwdIdeal.main_arg4)) (m ((c.tc : Thread Cert.NormBwdIdeal.nD Cert.NormBwdIdeal.τ).loc Cert.NormBwdIdeal.main_arg5)) (m ((c.tc : Thread Cert.NormBwdIdeal.nD Cert.NormBwdIdeal.τ).loc Cert.NormBwdIdeal.main_arg6))).2.1 = (fun _ => 1#1)
    ∧ (Cert.Pre_finite_norm1.fn (F := Ideal) (m ((c.tc : Thread Cert.NormBwdIdeal.nD Cert.NormBwdIdeal.τ).loc Cert.NormBwdIdeal.main_arg0)) (m ((c.tc : Thread Cert.NormBwdIdeal.nD Cert.NormBwdIdeal.τ).loc Cert.NormBwdIdeal.main_arg1)) (m ((c.tc : Thread Cert.NormBwdIdeal.nD Cert.NormBwdIdeal.τ).loc Cert.NormBwdIdeal.main_arg2)) (m ((c.tc : Thread Cert.NormBwdIdeal.nD Cert.NormBwdIdeal.τ).loc Cert.NormBwdIdeal.main_arg3)) (m ((c.tc : Thread Cert.NormBwdIdeal.nD Cert.NormBwdIdeal.τ).loc Cert.NormBwdIdeal.main_arg4)) (m ((c.tc : Thread Cert.NormBwdIdeal.nD Cert.NormBwdIdeal.τ).loc Cert.NormBwdIdeal.main_arg5)) (m ((c.tc : Thread Cert.NormBwdIdeal.nD Cert.NormBwdIdeal.τ).loc Cert.NormBwdIdeal.main_arg6))).2.2.1 = (fun _ => 1#1)
    ∧ (Cert.Pre_finite_norm1.fn (F := Ideal) (m ((c.tc : Thread Cert.NormBwdIdeal.nD Cert.NormBwdIdeal.τ).loc Cert.NormBwdIdeal.main_arg0)) (m ((c.tc : Thread Cert.NormBwdIdeal.nD Cert.NormBwdIdeal.τ).loc Cert.NormBwdIdeal.main_arg1)) (m ((c.tc : Thread Cert.NormBwdIdeal.nD Cert.NormBwdIdeal.τ).loc Cert.NormBwdIdeal.main_arg2)) (m ((c.tc : Thread Cert.NormBwdIdeal.nD Cert.NormBwdIdeal.τ).loc Cert.NormBwdIdeal.main_arg3)) (m ((c.tc : Thread Cert.NormBwdIdeal.nD Cert.NormBwdIdeal.τ).loc Cert.NormBwdIdeal.main_arg4)) (m ((c.tc : Thread Cert.NormBwdIdeal.nD Cert.NormBwdIdeal.τ).loc Cert.NormBwdIdeal.main_arg5)) (m ((c.tc : Thread Cert.NormBwdIdeal.nD Cert.NormBwdIdeal.τ).loc Cert.NormBwdIdeal.main_arg6))).2.2.2.1 = (fun _ => 1#1)
    ∧ (Cert.Pre_finite_norm1.fn (F := Ideal) (m ((c.tc : Thread Cert.NormBwdIdeal.nD Cert.NormBwdIdeal.τ).loc Cert.NormBwdIdeal.main_arg0)) (m ((c.tc : Thread Cert.NormBwdIdeal.nD Cert.NormBwdIdeal.τ).loc Cert.NormBwdIdeal.main_arg1)) (m ((c.tc : Thread Cert.NormBwdIdeal.nD Cert.NormBwdIdeal.τ).loc Cert.NormBwdIdeal.main_arg2)) (m ((c.tc : Thread Cert.NormBwdIdeal.nD Cert.NormBwdIdeal.τ).loc Cert.NormBwdIdeal.main_arg3)) (m ((c.tc : Thread Cert.NormBwdIdeal.nD Cert.NormBwdIdeal.τ).loc Cert.NormBwdIdeal.main_arg4)) (m ((c.tc : Thread Cert.NormBwdIdeal.nD Cert.NormBwdIdeal.τ).loc Cert.NormBwdIdeal.main_arg5)) (m ((c.tc : Thread Cert.NormBwdIdeal.nD Cert.NormBwdIdeal.τ).loc Cert.NormBwdIdeal.main_arg6))).2.2.2.2.1 = (fun _ => 1#1)
    ∧ (Cert.Pre_finite_norm1.fn (F := Ideal) (m ((c.tc : Thread Cert.NormBwdIdeal.nD Cert.NormBwdIdeal.τ).loc Cert.NormBwdIdeal.main_arg0)) (m ((c.tc : Thread Cert.NormBwdIdeal.nD Cert.NormBwdIdeal.τ).loc Cert.NormBwdIdeal.main_arg1)) (m ((c.tc : Thread Cert.NormBwdIdeal.nD Cert.NormBwdIdeal.τ).loc Cert.NormBwdIdeal.main_arg2)) (m ((c.tc : Thread Cert.NormBwdIdeal.nD Cert.NormBwdIdeal.τ).loc Cert.NormBwdIdeal.main_arg3)) (m ((c.tc : Thread Cert.NormBwdIdeal.nD Cert.NormBwdIdeal.τ).loc Cert.NormBwdIdeal.main_arg4)) (m ((c.tc : Thread Cert.NormBwdIdeal.nD Cert.NormBwdIdeal.τ).loc Cert.NormBwdIdeal.main_arg5)) (m ((c.tc : Thread Cert.NormBwdIdeal.nD Cert.NormBwdIdeal.τ).loc Cert.NormBwdIdeal.main_arg6))).2.2.2.2.2 = (fun _ => 1#1)

def Pre_NormGradIdeal (m : (ℓ : Loc Cert.NormGradIdeal.nD Cert.NormGradIdeal.τ Cert.NormGradIdeal.sig) → Buf (Elt Ideal) ℓ) : Prop :=
  True

def Pre_NormGradIdeal_finite_norm1 [hPre_finite_norm1 : Cert.Pre_finite_norm1.Facts] (m : (ℓ : Loc Cert.NormGradIdeal.nD Cert.NormGradIdeal.τ Cert.NormGradIdeal.sig) → Buf (Elt Ideal) ℓ) : Prop :=
  ∀ c : Dev Cert.NormGradIdeal.nD,
    (Cert.Pre_finite_norm1.fn (F := Ideal) (m ((c.tc : Thread Cert.NormGradIdeal.nD Cert.NormGradIdeal.τ).loc Cert.NormGradIdeal.main_arg0)) (m ((c.tc : Thread Cert.NormGradIdeal.nD Cert.NormGradIdeal.τ).loc Cert.NormGradIdeal.main_arg1)) (m ((c.tc : Thread Cert.NormGradIdeal.nD Cert.NormGradIdeal.τ).loc Cert.NormGradIdeal.main_arg2)) (m ((c.tc : Thread Cert.NormGradIdeal.nD Cert.NormGradIdeal.τ).loc Cert.NormGradIdeal.main_arg3)) (m ((c.tc : Thread Cert.NormGradIdeal.nD Cert.NormGradIdeal.τ).loc Cert.NormGradIdeal.main_arg4)) (m ((c.tc : Thread Cert.NormGradIdeal.nD Cert.NormGradIdeal.τ).loc Cert.NormGradIdeal.main_arg5)) (m ((c.tc : Thread Cert.NormGradIdeal.nD Cert.NormGradIdeal.τ).loc Cert.NormGradIdeal.main_arg6))).1 = (fun _ => 1#1)
    ∧ (Cert.Pre_finite_norm1.fn (F := Ideal) (m ((c.tc : Thread Cert.NormGradIdeal.nD Cert.NormGradIdeal.τ).loc Cert.NormGradIdeal.main_arg0)) (m ((c.tc : Thread Cert.NormGradIdeal.nD Cert.NormGradIdeal.τ).loc Cert.NormGradIdeal.main_arg1)) (m ((c.tc : Thread Cert.NormGradIdeal.nD Cert.NormGradIdeal.τ).loc Cert.NormGradIdeal.main_arg2)) (m ((c.tc : Thread Cert.NormGradIdeal.nD Cert.NormGradIdeal.τ).loc Cert.NormGradIdeal.main_arg3)) (m ((c.tc : Thread Cert.NormGradIdeal.nD Cert.NormGradIdeal.τ).loc Cert.NormGradIdeal.main_arg4)) (m ((c.tc : Thread Cert.NormGradIdeal.nD Cert.NormGradIdeal.τ).loc Cert.NormGradIdeal.main_arg5)) (m ((c.tc : Thread Cert.NormGradIdeal.nD Cert.NormGradIdeal.τ).loc Cert.NormGradIdeal.main_arg6))).2.1 = (fun _ => 1#1)
    ∧ (Cert.Pre_finite_norm1.fn (F := Ideal) (m ((c.tc : Thread Cert.NormGradIdeal.nD Cert.NormGradIdeal.τ).loc Cert.NormGradIdeal.main_arg0)) (m ((c.tc : Thread Cert.NormGradIdeal.nD Cert.NormGradIdeal.τ).loc Cert.NormGradIdeal.main_arg1)) (m ((c.tc : Thread Cert.NormGradIdeal.nD Cert.NormGradIdeal.τ).loc Cert.NormGradIdeal.main_arg2)) (m ((c.tc : Thread Cert.NormGradIdeal.nD Cert.NormGradIdeal.τ).loc Cert.NormGradIdeal.main_arg3)) (m ((c.tc : Thread Cert.NormGradIdeal.nD Cert.NormGradIdeal.τ).loc Cert.NormGradIdeal.main_arg4)) (m ((c.tc : Thread Cert.NormGradIdeal.nD Cert.NormGradIdeal.τ).loc Cert.NormGradIdeal.main_arg5)) (m ((c.tc : Thread Cert.NormGradIdeal.nD Cert.NormGradIdeal.τ).loc Cert.NormGradIdeal.main_arg6))).2.2.1 = (fun _ => 1#1)
    ∧ (Cert.Pre_finite_norm1.fn (F := Ideal) (m ((c.tc : Thread Cert.NormGradIdeal.nD Cert.NormGradIdeal.τ).loc Cert.NormGradIdeal.main_arg0)) (m ((c.tc : Thread Cert.NormGradIdeal.nD Cert.NormGradIdeal.τ).loc Cert.NormGradIdeal.main_arg1)) (m ((c.tc : Thread Cert.NormGradIdeal.nD Cert.NormGradIdeal.τ).loc Cert.NormGradIdeal.main_arg2)) (m ((c.tc : Thread Cert.NormGradIdeal.nD Cert.NormGradIdeal.τ).loc Cert.NormGradIdeal.main_arg3)) (m ((c.tc : Thread Cert.NormGradIdeal.nD Cert.NormGradIdeal.τ).loc Cert.NormGradIdeal.main_arg4)) (m ((c.tc : Thread Cert.NormGradIdeal.nD Cert.NormGradIdeal.τ).loc Cert.NormGradIdeal.main_arg5)) (m ((c.tc : Thread Cert.NormGradIdeal.nD Cert.NormGradIdeal.τ).loc Cert.NormGradIdeal.main_arg6))).2.2.2.1 = (fun _ => 1#1)
    ∧ (Cert.Pre_finite_norm1.fn (F := Ideal) (m ((c.tc : Thread Cert.NormGradIdeal.nD Cert.NormGradIdeal.τ).loc Cert.NormGradIdeal.main_arg0)) (m ((c.tc : Thread Cert.NormGradIdeal.nD Cert.NormGradIdeal.τ).loc Cert.NormGradIdeal.main_arg1)) (m ((c.tc : Thread Cert.NormGradIdeal.nD Cert.NormGradIdeal.τ).loc Cert.NormGradIdeal.main_arg2)) (m ((c.tc : Thread Cert.NormGradIdeal.nD Cert.NormGradIdeal.τ).loc Cert.NormGradIdeal.main_arg3)) (m ((c.tc : Thread Cert.NormGradIdeal.nD Cert.NormGradIdeal.τ).loc Cert.NormGradIdeal.main_arg4)) (m ((c.tc : Thread Cert.NormGradIdeal.nD Cert.NormGradIdeal.τ).loc Cert.NormGradIdeal.main_arg5)) (m ((c.tc : Thread Cert.NormGradIdeal.nD Cert.NormGradIdeal.τ).loc Cert.NormGradIdeal.main_arg6))).2.2.2.2.1 = (fun _ => 1#1)
    ∧ (Cert.Pre_finite_norm1.fn (F := Ideal) (m ((c.tc : Thread Cert.NormGradIdeal.nD Cert.NormGradIdeal.τ).loc Cert.NormGradIdeal.main_arg0)) (m ((c.tc : Thread Cert.NormGradIdeal.nD Cert.NormGradIdeal.τ).loc Cert.NormGradIdeal.main_arg1)) (m ((c.tc : Thread Cert.NormGradIdeal.nD Cert.NormGradIdeal.τ).loc Cert.NormGradIdeal.main_arg2)) (m ((c.tc : Thread Cert.NormGradIdeal.nD Cert.NormGradIdeal.τ).loc Cert.NormGradIdeal.main_arg3)) (m ((c.tc : Thread Cert.NormGradIdeal.nD Cert.NormGradIdeal.τ).loc Cert.NormGradIdeal.main_arg4)) (m ((c.tc : Thread Cert.NormGradIdeal.nD Cert.NormGradIdeal.τ).loc Cert.NormGradIdeal.main_arg5)) (m ((c.tc : Thread Cert.NormGradIdeal.nD Cert.NormGradIdeal.τ).loc Cert.NormGradIdeal.main_arg6))).2.2.2.2.2 = (fun _ => 1#1)

def Pre_FfnLoss (m : (ℓ : Loc Cert.FfnLoss.nD Cert.FfnLoss.τ Cert.FfnLoss.sig) → Buf (Elt Bits) ℓ) : Prop :=
  True

def Pre_FfnLossIdeal (m : (ℓ : Loc Cert.FfnLossIdeal.nD Cert.FfnLossIdeal.τ Cert.FfnLossIdeal.sig) → Buf (Elt Ideal) ℓ) : Prop :=
  True

def Pre_FfnLossIdeal_finite_ffn [hPre_finite_ffn : Cert.Pre_finite_ffn.Facts] (m : (ℓ : Loc Cert.FfnLossIdeal.nD Cert.FfnLossIdeal.τ Cert.FfnLossIdeal.sig) → Buf (Elt Ideal) ℓ) : Prop :=
  ∀ c : Dev Cert.FfnLossIdeal.nD,
    (Cert.Pre_finite_ffn.fn (F := Ideal) (m ((c.tc : Thread Cert.FfnLossIdeal.nD Cert.FfnLossIdeal.τ).loc Cert.FfnLossIdeal.main_arg0)) (m ((c.tc : Thread Cert.FfnLossIdeal.nD Cert.FfnLossIdeal.τ).loc Cert.FfnLossIdeal.main_arg1)) (m ((c.tc : Thread Cert.FfnLossIdeal.nD Cert.FfnLossIdeal.τ).loc Cert.FfnLossIdeal.main_arg2)) (m ((c.tc : Thread Cert.FfnLossIdeal.nD Cert.FfnLossIdeal.τ).loc Cert.FfnLossIdeal.main_arg3)) (m ((c.tc : Thread Cert.FfnLossIdeal.nD Cert.FfnLossIdeal.τ).loc Cert.FfnLossIdeal.main_arg4)) (m ((c.tc : Thread Cert.FfnLossIdeal.nD Cert.FfnLossIdeal.τ).loc Cert.FfnLossIdeal.main_arg5))).1 = (fun _ => 1#1)
    ∧ (Cert.Pre_finite_ffn.fn (F := Ideal) (m ((c.tc : Thread Cert.FfnLossIdeal.nD Cert.FfnLossIdeal.τ).loc Cert.FfnLossIdeal.main_arg0)) (m ((c.tc : Thread Cert.FfnLossIdeal.nD Cert.FfnLossIdeal.τ).loc Cert.FfnLossIdeal.main_arg1)) (m ((c.tc : Thread Cert.FfnLossIdeal.nD Cert.FfnLossIdeal.τ).loc Cert.FfnLossIdeal.main_arg2)) (m ((c.tc : Thread Cert.FfnLossIdeal.nD Cert.FfnLossIdeal.τ).loc Cert.FfnLossIdeal.main_arg3)) (m ((c.tc : Thread Cert.FfnLossIdeal.nD Cert.FfnLossIdeal.τ).loc Cert.FfnLossIdeal.main_arg4)) (m ((c.tc : Thread Cert.FfnLossIdeal.nD Cert.FfnLossIdeal.τ).loc Cert.FfnLossIdeal.main_arg5))).2.1 = (fun _ => 1#1)
    ∧ (Cert.Pre_finite_ffn.fn (F := Ideal) (m ((c.tc : Thread Cert.FfnLossIdeal.nD Cert.FfnLossIdeal.τ).loc Cert.FfnLossIdeal.main_arg0)) (m ((c.tc : Thread Cert.FfnLossIdeal.nD Cert.FfnLossIdeal.τ).loc Cert.FfnLossIdeal.main_arg1)) (m ((c.tc : Thread Cert.FfnLossIdeal.nD Cert.FfnLossIdeal.τ).loc Cert.FfnLossIdeal.main_arg2)) (m ((c.tc : Thread Cert.FfnLossIdeal.nD Cert.FfnLossIdeal.τ).loc Cert.FfnLossIdeal.main_arg3)) (m ((c.tc : Thread Cert.FfnLossIdeal.nD Cert.FfnLossIdeal.τ).loc Cert.FfnLossIdeal.main_arg4)) (m ((c.tc : Thread Cert.FfnLossIdeal.nD Cert.FfnLossIdeal.τ).loc Cert.FfnLossIdeal.main_arg5))).2.2.1 = (fun _ => 1#1)
    ∧ (Cert.Pre_finite_ffn.fn (F := Ideal) (m ((c.tc : Thread Cert.FfnLossIdeal.nD Cert.FfnLossIdeal.τ).loc Cert.FfnLossIdeal.main_arg0)) (m ((c.tc : Thread Cert.FfnLossIdeal.nD Cert.FfnLossIdeal.τ).loc Cert.FfnLossIdeal.main_arg1)) (m ((c.tc : Thread Cert.FfnLossIdeal.nD Cert.FfnLossIdeal.τ).loc Cert.FfnLossIdeal.main_arg2)) (m ((c.tc : Thread Cert.FfnLossIdeal.nD Cert.FfnLossIdeal.τ).loc Cert.FfnLossIdeal.main_arg3)) (m ((c.tc : Thread Cert.FfnLossIdeal.nD Cert.FfnLossIdeal.τ).loc Cert.FfnLossIdeal.main_arg4)) (m ((c.tc : Thread Cert.FfnLossIdeal.nD Cert.FfnLossIdeal.τ).loc Cert.FfnLossIdeal.main_arg5))).2.2.2.1 = (fun _ => 1#1)
    ∧ (Cert.Pre_finite_ffn.fn (F := Ideal) (m ((c.tc : Thread Cert.FfnLossIdeal.nD Cert.FfnLossIdeal.τ).loc Cert.FfnLossIdeal.main_arg0)) (m ((c.tc : Thread Cert.FfnLossIdeal.nD Cert.FfnLossIdeal.τ).loc Cert.FfnLossIdeal.main_arg1)) (m ((c.tc : Thread Cert.FfnLossIdeal.nD Cert.FfnLossIdeal.τ).loc Cert.FfnLossIdeal.main_arg2)) (m ((c.tc : Thread Cert.FfnLossIdeal.nD Cert.FfnLossIdeal.τ).loc Cert.FfnLossIdeal.main_arg3)) (m ((c.tc : Thread Cert.FfnLossIdeal.nD Cert.FfnLossIdeal.τ).loc Cert.FfnLossIdeal.main_arg4)) (m ((c.tc : Thread Cert.FfnLossIdeal.nD Cert.FfnLossIdeal.τ).loc Cert.FfnLossIdeal.main_arg5))).2.2.2.2.1 = (fun _ => 1#1)
    ∧ (Cert.Pre_finite_ffn.fn (F := Ideal) (m ((c.tc : Thread Cert.FfnLossIdeal.nD Cert.FfnLossIdeal.τ).loc Cert.FfnLossIdeal.main_arg0)) (m ((c.tc : Thread Cert.FfnLossIdeal.nD Cert.FfnLossIdeal.τ).loc Cert.FfnLossIdeal.main_arg1)) (m ((c.tc : Thread Cert.FfnLossIdeal.nD Cert.FfnLossIdeal.τ).loc Cert.FfnLossIdeal.main_arg2)) (m ((c.tc : Thread Cert.FfnLossIdeal.nD Cert.FfnLossIdeal.τ).loc Cert.FfnLossIdeal.main_arg3)) (m ((c.tc : Thread Cert.FfnLossIdeal.nD Cert.FfnLossIdeal.τ).loc Cert.FfnLossIdeal.main_arg4)) (m ((c.tc : Thread Cert.FfnLossIdeal.nD Cert.FfnLossIdeal.τ).loc Cert.FfnLossIdeal.main_arg5))).2.2.2.2.2 = (fun _ => 1#1)

def Pre_FfnGradIdeal (m : (ℓ : Loc Cert.FfnGradIdeal.nD Cert.FfnGradIdeal.τ Cert.FfnGradIdeal.sig) → Buf (Elt Ideal) ℓ) : Prop :=
  True

def Pre_FfnGradIdeal_finite_ffn [hPre_finite_ffn : Cert.Pre_finite_ffn.Facts] (m : (ℓ : Loc Cert.FfnGradIdeal.nD Cert.FfnGradIdeal.τ Cert.FfnGradIdeal.sig) → Buf (Elt Ideal) ℓ) : Prop :=
  ∀ c : Dev Cert.FfnGradIdeal.nD,
    (Cert.Pre_finite_ffn.fn (F := Ideal) (m ((c.tc : Thread Cert.FfnGradIdeal.nD Cert.FfnGradIdeal.τ).loc Cert.FfnGradIdeal.main_arg0)) (m ((c.tc : Thread Cert.FfnGradIdeal.nD Cert.FfnGradIdeal.τ).loc Cert.FfnGradIdeal.main_arg1)) (m ((c.tc : Thread Cert.FfnGradIdeal.nD Cert.FfnGradIdeal.τ).loc Cert.FfnGradIdeal.main_arg2)) (m ((c.tc : Thread Cert.FfnGradIdeal.nD Cert.FfnGradIdeal.τ).loc Cert.FfnGradIdeal.main_arg3)) (m ((c.tc : Thread Cert.FfnGradIdeal.nD Cert.FfnGradIdeal.τ).loc Cert.FfnGradIdeal.main_arg4)) (m ((c.tc : Thread Cert.FfnGradIdeal.nD Cert.FfnGradIdeal.τ).loc Cert.FfnGradIdeal.main_arg5))).1 = (fun _ => 1#1)
    ∧ (Cert.Pre_finite_ffn.fn (F := Ideal) (m ((c.tc : Thread Cert.FfnGradIdeal.nD Cert.FfnGradIdeal.τ).loc Cert.FfnGradIdeal.main_arg0)) (m ((c.tc : Thread Cert.FfnGradIdeal.nD Cert.FfnGradIdeal.τ).loc Cert.FfnGradIdeal.main_arg1)) (m ((c.tc : Thread Cert.FfnGradIdeal.nD Cert.FfnGradIdeal.τ).loc Cert.FfnGradIdeal.main_arg2)) (m ((c.tc : Thread Cert.FfnGradIdeal.nD Cert.FfnGradIdeal.τ).loc Cert.FfnGradIdeal.main_arg3)) (m ((c.tc : Thread Cert.FfnGradIdeal.nD Cert.FfnGradIdeal.τ).loc Cert.FfnGradIdeal.main_arg4)) (m ((c.tc : Thread Cert.FfnGradIdeal.nD Cert.FfnGradIdeal.τ).loc Cert.FfnGradIdeal.main_arg5))).2.1 = (fun _ => 1#1)
    ∧ (Cert.Pre_finite_ffn.fn (F := Ideal) (m ((c.tc : Thread Cert.FfnGradIdeal.nD Cert.FfnGradIdeal.τ).loc Cert.FfnGradIdeal.main_arg0)) (m ((c.tc : Thread Cert.FfnGradIdeal.nD Cert.FfnGradIdeal.τ).loc Cert.FfnGradIdeal.main_arg1)) (m ((c.tc : Thread Cert.FfnGradIdeal.nD Cert.FfnGradIdeal.τ).loc Cert.FfnGradIdeal.main_arg2)) (m ((c.tc : Thread Cert.FfnGradIdeal.nD Cert.FfnGradIdeal.τ).loc Cert.FfnGradIdeal.main_arg3)) (m ((c.tc : Thread Cert.FfnGradIdeal.nD Cert.FfnGradIdeal.τ).loc Cert.FfnGradIdeal.main_arg4)) (m ((c.tc : Thread Cert.FfnGradIdeal.nD Cert.FfnGradIdeal.τ).loc Cert.FfnGradIdeal.main_arg5))).2.2.1 = (fun _ => 1#1)
    ∧ (Cert.Pre_finite_ffn.fn (F := Ideal) (m ((c.tc : Thread Cert.FfnGradIdeal.nD Cert.FfnGradIdeal.τ).loc Cert.FfnGradIdeal.main_arg0)) (m ((c.tc : Thread Cert.FfnGradIdeal.nD Cert.FfnGradIdeal.τ).loc Cert.FfnGradIdeal.main_arg1)) (m ((c.tc : Thread Cert.FfnGradIdeal.nD Cert.FfnGradIdeal.τ).loc Cert.FfnGradIdeal.main_arg2)) (m ((c.tc : Thread Cert.FfnGradIdeal.nD Cert.FfnGradIdeal.τ).loc Cert.FfnGradIdeal.main_arg3)) (m ((c.tc : Thread Cert.FfnGradIdeal.nD Cert.FfnGradIdeal.τ).loc Cert.FfnGradIdeal.main_arg4)) (m ((c.tc : Thread Cert.FfnGradIdeal.nD Cert.FfnGradIdeal.τ).loc Cert.FfnGradIdeal.main_arg5))).2.2.2.1 = (fun _ => 1#1)
    ∧ (Cert.Pre_finite_ffn.fn (F := Ideal) (m ((c.tc : Thread Cert.FfnGradIdeal.nD Cert.FfnGradIdeal.τ).loc Cert.FfnGradIdeal.main_arg0)) (m ((c.tc : Thread Cert.FfnGradIdeal.nD Cert.FfnGradIdeal.τ).loc Cert.FfnGradIdeal.main_arg1)) (m ((c.tc : Thread Cert.FfnGradIdeal.nD Cert.FfnGradIdeal.τ).loc Cert.FfnGradIdeal.main_arg2)) (m ((c.tc : Thread Cert.FfnGradIdeal.nD Cert.FfnGradIdeal.τ).loc Cert.FfnGradIdeal.main_arg3)) (m ((c.tc : Thread Cert.FfnGradIdeal.nD Cert.FfnGradIdeal.τ).loc Cert.FfnGradIdeal.main_arg4)) (m ((c.tc : Thread Cert.FfnGradIdeal.nD Cert.FfnGradIdeal.τ).loc Cert.FfnGradIdeal.main_arg5))).2.2.2.2.1 = (fun _ => 1#1)
    ∧ (Cert.Pre_finite_ffn.fn (F := Ideal) (m ((c.tc : Thread Cert.FfnGradIdeal.nD Cert.FfnGradIdeal.τ).loc Cert.FfnGradIdeal.main_arg0)) (m ((c.tc : Thread Cert.FfnGradIdeal.nD Cert.FfnGradIdeal.τ).loc Cert.FfnGradIdeal.main_arg1)) (m ((c.tc : Thread Cert.FfnGradIdeal.nD Cert.FfnGradIdeal.τ).loc Cert.FfnGradIdeal.main_arg2)) (m ((c.tc : Thread Cert.FfnGradIdeal.nD Cert.FfnGradIdeal.τ).loc Cert.FfnGradIdeal.main_arg3)) (m ((c.tc : Thread Cert.FfnGradIdeal.nD Cert.FfnGradIdeal.τ).loc Cert.FfnGradIdeal.main_arg4)) (m ((c.tc : Thread Cert.FfnGradIdeal.nD Cert.FfnGradIdeal.τ).loc Cert.FfnGradIdeal.main_arg5))).2.2.2.2.2 = (fun _ => 1#1)

def Pre_AttBwd (m : (ℓ : Loc Cert.AttBwd.nD Cert.AttBwd.τ Cert.AttBwd.sig) → Buf (Elt Bits) ℓ) : Prop :=
  True

def Pre_AttBwdIdeal (m : (ℓ : Loc Cert.AttBwdIdeal.nD Cert.AttBwdIdeal.τ Cert.AttBwdIdeal.sig) → Buf (Elt Ideal) ℓ) : Prop :=
  True

def Pre_AttBwdIdeal_finite_att [hPre_finite_att : Cert.Pre_finite_att.Facts] (m : (ℓ : Loc Cert.AttBwdIdeal.nD Cert.AttBwdIdeal.τ Cert.AttBwdIdeal.sig) → Buf (Elt Ideal) ℓ) : Prop :=
  ∀ c : Dev Cert.AttBwdIdeal.nD,
    (Cert.Pre_finite_att.fn (F := Ideal) (m ((c.tc : Thread Cert.AttBwdIdeal.nD Cert.AttBwdIdeal.τ).loc Cert.AttBwdIdeal.main_arg0)) (m ((c.tc : Thread Cert.AttBwdIdeal.nD Cert.AttBwdIdeal.τ).loc Cert.AttBwdIdeal.main_arg1)) (m ((c.tc : Thread Cert.AttBwdIdeal.nD Cert.AttBwdIdeal.τ).loc Cert.AttBwdIdeal.main_arg2))).1 = (fun _ => 1#1)
    ∧ (Cert.Pre_finite_att.fn (F := Ideal) (m ((c.tc : Thread Cert.AttBwdIdeal.nD Cert.AttBwdIdeal.τ).loc Cert.AttBwdIdeal.main_arg0)) (m ((c.tc : Thread Cert.AttBwdIdeal.nD Cert.AttBwdIdeal.τ).loc Cert.AttBwdIdeal.main_arg1)) (m ((c.tc : Thread Cert.AttBwdIdeal.nD Cert.AttBwdIdeal.τ).loc Cert.AttBwdIdeal.main_arg2))).2 = (fun _ => 1#1)

def Pre_AttGradIdeal (m : (ℓ : Loc Cert.AttGradIdeal.nD Cert.AttGradIdeal.τ Cert.AttGradIdeal.sig) → Buf (Elt Ideal) ℓ) : Prop :=
  True

def Pre_AttGradIdeal_finite_att [hPre_finite_att : Cert.Pre_finite_att.Facts] (m : (ℓ : Loc Cert.AttGradIdeal.nD Cert.AttGradIdeal.τ Cert.AttGradIdeal.sig) → Buf (Elt Ideal) ℓ) : Prop :=
  ∀ c : Dev Cert.AttGradIdeal.nD,
    (Cert.Pre_finite_att.fn (F := Ideal) (m ((c.tc : Thread Cert.AttGradIdeal.nD Cert.AttGradIdeal.τ).loc Cert.AttGradIdeal.main_arg0)) (m ((c.tc : Thread Cert.AttGradIdeal.nD Cert.AttGradIdeal.τ).loc Cert.AttGradIdeal.main_arg1)) (m ((c.tc : Thread Cert.AttGradIdeal.nD Cert.AttGradIdeal.τ).loc Cert.AttGradIdeal.main_arg2))).1 = (fun _ => 1#1)
    ∧ (Cert.Pre_finite_att.fn (F := Ideal) (m ((c.tc : Thread Cert.AttGradIdeal.nD Cert.AttGradIdeal.τ).loc Cert.AttGradIdeal.main_arg0)) (m ((c.tc : Thread Cert.AttGradIdeal.nD Cert.AttGradIdeal.τ).loc Cert.AttGradIdeal.main_arg1)) (m ((c.tc : Thread Cert.AttGradIdeal.nD Cert.AttGradIdeal.τ).loc Cert.AttGradIdeal.main_arg2))).2 = (fun _ => 1#1)

def Pre_AttFwd (m : (ℓ : Loc Cert.AttFwd.nD Cert.AttFwd.τ Cert.AttFwd.sig) → Buf (Elt Bits) ℓ) : Prop :=
  True

def Pre_AttFwdIdeal (m : (ℓ : Loc Cert.AttFwdIdeal.nD Cert.AttFwdIdeal.τ Cert.AttFwdIdeal.sig) → Buf (Elt Ideal) ℓ) : Prop :=
  True

def Pre_AttFwdIdeal_finite_out [hPre_finite_out : Cert.Pre_finite_out.Facts] (m : (ℓ : Loc Cert.AttFwdIdeal.nD Cert.AttFwdIdeal.τ Cert.AttFwdIdeal.sig) → Buf (Elt Ideal) ℓ) : Prop :=
  ∀ c : Dev Cert.AttFwdIdeal.nD,
    (Cert.Pre_finite_out.fn (F := Ideal) (m ((c.tc : Thread Cert.AttFwdIdeal.nD Cert.AttFwdIdeal.τ).loc Cert.AttFwdIdeal.main_arg0)) (m ((c.tc : Thread Cert.AttFwdIdeal.nD Cert.AttFwdIdeal.τ).loc Cert.AttFwdIdeal.main_arg1))).1 = (fun _ => 1#1)
    ∧ (Cert.Pre_finite_out.fn (F := Ideal) (m ((c.tc : Thread Cert.AttFwdIdeal.nD Cert.AttFwdIdeal.τ).loc Cert.AttFwdIdeal.main_arg0)) (m ((c.tc : Thread Cert.AttFwdIdeal.nD Cert.AttFwdIdeal.τ).loc Cert.AttFwdIdeal.main_arg1))).2 = (fun _ => 1#1)

def Pre_AttOutIdeal (m : (ℓ : Loc Cert.AttOutIdeal.nD Cert.AttOutIdeal.τ Cert.AttOutIdeal.sig) → Buf (Elt Ideal) ℓ) : Prop :=
  True

def Pre_AttOutIdeal_finite_out [hPre_finite_out : Cert.Pre_finite_out.Facts] (m : (ℓ : Loc Cert.AttOutIdeal.nD Cert.AttOutIdeal.τ Cert.AttOutIdeal.sig) → Buf (Elt Ideal) ℓ) : Prop :=
  ∀ c : Dev Cert.AttOutIdeal.nD,
    (Cert.Pre_finite_out.fn (F := Ideal) (m ((c.tc : Thread Cert.AttOutIdeal.nD Cert.AttOutIdeal.τ).loc Cert.AttOutIdeal.main_arg0)) (m ((c.tc : Thread Cert.AttOutIdeal.nD Cert.AttOutIdeal.τ).loc Cert.AttOutIdeal.main_arg1))).1 = (fun _ => 1#1)
    ∧ (Cert.Pre_finite_out.fn (F := Ideal) (m ((c.tc : Thread Cert.AttOutIdeal.nD Cert.AttOutIdeal.τ).loc Cert.AttOutIdeal.main_arg0)) (m ((c.tc : Thread Cert.AttOutIdeal.nD Cert.AttOutIdeal.τ).loc Cert.AttOutIdeal.main_arg1))).2 = (fun _ => 1#1)

def Pre_MixFwd (m : (ℓ : Loc Cert.MixFwd.nD Cert.MixFwd.τ Cert.MixFwd.sig) → Buf (Elt Bits) ℓ) : Prop :=
  True

def Pre_MixFwdIdeal (m : (ℓ : Loc Cert.MixFwdIdeal.nD Cert.MixFwdIdeal.τ Cert.MixFwdIdeal.sig) → Buf (Elt Ideal) ℓ) : Prop :=
  True

def Pre_MixOutIdeal (m : (ℓ : Loc Cert.MixOutIdeal.nD Cert.MixOutIdeal.τ Cert.MixOutIdeal.sig) → Buf (Elt Ideal) ℓ) : Prop :=
  True

def Pre_ProjFwd (m : (ℓ : Loc Cert.ProjFwd.nD Cert.ProjFwd.τ Cert.ProjFwd.sig) → Buf (Elt Bits) ℓ) : Prop :=
  True

def Pre_ProjFwdIdeal (m : (ℓ : Loc Cert.ProjFwdIdeal.nD Cert.ProjFwdIdeal.τ Cert.ProjFwdIdeal.sig) → Buf (Elt Ideal) ℓ) : Prop :=
  True

def Pre_ProjOutIdeal (m : (ℓ : Loc Cert.ProjOutIdeal.nD Cert.ProjOutIdeal.τ Cert.ProjOutIdeal.sig) → Buf (Elt Ideal) ℓ) : Prop :=
  True

def Pre_RecFwd (m : (ℓ : Loc Cert.RecFwd.nD Cert.RecFwd.τ Cert.RecFwd.sig) → Buf (Elt Bits) ℓ) : Prop :=
  True

def Pre_RecFwdIdeal (m : (ℓ : Loc Cert.RecFwdIdeal.nD Cert.RecFwdIdeal.τ Cert.RecFwdIdeal.sig) → Buf (Elt Ideal) ℓ) : Prop :=
  True

def Pre_RecDecayIdeal (m : (ℓ : Loc Cert.RecDecayIdeal.nD Cert.RecDecayIdeal.τ Cert.RecDecayIdeal.sig) → Buf (Elt Ideal) ℓ) : Prop :=
  True

def quiescent_MixBwd [hMixBwd : Cert.MixBwd.Facts] : Prop :=
  ∀ (m : (ℓ : Loc Cert.MixBwd.nD Cert.MixBwd.τ Cert.MixBwd.sig) → Buf (Elt Bits) ℓ) (g : Dev Cert.MixBwd.nD → PrngReg), Pre_MixBwd m →
    θ_run (Cert.MixBwd.defs (F := Bits)) (onTc (τ := Cert.MixBwd.τ) (Cert.MixBwd.main (F := Bits))) ⟨m, fun _ => 0, g⟩ (fun r => (∀ c : Dev Cert.MixBwd.nD,
      r.2.mem ((c.tc : Thread Cert.MixBwd.nD Cert.MixBwd.τ).loc Cert.MixBwd.main_arg0) = m ((c.tc : Thread Cert.MixBwd.nD Cert.MixBwd.τ).loc Cert.MixBwd.main_arg0)
      ∧ r.2.mem ((c.tc : Thread Cert.MixBwd.nD Cert.MixBwd.τ).loc Cert.MixBwd.main_arg1) = m ((c.tc : Thread Cert.MixBwd.nD Cert.MixBwd.τ).loc Cert.MixBwd.main_arg1)
      ∧ r.2.mem ((c.tc : Thread Cert.MixBwd.nD Cert.MixBwd.τ).loc Cert.MixBwd.main_arg2) = m ((c.tc : Thread Cert.MixBwd.nD Cert.MixBwd.τ).loc Cert.MixBwd.main_arg2)
      ∧ r.2.mem ((c.tc : Thread Cert.MixBwd.nD Cert.MixBwd.τ).loc Cert.MixBwd.main_arg3) = m ((c.tc : Thread Cert.MixBwd.nD Cert.MixBwd.τ).loc Cert.MixBwd.main_arg3)
      ∧ r.2.mem ((c.tc : Thread Cert.MixBwd.nD Cert.MixBwd.τ).loc Cert.MixBwd.main_arg4) = m ((c.tc : Thread Cert.MixBwd.nD Cert.MixBwd.τ).loc Cert.MixBwd.main_arg4)
      ∧ r.2.mem ((c.tc : Thread Cert.MixBwd.nD Cert.MixBwd.τ).loc Cert.MixBwd.main_arg5) = m ((c.tc : Thread Cert.MixBwd.nD Cert.MixBwd.τ).loc Cert.MixBwd.main_arg5)
      ∧ r.2.mem ((c.tc : Thread Cert.MixBwd.nD Cert.MixBwd.τ).loc Cert.MixBwd.main_arg6) = m ((c.tc : Thread Cert.MixBwd.nD Cert.MixBwd.τ).loc Cert.MixBwd.main_arg6))
      ∧ r.2.sem = fun _ => 0)

def quiescent_MixBwdIdeal [hMixBwdIdeal : Cert.MixBwdIdeal.Facts] : Prop :=
  ∀ (m : (ℓ : Loc Cert.MixBwdIdeal.nD Cert.MixBwdIdeal.τ Cert.MixBwdIdeal.sig) → Buf (Elt Ideal) ℓ) (g : Dev Cert.MixBwdIdeal.nD → PrngReg), Pre_MixBwdIdeal m →
    θ_run (Cert.MixBwdIdeal.defs (F := Ideal)) (onTc (τ := Cert.MixBwdIdeal.τ) (Cert.MixBwdIdeal.main (F := Ideal))) ⟨m, fun _ => 0, g⟩ (fun r => (∀ c : Dev Cert.MixBwdIdeal.nD,
      r.2.mem ((c.tc : Thread Cert.MixBwdIdeal.nD Cert.MixBwdIdeal.τ).loc Cert.MixBwdIdeal.main_arg0) = m ((c.tc : Thread Cert.MixBwdIdeal.nD Cert.MixBwdIdeal.τ).loc Cert.MixBwdIdeal.main_arg0)
      ∧ r.2.mem ((c.tc : Thread Cert.MixBwdIdeal.nD Cert.MixBwdIdeal.τ).loc Cert.MixBwdIdeal.main_arg1) = m ((c.tc : Thread Cert.MixBwdIdeal.nD Cert.MixBwdIdeal.τ).loc Cert.MixBwdIdeal.main_arg1)
      ∧ r.2.mem ((c.tc : Thread Cert.MixBwdIdeal.nD Cert.MixBwdIdeal.τ).loc Cert.MixBwdIdeal.main_arg2) = m ((c.tc : Thread Cert.MixBwdIdeal.nD Cert.MixBwdIdeal.τ).loc Cert.MixBwdIdeal.main_arg2)
      ∧ r.2.mem ((c.tc : Thread Cert.MixBwdIdeal.nD Cert.MixBwdIdeal.τ).loc Cert.MixBwdIdeal.main_arg3) = m ((c.tc : Thread Cert.MixBwdIdeal.nD Cert.MixBwdIdeal.τ).loc Cert.MixBwdIdeal.main_arg3)
      ∧ r.2.mem ((c.tc : Thread Cert.MixBwdIdeal.nD Cert.MixBwdIdeal.τ).loc Cert.MixBwdIdeal.main_arg4) = m ((c.tc : Thread Cert.MixBwdIdeal.nD Cert.MixBwdIdeal.τ).loc Cert.MixBwdIdeal.main_arg4)
      ∧ r.2.mem ((c.tc : Thread Cert.MixBwdIdeal.nD Cert.MixBwdIdeal.τ).loc Cert.MixBwdIdeal.main_arg5) = m ((c.tc : Thread Cert.MixBwdIdeal.nD Cert.MixBwdIdeal.τ).loc Cert.MixBwdIdeal.main_arg5)
      ∧ r.2.mem ((c.tc : Thread Cert.MixBwdIdeal.nD Cert.MixBwdIdeal.τ).loc Cert.MixBwdIdeal.main_arg6) = m ((c.tc : Thread Cert.MixBwdIdeal.nD Cert.MixBwdIdeal.τ).loc Cert.MixBwdIdeal.main_arg6))
      ∧ r.2.sem = fun _ => 0)

def quiescent_MixGradIdeal [hMixGradIdeal : Cert.MixGradIdeal.Facts] : Prop :=
  ∀ (m : (ℓ : Loc Cert.MixGradIdeal.nD Cert.MixGradIdeal.τ Cert.MixGradIdeal.sig) → Buf (Elt Ideal) ℓ) (g : Dev Cert.MixGradIdeal.nD → PrngReg), Pre_MixGradIdeal m →
    θ_run (Cert.MixGradIdeal.defs (F := Ideal)) (onTc (τ := Cert.MixGradIdeal.τ) (Cert.MixGradIdeal.main (F := Ideal))) ⟨m, fun _ => 0, g⟩ (fun r => (∀ c : Dev Cert.MixGradIdeal.nD,
      r.2.mem ((c.tc : Thread Cert.MixGradIdeal.nD Cert.MixGradIdeal.τ).loc Cert.MixGradIdeal.main_arg0) = m ((c.tc : Thread Cert.MixGradIdeal.nD Cert.MixGradIdeal.τ).loc Cert.MixGradIdeal.main_arg0)
      ∧ r.2.mem ((c.tc : Thread Cert.MixGradIdeal.nD Cert.MixGradIdeal.τ).loc Cert.MixGradIdeal.main_arg1) = m ((c.tc : Thread Cert.MixGradIdeal.nD Cert.MixGradIdeal.τ).loc Cert.MixGradIdeal.main_arg1)
      ∧ r.2.mem ((c.tc : Thread Cert.MixGradIdeal.nD Cert.MixGradIdeal.τ).loc Cert.MixGradIdeal.main_arg2) = m ((c.tc : Thread Cert.MixGradIdeal.nD Cert.MixGradIdeal.τ).loc Cert.MixGradIdeal.main_arg2)
      ∧ r.2.mem ((c.tc : Thread Cert.MixGradIdeal.nD Cert.MixGradIdeal.τ).loc Cert.MixGradIdeal.main_arg3) = m ((c.tc : Thread Cert.MixGradIdeal.nD Cert.MixGradIdeal.τ).loc Cert.MixGradIdeal.main_arg3)
      ∧ r.2.mem ((c.tc : Thread Cert.MixGradIdeal.nD Cert.MixGradIdeal.τ).loc Cert.MixGradIdeal.main_arg4) = m ((c.tc : Thread Cert.MixGradIdeal.nD Cert.MixGradIdeal.τ).loc Cert.MixGradIdeal.main_arg4)
      ∧ r.2.mem ((c.tc : Thread Cert.MixGradIdeal.nD Cert.MixGradIdeal.τ).loc Cert.MixGradIdeal.main_arg5) = m ((c.tc : Thread Cert.MixGradIdeal.nD Cert.MixGradIdeal.τ).loc Cert.MixGradIdeal.main_arg5)
      ∧ r.2.mem ((c.tc : Thread Cert.MixGradIdeal.nD Cert.MixGradIdeal.τ).loc Cert.MixGradIdeal.main_arg6) = m ((c.tc : Thread Cert.MixGradIdeal.nD Cert.MixGradIdeal.τ).loc Cert.MixGradIdeal.main_arg6))
      ∧ r.2.sem = fun _ => 0)

def quiescent_NormBwd [hNormBwd : Cert.NormBwd.Facts] : Prop :=
  ∀ (m : (ℓ : Loc Cert.NormBwd.nD Cert.NormBwd.τ Cert.NormBwd.sig) → Buf (Elt Bits) ℓ) (g : Dev Cert.NormBwd.nD → PrngReg), Pre_NormBwd m →
    θ_run (Cert.NormBwd.defs (F := Bits)) (onTc (τ := Cert.NormBwd.τ) (Cert.NormBwd.main (F := Bits))) ⟨m, fun _ => 0, g⟩ (fun r => (∀ c : Dev Cert.NormBwd.nD,
      r.2.mem ((c.tc : Thread Cert.NormBwd.nD Cert.NormBwd.τ).loc Cert.NormBwd.main_arg0) = m ((c.tc : Thread Cert.NormBwd.nD Cert.NormBwd.τ).loc Cert.NormBwd.main_arg0)
      ∧ r.2.mem ((c.tc : Thread Cert.NormBwd.nD Cert.NormBwd.τ).loc Cert.NormBwd.main_arg1) = m ((c.tc : Thread Cert.NormBwd.nD Cert.NormBwd.τ).loc Cert.NormBwd.main_arg1)
      ∧ r.2.mem ((c.tc : Thread Cert.NormBwd.nD Cert.NormBwd.τ).loc Cert.NormBwd.main_arg2) = m ((c.tc : Thread Cert.NormBwd.nD Cert.NormBwd.τ).loc Cert.NormBwd.main_arg2)
      ∧ r.2.mem ((c.tc : Thread Cert.NormBwd.nD Cert.NormBwd.τ).loc Cert.NormBwd.main_arg3) = m ((c.tc : Thread Cert.NormBwd.nD Cert.NormBwd.τ).loc Cert.NormBwd.main_arg3)
      ∧ r.2.mem ((c.tc : Thread Cert.NormBwd.nD Cert.NormBwd.τ).loc Cert.NormBwd.main_arg4) = m ((c.tc : Thread Cert.NormBwd.nD Cert.NormBwd.τ).loc Cert.NormBwd.main_arg4)
      ∧ r.2.mem ((c.tc : Thread Cert.NormBwd.nD Cert.NormBwd.τ).loc Cert.NormBwd.main_arg5) = m ((c.tc : Thread Cert.NormBwd.nD Cert.NormBwd.τ).loc Cert.NormBwd.main_arg5)
      ∧ r.2.mem ((c.tc : Thread Cert.NormBwd.nD Cert.NormBwd.τ).loc Cert.NormBwd.main_arg6) = m ((c.tc : Thread Cert.NormBwd.nD Cert.NormBwd.τ).loc Cert.NormBwd.main_arg6))
      ∧ r.2.sem = fun _ => 0)

def quiescent_NormBwdIdeal [hNormBwdIdeal : Cert.NormBwdIdeal.Facts] : Prop :=
  ∀ (m : (ℓ : Loc Cert.NormBwdIdeal.nD Cert.NormBwdIdeal.τ Cert.NormBwdIdeal.sig) → Buf (Elt Ideal) ℓ) (g : Dev Cert.NormBwdIdeal.nD → PrngReg), Pre_NormBwdIdeal m →
    θ_run (Cert.NormBwdIdeal.defs (F := Ideal)) (onTc (τ := Cert.NormBwdIdeal.τ) (Cert.NormBwdIdeal.main (F := Ideal))) ⟨m, fun _ => 0, g⟩ (fun r => (∀ c : Dev Cert.NormBwdIdeal.nD,
      r.2.mem ((c.tc : Thread Cert.NormBwdIdeal.nD Cert.NormBwdIdeal.τ).loc Cert.NormBwdIdeal.main_arg0) = m ((c.tc : Thread Cert.NormBwdIdeal.nD Cert.NormBwdIdeal.τ).loc Cert.NormBwdIdeal.main_arg0)
      ∧ r.2.mem ((c.tc : Thread Cert.NormBwdIdeal.nD Cert.NormBwdIdeal.τ).loc Cert.NormBwdIdeal.main_arg1) = m ((c.tc : Thread Cert.NormBwdIdeal.nD Cert.NormBwdIdeal.τ).loc Cert.NormBwdIdeal.main_arg1)
      ∧ r.2.mem ((c.tc : Thread Cert.NormBwdIdeal.nD Cert.NormBwdIdeal.τ).loc Cert.NormBwdIdeal.main_arg2) = m ((c.tc : Thread Cert.NormBwdIdeal.nD Cert.NormBwdIdeal.τ).loc Cert.NormBwdIdeal.main_arg2)
      ∧ r.2.mem ((c.tc : Thread Cert.NormBwdIdeal.nD Cert.NormBwdIdeal.τ).loc Cert.NormBwdIdeal.main_arg3) = m ((c.tc : Thread Cert.NormBwdIdeal.nD Cert.NormBwdIdeal.τ).loc Cert.NormBwdIdeal.main_arg3)
      ∧ r.2.mem ((c.tc : Thread Cert.NormBwdIdeal.nD Cert.NormBwdIdeal.τ).loc Cert.NormBwdIdeal.main_arg4) = m ((c.tc : Thread Cert.NormBwdIdeal.nD Cert.NormBwdIdeal.τ).loc Cert.NormBwdIdeal.main_arg4)
      ∧ r.2.mem ((c.tc : Thread Cert.NormBwdIdeal.nD Cert.NormBwdIdeal.τ).loc Cert.NormBwdIdeal.main_arg5) = m ((c.tc : Thread Cert.NormBwdIdeal.nD Cert.NormBwdIdeal.τ).loc Cert.NormBwdIdeal.main_arg5)
      ∧ r.2.mem ((c.tc : Thread Cert.NormBwdIdeal.nD Cert.NormBwdIdeal.τ).loc Cert.NormBwdIdeal.main_arg6) = m ((c.tc : Thread Cert.NormBwdIdeal.nD Cert.NormBwdIdeal.τ).loc Cert.NormBwdIdeal.main_arg6))
      ∧ r.2.sem = fun _ => 0)

def quiescent_NormBwdIdeal_pre_finite_norm1 [hNormBwdIdeal : Cert.NormBwdIdeal.Facts] [hPre_finite_norm1 : Cert.Pre_finite_norm1.Facts] : Prop :=
  ∀ (m : (ℓ : Loc Cert.NormBwdIdeal.nD Cert.NormBwdIdeal.τ Cert.NormBwdIdeal.sig) → Buf (Elt Ideal) ℓ) (g : Dev Cert.NormBwdIdeal.nD → PrngReg), Pre_NormBwdIdeal_finite_norm1 m →
    θ_run (Cert.NormBwdIdeal.defs (F := Ideal)) (onTc (τ := Cert.NormBwdIdeal.τ) (Cert.NormBwdIdeal.main (F := Ideal))) ⟨m, fun _ => 0, g⟩ (fun r => (∀ c : Dev Cert.NormBwdIdeal.nD,
      r.2.mem ((c.tc : Thread Cert.NormBwdIdeal.nD Cert.NormBwdIdeal.τ).loc Cert.NormBwdIdeal.main_arg0) = m ((c.tc : Thread Cert.NormBwdIdeal.nD Cert.NormBwdIdeal.τ).loc Cert.NormBwdIdeal.main_arg0)
      ∧ r.2.mem ((c.tc : Thread Cert.NormBwdIdeal.nD Cert.NormBwdIdeal.τ).loc Cert.NormBwdIdeal.main_arg1) = m ((c.tc : Thread Cert.NormBwdIdeal.nD Cert.NormBwdIdeal.τ).loc Cert.NormBwdIdeal.main_arg1)
      ∧ r.2.mem ((c.tc : Thread Cert.NormBwdIdeal.nD Cert.NormBwdIdeal.τ).loc Cert.NormBwdIdeal.main_arg2) = m ((c.tc : Thread Cert.NormBwdIdeal.nD Cert.NormBwdIdeal.τ).loc Cert.NormBwdIdeal.main_arg2)
      ∧ r.2.mem ((c.tc : Thread Cert.NormBwdIdeal.nD Cert.NormBwdIdeal.τ).loc Cert.NormBwdIdeal.main_arg3) = m ((c.tc : Thread Cert.NormBwdIdeal.nD Cert.NormBwdIdeal.τ).loc Cert.NormBwdIdeal.main_arg3)
      ∧ r.2.mem ((c.tc : Thread Cert.NormBwdIdeal.nD Cert.NormBwdIdeal.τ).loc Cert.NormBwdIdeal.main_arg4) = m ((c.tc : Thread Cert.NormBwdIdeal.nD Cert.NormBwdIdeal.τ).loc Cert.NormBwdIdeal.main_arg4)
      ∧ r.2.mem ((c.tc : Thread Cert.NormBwdIdeal.nD Cert.NormBwdIdeal.τ).loc Cert.NormBwdIdeal.main_arg5) = m ((c.tc : Thread Cert.NormBwdIdeal.nD Cert.NormBwdIdeal.τ).loc Cert.NormBwdIdeal.main_arg5)
      ∧ r.2.mem ((c.tc : Thread Cert.NormBwdIdeal.nD Cert.NormBwdIdeal.τ).loc Cert.NormBwdIdeal.main_arg6) = m ((c.tc : Thread Cert.NormBwdIdeal.nD Cert.NormBwdIdeal.τ).loc Cert.NormBwdIdeal.main_arg6))
      ∧ r.2.sem = fun _ => 0)

def quiescent_NormGradIdeal [hNormGradIdeal : Cert.NormGradIdeal.Facts] : Prop :=
  ∀ (m : (ℓ : Loc Cert.NormGradIdeal.nD Cert.NormGradIdeal.τ Cert.NormGradIdeal.sig) → Buf (Elt Ideal) ℓ) (g : Dev Cert.NormGradIdeal.nD → PrngReg), Pre_NormGradIdeal m →
    θ_run (Cert.NormGradIdeal.defs (F := Ideal)) (onTc (τ := Cert.NormGradIdeal.τ) (Cert.NormGradIdeal.main (F := Ideal))) ⟨m, fun _ => 0, g⟩ (fun r => (∀ c : Dev Cert.NormGradIdeal.nD,
      r.2.mem ((c.tc : Thread Cert.NormGradIdeal.nD Cert.NormGradIdeal.τ).loc Cert.NormGradIdeal.main_arg0) = m ((c.tc : Thread Cert.NormGradIdeal.nD Cert.NormGradIdeal.τ).loc Cert.NormGradIdeal.main_arg0)
      ∧ r.2.mem ((c.tc : Thread Cert.NormGradIdeal.nD Cert.NormGradIdeal.τ).loc Cert.NormGradIdeal.main_arg1) = m ((c.tc : Thread Cert.NormGradIdeal.nD Cert.NormGradIdeal.τ).loc Cert.NormGradIdeal.main_arg1)
      ∧ r.2.mem ((c.tc : Thread Cert.NormGradIdeal.nD Cert.NormGradIdeal.τ).loc Cert.NormGradIdeal.main_arg2) = m ((c.tc : Thread Cert.NormGradIdeal.nD Cert.NormGradIdeal.τ).loc Cert.NormGradIdeal.main_arg2)
      ∧ r.2.mem ((c.tc : Thread Cert.NormGradIdeal.nD Cert.NormGradIdeal.τ).loc Cert.NormGradIdeal.main_arg3) = m ((c.tc : Thread Cert.NormGradIdeal.nD Cert.NormGradIdeal.τ).loc Cert.NormGradIdeal.main_arg3)
      ∧ r.2.mem ((c.tc : Thread Cert.NormGradIdeal.nD Cert.NormGradIdeal.τ).loc Cert.NormGradIdeal.main_arg4) = m ((c.tc : Thread Cert.NormGradIdeal.nD Cert.NormGradIdeal.τ).loc Cert.NormGradIdeal.main_arg4)
      ∧ r.2.mem ((c.tc : Thread Cert.NormGradIdeal.nD Cert.NormGradIdeal.τ).loc Cert.NormGradIdeal.main_arg5) = m ((c.tc : Thread Cert.NormGradIdeal.nD Cert.NormGradIdeal.τ).loc Cert.NormGradIdeal.main_arg5)
      ∧ r.2.mem ((c.tc : Thread Cert.NormGradIdeal.nD Cert.NormGradIdeal.τ).loc Cert.NormGradIdeal.main_arg6) = m ((c.tc : Thread Cert.NormGradIdeal.nD Cert.NormGradIdeal.τ).loc Cert.NormGradIdeal.main_arg6))
      ∧ r.2.sem = fun _ => 0)

def quiescent_NormGradIdeal_pre_finite_norm1 [hNormGradIdeal : Cert.NormGradIdeal.Facts] [hPre_finite_norm1 : Cert.Pre_finite_norm1.Facts] : Prop :=
  ∀ (m : (ℓ : Loc Cert.NormGradIdeal.nD Cert.NormGradIdeal.τ Cert.NormGradIdeal.sig) → Buf (Elt Ideal) ℓ) (g : Dev Cert.NormGradIdeal.nD → PrngReg), Pre_NormGradIdeal_finite_norm1 m →
    θ_run (Cert.NormGradIdeal.defs (F := Ideal)) (onTc (τ := Cert.NormGradIdeal.τ) (Cert.NormGradIdeal.main (F := Ideal))) ⟨m, fun _ => 0, g⟩ (fun r => (∀ c : Dev Cert.NormGradIdeal.nD,
      r.2.mem ((c.tc : Thread Cert.NormGradIdeal.nD Cert.NormGradIdeal.τ).loc Cert.NormGradIdeal.main_arg0) = m ((c.tc : Thread Cert.NormGradIdeal.nD Cert.NormGradIdeal.τ).loc Cert.NormGradIdeal.main_arg0)
      ∧ r.2.mem ((c.tc : Thread Cert.NormGradIdeal.nD Cert.NormGradIdeal.τ).loc Cert.NormGradIdeal.main_arg1) = m ((c.tc : Thread Cert.NormGradIdeal.nD Cert.NormGradIdeal.τ).loc Cert.NormGradIdeal.main_arg1)
      ∧ r.2.mem ((c.tc : Thread Cert.NormGradIdeal.nD Cert.NormGradIdeal.τ).loc Cert.NormGradIdeal.main_arg2) = m ((c.tc : Thread Cert.NormGradIdeal.nD Cert.NormGradIdeal.τ).loc Cert.NormGradIdeal.main_arg2)
      ∧ r.2.mem ((c.tc : Thread Cert.NormGradIdeal.nD Cert.NormGradIdeal.τ).loc Cert.NormGradIdeal.main_arg3) = m ((c.tc : Thread Cert.NormGradIdeal.nD Cert.NormGradIdeal.τ).loc Cert.NormGradIdeal.main_arg3)
      ∧ r.2.mem ((c.tc : Thread Cert.NormGradIdeal.nD Cert.NormGradIdeal.τ).loc Cert.NormGradIdeal.main_arg4) = m ((c.tc : Thread Cert.NormGradIdeal.nD Cert.NormGradIdeal.τ).loc Cert.NormGradIdeal.main_arg4)
      ∧ r.2.mem ((c.tc : Thread Cert.NormGradIdeal.nD Cert.NormGradIdeal.τ).loc Cert.NormGradIdeal.main_arg5) = m ((c.tc : Thread Cert.NormGradIdeal.nD Cert.NormGradIdeal.τ).loc Cert.NormGradIdeal.main_arg5)
      ∧ r.2.mem ((c.tc : Thread Cert.NormGradIdeal.nD Cert.NormGradIdeal.τ).loc Cert.NormGradIdeal.main_arg6) = m ((c.tc : Thread Cert.NormGradIdeal.nD Cert.NormGradIdeal.τ).loc Cert.NormGradIdeal.main_arg6))
      ∧ r.2.sem = fun _ => 0)

def quiescent_FfnLoss [hFfnLoss : Cert.FfnLoss.Facts] : Prop :=
  ∀ (m : (ℓ : Loc Cert.FfnLoss.nD Cert.FfnLoss.τ Cert.FfnLoss.sig) → Buf (Elt Bits) ℓ) (g : Dev Cert.FfnLoss.nD → PrngReg), Pre_FfnLoss m →
    θ_run (Cert.FfnLoss.defs (F := Bits)) (onTc (τ := Cert.FfnLoss.τ) (Cert.FfnLoss.main (F := Bits))) ⟨m, fun _ => 0, g⟩ (fun r => (∀ c : Dev Cert.FfnLoss.nD,
      r.2.mem ((c.tc : Thread Cert.FfnLoss.nD Cert.FfnLoss.τ).loc Cert.FfnLoss.main_arg0) = m ((c.tc : Thread Cert.FfnLoss.nD Cert.FfnLoss.τ).loc Cert.FfnLoss.main_arg0)
      ∧ r.2.mem ((c.tc : Thread Cert.FfnLoss.nD Cert.FfnLoss.τ).loc Cert.FfnLoss.main_arg1) = m ((c.tc : Thread Cert.FfnLoss.nD Cert.FfnLoss.τ).loc Cert.FfnLoss.main_arg1)
      ∧ r.2.mem ((c.tc : Thread Cert.FfnLoss.nD Cert.FfnLoss.τ).loc Cert.FfnLoss.main_arg2) = m ((c.tc : Thread Cert.FfnLoss.nD Cert.FfnLoss.τ).loc Cert.FfnLoss.main_arg2)
      ∧ r.2.mem ((c.tc : Thread Cert.FfnLoss.nD Cert.FfnLoss.τ).loc Cert.FfnLoss.main_arg3) = m ((c.tc : Thread Cert.FfnLoss.nD Cert.FfnLoss.τ).loc Cert.FfnLoss.main_arg3)
      ∧ r.2.mem ((c.tc : Thread Cert.FfnLoss.nD Cert.FfnLoss.τ).loc Cert.FfnLoss.main_arg4) = m ((c.tc : Thread Cert.FfnLoss.nD Cert.FfnLoss.τ).loc Cert.FfnLoss.main_arg4)
      ∧ r.2.mem ((c.tc : Thread Cert.FfnLoss.nD Cert.FfnLoss.τ).loc Cert.FfnLoss.main_arg5) = m ((c.tc : Thread Cert.FfnLoss.nD Cert.FfnLoss.τ).loc Cert.FfnLoss.main_arg5))
      ∧ r.2.sem = fun _ => 0)

def quiescent_FfnLossIdeal [hFfnLossIdeal : Cert.FfnLossIdeal.Facts] : Prop :=
  ∀ (m : (ℓ : Loc Cert.FfnLossIdeal.nD Cert.FfnLossIdeal.τ Cert.FfnLossIdeal.sig) → Buf (Elt Ideal) ℓ) (g : Dev Cert.FfnLossIdeal.nD → PrngReg), Pre_FfnLossIdeal m →
    θ_run (Cert.FfnLossIdeal.defs (F := Ideal)) (onTc (τ := Cert.FfnLossIdeal.τ) (Cert.FfnLossIdeal.main (F := Ideal))) ⟨m, fun _ => 0, g⟩ (fun r => (∀ c : Dev Cert.FfnLossIdeal.nD,
      r.2.mem ((c.tc : Thread Cert.FfnLossIdeal.nD Cert.FfnLossIdeal.τ).loc Cert.FfnLossIdeal.main_arg0) = m ((c.tc : Thread Cert.FfnLossIdeal.nD Cert.FfnLossIdeal.τ).loc Cert.FfnLossIdeal.main_arg0)
      ∧ r.2.mem ((c.tc : Thread Cert.FfnLossIdeal.nD Cert.FfnLossIdeal.τ).loc Cert.FfnLossIdeal.main_arg1) = m ((c.tc : Thread Cert.FfnLossIdeal.nD Cert.FfnLossIdeal.τ).loc Cert.FfnLossIdeal.main_arg1)
      ∧ r.2.mem ((c.tc : Thread Cert.FfnLossIdeal.nD Cert.FfnLossIdeal.τ).loc Cert.FfnLossIdeal.main_arg2) = m ((c.tc : Thread Cert.FfnLossIdeal.nD Cert.FfnLossIdeal.τ).loc Cert.FfnLossIdeal.main_arg2)
      ∧ r.2.mem ((c.tc : Thread Cert.FfnLossIdeal.nD Cert.FfnLossIdeal.τ).loc Cert.FfnLossIdeal.main_arg3) = m ((c.tc : Thread Cert.FfnLossIdeal.nD Cert.FfnLossIdeal.τ).loc Cert.FfnLossIdeal.main_arg3)
      ∧ r.2.mem ((c.tc : Thread Cert.FfnLossIdeal.nD Cert.FfnLossIdeal.τ).loc Cert.FfnLossIdeal.main_arg4) = m ((c.tc : Thread Cert.FfnLossIdeal.nD Cert.FfnLossIdeal.τ).loc Cert.FfnLossIdeal.main_arg4)
      ∧ r.2.mem ((c.tc : Thread Cert.FfnLossIdeal.nD Cert.FfnLossIdeal.τ).loc Cert.FfnLossIdeal.main_arg5) = m ((c.tc : Thread Cert.FfnLossIdeal.nD Cert.FfnLossIdeal.τ).loc Cert.FfnLossIdeal.main_arg5))
      ∧ r.2.sem = fun _ => 0)

def quiescent_FfnLossIdeal_pre_finite_ffn [hFfnLossIdeal : Cert.FfnLossIdeal.Facts] [hPre_finite_ffn : Cert.Pre_finite_ffn.Facts] : Prop :=
  ∀ (m : (ℓ : Loc Cert.FfnLossIdeal.nD Cert.FfnLossIdeal.τ Cert.FfnLossIdeal.sig) → Buf (Elt Ideal) ℓ) (g : Dev Cert.FfnLossIdeal.nD → PrngReg), Pre_FfnLossIdeal_finite_ffn m →
    θ_run (Cert.FfnLossIdeal.defs (F := Ideal)) (onTc (τ := Cert.FfnLossIdeal.τ) (Cert.FfnLossIdeal.main (F := Ideal))) ⟨m, fun _ => 0, g⟩ (fun r => (∀ c : Dev Cert.FfnLossIdeal.nD,
      r.2.mem ((c.tc : Thread Cert.FfnLossIdeal.nD Cert.FfnLossIdeal.τ).loc Cert.FfnLossIdeal.main_arg0) = m ((c.tc : Thread Cert.FfnLossIdeal.nD Cert.FfnLossIdeal.τ).loc Cert.FfnLossIdeal.main_arg0)
      ∧ r.2.mem ((c.tc : Thread Cert.FfnLossIdeal.nD Cert.FfnLossIdeal.τ).loc Cert.FfnLossIdeal.main_arg1) = m ((c.tc : Thread Cert.FfnLossIdeal.nD Cert.FfnLossIdeal.τ).loc Cert.FfnLossIdeal.main_arg1)
      ∧ r.2.mem ((c.tc : Thread Cert.FfnLossIdeal.nD Cert.FfnLossIdeal.τ).loc Cert.FfnLossIdeal.main_arg2) = m ((c.tc : Thread Cert.FfnLossIdeal.nD Cert.FfnLossIdeal.τ).loc Cert.FfnLossIdeal.main_arg2)
      ∧ r.2.mem ((c.tc : Thread Cert.FfnLossIdeal.nD Cert.FfnLossIdeal.τ).loc Cert.FfnLossIdeal.main_arg3) = m ((c.tc : Thread Cert.FfnLossIdeal.nD Cert.FfnLossIdeal.τ).loc Cert.FfnLossIdeal.main_arg3)
      ∧ r.2.mem ((c.tc : Thread Cert.FfnLossIdeal.nD Cert.FfnLossIdeal.τ).loc Cert.FfnLossIdeal.main_arg4) = m ((c.tc : Thread Cert.FfnLossIdeal.nD Cert.FfnLossIdeal.τ).loc Cert.FfnLossIdeal.main_arg4)
      ∧ r.2.mem ((c.tc : Thread Cert.FfnLossIdeal.nD Cert.FfnLossIdeal.τ).loc Cert.FfnLossIdeal.main_arg5) = m ((c.tc : Thread Cert.FfnLossIdeal.nD Cert.FfnLossIdeal.τ).loc Cert.FfnLossIdeal.main_arg5))
      ∧ r.2.sem = fun _ => 0)

def quiescent_FfnGradIdeal [hFfnGradIdeal : Cert.FfnGradIdeal.Facts] : Prop :=
  ∀ (m : (ℓ : Loc Cert.FfnGradIdeal.nD Cert.FfnGradIdeal.τ Cert.FfnGradIdeal.sig) → Buf (Elt Ideal) ℓ) (g : Dev Cert.FfnGradIdeal.nD → PrngReg), Pre_FfnGradIdeal m →
    θ_run (Cert.FfnGradIdeal.defs (F := Ideal)) (onTc (τ := Cert.FfnGradIdeal.τ) (Cert.FfnGradIdeal.main (F := Ideal))) ⟨m, fun _ => 0, g⟩ (fun r => (∀ c : Dev Cert.FfnGradIdeal.nD,
      r.2.mem ((c.tc : Thread Cert.FfnGradIdeal.nD Cert.FfnGradIdeal.τ).loc Cert.FfnGradIdeal.main_arg0) = m ((c.tc : Thread Cert.FfnGradIdeal.nD Cert.FfnGradIdeal.τ).loc Cert.FfnGradIdeal.main_arg0)
      ∧ r.2.mem ((c.tc : Thread Cert.FfnGradIdeal.nD Cert.FfnGradIdeal.τ).loc Cert.FfnGradIdeal.main_arg1) = m ((c.tc : Thread Cert.FfnGradIdeal.nD Cert.FfnGradIdeal.τ).loc Cert.FfnGradIdeal.main_arg1)
      ∧ r.2.mem ((c.tc : Thread Cert.FfnGradIdeal.nD Cert.FfnGradIdeal.τ).loc Cert.FfnGradIdeal.main_arg2) = m ((c.tc : Thread Cert.FfnGradIdeal.nD Cert.FfnGradIdeal.τ).loc Cert.FfnGradIdeal.main_arg2)
      ∧ r.2.mem ((c.tc : Thread Cert.FfnGradIdeal.nD Cert.FfnGradIdeal.τ).loc Cert.FfnGradIdeal.main_arg3) = m ((c.tc : Thread Cert.FfnGradIdeal.nD Cert.FfnGradIdeal.τ).loc Cert.FfnGradIdeal.main_arg3)
      ∧ r.2.mem ((c.tc : Thread Cert.FfnGradIdeal.nD Cert.FfnGradIdeal.τ).loc Cert.FfnGradIdeal.main_arg4) = m ((c.tc : Thread Cert.FfnGradIdeal.nD Cert.FfnGradIdeal.τ).loc Cert.FfnGradIdeal.main_arg4)
      ∧ r.2.mem ((c.tc : Thread Cert.FfnGradIdeal.nD Cert.FfnGradIdeal.τ).loc Cert.FfnGradIdeal.main_arg5) = m ((c.tc : Thread Cert.FfnGradIdeal.nD Cert.FfnGradIdeal.τ).loc Cert.FfnGradIdeal.main_arg5))
      ∧ r.2.sem = fun _ => 0)

def quiescent_FfnGradIdeal_pre_finite_ffn [hFfnGradIdeal : Cert.FfnGradIdeal.Facts] [hPre_finite_ffn : Cert.Pre_finite_ffn.Facts] : Prop :=
  ∀ (m : (ℓ : Loc Cert.FfnGradIdeal.nD Cert.FfnGradIdeal.τ Cert.FfnGradIdeal.sig) → Buf (Elt Ideal) ℓ) (g : Dev Cert.FfnGradIdeal.nD → PrngReg), Pre_FfnGradIdeal_finite_ffn m →
    θ_run (Cert.FfnGradIdeal.defs (F := Ideal)) (onTc (τ := Cert.FfnGradIdeal.τ) (Cert.FfnGradIdeal.main (F := Ideal))) ⟨m, fun _ => 0, g⟩ (fun r => (∀ c : Dev Cert.FfnGradIdeal.nD,
      r.2.mem ((c.tc : Thread Cert.FfnGradIdeal.nD Cert.FfnGradIdeal.τ).loc Cert.FfnGradIdeal.main_arg0) = m ((c.tc : Thread Cert.FfnGradIdeal.nD Cert.FfnGradIdeal.τ).loc Cert.FfnGradIdeal.main_arg0)
      ∧ r.2.mem ((c.tc : Thread Cert.FfnGradIdeal.nD Cert.FfnGradIdeal.τ).loc Cert.FfnGradIdeal.main_arg1) = m ((c.tc : Thread Cert.FfnGradIdeal.nD Cert.FfnGradIdeal.τ).loc Cert.FfnGradIdeal.main_arg1)
      ∧ r.2.mem ((c.tc : Thread Cert.FfnGradIdeal.nD Cert.FfnGradIdeal.τ).loc Cert.FfnGradIdeal.main_arg2) = m ((c.tc : Thread Cert.FfnGradIdeal.nD Cert.FfnGradIdeal.τ).loc Cert.FfnGradIdeal.main_arg2)
      ∧ r.2.mem ((c.tc : Thread Cert.FfnGradIdeal.nD Cert.FfnGradIdeal.τ).loc Cert.FfnGradIdeal.main_arg3) = m ((c.tc : Thread Cert.FfnGradIdeal.nD Cert.FfnGradIdeal.τ).loc Cert.FfnGradIdeal.main_arg3)
      ∧ r.2.mem ((c.tc : Thread Cert.FfnGradIdeal.nD Cert.FfnGradIdeal.τ).loc Cert.FfnGradIdeal.main_arg4) = m ((c.tc : Thread Cert.FfnGradIdeal.nD Cert.FfnGradIdeal.τ).loc Cert.FfnGradIdeal.main_arg4)
      ∧ r.2.mem ((c.tc : Thread Cert.FfnGradIdeal.nD Cert.FfnGradIdeal.τ).loc Cert.FfnGradIdeal.main_arg5) = m ((c.tc : Thread Cert.FfnGradIdeal.nD Cert.FfnGradIdeal.τ).loc Cert.FfnGradIdeal.main_arg5))
      ∧ r.2.sem = fun _ => 0)

def quiescent_AttBwd [hAttBwd : Cert.AttBwd.Facts] : Prop :=
  ∀ (m : (ℓ : Loc Cert.AttBwd.nD Cert.AttBwd.τ Cert.AttBwd.sig) → Buf (Elt Bits) ℓ) (g : Dev Cert.AttBwd.nD → PrngReg), Pre_AttBwd m →
    θ_run (Cert.AttBwd.defs (F := Bits)) (onTc (τ := Cert.AttBwd.τ) (Cert.AttBwd.main (F := Bits))) ⟨m, fun _ => 0, g⟩ (fun r => (∀ c : Dev Cert.AttBwd.nD,
      r.2.mem ((c.tc : Thread Cert.AttBwd.nD Cert.AttBwd.τ).loc Cert.AttBwd.main_arg0) = m ((c.tc : Thread Cert.AttBwd.nD Cert.AttBwd.τ).loc Cert.AttBwd.main_arg0)
      ∧ r.2.mem ((c.tc : Thread Cert.AttBwd.nD Cert.AttBwd.τ).loc Cert.AttBwd.main_arg1) = m ((c.tc : Thread Cert.AttBwd.nD Cert.AttBwd.τ).loc Cert.AttBwd.main_arg1)
      ∧ r.2.mem ((c.tc : Thread Cert.AttBwd.nD Cert.AttBwd.τ).loc Cert.AttBwd.main_arg2) = m ((c.tc : Thread Cert.AttBwd.nD Cert.AttBwd.τ).loc Cert.AttBwd.main_arg2))
      ∧ r.2.sem = fun _ => 0)

def quiescent_AttBwdIdeal [hAttBwdIdeal : Cert.AttBwdIdeal.Facts] : Prop :=
  ∀ (m : (ℓ : Loc Cert.AttBwdIdeal.nD Cert.AttBwdIdeal.τ Cert.AttBwdIdeal.sig) → Buf (Elt Ideal) ℓ) (g : Dev Cert.AttBwdIdeal.nD → PrngReg), Pre_AttBwdIdeal m →
    θ_run (Cert.AttBwdIdeal.defs (F := Ideal)) (onTc (τ := Cert.AttBwdIdeal.τ) (Cert.AttBwdIdeal.main (F := Ideal))) ⟨m, fun _ => 0, g⟩ (fun r => (∀ c : Dev Cert.AttBwdIdeal.nD,
      r.2.mem ((c.tc : Thread Cert.AttBwdIdeal.nD Cert.AttBwdIdeal.τ).loc Cert.AttBwdIdeal.main_arg0) = m ((c.tc : Thread Cert.AttBwdIdeal.nD Cert.AttBwdIdeal.τ).loc Cert.AttBwdIdeal.main_arg0)
      ∧ r.2.mem ((c.tc : Thread Cert.AttBwdIdeal.nD Cert.AttBwdIdeal.τ).loc Cert.AttBwdIdeal.main_arg1) = m ((c.tc : Thread Cert.AttBwdIdeal.nD Cert.AttBwdIdeal.τ).loc Cert.AttBwdIdeal.main_arg1)
      ∧ r.2.mem ((c.tc : Thread Cert.AttBwdIdeal.nD Cert.AttBwdIdeal.τ).loc Cert.AttBwdIdeal.main_arg2) = m ((c.tc : Thread Cert.AttBwdIdeal.nD Cert.AttBwdIdeal.τ).loc Cert.AttBwdIdeal.main_arg2))
      ∧ r.2.sem = fun _ => 0)

def quiescent_AttBwdIdeal_pre_finite_att [hAttBwdIdeal : Cert.AttBwdIdeal.Facts] [hPre_finite_att : Cert.Pre_finite_att.Facts] : Prop :=
  ∀ (m : (ℓ : Loc Cert.AttBwdIdeal.nD Cert.AttBwdIdeal.τ Cert.AttBwdIdeal.sig) → Buf (Elt Ideal) ℓ) (g : Dev Cert.AttBwdIdeal.nD → PrngReg), Pre_AttBwdIdeal_finite_att m →
    θ_run (Cert.AttBwdIdeal.defs (F := Ideal)) (onTc (τ := Cert.AttBwdIdeal.τ) (Cert.AttBwdIdeal.main (F := Ideal))) ⟨m, fun _ => 0, g⟩ (fun r => (∀ c : Dev Cert.AttBwdIdeal.nD,
      r.2.mem ((c.tc : Thread Cert.AttBwdIdeal.nD Cert.AttBwdIdeal.τ).loc Cert.AttBwdIdeal.main_arg0) = m ((c.tc : Thread Cert.AttBwdIdeal.nD Cert.AttBwdIdeal.τ).loc Cert.AttBwdIdeal.main_arg0)
      ∧ r.2.mem ((c.tc : Thread Cert.AttBwdIdeal.nD Cert.AttBwdIdeal.τ).loc Cert.AttBwdIdeal.main_arg1) = m ((c.tc : Thread Cert.AttBwdIdeal.nD Cert.AttBwdIdeal.τ).loc Cert.AttBwdIdeal.main_arg1)
      ∧ r.2.mem ((c.tc : Thread Cert.AttBwdIdeal.nD Cert.AttBwdIdeal.τ).loc Cert.AttBwdIdeal.main_arg2) = m ((c.tc : Thread Cert.AttBwdIdeal.nD Cert.AttBwdIdeal.τ).loc Cert.AttBwdIdeal.main_arg2))
      ∧ r.2.sem = fun _ => 0)

def quiescent_AttGradIdeal [hAttGradIdeal : Cert.AttGradIdeal.Facts] : Prop :=
  ∀ (m : (ℓ : Loc Cert.AttGradIdeal.nD Cert.AttGradIdeal.τ Cert.AttGradIdeal.sig) → Buf (Elt Ideal) ℓ) (g : Dev Cert.AttGradIdeal.nD → PrngReg), Pre_AttGradIdeal m →
    θ_run (Cert.AttGradIdeal.defs (F := Ideal)) (onTc (τ := Cert.AttGradIdeal.τ) (Cert.AttGradIdeal.main (F := Ideal))) ⟨m, fun _ => 0, g⟩ (fun r => (∀ c : Dev Cert.AttGradIdeal.nD,
      r.2.mem ((c.tc : Thread Cert.AttGradIdeal.nD Cert.AttGradIdeal.τ).loc Cert.AttGradIdeal.main_arg0) = m ((c.tc : Thread Cert.AttGradIdeal.nD Cert.AttGradIdeal.τ).loc Cert.AttGradIdeal.main_arg0)
      ∧ r.2.mem ((c.tc : Thread Cert.AttGradIdeal.nD Cert.AttGradIdeal.τ).loc Cert.AttGradIdeal.main_arg1) = m ((c.tc : Thread Cert.AttGradIdeal.nD Cert.AttGradIdeal.τ).loc Cert.AttGradIdeal.main_arg1)
      ∧ r.2.mem ((c.tc : Thread Cert.AttGradIdeal.nD Cert.AttGradIdeal.τ).loc Cert.AttGradIdeal.main_arg2) = m ((c.tc : Thread Cert.AttGradIdeal.nD Cert.AttGradIdeal.τ).loc Cert.AttGradIdeal.main_arg2))
      ∧ r.2.sem = fun _ => 0)

def quiescent_AttGradIdeal_pre_finite_att [hAttGradIdeal : Cert.AttGradIdeal.Facts] [hPre_finite_att : Cert.Pre_finite_att.Facts] : Prop :=
  ∀ (m : (ℓ : Loc Cert.AttGradIdeal.nD Cert.AttGradIdeal.τ Cert.AttGradIdeal.sig) → Buf (Elt Ideal) ℓ) (g : Dev Cert.AttGradIdeal.nD → PrngReg), Pre_AttGradIdeal_finite_att m →
    θ_run (Cert.AttGradIdeal.defs (F := Ideal)) (onTc (τ := Cert.AttGradIdeal.τ) (Cert.AttGradIdeal.main (F := Ideal))) ⟨m, fun _ => 0, g⟩ (fun r => (∀ c : Dev Cert.AttGradIdeal.nD,
      r.2.mem ((c.tc : Thread Cert.AttGradIdeal.nD Cert.AttGradIdeal.τ).loc Cert.AttGradIdeal.main_arg0) = m ((c.tc : Thread Cert.AttGradIdeal.nD Cert.AttGradIdeal.τ).loc Cert.AttGradIdeal.main_arg0)
      ∧ r.2.mem ((c.tc : Thread Cert.AttGradIdeal.nD Cert.AttGradIdeal.τ).loc Cert.AttGradIdeal.main_arg1) = m ((c.tc : Thread Cert.AttGradIdeal.nD Cert.AttGradIdeal.τ).loc Cert.AttGradIdeal.main_arg1)
      ∧ r.2.mem ((c.tc : Thread Cert.AttGradIdeal.nD Cert.AttGradIdeal.τ).loc Cert.AttGradIdeal.main_arg2) = m ((c.tc : Thread Cert.AttGradIdeal.nD Cert.AttGradIdeal.τ).loc Cert.AttGradIdeal.main_arg2))
      ∧ r.2.sem = fun _ => 0)

def quiescent_AttFwd [hAttFwd : Cert.AttFwd.Facts] : Prop :=
  ∀ (m : (ℓ : Loc Cert.AttFwd.nD Cert.AttFwd.τ Cert.AttFwd.sig) → Buf (Elt Bits) ℓ) (g : Dev Cert.AttFwd.nD → PrngReg), Pre_AttFwd m →
    θ_run (Cert.AttFwd.defs (F := Bits)) (onTc (τ := Cert.AttFwd.τ) (Cert.AttFwd.main (F := Bits))) ⟨m, fun _ => 0, g⟩ (fun r => (∀ c : Dev Cert.AttFwd.nD,
      r.2.mem ((c.tc : Thread Cert.AttFwd.nD Cert.AttFwd.τ).loc Cert.AttFwd.main_arg0) = m ((c.tc : Thread Cert.AttFwd.nD Cert.AttFwd.τ).loc Cert.AttFwd.main_arg0)
      ∧ r.2.mem ((c.tc : Thread Cert.AttFwd.nD Cert.AttFwd.τ).loc Cert.AttFwd.main_arg1) = m ((c.tc : Thread Cert.AttFwd.nD Cert.AttFwd.τ).loc Cert.AttFwd.main_arg1))
      ∧ r.2.sem = fun _ => 0)

def quiescent_AttFwdIdeal [hAttFwdIdeal : Cert.AttFwdIdeal.Facts] : Prop :=
  ∀ (m : (ℓ : Loc Cert.AttFwdIdeal.nD Cert.AttFwdIdeal.τ Cert.AttFwdIdeal.sig) → Buf (Elt Ideal) ℓ) (g : Dev Cert.AttFwdIdeal.nD → PrngReg), Pre_AttFwdIdeal m →
    θ_run (Cert.AttFwdIdeal.defs (F := Ideal)) (onTc (τ := Cert.AttFwdIdeal.τ) (Cert.AttFwdIdeal.main (F := Ideal))) ⟨m, fun _ => 0, g⟩ (fun r => (∀ c : Dev Cert.AttFwdIdeal.nD,
      r.2.mem ((c.tc : Thread Cert.AttFwdIdeal.nD Cert.AttFwdIdeal.τ).loc Cert.AttFwdIdeal.main_arg0) = m ((c.tc : Thread Cert.AttFwdIdeal.nD Cert.AttFwdIdeal.τ).loc Cert.AttFwdIdeal.main_arg0)
      ∧ r.2.mem ((c.tc : Thread Cert.AttFwdIdeal.nD Cert.AttFwdIdeal.τ).loc Cert.AttFwdIdeal.main_arg1) = m ((c.tc : Thread Cert.AttFwdIdeal.nD Cert.AttFwdIdeal.τ).loc Cert.AttFwdIdeal.main_arg1))
      ∧ r.2.sem = fun _ => 0)

def quiescent_AttFwdIdeal_pre_finite_out [hAttFwdIdeal : Cert.AttFwdIdeal.Facts] [hPre_finite_out : Cert.Pre_finite_out.Facts] : Prop :=
  ∀ (m : (ℓ : Loc Cert.AttFwdIdeal.nD Cert.AttFwdIdeal.τ Cert.AttFwdIdeal.sig) → Buf (Elt Ideal) ℓ) (g : Dev Cert.AttFwdIdeal.nD → PrngReg), Pre_AttFwdIdeal_finite_out m →
    θ_run (Cert.AttFwdIdeal.defs (F := Ideal)) (onTc (τ := Cert.AttFwdIdeal.τ) (Cert.AttFwdIdeal.main (F := Ideal))) ⟨m, fun _ => 0, g⟩ (fun r => (∀ c : Dev Cert.AttFwdIdeal.nD,
      r.2.mem ((c.tc : Thread Cert.AttFwdIdeal.nD Cert.AttFwdIdeal.τ).loc Cert.AttFwdIdeal.main_arg0) = m ((c.tc : Thread Cert.AttFwdIdeal.nD Cert.AttFwdIdeal.τ).loc Cert.AttFwdIdeal.main_arg0)
      ∧ r.2.mem ((c.tc : Thread Cert.AttFwdIdeal.nD Cert.AttFwdIdeal.τ).loc Cert.AttFwdIdeal.main_arg1) = m ((c.tc : Thread Cert.AttFwdIdeal.nD Cert.AttFwdIdeal.τ).loc Cert.AttFwdIdeal.main_arg1))
      ∧ r.2.sem = fun _ => 0)

def quiescent_AttOutIdeal [hAttOutIdeal : Cert.AttOutIdeal.Facts] : Prop :=
  ∀ (m : (ℓ : Loc Cert.AttOutIdeal.nD Cert.AttOutIdeal.τ Cert.AttOutIdeal.sig) → Buf (Elt Ideal) ℓ) (g : Dev Cert.AttOutIdeal.nD → PrngReg), Pre_AttOutIdeal m →
    θ_run (Cert.AttOutIdeal.defs (F := Ideal)) (onTc (τ := Cert.AttOutIdeal.τ) (Cert.AttOutIdeal.main (F := Ideal))) ⟨m, fun _ => 0, g⟩ (fun r => (∀ c : Dev Cert.AttOutIdeal.nD,
      r.2.mem ((c.tc : Thread Cert.AttOutIdeal.nD Cert.AttOutIdeal.τ).loc Cert.AttOutIdeal.main_arg0) = m ((c.tc : Thread Cert.AttOutIdeal.nD Cert.AttOutIdeal.τ).loc Cert.AttOutIdeal.main_arg0)
      ∧ r.2.mem ((c.tc : Thread Cert.AttOutIdeal.nD Cert.AttOutIdeal.τ).loc Cert.AttOutIdeal.main_arg1) = m ((c.tc : Thread Cert.AttOutIdeal.nD Cert.AttOutIdeal.τ).loc Cert.AttOutIdeal.main_arg1))
      ∧ r.2.sem = fun _ => 0)

def quiescent_AttOutIdeal_pre_finite_out [hAttOutIdeal : Cert.AttOutIdeal.Facts] [hPre_finite_out : Cert.Pre_finite_out.Facts] : Prop :=
  ∀ (m : (ℓ : Loc Cert.AttOutIdeal.nD Cert.AttOutIdeal.τ Cert.AttOutIdeal.sig) → Buf (Elt Ideal) ℓ) (g : Dev Cert.AttOutIdeal.nD → PrngReg), Pre_AttOutIdeal_finite_out m →
    θ_run (Cert.AttOutIdeal.defs (F := Ideal)) (onTc (τ := Cert.AttOutIdeal.τ) (Cert.AttOutIdeal.main (F := Ideal))) ⟨m, fun _ => 0, g⟩ (fun r => (∀ c : Dev Cert.AttOutIdeal.nD,
      r.2.mem ((c.tc : Thread Cert.AttOutIdeal.nD Cert.AttOutIdeal.τ).loc Cert.AttOutIdeal.main_arg0) = m ((c.tc : Thread Cert.AttOutIdeal.nD Cert.AttOutIdeal.τ).loc Cert.AttOutIdeal.main_arg0)
      ∧ r.2.mem ((c.tc : Thread Cert.AttOutIdeal.nD Cert.AttOutIdeal.τ).loc Cert.AttOutIdeal.main_arg1) = m ((c.tc : Thread Cert.AttOutIdeal.nD Cert.AttOutIdeal.τ).loc Cert.AttOutIdeal.main_arg1))
      ∧ r.2.sem = fun _ => 0)

def quiescent_MixFwd [hMixFwd : Cert.MixFwd.Facts] : Prop :=
  ∀ (m : (ℓ : Loc Cert.MixFwd.nD Cert.MixFwd.τ Cert.MixFwd.sig) → Buf (Elt Bits) ℓ) (g : Dev Cert.MixFwd.nD → PrngReg), Pre_MixFwd m →
    θ_run (Cert.MixFwd.defs (F := Bits)) (onTc (τ := Cert.MixFwd.τ) (Cert.MixFwd.main (F := Bits))) ⟨m, fun _ => 0, g⟩ (fun r => (∀ c : Dev Cert.MixFwd.nD,
      r.2.mem ((c.tc : Thread Cert.MixFwd.nD Cert.MixFwd.τ).loc Cert.MixFwd.main_arg0) = m ((c.tc : Thread Cert.MixFwd.nD Cert.MixFwd.τ).loc Cert.MixFwd.main_arg0)
      ∧ r.2.mem ((c.tc : Thread Cert.MixFwd.nD Cert.MixFwd.τ).loc Cert.MixFwd.main_arg1) = m ((c.tc : Thread Cert.MixFwd.nD Cert.MixFwd.τ).loc Cert.MixFwd.main_arg1)
      ∧ r.2.mem ((c.tc : Thread Cert.MixFwd.nD Cert.MixFwd.τ).loc Cert.MixFwd.main_arg2) = m ((c.tc : Thread Cert.MixFwd.nD Cert.MixFwd.τ).loc Cert.MixFwd.main_arg2)
      ∧ r.2.mem ((c.tc : Thread Cert.MixFwd.nD Cert.MixFwd.τ).loc Cert.MixFwd.main_arg3) = m ((c.tc : Thread Cert.MixFwd.nD Cert.MixFwd.τ).loc Cert.MixFwd.main_arg3)
      ∧ r.2.mem ((c.tc : Thread Cert.MixFwd.nD Cert.MixFwd.τ).loc Cert.MixFwd.main_arg4) = m ((c.tc : Thread Cert.MixFwd.nD Cert.MixFwd.τ).loc Cert.MixFwd.main_arg4)
      ∧ r.2.mem ((c.tc : Thread Cert.MixFwd.nD Cert.MixFwd.τ).loc Cert.MixFwd.main_arg5) = m ((c.tc : Thread Cert.MixFwd.nD Cert.MixFwd.τ).loc Cert.MixFwd.main_arg5)
      ∧ r.2.mem ((c.tc : Thread Cert.MixFwd.nD Cert.MixFwd.τ).loc Cert.MixFwd.main_arg6) = m ((c.tc : Thread Cert.MixFwd.nD Cert.MixFwd.τ).loc Cert.MixFwd.main_arg6))
      ∧ r.2.sem = fun _ => 0)

def quiescent_MixFwdIdeal [hMixFwdIdeal : Cert.MixFwdIdeal.Facts] : Prop :=
  ∀ (m : (ℓ : Loc Cert.MixFwdIdeal.nD Cert.MixFwdIdeal.τ Cert.MixFwdIdeal.sig) → Buf (Elt Ideal) ℓ) (g : Dev Cert.MixFwdIdeal.nD → PrngReg), Pre_MixFwdIdeal m →
    θ_run (Cert.MixFwdIdeal.defs (F := Ideal)) (onTc (τ := Cert.MixFwdIdeal.τ) (Cert.MixFwdIdeal.main (F := Ideal))) ⟨m, fun _ => 0, g⟩ (fun r => (∀ c : Dev Cert.MixFwdIdeal.nD,
      r.2.mem ((c.tc : Thread Cert.MixFwdIdeal.nD Cert.MixFwdIdeal.τ).loc Cert.MixFwdIdeal.main_arg0) = m ((c.tc : Thread Cert.MixFwdIdeal.nD Cert.MixFwdIdeal.τ).loc Cert.MixFwdIdeal.main_arg0)
      ∧ r.2.mem ((c.tc : Thread Cert.MixFwdIdeal.nD Cert.MixFwdIdeal.τ).loc Cert.MixFwdIdeal.main_arg1) = m ((c.tc : Thread Cert.MixFwdIdeal.nD Cert.MixFwdIdeal.τ).loc Cert.MixFwdIdeal.main_arg1)
      ∧ r.2.mem ((c.tc : Thread Cert.MixFwdIdeal.nD Cert.MixFwdIdeal.τ).loc Cert.MixFwdIdeal.main_arg2) = m ((c.tc : Thread Cert.MixFwdIdeal.nD Cert.MixFwdIdeal.τ).loc Cert.MixFwdIdeal.main_arg2)
      ∧ r.2.mem ((c.tc : Thread Cert.MixFwdIdeal.nD Cert.MixFwdIdeal.τ).loc Cert.MixFwdIdeal.main_arg3) = m ((c.tc : Thread Cert.MixFwdIdeal.nD Cert.MixFwdIdeal.τ).loc Cert.MixFwdIdeal.main_arg3)
      ∧ r.2.mem ((c.tc : Thread Cert.MixFwdIdeal.nD Cert.MixFwdIdeal.τ).loc Cert.MixFwdIdeal.main_arg4) = m ((c.tc : Thread Cert.MixFwdIdeal.nD Cert.MixFwdIdeal.τ).loc Cert.MixFwdIdeal.main_arg4)
      ∧ r.2.mem ((c.tc : Thread Cert.MixFwdIdeal.nD Cert.MixFwdIdeal.τ).loc Cert.MixFwdIdeal.main_arg5) = m ((c.tc : Thread Cert.MixFwdIdeal.nD Cert.MixFwdIdeal.τ).loc Cert.MixFwdIdeal.main_arg5)
      ∧ r.2.mem ((c.tc : Thread Cert.MixFwdIdeal.nD Cert.MixFwdIdeal.τ).loc Cert.MixFwdIdeal.main_arg6) = m ((c.tc : Thread Cert.MixFwdIdeal.nD Cert.MixFwdIdeal.τ).loc Cert.MixFwdIdeal.main_arg6))
      ∧ r.2.sem = fun _ => 0)

def quiescent_MixOutIdeal [hMixOutIdeal : Cert.MixOutIdeal.Facts] : Prop :=
  ∀ (m : (ℓ : Loc Cert.MixOutIdeal.nD Cert.MixOutIdeal.τ Cert.MixOutIdeal.sig) → Buf (Elt Ideal) ℓ) (g : Dev Cert.MixOutIdeal.nD → PrngReg), Pre_MixOutIdeal m →
    θ_run (Cert.MixOutIdeal.defs (F := Ideal)) (onTc (τ := Cert.MixOutIdeal.τ) (Cert.MixOutIdeal.main (F := Ideal))) ⟨m, fun _ => 0, g⟩ (fun r => (∀ c : Dev Cert.MixOutIdeal.nD,
      r.2.mem ((c.tc : Thread Cert.MixOutIdeal.nD Cert.MixOutIdeal.τ).loc Cert.MixOutIdeal.main_arg0) = m ((c.tc : Thread Cert.MixOutIdeal.nD Cert.MixOutIdeal.τ).loc Cert.MixOutIdeal.main_arg0)
      ∧ r.2.mem ((c.tc : Thread Cert.MixOutIdeal.nD Cert.MixOutIdeal.τ).loc Cert.MixOutIdeal.main_arg1) = m ((c.tc : Thread Cert.MixOutIdeal.nD Cert.MixOutIdeal.τ).loc Cert.MixOutIdeal.main_arg1)
      ∧ r.2.mem ((c.tc : Thread Cert.MixOutIdeal.nD Cert.MixOutIdeal.τ).loc Cert.MixOutIdeal.main_arg2) = m ((c.tc : Thread Cert.MixOutIdeal.nD Cert.MixOutIdeal.τ).loc Cert.MixOutIdeal.main_arg2)
      ∧ r.2.mem ((c.tc : Thread Cert.MixOutIdeal.nD Cert.MixOutIdeal.τ).loc Cert.MixOutIdeal.main_arg3) = m ((c.tc : Thread Cert.MixOutIdeal.nD Cert.MixOutIdeal.τ).loc Cert.MixOutIdeal.main_arg3)
      ∧ r.2.mem ((c.tc : Thread Cert.MixOutIdeal.nD Cert.MixOutIdeal.τ).loc Cert.MixOutIdeal.main_arg4) = m ((c.tc : Thread Cert.MixOutIdeal.nD Cert.MixOutIdeal.τ).loc Cert.MixOutIdeal.main_arg4)
      ∧ r.2.mem ((c.tc : Thread Cert.MixOutIdeal.nD Cert.MixOutIdeal.τ).loc Cert.MixOutIdeal.main_arg5) = m ((c.tc : Thread Cert.MixOutIdeal.nD Cert.MixOutIdeal.τ).loc Cert.MixOutIdeal.main_arg5)
      ∧ r.2.mem ((c.tc : Thread Cert.MixOutIdeal.nD Cert.MixOutIdeal.τ).loc Cert.MixOutIdeal.main_arg6) = m ((c.tc : Thread Cert.MixOutIdeal.nD Cert.MixOutIdeal.τ).loc Cert.MixOutIdeal.main_arg6))
      ∧ r.2.sem = fun _ => 0)

def quiescent_ProjFwd [hProjFwd : Cert.ProjFwd.Facts] : Prop :=
  ∀ (m : (ℓ : Loc Cert.ProjFwd.nD Cert.ProjFwd.τ Cert.ProjFwd.sig) → Buf (Elt Bits) ℓ) (g : Dev Cert.ProjFwd.nD → PrngReg), Pre_ProjFwd m →
    θ_run (Cert.ProjFwd.defs (F := Bits)) (onTc (τ := Cert.ProjFwd.τ) (Cert.ProjFwd.main (F := Bits))) ⟨m, fun _ => 0, g⟩ (fun r => (∀ c : Dev Cert.ProjFwd.nD,
      r.2.mem ((c.tc : Thread Cert.ProjFwd.nD Cert.ProjFwd.τ).loc Cert.ProjFwd.main_arg0) = m ((c.tc : Thread Cert.ProjFwd.nD Cert.ProjFwd.τ).loc Cert.ProjFwd.main_arg0)
      ∧ r.2.mem ((c.tc : Thread Cert.ProjFwd.nD Cert.ProjFwd.τ).loc Cert.ProjFwd.main_arg1) = m ((c.tc : Thread Cert.ProjFwd.nD Cert.ProjFwd.τ).loc Cert.ProjFwd.main_arg1)
      ∧ r.2.mem ((c.tc : Thread Cert.ProjFwd.nD Cert.ProjFwd.τ).loc Cert.ProjFwd.main_arg2) = m ((c.tc : Thread Cert.ProjFwd.nD Cert.ProjFwd.τ).loc Cert.ProjFwd.main_arg2)
      ∧ r.2.mem ((c.tc : Thread Cert.ProjFwd.nD Cert.ProjFwd.τ).loc Cert.ProjFwd.main_arg3) = m ((c.tc : Thread Cert.ProjFwd.nD Cert.ProjFwd.τ).loc Cert.ProjFwd.main_arg3))
      ∧ r.2.sem = fun _ => 0)

def quiescent_ProjFwdIdeal [hProjFwdIdeal : Cert.ProjFwdIdeal.Facts] : Prop :=
  ∀ (m : (ℓ : Loc Cert.ProjFwdIdeal.nD Cert.ProjFwdIdeal.τ Cert.ProjFwdIdeal.sig) → Buf (Elt Ideal) ℓ) (g : Dev Cert.ProjFwdIdeal.nD → PrngReg), Pre_ProjFwdIdeal m →
    θ_run (Cert.ProjFwdIdeal.defs (F := Ideal)) (onTc (τ := Cert.ProjFwdIdeal.τ) (Cert.ProjFwdIdeal.main (F := Ideal))) ⟨m, fun _ => 0, g⟩ (fun r => (∀ c : Dev Cert.ProjFwdIdeal.nD,
      r.2.mem ((c.tc : Thread Cert.ProjFwdIdeal.nD Cert.ProjFwdIdeal.τ).loc Cert.ProjFwdIdeal.main_arg0) = m ((c.tc : Thread Cert.ProjFwdIdeal.nD Cert.ProjFwdIdeal.τ).loc Cert.ProjFwdIdeal.main_arg0)
      ∧ r.2.mem ((c.tc : Thread Cert.ProjFwdIdeal.nD Cert.ProjFwdIdeal.τ).loc Cert.ProjFwdIdeal.main_arg1) = m ((c.tc : Thread Cert.ProjFwdIdeal.nD Cert.ProjFwdIdeal.τ).loc Cert.ProjFwdIdeal.main_arg1)
      ∧ r.2.mem ((c.tc : Thread Cert.ProjFwdIdeal.nD Cert.ProjFwdIdeal.τ).loc Cert.ProjFwdIdeal.main_arg2) = m ((c.tc : Thread Cert.ProjFwdIdeal.nD Cert.ProjFwdIdeal.τ).loc Cert.ProjFwdIdeal.main_arg2)
      ∧ r.2.mem ((c.tc : Thread Cert.ProjFwdIdeal.nD Cert.ProjFwdIdeal.τ).loc Cert.ProjFwdIdeal.main_arg3) = m ((c.tc : Thread Cert.ProjFwdIdeal.nD Cert.ProjFwdIdeal.τ).loc Cert.ProjFwdIdeal.main_arg3))
      ∧ r.2.sem = fun _ => 0)

def quiescent_ProjOutIdeal [hProjOutIdeal : Cert.ProjOutIdeal.Facts] : Prop :=
  ∀ (m : (ℓ : Loc Cert.ProjOutIdeal.nD Cert.ProjOutIdeal.τ Cert.ProjOutIdeal.sig) → Buf (Elt Ideal) ℓ) (g : Dev Cert.ProjOutIdeal.nD → PrngReg), Pre_ProjOutIdeal m →
    θ_run (Cert.ProjOutIdeal.defs (F := Ideal)) (onTc (τ := Cert.ProjOutIdeal.τ) (Cert.ProjOutIdeal.main (F := Ideal))) ⟨m, fun _ => 0, g⟩ (fun r => (∀ c : Dev Cert.ProjOutIdeal.nD,
      r.2.mem ((c.tc : Thread Cert.ProjOutIdeal.nD Cert.ProjOutIdeal.τ).loc Cert.ProjOutIdeal.main_arg0) = m ((c.tc : Thread Cert.ProjOutIdeal.nD Cert.ProjOutIdeal.τ).loc Cert.ProjOutIdeal.main_arg0)
      ∧ r.2.mem ((c.tc : Thread Cert.ProjOutIdeal.nD Cert.ProjOutIdeal.τ).loc Cert.ProjOutIdeal.main_arg1) = m ((c.tc : Thread Cert.ProjOutIdeal.nD Cert.ProjOutIdeal.τ).loc Cert.ProjOutIdeal.main_arg1)
      ∧ r.2.mem ((c.tc : Thread Cert.ProjOutIdeal.nD Cert.ProjOutIdeal.τ).loc Cert.ProjOutIdeal.main_arg2) = m ((c.tc : Thread Cert.ProjOutIdeal.nD Cert.ProjOutIdeal.τ).loc Cert.ProjOutIdeal.main_arg2)
      ∧ r.2.mem ((c.tc : Thread Cert.ProjOutIdeal.nD Cert.ProjOutIdeal.τ).loc Cert.ProjOutIdeal.main_arg3) = m ((c.tc : Thread Cert.ProjOutIdeal.nD Cert.ProjOutIdeal.τ).loc Cert.ProjOutIdeal.main_arg3))
      ∧ r.2.sem = fun _ => 0)

def quiescent_RecFwd [hRecFwd : Cert.RecFwd.Facts] : Prop :=
  ∀ (m : (ℓ : Loc Cert.RecFwd.nD Cert.RecFwd.τ Cert.RecFwd.sig) → Buf (Elt Bits) ℓ) (g : Dev Cert.RecFwd.nD → PrngReg), Pre_RecFwd m →
    θ_run (Cert.RecFwd.defs (F := Bits)) (onTc (τ := Cert.RecFwd.τ) (Cert.RecFwd.main (F := Bits))) ⟨m, fun _ => 0, g⟩ (fun r => (∀ c : Dev Cert.RecFwd.nD,
      r.2.mem ((c.tc : Thread Cert.RecFwd.nD Cert.RecFwd.τ).loc Cert.RecFwd.main_arg0) = m ((c.tc : Thread Cert.RecFwd.nD Cert.RecFwd.τ).loc Cert.RecFwd.main_arg0)
      ∧ r.2.mem ((c.tc : Thread Cert.RecFwd.nD Cert.RecFwd.τ).loc Cert.RecFwd.main_arg1) = m ((c.tc : Thread Cert.RecFwd.nD Cert.RecFwd.τ).loc Cert.RecFwd.main_arg1)
      ∧ r.2.mem ((c.tc : Thread Cert.RecFwd.nD Cert.RecFwd.τ).loc Cert.RecFwd.main_arg2) = m ((c.tc : Thread Cert.RecFwd.nD Cert.RecFwd.τ).loc Cert.RecFwd.main_arg2)
      ∧ r.2.mem ((c.tc : Thread Cert.RecFwd.nD Cert.RecFwd.τ).loc Cert.RecFwd.main_arg3) = m ((c.tc : Thread Cert.RecFwd.nD Cert.RecFwd.τ).loc Cert.RecFwd.main_arg3)
      ∧ r.2.mem ((c.tc : Thread Cert.RecFwd.nD Cert.RecFwd.τ).loc Cert.RecFwd.main_arg4) = m ((c.tc : Thread Cert.RecFwd.nD Cert.RecFwd.τ).loc Cert.RecFwd.main_arg4)
      ∧ r.2.mem ((c.tc : Thread Cert.RecFwd.nD Cert.RecFwd.τ).loc Cert.RecFwd.main_arg5) = m ((c.tc : Thread Cert.RecFwd.nD Cert.RecFwd.τ).loc Cert.RecFwd.main_arg5)
      ∧ r.2.mem ((c.tc : Thread Cert.RecFwd.nD Cert.RecFwd.τ).loc Cert.RecFwd.main_arg6) = m ((c.tc : Thread Cert.RecFwd.nD Cert.RecFwd.τ).loc Cert.RecFwd.main_arg6)
      ∧ r.2.mem ((c.tc : Thread Cert.RecFwd.nD Cert.RecFwd.τ).loc Cert.RecFwd.main_arg7) = m ((c.tc : Thread Cert.RecFwd.nD Cert.RecFwd.τ).loc Cert.RecFwd.main_arg7))
      ∧ r.2.sem = fun _ => 0)

def quiescent_RecFwdIdeal [hRecFwdIdeal : Cert.RecFwdIdeal.Facts] : Prop :=
  ∀ (m : (ℓ : Loc Cert.RecFwdIdeal.nD Cert.RecFwdIdeal.τ Cert.RecFwdIdeal.sig) → Buf (Elt Ideal) ℓ) (g : Dev Cert.RecFwdIdeal.nD → PrngReg), Pre_RecFwdIdeal m →
    θ_run (Cert.RecFwdIdeal.defs (F := Ideal)) (onTc (τ := Cert.RecFwdIdeal.τ) (Cert.RecFwdIdeal.main (F := Ideal))) ⟨m, fun _ => 0, g⟩ (fun r => (∀ c : Dev Cert.RecFwdIdeal.nD,
      r.2.mem ((c.tc : Thread Cert.RecFwdIdeal.nD Cert.RecFwdIdeal.τ).loc Cert.RecFwdIdeal.main_arg0) = m ((c.tc : Thread Cert.RecFwdIdeal.nD Cert.RecFwdIdeal.τ).loc Cert.RecFwdIdeal.main_arg0)
      ∧ r.2.mem ((c.tc : Thread Cert.RecFwdIdeal.nD Cert.RecFwdIdeal.τ).loc Cert.RecFwdIdeal.main_arg1) = m ((c.tc : Thread Cert.RecFwdIdeal.nD Cert.RecFwdIdeal.τ).loc Cert.RecFwdIdeal.main_arg1)
      ∧ r.2.mem ((c.tc : Thread Cert.RecFwdIdeal.nD Cert.RecFwdIdeal.τ).loc Cert.RecFwdIdeal.main_arg2) = m ((c.tc : Thread Cert.RecFwdIdeal.nD Cert.RecFwdIdeal.τ).loc Cert.RecFwdIdeal.main_arg2)
      ∧ r.2.mem ((c.tc : Thread Cert.RecFwdIdeal.nD Cert.RecFwdIdeal.τ).loc Cert.RecFwdIdeal.main_arg3) = m ((c.tc : Thread Cert.RecFwdIdeal.nD Cert.RecFwdIdeal.τ).loc Cert.RecFwdIdeal.main_arg3)
      ∧ r.2.mem ((c.tc : Thread Cert.RecFwdIdeal.nD Cert.RecFwdIdeal.τ).loc Cert.RecFwdIdeal.main_arg4) = m ((c.tc : Thread Cert.RecFwdIdeal.nD Cert.RecFwdIdeal.τ).loc Cert.RecFwdIdeal.main_arg4)
      ∧ r.2.mem ((c.tc : Thread Cert.RecFwdIdeal.nD Cert.RecFwdIdeal.τ).loc Cert.RecFwdIdeal.main_arg5) = m ((c.tc : Thread Cert.RecFwdIdeal.nD Cert.RecFwdIdeal.τ).loc Cert.RecFwdIdeal.main_arg5)
      ∧ r.2.mem ((c.tc : Thread Cert.RecFwdIdeal.nD Cert.RecFwdIdeal.τ).loc Cert.RecFwdIdeal.main_arg6) = m ((c.tc : Thread Cert.RecFwdIdeal.nD Cert.RecFwdIdeal.τ).loc Cert.RecFwdIdeal.main_arg6)
      ∧ r.2.mem ((c.tc : Thread Cert.RecFwdIdeal.nD Cert.RecFwdIdeal.τ).loc Cert.RecFwdIdeal.main_arg7) = m ((c.tc : Thread Cert.RecFwdIdeal.nD Cert.RecFwdIdeal.τ).loc Cert.RecFwdIdeal.main_arg7))
      ∧ r.2.sem = fun _ => 0)

def quiescent_RecDecayIdeal [hRecDecayIdeal : Cert.RecDecayIdeal.Facts] : Prop :=
  ∀ (m : (ℓ : Loc Cert.RecDecayIdeal.nD Cert.RecDecayIdeal.τ Cert.RecDecayIdeal.sig) → Buf (Elt Ideal) ℓ) (g : Dev Cert.RecDecayIdeal.nD → PrngReg), Pre_RecDecayIdeal m →
    θ_run (Cert.RecDecayIdeal.defs (F := Ideal)) (onTc (τ := Cert.RecDecayIdeal.τ) (Cert.RecDecayIdeal.main (F := Ideal))) ⟨m, fun _ => 0, g⟩ (fun r => (∀ c : Dev Cert.RecDecayIdeal.nD,
      r.2.mem ((c.tc : Thread Cert.RecDecayIdeal.nD Cert.RecDecayIdeal.τ).loc Cert.RecDecayIdeal.main_arg0) = m ((c.tc : Thread Cert.RecDecayIdeal.nD Cert.RecDecayIdeal.τ).loc Cert.RecDecayIdeal.main_arg0)
      ∧ r.2.mem ((c.tc : Thread Cert.RecDecayIdeal.nD Cert.RecDecayIdeal.τ).loc Cert.RecDecayIdeal.main_arg1) = m ((c.tc : Thread Cert.RecDecayIdeal.nD Cert.RecDecayIdeal.τ).loc Cert.RecDecayIdeal.main_arg1)
      ∧ r.2.mem ((c.tc : Thread Cert.RecDecayIdeal.nD Cert.RecDecayIdeal.τ).loc Cert.RecDecayIdeal.main_arg2) = m ((c.tc : Thread Cert.RecDecayIdeal.nD Cert.RecDecayIdeal.τ).loc Cert.RecDecayIdeal.main_arg2)
      ∧ r.2.mem ((c.tc : Thread Cert.RecDecayIdeal.nD Cert.RecDecayIdeal.τ).loc Cert.RecDecayIdeal.main_arg3) = m ((c.tc : Thread Cert.RecDecayIdeal.nD Cert.RecDecayIdeal.τ).loc Cert.RecDecayIdeal.main_arg3)
      ∧ r.2.mem ((c.tc : Thread Cert.RecDecayIdeal.nD Cert.RecDecayIdeal.τ).loc Cert.RecDecayIdeal.main_arg4) = m ((c.tc : Thread Cert.RecDecayIdeal.nD Cert.RecDecayIdeal.τ).loc Cert.RecDecayIdeal.main_arg4)
      ∧ r.2.mem ((c.tc : Thread Cert.RecDecayIdeal.nD Cert.RecDecayIdeal.τ).loc Cert.RecDecayIdeal.main_arg5) = m ((c.tc : Thread Cert.RecDecayIdeal.nD Cert.RecDecayIdeal.τ).loc Cert.RecDecayIdeal.main_arg5)
      ∧ r.2.mem ((c.tc : Thread Cert.RecDecayIdeal.nD Cert.RecDecayIdeal.τ).loc Cert.RecDecayIdeal.main_arg6) = m ((c.tc : Thread Cert.RecDecayIdeal.nD Cert.RecDecayIdeal.τ).loc Cert.RecDecayIdeal.main_arg6)
      ∧ r.2.mem ((c.tc : Thread Cert.RecDecayIdeal.nD Cert.RecDecayIdeal.τ).loc Cert.RecDecayIdeal.main_arg7) = m ((c.tc : Thread Cert.RecDecayIdeal.nD Cert.RecDecayIdeal.τ).loc Cert.RecDecayIdeal.main_arg7))
      ∧ r.2.sem = fun _ => 0)

def preserves_MixBwd_MixBwdIdeal : Prop :=
  True

def algebraic_MixBwdIdeal_MixGradIdeal [hMixBwdIdeal : Cert.MixBwdIdeal.Facts] [hMixGradIdeal : Cert.MixGradIdeal.Facts] : Prop :=
  ∀ (m : (ℓ : Loc Cert.MixBwdIdeal.nD Cert.MixBwdIdeal.τ Cert.MixBwdIdeal.sig) → Buf (Elt Ideal) ℓ) (g : Dev Cert.MixBwdIdeal.nD → PrngReg)
    (m' : (ℓ : Loc Cert.MixGradIdeal.nD Cert.MixGradIdeal.τ Cert.MixGradIdeal.sig) → Buf (Elt Ideal) ℓ) (g' : Dev Cert.MixGradIdeal.nD → PrngReg), Pre_MixBwdIdeal m →
    (∀ c : Dev Cert.MixBwdIdeal.nD,
      m' ((c.tc : Thread Cert.MixGradIdeal.nD Cert.MixGradIdeal.τ).loc Cert.MixGradIdeal.main_arg0) = m ((c.tc : Thread Cert.MixBwdIdeal.nD Cert.MixBwdIdeal.τ).loc Cert.MixBwdIdeal.main_arg0)
      ∧ m' ((c.tc : Thread Cert.MixGradIdeal.nD Cert.MixGradIdeal.τ).loc Cert.MixGradIdeal.main_arg1) = m ((c.tc : Thread Cert.MixBwdIdeal.nD Cert.MixBwdIdeal.τ).loc Cert.MixBwdIdeal.main_arg1)
      ∧ m' ((c.tc : Thread Cert.MixGradIdeal.nD Cert.MixGradIdeal.τ).loc Cert.MixGradIdeal.main_arg2) = m ((c.tc : Thread Cert.MixBwdIdeal.nD Cert.MixBwdIdeal.τ).loc Cert.MixBwdIdeal.main_arg2)
      ∧ m' ((c.tc : Thread Cert.MixGradIdeal.nD Cert.MixGradIdeal.τ).loc Cert.MixGradIdeal.main_arg3) = m ((c.tc : Thread Cert.MixBwdIdeal.nD Cert.MixBwdIdeal.τ).loc Cert.MixBwdIdeal.main_arg3)
      ∧ m' ((c.tc : Thread Cert.MixGradIdeal.nD Cert.MixGradIdeal.τ).loc Cert.MixGradIdeal.main_arg4) = m ((c.tc : Thread Cert.MixBwdIdeal.nD Cert.MixBwdIdeal.τ).loc Cert.MixBwdIdeal.main_arg4)
      ∧ m' ((c.tc : Thread Cert.MixGradIdeal.nD Cert.MixGradIdeal.τ).loc Cert.MixGradIdeal.main_arg5) = m ((c.tc : Thread Cert.MixBwdIdeal.nD Cert.MixBwdIdeal.τ).loc Cert.MixBwdIdeal.main_arg5)
      ∧ m' ((c.tc : Thread Cert.MixGradIdeal.nD Cert.MixGradIdeal.τ).loc Cert.MixGradIdeal.main_arg6) = m ((c.tc : Thread Cert.MixBwdIdeal.nD Cert.MixBwdIdeal.τ).loc Cert.MixBwdIdeal.main_arg6)) →
    ∃ (v0 : (c : Dev Cert.MixBwdIdeal.nD) → Buf (Elt Ideal) ((c.tc : Thread Cert.MixBwdIdeal.nD Cert.MixBwdIdeal.τ).loc Cert.MixBwdIdeal.main_v7_0)) (v1 : (c : Dev Cert.MixBwdIdeal.nD) → Buf (Elt Ideal) ((c.tc : Thread Cert.MixBwdIdeal.nD Cert.MixBwdIdeal.τ).loc Cert.MixBwdIdeal.main_v7_1)) (v2 : (c : Dev Cert.MixBwdIdeal.nD) → Buf (Elt Ideal) ((c.tc : Thread Cert.MixBwdIdeal.nD Cert.MixBwdIdeal.τ).loc Cert.MixBwdIdeal.main_v7_2)) (v3 : (c : Dev Cert.MixBwdIdeal.nD) → Buf (Elt Ideal) ((c.tc : Thread Cert.MixBwdIdeal.nD Cert.MixBwdIdeal.τ).loc Cert.MixBwdIdeal.main_v7_3)) (v4 : (c : Dev Cert.MixBwdIdeal.nD) → Buf (Elt Ideal) ((c.tc : Thread Cert.MixBwdIdeal.nD Cert.MixBwdIdeal.τ).loc Cert.MixBwdIdeal.main_v7_4)),
      θ_run (Cert.MixBwdIdeal.defs (F := Ideal)) (onTc (τ := Cert.MixBwdIdeal.τ) (Cert.MixBwdIdeal.main (F := Ideal))) ⟨m, fun _ => 0, g⟩ (fun r => ∀ c : Dev Cert.MixBwdIdeal.nD,
          r.2.mem ((c.tc : Thread Cert.MixBwdIdeal.nD Cert.MixBwdIdeal.τ).loc Cert.MixBwdIdeal.main_v7_0) = v0 c
          ∧ r.2.mem ((c.tc : Thread Cert.MixBwdIdeal.nD Cert.MixBwdIdeal.τ).loc Cert.MixBwdIdeal.main_v7_1) = v1 c
          ∧ r.2.mem ((c.tc : Thread Cert.MixBwdIdeal.nD Cert.MixBwdIdeal.τ).loc Cert.MixBwdIdeal.main_v7_2) = v2 c
          ∧ r.2.mem ((c.tc : Thread Cert.MixBwdIdeal.nD Cert.MixBwdIdeal.τ).loc Cert.MixBwdIdeal.main_v7_3) = v3 c
          ∧ r.2.mem ((c.tc : Thread Cert.MixBwdIdeal.nD Cert.MixBwdIdeal.τ).loc Cert.MixBwdIdeal.main_v7_4) = v4 c
          ∧ r.2.mem ((c.tc : Thread Cert.MixBwdIdeal.nD Cert.MixBwdIdeal.τ).loc Cert.MixBwdIdeal.main_arg0) = m ((c.tc : Thread Cert.MixBwdIdeal.nD Cert.MixBwdIdeal.τ).loc Cert.MixBwdIdeal.main_arg0)
          ∧ r.2.mem ((c.tc : Thread Cert.MixBwdIdeal.nD Cert.MixBwdIdeal.τ).loc Cert.MixBwdIdeal.main_arg1) = m ((c.tc : Thread Cert.MixBwdIdeal.nD Cert.MixBwdIdeal.τ).loc Cert.MixBwdIdeal.main_arg1)
          ∧ r.2.mem ((c.tc : Thread Cert.MixBwdIdeal.nD Cert.MixBwdIdeal.τ).loc Cert.MixBwdIdeal.main_arg2) = m ((c.tc : Thread Cert.MixBwdIdeal.nD Cert.MixBwdIdeal.τ).loc Cert.MixBwdIdeal.main_arg2)
          ∧ r.2.mem ((c.tc : Thread Cert.MixBwdIdeal.nD Cert.MixBwdIdeal.τ).loc Cert.MixBwdIdeal.main_arg3) = m ((c.tc : Thread Cert.MixBwdIdeal.nD Cert.MixBwdIdeal.τ).loc Cert.MixBwdIdeal.main_arg3)
          ∧ r.2.mem ((c.tc : Thread Cert.MixBwdIdeal.nD Cert.MixBwdIdeal.τ).loc Cert.MixBwdIdeal.main_arg4) = m ((c.tc : Thread Cert.MixBwdIdeal.nD Cert.MixBwdIdeal.τ).loc Cert.MixBwdIdeal.main_arg4)
          ∧ r.2.mem ((c.tc : Thread Cert.MixBwdIdeal.nD Cert.MixBwdIdeal.τ).loc Cert.MixBwdIdeal.main_arg5) = m ((c.tc : Thread Cert.MixBwdIdeal.nD Cert.MixBwdIdeal.τ).loc Cert.MixBwdIdeal.main_arg5)
          ∧ r.2.mem ((c.tc : Thread Cert.MixBwdIdeal.nD Cert.MixBwdIdeal.τ).loc Cert.MixBwdIdeal.main_arg6) = m ((c.tc : Thread Cert.MixBwdIdeal.nD Cert.MixBwdIdeal.τ).loc Cert.MixBwdIdeal.main_arg6))
      ∧ θ_run (Cert.MixGradIdeal.defs (F := Ideal)) (onTc (τ := Cert.MixGradIdeal.τ) (Cert.MixGradIdeal.main (F := Ideal))) ⟨m', fun _ => 0, g'⟩ (fun r => ∀ c : Dev Cert.MixGradIdeal.nD,
          r.2.mem ((c.tc : Thread Cert.MixGradIdeal.nD Cert.MixGradIdeal.τ).loc Cert.MixGradIdeal.main_v41) = v0 c
          ∧ r.2.mem ((c.tc : Thread Cert.MixGradIdeal.nD Cert.MixGradIdeal.τ).loc Cert.MixGradIdeal.main_v42) = v1 c
          ∧ r.2.mem ((c.tc : Thread Cert.MixGradIdeal.nD Cert.MixGradIdeal.τ).loc Cert.MixGradIdeal.main_v43) = v2 c
          ∧ r.2.mem ((c.tc : Thread Cert.MixGradIdeal.nD Cert.MixGradIdeal.τ).loc Cert.MixGradIdeal.main_v44) = v3 c
          ∧ r.2.mem ((c.tc : Thread Cert.MixGradIdeal.nD Cert.MixGradIdeal.τ).loc Cert.MixGradIdeal.main_v34) = v4 c
          ∧ r.2.mem ((c.tc : Thread Cert.MixGradIdeal.nD Cert.MixGradIdeal.τ).loc Cert.MixGradIdeal.main_arg0) = m' ((c.tc : Thread Cert.MixGradIdeal.nD Cert.MixGradIdeal.τ).loc Cert.MixGradIdeal.main_arg0)
          ∧ r.2.mem ((c.tc : Thread Cert.MixGradIdeal.nD Cert.MixGradIdeal.τ).loc Cert.MixGradIdeal.main_arg1) = m' ((c.tc : Thread Cert.MixGradIdeal.nD Cert.MixGradIdeal.τ).loc Cert.MixGradIdeal.main_arg1)
          ∧ r.2.mem ((c.tc : Thread Cert.MixGradIdeal.nD Cert.MixGradIdeal.τ).loc Cert.MixGradIdeal.main_arg2) = m' ((c.tc : Thread Cert.MixGradIdeal.nD Cert.MixGradIdeal.τ).loc Cert.MixGradIdeal.main_arg2)
          ∧ r.2.mem ((c.tc : Thread Cert.MixGradIdeal.nD Cert.MixGradIdeal.τ).loc Cert.MixGradIdeal.main_arg3) = m' ((c.tc : Thread Cert.MixGradIdeal.nD Cert.MixGradIdeal.τ).loc Cert.MixGradIdeal.main_arg3)
          ∧ r.2.mem ((c.tc : Thread Cert.MixGradIdeal.nD Cert.MixGradIdeal.τ).loc Cert.MixGradIdeal.main_arg4) = m' ((c.tc : Thread Cert.MixGradIdeal.nD Cert.MixGradIdeal.τ).loc Cert.MixGradIdeal.main_arg4)
          ∧ r.2.mem ((c.tc : Thread Cert.MixGradIdeal.nD Cert.MixGradIdeal.τ).loc Cert.MixGradIdeal.main_arg5) = m' ((c.tc : Thread Cert.MixGradIdeal.nD Cert.MixGradIdeal.τ).loc Cert.MixGradIdeal.main_arg5)
          ∧ r.2.mem ((c.tc : Thread Cert.MixGradIdeal.nD Cert.MixGradIdeal.τ).loc Cert.MixGradIdeal.main_arg6) = m' ((c.tc : Thread Cert.MixGradIdeal.nD Cert.MixGradIdeal.τ).loc Cert.MixGradIdeal.main_arg6))

def preserves_NormBwd_NormBwdIdeal : Prop :=
  True

def algebraic_NormBwdIdeal_NormGradIdeal_pre_finite_norm1 [hNormBwdIdeal : Cert.NormBwdIdeal.Facts] [hNormGradIdeal : Cert.NormGradIdeal.Facts] [hPre_finite_norm1 : Cert.Pre_finite_norm1.Facts] : Prop :=
  ∀ (m : (ℓ : Loc Cert.NormBwdIdeal.nD Cert.NormBwdIdeal.τ Cert.NormBwdIdeal.sig) → Buf (Elt Ideal) ℓ) (g : Dev Cert.NormBwdIdeal.nD → PrngReg)
    (m' : (ℓ : Loc Cert.NormGradIdeal.nD Cert.NormGradIdeal.τ Cert.NormGradIdeal.sig) → Buf (Elt Ideal) ℓ) (g' : Dev Cert.NormGradIdeal.nD → PrngReg), Pre_NormBwdIdeal_finite_norm1 m →
    (∀ c : Dev Cert.NormBwdIdeal.nD,
      m' ((c.tc : Thread Cert.NormGradIdeal.nD Cert.NormGradIdeal.τ).loc Cert.NormGradIdeal.main_arg0) = m ((c.tc : Thread Cert.NormBwdIdeal.nD Cert.NormBwdIdeal.τ).loc Cert.NormBwdIdeal.main_arg0)
      ∧ m' ((c.tc : Thread Cert.NormGradIdeal.nD Cert.NormGradIdeal.τ).loc Cert.NormGradIdeal.main_arg1) = m ((c.tc : Thread Cert.NormBwdIdeal.nD Cert.NormBwdIdeal.τ).loc Cert.NormBwdIdeal.main_arg1)
      ∧ m' ((c.tc : Thread Cert.NormGradIdeal.nD Cert.NormGradIdeal.τ).loc Cert.NormGradIdeal.main_arg2) = m ((c.tc : Thread Cert.NormBwdIdeal.nD Cert.NormBwdIdeal.τ).loc Cert.NormBwdIdeal.main_arg2)
      ∧ m' ((c.tc : Thread Cert.NormGradIdeal.nD Cert.NormGradIdeal.τ).loc Cert.NormGradIdeal.main_arg3) = m ((c.tc : Thread Cert.NormBwdIdeal.nD Cert.NormBwdIdeal.τ).loc Cert.NormBwdIdeal.main_arg3)
      ∧ m' ((c.tc : Thread Cert.NormGradIdeal.nD Cert.NormGradIdeal.τ).loc Cert.NormGradIdeal.main_arg4) = m ((c.tc : Thread Cert.NormBwdIdeal.nD Cert.NormBwdIdeal.τ).loc Cert.NormBwdIdeal.main_arg4)
      ∧ m' ((c.tc : Thread Cert.NormGradIdeal.nD Cert.NormGradIdeal.τ).loc Cert.NormGradIdeal.main_arg5) = m ((c.tc : Thread Cert.NormBwdIdeal.nD Cert.NormBwdIdeal.τ).loc Cert.NormBwdIdeal.main_arg5)
      ∧ m' ((c.tc : Thread Cert.NormGradIdeal.nD Cert.NormGradIdeal.τ).loc Cert.NormGradIdeal.main_arg6) = m ((c.tc : Thread Cert.NormBwdIdeal.nD Cert.NormBwdIdeal.τ).loc Cert.NormBwdIdeal.main_arg6)) →
    ∃ (v0 : (c : Dev Cert.NormBwdIdeal.nD) → Buf (Elt Ideal) ((c.tc : Thread Cert.NormBwdIdeal.nD Cert.NormBwdIdeal.τ).loc Cert.NormBwdIdeal.main_v6_0)) (v1 : (c : Dev Cert.NormBwdIdeal.nD) → Buf (Elt Ideal) ((c.tc : Thread Cert.NormBwdIdeal.nD Cert.NormBwdIdeal.τ).loc Cert.NormBwdIdeal.main_v6_1)),
      θ_run (Cert.NormBwdIdeal.defs (F := Ideal)) (onTc (τ := Cert.NormBwdIdeal.τ) (Cert.NormBwdIdeal.main (F := Ideal))) ⟨m, fun _ => 0, g⟩ (fun r => ∀ c : Dev Cert.NormBwdIdeal.nD,
          r.2.mem ((c.tc : Thread Cert.NormBwdIdeal.nD Cert.NormBwdIdeal.τ).loc Cert.NormBwdIdeal.main_v6_0) = v0 c
          ∧ r.2.mem ((c.tc : Thread Cert.NormBwdIdeal.nD Cert.NormBwdIdeal.τ).loc Cert.NormBwdIdeal.main_v6_1) = v1 c
          ∧ r.2.mem ((c.tc : Thread Cert.NormBwdIdeal.nD Cert.NormBwdIdeal.τ).loc Cert.NormBwdIdeal.main_arg0) = m ((c.tc : Thread Cert.NormBwdIdeal.nD Cert.NormBwdIdeal.τ).loc Cert.NormBwdIdeal.main_arg0)
          ∧ r.2.mem ((c.tc : Thread Cert.NormBwdIdeal.nD Cert.NormBwdIdeal.τ).loc Cert.NormBwdIdeal.main_arg1) = m ((c.tc : Thread Cert.NormBwdIdeal.nD Cert.NormBwdIdeal.τ).loc Cert.NormBwdIdeal.main_arg1)
          ∧ r.2.mem ((c.tc : Thread Cert.NormBwdIdeal.nD Cert.NormBwdIdeal.τ).loc Cert.NormBwdIdeal.main_arg2) = m ((c.tc : Thread Cert.NormBwdIdeal.nD Cert.NormBwdIdeal.τ).loc Cert.NormBwdIdeal.main_arg2)
          ∧ r.2.mem ((c.tc : Thread Cert.NormBwdIdeal.nD Cert.NormBwdIdeal.τ).loc Cert.NormBwdIdeal.main_arg3) = m ((c.tc : Thread Cert.NormBwdIdeal.nD Cert.NormBwdIdeal.τ).loc Cert.NormBwdIdeal.main_arg3)
          ∧ r.2.mem ((c.tc : Thread Cert.NormBwdIdeal.nD Cert.NormBwdIdeal.τ).loc Cert.NormBwdIdeal.main_arg4) = m ((c.tc : Thread Cert.NormBwdIdeal.nD Cert.NormBwdIdeal.τ).loc Cert.NormBwdIdeal.main_arg4)
          ∧ r.2.mem ((c.tc : Thread Cert.NormBwdIdeal.nD Cert.NormBwdIdeal.τ).loc Cert.NormBwdIdeal.main_arg5) = m ((c.tc : Thread Cert.NormBwdIdeal.nD Cert.NormBwdIdeal.τ).loc Cert.NormBwdIdeal.main_arg5)
          ∧ r.2.mem ((c.tc : Thread Cert.NormBwdIdeal.nD Cert.NormBwdIdeal.τ).loc Cert.NormBwdIdeal.main_arg6) = m ((c.tc : Thread Cert.NormBwdIdeal.nD Cert.NormBwdIdeal.τ).loc Cert.NormBwdIdeal.main_arg6))
      ∧ θ_run (Cert.NormGradIdeal.defs (F := Ideal)) (onTc (τ := Cert.NormGradIdeal.τ) (Cert.NormGradIdeal.main (F := Ideal))) ⟨m', fun _ => 0, g'⟩ (fun r => ∀ c : Dev Cert.NormGradIdeal.nD,
          r.2.mem ((c.tc : Thread Cert.NormGradIdeal.nD Cert.NormGradIdeal.τ).loc Cert.NormGradIdeal.main_v51) = v0 c
          ∧ r.2.mem ((c.tc : Thread Cert.NormGradIdeal.nD Cert.NormGradIdeal.τ).loc Cert.NormGradIdeal.main_v34) = v1 c
          ∧ r.2.mem ((c.tc : Thread Cert.NormGradIdeal.nD Cert.NormGradIdeal.τ).loc Cert.NormGradIdeal.main_arg0) = m' ((c.tc : Thread Cert.NormGradIdeal.nD Cert.NormGradIdeal.τ).loc Cert.NormGradIdeal.main_arg0)
          ∧ r.2.mem ((c.tc : Thread Cert.NormGradIdeal.nD Cert.NormGradIdeal.τ).loc Cert.NormGradIdeal.main_arg1) = m' ((c.tc : Thread Cert.NormGradIdeal.nD Cert.NormGradIdeal.τ).loc Cert.NormGradIdeal.main_arg1)
          ∧ r.2.mem ((c.tc : Thread Cert.NormGradIdeal.nD Cert.NormGradIdeal.τ).loc Cert.NormGradIdeal.main_arg2) = m' ((c.tc : Thread Cert.NormGradIdeal.nD Cert.NormGradIdeal.τ).loc Cert.NormGradIdeal.main_arg2)
          ∧ r.2.mem ((c.tc : Thread Cert.NormGradIdeal.nD Cert.NormGradIdeal.τ).loc Cert.NormGradIdeal.main_arg3) = m' ((c.tc : Thread Cert.NormGradIdeal.nD Cert.NormGradIdeal.τ).loc Cert.NormGradIdeal.main_arg3)
          ∧ r.2.mem ((c.tc : Thread Cert.NormGradIdeal.nD Cert.NormGradIdeal.τ).loc Cert.NormGradIdeal.main_arg4) = m' ((c.tc : Thread Cert.NormGradIdeal.nD Cert.NormGradIdeal.τ).loc Cert.NormGradIdeal.main_arg4)
          ∧ r.2.mem ((c.tc : Thread Cert.NormGradIdeal.nD Cert.NormGradIdeal.τ).loc Cert.NormGradIdeal.main_arg5) = m' ((c.tc : Thread Cert.NormGradIdeal.nD Cert.NormGradIdeal.τ).loc Cert.NormGradIdeal.main_arg5)
          ∧ r.2.mem ((c.tc : Thread Cert.NormGradIdeal.nD Cert.NormGradIdeal.τ).loc Cert.NormGradIdeal.main_arg6) = m' ((c.tc : Thread Cert.NormGradIdeal.nD Cert.NormGradIdeal.τ).loc Cert.NormGradIdeal.main_arg6))

def preserves_FfnLoss_FfnLossIdeal : Prop :=
  True

def algebraic_FfnLossIdeal_FfnGradIdeal_pre_finite_ffn [hFfnLossIdeal : Cert.FfnLossIdeal.Facts] [hFfnGradIdeal : Cert.FfnGradIdeal.Facts] [hPre_finite_ffn : Cert.Pre_finite_ffn.Facts] : Prop :=
  ∀ (m : (ℓ : Loc Cert.FfnLossIdeal.nD Cert.FfnLossIdeal.τ Cert.FfnLossIdeal.sig) → Buf (Elt Ideal) ℓ) (g : Dev Cert.FfnLossIdeal.nD → PrngReg)
    (m' : (ℓ : Loc Cert.FfnGradIdeal.nD Cert.FfnGradIdeal.τ Cert.FfnGradIdeal.sig) → Buf (Elt Ideal) ℓ) (g' : Dev Cert.FfnGradIdeal.nD → PrngReg), Pre_FfnLossIdeal_finite_ffn m →
    (∀ c : Dev Cert.FfnLossIdeal.nD,
      m' ((c.tc : Thread Cert.FfnGradIdeal.nD Cert.FfnGradIdeal.τ).loc Cert.FfnGradIdeal.main_arg0) = m ((c.tc : Thread Cert.FfnLossIdeal.nD Cert.FfnLossIdeal.τ).loc Cert.FfnLossIdeal.main_arg0)
      ∧ m' ((c.tc : Thread Cert.FfnGradIdeal.nD Cert.FfnGradIdeal.τ).loc Cert.FfnGradIdeal.main_arg1) = m ((c.tc : Thread Cert.FfnLossIdeal.nD Cert.FfnLossIdeal.τ).loc Cert.FfnLossIdeal.main_arg1)
      ∧ m' ((c.tc : Thread Cert.FfnGradIdeal.nD Cert.FfnGradIdeal.τ).loc Cert.FfnGradIdeal.main_arg2) = m ((c.tc : Thread Cert.FfnLossIdeal.nD Cert.FfnLossIdeal.τ).loc Cert.FfnLossIdeal.main_arg2)
      ∧ m' ((c.tc : Thread Cert.FfnGradIdeal.nD Cert.FfnGradIdeal.τ).loc Cert.FfnGradIdeal.main_arg3) = m ((c.tc : Thread Cert.FfnLossIdeal.nD Cert.FfnLossIdeal.τ).loc Cert.FfnLossIdeal.main_arg3)
      ∧ m' ((c.tc : Thread Cert.FfnGradIdeal.nD Cert.FfnGradIdeal.τ).loc Cert.FfnGradIdeal.main_arg4) = m ((c.tc : Thread Cert.FfnLossIdeal.nD Cert.FfnLossIdeal.τ).loc Cert.FfnLossIdeal.main_arg4)
      ∧ m' ((c.tc : Thread Cert.FfnGradIdeal.nD Cert.FfnGradIdeal.τ).loc Cert.FfnGradIdeal.main_arg5) = m ((c.tc : Thread Cert.FfnLossIdeal.nD Cert.FfnLossIdeal.τ).loc Cert.FfnLossIdeal.main_arg5)) →
    ∃ (v0 : (c : Dev Cert.FfnLossIdeal.nD) → Buf (Elt Ideal) ((c.tc : Thread Cert.FfnLossIdeal.nD Cert.FfnLossIdeal.τ).loc Cert.FfnLossIdeal.main_v4_0)) (v1 : (c : Dev Cert.FfnLossIdeal.nD) → Buf (Elt Ideal) ((c.tc : Thread Cert.FfnLossIdeal.nD Cert.FfnLossIdeal.τ).loc Cert.FfnLossIdeal.main_v4_1)) (v2 : (c : Dev Cert.FfnLossIdeal.nD) → Buf (Elt Ideal) ((c.tc : Thread Cert.FfnLossIdeal.nD Cert.FfnLossIdeal.τ).loc Cert.FfnLossIdeal.main_v4_2)) (v3 : (c : Dev Cert.FfnLossIdeal.nD) → Buf (Elt Ideal) ((c.tc : Thread Cert.FfnLossIdeal.nD Cert.FfnLossIdeal.τ).loc Cert.FfnLossIdeal.main_v4_3)) (v4 : (c : Dev Cert.FfnLossIdeal.nD) → Buf (Elt Ideal) ((c.tc : Thread Cert.FfnLossIdeal.nD Cert.FfnLossIdeal.τ).loc Cert.FfnLossIdeal.main_v4_4)) (v5 : (c : Dev Cert.FfnLossIdeal.nD) → Buf (Elt Ideal) ((c.tc : Thread Cert.FfnLossIdeal.nD Cert.FfnLossIdeal.τ).loc Cert.FfnLossIdeal.main_v4_5)) (v6 : (c : Dev Cert.FfnLossIdeal.nD) → Buf (Elt Ideal) ((c.tc : Thread Cert.FfnLossIdeal.nD Cert.FfnLossIdeal.τ).loc Cert.FfnLossIdeal.main_v4_6)) (v7 : (c : Dev Cert.FfnLossIdeal.nD) → Buf (Elt Ideal) ((c.tc : Thread Cert.FfnLossIdeal.nD Cert.FfnLossIdeal.τ).loc Cert.FfnLossIdeal.main_v4_7)),
      θ_run (Cert.FfnLossIdeal.defs (F := Ideal)) (onTc (τ := Cert.FfnLossIdeal.τ) (Cert.FfnLossIdeal.main (F := Ideal))) ⟨m, fun _ => 0, g⟩ (fun r => ∀ c : Dev Cert.FfnLossIdeal.nD,
          r.2.mem ((c.tc : Thread Cert.FfnLossIdeal.nD Cert.FfnLossIdeal.τ).loc Cert.FfnLossIdeal.main_v4_0) = v0 c
          ∧ r.2.mem ((c.tc : Thread Cert.FfnLossIdeal.nD Cert.FfnLossIdeal.τ).loc Cert.FfnLossIdeal.main_v4_1) = v1 c
          ∧ r.2.mem ((c.tc : Thread Cert.FfnLossIdeal.nD Cert.FfnLossIdeal.τ).loc Cert.FfnLossIdeal.main_v4_2) = v2 c
          ∧ r.2.mem ((c.tc : Thread Cert.FfnLossIdeal.nD Cert.FfnLossIdeal.τ).loc Cert.FfnLossIdeal.main_v4_3) = v3 c
          ∧ r.2.mem ((c.tc : Thread Cert.FfnLossIdeal.nD Cert.FfnLossIdeal.τ).loc Cert.FfnLossIdeal.main_v4_4) = v4 c
          ∧ r.2.mem ((c.tc : Thread Cert.FfnLossIdeal.nD Cert.FfnLossIdeal.τ).loc Cert.FfnLossIdeal.main_v4_5) = v5 c
          ∧ r.2.mem ((c.tc : Thread Cert.FfnLossIdeal.nD Cert.FfnLossIdeal.τ).loc Cert.FfnLossIdeal.main_v4_6) = v6 c
          ∧ r.2.mem ((c.tc : Thread Cert.FfnLossIdeal.nD Cert.FfnLossIdeal.τ).loc Cert.FfnLossIdeal.main_v4_7) = v7 c
          ∧ r.2.mem ((c.tc : Thread Cert.FfnLossIdeal.nD Cert.FfnLossIdeal.τ).loc Cert.FfnLossIdeal.main_arg0) = m ((c.tc : Thread Cert.FfnLossIdeal.nD Cert.FfnLossIdeal.τ).loc Cert.FfnLossIdeal.main_arg0)
          ∧ r.2.mem ((c.tc : Thread Cert.FfnLossIdeal.nD Cert.FfnLossIdeal.τ).loc Cert.FfnLossIdeal.main_arg1) = m ((c.tc : Thread Cert.FfnLossIdeal.nD Cert.FfnLossIdeal.τ).loc Cert.FfnLossIdeal.main_arg1)
          ∧ r.2.mem ((c.tc : Thread Cert.FfnLossIdeal.nD Cert.FfnLossIdeal.τ).loc Cert.FfnLossIdeal.main_arg2) = m ((c.tc : Thread Cert.FfnLossIdeal.nD Cert.FfnLossIdeal.τ).loc Cert.FfnLossIdeal.main_arg2)
          ∧ r.2.mem ((c.tc : Thread Cert.FfnLossIdeal.nD Cert.FfnLossIdeal.τ).loc Cert.FfnLossIdeal.main_arg3) = m ((c.tc : Thread Cert.FfnLossIdeal.nD Cert.FfnLossIdeal.τ).loc Cert.FfnLossIdeal.main_arg3)
          ∧ r.2.mem ((c.tc : Thread Cert.FfnLossIdeal.nD Cert.FfnLossIdeal.τ).loc Cert.FfnLossIdeal.main_arg4) = m ((c.tc : Thread Cert.FfnLossIdeal.nD Cert.FfnLossIdeal.τ).loc Cert.FfnLossIdeal.main_arg4)
          ∧ r.2.mem ((c.tc : Thread Cert.FfnLossIdeal.nD Cert.FfnLossIdeal.τ).loc Cert.FfnLossIdeal.main_arg5) = m ((c.tc : Thread Cert.FfnLossIdeal.nD Cert.FfnLossIdeal.τ).loc Cert.FfnLossIdeal.main_arg5))
      ∧ θ_run (Cert.FfnGradIdeal.defs (F := Ideal)) (onTc (τ := Cert.FfnGradIdeal.τ) (Cert.FfnGradIdeal.main (F := Ideal))) ⟨m', fun _ => 0, g'⟩ (fun r => ∀ c : Dev Cert.FfnGradIdeal.nD,
          r.2.mem ((c.tc : Thread Cert.FfnGradIdeal.nD Cert.FfnGradIdeal.τ).loc Cert.FfnGradIdeal.main_v100) = v0 c
          ∧ r.2.mem ((c.tc : Thread Cert.FfnGradIdeal.nD Cert.FfnGradIdeal.τ).loc Cert.FfnGradIdeal.main_v101) = v1 c
          ∧ r.2.mem ((c.tc : Thread Cert.FfnGradIdeal.nD Cert.FfnGradIdeal.τ).loc Cert.FfnGradIdeal.main_v102) = v2 c
          ∧ r.2.mem ((c.tc : Thread Cert.FfnGradIdeal.nD Cert.FfnGradIdeal.τ).loc Cert.FfnGradIdeal.main_v103) = v3 c
          ∧ r.2.mem ((c.tc : Thread Cert.FfnGradIdeal.nD Cert.FfnGradIdeal.τ).loc Cert.FfnGradIdeal.main_v104) = v4 c
          ∧ r.2.mem ((c.tc : Thread Cert.FfnGradIdeal.nD Cert.FfnGradIdeal.τ).loc Cert.FfnGradIdeal.main_v105) = v5 c
          ∧ r.2.mem ((c.tc : Thread Cert.FfnGradIdeal.nD Cert.FfnGradIdeal.τ).loc Cert.FfnGradIdeal.main_v83) = v6 c
          ∧ r.2.mem ((c.tc : Thread Cert.FfnGradIdeal.nD Cert.FfnGradIdeal.τ).loc Cert.FfnGradIdeal.main_v106) = v7 c
          ∧ r.2.mem ((c.tc : Thread Cert.FfnGradIdeal.nD Cert.FfnGradIdeal.τ).loc Cert.FfnGradIdeal.main_arg0) = m' ((c.tc : Thread Cert.FfnGradIdeal.nD Cert.FfnGradIdeal.τ).loc Cert.FfnGradIdeal.main_arg0)
          ∧ r.2.mem ((c.tc : Thread Cert.FfnGradIdeal.nD Cert.FfnGradIdeal.τ).loc Cert.FfnGradIdeal.main_arg1) = m' ((c.tc : Thread Cert.FfnGradIdeal.nD Cert.FfnGradIdeal.τ).loc Cert.FfnGradIdeal.main_arg1)
          ∧ r.2.mem ((c.tc : Thread Cert.FfnGradIdeal.nD Cert.FfnGradIdeal.τ).loc Cert.FfnGradIdeal.main_arg2) = m' ((c.tc : Thread Cert.FfnGradIdeal.nD Cert.FfnGradIdeal.τ).loc Cert.FfnGradIdeal.main_arg2)
          ∧ r.2.mem ((c.tc : Thread Cert.FfnGradIdeal.nD Cert.FfnGradIdeal.τ).loc Cert.FfnGradIdeal.main_arg3) = m' ((c.tc : Thread Cert.FfnGradIdeal.nD Cert.FfnGradIdeal.τ).loc Cert.FfnGradIdeal.main_arg3)
          ∧ r.2.mem ((c.tc : Thread Cert.FfnGradIdeal.nD Cert.FfnGradIdeal.τ).loc Cert.FfnGradIdeal.main_arg4) = m' ((c.tc : Thread Cert.FfnGradIdeal.nD Cert.FfnGradIdeal.τ).loc Cert.FfnGradIdeal.main_arg4)
          ∧ r.2.mem ((c.tc : Thread Cert.FfnGradIdeal.nD Cert.FfnGradIdeal.τ).loc Cert.FfnGradIdeal.main_arg5) = m' ((c.tc : Thread Cert.FfnGradIdeal.nD Cert.FfnGradIdeal.τ).loc Cert.FfnGradIdeal.main_arg5))

def preserves_AttBwd_AttBwdIdeal : Prop :=
  IdealRules.named_const.Statement Cert.AttBwdIdeal.κ "mask" .f32 0xF149F2CA#32 ⊥

def algebraic_AttBwdIdeal_AttGradIdeal_pre_finite_att [hAttBwdIdeal : Cert.AttBwdIdeal.Facts] [hAttGradIdeal : Cert.AttGradIdeal.Facts] [hPre_finite_att : Cert.Pre_finite_att.Facts] : Prop :=
  ∀ (m : (ℓ : Loc Cert.AttBwdIdeal.nD Cert.AttBwdIdeal.τ Cert.AttBwdIdeal.sig) → Buf (Elt Ideal) ℓ) (g : Dev Cert.AttBwdIdeal.nD → PrngReg)
    (m' : (ℓ : Loc Cert.AttGradIdeal.nD Cert.AttGradIdeal.τ Cert.AttGradIdeal.sig) → Buf (Elt Ideal) ℓ) (g' : Dev Cert.AttGradIdeal.nD → PrngReg), Pre_AttBwdIdeal_finite_att m →
    (∀ c : Dev Cert.AttBwdIdeal.nD,
      m' ((c.tc : Thread Cert.AttGradIdeal.nD Cert.AttGradIdeal.τ).loc Cert.AttGradIdeal.main_arg0) = m ((c.tc : Thread Cert.AttBwdIdeal.nD Cert.AttBwdIdeal.τ).loc Cert.AttBwdIdeal.main_arg0)
      ∧ m' ((c.tc : Thread Cert.AttGradIdeal.nD Cert.AttGradIdeal.τ).loc Cert.AttGradIdeal.main_arg1) = m ((c.tc : Thread Cert.AttBwdIdeal.nD Cert.AttBwdIdeal.τ).loc Cert.AttBwdIdeal.main_arg1)
      ∧ m' ((c.tc : Thread Cert.AttGradIdeal.nD Cert.AttGradIdeal.τ).loc Cert.AttGradIdeal.main_arg2) = m ((c.tc : Thread Cert.AttBwdIdeal.nD Cert.AttBwdIdeal.τ).loc Cert.AttBwdIdeal.main_arg2)) →
    ∃ (v0 : (c : Dev Cert.AttBwdIdeal.nD) → Buf (Elt Ideal) ((c.tc : Thread Cert.AttBwdIdeal.nD Cert.AttBwdIdeal.τ).loc Cert.AttBwdIdeal.main_v59_0)),
      θ_run (Cert.AttBwdIdeal.defs (F := Ideal)) (onTc (τ := Cert.AttBwdIdeal.τ) (Cert.AttBwdIdeal.main (F := Ideal))) ⟨m, fun _ => 0, g⟩ (fun r => ∀ c : Dev Cert.AttBwdIdeal.nD,
          r.2.mem ((c.tc : Thread Cert.AttBwdIdeal.nD Cert.AttBwdIdeal.τ).loc Cert.AttBwdIdeal.main_v59_0) = v0 c
          ∧ r.2.mem ((c.tc : Thread Cert.AttBwdIdeal.nD Cert.AttBwdIdeal.τ).loc Cert.AttBwdIdeal.main_arg0) = m ((c.tc : Thread Cert.AttBwdIdeal.nD Cert.AttBwdIdeal.τ).loc Cert.AttBwdIdeal.main_arg0)
          ∧ r.2.mem ((c.tc : Thread Cert.AttBwdIdeal.nD Cert.AttBwdIdeal.τ).loc Cert.AttBwdIdeal.main_arg1) = m ((c.tc : Thread Cert.AttBwdIdeal.nD Cert.AttBwdIdeal.τ).loc Cert.AttBwdIdeal.main_arg1)
          ∧ r.2.mem ((c.tc : Thread Cert.AttBwdIdeal.nD Cert.AttBwdIdeal.τ).loc Cert.AttBwdIdeal.main_arg2) = m ((c.tc : Thread Cert.AttBwdIdeal.nD Cert.AttBwdIdeal.τ).loc Cert.AttBwdIdeal.main_arg2))
      ∧ θ_run (Cert.AttGradIdeal.defs (F := Ideal)) (onTc (τ := Cert.AttGradIdeal.τ) (Cert.AttGradIdeal.main (F := Ideal))) ⟨m', fun _ => 0, g'⟩ (fun r => ∀ c : Dev Cert.AttGradIdeal.nD,
          r.2.mem ((c.tc : Thread Cert.AttGradIdeal.nD Cert.AttGradIdeal.τ).loc Cert.AttGradIdeal.main_v197) = v0 c
          ∧ r.2.mem ((c.tc : Thread Cert.AttGradIdeal.nD Cert.AttGradIdeal.τ).loc Cert.AttGradIdeal.main_arg0) = m' ((c.tc : Thread Cert.AttGradIdeal.nD Cert.AttGradIdeal.τ).loc Cert.AttGradIdeal.main_arg0)
          ∧ r.2.mem ((c.tc : Thread Cert.AttGradIdeal.nD Cert.AttGradIdeal.τ).loc Cert.AttGradIdeal.main_arg1) = m' ((c.tc : Thread Cert.AttGradIdeal.nD Cert.AttGradIdeal.τ).loc Cert.AttGradIdeal.main_arg1)
          ∧ r.2.mem ((c.tc : Thread Cert.AttGradIdeal.nD Cert.AttGradIdeal.τ).loc Cert.AttGradIdeal.main_arg2) = m' ((c.tc : Thread Cert.AttGradIdeal.nD Cert.AttGradIdeal.τ).loc Cert.AttGradIdeal.main_arg2))

def preserves_AttFwd_AttFwdIdeal : Prop :=
  IdealRules.named_const.Statement Cert.AttFwdIdeal.κ "mask" .f32 0xF149F2CA#32 ⊥

def algebraic_AttFwdIdeal_AttOutIdeal_pre_finite_out [hAttFwdIdeal : Cert.AttFwdIdeal.Facts] [hAttOutIdeal : Cert.AttOutIdeal.Facts] [hPre_finite_out : Cert.Pre_finite_out.Facts] : Prop :=
  ∀ (m : (ℓ : Loc Cert.AttFwdIdeal.nD Cert.AttFwdIdeal.τ Cert.AttFwdIdeal.sig) → Buf (Elt Ideal) ℓ) (g : Dev Cert.AttFwdIdeal.nD → PrngReg)
    (m' : (ℓ : Loc Cert.AttOutIdeal.nD Cert.AttOutIdeal.τ Cert.AttOutIdeal.sig) → Buf (Elt Ideal) ℓ) (g' : Dev Cert.AttOutIdeal.nD → PrngReg), Pre_AttFwdIdeal_finite_out m →
    (∀ c : Dev Cert.AttFwdIdeal.nD,
      m' ((c.tc : Thread Cert.AttOutIdeal.nD Cert.AttOutIdeal.τ).loc Cert.AttOutIdeal.main_arg0) = m ((c.tc : Thread Cert.AttFwdIdeal.nD Cert.AttFwdIdeal.τ).loc Cert.AttFwdIdeal.main_arg0)
      ∧ m' ((c.tc : Thread Cert.AttOutIdeal.nD Cert.AttOutIdeal.τ).loc Cert.AttOutIdeal.main_arg1) = m ((c.tc : Thread Cert.AttFwdIdeal.nD Cert.AttFwdIdeal.τ).loc Cert.AttFwdIdeal.main_arg1)) →
    ∃ (v0 : (c : Dev Cert.AttFwdIdeal.nD) → Buf (Elt Ideal) ((c.tc : Thread Cert.AttFwdIdeal.nD Cert.AttFwdIdeal.τ).loc Cert.AttFwdIdeal.main_v58)),
      θ_run (Cert.AttFwdIdeal.defs (F := Ideal)) (onTc (τ := Cert.AttFwdIdeal.τ) (Cert.AttFwdIdeal.main (F := Ideal))) ⟨m, fun _ => 0, g⟩ (fun r => ∀ c : Dev Cert.AttFwdIdeal.nD,
          r.2.mem ((c.tc : Thread Cert.AttFwdIdeal.nD Cert.AttFwdIdeal.τ).loc Cert.AttFwdIdeal.main_v58) = v0 c
          ∧ r.2.mem ((c.tc : Thread Cert.AttFwdIdeal.nD Cert.AttFwdIdeal.τ).loc Cert.AttFwdIdeal.main_arg0) = m ((c.tc : Thread Cert.AttFwdIdeal.nD Cert.AttFwdIdeal.τ).loc Cert.AttFwdIdeal.main_arg0)
          ∧ r.2.mem ((c.tc : Thread Cert.AttFwdIdeal.nD Cert.AttFwdIdeal.τ).loc Cert.AttFwdIdeal.main_arg1) = m ((c.tc : Thread Cert.AttFwdIdeal.nD Cert.AttFwdIdeal.τ).loc Cert.AttFwdIdeal.main_arg1))
      ∧ θ_run (Cert.AttOutIdeal.defs (F := Ideal)) (onTc (τ := Cert.AttOutIdeal.τ) (Cert.AttOutIdeal.main (F := Ideal))) ⟨m', fun _ => 0, g'⟩ (fun r => ∀ c : Dev Cert.AttOutIdeal.nD,
          r.2.mem ((c.tc : Thread Cert.AttOutIdeal.nD Cert.AttOutIdeal.τ).loc Cert.AttOutIdeal.main_v141) = v0 c
          ∧ r.2.mem ((c.tc : Thread Cert.AttOutIdeal.nD Cert.AttOutIdeal.τ).loc Cert.AttOutIdeal.main_arg0) = m' ((c.tc : Thread Cert.AttOutIdeal.nD Cert.AttOutIdeal.τ).loc Cert.AttOutIdeal.main_arg0)
          ∧ r.2.mem ((c.tc : Thread Cert.AttOutIdeal.nD Cert.AttOutIdeal.τ).loc Cert.AttOutIdeal.main_arg1) = m' ((c.tc : Thread Cert.AttOutIdeal.nD Cert.AttOutIdeal.τ).loc Cert.AttOutIdeal.main_arg1))

def preserves_MixFwd_MixFwdIdeal : Prop :=
  True

def algebraic_MixFwdIdeal_MixOutIdeal [hMixFwdIdeal : Cert.MixFwdIdeal.Facts] [hMixOutIdeal : Cert.MixOutIdeal.Facts] : Prop :=
  ∀ (m : (ℓ : Loc Cert.MixFwdIdeal.nD Cert.MixFwdIdeal.τ Cert.MixFwdIdeal.sig) → Buf (Elt Ideal) ℓ) (g : Dev Cert.MixFwdIdeal.nD → PrngReg)
    (m' : (ℓ : Loc Cert.MixOutIdeal.nD Cert.MixOutIdeal.τ Cert.MixOutIdeal.sig) → Buf (Elt Ideal) ℓ) (g' : Dev Cert.MixOutIdeal.nD → PrngReg), Pre_MixFwdIdeal m →
    (∀ c : Dev Cert.MixFwdIdeal.nD,
      m' ((c.tc : Thread Cert.MixOutIdeal.nD Cert.MixOutIdeal.τ).loc Cert.MixOutIdeal.main_arg0) = m ((c.tc : Thread Cert.MixFwdIdeal.nD Cert.MixFwdIdeal.τ).loc Cert.MixFwdIdeal.main_arg0)
      ∧ m' ((c.tc : Thread Cert.MixOutIdeal.nD Cert.MixOutIdeal.τ).loc Cert.MixOutIdeal.main_arg1) = m ((c.tc : Thread Cert.MixFwdIdeal.nD Cert.MixFwdIdeal.τ).loc Cert.MixFwdIdeal.main_arg1)
      ∧ m' ((c.tc : Thread Cert.MixOutIdeal.nD Cert.MixOutIdeal.τ).loc Cert.MixOutIdeal.main_arg2) = m ((c.tc : Thread Cert.MixFwdIdeal.nD Cert.MixFwdIdeal.τ).loc Cert.MixFwdIdeal.main_arg2)
      ∧ m' ((c.tc : Thread Cert.MixOutIdeal.nD Cert.MixOutIdeal.τ).loc Cert.MixOutIdeal.main_arg3) = m ((c.tc : Thread Cert.MixFwdIdeal.nD Cert.MixFwdIdeal.τ).loc Cert.MixFwdIdeal.main_arg3)
      ∧ m' ((c.tc : Thread Cert.MixOutIdeal.nD Cert.MixOutIdeal.τ).loc Cert.MixOutIdeal.main_arg4) = m ((c.tc : Thread Cert.MixFwdIdeal.nD Cert.MixFwdIdeal.τ).loc Cert.MixFwdIdeal.main_arg4)
      ∧ m' ((c.tc : Thread Cert.MixOutIdeal.nD Cert.MixOutIdeal.τ).loc Cert.MixOutIdeal.main_arg5) = m ((c.tc : Thread Cert.MixFwdIdeal.nD Cert.MixFwdIdeal.τ).loc Cert.MixFwdIdeal.main_arg5)
      ∧ m' ((c.tc : Thread Cert.MixOutIdeal.nD Cert.MixOutIdeal.τ).loc Cert.MixOutIdeal.main_arg6) = m ((c.tc : Thread Cert.MixFwdIdeal.nD Cert.MixFwdIdeal.τ).loc Cert.MixFwdIdeal.main_arg6)) →
    ∃ (v0 : (c : Dev Cert.MixFwdIdeal.nD) → Buf (Elt Ideal) ((c.tc : Thread Cert.MixFwdIdeal.nD Cert.MixFwdIdeal.τ).loc Cert.MixFwdIdeal.main_v6_0)) (v1 : (c : Dev Cert.MixFwdIdeal.nD) → Buf (Elt Ideal) ((c.tc : Thread Cert.MixFwdIdeal.nD Cert.MixFwdIdeal.τ).loc Cert.MixFwdIdeal.main_v6_1)),
      θ_run (Cert.MixFwdIdeal.defs (F := Ideal)) (onTc (τ := Cert.MixFwdIdeal.τ) (Cert.MixFwdIdeal.main (F := Ideal))) ⟨m, fun _ => 0, g⟩ (fun r => ∀ c : Dev Cert.MixFwdIdeal.nD,
          r.2.mem ((c.tc : Thread Cert.MixFwdIdeal.nD Cert.MixFwdIdeal.τ).loc Cert.MixFwdIdeal.main_v6_0) = v0 c
          ∧ r.2.mem ((c.tc : Thread Cert.MixFwdIdeal.nD Cert.MixFwdIdeal.τ).loc Cert.MixFwdIdeal.main_v6_1) = v1 c
          ∧ r.2.mem ((c.tc : Thread Cert.MixFwdIdeal.nD Cert.MixFwdIdeal.τ).loc Cert.MixFwdIdeal.main_arg0) = m ((c.tc : Thread Cert.MixFwdIdeal.nD Cert.MixFwdIdeal.τ).loc Cert.MixFwdIdeal.main_arg0)
          ∧ r.2.mem ((c.tc : Thread Cert.MixFwdIdeal.nD Cert.MixFwdIdeal.τ).loc Cert.MixFwdIdeal.main_arg1) = m ((c.tc : Thread Cert.MixFwdIdeal.nD Cert.MixFwdIdeal.τ).loc Cert.MixFwdIdeal.main_arg1)
          ∧ r.2.mem ((c.tc : Thread Cert.MixFwdIdeal.nD Cert.MixFwdIdeal.τ).loc Cert.MixFwdIdeal.main_arg2) = m ((c.tc : Thread Cert.MixFwdIdeal.nD Cert.MixFwdIdeal.τ).loc Cert.MixFwdIdeal.main_arg2)
          ∧ r.2.mem ((c.tc : Thread Cert.MixFwdIdeal.nD Cert.MixFwdIdeal.τ).loc Cert.MixFwdIdeal.main_arg3) = m ((c.tc : Thread Cert.MixFwdIdeal.nD Cert.MixFwdIdeal.τ).loc Cert.MixFwdIdeal.main_arg3)
          ∧ r.2.mem ((c.tc : Thread Cert.MixFwdIdeal.nD Cert.MixFwdIdeal.τ).loc Cert.MixFwdIdeal.main_arg4) = m ((c.tc : Thread Cert.MixFwdIdeal.nD Cert.MixFwdIdeal.τ).loc Cert.MixFwdIdeal.main_arg4)
          ∧ r.2.mem ((c.tc : Thread Cert.MixFwdIdeal.nD Cert.MixFwdIdeal.τ).loc Cert.MixFwdIdeal.main_arg5) = m ((c.tc : Thread Cert.MixFwdIdeal.nD Cert.MixFwdIdeal.τ).loc Cert.MixFwdIdeal.main_arg5)
          ∧ r.2.mem ((c.tc : Thread Cert.MixFwdIdeal.nD Cert.MixFwdIdeal.τ).loc Cert.MixFwdIdeal.main_arg6) = m ((c.tc : Thread Cert.MixFwdIdeal.nD Cert.MixFwdIdeal.τ).loc Cert.MixFwdIdeal.main_arg6))
      ∧ θ_run (Cert.MixOutIdeal.defs (F := Ideal)) (onTc (τ := Cert.MixOutIdeal.τ) (Cert.MixOutIdeal.main (F := Ideal))) ⟨m', fun _ => 0, g'⟩ (fun r => ∀ c : Dev Cert.MixOutIdeal.nD,
          r.2.mem ((c.tc : Thread Cert.MixOutIdeal.nD Cert.MixOutIdeal.τ).loc Cert.MixOutIdeal.main_v20) = v0 c
          ∧ r.2.mem ((c.tc : Thread Cert.MixOutIdeal.nD Cert.MixOutIdeal.τ).loc Cert.MixOutIdeal.main_v21) = v1 c
          ∧ r.2.mem ((c.tc : Thread Cert.MixOutIdeal.nD Cert.MixOutIdeal.τ).loc Cert.MixOutIdeal.main_arg0) = m' ((c.tc : Thread Cert.MixOutIdeal.nD Cert.MixOutIdeal.τ).loc Cert.MixOutIdeal.main_arg0)
          ∧ r.2.mem ((c.tc : Thread Cert.MixOutIdeal.nD Cert.MixOutIdeal.τ).loc Cert.MixOutIdeal.main_arg1) = m' ((c.tc : Thread Cert.MixOutIdeal.nD Cert.MixOutIdeal.τ).loc Cert.MixOutIdeal.main_arg1)
          ∧ r.2.mem ((c.tc : Thread Cert.MixOutIdeal.nD Cert.MixOutIdeal.τ).loc Cert.MixOutIdeal.main_arg2) = m' ((c.tc : Thread Cert.MixOutIdeal.nD Cert.MixOutIdeal.τ).loc Cert.MixOutIdeal.main_arg2)
          ∧ r.2.mem ((c.tc : Thread Cert.MixOutIdeal.nD Cert.MixOutIdeal.τ).loc Cert.MixOutIdeal.main_arg3) = m' ((c.tc : Thread Cert.MixOutIdeal.nD Cert.MixOutIdeal.τ).loc Cert.MixOutIdeal.main_arg3)
          ∧ r.2.mem ((c.tc : Thread Cert.MixOutIdeal.nD Cert.MixOutIdeal.τ).loc Cert.MixOutIdeal.main_arg4) = m' ((c.tc : Thread Cert.MixOutIdeal.nD Cert.MixOutIdeal.τ).loc Cert.MixOutIdeal.main_arg4)
          ∧ r.2.mem ((c.tc : Thread Cert.MixOutIdeal.nD Cert.MixOutIdeal.τ).loc Cert.MixOutIdeal.main_arg5) = m' ((c.tc : Thread Cert.MixOutIdeal.nD Cert.MixOutIdeal.τ).loc Cert.MixOutIdeal.main_arg5)
          ∧ r.2.mem ((c.tc : Thread Cert.MixOutIdeal.nD Cert.MixOutIdeal.τ).loc Cert.MixOutIdeal.main_arg6) = m' ((c.tc : Thread Cert.MixOutIdeal.nD Cert.MixOutIdeal.τ).loc Cert.MixOutIdeal.main_arg6))

def preserves_ProjFwd_ProjFwdIdeal : Prop :=
  True

def algebraic_ProjFwdIdeal_ProjOutIdeal [hProjFwdIdeal : Cert.ProjFwdIdeal.Facts] [hProjOutIdeal : Cert.ProjOutIdeal.Facts] : Prop :=
  ∀ (m : (ℓ : Loc Cert.ProjFwdIdeal.nD Cert.ProjFwdIdeal.τ Cert.ProjFwdIdeal.sig) → Buf (Elt Ideal) ℓ) (g : Dev Cert.ProjFwdIdeal.nD → PrngReg)
    (m' : (ℓ : Loc Cert.ProjOutIdeal.nD Cert.ProjOutIdeal.τ Cert.ProjOutIdeal.sig) → Buf (Elt Ideal) ℓ) (g' : Dev Cert.ProjOutIdeal.nD → PrngReg), Pre_ProjFwdIdeal m →
    (∀ c : Dev Cert.ProjFwdIdeal.nD,
      m' ((c.tc : Thread Cert.ProjOutIdeal.nD Cert.ProjOutIdeal.τ).loc Cert.ProjOutIdeal.main_arg0) = m ((c.tc : Thread Cert.ProjFwdIdeal.nD Cert.ProjFwdIdeal.τ).loc Cert.ProjFwdIdeal.main_arg0)
      ∧ m' ((c.tc : Thread Cert.ProjOutIdeal.nD Cert.ProjOutIdeal.τ).loc Cert.ProjOutIdeal.main_arg1) = m ((c.tc : Thread Cert.ProjFwdIdeal.nD Cert.ProjFwdIdeal.τ).loc Cert.ProjFwdIdeal.main_arg1)
      ∧ m' ((c.tc : Thread Cert.ProjOutIdeal.nD Cert.ProjOutIdeal.τ).loc Cert.ProjOutIdeal.main_arg2) = m ((c.tc : Thread Cert.ProjFwdIdeal.nD Cert.ProjFwdIdeal.τ).loc Cert.ProjFwdIdeal.main_arg2)
      ∧ m' ((c.tc : Thread Cert.ProjOutIdeal.nD Cert.ProjOutIdeal.τ).loc Cert.ProjOutIdeal.main_arg3) = m ((c.tc : Thread Cert.ProjFwdIdeal.nD Cert.ProjFwdIdeal.τ).loc Cert.ProjFwdIdeal.main_arg3)) →
    ∃ (v0 : (c : Dev Cert.ProjFwdIdeal.nD) → Buf (Elt Ideal) ((c.tc : Thread Cert.ProjFwdIdeal.nD Cert.ProjFwdIdeal.τ).loc Cert.ProjFwdIdeal.main_v3_0)) (v1 : (c : Dev Cert.ProjFwdIdeal.nD) → Buf (Elt Ideal) ((c.tc : Thread Cert.ProjFwdIdeal.nD Cert.ProjFwdIdeal.τ).loc Cert.ProjFwdIdeal.main_v3_1)) (v2 : (c : Dev Cert.ProjFwdIdeal.nD) → Buf (Elt Ideal) ((c.tc : Thread Cert.ProjFwdIdeal.nD Cert.ProjFwdIdeal.τ).loc Cert.ProjFwdIdeal.main_v3_2)) (v3 : (c : Dev Cert.ProjFwdIdeal.nD) → Buf (Elt Ideal) ((c.tc : Thread Cert.ProjFwdIdeal.nD Cert.ProjFwdIdeal.τ).loc Cert.ProjFwdIdeal.main_v3_3)),
      θ_run (Cert.ProjFwdIdeal.defs (F := Ideal)) (onTc (τ := Cert.ProjFwdIdeal.τ) (Cert.ProjFwdIdeal.main (F := Ideal))) ⟨m, fun _ => 0, g⟩ (fun r => ∀ c : Dev Cert.ProjFwdIdeal.nD,
          r.2.mem ((c.tc : Thread Cert.ProjFwdIdeal.nD Cert.ProjFwdIdeal.τ).loc Cert.ProjFwdIdeal.main_v3_0) = v0 c
          ∧ r.2.mem ((c.tc : Thread Cert.ProjFwdIdeal.nD Cert.ProjFwdIdeal.τ).loc Cert.ProjFwdIdeal.main_v3_1) = v1 c
          ∧ r.2.mem ((c.tc : Thread Cert.ProjFwdIdeal.nD Cert.ProjFwdIdeal.τ).loc Cert.ProjFwdIdeal.main_v3_2) = v2 c
          ∧ r.2.mem ((c.tc : Thread Cert.ProjFwdIdeal.nD Cert.ProjFwdIdeal.τ).loc Cert.ProjFwdIdeal.main_v3_3) = v3 c
          ∧ r.2.mem ((c.tc : Thread Cert.ProjFwdIdeal.nD Cert.ProjFwdIdeal.τ).loc Cert.ProjFwdIdeal.main_arg0) = m ((c.tc : Thread Cert.ProjFwdIdeal.nD Cert.ProjFwdIdeal.τ).loc Cert.ProjFwdIdeal.main_arg0)
          ∧ r.2.mem ((c.tc : Thread Cert.ProjFwdIdeal.nD Cert.ProjFwdIdeal.τ).loc Cert.ProjFwdIdeal.main_arg1) = m ((c.tc : Thread Cert.ProjFwdIdeal.nD Cert.ProjFwdIdeal.τ).loc Cert.ProjFwdIdeal.main_arg1)
          ∧ r.2.mem ((c.tc : Thread Cert.ProjFwdIdeal.nD Cert.ProjFwdIdeal.τ).loc Cert.ProjFwdIdeal.main_arg2) = m ((c.tc : Thread Cert.ProjFwdIdeal.nD Cert.ProjFwdIdeal.τ).loc Cert.ProjFwdIdeal.main_arg2)
          ∧ r.2.mem ((c.tc : Thread Cert.ProjFwdIdeal.nD Cert.ProjFwdIdeal.τ).loc Cert.ProjFwdIdeal.main_arg3) = m ((c.tc : Thread Cert.ProjFwdIdeal.nD Cert.ProjFwdIdeal.τ).loc Cert.ProjFwdIdeal.main_arg3))
      ∧ θ_run (Cert.ProjOutIdeal.defs (F := Ideal)) (onTc (τ := Cert.ProjOutIdeal.τ) (Cert.ProjOutIdeal.main (F := Ideal))) ⟨m', fun _ => 0, g'⟩ (fun r => ∀ c : Dev Cert.ProjOutIdeal.nD,
          r.2.mem ((c.tc : Thread Cert.ProjOutIdeal.nD Cert.ProjOutIdeal.τ).loc Cert.ProjOutIdeal.main_v18) = v0 c
          ∧ r.2.mem ((c.tc : Thread Cert.ProjOutIdeal.nD Cert.ProjOutIdeal.τ).loc Cert.ProjOutIdeal.main_v16) = v1 c
          ∧ r.2.mem ((c.tc : Thread Cert.ProjOutIdeal.nD Cert.ProjOutIdeal.τ).loc Cert.ProjOutIdeal.main_v17) = v2 c
          ∧ r.2.mem ((c.tc : Thread Cert.ProjOutIdeal.nD Cert.ProjOutIdeal.τ).loc Cert.ProjOutIdeal.main_v19) = v3 c
          ∧ r.2.mem ((c.tc : Thread Cert.ProjOutIdeal.nD Cert.ProjOutIdeal.τ).loc Cert.ProjOutIdeal.main_arg0) = m' ((c.tc : Thread Cert.ProjOutIdeal.nD Cert.ProjOutIdeal.τ).loc Cert.ProjOutIdeal.main_arg0)
          ∧ r.2.mem ((c.tc : Thread Cert.ProjOutIdeal.nD Cert.ProjOutIdeal.τ).loc Cert.ProjOutIdeal.main_arg1) = m' ((c.tc : Thread Cert.ProjOutIdeal.nD Cert.ProjOutIdeal.τ).loc Cert.ProjOutIdeal.main_arg1)
          ∧ r.2.mem ((c.tc : Thread Cert.ProjOutIdeal.nD Cert.ProjOutIdeal.τ).loc Cert.ProjOutIdeal.main_arg2) = m' ((c.tc : Thread Cert.ProjOutIdeal.nD Cert.ProjOutIdeal.τ).loc Cert.ProjOutIdeal.main_arg2)
          ∧ r.2.mem ((c.tc : Thread Cert.ProjOutIdeal.nD Cert.ProjOutIdeal.τ).loc Cert.ProjOutIdeal.main_arg3) = m' ((c.tc : Thread Cert.ProjOutIdeal.nD Cert.ProjOutIdeal.τ).loc Cert.ProjOutIdeal.main_arg3))

def preserves_RecFwd_RecFwdIdeal : Prop :=
  True

def algebraic_RecFwdIdeal_RecDecayIdeal [hRecFwdIdeal : Cert.RecFwdIdeal.Facts] [hRecDecayIdeal : Cert.RecDecayIdeal.Facts] : Prop :=
  ∀ (m : (ℓ : Loc Cert.RecFwdIdeal.nD Cert.RecFwdIdeal.τ Cert.RecFwdIdeal.sig) → Buf (Elt Ideal) ℓ) (g : Dev Cert.RecFwdIdeal.nD → PrngReg)
    (m' : (ℓ : Loc Cert.RecDecayIdeal.nD Cert.RecDecayIdeal.τ Cert.RecDecayIdeal.sig) → Buf (Elt Ideal) ℓ) (g' : Dev Cert.RecDecayIdeal.nD → PrngReg), Pre_RecFwdIdeal m →
    (∀ c : Dev Cert.RecFwdIdeal.nD,
      m' ((c.tc : Thread Cert.RecDecayIdeal.nD Cert.RecDecayIdeal.τ).loc Cert.RecDecayIdeal.main_arg0) = m ((c.tc : Thread Cert.RecFwdIdeal.nD Cert.RecFwdIdeal.τ).loc Cert.RecFwdIdeal.main_arg0)
      ∧ m' ((c.tc : Thread Cert.RecDecayIdeal.nD Cert.RecDecayIdeal.τ).loc Cert.RecDecayIdeal.main_arg1) = m ((c.tc : Thread Cert.RecFwdIdeal.nD Cert.RecFwdIdeal.τ).loc Cert.RecFwdIdeal.main_arg1)
      ∧ m' ((c.tc : Thread Cert.RecDecayIdeal.nD Cert.RecDecayIdeal.τ).loc Cert.RecDecayIdeal.main_arg2) = m ((c.tc : Thread Cert.RecFwdIdeal.nD Cert.RecFwdIdeal.τ).loc Cert.RecFwdIdeal.main_arg2)
      ∧ m' ((c.tc : Thread Cert.RecDecayIdeal.nD Cert.RecDecayIdeal.τ).loc Cert.RecDecayIdeal.main_arg3) = m ((c.tc : Thread Cert.RecFwdIdeal.nD Cert.RecFwdIdeal.τ).loc Cert.RecFwdIdeal.main_arg3)
      ∧ m' ((c.tc : Thread Cert.RecDecayIdeal.nD Cert.RecDecayIdeal.τ).loc Cert.RecDecayIdeal.main_arg4) = m ((c.tc : Thread Cert.RecFwdIdeal.nD Cert.RecFwdIdeal.τ).loc Cert.RecFwdIdeal.main_arg4)
      ∧ m' ((c.tc : Thread Cert.RecDecayIdeal.nD Cert.RecDecayIdeal.τ).loc Cert.RecDecayIdeal.main_arg5) = m ((c.tc : Thread Cert.RecFwdIdeal.nD Cert.RecFwdIdeal.τ).loc Cert.RecFwdIdeal.main_arg5)
      ∧ m' ((c.tc : Thread Cert.RecDecayIdeal.nD Cert.RecDecayIdeal.τ).loc Cert.RecDecayIdeal.main_arg6) = m ((c.tc : Thread Cert.RecFwdIdeal.nD Cert.RecFwdIdeal.τ).loc Cert.RecFwdIdeal.main_arg6)
      ∧ m' ((c.tc : Thread Cert.RecDecayIdeal.nD Cert.RecDecayIdeal.τ).loc Cert.RecDecayIdeal.main_arg7) = m ((c.tc : Thread Cert.RecFwdIdeal.nD Cert.RecFwdIdeal.τ).loc Cert.RecFwdIdeal.main_arg7)) →
    ∃ (v0 : (c : Dev Cert.RecFwdIdeal.nD) → Buf (Elt Ideal) ((c.tc : Thread Cert.RecFwdIdeal.nD Cert.RecFwdIdeal.τ).loc Cert.RecFwdIdeal.main_v23)) (v1 : (c : Dev Cert.RecFwdIdeal.nD) → Buf (Elt Ideal) ((c.tc : Thread Cert.RecFwdIdeal.nD Cert.RecFwdIdeal.τ).loc Cert.RecFwdIdeal.main_v25)),
      θ_run (Cert.RecFwdIdeal.defs (F := Ideal)) (onTc (τ := Cert.RecFwdIdeal.τ) (Cert.RecFwdIdeal.main (F := Ideal))) ⟨m, fun _ => 0, g⟩ (fun r => ∀ c : Dev Cert.RecFwdIdeal.nD,
          r.2.mem ((c.tc : Thread Cert.RecFwdIdeal.nD Cert.RecFwdIdeal.τ).loc Cert.RecFwdIdeal.main_v23) = v0 c
          ∧ r.2.mem ((c.tc : Thread Cert.RecFwdIdeal.nD Cert.RecFwdIdeal.τ).loc Cert.RecFwdIdeal.main_v25) = v1 c
          ∧ r.2.mem ((c.tc : Thread Cert.RecFwdIdeal.nD Cert.RecFwdIdeal.τ).loc Cert.RecFwdIdeal.main_arg0) = m ((c.tc : Thread Cert.RecFwdIdeal.nD Cert.RecFwdIdeal.τ).loc Cert.RecFwdIdeal.main_arg0)
          ∧ r.2.mem ((c.tc : Thread Cert.RecFwdIdeal.nD Cert.RecFwdIdeal.τ).loc Cert.RecFwdIdeal.main_arg1) = m ((c.tc : Thread Cert.RecFwdIdeal.nD Cert.RecFwdIdeal.τ).loc Cert.RecFwdIdeal.main_arg1)
          ∧ r.2.mem ((c.tc : Thread Cert.RecFwdIdeal.nD Cert.RecFwdIdeal.τ).loc Cert.RecFwdIdeal.main_arg2) = m ((c.tc : Thread Cert.RecFwdIdeal.nD Cert.RecFwdIdeal.τ).loc Cert.RecFwdIdeal.main_arg2)
          ∧ r.2.mem ((c.tc : Thread Cert.RecFwdIdeal.nD Cert.RecFwdIdeal.τ).loc Cert.RecFwdIdeal.main_arg3) = m ((c.tc : Thread Cert.RecFwdIdeal.nD Cert.RecFwdIdeal.τ).loc Cert.RecFwdIdeal.main_arg3)
          ∧ r.2.mem ((c.tc : Thread Cert.RecFwdIdeal.nD Cert.RecFwdIdeal.τ).loc Cert.RecFwdIdeal.main_arg4) = m ((c.tc : Thread Cert.RecFwdIdeal.nD Cert.RecFwdIdeal.τ).loc Cert.RecFwdIdeal.main_arg4)
          ∧ r.2.mem ((c.tc : Thread Cert.RecFwdIdeal.nD Cert.RecFwdIdeal.τ).loc Cert.RecFwdIdeal.main_arg5) = m ((c.tc : Thread Cert.RecFwdIdeal.nD Cert.RecFwdIdeal.τ).loc Cert.RecFwdIdeal.main_arg5)
          ∧ r.2.mem ((c.tc : Thread Cert.RecFwdIdeal.nD Cert.RecFwdIdeal.τ).loc Cert.RecFwdIdeal.main_arg6) = m ((c.tc : Thread Cert.RecFwdIdeal.nD Cert.RecFwdIdeal.τ).loc Cert.RecFwdIdeal.main_arg6)
          ∧ r.2.mem ((c.tc : Thread Cert.RecFwdIdeal.nD Cert.RecFwdIdeal.τ).loc Cert.RecFwdIdeal.main_arg7) = m ((c.tc : Thread Cert.RecFwdIdeal.nD Cert.RecFwdIdeal.τ).loc Cert.RecFwdIdeal.main_arg7))
      ∧ θ_run (Cert.RecDecayIdeal.defs (F := Ideal)) (onTc (τ := Cert.RecDecayIdeal.τ) (Cert.RecDecayIdeal.main (F := Ideal))) ⟨m', fun _ => 0, g'⟩ (fun r => ∀ c : Dev Cert.RecDecayIdeal.nD,
          r.2.mem ((c.tc : Thread Cert.RecDecayIdeal.nD Cert.RecDecayIdeal.τ).loc Cert.RecDecayIdeal.main_v58) = v0 c
          ∧ r.2.mem ((c.tc : Thread Cert.RecDecayIdeal.nD Cert.RecDecayIdeal.τ).loc Cert.RecDecayIdeal.main_v85) = v1 c
          ∧ r.2.mem ((c.tc : Thread Cert.RecDecayIdeal.nD Cert.RecDecayIdeal.τ).loc Cert.RecDecayIdeal.main_arg0) = m' ((c.tc : Thread Cert.RecDecayIdeal.nD Cert.RecDecayIdeal.τ).loc Cert.RecDecayIdeal.main_arg0)
          ∧ r.2.mem ((c.tc : Thread Cert.RecDecayIdeal.nD Cert.RecDecayIdeal.τ).loc Cert.RecDecayIdeal.main_arg1) = m' ((c.tc : Thread Cert.RecDecayIdeal.nD Cert.RecDecayIdeal.τ).loc Cert.RecDecayIdeal.main_arg1)
          ∧ r.2.mem ((c.tc : Thread Cert.RecDecayIdeal.nD Cert.RecDecayIdeal.τ).loc Cert.RecDecayIdeal.main_arg2) = m' ((c.tc : Thread Cert.RecDecayIdeal.nD Cert.RecDecayIdeal.τ).loc Cert.RecDecayIdeal.main_arg2)
          ∧ r.2.mem ((c.tc : Thread Cert.RecDecayIdeal.nD Cert.RecDecayIdeal.τ).loc Cert.RecDecayIdeal.main_arg3) = m' ((c.tc : Thread Cert.RecDecayIdeal.nD Cert.RecDecayIdeal.τ).loc Cert.RecDecayIdeal.main_arg3)
          ∧ r.2.mem ((c.tc : Thread Cert.RecDecayIdeal.nD Cert.RecDecayIdeal.τ).loc Cert.RecDecayIdeal.main_arg4) = m' ((c.tc : Thread Cert.RecDecayIdeal.nD Cert.RecDecayIdeal.τ).loc Cert.RecDecayIdeal.main_arg4)
          ∧ r.2.mem ((c.tc : Thread Cert.RecDecayIdeal.nD Cert.RecDecayIdeal.τ).loc Cert.RecDecayIdeal.main_arg5) = m' ((c.tc : Thread Cert.RecDecayIdeal.nD Cert.RecDecayIdeal.τ).loc Cert.RecDecayIdeal.main_arg5)
          ∧ r.2.mem ((c.tc : Thread Cert.RecDecayIdeal.nD Cert.RecDecayIdeal.τ).loc Cert.RecDecayIdeal.main_arg6) = m' ((c.tc : Thread Cert.RecDecayIdeal.nD Cert.RecDecayIdeal.τ).loc Cert.RecDecayIdeal.main_arg6)
          ∧ r.2.mem ((c.tc : Thread Cert.RecDecayIdeal.nD Cert.RecDecayIdeal.τ).loc Cert.RecDecayIdeal.main_arg7) = m' ((c.tc : Thread Cert.RecDecayIdeal.nD Cert.RecDecayIdeal.τ).loc Cert.RecDecayIdeal.main_arg7))

def Claim : Prop :=
  ∃ (hMixBwd : Cert.MixBwd.Facts) (hMixBwdIdeal : Cert.MixBwdIdeal.Facts) (hMixGradIdeal : Cert.MixGradIdeal.Facts) (hNormBwd : Cert.NormBwd.Facts) (hNormBwdIdeal : Cert.NormBwdIdeal.Facts) (hNormGradIdeal : Cert.NormGradIdeal.Facts) (hFfnLoss : Cert.FfnLoss.Facts) (hFfnLossIdeal : Cert.FfnLossIdeal.Facts) (hFfnGradIdeal : Cert.FfnGradIdeal.Facts) (hAttBwd : Cert.AttBwd.Facts) (hAttBwdIdeal : Cert.AttBwdIdeal.Facts) (hAttGradIdeal : Cert.AttGradIdeal.Facts) (hAttFwd : Cert.AttFwd.Facts) (hAttFwdIdeal : Cert.AttFwdIdeal.Facts) (hAttOutIdeal : Cert.AttOutIdeal.Facts) (hMixFwd : Cert.MixFwd.Facts) (hMixFwdIdeal : Cert.MixFwdIdeal.Facts) (hMixOutIdeal : Cert.MixOutIdeal.Facts) (hProjFwd : Cert.ProjFwd.Facts) (hProjFwdIdeal : Cert.ProjFwdIdeal.Facts) (hProjOutIdeal : Cert.ProjOutIdeal.Facts) (hRecFwd : Cert.RecFwd.Facts) (hRecFwdIdeal : Cert.RecFwdIdeal.Facts) (hRecDecayIdeal : Cert.RecDecayIdeal.Facts) (hPre_finite_norm1 : Cert.Pre_finite_norm1.Facts) (hPre_finite_ffn : Cert.Pre_finite_ffn.Facts) (hPre_finite_att : Cert.Pre_finite_att.Facts) (hPre_finite_out : Cert.Pre_finite_out.Facts),
    quiescent_MixBwd (hMixBwd := hMixBwd)
    ∧ quiescent_MixBwdIdeal (hMixBwdIdeal := hMixBwdIdeal)
    ∧ quiescent_MixGradIdeal (hMixGradIdeal := hMixGradIdeal)
    ∧ quiescent_NormBwd (hNormBwd := hNormBwd)
    ∧ quiescent_NormBwdIdeal (hNormBwdIdeal := hNormBwdIdeal)
    ∧ quiescent_NormBwdIdeal_pre_finite_norm1 (hNormBwdIdeal := hNormBwdIdeal) (hPre_finite_norm1 := hPre_finite_norm1)
    ∧ quiescent_NormGradIdeal (hNormGradIdeal := hNormGradIdeal)
    ∧ quiescent_NormGradIdeal_pre_finite_norm1 (hNormGradIdeal := hNormGradIdeal) (hPre_finite_norm1 := hPre_finite_norm1)
    ∧ quiescent_FfnLoss (hFfnLoss := hFfnLoss)
    ∧ quiescent_FfnLossIdeal (hFfnLossIdeal := hFfnLossIdeal)
    ∧ quiescent_FfnLossIdeal_pre_finite_ffn (hFfnLossIdeal := hFfnLossIdeal) (hPre_finite_ffn := hPre_finite_ffn)
    ∧ quiescent_FfnGradIdeal (hFfnGradIdeal := hFfnGradIdeal)
    ∧ quiescent_FfnGradIdeal_pre_finite_ffn (hFfnGradIdeal := hFfnGradIdeal) (hPre_finite_ffn := hPre_finite_ffn)
    ∧ quiescent_AttBwd (hAttBwd := hAttBwd)
    ∧ quiescent_AttBwdIdeal (hAttBwdIdeal := hAttBwdIdeal)
    ∧ quiescent_AttBwdIdeal_pre_finite_att (hAttBwdIdeal := hAttBwdIdeal) (hPre_finite_att := hPre_finite_att)
    ∧ quiescent_AttGradIdeal (hAttGradIdeal := hAttGradIdeal)
    ∧ quiescent_AttGradIdeal_pre_finite_att (hAttGradIdeal := hAttGradIdeal) (hPre_finite_att := hPre_finite_att)
    ∧ quiescent_AttFwd (hAttFwd := hAttFwd)
    ∧ quiescent_AttFwdIdeal (hAttFwdIdeal := hAttFwdIdeal)
    ∧ quiescent_AttFwdIdeal_pre_finite_out (hAttFwdIdeal := hAttFwdIdeal) (hPre_finite_out := hPre_finite_out)
    ∧ quiescent_AttOutIdeal (hAttOutIdeal := hAttOutIdeal)
    ∧ quiescent_AttOutIdeal_pre_finite_out (hAttOutIdeal := hAttOutIdeal) (hPre_finite_out := hPre_finite_out)
    ∧ quiescent_MixFwd (hMixFwd := hMixFwd)
    ∧ quiescent_MixFwdIdeal (hMixFwdIdeal := hMixFwdIdeal)
    ∧ quiescent_MixOutIdeal (hMixOutIdeal := hMixOutIdeal)
    ∧ quiescent_ProjFwd (hProjFwd := hProjFwd)
    ∧ quiescent_ProjFwdIdeal (hProjFwdIdeal := hProjFwdIdeal)
    ∧ quiescent_ProjOutIdeal (hProjOutIdeal := hProjOutIdeal)
    ∧ quiescent_RecFwd (hRecFwd := hRecFwd)
    ∧ quiescent_RecFwdIdeal (hRecFwdIdeal := hRecFwdIdeal)
    ∧ quiescent_RecDecayIdeal (hRecDecayIdeal := hRecDecayIdeal)
    ∧ preserves_MixBwd_MixBwdIdeal
    ∧ algebraic_MixBwdIdeal_MixGradIdeal (hMixBwdIdeal := hMixBwdIdeal) (hMixGradIdeal := hMixGradIdeal)
    ∧ preserves_NormBwd_NormBwdIdeal
    ∧ algebraic_NormBwdIdeal_NormGradIdeal_pre_finite_norm1 (hNormBwdIdeal := hNormBwdIdeal) (hNormGradIdeal := hNormGradIdeal) (hPre_finite_norm1 := hPre_finite_norm1)
    ∧ preserves_FfnLoss_FfnLossIdeal
    ∧ algebraic_FfnLossIdeal_FfnGradIdeal_pre_finite_ffn (hFfnLossIdeal := hFfnLossIdeal) (hFfnGradIdeal := hFfnGradIdeal) (hPre_finite_ffn := hPre_finite_ffn)
    ∧ preserves_AttBwd_AttBwdIdeal
    ∧ algebraic_AttBwdIdeal_AttGradIdeal_pre_finite_att (hAttBwdIdeal := hAttBwdIdeal) (hAttGradIdeal := hAttGradIdeal) (hPre_finite_att := hPre_finite_att)
    ∧ preserves_AttFwd_AttFwdIdeal
    ∧ algebraic_AttFwdIdeal_AttOutIdeal_pre_finite_out (hAttFwdIdeal := hAttFwdIdeal) (hAttOutIdeal := hAttOutIdeal) (hPre_finite_out := hPre_finite_out)
    ∧ preserves_MixFwd_MixFwdIdeal
    ∧ algebraic_MixFwdIdeal_MixOutIdeal (hMixFwdIdeal := hMixFwdIdeal) (hMixOutIdeal := hMixOutIdeal)
    ∧ preserves_ProjFwd_ProjFwdIdeal
    ∧ algebraic_ProjFwdIdeal_ProjOutIdeal (hProjFwdIdeal := hProjFwdIdeal) (hProjOutIdeal := hProjOutIdeal)
    ∧ preserves_RecFwd_RecFwdIdeal
    ∧ algebraic_RecFwdIdeal_RecDecayIdeal (hRecFwdIdeal := hRecFwdIdeal) (hRecDecayIdeal := hRecDecayIdeal)
-- ==== Pre_finite_att.lean ====
abbrev S2048x1536 : Shape := ⟨2, ![2048, 1536]⟩
abbrev S8x15x31 : Shape := ⟨3, ![8, 15, 31]⟩
abbrev S2048x512 : Shape := ⟨2, ![2048, 512]⟩
abbrev S_ : Shape := ⟨0, ![]⟩

class Facts : Prop where
  bcast_S_S2048x1536 : S_.BroadcastsInDim S2048x1536 (![] : Fin 0 → Fin S2048x1536.rank)
  bcast_S_S8x15x31 : S_.BroadcastsInDim S8x15x31 (![] : Fin 0 → Fin S8x15x31.rank)

variable [Facts]

def fn {F : FTy → Type} [FloatOps F] (main_arg0 : FVec F S2048x1536 .f32) (main_arg1 : FVec F S8x15x31 .f32) (main_arg2 : FVec F S2048x512 .f32) : IVec S2048x1536 1 × IVec S8x15x31 1 :=
  let main_v0 : FVec F S2048x1536 .f32 := Host.absf main_arg0
  let main_cst : FVec F S_ .f32 := constant S_ .f32 0x7F800000#32
  let main_v1 : FVec F S2048x1536 .f32 := broadcastInDim S2048x1536 ![] bcast_S_S2048x1536 main_cst
  let main_v2 : IVec S2048x1536 1 := cmpf .olt main_v0 main_v1
  let main_v3 : FVec F S8x15x31 .f32 := Host.absf main_arg1
  let main_cst_0 : FVec F S_ .f32 := constant S_ .f32 0x7F800000#32
  let main_v4 : FVec F S8x15x31 .f32 := broadcastInDim S8x15x31 ![] bcast_S_S8x15x31 main_cst_0
  let main_v5 : IVec S8x15x31 1 := cmpf .olt main_v3 main_v4
  (main_v2, main_v5)
-- ==== Pre_finite_ffn.lean ====
abbrev S2048x1024 : Shape := ⟨2, ![2048, 1024]⟩
abbrev S1x1024 : Shape := ⟨2, ![1, 1024]⟩
abbrev S1024 : Shape := ⟨1, ![1024]⟩
abbrev S1024x4096 : Shape := ⟨2, ![1024, 4096]⟩
abbrev S4096x1024 : Shape := ⟨2, ![4096, 1024]⟩
abbrev S_ : Shape := ⟨0, ![]⟩

class Facts : Prop where
  bcast_S_S2048x1024 : S_.BroadcastsInDim S2048x1024 (![] : Fin 0 → Fin S2048x1024.rank)
  bcast_S_S1x1024 : S_.BroadcastsInDim S1x1024 (![] : Fin 0 → Fin S1x1024.rank)
  bcast_S_S1024 : S_.BroadcastsInDim S1024 (![] : Fin 0 → Fin S1024.rank)
  bcast_S_S1024x4096 : S_.BroadcastsInDim S1024x4096 (![] : Fin 0 → Fin S1024x4096.rank)
  bcast_S_S4096x1024 : S_.BroadcastsInDim S4096x1024 (![] : Fin 0 → Fin S4096x1024.rank)

variable [Facts]

def fn {F : FTy → Type} [FloatOps F] (main_arg0 : FVec F S2048x1024 .f32) (main_arg1 : FVec F S2048x1024 .f32) (main_arg2 : FVec F S1x1024 .f32) (main_arg3 : FVec F S1024 .f32) (main_arg4 : FVec F S1024x4096 .f32) (main_arg5 : FVec F S4096x1024 .f32) : IVec S2048x1024 1 × IVec S2048x1024 1 × IVec S1x1024 1 × IVec S1024 1 × IVec S1024x4096 1 × IVec S4096x1024 1 :=
  let main_v0 : FVec F S2048x1024 .f32 := Host.absf main_arg0
  let main_cst : FVec F S_ .f32 := constant S_ .f32 0x7F800000#32
  let main_v1 : FVec F S2048x1024 .f32 := broadcastInDim S2048x1024 ![] bcast_S_S2048x1024 main_cst
  let main_v2 : IVec S2048x1024 1 := cmpf .olt main_v0 main_v1
  let main_v3 : FVec F S2048x1024 .f32 := Host.absf main_arg1
  let main_cst_0 : FVec F S_ .f32 := constant S_ .f32 0x7F800000#32
  let main_v4 : FVec F S2048x1024 .f32 := broadcastInDim S2048x1024 ![] bcast_S_S2048x1024 main_cst_0
  let main_v5 : IVec S2048x1024 1 := cmpf .olt main_v3 main_v4
  let main_v6 : FVec F S1x1024 .f32 := Host.absf main_arg2
  let main_cst_1 : FVec F S_ .f32 := constant S_ .f32 0x7F800000#32
  let main_v7 : FVec F S1x1024 .f32 := broadcastInDim S1x1024 ![] bcast_S_S1x1024 main_cst_1
  let main_v8 : IVec S1x1024 1 := cmpf .olt main_v6 main_v7
  let main_v9 : FVec F S1024 .f32 := Host.absf main_arg3
  let main_cst_2 : FVec F S_ .f32 := constant S_ .f32 0x7F800000#32
  let main_v10 : FVec F S1024 .f32 := broadcastInDim S1024 ![] bcast_S_S1024 main_cst_2
  let main_v11 : IVec S1024 1 := cmpf .olt main_v9 main_v10
  let main_v12 : FVec F S1024x4096 .f32 := Host.absf main_arg4
  let main_cst_3 : FVec F S_ .f32 := constant S_ .f32 0x7F800000#32
  let main_v13 : FVec F S1024x4096 .f32 := broadcastInDim S1024x4096 ![] bcast_S_S1024x4096 main_cst_3
  let main_v14 : IVec S1024x4096 1 := cmpf .olt main_v12 main_v13
  let main_v15 : FVec F S4096x1024 .f32 := Host.absf main_arg5
  let main_cst_4 : FVec F S_ .f32 := constant S_ .f32 0x7F800000#32
  let main_v16 : FVec F S4096x1024 .f32 := broadcastInDim S4096x1024 ![] bcast_S_S4096x1024 main_cst_4
  let main_v17 : IVec S4096x1024 1 := cmpf .olt main_v15 main_v16
  (main_v2, main_v5, main_v8, main_v11, main_v14, main_v17)
-- ==== Pre_finite_norm1.lean ====
abbrev S3x2048x512 : Shape := ⟨3, ![3, 2048, 512]⟩
abbrev S2x2048x1024 : Shape := ⟨3, ![2, 2048, 1024]⟩
abbrev S1024x5632 : Shape := ⟨2, ![1024, 5632]⟩
abbrev S2048x1024 : Shape := ⟨2, ![2048, 1024]⟩
abbrev S1x1024 : Shape := ⟨2, ![1, 1024]⟩
abbrev S_ : Shape := ⟨0, ![]⟩

class Facts : Prop where
  bcast_S_S3x2048x512 : S_.BroadcastsInDim S3x2048x512 (![] : Fin 0 → Fin S3x2048x512.rank)
  bcast_S_S2x2048x1024 : S_.BroadcastsInDim S2x2048x1024 (![] : Fin 0 → Fin S2x2048x1024.rank)
  bcast_S_S1024x5632 : S_.BroadcastsInDim S1024x5632 (![] : Fin 0 → Fin S1024x5632.rank)
  bcast_S_S2048x1024 : S_.BroadcastsInDim S2048x1024 (![] : Fin 0 → Fin S2048x1024.rank)
  bcast_S_S1x1024 : S_.BroadcastsInDim S1x1024 (![] : Fin 0 → Fin S1x1024.rank)

variable [Facts]

def fn {F : FTy → Type} [FloatOps F] (main_arg0 : FVec F S3x2048x512 .f32) (main_arg1 : FVec F S2x2048x1024 .f32) (main_arg2 : FVec F S2x2048x1024 .f32) (main_arg3 : FVec F S1024x5632 .f32) (main_arg4 : FVec F S2048x1024 .f32) (main_arg5 : FVec F S1x1024 .f32) (main_arg6 : FVec F S2048x1024 .f32) : IVec S3x2048x512 1 × IVec S2x2048x1024 1 × IVec S2x2048x1024 1 × IVec S1024x5632 1 × IVec S2048x1024 1 × IVec S1x1024 1 :=
  let main_v0 : FVec F S3x2048x512 .f32 := Host.absf main_arg0
  let main_cst : FVec F S_ .f32 := constant S_ .f32 0x7F800000#32
  let main_v1 : FVec F S3x2048x512 .f32 := broadcastInDim S3x2048x512 ![] bcast_S_S3x2048x512 main_cst
  let main_v2 : IVec S3x2048x512 1 := cmpf .olt main_v0 main_v1
  let main_v3 : FVec F S2x2048x1024 .f32 := Host.absf main_arg1
  let main_cst_0 : FVec F S_ .f32 := constant S_ .f32 0x7F800000#32
  let main_v4 : FVec F S2x2048x1024 .f32 := broadcastInDim S2x2048x1024 ![] bcast_S_S2x2048x1024 main_cst_0
  let main_v5 : IVec S2x2048x1024 1 := cmpf .olt main_v3 main_v4
  let main_v6 : FVec F S2x2048x1024 .f32 := Host.absf main_arg2
  let main_cst_1 : FVec F S_ .f32 := constant S_ .f32 0x7F800000#32
  let main_v7 : FVec F S2x2048x1024 .f32 := broadcastInDim S2x2048x1024 ![] bcast_S_S2x2048x1024 main_cst_1
  let main_v8 : IVec S2x2048x1024 1 := cmpf .olt main_v6 main_v7
  let main_v9 : FVec F S1024x5632 .f32 := Host.absf main_arg3
  let main_cst_2 : FVec F S_ .f32 := constant S_ .f32 0x7F800000#32
  let main_v10 : FVec F S1024x5632 .f32 := broadcastInDim S1024x5632 ![] bcast_S_S1024x5632 main_cst_2
  let main_v11 : IVec S1024x5632 1 := cmpf .olt main_v9 main_v10
  let main_v12 : FVec F S2048x1024 .f32 := Host.absf main_arg4
  let main_cst_3 : FVec F S_ .f32 := constant S_ .f32 0x7F800000#32
  let main_v13 : FVec F S2048x1024 .f32 := broadcastInDim S2048x1024 ![] bcast_S_S2048x1024 main_cst_3
  let main_v14 : IVec S2048x1024 1 := cmpf .olt main_v12 main_v13
  let main_v15 : FVec F S1x1024 .f32 := Host.absf main_arg5
  let main_cst_4 : FVec F S_ .f32 := constant S_ .f32 0x7F800000#32
  let main_v16 : FVec F S1x1024 .f32 := broadcastInDim S1x1024 ![] bcast_S_S1x1024 main_cst_4
  let main_v17 : IVec S1x1024 1 := cmpf .olt main_v15 main_v16
  (main_v2, main_v5, main_v8, main_v11, main_v14, main_v17)
-- ==== Pre_finite_out.lean ====
abbrev S2048x1536 : Shape := ⟨2, ![2048, 1536]⟩
abbrev S8x15x31 : Shape := ⟨3, ![8, 15, 31]⟩
abbrev S_ : Shape := ⟨0, ![]⟩

class Facts : Prop where
  bcast_S_S2048x1536 : S_.BroadcastsInDim S2048x1536 (![] : Fin 0 → Fin S2048x1536.rank)
  bcast_S_S8x15x31 : S_.BroadcastsInDim S8x15x31 (![] : Fin 0 → Fin S8x15x31.rank)

variable [Facts]

def fn {F : FTy → Type} [FloatOps F] (main_arg0 : FVec F S2048x1536 .f32) (main_arg1 : FVec F S8x15x31 .f32) : IVec S2048x1536 1 × IVec S8x15x31 1 :=
  let main_v0 : FVec F S2048x1536 .f32 := Host.absf main_arg0
  let main_cst : FVec F S_ .f32 := constant S_ .f32 0x7F800000#32
  let main_v1 : FVec F S2048x1536 .f32 := broadcastInDim S2048x1536 ![] bcast_S_S2048x1536 main_cst
  let main_v2 : IVec S2048x1536 1 := cmpf .olt main_v0 main_v1
  let main_v3 : FVec F S8x15x31 .f32 := Host.absf main_arg1
  let main_cst_0 : FVec F S_ .f32 := constant S_ .f32 0x7F800000#32
  let main_v4 : FVec F S8x15x31 .f32 := broadcastInDim S8x15x31 ![] bcast_S_S8x15x31 main_cst_0
  let main_v5 : IVec S8x15x31 1 := cmpf .olt main_v3 main_v4
  (main_v2, main_v5)
-- ==== MixBwd.lean ====
abbrev S2048x1024 : Shape := ⟨2, ![2048, 1024]⟩
abbrev S2048x512 : Shape := ⟨2, ![2048, 512]⟩
abbrev S2048x2048 : Shape := ⟨2, ![2048, 2048]⟩
abbrev S512x1024 : Shape := ⟨2, ![512, 1024]⟩
abbrev S1024x1024 : Shape := ⟨2, ![1024, 1024]⟩
abbrev S1024x512 : Shape := ⟨2, ![1024, 512]⟩
abbrev S_ : Shape := ⟨0, ![]⟩
abbrev S8x128 : Shape := ⟨2, ![8, 128]⟩
abbrev S2x2048x1024 : Shape := ⟨3, ![2, 2048, 1024]⟩
abbrev S256x1024 : Shape := ⟨2, ![256, 1024]⟩
abbrev S256x512 : Shape := ⟨2, ![256, 512]⟩
abbrev S2x256x1024 : Shape := ⟨3, ![2, 256, 1024]⟩
abbrev S1x256x1024 : Shape := ⟨3, ![1, 256, 1024]⟩

abbrev nBuf : Space → Nat
  | .hbm => 20
  | .vmem => 23
  | .smem => 0
  | _ => 0

abbrev bufTy : (tb : Table) → Fin (tcTables nBuf tb) → BufTy
  | .hbm, ⟨0, _⟩ => ⟨S2048x1024, .f32⟩
  | .hbm, ⟨1, _⟩ => ⟨S2048x512, .f32⟩
  | .hbm, ⟨2, _⟩ => ⟨S2048x1024, .f32⟩
  | .hbm, ⟨3, _⟩ => ⟨S2048x2048, .f32⟩
  | .hbm, ⟨4, _⟩ => ⟨S512x1024, .f32⟩
  | .hbm, ⟨5, _⟩ => ⟨S1024x1024, .f32⟩
  | .hbm, ⟨6, _⟩ => ⟨S1024x1024, .f32⟩
  | .hbm, ⟨7, _⟩ => ⟨S2048x512, .bf16⟩
  | .hbm, ⟨8, _⟩ => ⟨S2048x1024, .bf16⟩
  | .hbm, ⟨9, _⟩ => ⟨S1024x512, .f32⟩
  | .hbm, ⟨10, _⟩ => ⟨S1024x512, .bf16⟩
  | .hbm, ⟨11, _⟩ => ⟨S1024x1024, .bf16⟩
  | .hbm, ⟨12, _⟩ => ⟨S1024x1024, .bf16⟩
  | .hbm, ⟨13, _⟩ => ⟨S_, .f32⟩
  | .hbm, ⟨14, _⟩ => ⟨S8x128, .f32⟩
  | .hbm, ⟨15, _⟩ => ⟨S2x2048x1024, .bf16⟩
  | .hbm, ⟨16, _⟩ => ⟨S2048x1024, .bf16⟩
  | .hbm, ⟨17, _⟩ => ⟨S2048x1024, .bf16⟩
  | .hbm, ⟨18, _⟩ => ⟨S2048x512, .bf16⟩
  | .hbm, ⟨19, _⟩ => ⟨S2048x1024, .f32⟩
  | .local _ .vmem, ⟨0, _⟩ => ⟨S256x1024, .f32⟩
  | .local _ .vmem, ⟨1, _⟩ => ⟨S256x1024, .f32⟩
  | .local _ .vmem, ⟨2, _⟩ => ⟨S256x512, .bf16⟩
  | .local _ .vmem, ⟨3, _⟩ => ⟨S256x512, .bf16⟩
  | .local _ .vmem, ⟨4, _⟩ => ⟨S256x1024, .bf16⟩
  | .local _ .vmem, ⟨5, _⟩ => ⟨S256x1024, .bf16⟩
  | .local _ .vmem, ⟨6, _⟩ => ⟨S256x1024, .f32⟩
  | .local _ .vmem, ⟨7, _⟩ => ⟨S256x1024, .f32⟩
  | .local _ .vmem, ⟨8, _⟩ => ⟨S256x1024, .f32⟩
  | .local _ .vmem, ⟨9, _⟩ => ⟨S256x1024, .f32⟩
  | .local _ .vmem, ⟨10, _⟩ => ⟨S1024x512, .bf16⟩
  | .local _ .vmem, ⟨11, _⟩ => ⟨S1024x1024, .bf16⟩
  | .local _ .vmem, ⟨12, _⟩ => ⟨S1024x1024, .bf16⟩
  | .local _ .vmem, ⟨13, _⟩ => ⟨S2x256x1024, .bf16⟩
  | .local _ .vmem, ⟨14, _⟩ => ⟨S2x256x1024, .bf16⟩
  | .local _ .vmem, ⟨15, _⟩ => ⟨S256x1024, .bf16⟩
  | .local _ .vmem, ⟨16, _⟩ => ⟨S256x1024, .bf16⟩
  | .local _ .vmem, ⟨17, _⟩ => ⟨S256x1024, .bf16⟩
  | .local _ .vmem, ⟨18, _⟩ => ⟨S256x1024, .bf16⟩
  | .local _ .vmem, ⟨19, _⟩ => ⟨S256x512, .bf16⟩
  | .local _ .vmem, ⟨20, _⟩ => ⟨S256x512, .bf16⟩
  | .local _ .vmem, ⟨21, _⟩ => ⟨S256x1024, .f32⟩
  | .local _ .vmem, ⟨22, _⟩ => ⟨S256x1024, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst : Ref sig .tc := ⟨.hbm, 13, rfl⟩
abbrev main_v6 : Ref sig .tc := ⟨.hbm, 14, rfl⟩
abbrev main_v7_0 : Ref sig .tc := ⟨.hbm, 15, rfl⟩
abbrev main_v7_1 : Ref sig .tc := ⟨.hbm, 16, rfl⟩
abbrev main_v7_2 : Ref sig .tc := ⟨.hbm, 17, rfl⟩
abbrev main_v7_3 : Ref sig .tc := ⟨.hbm, 18, rfl⟩
abbrev main_v7_4 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc0_stg10_0 : Ref sig .tc := ⟨.vmem, 17, rfl⟩
abbrev cc0_stg10_1 : Ref sig .tc := ⟨.vmem, 18, rfl⟩
abbrev cc0_stg11_0 : Ref sig .tc := ⟨.vmem, 19, rfl⟩
abbrev cc0_stg11_1 : Ref sig .tc := ⟨.vmem, 20, rfl⟩
abbrev cc0_stg12_0 : Ref sig .tc := ⟨.vmem, 21, rfl⟩
abbrev cc0_stg12_1 : Ref sig .tc := ⟨.vmem, 22, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem8_1 : DmaSem sig := 14
abbrev cc0_sem9_0 : DmaSem sig := 15
abbrev cc0_sem9_1 : DmaSem sig := 16
abbrev cc0_sem10_0 : DmaSem sig := 17
abbrev cc0_sem10_1 : DmaSem sig := 18
abbrev cc0_sem11_0 : DmaSem sig := 19
abbrev cc0_sem11_1 : DmaSem sig := 20
abbrev cc0_sem12_0 : DmaSem sig := 21
abbrev cc0_sem12_1 : DmaSem sig := 22

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1024x512 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1024x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S2x256x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S256x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S256x512 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S256x1024 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]
-- ==== MixGradIdeal.lean ====
abbrev S2048x1024 : Shape := ⟨2, ![2048, 1024]⟩
abbrev S2048x512 : Shape := ⟨2, ![2048, 512]⟩
abbrev S2048x2048 : Shape := ⟨2, ![2048, 2048]⟩
abbrev S512x1024 : Shape := ⟨2, ![512, 1024]⟩
abbrev S1024x1024 : Shape := ⟨2, ![1024, 1024]⟩
abbrev S_ : Shape := ⟨0, ![]⟩
abbrev S1x2048x1024 : Shape := ⟨3, ![1, 2048, 1024]⟩
abbrev S2x2048x1024 : Shape := ⟨3, ![2, 2048, 1024]⟩

abbrev nBuf : Space → Nat
  | .hbm => 58
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S2048x512, .f32⟩
  | .hbm, ⟨2, _⟩ => ⟨S2048x1024, .f32⟩
  | .hbm, ⟨3, _⟩ => ⟨S2048x2048, .f32⟩
  | .hbm, ⟨4, _⟩ => ⟨S512x1024, .f32⟩
  | .hbm, ⟨5, _⟩ => ⟨S1024x1024, .f32⟩
  | .hbm, ⟨6, _⟩ => ⟨S1024x1024, .f32⟩
  | .hbm, ⟨7, _⟩ => ⟨S2048x1024, .f32⟩
  | .hbm, ⟨8, _⟩ => ⟨S2048x1024, .f32⟩
  | .hbm, ⟨9, _⟩ => ⟨S2048x1024, .f32⟩
  | .hbm, ⟨10, _⟩ => ⟨S2048x1024, .f32⟩
  | .hbm, ⟨11, _⟩ => ⟨S2048x1024, .f32⟩
  | .hbm, ⟨12, _⟩ => ⟨S2048x1024, .f32⟩
  | .hbm, ⟨13, _⟩ => ⟨S_, .f32⟩
  | .hbm, ⟨14, _⟩ => ⟨S2048x1024, .f32⟩
  | .hbm, ⟨15, _⟩ => ⟨S2048x1024, .f32⟩
  | .hbm, ⟨16, _⟩ => ⟨S_, .f32⟩
  | .hbm, ⟨17, _⟩ => ⟨S2048x1024, .f32⟩
  | .hbm, ⟨18, _⟩ => ⟨S2048x1024, .f32⟩
  | .hbm, ⟨19, _⟩ => ⟨S_, .f32⟩
  | .hbm, ⟨20, _⟩ => ⟨S2048x1024, .f32⟩
  | .hbm, ⟨21, _⟩ => ⟨S2048x1024, .f32⟩
  | .hbm, ⟨22, _⟩ => ⟨S2048x1024, .f32⟩
  | .hbm, ⟨23, _⟩ => ⟨S2048x1024, .f32⟩
  | .hbm, ⟨24, _⟩ => ⟨S2048x1024, .f32⟩
  | .hbm, ⟨25, _⟩ => ⟨S2048x1024, .f32⟩
  | .hbm, ⟨26, _⟩ => ⟨S_, .f32⟩
  | .hbm, ⟨27, _⟩ => ⟨S2048x1024, .f32⟩
  | .hbm, ⟨28, _⟩ => ⟨S2048x1024, .f32⟩
  | .hbm, ⟨29, _⟩ => ⟨S_, .f32⟩
  | .hbm, ⟨30, _⟩ => ⟨S2048x1024, .f32⟩
  | .hbm, ⟨31, _⟩ => ⟨S2048x1024, .f32⟩
  | .hbm, ⟨32, _⟩ => ⟨S_, .f32⟩
  | .hbm, ⟨33, _⟩ => ⟨S2048x1024, .f32⟩
  | .hbm, ⟨34, _⟩ => ⟨S2048x1024, .f32⟩
  | .hbm, ⟨35, _⟩ => ⟨S2048x1024, .f32⟩
  | .hbm, ⟨36, _⟩ => ⟨S2048x1024, .f32⟩
  | .hbm, ⟨37, _⟩ => ⟨S2048x1024, .f32⟩
  | .hbm, ⟨38, _⟩ => ⟨S2048x1024, .f32⟩
  | .hbm, ⟨39, _⟩ => ⟨S2048x1024, .f32⟩
  | .hbm, ⟨40, _⟩ => ⟨S2048x1024, .f32⟩
  | .hbm, ⟨41, _⟩ => ⟨S2048x1024, .f32⟩
  | .hbm, ⟨42, _⟩ => ⟨S2048x1024, .f32⟩
  | .hbm, ⟨43, _⟩ => ⟨S2048x1024, .f32⟩
  | .hbm, ⟨44, _⟩ => ⟨S2048x1024, .f32⟩
  | .hbm, ⟨45, _⟩ => ⟨S2048x1024, .f32⟩
  | .hbm, ⟨46, _⟩ => ⟨S2048x2048, .f32⟩
  | .hbm, ⟨47, _⟩ => ⟨S2048x1024, .f32⟩
  | .hbm, ⟨48, _⟩ => ⟨S2048x512, .f32⟩
  | .hbm, ⟨49, _⟩ => ⟨S2048x1024, .f32⟩
  | .hbm, ⟨50, _⟩ => ⟨S2048x1024, .f32⟩
  | .hbm, ⟨51, _⟩ => ⟨S1x2048x1024, .f32⟩
  | .hbm, ⟨52, _⟩ => ⟨S1x2048x1024, .f32⟩
  | .hbm, ⟨53, _⟩ => ⟨S2x2048x1024, .f32⟩
  | .hbm, ⟨54, _⟩ => ⟨S2x2048x1024, .bf16⟩
  | .hbm, ⟨55, _⟩ => ⟨S2048x1024, .bf16⟩
  | .hbm, ⟨56, _⟩ => ⟨S2048x1024, .bf16⟩
  | .hbm, ⟨57, _⟩ => ⟨S2048x512, .bf16⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst : Ref sig .tc := ⟨.hbm, 13, rfl⟩
abbrev main_v6 : Ref sig .tc := ⟨.hbm, 14, rfl⟩
abbrev main_v7 : Ref sig .tc := ⟨.hbm, 15, rfl⟩
abbrev main_cst_0 : Ref sig .tc := ⟨.hbm, 16, rfl⟩
abbrev main_v8 : Ref sig .tc := ⟨.hbm, 17, rfl⟩
abbrev main_v9 : Ref sig .tc := ⟨.hbm, 18, rfl⟩
abbrev main_cst_1 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_2 : Ref sig .tc := ⟨.hbm, 26, rfl⟩
abbrev main_v16 : Ref sig .tc := ⟨.hbm, 27, rfl⟩
abbrev main_v17 : Ref sig .tc := ⟨.hbm, 28, rfl⟩
abbrev main_cst_3 : Ref sig .tc := ⟨.hbm, 29, rfl⟩
abbrev main_v18 : Ref sig .tc := ⟨.hbm, 30, rfl⟩
abbrev main_v19 : Ref sig .tc := ⟨.hbm, 31, rfl⟩
abbrev main_cst_4 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩

abbrev nD : Nat := 1
abbrev τ : Topo := Topo.v7x

variable {F : FTy → Type} [FloatOps F]
-- ==== NormBwd.lean ====
abbrev S3x2048x512 : Shape := ⟨3, ![3, 2048, 512]⟩
abbrev S2x2048x1024 : Shape := ⟨3, ![2, 2048, 1024]⟩
abbrev S1024x5632 : Shape := ⟨2, ![1024, 5632]⟩
abbrev S2048x1024 : Shape := ⟨2, ![2048, 1024]⟩
abbrev S1x1024 : Shape := ⟨2, ![1, 1024]⟩
abbrev S5632x1024 : Shape := ⟨2, ![5632, 1024]⟩
abbrev S_ : Shape := ⟨0, ![]⟩
abbrev S8x128 : Shape := ⟨2, ![8, 128]⟩
abbrev S3x512x512 : Shape := ⟨3, ![3, 512, 512]⟩
abbrev S2x512x1024 : Shape := ⟨3, ![2, 512, 1024]⟩
abbrev S512x1024 : Shape := ⟨2, ![512, 1024]⟩
abbrev S1x512x512 : Shape := ⟨3, ![1, 512, 512]⟩
abbrev S512x512 : Shape := ⟨2, ![512, 512]⟩
abbrev S1x512x1024 : Shape := ⟨3, ![1, 512, 1024]⟩
abbrev S1024x1024 : Shape := ⟨2, ![1024, 1024]⟩
abbrev S512 : Shape := ⟨1, ![512]⟩
abbrev S512x1 : Shape := ⟨2, ![512, 1]⟩
abbrev S1024 : Shape := ⟨1, ![1024]⟩

abbrev nBuf : Space → Nat
  | .hbm => 16
  | .vmem => 15
  | .smem => 0
  | _ => 0

abbrev bufTy : (tb : Table) → Fin (tcTables nBuf tb) → BufTy
  | .hbm, ⟨0, _⟩ => ⟨S3x2048x512, .f32⟩
  | .hbm, ⟨1, _⟩ => ⟨S2x2048x1024, .f32⟩
  | .hbm, ⟨2, _⟩ => ⟨S2x2048x1024, .f32⟩
  | .hbm, ⟨3, _⟩ => ⟨S1024x5632, .f32⟩
  | .hbm, ⟨4, _⟩ => ⟨S2048x1024, .f32⟩
  | .hbm, ⟨5, _⟩ => ⟨S1x1024, .f32⟩
  | .hbm, ⟨6, _⟩ => ⟨S2048x1024, .f32⟩
  | .hbm, ⟨7, _⟩ => ⟨S3x2048x512, .bf16⟩
  | .hbm, ⟨8, _⟩ => ⟨S2x2048x1024, .bf16⟩
  | .hbm, ⟨9, _⟩ => ⟨S2x2048x1024, .bf16⟩
  | .hbm, ⟨10, _⟩ => ⟨S5632x1024, .f32⟩
  | .hbm, ⟨11, _⟩ => ⟨S5632x1024, .bf16⟩
  | .hbm, ⟨12, _⟩ => ⟨S_, .f32⟩
  | .hbm, ⟨13, _⟩ => ⟨S8x128, .f32⟩
  | .hbm, ⟨14, _⟩ => ⟨S2048x1024, .f32⟩
  | .hbm, ⟨15, _⟩ => ⟨S1x1024, .f32⟩
  | .local _ .vmem, ⟨0, _⟩ => ⟨S3x512x512, .bf16⟩
  | .local _ .vmem, ⟨1, _⟩ => ⟨S3x512x512, .bf16⟩
  | .local _ .vmem, ⟨2, _⟩ => ⟨S2x512x1024, .bf16⟩
  | .local _ .vmem, ⟨3, _⟩ => ⟨S2x512x1024, .bf16⟩
  | .local _ .vmem, ⟨4, _⟩ => ⟨S2x512x1024, .bf16⟩
  | .local _ .vmem, ⟨5, _⟩ => ⟨S2x512x1024, .bf16⟩
  | .local _ .vmem, ⟨6, _⟩ => ⟨S512x1024, .f32⟩
  | .local _ .vmem, ⟨7, _⟩ => ⟨S512x1024, .f32⟩
  | .local _ .vmem, ⟨8, _⟩ => ⟨S1x1024, .f32⟩
  | .local _ .vmem, ⟨9, _⟩ => ⟨S512x1024, .f32⟩
  | .local _ .vmem, ⟨10, _⟩ => ⟨S512x1024, .f32⟩
  | .local _ .vmem, ⟨11, _⟩ => ⟨S512x1024, .f32⟩
  | .local _ .vmem, ⟨12, _⟩ => ⟨S512x1024, .f32⟩
  | .local _ .vmem, ⟨13, _⟩ => ⟨S1x1024, .f32⟩
  | .local _ .vmem, ⟨14, _⟩ => ⟨S5632x1024, .bf16⟩
  | _, _ => ⟨S3x2048x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_cst : Ref sig .tc := ⟨.hbm, 12, rfl⟩
abbrev main_v5 : Ref sig .tc := ⟨.hbm, 13, rfl⟩
abbrev main_v6_0 : Ref sig .tc := ⟨.hbm, 14, rfl⟩
abbrev main_v6_1 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_scratch0 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13

abbrev nD : Nat := 1
abbrev τ : Topo := Topo.v7x

variable {F : FTy → Type} [FloatOps F]

abbrev grid0 : Pipeline.Grid := ⟨1, ![4], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S3x512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2x512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2x512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]
-- ==== NormGradIdeal.lean ====
abbrev S3x2048x512 : Shape := ⟨3, ![3, 2048, 512]⟩
abbrev S2x2048x1024 : Shape := ⟨3, ![2, 2048, 1024]⟩
abbrev S1024x5632 : Shape := ⟨2, ![1024, 5632]⟩
abbrev S2048x1024 : Shape := ⟨2, ![2048, 1024]⟩
abbrev S1x1024 : Shape := ⟨2, ![1, 1024]⟩
abbrev S1x2048x512 : Shape := ⟨3, ![1, 2048, 512]⟩
abbrev S2048x512 : Shape := ⟨2, ![2048, 512]⟩
abbrev S1x2048x1024 : Shape := ⟨3, ![1, 2048, 1024]⟩
abbrev S2048x5632 : Shape := ⟨2, ![2048, 5632]⟩
abbrev S_ : Shape := ⟨0, ![]⟩
abbrev S2048 : Shape := ⟨1, ![2048]⟩
abbrev S2048x1 : Shape := ⟨2, ![2048, 1]⟩
abbrev S1024 : Shape := ⟨1, ![1024]⟩

abbrev nBuf : Space → Nat
  | .hbm => 67
  | .vmem => 0
  | .smem => 0
  | _ => 0

abbrev bufTy : (tb : Table) → Fin (tcTables nBuf tb) → BufTy
  | .hbm, ⟨0, _⟩ => ⟨S3x2048x512, .f32⟩
  | .hbm, ⟨1, _⟩ => ⟨S2x2048x1024, .f32⟩
  | .hbm, ⟨2, _⟩ => ⟨S2x2048x1024, .f32⟩
  | .hbm, ⟨3, _⟩ => ⟨S1024x5632, .f32⟩
  | .hbm, ⟨4, _⟩ => ⟨S2048x1024, .f32⟩
  | .hbm, ⟨5, _⟩ => ⟨S1x1024, .f32⟩
  | .hbm, ⟨6, _⟩ => ⟨S2048x1024, .f32⟩
  | .hbm, ⟨7, _⟩ => ⟨S1x2048x512, .f32⟩
  | .hbm, ⟨8, _⟩ => ⟨S2048x512, .f32⟩
  | .hbm, ⟨9, _⟩ => ⟨S1x2048x512, .f32⟩
  | .hbm, ⟨10, _⟩ => ⟨S2048x512, .f32⟩
  | .hbm, ⟨11, _⟩ => ⟨S1x2048x512, .f32⟩
  | .hbm, ⟨12, _⟩ => ⟨S2048x512, .f32⟩
  | .hbm, ⟨13, _⟩ => ⟨S1x2048x1024, .f32⟩
  | .hbm, ⟨14, _⟩ => ⟨S2048x1024, .f32⟩
  | .hbm, ⟨15, _⟩ => ⟨S1x2048x1024, .f32⟩
  | .hbm, ⟨16, _⟩ => ⟨S2048x1024, .f32⟩
  | .hbm, ⟨17, _⟩ => ⟨S1x2048x1024, .f32⟩
  | .hbm, ⟨18, _⟩ => ⟨S2048x1024, .f32⟩
  | .hbm, ⟨19, _⟩ => ⟨S1x2048x1024, .f32⟩
  | .hbm, ⟨20, _⟩ => ⟨S2048x1024, .f32⟩
  | .hbm, ⟨21, _⟩ => ⟨S2048x5632, .f32⟩
  | .hbm, ⟨22, _⟩ => ⟨S2048x1024, .f32⟩
  | .hbm, ⟨23, _⟩ => ⟨S_, .f32⟩
  | .hbm, ⟨24, _⟩ => ⟨S2048, .f32⟩
  | .hbm, ⟨25, _⟩ => ⟨S2048x1, .f32⟩
  | .hbm, ⟨26, _⟩ => ⟨S_, .f32⟩
  | .hbm, ⟨27, _⟩ => ⟨S2048x1, .f32⟩
  | .hbm, ⟨28, _⟩ => ⟨S2048x1, .f32⟩
  | .hbm, ⟨29, _⟩ => ⟨S_, .f32⟩
  | .hbm, ⟨30, _⟩ => ⟨S2048x1, .f32⟩
  | .hbm, ⟨31, _⟩ => ⟨S2048x1, .f32⟩
  | .hbm, ⟨32, _⟩ => ⟨S2048x1, .f32⟩
  | .hbm, ⟨33, _⟩ => ⟨S2048x1, .f32⟩
  | .hbm, ⟨34, _⟩ => ⟨S_, .f32⟩
  | .hbm, ⟨35, _⟩ => ⟨S2048x1, .f32⟩
  | .hbm, ⟨36, _⟩ => ⟨S2048x1, .f32⟩
  | .hbm, ⟨37, _⟩ => ⟨S2048x1024, .f32⟩
  | .hbm, ⟨38, _⟩ => ⟨S2048x1024, .f32⟩
  | .hbm, ⟨39, _⟩ => ⟨S2048x1024, .f32⟩
  | .hbm, ⟨40, _⟩ => ⟨S2048x1024, .f32⟩
  | .hbm, ⟨41, _⟩ => ⟨S2048x5632, .f32⟩
  | .hbm, ⟨42, _⟩ => ⟨S2048x1024, .f32⟩
  | .hbm, ⟨43, _⟩ => ⟨S2048x1024, .f32⟩
  | .hbm, ⟨44, _⟩ => ⟨S_, .f32⟩
  | .hbm, ⟨45, _⟩ => ⟨S1024, .f32⟩
  | .hbm, ⟨46, _⟩ => ⟨S1x1024, .f32⟩
  | .hbm, ⟨47, _⟩ => ⟨S2048x1024, .f32⟩
  | .hbm, ⟨48, _⟩ => ⟨S2048x1024, .f32⟩
  | .hbm, ⟨49, _⟩ => ⟨S2048x1024, .f32⟩
  | .hbm, ⟨50, _⟩ => ⟨S_, .f32⟩
  | .hbm, ⟨51, _⟩ => ⟨S2048, .f32⟩
  | .hbm, ⟨52, _⟩ => ⟨S2048x1, .f32⟩
  | .hbm, ⟨53, _⟩ => ⟨S2048x1024, .f32⟩
  | .hbm, ⟨54, _⟩ => ⟨S2048x1024, .f32⟩
  | .hbm, ⟨55, _⟩ => ⟨S2048x1024, .f32⟩
  | .hbm, ⟨56, _⟩ => ⟨S2048x1, .f32⟩
  | .hbm, ⟨57, _⟩ => ⟨S_, .f32⟩
  | .hbm, ⟨58, _⟩ => ⟨S2048x1, .f32⟩
  | .hbm, ⟨59, _⟩ => ⟨S2048x1, .f32⟩
  | .hbm, ⟨60, _⟩ => ⟨S_, .f32⟩
  | .hbm, ⟨61, _⟩ => ⟨S2048, .f32⟩
  | .hbm, ⟨62, _⟩ => ⟨S2048x1024, .f32⟩
  | .hbm, ⟨63, _⟩ => ⟨S2048x1024, .f32⟩
  | .hbm, ⟨64, _⟩ => ⟨S2048x1024, .f32⟩
  | .hbm, ⟨65, _⟩ => ⟨S2048x1024, .f32⟩
  | .hbm, ⟨66, _⟩ => ⟨S2048x1024, .f32⟩
  | _, _ => ⟨S3x2048x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_cst : Ref sig .tc := ⟨.hbm, 23, rfl⟩
abbrev main_v16 : Ref sig .tc := ⟨.hbm, 24, rfl⟩
abbrev main_v17 : Ref sig .tc := ⟨.hbm, 25, rfl⟩
abbrev main_cst_0 : Ref sig .tc := ⟨.hbm, 26, rfl⟩
abbrev main_v18 : Ref sig .tc := ⟨.hbm, 27, rfl⟩
abbrev main_v19 : Ref sig .tc := ⟨.hbm, 28, rfl⟩
abbrev main_cst_1 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_cst_2 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_cst_3 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_cst_4 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_cst_5 : Ref sig .tc := ⟨.hbm, 57, rfl⟩
abbrev main_v44 : Ref sig .tc := ⟨.hbm, 58, rfl⟩
abbrev main_v45 : Ref sig .tc := ⟨.hbm, 59, rfl⟩
abbrev main_cst_6 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩

abbrev nD : Nat := 1
abbrev τ : Topo := Topo.v7x

variable {F : FTy → Type} [FloatOps F]
-- ==== FfnLoss.lean ====
abbrev S2048x1024 : Shape := ⟨2, ![2048, 1024]⟩
abbrev S1x1024 : Shape := ⟨2, ![1, 1024]⟩
abbrev S1024 : Shape := ⟨1, ![1024]⟩
abbrev S1024x4096 : Shape := ⟨2, ![1024, 4096]⟩
abbrev S4096x1024 : Shape := ⟨2, ![4096, 1024]⟩
abbrev S8x128 : Shape := ⟨2, ![8, 128]⟩
abbrev S2048x4096 : Shape := ⟨2, ![2048, 4096]⟩
abbrev S256x1024 : Shape := ⟨2, ![256, 1024]⟩
abbrev S256x4096 : Shape := ⟨2, ![256, 4096]⟩
abbrev S_ : Shape := ⟨0, ![]⟩
abbrev S256 : Shape := ⟨1, ![256]⟩
abbrev S256x1 : Shape := ⟨2, ![256, 1]⟩
abbrev S1024x1024 : Shape := ⟨2, ![1024, 1024]⟩
abbrev S1x256x1 : Shape := ⟨3, ![1, 256, 1]⟩
abbrev S1 : Shape := ⟨1, ![1]⟩
abbrev S1x1x1 : Shape := ⟨3, ![1, 1, 1]⟩

abbrev nBuf : Space → Nat
  | .hbm => 18
  | .vmem => 22
  | .smem => 0
  | _ => 0

abbrev bufTy : (tb : Table) → Fin (tcTables nBuf tb) → BufTy
  | .hbm, ⟨0, _⟩ => ⟨S2048x1024, .f32⟩
  | .hbm, ⟨1, _⟩ => ⟨S2048x1024, .f32⟩
  | .hbm, ⟨2, _⟩ => ⟨S1x1024, .f32⟩
  | .hbm, ⟨3, _⟩ => ⟨S1024, .f32⟩
  | .hbm, ⟨4, _⟩ => ⟨S1024x4096, .f32⟩
  | .hbm, ⟨5, _⟩ => ⟨S4096x1024, .f32⟩
  | .hbm, ⟨6, _⟩ => ⟨S1x1024, .f32⟩
  | .hbm, ⟨7, _⟩ => ⟨S4096x1024, .f32⟩
  | .hbm, ⟨8, _⟩ => ⟨S4096x1024, .bf16⟩
  | .hbm, ⟨9, _⟩ => ⟨S4096x1024, .bf16⟩
  | .hbm, ⟨10, _⟩ => ⟨S8x128, .f32⟩
  | .hbm, ⟨11, _⟩ => ⟨S2048x1024, .f32⟩
  | .hbm, ⟨12, _⟩ => ⟨S2048x1024, .bf16⟩
  | .hbm, ⟨13, _⟩ => ⟨S2048x4096, .bf16⟩
  | .hbm, ⟨14, _⟩ => ⟨S2048x4096, .bf16⟩
  | .hbm, ⟨15, _⟩ => ⟨S2048x1024, .bf16⟩
  | .hbm, ⟨16, _⟩ => ⟨S1x1024, .f32⟩
  | .hbm, ⟨17, _⟩ => ⟨S1x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S1x1024, .f32⟩
  | .local _ .vmem, ⟨5, _⟩ => ⟨S1x1024, .f32⟩
  | .local _ .vmem, ⟨6, _⟩ => ⟨S8x128, .f32⟩
  | .local _ .vmem, ⟨7, _⟩ => ⟨S256x1024, .f32⟩
  | .local _ .vmem, ⟨8, _⟩ => ⟨S256x1024, .f32⟩
  | .local _ .vmem, ⟨9, _⟩ => ⟨S256x1024, .bf16⟩
  | .local _ .vmem, ⟨10, _⟩ => ⟨S256x1024, .bf16⟩
  | .local _ .vmem, ⟨11, _⟩ => ⟨S256x4096, .bf16⟩
  | .local _ .vmem, ⟨12, _⟩ => ⟨S256x4096, .bf16⟩
  | .local _ .vmem, ⟨13, _⟩ => ⟨S256x4096, .bf16⟩
  | .local _ .vmem, ⟨14, _⟩ => ⟨S256x4096, .bf16⟩
  | .local _ .vmem, ⟨15, _⟩ => ⟨S256x1024, .bf16⟩
  | .local _ .vmem, ⟨16, _⟩ => ⟨S256x1024, .bf16⟩
  | .local _ .vmem, ⟨17, _⟩ => ⟨S1x1024, .f32⟩
  | .local _ .vmem, ⟨18, _⟩ => ⟨S1x1024, .f32⟩
  | .local _ .vmem, ⟨19, _⟩ => ⟨S4096x1024, .bf16⟩
  | .local _ .vmem, ⟨20, _⟩ => ⟨S4096x1024, .bf16⟩
  | .local _ .vmem, ⟨21, _⟩ => ⟨S256x4096, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4_0 : Ref sig .tc := ⟨.hbm, 10, rfl⟩
abbrev main_v4_1 : Ref sig .tc := ⟨.hbm, 11, rfl⟩
abbrev main_v4_2 : Ref sig .tc := ⟨.hbm, 12, rfl⟩
abbrev main_v4_3 : Ref sig .tc := ⟨.hbm, 13, rfl⟩
abbrev main_v4_4 : Ref sig .tc := ⟨.hbm, 14, rfl⟩
abbrev main_v4_5 : Ref sig .tc := ⟨.hbm, 15, rfl⟩
abbrev main_v4_6 : Ref sig .tc := ⟨.hbm, 16, rfl⟩
abbrev main_v4_7 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc0_stg10_0 : Ref sig .tc := ⟨.vmem, 17, rfl⟩
abbrev cc0_stg11_0 : Ref sig .tc := ⟨.vmem, 18, rfl⟩
abbrev cc0_scratch0 : Ref sig .tc := ⟨.vmem, 19, rfl⟩
abbrev cc0_scratch1 : Ref sig .tc := ⟨.vmem, 20, rfl⟩
abbrev cc0_scratch2 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15
abbrev cc0_sem9_1 : DmaSem sig := 16
abbrev cc0_sem10_0 : DmaSem sig := 17
abbrev cc0_sem11_0 : DmaSem sig := 18

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S8x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x4096 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x4096 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]
-- ==== FfnGradIdeal.lean ====
abbrev S2048x1024 : Shape := ⟨2, ![2048, 1024]⟩
abbrev S1x1024 : Shape := ⟨2, ![1, 1024]⟩
abbrev S1024 : Shape := ⟨1, ![1024]⟩
abbrev S1024x4096 : Shape := ⟨2, ![1024, 4096]⟩
abbrev S4096x1024 : Shape := ⟨2, ![4096, 1024]⟩
abbrev S_ : Shape := ⟨0, ![]⟩
abbrev S2048 : Shape := ⟨1, ![2048]⟩
abbrev S2048x1 : Shape := ⟨2, ![2048, 1]⟩
abbrev S2048x4096 : Shape := ⟨2, ![2048, 4096]⟩
abbrev S8x128 : Shape := ⟨2, ![8, 128]⟩

abbrev nBuf : Space → Nat
  | .hbm => 144
  | .vmem => 0
  | .smem => 0
  | _ => 0

abbrev hbmTy0_0 (i : Nat) : BufTy := match i % 128 with
  | 0 => ⟨S2048x1024, .f32⟩
  | 1 => ⟨S2048x1024, .f32⟩
  | 2 => ⟨S1x1024, .f32⟩
  | 3 => ⟨S1024, .f32⟩
  | 4 => ⟨S1024x4096, .f32⟩
  | 5 => ⟨S4096x1024, .f32⟩
  | 6 => ⟨S2048x1024, .f32⟩
  | 7 => ⟨S_, .f32⟩
  | 8 => ⟨S2048, .f32⟩
  | 9 => ⟨S2048x1, .f32⟩
  | 10 => ⟨S_, .f32⟩
  | 11 => ⟨S2048x1, .f32⟩
  | 12 => ⟨S2048x1, .f32⟩
  | 13 => ⟨S_, .f32⟩
  | 14 => ⟨S2048x1, .f32⟩
  | 15 => ⟨S2048x1, .f32⟩
  | 16 => ⟨S2048x1, .f32⟩
  | 17 => ⟨S2048x1, .f32⟩
  | 18 => ⟨S_, .f32⟩
  | 19 => ⟨S2048x1, .f32⟩
  | 20 => ⟨S2048x1, .f32⟩
  | 21 => ⟨S2048x1024, .f32⟩
  | 22 => ⟨S2048x1024, .f32⟩
  | 23 => ⟨S2048x1024, .f32⟩
  | 24 => ⟨S2048x1024, .f32⟩
  | 25 => ⟨S2048x4096, .f32⟩
  | 26 => ⟨S_, .f32⟩
  | 27 => ⟨S2048x4096, .f32⟩
  | 28 => ⟨S2048x4096, .f32⟩
  | 29 => ⟨S_, .f32⟩
  | 30 => ⟨S2048x4096, .f32⟩
  | 31 => ⟨S2048x4096, .i1⟩
  | 32 => ⟨S_, .f32⟩
  | 33 => ⟨S2048x4096, .f32⟩
  | 34 => ⟨S2048x4096, .f32⟩
  | 35 => ⟨S_, .f32⟩
  | 36 => ⟨S2048x4096, .f32⟩
  | 37 => ⟨S2048x4096, .f32⟩
  | 38 => ⟨S2048x1024, .f32⟩
  | 39 => ⟨S2048x1024, .f32⟩
  | 40 => ⟨S2048x1024, .f32⟩
  | 41 => ⟨S_, .f32⟩
  | 42 => ⟨S2048, .f32⟩
  | 43 => ⟨S2048x1, .f32⟩
  | 44 => ⟨S_, .f32⟩
  | 45 => ⟨S2048x1, .f32⟩
  | 46 => ⟨S2048x1, .f32⟩
  | 47 => ⟨S_, .f32⟩
  | 48 => ⟨S2048x1, .f32⟩
  | 49 => ⟨S2048x1, .f32⟩
  | 50 => ⟨S2048x1, .f32⟩
  | 51 => ⟨S2048x1, .f32⟩
  | 52 => ⟨S_, .f32⟩
  | 53 => ⟨S2048x1, .f32⟩
  | 54 => ⟨S2048x1, .f32⟩
  | 55 => ⟨S2048x1024, .f32⟩
  | 56 => ⟨S2048x1024, .f32⟩
  | 57 => ⟨S1x1024, .f32⟩
  | 58 => ⟨S2048x1024, .f32⟩
  | 59 => ⟨S2048x1024, .f32⟩
  | 60 => ⟨S2048x1024, .f32⟩
  | 61 => ⟨S2048x1024, .f32⟩
  | 62 => ⟨S_, .f32⟩
  | 63 => ⟨S2048x1024, .f32⟩
  | 64 => ⟨S2048x1024, .f32⟩
  | 65 => ⟨S_, .f32⟩
  | 66 => ⟨S2048, .f32⟩
  | 67 => ⟨S_, .f32⟩
  | 68 => ⟨S2048, .f32⟩
  | 69 => ⟨S2048, .f32⟩
  | 70 => ⟨S_, .f32⟩
  | 71 => ⟨S_, .f32⟩
  | 72 => ⟨S_, .f32⟩
  | 73 => ⟨S_, .f32⟩
  | 74 => ⟨S_, .f32⟩
  | 75 => ⟨S_, .f32⟩
  | 76 => ⟨S_, .f32⟩
  | 77 => ⟨S2048, .f32⟩
  | 78 => ⟨S_, .f32⟩
  | 79 => ⟨S2048, .f32⟩
  | 80 => ⟨S2048, .f32⟩
  | 81 => ⟨S2048x1024, .f32⟩
  | 82 => ⟨S2048x1024, .f32⟩
  | 83 => ⟨S2048x1024, .f32⟩
  | 84 => ⟨S_, .f32⟩
  | 85 => ⟨S1024, .f32⟩
  | 86 => ⟨S1x1024, .f32⟩
  | 87 => ⟨S2048x1024, .f32⟩
  | 88 => ⟨S2048x1024, .f32⟩
  | 89 => ⟨S_, .f32⟩
  | 90 => ⟨S1024, .f32⟩
  | 91 => ⟨S2048x1024, .f32⟩
  | 92 => ⟨S_, .f32⟩
  | 93 => ⟨S2048, .f32⟩
  | 94 => ⟨S2048x1, .f32⟩
  | 95 => ⟨S2048x1024, .f32⟩
  | 96 => ⟨S2048x1024, .f32⟩
  | 97 => ⟨S2048x1, .f32⟩
  | 98 => ⟨S_, .f32⟩
  | 99 => ⟨S2048x1, .f32⟩
  | 100 => ⟨S2048x1, .f32⟩
  | 101 => ⟨S_, .f32⟩
  | 102 => ⟨S2048, .f32⟩
  | 103 => ⟨S2048x1024, .f32⟩
  | 104 => ⟨S2048x1024, .f32⟩
  | 105 => ⟨S2048x1024, .f32⟩
  | 106 => ⟨S2048x1024, .f32⟩
  | 107 => ⟨S2048x1024, .f32⟩
  | 108 => ⟨S2048x4096, .f32⟩
  | 109 => ⟨S2048x4096, .f32⟩
  | 110 => ⟨S_, .f32⟩
  | 111 => ⟨S2048x4096, .f32⟩
  | 112 => ⟨S2048x4096, .f32⟩
  | 113 => ⟨S2048x1024, .f32⟩
  | 114 => ⟨S2048x1024, .f32⟩
  | 115 => ⟨S_, .f32⟩
  | 116 => ⟨S1024, .f32⟩
  | 117 => ⟨S1x1024, .f32⟩
  | 118 => ⟨S2048x1024, .f32⟩
  | 119 => ⟨S2048x1024, .f32⟩
  | 120 => ⟨S2048x1024, .f32⟩
  | 121 => ⟨S_, .f32⟩
  | 122 => ⟨S2048, .f32⟩
  | 123 => ⟨S2048x1, .f32⟩
  | 124 => ⟨S2048x1024, .f32⟩
  | 125 => ⟨S2048x1024, .f32⟩
  | 126 => ⟨S2048x1, .f32⟩
  | 127 => ⟨S_, .f32⟩
  | _ => ⟨S2048x1024, .f32⟩

abbrev hbmTy0_1 (i : Nat) : BufTy := match i % 128 with
  | 0 => ⟨S2048x1, .f32⟩
  | 1 => ⟨S2048x1, .f32⟩
  | 2 => ⟨S_, .f32⟩
  | 3 => ⟨S2048, .f32⟩
  | 4 => ⟨S2048x1024, .f32⟩
  | 5 => ⟨S2048x1024, .f32⟩
  | 6 => ⟨S2048x1024, .f32⟩
  | 7 => ⟨S2048x1024, .f32⟩
  | 8 => ⟨S2048x1024, .f32⟩
  | 9 => ⟨S8x128, .f32⟩
  | 10 => ⟨S2048x1024, .f32⟩
  | 11 => ⟨S2048x1024, .bf16⟩
  | 12 => ⟨S2048x4096, .bf16⟩
  | 13 => ⟨S2048x4096, .bf16⟩
  | 14 => ⟨S2048x1024, .bf16⟩
  | 15 => ⟨S1x1024, .f32⟩
  | _ => ⟨S2048x1024, .f32⟩

abbrev hbmTy (i : Nat) : BufTy := match i / 128 with
  | 0 => hbmTy0_0 i
  | 1 => hbmTy0_1 i
  | _ => ⟨S2048x1024, .f32⟩

abbrev bufTy : (tb : Table) → Fin (tcTables nBuf tb) → BufTy
  | .hbm, ⟨i, _⟩ => hbmTy i
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_cst_2 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_call0_cst : Ref sig .tc := ⟨.hbm, 26, rfl⟩
abbrev main_call0_v0 : Ref sig .tc := ⟨.hbm, 27, rfl⟩
abbrev main_v16 : Ref sig .tc := ⟨.hbm, 28, rfl⟩
abbrev main_cst_3 : Ref sig .tc := ⟨.hbm, 29, rfl⟩
abbrev main_v17 : Ref sig .tc := ⟨.hbm, 30, rfl⟩
abbrev main_v18 : Ref sig .tc := ⟨.hbm, 31, rfl⟩
abbrev main_cst_4 : Ref sig .tc := ⟨.hbm, 32, rfl⟩
abbrev main_v19 : Ref sig .tc := ⟨.hbm, 33, rfl⟩
abbrev main_v20 : Ref sig .tc := ⟨.hbm, 34, rfl⟩
abbrev main_cst_5 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_cst_6 : Ref sig .tc := ⟨.hbm, 41, rfl⟩
abbrev main_v26 : Ref sig .tc := ⟨.hbm, 42, rfl⟩
abbrev main_v27 : Ref sig .tc := ⟨.hbm, 43, rfl⟩
abbrev main_cst_7 : Ref sig .tc := ⟨.hbm, 44, rfl⟩
abbrev main_v28 : Ref sig .tc := ⟨.hbm, 45, rfl⟩
abbrev main_v29 : Ref sig .tc := ⟨.hbm, 46, rfl⟩
abbrev main_cst_8 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_cst_9 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_cst_10 : Ref sig .tc := ⟨.hbm, 62, rfl⟩
abbrev main_v43 : Ref sig .tc := ⟨.hbm, 63, rfl⟩
abbrev main_v44 : Ref sig .tc := ⟨.hbm, 64, rfl⟩
abbrev main_cst_11 : Ref sig .tc := ⟨.hbm, 65, rfl⟩
abbrev main_v45 : Ref sig .tc := ⟨.hbm, 66, rfl⟩
abbrev main_cst_12 : Ref sig .tc := ⟨.hbm, 67, rfl⟩
abbrev main_v46 : Ref sig .tc := ⟨.hbm, 68, rfl⟩
abbrev main_v47 : Ref sig .tc := ⟨.hbm, 69, rfl⟩
abbrev main_cst_13 : Ref sig .tc := ⟨.hbm, 70, rfl⟩
abbrev main_v48 : Ref sig .tc := ⟨.hbm, 71, rfl⟩
abbrev main_cst_14 : Ref sig .tc := ⟨.hbm, 72, rfl⟩
abbrev main_v49 : Ref sig .tc := ⟨.hbm, 73, rfl⟩
abbrev main_cst_15 : Ref sig .tc := ⟨.hbm, 74, rfl⟩
abbrev main_cst_16 : Ref sig .tc := ⟨.hbm, 75, rfl⟩
abbrev main_v50 : Ref sig .tc := ⟨.hbm, 76, rfl⟩
abbrev main_v51 : Ref sig .tc := ⟨.hbm, 77, rfl⟩
abbrev main_cst_17 : Ref sig .tc := ⟨.hbm, 78, rfl⟩
abbrev main_v52 : Ref sig .tc := ⟨.hbm, 79, rfl⟩
abbrev main_v53 : Ref sig .tc := ⟨.hbm, 80, rfl⟩
abbrev main_v54 : Ref sig .tc := ⟨.hbm, 81, rfl⟩
abbrev main_v55 : Ref sig .tc := ⟨.hbm, 82, rfl⟩
abbrev main_v56 : Ref sig .tc := ⟨.hbm, 83, rfl⟩
abbrev main_cst_18 : Ref sig .tc := ⟨.hbm, 84, rfl⟩
abbrev main_v57 : Ref sig .tc := ⟨.hbm, 85, rfl⟩
abbrev main_v58 : Ref sig .tc := ⟨.hbm, 86, rfl⟩
abbrev main_v59 : Ref sig .tc := ⟨.hbm, 87, rfl⟩
abbrev main_v60 : Ref sig .tc := ⟨.hbm, 88, rfl⟩
abbrev main_cst_19 : Ref sig .tc := ⟨.hbm, 89, rfl⟩
abbrev main_v61 : Ref sig .tc := ⟨.hbm, 90, rfl⟩
abbrev main_v62 : Ref sig .tc := ⟨.hbm, 91, rfl⟩
abbrev main_cst_20 : Ref sig .tc := ⟨.hbm, 92, rfl⟩
abbrev main_v63 : Ref sig .tc := ⟨.hbm, 93, rfl⟩
abbrev main_v64 : Ref sig .tc := ⟨.hbm, 94, rfl⟩
abbrev main_v65 : Ref sig .tc := ⟨.hbm, 95, rfl⟩
abbrev main_v66 : Ref sig .tc := ⟨.hbm, 96, rfl⟩
abbrev main_v67 : Ref sig .tc := ⟨.hbm, 97, rfl⟩
abbrev main_cst_21 : Ref sig .tc := ⟨.hbm, 98, rfl⟩
abbrev main_v68 : Ref sig .tc := ⟨.hbm, 99, rfl⟩
abbrev main_v69 : Ref sig .tc := ⟨.hbm, 100, rfl⟩
abbrev main_cst_22 : Ref sig .tc := ⟨.hbm, 101, rfl⟩
abbrev main_v70 : Ref sig .tc := ⟨.hbm, 102, rfl⟩
abbrev main_v71 : Ref sig .tc := ⟨.hbm, 103, rfl⟩
abbrev main_v72 : Ref sig .tc := ⟨.hbm, 104, rfl⟩
abbrev main_v73 : Ref sig .tc := ⟨.hbm, 105, rfl⟩
abbrev main_v74 : Ref sig .tc := ⟨.hbm, 106, rfl⟩
abbrev main_v75 : Ref sig .tc := ⟨.hbm, 107, rfl⟩
abbrev main_v76 : Ref sig .tc := ⟨.hbm, 108, rfl⟩
abbrev main_v77 : Ref sig .tc := ⟨.hbm, 109, rfl⟩
abbrev main_cst_23 : Ref sig .tc := ⟨.hbm, 110, rfl⟩
abbrev main_v78 : Ref sig .tc := ⟨.hbm, 111, rfl⟩
abbrev main_v79 : Ref sig .tc := ⟨.hbm, 112, rfl⟩
abbrev main_v80 : Ref sig .tc := ⟨.hbm, 113, rfl⟩
abbrev main_v81 : Ref sig .tc := ⟨.hbm, 114, rfl⟩
abbrev main_cst_24 : Ref sig .tc := ⟨.hbm, 115, rfl⟩
abbrev main_v82 : Ref sig .tc := ⟨.hbm, 116, rfl⟩
abbrev main_v83 : Ref sig .tc := ⟨.hbm, 117, rfl⟩
abbrev main_v84 : Ref sig .tc := ⟨.hbm, 118, rfl⟩
abbrev main_v85 : Ref sig .tc := ⟨.hbm, 119, rfl⟩
abbrev main_v86 : Ref sig .tc := ⟨.hbm, 120, rfl⟩
abbrev main_cst_25 : Ref sig .tc := ⟨.hbm, 121, rfl⟩
abbrev main_v87 : Ref sig .tc := ⟨.hbm, 122, rfl⟩
abbrev main_v88 : Ref sig .tc := ⟨.hbm, 123, rfl⟩
abbrev main_v89 : Ref sig .tc := ⟨.hbm, 124, rfl⟩
abbrev main_v90 : Ref sig .tc := ⟨.hbm, 125, rfl⟩
abbrev main_v91 : Ref sig .tc := ⟨.hbm, 126, rfl⟩
abbrev main_cst_26 : Ref sig .tc := ⟨.hbm, 127, rfl⟩
abbrev main_v92 : Ref sig .tc := ⟨.hbm, 128, rfl⟩
abbrev main_v93 : Ref sig .tc := ⟨.hbm, 129, rfl⟩
abbrev main_cst_27 : Ref sig .tc := ⟨.hbm, 130, rfl⟩
abbrev main_v94 : Ref sig .tc := ⟨.hbm, 131, rfl⟩
abbrev main_v95 : Ref sig .tc := ⟨.hbm, 132, rfl⟩
abbrev main_v96 : Ref sig .tc := ⟨.hbm, 133, rfl⟩
abbrev main_v97 : Ref sig .tc := ⟨.hbm, 134, rfl⟩
abbrev main_v98 : Ref sig .tc := ⟨.hbm, 135, rfl⟩
abbrev main_v99 : Ref sig .tc := ⟨.hbm, 136, rfl⟩
abbrev main_v100 : Ref sig .tc := ⟨.hbm, 137, rfl⟩
abbrev main_v101 : Ref sig .tc := ⟨.hbm, 138, rfl⟩
abbrev main_v102 : Ref sig .tc := ⟨.hbm, 139, rfl⟩
abbrev main_v103 : Ref sig .tc := ⟨.hbm, 140, rfl⟩
abbrev main_v104 : Ref sig .tc := ⟨.hbm, 141, rfl⟩
abbrev main_v105 : Ref sig .tc := ⟨.hbm, 142, rfl⟩
abbrev main_v106 : Ref sig .tc := ⟨.hbm, 143, rfl⟩

abbrev nD : Nat := 1
abbrev τ : Topo := Topo.v7x

variable {F : FTy → Type} [FloatOps F]
-- ==== AttBwd.lean ====
abbrev S2048x1536 : Shape := ⟨2, ![2048, 1536]⟩
abbrev S8x15x31 : Shape := ⟨3, ![8, 15, 31]⟩
abbrev S2048x512 : Shape := ⟨2, ![2048, 512]⟩
abbrev S64x64 : Shape := ⟨2, ![64, 64]⟩
abbrev S_ : Shape := ⟨0, ![]⟩
abbrev S8x15x64 : Shape := ⟨3, ![8, 15, 64]⟩
abbrev S8x8x64 : Shape := ⟨3, ![8, 8, 64]⟩
abbrev S2x4x512 : Shape := ⟨3, ![2, 4, 512]⟩
abbrev S1x2x4x512 : Shape := ⟨4, ![1, 2, 4, 512]⟩
abbrev S8x2x4x512 : Shape := ⟨4, ![8, 2, 4, 512]⟩
abbrev S8x128 : Shape := ⟨2, ![8, 128]⟩
abbrev S64 : Shape := ⟨1, ![64]⟩
abbrev S512 : Shape := ⟨1, ![512]⟩
abbrev S1x512 : Shape := ⟨2, ![1, 512]⟩
abbrev S64x1 : Shape := ⟨2, ![64, 1]⟩
abbrev S64x512 : Shape := ⟨2, ![64, 512]⟩
abbrev S256 : Shape := ⟨1, ![256]⟩
abbrev S256x1 : Shape := ⟨2, ![256, 1]⟩
abbrev S1x256 : Shape := ⟨2, ![1, 256]⟩
abbrev S256x256 : Shape := ⟨2, ![256, 256]⟩
abbrev S3x2048x512 : Shape := ⟨3, ![3, 2048, 512]⟩
abbrev S2x8x4x512 : Shape := ⟨4, ![2, 8, 4, 512]⟩
abbrev S2048x256 : Shape := ⟨2, ![2048, 256]⟩
abbrev S8x1x4x512 : Shape := ⟨4, ![8, 1, 4, 512]⟩
abbrev S3x2048x256 : Shape := ⟨3, ![3, 2048, 256]⟩
abbrev S1x8x4x512 : Shape := ⟨4, ![1, 8, 4, 512]⟩
abbrev S8x256x512 : Shape := ⟨3, ![8, 256, 512]⟩
abbrev S1x1x1x512 : Shape := ⟨4, ![1, 1, 1, 512]⟩
abbrev S1x64x512 : Shape := ⟨3, ![1, 64, 512]⟩
abbrev S64x256 : Shape := ⟨2, ![64, 256]⟩
abbrev S512x256 : Shape := ⟨2, ![512, 256]⟩
abbrev S256x512 : Shape := ⟨2, ![256, 512]⟩
abbrev S1x256x512 : Shape := ⟨3, ![1, 256, 512]⟩
abbrev S1x64x256 : Shape := ⟨3, ![1, 64, 256]⟩
abbrev S1x2048x256 : Shape := ⟨3, ![1, 2048, 256]⟩

abbrev nBuf : Space → Nat
  | .hbm => 132
  | .vmem => 21
  | .smem => 0
  | _ => 0

abbrev hbmTy0_0 (i : Nat) : BufTy := match i % 128 with
  | 0 => ⟨S2048x1536, .f32⟩
  | 1 => ⟨S8x15x31, .f32⟩
  | 2 => ⟨S2048x512, .f32⟩
  | 3 => ⟨S64x64, .f32⟩
  | 4 => ⟨S2048x1536, .bf16⟩
  | 5 => ⟨S_, .i32⟩
  | 6 => ⟨S_, .f32⟩
  | 7 => ⟨S8x15x64, .f32⟩
  | 8 => ⟨S8x8x64, .f32⟩
  | 9 => ⟨S2x4x512, .f32⟩
  | 10 => ⟨S8x8x64, .f32⟩
  | 11 => ⟨S2x4x512, .f32⟩
  | 12 => ⟨S8x8x64, .f32⟩
  | 13 => ⟨S2x4x512, .f32⟩
  | 14 => ⟨S8x8x64, .f32⟩
  | 15 => ⟨S2x4x512, .f32⟩
  | 16 => ⟨S8x8x64, .f32⟩
  | 17 => ⟨S2x4x512, .f32⟩
  | 18 => ⟨S8x8x64, .f32⟩
  | 19 => ⟨S2x4x512, .f32⟩
  | 20 => ⟨S8x8x64, .f32⟩
  | 21 => ⟨S2x4x512, .f32⟩
  | 22 => ⟨S8x8x64, .f32⟩
  | 23 => ⟨S2x4x512, .f32⟩
  | 24 => ⟨S1x2x4x512, .f32⟩
  | 25 => ⟨S1x2x4x512, .f32⟩
  | 26 => ⟨S1x2x4x512, .f32⟩
  | 27 => ⟨S1x2x4x512, .f32⟩
  | 28 => ⟨S1x2x4x512, .f32⟩
  | 29 => ⟨S1x2x4x512, .f32⟩
  | 30 => ⟨S1x2x4x512, .f32⟩
  | 31 => ⟨S1x2x4x512, .f32⟩
  | 32 => ⟨S8x2x4x512, .f32⟩
  | 33 => ⟨S2048x512, .bf16⟩
  | 34 => ⟨S_, .f32⟩
  | 35 => ⟨S8x128, .f32⟩
  | 36 => ⟨S64, .i32⟩
  | 37 => ⟨S512, .i32⟩
  | 38 => ⟨S_, .i32⟩
  | 39 => ⟨S_, .i32⟩
  | 40 => ⟨S_, .i32⟩
  | 41 => ⟨S_, .i1⟩
  | 42 => ⟨S_, .i32⟩
  | 43 => ⟨S_, .i32⟩
  | 44 => ⟨S512, .i32⟩
  | 45 => ⟨S512, .i32⟩
  | 46 => ⟨S_, .i32⟩
  | 47 => ⟨S512, .i32⟩
  | 48 => ⟨S512, .i1⟩
  | 49 => ⟨S_, .i32⟩
  | 50 => ⟨S512, .i32⟩
  | 51 => ⟨S512, .i1⟩
  | 52 => ⟨S_, .i32⟩
  | 53 => ⟨S_, .i1⟩
  | 54 => ⟨S512, .i1⟩
  | 55 => ⟨S512, .i1⟩
  | 56 => ⟨S512, .i1⟩
  | 57 => ⟨S512, .i32⟩
  | 58 => ⟨S512, .i32⟩
  | 59 => ⟨S512, .i32⟩
  | 60 => ⟨S_, .i32⟩
  | 61 => ⟨S64, .i32⟩
  | 62 => ⟨S64, .i32⟩
  | 63 => ⟨S_, .i32⟩
  | 64 => ⟨S_, .i32⟩
  | 65 => ⟨S_, .i32⟩
  | 66 => ⟨S64, .i32⟩
  | 67 => ⟨S64, .i32⟩
  | 68 => ⟨S_, .i32⟩
  | 69 => ⟨S64, .i32⟩
  | 70 => ⟨S64, .i32⟩
  | 71 => ⟨S1x512, .i32⟩
  | 72 => ⟨S64x1, .i32⟩
  | 73 => ⟨S64x512, .i32⟩
  | 74 => ⟨S64x512, .i32⟩
  | 75 => ⟨S64x512, .i1⟩
  | 76 => ⟨S1x512, .i32⟩
  | 77 => ⟨S64x1, .i32⟩
  | 78 => ⟨S_, .i32⟩
  | 79 => ⟨S64x1, .i32⟩
  | 80 => ⟨S64x1, .i32⟩
  | 81 => ⟨S64x512, .i32⟩
  | 82 => ⟨S64x512, .i32⟩
  | 83 => ⟨S64x512, .i1⟩
  | 84 => ⟨S64x512, .i1⟩
  | 85 => ⟨S256, .i32⟩
  | 86 => ⟨S256x1, .i32⟩
  | 87 => ⟨S_, .i32⟩
  | 88 => ⟨S_, .i32⟩
  | 89 => ⟨S256x1, .i32⟩
  | 90 => ⟨S256x1, .i32⟩
  | 91 => ⟨S256x1, .i32⟩
  | 92 => ⟨S_, .i32⟩
  | 93 => ⟨S256x1, .i32⟩
  | 94 => ⟨S256x1, .i1⟩
  | 95 => ⟨S256x1, .i32⟩
  | 96 => ⟨S256x1, .i32⟩
  | 97 => ⟨S_, .i32⟩
  | 98 => ⟨S256x1, .i32⟩
  | 99 => ⟨S256x1, .i1⟩
  | 100 => ⟨S256x1, .i1⟩
  | 101 => ⟨S_, .i32⟩
  | 102 => ⟨S256x1, .i32⟩
  | 103 => ⟨S256x1, .i32⟩
  | 104 => ⟨S256x1, .i32⟩
  | 105 => ⟨S256, .i32⟩
  | 106 => ⟨S1x256, .i32⟩
  | 107 => ⟨S_, .i32⟩
  | 108 => ⟨S_, .i32⟩
  | 109 => ⟨S1x256, .i32⟩
  | 110 => ⟨S1x256, .i32⟩
  | 111 => ⟨S1x256, .i32⟩
  | 112 => ⟨S_, .i32⟩
  | 113 => ⟨S1x256, .i32⟩
  | 114 => ⟨S1x256, .i1⟩
  | 115 => ⟨S1x256, .i32⟩
  | 116 => ⟨S1x256, .i32⟩
  | 117 => ⟨S_, .i32⟩
  | 118 => ⟨S1x256, .i32⟩
  | 119 => ⟨S1x256, .i1⟩
  | 120 => ⟨S1x256, .i1⟩
  | 121 => ⟨S_, .i32⟩
  | 122 => ⟨S1x256, .i32⟩
  | 123 => ⟨S1x256, .i32⟩
  | 124 => ⟨S1x256, .i32⟩
  | 125 => ⟨S256x256, .i32⟩
  | 126 => ⟨S256x256, .i32⟩
  | 127 => ⟨S256x256, .i1⟩
  | _ => ⟨S2048x1536, .f32⟩

abbrev hbmTy0_1 (i : Nat) : BufTy := match i % 128 with
  | 0 => ⟨S64x512, .f32⟩
  | 1 => ⟨S256x256, .f32⟩
  | 2 => ⟨S3x2048x512, .bf16⟩
  | 3 => ⟨S2x8x4x512, .f32⟩
  | _ => ⟨S2048x1536, .f32⟩

abbrev hbmTy (i : Nat) : BufTy := match i / 128 with
  | 0 => hbmTy0_0 i
  | 1 => hbmTy0_1 i
  | _ => ⟨S2048x1536, .f32⟩

abbrev bufTy : (tb : Table) → Fin (tcTables nBuf tb) → BufTy
  | .hbm, ⟨i, _⟩ => hbmTy i
  | .local _ .vmem, ⟨0, _⟩ => ⟨S2048x256, .bf16⟩
  | .local _ .vmem, ⟨1, _⟩ => ⟨S2048x256, .bf16⟩
  | .local _ .vmem, ⟨2, _⟩ => ⟨S2048x256, .bf16⟩
  | .local _ .vmem, ⟨3, _⟩ => ⟨S2048x256, .bf16⟩
  | .local _ .vmem, ⟨4, _⟩ => ⟨S2048x256, .bf16⟩
  | .local _ .vmem, ⟨5, _⟩ => ⟨S2048x256, .bf16⟩
  | .local _ .vmem, ⟨6, _⟩ => ⟨S2048x256, .bf16⟩
  | .local _ .vmem, ⟨7, _⟩ => ⟨S2048x256, .bf16⟩
  | .local _ .vmem, ⟨8, _⟩ => ⟨S8x1x4x512, .f32⟩
  | .local _ .vmem, ⟨9, _⟩ => ⟨S8x1x4x512, .f32⟩
  | .local _ .vmem, ⟨10, _⟩ => ⟨S64x512, .f32⟩
  | .local _ .vmem, ⟨11, _⟩ => ⟨S256x256, .f32⟩
  | .local _ .vmem, ⟨12, _⟩ => ⟨S64x64, .f32⟩
  | .local _ .vmem, ⟨13, _⟩ => ⟨S3x2048x256, .bf16⟩
  | .local _ .vmem, ⟨14, _⟩ => ⟨S3x2048x256, .bf16⟩
  | .local _ .vmem, ⟨15, _⟩ => ⟨S1x8x4x512, .f32⟩
  | .local _ .vmem, ⟨16, _⟩ => ⟨S1x8x4x512, .f32⟩
  | .local _ .vmem, ⟨17, _⟩ => ⟨S2048x256, .f32⟩
  | .local _ .vmem, ⟨18, _⟩ => ⟨S2048x256, .f32⟩
  | .local _ .vmem, ⟨19, _⟩ => ⟨S8x256x512, .f32⟩
  | .local _ .vmem, ⟨20, _⟩ => ⟨S8x256x512, .f32⟩
  | _, _ => ⟨S2048x1536, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_c : Ref sig .tc := ⟨.hbm, 5, rfl⟩
abbrev main_call0_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_cst_0 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_c_1 : Ref sig .tc := ⟨.hbm, 38, rfl⟩
abbrev main_call1_v0 : Ref sig .tc := ⟨.hbm, 39, rfl⟩
abbrev main_call1_c : Ref sig .tc := ⟨.hbm, 40, rfl⟩
abbrev main_call1_v1 : Ref sig .tc := ⟨.hbm, 41, rfl⟩
abbrev main_call1_c_0 : Ref sig .tc := ⟨.hbm, 42, rfl⟩
abbrev main_call1_v2 : Ref sig .tc := ⟨.hbm, 43, rfl⟩
abbrev main_call1_v3 : Ref sig .tc := ⟨.hbm, 44, rfl⟩
abbrev main_call1_v4 : Ref sig .tc := ⟨.hbm, 45, rfl⟩
abbrev main_call1_c_1 : Ref sig .tc := ⟨.hbm, 46, rfl⟩
abbrev main_call1_v5 : Ref sig .tc := ⟨.hbm, 47, rfl⟩
abbrev main_call1_v6 : Ref sig .tc := ⟨.hbm, 48, rfl⟩
abbrev main_call1_c_2 : Ref sig .tc := ⟨.hbm, 49, rfl⟩
abbrev main_call1_v7 : Ref sig .tc := ⟨.hbm, 50, rfl⟩
abbrev main_call1_v8 : Ref sig .tc := ⟨.hbm, 51, rfl⟩
abbrev main_call1_c_3 : Ref sig .tc := ⟨.hbm, 52, rfl⟩
abbrev main_call1_v9 : Ref sig .tc := ⟨.hbm, 53, rfl⟩
abbrev main_call1_v10 : Ref sig .tc := ⟨.hbm, 54, rfl⟩
abbrev main_call1_v11 : Ref sig .tc := ⟨.hbm, 55, rfl⟩
abbrev main_call1_v12 : Ref sig .tc := ⟨.hbm, 56, rfl⟩
abbrev main_call1_v13 : Ref sig .tc := ⟨.hbm, 57, rfl⟩
abbrev main_call1_v14 : Ref sig .tc := ⟨.hbm, 58, rfl⟩
abbrev main_v31 : Ref sig .tc := ⟨.hbm, 59, rfl⟩
abbrev main_c_2 : Ref sig .tc := ⟨.hbm, 60, rfl⟩
abbrev main_v32 : Ref sig .tc := ⟨.hbm, 61, rfl⟩
abbrev main_v33 : Ref sig .tc := ⟨.hbm, 62, rfl⟩
abbrev main_c_3 : Ref sig .tc := ⟨.hbm, 63, rfl⟩
abbrev main_c_4 : Ref sig .tc := ⟨.hbm, 64, rfl⟩
abbrev main_call2_v0 : Ref sig .tc := ⟨.hbm, 65, rfl⟩
abbrev main_call2_v1 : Ref sig .tc := ⟨.hbm, 66, rfl⟩
abbrev main_call2_v2 : Ref sig .tc := ⟨.hbm, 67, rfl⟩
abbrev main_call2_v3 : Ref sig .tc := ⟨.hbm, 68, rfl⟩
abbrev main_call2_v4 : Ref sig .tc := ⟨.hbm, 69, rfl⟩
abbrev main_v34 : Ref sig .tc := ⟨.hbm, 70, rfl⟩
abbrev main_v35 : Ref sig .tc := ⟨.hbm, 71, rfl⟩
abbrev main_v36 : Ref sig .tc := ⟨.hbm, 72, rfl⟩
abbrev main_v37 : Ref sig .tc := ⟨.hbm, 73, rfl⟩
abbrev main_v38 : Ref sig .tc := ⟨.hbm, 74, rfl⟩
abbrev main_v39 : Ref sig .tc := ⟨.hbm, 75, rfl⟩
abbrev main_v40 : Ref sig .tc := ⟨.hbm, 76, rfl⟩
abbrev main_v41 : Ref sig .tc := ⟨.hbm, 77, rfl⟩
abbrev main_c_5 : Ref sig .tc := ⟨.hbm, 78, rfl⟩
abbrev main_v42 : Ref sig .tc := ⟨.hbm, 79, rfl⟩
abbrev main_v43 : Ref sig .tc := ⟨.hbm, 80, rfl⟩
abbrev main_v44 : Ref sig .tc := ⟨.hbm, 81, rfl⟩
abbrev main_v45 : Ref sig .tc := ⟨.hbm, 82, rfl⟩
abbrev main_v46 : Ref sig .tc := ⟨.hbm, 83, rfl⟩
abbrev main_v47 : Ref sig .tc := ⟨.hbm, 84, rfl⟩
abbrev main_v48 : Ref sig .tc := ⟨.hbm, 85, rfl⟩
abbrev main_v49 : Ref sig .tc := ⟨.hbm, 86, rfl⟩
abbrev main_c_6 : Ref sig .tc := ⟨.hbm, 87, rfl⟩
abbrev main_call3_v0 : Ref sig .tc := ⟨.hbm, 88, rfl⟩
abbrev main_call3_v1 : Ref sig .tc := ⟨.hbm, 89, rfl⟩
abbrev main_call3_v2 : Ref sig .tc := ⟨.hbm, 90, rfl⟩
abbrev main_call3_v3 : Ref sig .tc := ⟨.hbm, 91, rfl⟩
abbrev main_call3_v4 : Ref sig .tc := ⟨.hbm, 92, rfl⟩
abbrev main_call3_v5 : Ref sig .tc := ⟨.hbm, 93, rfl⟩
abbrev main_call3_v6 : Ref sig .tc := ⟨.hbm, 94, rfl⟩
abbrev main_call3_v7 : Ref sig .tc := ⟨.hbm, 95, rfl⟩
abbrev main_call3_v8 : Ref sig .tc := ⟨.hbm, 96, rfl⟩
abbrev main_call3_c : Ref sig .tc := ⟨.hbm, 97, rfl⟩
abbrev main_call3_v9 : Ref sig .tc := ⟨.hbm, 98, rfl⟩
abbrev main_call3_v10 : Ref sig .tc := ⟨.hbm, 99, rfl⟩
abbrev main_call3_v11 : Ref sig .tc := ⟨.hbm, 100, rfl⟩
abbrev main_call3_c_0 : Ref sig .tc := ⟨.hbm, 101, rfl⟩
abbrev main_call3_v12 : Ref sig .tc := ⟨.hbm, 102, rfl⟩
abbrev main_call3_v13 : Ref sig .tc := ⟨.hbm, 103, rfl⟩
abbrev main_v50 : Ref sig .tc := ⟨.hbm, 104, rfl⟩
abbrev main_v51 : Ref sig .tc := ⟨.hbm, 105, rfl⟩
abbrev main_v52 : Ref sig .tc := ⟨.hbm, 106, rfl⟩
abbrev main_c_7 : Ref sig .tc := ⟨.hbm, 107, rfl⟩
abbrev main_call4_v0 : Ref sig .tc := ⟨.hbm, 108, rfl⟩
abbrev main_call4_v1 : Ref sig .tc := ⟨.hbm, 109, rfl⟩
abbrev main_call4_v2 : Ref sig .tc := ⟨.hbm, 110, rfl⟩
abbrev main_call4_v3 : Ref sig .tc := ⟨.hbm, 111, rfl⟩
abbrev main_call4_v4 : Ref sig .tc := ⟨.hbm, 112, rfl⟩
abbrev main_call4_v5 : Ref sig .tc := ⟨.hbm, 113, rfl⟩
abbrev main_call4_v6 : Ref sig .tc := ⟨.hbm, 114, rfl⟩
abbrev main_call4_v7 : Ref sig .tc := ⟨.hbm, 115, rfl⟩
abbrev main_call4_v8 : Ref sig .tc := ⟨.hbm, 116, rfl⟩
abbrev main_call4_c : Ref sig .tc := ⟨.hbm, 117, rfl⟩
abbrev main_call4_v9 : Ref sig .tc := ⟨.hbm, 118, rfl⟩
abbrev main_call4_v10 : Ref sig .tc := ⟨.hbm, 119, rfl⟩
abbrev main_call4_v11 : Ref sig .tc := ⟨.hbm, 120, rfl⟩
abbrev main_call4_c_0 : Ref sig .tc := ⟨.hbm, 121, rfl⟩
abbrev main_call4_v12 : Ref sig .tc := ⟨.hbm, 122, rfl⟩
abbrev main_call4_v13 : Ref sig .tc := ⟨.hbm, 123, rfl⟩
abbrev main_v53 : Ref sig .tc := ⟨.hbm, 124, rfl⟩
abbrev main_v54 : Ref sig .tc := ⟨.hbm, 125, rfl⟩
abbrev main_v55 : Ref sig .tc := ⟨.hbm, 126, rfl⟩
abbrev main_v56 : Ref sig .tc := ⟨.hbm, 127, rfl⟩
abbrev main_v57 : Ref sig .tc := ⟨.hbm, 128, rfl⟩
abbrev main_v58 : Ref sig .tc := ⟨.hbm, 129, rfl⟩
abbrev main_v59_0 : Ref sig .tc := ⟨.hbm, 130, rfl⟩
abbrev main_v59_1 : Ref sig .tc := ⟨.hbm, 131, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc0_scratch0 : Ref sig .tc := ⟨.vmem, 17, rfl⟩
abbrev cc0_scratch1 : Ref sig .tc := ⟨.vmem, 18, rfl⟩
abbrev cc0_scratch2 : Ref sig .tc := ⟨.vmem, 19, rfl⟩
abbrev cc0_scratch3 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem8_1 : DmaSem sig := 14
abbrev cc0_sem9_0 : DmaSem sig := 15
abbrev cc0_sem9_1 : DmaSem sig := 16

abbrev nD : Nat := 1
abbrev τ : Topo := Topo.v7x

variable {F : FTy → Type} [FloatOps F]

abbrev grid0 : Pipeline.Grid := ⟨1, ![2], ![false]⟩

@[reducible] def k0_t1_loop : Scf.Loop 32 :=
  let c0_i32 : BitVec 32 := 0#32
  let c32_i32 : BitVec 32 := 32#32
  let v340 : BitVec 32 := Scalar.addi c0_i32 c32_i32
  let c1_i32 : BitVec 32 := 1#32
  ⟨c0_i32, v340, c1_i32⟩
def k0_mult1 (k0_t1 : Fin k0_t1_loop.trips) : BitVec 32 :=
  let c0_i32 : BitVec 32 := 0#32
  let c1_i32 : BitVec 32 := 1#32
  let arg16 : BitVec 32 := Scf.iv c0_i32 c1_i32 k0_t1
  let c64_i32 : BitVec 32 := 64#32
  let v1028 : BitVec 32 := Scalar.muli arg16 c64_i32
  v1028
def k0_mult2 (k0_t1 : Fin k0_t1_loop.trips) : BitVec 32 :=
  let c24_i32 : BitVec 32 := 24#32
  let c0_i32_687 : BitVec 32 := 0#32
  let c0_i32 : BitVec 32 := 0#32
  let c1_i32 : BitVec 32 := 1#32
  let arg16 : BitVec 32 := Scf.iv c0_i32 c1_i32 k0_t1
  let c4_i32 : BitVec 32 := 4#32
  let v1024 : BitVec 32 := Scalar.subi arg16 c4_i32
  let v1025 : BitVec 32 := Scalar.maxsi c0_i32_687 v1024
  let v1026 : BitVec 32 := Scalar.minsi c24_i32 v1025
  let c64_i32_688 : BitVec 32 := 64#32
  let v1030 : BitVec 32 := Scalar.muli v1026 c64_i32_688
  v1030
def k0_off1 (k0_t1 : Fin k0_t1_loop.trips) : Fin 2 → Nat :=
  let c0_i32 : BitVec 32 := 0#32
  let c1_i32 : BitVec 32 := 1#32
  let arg16 : BitVec 32 := Scf.iv c0_i32 c1_i32 k0_t1
  let c64_i32 : BitVec 32 := 64#32
  let v1028 : BitVec 32 := Scalar.muli arg16 c64_i32
  let v1029 : BitVec 32 := v1028
  let v1032 : Index := Scalar.indexCast v1029
  let c0_689 : Index := 0#32
  ![v1032.toNat, 0]
def k0_off2 (k0_t1 : Fin k0_t1_loop.trips) : Fin 2 → Nat :=
  let c24_i32 : BitVec 32 := 24#32
  let c0_i32_687 : BitVec 32 := 0#32
  let c0_i32 : BitVec 32 := 0#32
  let c1_i32 : BitVec 32 := 1#32
  let arg16 : BitVec 32 := Scf.iv c0_i32 c1_i32 k0_t1
  let c4_i32 : BitVec 32 := 4#32
  let v1024 : BitVec 32 := Scalar.subi arg16 c4_i32
  let v1025 : BitVec 32 := Scalar.maxsi c0_i32_687 v1024
  let v1026 : BitVec 32 := Scalar.minsi c24_i32 v1025
  let c64_i32_688 : BitVec 32 := 64#32
  let v1030 : BitVec 32 := Scalar.muli v1026 c64_i32_688
  let v1031 : BitVec 32 := v1030
  let v1040 : Index := Scalar.indexCast v1031
  let c0_692 : Index := 0#32
  ![v1040.toNat, 0]
def k0_off3 (k0_t1 : Fin k0_t1_loop.trips) : Fin 3 → Nat :=
  let c0_i32 : BitVec 32 := 0#32
  let c1_i32 : BitVec 32 := 1#32
  let arg16 : BitVec 32 := Scf.iv c0_i32 c1_i32 k0_t1
  let c24_i32 : BitVec 32 := 24#32
  let c0_i32_687 : BitVec 32 := 0#32
  let c4_i32 : BitVec 32 := 4#32
  let v1024 : BitVec 32 := Scalar.subi arg16 c4_i32
  let v1025 : BitVec 32 := Scalar.maxsi c0_i32_687 v1024
  let v1026 : BitVec 32 := Scalar.minsi c24_i32 v1025
  let v1027 : BitVec 32 := Scalar.subi arg16 v1026
  let v1044 : Index := Scalar.indexCast v1027
  let c0_694 : Index := 0#32
  let c0_695 : Index := 0#32
  ![v1044.toNat, 0, 0]
def k0_off4 (k0_t1 : Fin k0_t1_loop.trips) : Fin 3 → Nat :=
  let c0_720 : Index := 0#32
  let c0_i32 : BitVec 32 := 0#32
  let c1_i32 : BitVec 32 := 1#32
  let arg16 : BitVec 32 := Scf.iv c0_i32 c1_i32 k0_t1
  let c64_i32 : BitVec 32 := 64#32
  let v1028 : BitVec 32 := Scalar.muli arg16 c64_i32
  let v1029 : BitVec 32 := v1028
  let v1135 : Index := Scalar.indexCast v1029
  let c0_721 : Index := 0#32
  ![0, v1135.toNat, 0]
def cc0_transform_0 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![c0_i32_0.toNat, v0.toNat]

def cc0_transform_1 (i : grid0.Coords) : Fin 2 → Nat :=
  let arg0 : BitVec 32 := BitVec.ofNat 32 (i 0).val
  let c2_i32 : BitVec 32 := 2#32
  let v0 : BitVec 32 := Scalar.addi arg0 c2_i32
  let c0_i32 : BitVec 32 := 0#32
  let c0_i32_0 : BitVec 32 := 0#32
  ![c0_i32.toNat, v0.toNat]

def cc0_transform_2 (i : grid0.Coords) : Fin 2 → Nat :=
  let arg0 : BitVec 32 := BitVec.ofNat 32 (i 0).val
  let c4_i32 : BitVec 32 := 4#32
  let v0 : BitVec 32 := Scalar.addi arg0 c4_i32
  let c0_i32 : BitVec 32 := 0#32
  let c0_i32_0 : BitVec 32 := 0#32
  ![c0_i32.toNat, v0.toNat]

def cc0_transform_3 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![c0_i32_0.toNat, v0.toNat]

def cc0_transform_4 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_10 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 2 → Memref sig .tc .vmem S2048x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2048x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2048x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S2048x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S8x1x4x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S64x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S256x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S64x64 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S3x2048x256 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S1x8x4x512 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== AttBwdIdeal.lean ====
variable {F : FTy → Type} [FloatOps F] [Named F]
def κ : String → Option EReal := fun
  | "mask" => some ⊥
  | _ => none
-- ==== AttGradIdeal.lean ====
abbrev S2048x1536 : Shape := ⟨2, ![2048, 1536]⟩
abbrev S8x15x31 : Shape := ⟨3, ![8, 15, 31]⟩
abbrev S2048x512 : Shape := ⟨2, ![2048, 512]⟩
abbrev S2048x8x64 : Shape := ⟨3, ![2048, 8, 64]⟩
abbrev S32 : Shape := ⟨1, ![32]⟩
abbrev S_ : Shape := ⟨0, ![]⟩
abbrev S32x1 : Shape := ⟨2, ![32, 1]⟩
abbrev S8 : Shape := ⟨1, ![8]⟩
abbrev S1x8 : Shape := ⟨2, ![1, 8]⟩
abbrev S32x8 : Shape := ⟨2, ![32, 8]⟩
abbrev S4 : Shape := ⟨1, ![4]⟩
abbrev S4x1 : Shape := ⟨2, ![4, 1]⟩
abbrev S1x32 : Shape := ⟨2, ![1, 32]⟩
abbrev S4x32 : Shape := ⟨2, ![4, 32]⟩
abbrev S16 : Shape := ⟨1, ![16]⟩
abbrev S1x16 : Shape := ⟨2, ![1, 16]⟩
abbrev S4x16 : Shape := ⟨2, ![4, 16]⟩
abbrev S4x1x32 : Shape := ⟨3, ![4, 1, 32]⟩
abbrev S4x16x1 : Shape := ⟨3, ![4, 16, 1]⟩
abbrev S4x16x32 : Shape := ⟨3, ![4, 16, 32]⟩
abbrev S32x4x16x8x64 : Shape := ⟨5, ![32, 4, 16, 8, 64]⟩
abbrev S8x32x4x16x64 : Shape := ⟨5, ![8, 32, 4, 16, 64]⟩
abbrev S32x64x8x64 : Shape := ⟨4, ![32, 64, 8, 64]⟩
abbrev S8x32x64x64 : Shape := ⟨4, ![8, 32, 64, 64]⟩
abbrev S32x1x8x1 : Shape := ⟨4, ![32, 1, 8, 1]⟩
abbrev S1x4x1x32 : Shape := ⟨4, ![1, 4, 1, 32]⟩
abbrev S32x4x8x32 : Shape := ⟨4, ![32, 4, 8, 32]⟩
abbrev S32x4x8x32x1 : Shape := ⟨5, ![32, 4, 8, 32, 1]⟩
abbrev S32x4x8x32x2 : Shape := ⟨5, ![32, 4, 8, 32, 2]⟩
abbrev S8x32x4x8x32x64 : Shape := ⟨6, ![8, 32, 4, 8, 32, 64]⟩
abbrev S8x32x4x16x8x32 : Shape := ⟨6, ![8, 32, 4, 16, 8, 32]⟩
abbrev S32x1x1x8x1 : Shape := ⟨5, ![32, 1, 1, 8, 1]⟩
abbrev S1x4x16x1x32 : Shape := ⟨5, ![1, 4, 16, 1, 32]⟩
abbrev S32x4x16x8x32 : Shape := ⟨5, ![32, 4, 16, 8, 32]⟩
abbrev S32x4x16x8x32x1 : Shape := ⟨6, ![32, 4, 16, 8, 32, 1]⟩
abbrev S32x4x16x8x32x2 : Shape := ⟨6, ![32, 4, 16, 8, 32, 2]⟩
abbrev S4x16x1x32 : Shape := ⟨4, ![4, 16, 1, 32]⟩
abbrev S8x32x4x16 : Shape := ⟨4, ![8, 32, 4, 16]⟩
abbrev S8x32x4x16x1x1 : Shape := ⟨6, ![8, 32, 4, 16, 1, 1]⟩
abbrev S8x32x4x64x8x32 : Shape := ⟨6, ![8, 32, 4, 64, 8, 32]⟩
abbrev S1x2048x512 : Shape := ⟨3, ![1, 2048, 512]⟩
abbrev S3x2048x512 : Shape := ⟨3, ![3, 2048, 512]⟩

abbrev nBuf : Space → Nat
  | .hbm => 273
  | .vmem => 0
  | .smem => 0
  | _ => 0

abbrev hbmTy0_0 (i : Nat) : BufTy := match i % 128 with
  | 0 => ⟨S2048x1536, .f32⟩
  | 1 => ⟨S8x15x31, .f32⟩
  | 2 => ⟨S2048x512, .f32⟩
  | 3 => ⟨S2048x512, .f32⟩
  | 4 => ⟨S2048x8x64, .f32⟩
  | 5 => ⟨S2048x512, .f32⟩
  | 6 => ⟨S2048x8x64, .f32⟩
  | 7 => ⟨S2048x512, .f32⟩
  | 8 => ⟨S2048x8x64, .f32⟩
  | 9 => ⟨S32, .i32⟩
  | 10 => ⟨S_, .i32⟩
  | 11 => ⟨S32, .i32⟩
  | 12 => ⟨S32, .i32⟩
  | 13 => ⟨S_, .i32⟩
  | 14 => ⟨S_, .i32⟩
  | 15 => ⟨S_, .i32⟩
  | 16 => ⟨S32, .i32⟩
  | 17 => ⟨S32, .i32⟩
  | 18 => ⟨S_, .i32⟩
  | 19 => ⟨S32, .i32⟩
  | 20 => ⟨S32, .i32⟩
  | 21 => ⟨S32x1, .i32⟩
  | 22 => ⟨S8, .i32⟩
  | 23 => ⟨S1x8, .i32⟩
  | 24 => ⟨S32x8, .i32⟩
  | 25 => ⟨S32x8, .i32⟩
  | 26 => ⟨S32x8, .i32⟩
  | 27 => ⟨S4, .i32⟩
  | 28 => ⟨S_, .i32⟩
  | 29 => ⟨S4, .i32⟩
  | 30 => ⟨S4, .i32⟩
  | 31 => ⟨S_, .i32⟩
  | 32 => ⟨S4, .i32⟩
  | 33 => ⟨S4, .i32⟩
  | 34 => ⟨S_, .i32⟩
  | 35 => ⟨S_, .i32⟩
  | 36 => ⟨S_, .i32⟩
  | 37 => ⟨S4, .i32⟩
  | 38 => ⟨S4, .i32⟩
  | 39 => ⟨S_, .i32⟩
  | 40 => ⟨S4, .i32⟩
  | 41 => ⟨S4, .i32⟩
  | 42 => ⟨S4x1, .i32⟩
  | 43 => ⟨S32, .i32⟩
  | 44 => ⟨S1x32, .i32⟩
  | 45 => ⟨S4x32, .i32⟩
  | 46 => ⟨S4x32, .i32⟩
  | 47 => ⟨S4x32, .i32⟩
  | 48 => ⟨S4x1, .i32⟩
  | 49 => ⟨S_, .i32⟩
  | 50 => ⟨S4x1, .i32⟩
  | 51 => ⟨S4x1, .i32⟩
  | 52 => ⟨S16, .i32⟩
  | 53 => ⟨S1x16, .i32⟩
  | 54 => ⟨S4x16, .i32⟩
  | 55 => ⟨S4x16, .i32⟩
  | 56 => ⟨S4x16, .i32⟩
  | 57 => ⟨S_, .i32⟩
  | 58 => ⟨S4x16, .i32⟩
  | 59 => ⟨S4x16, .i32⟩
  | 60 => ⟨S_, .i32⟩
  | 61 => ⟨S_, .i32⟩
  | 62 => ⟨S_, .i32⟩
  | 63 => ⟨S4x16, .i32⟩
  | 64 => ⟨S4x16, .i32⟩
  | 65 => ⟨S_, .i32⟩
  | 66 => ⟨S4x16, .i32⟩
  | 67 => ⟨S4x16, .i32⟩
  | 68 => ⟨S4x1x32, .i32⟩
  | 69 => ⟨S4x16x1, .i32⟩
  | 70 => ⟨S4x16x32, .i32⟩
  | 71 => ⟨S4x16x32, .i32⟩
  | 72 => ⟨S4x16x32, .i1⟩
  | 73 => ⟨S4x16x1, .i32⟩
  | 74 => ⟨S_, .i32⟩
  | 75 => ⟨S4x16x1, .i32⟩
  | 76 => ⟨S4x16x1, .i32⟩
  | 77 => ⟨S4x16x32, .i32⟩
  | 78 => ⟨S4x16x32, .i32⟩
  | 79 => ⟨S4x16x32, .i1⟩
  | 80 => ⟨S4x16x32, .i1⟩
  | 81 => ⟨S32x1, .i32⟩
  | 82 => ⟨S32x8, .i32⟩
  | 83 => ⟨S32x8, .i32⟩
  | 84 => ⟨S_, .i32⟩
  | 85 => ⟨S32x8, .i32⟩
  | 86 => ⟨S32x8, .i32⟩
  | 87 => ⟨S4x16x1, .i32⟩
  | 88 => ⟨S4x16x32, .i32⟩
  | 89 => ⟨S4x16x32, .i32⟩
  | 90 => ⟨S4x16x32, .i32⟩
  | 91 => ⟨S_, .i32⟩
  | 92 => ⟨S_, .i32⟩
  | 93 => ⟨S_, .i32⟩
  | 94 => ⟨S4x16x32, .i32⟩
  | 95 => ⟨S4x16x32, .i32⟩
  | 96 => ⟨S_, .i32⟩
  | 97 => ⟨S4x16x32, .i32⟩
  | 98 => ⟨S4x16x32, .i32⟩
  | 99 => ⟨S_, .i32⟩
  | 100 => ⟨S4x16x32, .i32⟩
  | 101 => ⟨S4x16x32, .i32⟩
  | 102 => ⟨S_, .f32⟩
  | 103 => ⟨S2048x8x64, .f32⟩
  | 104 => ⟨S2048x8x64, .f32⟩
  | 105 => ⟨S32x4x16x8x64, .f32⟩
  | 106 => ⟨S8x32x4x16x64, .f32⟩
  | 107 => ⟨S32x64x8x64, .f32⟩
  | 108 => ⟨S8x32x64x64, .f32⟩
  | 109 => ⟨S32x64x8x64, .f32⟩
  | 110 => ⟨S8x32x64x64, .f32⟩
  | 111 => ⟨S32x1x8x1, .i32⟩
  | 112 => ⟨S1x4x1x32, .i32⟩
  | 113 => ⟨S_, .i32⟩
  | 114 => ⟨S32x1x8x1, .i32⟩
  | 115 => ⟨S32x1x8x1, .i1⟩
  | 116 => ⟨S_, .i32⟩
  | 117 => ⟨S32x1x8x1, .i32⟩
  | 118 => ⟨S32x1x8x1, .i32⟩
  | 119 => ⟨S32x1x8x1, .i32⟩
  | 120 => ⟨S_, .i32⟩
  | 121 => ⟨S1x4x1x32, .i32⟩
  | 122 => ⟨S1x4x1x32, .i1⟩
  | 123 => ⟨S_, .i32⟩
  | 124 => ⟨S1x4x1x32, .i32⟩
  | 125 => ⟨S1x4x1x32, .i32⟩
  | 126 => ⟨S1x4x1x32, .i32⟩
  | 127 => ⟨S32x4x8x32, .i32⟩
  | _ => ⟨S2048x1536, .f32⟩

abbrev hbmTy0_1 (i : Nat) : BufTy := match i % 128 with
  | 0 => ⟨S32x4x8x32, .i32⟩
  | 1 => ⟨S32x4x8x32x1, .i32⟩
  | 2 => ⟨S32x4x8x32x1, .i32⟩
  | 3 => ⟨S32x4x8x32x2, .i32⟩
  | 4 => ⟨S8x32x4x8x32x64, .f32⟩
  | 5 => ⟨S_, .i32⟩
  | 6 => ⟨S32x1x8x1, .i32⟩
  | 7 => ⟨S32x1x8x1, .i1⟩
  | 8 => ⟨S_, .i32⟩
  | 9 => ⟨S32x1x8x1, .i32⟩
  | 10 => ⟨S32x1x8x1, .i32⟩
  | 11 => ⟨S32x1x8x1, .i32⟩
  | 12 => ⟨S_, .i32⟩
  | 13 => ⟨S1x4x1x32, .i32⟩
  | 14 => ⟨S1x4x1x32, .i1⟩
  | 15 => ⟨S_, .i32⟩
  | 16 => ⟨S1x4x1x32, .i32⟩
  | 17 => ⟨S1x4x1x32, .i32⟩
  | 18 => ⟨S1x4x1x32, .i32⟩
  | 19 => ⟨S32x4x8x32, .i32⟩
  | 20 => ⟨S32x4x8x32, .i32⟩
  | 21 => ⟨S32x4x8x32x1, .i32⟩
  | 22 => ⟨S32x4x8x32x1, .i32⟩
  | 23 => ⟨S32x4x8x32x2, .i32⟩
  | 24 => ⟨S8x32x4x8x32x64, .f32⟩
  | 25 => ⟨S8x32x4x16x8x32, .f32⟩
  | 26 => ⟨S32x1x1x8x1, .i32⟩
  | 27 => ⟨S1x4x16x1x32, .i32⟩
  | 28 => ⟨S_, .i32⟩
  | 29 => ⟨S32x1x1x8x1, .i32⟩
  | 30 => ⟨S32x1x1x8x1, .i1⟩
  | 31 => ⟨S_, .i32⟩
  | 32 => ⟨S32x1x1x8x1, .i32⟩
  | 33 => ⟨S32x1x1x8x1, .i32⟩
  | 34 => ⟨S32x1x1x8x1, .i32⟩
  | 35 => ⟨S_, .i32⟩
  | 36 => ⟨S1x4x16x1x32, .i32⟩
  | 37 => ⟨S1x4x16x1x32, .i1⟩
  | 38 => ⟨S_, .i32⟩
  | 39 => ⟨S1x4x16x1x32, .i32⟩
  | 40 => ⟨S1x4x16x1x32, .i32⟩
  | 41 => ⟨S1x4x16x1x32, .i32⟩
  | 42 => ⟨S32x4x16x8x32, .i32⟩
  | 43 => ⟨S32x4x16x8x32, .i32⟩
  | 44 => ⟨S32x4x16x8x32x1, .i32⟩
  | 45 => ⟨S32x4x16x8x32x1, .i32⟩
  | 46 => ⟨S32x4x16x8x32x2, .i32⟩
  | 47 => ⟨S8x32x4x16x8x32, .f32⟩
  | 48 => ⟨S8x32x4x16x8x32, .f32⟩
  | 49 => ⟨S4x16x1x32, .i1⟩
  | 50 => ⟨S_, .f32⟩
  | 51 => ⟨S_, .f32⟩
  | 52 => ⟨S8x32x4x16x8x32, .i1⟩
  | 53 => ⟨S8x32x4x16x8x32, .f32⟩
  | 54 => ⟨S8x32x4x16x8x32, .f32⟩
  | 55 => ⟨S_, .f32⟩
  | 56 => ⟨S8x32x4x16x8x32, .f32⟩
  | 57 => ⟨S_, .f32⟩
  | 58 => ⟨S8x32x4x16, .f32⟩
  | 59 => ⟨S8x32x4x16x1x1, .f32⟩
  | 60 => ⟨S8x32x4x16x8x32, .f32⟩
  | 61 => ⟨S8x32x4x16x8x32, .i1⟩
  | 62 => ⟨S8x32x4x16x8x32, .f32⟩
  | 63 => ⟨S_, .f32⟩
  | 64 => ⟨S8x32x4x16, .f32⟩
  | 65 => ⟨S_, .f32⟩
  | 66 => ⟨S8x32x4x16, .f32⟩
  | 67 => ⟨S8x32x4x16, .f32⟩
  | 68 => ⟨S_, .f32⟩
  | 69 => ⟨S8x32x4x16, .f32⟩
  | 70 => ⟨S8x32x4x16, .i1⟩
  | 71 => ⟨S_, .f32⟩
  | 72 => ⟨S8x32x4x16, .f32⟩
  | 73 => ⟨S8x32x4x16, .i1⟩
  | 74 => ⟨S_, .f32⟩
  | 75 => ⟨S8x32x4x16, .f32⟩
  | 76 => ⟨S_, .f32⟩
  | 77 => ⟨S8x32x4x16, .f32⟩
  | 78 => ⟨S_, .f32⟩
  | 79 => ⟨S8x32x4x16, .f32⟩
  | 80 => ⟨S8x32x4x16, .f32⟩
  | 81 => ⟨S8x32x4x16, .f32⟩
  | 82 => ⟨S8x32x4x16x1x1, .f32⟩
  | 83 => ⟨S8x32x4x16x8x32, .f32⟩
  | 84 => ⟨S8x32x4x16x8x32, .f32⟩
  | 85 => ⟨S8x32x4x16x8x32, .f32⟩
  | 86 => ⟨S_, .f32⟩
  | 87 => ⟨S8x32x4x16, .f32⟩
  | 88 => ⟨S8x32x4x16x1x1, .f32⟩
  | 89 => ⟨S8x32x4x16x8x32, .f32⟩
  | 90 => ⟨S8x32x4x16x8x32, .f32⟩
  | 91 => ⟨S8x32x4x16x1x1, .f32⟩
  | 92 => ⟨S_, .f32⟩
  | 93 => ⟨S8x32x4x16x1x1, .f32⟩
  | 94 => ⟨S8x32x4x16x1x1, .f32⟩
  | 95 => ⟨S8x32x4x16x64, .f32⟩
  | 96 => ⟨S32x4x16x8x64, .f32⟩
  | 97 => ⟨S2048x512, .f32⟩
  | 98 => ⟨S32x4x16x8x64, .f32⟩
  | 99 => ⟨S8x32x4x16x64, .f32⟩
  | 100 => ⟨S8x32x4x64x8x32, .f32⟩
  | 101 => ⟨S8x32x4x8x32x64, .f32⟩
  | 102 => ⟨S8x32x4x16x8x32, .f32⟩
  | 103 => ⟨S8x32x4x16x8x32, .f32⟩
  | 104 => ⟨S8x32x4x16x8x32, .f32⟩
  | 105 => ⟨S8x32x4x16x8x32, .f32⟩
  | 106 => ⟨S_, .f32⟩
  | 107 => ⟨S8x32x4x16, .f32⟩
  | 108 => ⟨S8x32x4x16x1x1, .f32⟩
  | 109 => ⟨S8x32x4x16x1x1, .f32⟩
  | 110 => ⟨S8x32x4x16x8x32, .f32⟩
  | 111 => ⟨S8x32x4x16x8x32, .f32⟩
  | 112 => ⟨S_, .f32⟩
  | 113 => ⟨S8x32x4x16, .f32⟩
  | 114 => ⟨S8x32x4x16x8x32, .f32⟩
  | 115 => ⟨S8x32x4x16x8x32, .f32⟩
  | 116 => ⟨S8x32x4x16x8x32, .f32⟩
  | 117 => ⟨S_, .f32⟩
  | 118 => ⟨S8x32x4x16x8x32, .f32⟩
  | 119 => ⟨S8x32x4x16x8x32, .f32⟩
  | 120 => ⟨S8x32x4x8x32x64, .f32⟩
  | 121 => ⟨S8x32x4x16x64, .f32⟩
  | 122 => ⟨S_, .f32⟩
  | 123 => ⟨S8x32x64x64, .f32⟩
  | 124 => ⟨S8x32x64x64, .f32⟩
  | 125 => ⟨S_, .f32⟩
  | 126 => ⟨S8x32x64x64, .f32⟩
  | 127 => ⟨S8x32x64x64, .f32⟩
  | _ => ⟨S2048x1536, .f32⟩

abbrev hbmTy0_2 (i : Nat) : BufTy := match i % 128 with
  | 0 => ⟨S32x64x8x64, .f32⟩
  | 1 => ⟨S2048x8x64, .f32⟩
  | 2 => ⟨S32x64x8x64, .f32⟩
  | 3 => ⟨S2048x8x64, .f32⟩
  | 4 => ⟨S32x4x16x8x64, .f32⟩
  | 5 => ⟨S2048x8x64, .f32⟩
  | 6 => ⟨S_, .f32⟩
  | 7 => ⟨S2048x8x64, .f32⟩
  | 8 => ⟨S2048x8x64, .f32⟩
  | 9 => ⟨S2048x512, .f32⟩
  | 10 => ⟨S2048x512, .f32⟩
  | 11 => ⟨S2048x512, .f32⟩
  | 12 => ⟨S1x2048x512, .f32⟩
  | 13 => ⟨S1x2048x512, .f32⟩
  | 14 => ⟨S1x2048x512, .f32⟩
  | 15 => ⟨S3x2048x512, .f32⟩
  | 16 => ⟨S3x2048x512, .bf16⟩
  | _ => ⟨S2048x1536, .f32⟩

abbrev hbmTy (i : Nat) : BufTy := match i / 128 with
  | 0 => hbmTy0_0 i
  | 1 => hbmTy0_1 i
  | 2 => hbmTy0_2 i
  | _ => ⟨S2048x1536, .f32⟩

abbrev bufTy : (tb : Table) → Fin (tcTables nBuf tb) → BufTy
  | .hbm, ⟨i, _⟩ => hbmTy i
  | _, _ => ⟨S2048x1536, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_c : Ref sig .tc := ⟨.hbm, 10, rfl⟩
abbrev main_v7 : Ref sig .tc := ⟨.hbm, 11, rfl⟩
abbrev main_v8 : Ref sig .tc := ⟨.hbm, 12, rfl⟩
abbrev main_c_0 : Ref sig .tc := ⟨.hbm, 13, rfl⟩
abbrev main_c_1 : Ref sig .tc := ⟨.hbm, 14, rfl⟩
abbrev main_call0_v0 : Ref sig .tc := ⟨.hbm, 15, rfl⟩
abbrev main_call0_v1 : Ref sig .tc := ⟨.hbm, 16, rfl⟩
abbrev main_call0_v2 : Ref sig .tc := ⟨.hbm, 17, rfl⟩
abbrev main_call0_v3 : Ref sig .tc := ⟨.hbm, 18, rfl⟩
abbrev main_call0_v4 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_c_2 : Ref sig .tc := ⟨.hbm, 28, rfl⟩
abbrev main_v17 : Ref sig .tc := ⟨.hbm, 29, rfl⟩
abbrev main_v18 : Ref sig .tc := ⟨.hbm, 30, rfl⟩
abbrev main_c_3 : Ref sig .tc := ⟨.hbm, 31, rfl⟩
abbrev main_v19 : Ref sig .tc := ⟨.hbm, 32, rfl⟩
abbrev main_v20 : Ref sig .tc := ⟨.hbm, 33, rfl⟩
abbrev main_c_4 : Ref sig .tc := ⟨.hbm, 34, rfl⟩
abbrev main_c_5 : Ref sig .tc := ⟨.hbm, 35, rfl⟩
abbrev main_call1_v0 : Ref sig .tc := ⟨.hbm, 36, rfl⟩
abbrev main_call1_v1 : Ref sig .tc := ⟨.hbm, 37, rfl⟩
abbrev main_call1_v2 : Ref sig .tc := ⟨.hbm, 38, rfl⟩
abbrev main_call1_v3 : Ref sig .tc := ⟨.hbm, 39, rfl⟩
abbrev main_call1_v4 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_c_6 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_c_7 : Ref sig .tc := ⟨.hbm, 57, rfl⟩
abbrev main_v36 : Ref sig .tc := ⟨.hbm, 58, rfl⟩
abbrev main_v37 : Ref sig .tc := ⟨.hbm, 59, rfl⟩
abbrev main_c_8 : Ref sig .tc := ⟨.hbm, 60, rfl⟩
abbrev main_c_9 : Ref sig .tc := ⟨.hbm, 61, rfl⟩
abbrev main_call2_v0 : Ref sig .tc := ⟨.hbm, 62, rfl⟩
abbrev main_call2_v1 : Ref sig .tc := ⟨.hbm, 63, rfl⟩
abbrev main_call2_v2 : Ref sig .tc := ⟨.hbm, 64, rfl⟩
abbrev main_call2_v3 : Ref sig .tc := ⟨.hbm, 65, rfl⟩
abbrev main_call2_v4 : Ref sig .tc := ⟨.hbm, 66, rfl⟩
abbrev main_v38 : Ref sig .tc := ⟨.hbm, 67, rfl⟩
abbrev main_v39 : Ref sig .tc := ⟨.hbm, 68, rfl⟩
abbrev main_v40 : Ref sig .tc := ⟨.hbm, 69, rfl⟩
abbrev main_v41 : Ref sig .tc := ⟨.hbm, 70, rfl⟩
abbrev main_v42 : Ref sig .tc := ⟨.hbm, 71, rfl⟩
abbrev main_v43 : Ref sig .tc := ⟨.hbm, 72, rfl⟩
abbrev main_v44 : Ref sig .tc := ⟨.hbm, 73, rfl⟩
abbrev main_c_10 : Ref sig .tc := ⟨.hbm, 74, rfl⟩
abbrev main_v45 : Ref sig .tc := ⟨.hbm, 75, rfl⟩
abbrev main_v46 : Ref sig .tc := ⟨.hbm, 76, rfl⟩
abbrev main_v47 : Ref sig .tc := ⟨.hbm, 77, rfl⟩
abbrev main_v48 : Ref sig .tc := ⟨.hbm, 78, rfl⟩
abbrev main_v49 : Ref sig .tc := ⟨.hbm, 79, rfl⟩
abbrev main_v50 : Ref sig .tc := ⟨.hbm, 80, rfl⟩
abbrev main_v51 : Ref sig .tc := ⟨.hbm, 81, rfl⟩
abbrev main_v52 : Ref sig .tc := ⟨.hbm, 82, rfl⟩
abbrev main_v53 : Ref sig .tc := ⟨.hbm, 83, rfl⟩
abbrev main_c_11 : Ref sig .tc := ⟨.hbm, 84, rfl⟩
abbrev main_v54 : Ref sig .tc := ⟨.hbm, 85, rfl⟩
abbrev main_v55 : Ref sig .tc := ⟨.hbm, 86, rfl⟩
abbrev main_v56 : Ref sig .tc := ⟨.hbm, 87, rfl⟩
abbrev main_v57 : Ref sig .tc := ⟨.hbm, 88, rfl⟩
abbrev main_v58 : Ref sig .tc := ⟨.hbm, 89, rfl⟩
abbrev main_v59 : Ref sig .tc := ⟨.hbm, 90, rfl⟩
abbrev main_c_12 : Ref sig .tc := ⟨.hbm, 91, rfl⟩
abbrev main_c_13 : Ref sig .tc := ⟨.hbm, 92, rfl⟩
abbrev main_call3_v0 : Ref sig .tc := ⟨.hbm, 93, rfl⟩
abbrev main_call3_v1 : Ref sig .tc := ⟨.hbm, 94, rfl⟩
abbrev main_call3_v2 : Ref sig .tc := ⟨.hbm, 95, rfl⟩
abbrev main_call3_v3 : Ref sig .tc := ⟨.hbm, 96, rfl⟩
abbrev main_call3_v4 : Ref sig .tc := ⟨.hbm, 97, rfl⟩
abbrev main_v60 : Ref sig .tc := ⟨.hbm, 98, rfl⟩
abbrev main_c_14 : Ref sig .tc := ⟨.hbm, 99, rfl⟩
abbrev main_v61 : Ref sig .tc := ⟨.hbm, 100, rfl⟩
abbrev main_v62 : Ref sig .tc := ⟨.hbm, 101, rfl⟩
abbrev main_cst : Ref sig .tc := ⟨.hbm, 102, rfl⟩
abbrev main_v63 : Ref sig .tc := ⟨.hbm, 103, rfl⟩
abbrev main_v64 : Ref sig .tc := ⟨.hbm, 104, rfl⟩
abbrev main_v65 : Ref sig .tc := ⟨.hbm, 105, rfl⟩
abbrev main_v66 : Ref sig .tc := ⟨.hbm, 106, rfl⟩
abbrev main_v67 : Ref sig .tc := ⟨.hbm, 107, rfl⟩
abbrev main_v68 : Ref sig .tc := ⟨.hbm, 108, rfl⟩
abbrev main_v69 : Ref sig .tc := ⟨.hbm, 109, rfl⟩
abbrev main_v70 : Ref sig .tc := ⟨.hbm, 110, rfl⟩
abbrev main_v71 : Ref sig .tc := ⟨.hbm, 111, rfl⟩
abbrev main_v72 : Ref sig .tc := ⟨.hbm, 112, rfl⟩
abbrev main_c_15 : Ref sig .tc := ⟨.hbm, 113, rfl⟩
abbrev main_v73 : Ref sig .tc := ⟨.hbm, 114, rfl⟩
abbrev main_v74 : Ref sig .tc := ⟨.hbm, 115, rfl⟩
abbrev main_c_16 : Ref sig .tc := ⟨.hbm, 116, rfl⟩
abbrev main_v75 : Ref sig .tc := ⟨.hbm, 117, rfl⟩
abbrev main_v76 : Ref sig .tc := ⟨.hbm, 118, rfl⟩
abbrev main_v77 : Ref sig .tc := ⟨.hbm, 119, rfl⟩
abbrev main_c_17 : Ref sig .tc := ⟨.hbm, 120, rfl⟩
abbrev main_v78 : Ref sig .tc := ⟨.hbm, 121, rfl⟩
abbrev main_v79 : Ref sig .tc := ⟨.hbm, 122, rfl⟩
abbrev main_c_18 : Ref sig .tc := ⟨.hbm, 123, rfl⟩
abbrev main_v80 : Ref sig .tc := ⟨.hbm, 124, rfl⟩
abbrev main_v81 : Ref sig .tc := ⟨.hbm, 125, rfl⟩
abbrev main_v82 : Ref sig .tc := ⟨.hbm, 126, rfl⟩
abbrev main_v83 : Ref sig .tc := ⟨.hbm, 127, rfl⟩
abbrev main_v84 : Ref sig .tc := ⟨.hbm, 128, rfl⟩
abbrev main_v85 : Ref sig .tc := ⟨.hbm, 129, rfl⟩
abbrev main_v86 : Ref sig .tc := ⟨.hbm, 130, rfl⟩
abbrev main_v87 : Ref sig .tc := ⟨.hbm, 131, rfl⟩
abbrev main_v88 : Ref sig .tc := ⟨.hbm, 132, rfl⟩
abbrev main_c_19 : Ref sig .tc := ⟨.hbm, 133, rfl⟩
abbrev main_v89 : Ref sig .tc := ⟨.hbm, 134, rfl⟩
abbrev main_v90 : Ref sig .tc := ⟨.hbm, 135, rfl⟩
abbrev main_c_20 : Ref sig .tc := ⟨.hbm, 136, rfl⟩
abbrev main_v91 : Ref sig .tc := ⟨.hbm, 137, rfl⟩
abbrev main_v92 : Ref sig .tc := ⟨.hbm, 138, rfl⟩
abbrev main_v93 : Ref sig .tc := ⟨.hbm, 139, rfl⟩
abbrev main_c_21 : Ref sig .tc := ⟨.hbm, 140, rfl⟩
abbrev main_v94 : Ref sig .tc := ⟨.hbm, 141, rfl⟩
abbrev main_v95 : Ref sig .tc := ⟨.hbm, 142, rfl⟩
abbrev main_c_22 : Ref sig .tc := ⟨.hbm, 143, rfl⟩
abbrev main_v96 : Ref sig .tc := ⟨.hbm, 144, rfl⟩
abbrev main_v97 : Ref sig .tc := ⟨.hbm, 145, rfl⟩
abbrev main_v98 : Ref sig .tc := ⟨.hbm, 146, rfl⟩
abbrev main_v99 : Ref sig .tc := ⟨.hbm, 147, rfl⟩
abbrev main_v100 : Ref sig .tc := ⟨.hbm, 148, rfl⟩
abbrev main_v101 : Ref sig .tc := ⟨.hbm, 149, rfl⟩
abbrev main_v102 : Ref sig .tc := ⟨.hbm, 150, rfl⟩
abbrev main_v103 : Ref sig .tc := ⟨.hbm, 151, rfl⟩
abbrev main_v104 : Ref sig .tc := ⟨.hbm, 152, rfl⟩
abbrev main_v105 : Ref sig .tc := ⟨.hbm, 153, rfl⟩
abbrev main_v106 : Ref sig .tc := ⟨.hbm, 154, rfl⟩
abbrev main_v107 : Ref sig .tc := ⟨.hbm, 155, rfl⟩
abbrev main_c_23 : Ref sig .tc := ⟨.hbm, 156, rfl⟩
abbrev main_v108 : Ref sig .tc := ⟨.hbm, 157, rfl⟩
abbrev main_v109 : Ref sig .tc := ⟨.hbm, 158, rfl⟩
abbrev main_c_24 : Ref sig .tc := ⟨.hbm, 159, rfl⟩
abbrev main_v110 : Ref sig .tc := ⟨.hbm, 160, rfl⟩
abbrev main_v111 : Ref sig .tc := ⟨.hbm, 161, rfl⟩
abbrev main_v112 : Ref sig .tc := ⟨.hbm, 162, rfl⟩
abbrev main_c_25 : Ref sig .tc := ⟨.hbm, 163, rfl⟩
abbrev main_v113 : Ref sig .tc := ⟨.hbm, 164, rfl⟩
abbrev main_v114 : Ref sig .tc := ⟨.hbm, 165, rfl⟩
abbrev main_c_26 : Ref sig .tc := ⟨.hbm, 166, rfl⟩
abbrev main_v115 : Ref sig .tc := ⟨.hbm, 167, rfl⟩
abbrev main_v116 : Ref sig .tc := ⟨.hbm, 168, rfl⟩
abbrev main_v117 : Ref sig .tc := ⟨.hbm, 169, rfl⟩
abbrev main_v118 : Ref sig .tc := ⟨.hbm, 170, rfl⟩
abbrev main_v119 : Ref sig .tc := ⟨.hbm, 171, rfl⟩
abbrev main_v120 : Ref sig .tc := ⟨.hbm, 172, rfl⟩
abbrev main_v121 : Ref sig .tc := ⟨.hbm, 173, rfl⟩
abbrev main_v122 : Ref sig .tc := ⟨.hbm, 174, rfl⟩
abbrev main_v123 : Ref sig .tc := ⟨.hbm, 175, rfl⟩
abbrev main_v124 : Ref sig .tc := ⟨.hbm, 176, rfl⟩
abbrev main_v125 : Ref sig .tc := ⟨.hbm, 177, rfl⟩
abbrev main_cst_27 : Ref sig .tc := ⟨.hbm, 178, rfl⟩
abbrev main_call4_v0 : Ref sig .tc := ⟨.hbm, 179, rfl⟩
abbrev main_v126_1 : Ref sig .tc := ⟨.hbm, 180, rfl⟩
abbrev main_call4_v2 : Ref sig .tc := ⟨.hbm, 181, rfl⟩
abbrev main_v126_0 : Ref sig .tc := ⟨.hbm, 182, rfl⟩
abbrev main_call4_cst : Ref sig .tc := ⟨.hbm, 183, rfl⟩
abbrev main_v126_2 : Ref sig .tc := ⟨.hbm, 184, rfl⟩
abbrev main_cst_28 : Ref sig .tc := ⟨.hbm, 185, rfl⟩
abbrev main_v127 : Ref sig .tc := ⟨.hbm, 186, rfl⟩
abbrev main_v128 : Ref sig .tc := ⟨.hbm, 187, rfl⟩
abbrev main_v129 : Ref sig .tc := ⟨.hbm, 188, rfl⟩
abbrev main_v130 : Ref sig .tc := ⟨.hbm, 189, rfl⟩
abbrev main_v131 : Ref sig .tc := ⟨.hbm, 190, rfl⟩
abbrev main_cst_29 : Ref sig .tc := ⟨.hbm, 191, rfl⟩
abbrev main_v132 : Ref sig .tc := ⟨.hbm, 192, rfl⟩
abbrev main_cst_30 : Ref sig .tc := ⟨.hbm, 193, rfl⟩
abbrev main_v133 : Ref sig .tc := ⟨.hbm, 194, rfl⟩
abbrev main_v134 : Ref sig .tc := ⟨.hbm, 195, rfl⟩
abbrev main_cst_31 : Ref sig .tc := ⟨.hbm, 196, rfl⟩
abbrev main_v135 : Ref sig .tc := ⟨.hbm, 197, rfl⟩
abbrev main_v136 : Ref sig .tc := ⟨.hbm, 198, rfl⟩
abbrev main_cst_32 : Ref sig .tc := ⟨.hbm, 199, rfl⟩
abbrev main_v137 : Ref sig .tc := ⟨.hbm, 200, rfl⟩
abbrev main_v138 : Ref sig .tc := ⟨.hbm, 201, rfl⟩
abbrev main_cst_33 : Ref sig .tc := ⟨.hbm, 202, rfl⟩
abbrev main_v139 : Ref sig .tc := ⟨.hbm, 203, rfl⟩
abbrev main_cst_34 : Ref sig .tc := ⟨.hbm, 204, rfl⟩
abbrev main_v140 : Ref sig .tc := ⟨.hbm, 205, rfl⟩
abbrev main_cst_35 : Ref sig .tc := ⟨.hbm, 206, rfl⟩
abbrev main_v141 : Ref sig .tc := ⟨.hbm, 207, rfl⟩
abbrev main_v142 : Ref sig .tc := ⟨.hbm, 208, rfl⟩
abbrev main_v143 : Ref sig .tc := ⟨.hbm, 209, rfl⟩
abbrev main_v144 : Ref sig .tc := ⟨.hbm, 210, rfl⟩
abbrev main_v145 : Ref sig .tc := ⟨.hbm, 211, rfl⟩
abbrev main_v146 : Ref sig .tc := ⟨.hbm, 212, rfl⟩
abbrev main_v147 : Ref sig .tc := ⟨.hbm, 213, rfl⟩
abbrev main_cst_36 : Ref sig .tc := ⟨.hbm, 214, rfl⟩
abbrev main_v148 : Ref sig .tc := ⟨.hbm, 215, rfl⟩
abbrev main_v149 : Ref sig .tc := ⟨.hbm, 216, rfl⟩
abbrev main_v150 : Ref sig .tc := ⟨.hbm, 217, rfl⟩
abbrev main_v151 : Ref sig .tc := ⟨.hbm, 218, rfl⟩
abbrev main_v152 : Ref sig .tc := ⟨.hbm, 219, rfl⟩
abbrev main_cst_37 : Ref sig .tc := ⟨.hbm, 220, rfl⟩
abbrev main_v153 : Ref sig .tc := ⟨.hbm, 221, rfl⟩
abbrev main_v154 : Ref sig .tc := ⟨.hbm, 222, rfl⟩
abbrev main_v155 : Ref sig .tc := ⟨.hbm, 223, rfl⟩
abbrev main_v156 : Ref sig .tc := ⟨.hbm, 224, rfl⟩
abbrev main_v157 : Ref sig .tc := ⟨.hbm, 225, rfl⟩
abbrev main_v158 : Ref sig .tc := ⟨.hbm, 226, rfl⟩
abbrev main_v159 : Ref sig .tc := ⟨.hbm, 227, rfl⟩
abbrev main_v160 : Ref sig .tc := ⟨.hbm, 228, rfl⟩
abbrev main_v161 : Ref sig .tc := ⟨.hbm, 229, rfl⟩
abbrev main_v162 : Ref sig .tc := ⟨.hbm, 230, rfl⟩
abbrev main_v163 : Ref sig .tc := ⟨.hbm, 231, rfl⟩
abbrev main_v164 : Ref sig .tc := ⟨.hbm, 232, rfl⟩
abbrev main_v165 : Ref sig .tc := ⟨.hbm, 233, rfl⟩
abbrev main_cst_38 : Ref sig .tc := ⟨.hbm, 234, rfl⟩
abbrev main_v166 : Ref sig .tc := ⟨.hbm, 235, rfl⟩
abbrev main_v167 : Ref sig .tc := ⟨.hbm, 236, rfl⟩
abbrev main_v168 : Ref sig .tc := ⟨.hbm, 237, rfl⟩
abbrev main_v169 : Ref sig .tc := ⟨.hbm, 238, rfl⟩
abbrev main_v170 : Ref sig .tc := ⟨.hbm, 239, rfl⟩
abbrev main_cst_39 : Ref sig .tc := ⟨.hbm, 240, rfl⟩
abbrev main_v171 : Ref sig .tc := ⟨.hbm, 241, rfl⟩
abbrev main_v172 : Ref sig .tc := ⟨.hbm, 242, rfl⟩
abbrev main_v173 : Ref sig .tc := ⟨.hbm, 243, rfl⟩
abbrev main_v174 : Ref sig .tc := ⟨.hbm, 244, rfl⟩
abbrev main_call5_cst : Ref sig .tc := ⟨.hbm, 245, rfl⟩
abbrev main_call5_v0 : Ref sig .tc := ⟨.hbm, 246, rfl⟩
abbrev main_v175 : Ref sig .tc := ⟨.hbm, 247, rfl⟩
abbrev main_v176 : Ref sig .tc := ⟨.hbm, 248, rfl⟩
abbrev main_v177 : Ref sig .tc := ⟨.hbm, 249, rfl⟩
abbrev main_cst_40 : Ref sig .tc := ⟨.hbm, 250, rfl⟩
abbrev main_v178 : Ref sig .tc := ⟨.hbm, 251, rfl⟩
abbrev main_v179 : Ref sig .tc := ⟨.hbm, 252, rfl⟩
abbrev main_cst_41 : Ref sig .tc := ⟨.hbm, 253, rfl⟩
abbrev main_v180 : Ref sig .tc := ⟨.hbm, 254, rfl⟩
abbrev main_v181 : Ref sig .tc := ⟨.hbm, 255, rfl⟩
abbrev main_v182 : Ref sig .tc := ⟨.hbm, 256, rfl⟩
abbrev main_v183 : Ref sig .tc := ⟨.hbm, 257, rfl⟩
abbrev main_v184 : Ref sig .tc := ⟨.hbm, 258, rfl⟩
abbrev main_v185 : Ref sig .tc := ⟨.hbm, 259, rfl⟩
abbrev main_v186 : Ref sig .tc := ⟨.hbm, 260, rfl⟩
abbrev main_v187 : Ref sig .tc := ⟨.hbm, 261, rfl⟩
abbrev main_cst_42 : Ref sig .tc := ⟨.hbm, 262, rfl⟩
abbrev main_v188 : Ref sig .tc := ⟨.hbm, 263, rfl⟩
abbrev main_v189 : Ref sig .tc := ⟨.hbm, 264, rfl⟩
abbrev main_v190 : Ref sig .tc := ⟨.hbm, 265, rfl⟩
abbrev main_v191 : Ref sig .tc := ⟨.hbm, 266, rfl⟩
abbrev main_v192 : Ref sig .tc := ⟨.hbm, 267, rfl⟩
abbrev main_v193 : Ref sig .tc := ⟨.hbm, 268, rfl⟩
abbrev main_v194 : Ref sig .tc := ⟨.hbm, 269, rfl⟩
abbrev main_v195 : Ref sig .tc := ⟨.hbm, 270, rfl⟩
abbrev main_v196 : Ref sig .tc := ⟨.hbm, 271, rfl⟩
abbrev main_v197 : Ref sig .tc := ⟨.hbm, 272, rfl⟩

abbrev nD : Nat := 1
abbrev τ : Topo := Topo.v7x

variable {F : FTy → Type} [FloatOps F]
-- ==== AttFwd.lean ====
abbrev S2048x1536 : Shape := ⟨2, ![2048, 1536]⟩
abbrev S8x15x31 : Shape := ⟨3, ![8, 15, 31]⟩
abbrev S_ : Shape := ⟨0, ![]⟩
abbrev S8x15x64 : Shape := ⟨3, ![8, 15, 64]⟩
abbrev S8x8x64 : Shape := ⟨3, ![8, 8, 64]⟩
abbrev S2x4x512 : Shape := ⟨3, ![2, 4, 512]⟩
abbrev S1x2x4x512 : Shape := ⟨4, ![1, 2, 4, 512]⟩
abbrev S8x2x4x512 : Shape := ⟨4, ![8, 2, 4, 512]⟩
abbrev S8x128 : Shape := ⟨2, ![8, 128]⟩
abbrev S64 : Shape := ⟨1, ![64]⟩
abbrev S512 : Shape := ⟨1, ![512]⟩
abbrev S1x512 : Shape := ⟨2, ![1, 512]⟩
abbrev S64x1 : Shape := ⟨2, ![64, 1]⟩
abbrev S64x512 : Shape := ⟨2, ![64, 512]⟩
abbrev S256 : Shape := ⟨1, ![256]⟩
abbrev S256x1 : Shape := ⟨2, ![256, 1]⟩
abbrev S1x256 : Shape := ⟨2, ![1, 256]⟩
abbrev S256x256 : Shape := ⟨2, ![256, 256]⟩
abbrev S2048x512 : Shape := ⟨2, ![2048, 512]⟩
abbrev S2048x256 : Shape := ⟨2, ![2048, 256]⟩
abbrev S8x1x4x512 : Shape := ⟨4, ![8, 1, 4, 512]⟩
abbrev S8x256x512 : Shape := ⟨3, ![8, 256, 512]⟩
abbrev S1x1x1x512 : Shape := ⟨4, ![1, 1, 1, 512]⟩
abbrev S1x64x512 : Shape := ⟨3, ![1, 64, 512]⟩
abbrev S64x256 : Shape := ⟨2, ![64, 256]⟩
abbrev S512x256 : Shape := ⟨2, ![512, 256]⟩
abbrev S256x512 : Shape := ⟨2, ![256, 512]⟩
abbrev S1x256x512 : Shape := ⟨3, ![1, 256, 512]⟩

abbrev nBuf : Space → Nat
  | .hbm => 128
  | .vmem => 13
  | .smem => 0
  | _ => 0

abbrev bufTy : (tb : Table) → Fin (tcTables nBuf tb) → BufTy
  | .hbm, ⟨0, _⟩ => ⟨S2048x1536, .f32⟩
  | .hbm, ⟨1, _⟩ => ⟨S8x15x31, .f32⟩
  | .hbm, ⟨2, _⟩ => ⟨S2048x1536, .bf16⟩
  | .hbm, ⟨3, _⟩ => ⟨S_, .i32⟩
  | .hbm, ⟨4, _⟩ => ⟨S_, .f32⟩
  | .hbm, ⟨5, _⟩ => ⟨S8x15x64, .f32⟩
  | .hbm, ⟨6, _⟩ => ⟨S8x8x64, .f32⟩
  | .hbm, ⟨7, _⟩ => ⟨S2x4x512, .f32⟩
  | .hbm, ⟨8, _⟩ => ⟨S8x8x64, .f32⟩
  | .hbm, ⟨9, _⟩ => ⟨S2x4x512, .f32⟩
  | .hbm, ⟨10, _⟩ => ⟨S8x8x64, .f32⟩
  | .hbm, ⟨11, _⟩ => ⟨S2x4x512, .f32⟩
  | .hbm, ⟨12, _⟩ => ⟨S8x8x64, .f32⟩
  | .hbm, ⟨13, _⟩ => ⟨S2x4x512, .f32⟩
  | .hbm, ⟨14, _⟩ => ⟨S8x8x64, .f32⟩
  | .hbm, ⟨15, _⟩ => ⟨S2x4x512, .f32⟩
  | .hbm, ⟨16, _⟩ => ⟨S8x8x64, .f32⟩
  | .hbm, ⟨17, _⟩ => ⟨S2x4x512, .f32⟩
  | .hbm, ⟨18, _⟩ => ⟨S8x8x64, .f32⟩
  | .hbm, ⟨19, _⟩ => ⟨S2x4x512, .f32⟩
  | .hbm, ⟨20, _⟩ => ⟨S8x8x64, .f32⟩
  | .hbm, ⟨21, _⟩ => ⟨S2x4x512, .f32⟩
  | .hbm, ⟨22, _⟩ => ⟨S1x2x4x512, .f32⟩
  | .hbm, ⟨23, _⟩ => ⟨S1x2x4x512, .f32⟩
  | .hbm, ⟨24, _⟩ => ⟨S1x2x4x512, .f32⟩
  | .hbm, ⟨25, _⟩ => ⟨S1x2x4x512, .f32⟩
  | .hbm, ⟨26, _⟩ => ⟨S1x2x4x512, .f32⟩
  | .hbm, ⟨27, _⟩ => ⟨S1x2x4x512, .f32⟩
  | .hbm, ⟨28, _⟩ => ⟨S1x2x4x512, .f32⟩
  | .hbm, ⟨29, _⟩ => ⟨S1x2x4x512, .f32⟩
  | .hbm, ⟨30, _⟩ => ⟨S8x2x4x512, .f32⟩
  | .hbm, ⟨31, _⟩ => ⟨S_, .f32⟩
  | .hbm, ⟨32, _⟩ => ⟨S8x128, .f32⟩
  | .hbm, ⟨33, _⟩ => ⟨S64, .i32⟩
  | .hbm, ⟨34, _⟩ => ⟨S512, .i32⟩
  | .hbm, ⟨35, _⟩ => ⟨S_, .i32⟩
  | .hbm, ⟨36, _⟩ => ⟨S_, .i32⟩
  | .hbm, ⟨37, _⟩ => ⟨S_, .i32⟩
  | .hbm, ⟨38, _⟩ => ⟨S_, .i1⟩
  | .hbm, ⟨39, _⟩ => ⟨S_, .i32⟩
  | .hbm, ⟨40, _⟩ => ⟨S_, .i32⟩
  | .hbm, ⟨41, _⟩ => ⟨S512, .i32⟩
  | .hbm, ⟨42, _⟩ => ⟨S512, .i32⟩
  | .hbm, ⟨43, _⟩ => ⟨S_, .i32⟩
  | .hbm, ⟨44, _⟩ => ⟨S512, .i32⟩
  | .hbm, ⟨45, _⟩ => ⟨S512, .i1⟩
  | .hbm, ⟨46, _⟩ => ⟨S_, .i32⟩
  | .hbm, ⟨47, _⟩ => ⟨S512, .i32⟩
  | .hbm, ⟨48, _⟩ => ⟨S512, .i1⟩
  | .hbm, ⟨49, _⟩ => ⟨S_, .i32⟩
  | .hbm, ⟨50, _⟩ => ⟨S_, .i1⟩
  | .hbm, ⟨51, _⟩ => ⟨S512, .i1⟩
  | .hbm, ⟨52, _⟩ => ⟨S512, .i1⟩
  | .hbm, ⟨53, _⟩ => ⟨S512, .i1⟩
  | .hbm, ⟨54, _⟩ => ⟨S512, .i32⟩
  | .hbm, ⟨55, _⟩ => ⟨S512, .i32⟩
  | .hbm, ⟨56, _⟩ => ⟨S512, .i32⟩
  | .hbm, ⟨57, _⟩ => ⟨S_, .i32⟩
  | .hbm, ⟨58, _⟩ => ⟨S64, .i32⟩
  | .hbm, ⟨59, _⟩ => ⟨S64, .i32⟩
  | .hbm, ⟨60, _⟩ => ⟨S_, .i32⟩
  | .hbm, ⟨61, _⟩ => ⟨S_, .i32⟩
  | .hbm, ⟨62, _⟩ => ⟨S_, .i32⟩
  | .hbm, ⟨63, _⟩ => ⟨S64, .i32⟩
  | .hbm, ⟨64, _⟩ => ⟨S64, .i32⟩
  | .hbm, ⟨65, _⟩ => ⟨S_, .i32⟩
  | .hbm, ⟨66, _⟩ => ⟨S64, .i32⟩
  | .hbm, ⟨67, _⟩ => ⟨S64, .i32⟩
  | .hbm, ⟨68, _⟩ => ⟨S1x512, .i32⟩
  | .hbm, ⟨69, _⟩ => ⟨S64x1, .i32⟩
  | .hbm, ⟨70, _⟩ => ⟨S64x512, .i32⟩
  | .hbm, ⟨71, _⟩ => ⟨S64x512, .i32⟩
  | .hbm, ⟨72, _⟩ => ⟨S64x512, .i1⟩
  | .hbm, ⟨73, _⟩ => ⟨S1x512, .i32⟩
  | .hbm, ⟨74, _⟩ => ⟨S64x1, .i32⟩
  | .hbm, ⟨75, _⟩ => ⟨S_, .i32⟩
  | .hbm, ⟨76, _⟩ => ⟨S64x1, .i32⟩
  | .hbm, ⟨77, _⟩ => ⟨S64x1, .i32⟩
  | .hbm, ⟨78, _⟩ => ⟨S64x512, .i32⟩
  | .hbm, ⟨79, _⟩ => ⟨S64x512, .i32⟩
  | .hbm, ⟨80, _⟩ => ⟨S64x512, .i1⟩
  | .hbm, ⟨81, _⟩ => ⟨S64x512, .i1⟩
  | .hbm, ⟨82, _⟩ => ⟨S256, .i32⟩
  | .hbm, ⟨83, _⟩ => ⟨S256x1, .i32⟩
  | .hbm, ⟨84, _⟩ => ⟨S_, .i32⟩
  | .hbm, ⟨85, _⟩ => ⟨S_, .i32⟩
  | .hbm, ⟨86, _⟩ => ⟨S256x1, .i32⟩
  | .hbm, ⟨87, _⟩ => ⟨S256x1, .i32⟩
  | .hbm, ⟨88, _⟩ => ⟨S256x1, .i32⟩
  | .hbm, ⟨89, _⟩ => ⟨S_, .i32⟩
  | .hbm, ⟨90, _⟩ => ⟨S256x1, .i32⟩
  | .hbm, ⟨91, _⟩ => ⟨S256x1, .i1⟩
  | .hbm, ⟨92, _⟩ => ⟨S256x1, .i32⟩
  | .hbm, ⟨93, _⟩ => ⟨S256x1, .i32⟩
  | .hbm, ⟨94, _⟩ => ⟨S_, .i32⟩
  | .hbm, ⟨95, _⟩ => ⟨S256x1, .i32⟩
  | .hbm, ⟨96, _⟩ => ⟨S256x1, .i1⟩
  | .hbm, ⟨97, _⟩ => ⟨S256x1, .i1⟩
  | .hbm, ⟨98, _⟩ => ⟨S_, .i32⟩
  | .hbm, ⟨99, _⟩ => ⟨S256x1, .i32⟩
  | .hbm, ⟨100, _⟩ => ⟨S256x1, .i32⟩
  | .hbm, ⟨101, _⟩ => ⟨S256x1, .i32⟩
  | .hbm, ⟨102, _⟩ => ⟨S256, .i32⟩
  | .hbm, ⟨103, _⟩ => ⟨S1x256, .i32⟩
  | .hbm, ⟨104, _⟩ => ⟨S_, .i32⟩
  | .hbm, ⟨105, _⟩ => ⟨S_, .i32⟩
  | .hbm, ⟨106, _⟩ => ⟨S1x256, .i32⟩
  | .hbm, ⟨107, _⟩ => ⟨S1x256, .i32⟩
  | .hbm, ⟨108, _⟩ => ⟨S1x256, .i32⟩
  | .hbm, ⟨109, _⟩ => ⟨S_, .i32⟩
  | .hbm, ⟨110, _⟩ => ⟨S1x256, .i32⟩
  | .hbm, ⟨111, _⟩ => ⟨S1x256, .i1⟩
  | .hbm, ⟨112, _⟩ => ⟨S1x256, .i32⟩
  | .hbm, ⟨113, _⟩ => ⟨S1x256, .i32⟩
  | .hbm, ⟨114, _⟩ => ⟨S_, .i32⟩
  | .hbm, ⟨115, _⟩ => ⟨S1x256, .i32⟩
  | .hbm, ⟨116, _⟩ => ⟨S1x256, .i1⟩
  | .hbm, ⟨117, _⟩ => ⟨S1x256, .i1⟩
  | .hbm, ⟨118, _⟩ => ⟨S_, .i32⟩
  | .hbm, ⟨119, _⟩ => ⟨S1x256, .i32⟩
  | .hbm, ⟨120, _⟩ => ⟨S1x256, .i32⟩
  | .hbm, ⟨121, _⟩ => ⟨S1x256, .i32⟩
  | .hbm, ⟨122, _⟩ => ⟨S256x256, .i32⟩
  | .hbm, ⟨123, _⟩ => ⟨S256x256, .i32⟩
  | .hbm, ⟨124, _⟩ => ⟨S256x256, .i1⟩
  | .hbm, ⟨125, _⟩ => ⟨S64x512, .f32⟩
  | .hbm, ⟨126, _⟩ => ⟨S256x256, .f32⟩
  | .hbm, ⟨127, _⟩ => ⟨S2048x512, .bf16⟩
  | .local _ .vmem, ⟨0, _⟩ => ⟨S2048x256, .bf16⟩
  | .local _ .vmem, ⟨1, _⟩ => ⟨S2048x256, .bf16⟩
  | .local _ .vmem, ⟨2, _⟩ => ⟨S2048x256, .bf16⟩
  | .local _ .vmem, ⟨3, _⟩ => ⟨S2048x256, .bf16⟩
  | .local _ .vmem, ⟨4, _⟩ => ⟨S2048x256, .bf16⟩
  | .local _ .vmem, ⟨5, _⟩ => ⟨S2048x256, .bf16⟩
  | .local _ .vmem, ⟨6, _⟩ => ⟨S8x1x4x512, .f32⟩
  | .local _ .vmem, ⟨7, _⟩ => ⟨S8x1x4x512, .f32⟩
  | .local _ .vmem, ⟨8, _⟩ => ⟨S64x512, .f32⟩
  | .local _ .vmem, ⟨9, _⟩ => ⟨S256x256, .f32⟩
  | .local _ .vmem, ⟨10, _⟩ => ⟨S2048x256, .bf16⟩
  | .local _ .vmem, ⟨11, _⟩ => ⟨S2048x256, .bf16⟩
  | .local _ .vmem, ⟨12, _⟩ => ⟨S8x256x512, .f32⟩
  | _, _ => ⟨S2048x1536, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_c : Ref sig .tc := ⟨.hbm, 3, rfl⟩
abbrev main_call0_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_v24 : Ref sig .tc := ⟨.hbm, 28, rfl⟩
abbrev main_v25 : Ref sig .tc := ⟨.hbm, 29, rfl⟩
abbrev main_v26 : Ref sig .tc := ⟨.hbm, 30, rfl⟩
abbrev main_cst : Ref sig .tc := ⟨.hbm, 31, rfl⟩
abbrev main_v27 : Ref sig .tc := ⟨.hbm, 32, rfl⟩
abbrev main_v28 : Ref sig .tc := ⟨.hbm, 33, rfl⟩
abbrev main_v29 : Ref sig .tc := ⟨.hbm, 34, rfl⟩
abbrev main_c_0 : Ref sig .tc := ⟨.hbm, 35, rfl⟩
abbrev main_call1_v0 : Ref sig .tc := ⟨.hbm, 36, rfl⟩
abbrev main_call1_c : Ref sig .tc := ⟨.hbm, 37, rfl⟩
abbrev main_call1_v1 : Ref sig .tc := ⟨.hbm, 38, rfl⟩
abbrev main_call1_c_0 : Ref sig .tc := ⟨.hbm, 39, rfl⟩
abbrev main_call1_v2 : Ref sig .tc := ⟨.hbm, 40, rfl⟩
abbrev main_call1_v3 : Ref sig .tc := ⟨.hbm, 41, rfl⟩
abbrev main_call1_v4 : Ref sig .tc := ⟨.hbm, 42, rfl⟩
abbrev main_call1_c_1 : Ref sig .tc := ⟨.hbm, 43, rfl⟩
abbrev main_call1_v5 : Ref sig .tc := ⟨.hbm, 44, rfl⟩
abbrev main_call1_v6 : Ref sig .tc := ⟨.hbm, 45, rfl⟩
abbrev main_call1_c_2 : Ref sig .tc := ⟨.hbm, 46, rfl⟩
abbrev main_call1_v7 : Ref sig .tc := ⟨.hbm, 47, rfl⟩
abbrev main_call1_v8 : Ref sig .tc := ⟨.hbm, 48, rfl⟩
abbrev main_call1_c_3 : Ref sig .tc := ⟨.hbm, 49, rfl⟩
abbrev main_call1_v9 : Ref sig .tc := ⟨.hbm, 50, rfl⟩
abbrev main_call1_v10 : Ref sig .tc := ⟨.hbm, 51, rfl⟩
abbrev main_call1_v11 : Ref sig .tc := ⟨.hbm, 52, rfl⟩
abbrev main_call1_v12 : Ref sig .tc := ⟨.hbm, 53, rfl⟩
abbrev main_call1_v13 : Ref sig .tc := ⟨.hbm, 54, rfl⟩
abbrev main_call1_v14 : Ref sig .tc := ⟨.hbm, 55, rfl⟩
abbrev main_v30 : Ref sig .tc := ⟨.hbm, 56, rfl⟩
abbrev main_c_1 : Ref sig .tc := ⟨.hbm, 57, rfl⟩
abbrev main_v31 : Ref sig .tc := ⟨.hbm, 58, rfl⟩
abbrev main_v32 : Ref sig .tc := ⟨.hbm, 59, rfl⟩
abbrev main_c_2 : Ref sig .tc := ⟨.hbm, 60, rfl⟩
abbrev main_c_3 : Ref sig .tc := ⟨.hbm, 61, rfl⟩
abbrev main_call2_v0 : Ref sig .tc := ⟨.hbm, 62, rfl⟩
abbrev main_call2_v1 : Ref sig .tc := ⟨.hbm, 63, rfl⟩
abbrev main_call2_v2 : Ref sig .tc := ⟨.hbm, 64, rfl⟩
abbrev main_call2_v3 : Ref sig .tc := ⟨.hbm, 65, rfl⟩
abbrev main_call2_v4 : Ref sig .tc := ⟨.hbm, 66, rfl⟩
abbrev main_v33 : Ref sig .tc := ⟨.hbm, 67, rfl⟩
abbrev main_v34 : Ref sig .tc := ⟨.hbm, 68, rfl⟩
abbrev main_v35 : Ref sig .tc := ⟨.hbm, 69, rfl⟩
abbrev main_v36 : Ref sig .tc := ⟨.hbm, 70, rfl⟩
abbrev main_v37 : Ref sig .tc := ⟨.hbm, 71, rfl⟩
abbrev main_v38 : Ref sig .tc := ⟨.hbm, 72, rfl⟩
abbrev main_v39 : Ref sig .tc := ⟨.hbm, 73, rfl⟩
abbrev main_v40 : Ref sig .tc := ⟨.hbm, 74, rfl⟩
abbrev main_c_4 : Ref sig .tc := ⟨.hbm, 75, rfl⟩
abbrev main_v41 : Ref sig .tc := ⟨.hbm, 76, rfl⟩
abbrev main_v42 : Ref sig .tc := ⟨.hbm, 77, rfl⟩
abbrev main_v43 : Ref sig .tc := ⟨.hbm, 78, rfl⟩
abbrev main_v44 : Ref sig .tc := ⟨.hbm, 79, rfl⟩
abbrev main_v45 : Ref sig .tc := ⟨.hbm, 80, rfl⟩
abbrev main_v46 : Ref sig .tc := ⟨.hbm, 81, rfl⟩
abbrev main_v47 : Ref sig .tc := ⟨.hbm, 82, rfl⟩
abbrev main_v48 : Ref sig .tc := ⟨.hbm, 83, rfl⟩
abbrev main_c_5 : Ref sig .tc := ⟨.hbm, 84, rfl⟩
abbrev main_call3_v0 : Ref sig .tc := ⟨.hbm, 85, rfl⟩
abbrev main_call3_v1 : Ref sig .tc := ⟨.hbm, 86, rfl⟩
abbrev main_call3_v2 : Ref sig .tc := ⟨.hbm, 87, rfl⟩
abbrev main_call3_v3 : Ref sig .tc := ⟨.hbm, 88, rfl⟩
abbrev main_call3_v4 : Ref sig .tc := ⟨.hbm, 89, rfl⟩
abbrev main_call3_v5 : Ref sig .tc := ⟨.hbm, 90, rfl⟩
abbrev main_call3_v6 : Ref sig .tc := ⟨.hbm, 91, rfl⟩
abbrev main_call3_v7 : Ref sig .tc := ⟨.hbm, 92, rfl⟩
abbrev main_call3_v8 : Ref sig .tc := ⟨.hbm, 93, rfl⟩
abbrev main_call3_c : Ref sig .tc := ⟨.hbm, 94, rfl⟩
abbrev main_call3_v9 : Ref sig .tc := ⟨.hbm, 95, rfl⟩
abbrev main_call3_v10 : Ref sig .tc := ⟨.hbm, 96, rfl⟩
abbrev main_call3_v11 : Ref sig .tc := ⟨.hbm, 97, rfl⟩
abbrev main_call3_c_0 : Ref sig .tc := ⟨.hbm, 98, rfl⟩
abbrev main_call3_v12 : Ref sig .tc := ⟨.hbm, 99, rfl⟩
abbrev main_call3_v13 : Ref sig .tc := ⟨.hbm, 100, rfl⟩
abbrev main_v49 : Ref sig .tc := ⟨.hbm, 101, rfl⟩
abbrev main_v50 : Ref sig .tc := ⟨.hbm, 102, rfl⟩
abbrev main_v51 : Ref sig .tc := ⟨.hbm, 103, rfl⟩
abbrev main_c_6 : Ref sig .tc := ⟨.hbm, 104, rfl⟩
abbrev main_call4_v0 : Ref sig .tc := ⟨.hbm, 105, rfl⟩
abbrev main_call4_v1 : Ref sig .tc := ⟨.hbm, 106, rfl⟩
abbrev main_call4_v2 : Ref sig .tc := ⟨.hbm, 107, rfl⟩
abbrev main_call4_v3 : Ref sig .tc := ⟨.hbm, 108, rfl⟩
abbrev main_call4_v4 : Ref sig .tc := ⟨.hbm, 109, rfl⟩
abbrev main_call4_v5 : Ref sig .tc := ⟨.hbm, 110, rfl⟩
abbrev main_call4_v6 : Ref sig .tc := ⟨.hbm, 111, rfl⟩
abbrev main_call4_v7 : Ref sig .tc := ⟨.hbm, 112, rfl⟩
abbrev main_call4_v8 : Ref sig .tc := ⟨.hbm, 113, rfl⟩
abbrev main_call4_c : Ref sig .tc := ⟨.hbm, 114, rfl⟩
abbrev main_call4_v9 : Ref sig .tc := ⟨.hbm, 115, rfl⟩
abbrev main_call4_v10 : Ref sig .tc := ⟨.hbm, 116, rfl⟩
abbrev main_call4_v11 : Ref sig .tc := ⟨.hbm, 117, rfl⟩
abbrev main_call4_c_0 : Ref sig .tc := ⟨.hbm, 118, rfl⟩
abbrev main_call4_v12 : Ref sig .tc := ⟨.hbm, 119, rfl⟩
abbrev main_call4_v13 : Ref sig .tc := ⟨.hbm, 120, rfl⟩
abbrev main_v52 : Ref sig .tc := ⟨.hbm, 121, rfl⟩
abbrev main_v53 : Ref sig .tc := ⟨.hbm, 122, rfl⟩
abbrev main_v54 : Ref sig .tc := ⟨.hbm, 123, rfl⟩
abbrev main_v55 : Ref sig .tc := ⟨.hbm, 124, rfl⟩
abbrev main_v56 : Ref sig .tc := ⟨.hbm, 125, rfl⟩
abbrev main_v57 : Ref sig .tc := ⟨.hbm, 126, rfl⟩
abbrev main_v58 : Ref sig .tc := ⟨.hbm, 127, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨1, ![2], ![false]⟩

@[reducible] def k0_t1_loop : Scf.Loop 32 :=
  let c0_i32 : BitVec 32 := 0#32
  let c32_i32 : BitVec 32 := 32#32
  let v328 : BitVec 32 := Scalar.addi c0_i32 c32_i32
  let c1_i32 : BitVec 32 := 1#32
  ⟨c0_i32, v328, c1_i32⟩
def k0_mult1 (k0_t1 : Fin k0_t1_loop.trips) : BitVec 32 :=
  let c0_i32 : BitVec 32 := 0#32
  let c1_i32 : BitVec 32 := 1#32
  let arg10 : BitVec 32 := Scf.iv c0_i32 c1_i32 k0_t1
  let c64_i32 : BitVec 32 := 64#32
  let v333 : BitVec 32 := Scalar.muli arg10 c64_i32
  v333
def k0_mult2 (k0_t1 : Fin k0_t1_loop.trips) : BitVec 32 :=
  let c24_i32 : BitVec 32 := 24#32
  let c0_i32_282 : BitVec 32 := 0#32
  let c0_i32 : BitVec 32 := 0#32
  let c1_i32 : BitVec 32 := 1#32
  let arg10 : BitVec 32 := Scf.iv c0_i32 c1_i32 k0_t1
  let c4_i32 : BitVec 32 := 4#32
  let v329 : BitVec 32 := Scalar.subi arg10 c4_i32
  let v330 : BitVec 32 := Scalar.maxsi c0_i32_282 v329
  let v331 : BitVec 32 := Scalar.minsi c24_i32 v330
  let c64_i32_283 : BitVec 32 := 64#32
  let v335 : BitVec 32 := Scalar.muli v331 c64_i32_283
  v335
def k0_off1 (k0_t1 : Fin k0_t1_loop.trips) : Fin 2 → Nat :=
  let c0_i32 : BitVec 32 := 0#32
  let c1_i32 : BitVec 32 := 1#32
  let arg10 : BitVec 32 := Scf.iv c0_i32 c1_i32 k0_t1
  let c64_i32 : BitVec 32 := 64#32
  let v333 : BitVec 32 := Scalar.muli arg10 c64_i32
  let v334 : BitVec 32 := v333
  let v337 : Index := Scalar.indexCast v334
  let c0_284 : Index := 0#32
  ![v337.toNat, 0]
def k0_off2 (k0_t1 : Fin k0_t1_loop.trips) : Fin 2 → Nat :=
  let c24_i32 : BitVec 32 := 24#32
  let c0_i32_282 : BitVec 32 := 0#32
  let c0_i32 : BitVec 32 := 0#32
  let c1_i32 : BitVec 32 := 1#32
  let arg10 : BitVec 32 := Scf.iv c0_i32 c1_i32 k0_t1
  let c4_i32 : BitVec 32 := 4#32
  let v329 : BitVec 32 := Scalar.subi arg10 c4_i32
  let v330 : BitVec 32 := Scalar.maxsi c0_i32_282 v329
  let v331 : BitVec 32 := Scalar.minsi c24_i32 v330
  let c64_i32_283 : BitVec 32 := 64#32
  let v335 : BitVec 32 := Scalar.muli v331 c64_i32_283
  let v336 : BitVec 32 := v335
  let v345 : Index := Scalar.indexCast v336
  let c0_287 : Index := 0#32
  ![v345.toNat, 0]
def k0_off3 (k0_t1 : Fin k0_t1_loop.trips) : Fin 3 → Nat :=
  let c0_i32 : BitVec 32 := 0#32
  let c1_i32 : BitVec 32 := 1#32
  let arg10 : BitVec 32 := Scf.iv c0_i32 c1_i32 k0_t1
  let c24_i32 : BitVec 32 := 24#32
  let c0_i32_282 : BitVec 32 := 0#32
  let c4_i32 : BitVec 32 := 4#32
  let v329 : BitVec 32 := Scalar.subi arg10 c4_i32
  let v330 : BitVec 32 := Scalar.maxsi c0_i32_282 v329
  let v331 : BitVec 32 := Scalar.minsi c24_i32 v330
  let v332 : BitVec 32 := Scalar.subi arg10 v331
  let v349 : Index := Scalar.indexCast v332
  let c0_289 : Index := 0#32
  let c0_290 : Index := 0#32
  ![v349.toNat, 0, 0]
def cc0_transform_0 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![c0_i32_0.toNat, v0.toNat]

def cc0_transform_1 (i : grid0.Coords) : Fin 2 → Nat :=
  let arg0 : BitVec 32 := BitVec.ofNat 32 (i 0).val
  let c2_i32 : BitVec 32 := 2#32
  let v0 : BitVec 32 := Scalar.addi arg0 c2_i32
  let c0_i32 : BitVec 32 := 0#32
  let c0_i32_0 : BitVec 32 := 0#32
  ![c0_i32.toNat, v0.toNat]

def cc0_transform_2 (i : grid0.Coords) : Fin 2 → Nat :=
  let arg0 : BitVec 32 := BitVec.ofNat 32 (i 0).val
  let c4_i32 : BitVec 32 := 4#32
  let v0 : BitVec 32 := Scalar.addi arg0 c4_i32
  let c0_i32 : BitVec 32 := 0#32
  let c0_i32_0 : BitVec 32 := 0#32
  ![c0_i32.toNat, v0.toNat]

def cc0_transform_3 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![c0_i32_0.toNat, v0.toNat]

abbrev stage0_0 : Fin 2 → Memref sig .tc .vmem S2048x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2048x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2048x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S8x1x4x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S64x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S256x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S2048x256 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== AttFwdIdeal.lean ====
variable {F : FTy → Type} [FloatOps F] [Named F]
def κ : String → Option EReal := fun
  | "mask" => some ⊥
  | _ => none
-- ==== AttOutIdeal.lean ====
abbrev S2048x1536 : Shape := ⟨2, ![2048, 1536]⟩
abbrev S8x15x31 : Shape := ⟨3, ![8, 15, 31]⟩
abbrev S2048x512 : Shape := ⟨2, ![2048, 512]⟩
abbrev S2048x8x64 : Shape := ⟨3, ![2048, 8, 64]⟩
abbrev S32 : Shape := ⟨1, ![32]⟩
abbrev S_ : Shape := ⟨0, ![]⟩
abbrev S32x1 : Shape := ⟨2, ![32, 1]⟩
abbrev S8 : Shape := ⟨1, ![8]⟩
abbrev S1x8 : Shape := ⟨2, ![1, 8]⟩
abbrev S32x8 : Shape := ⟨2, ![32, 8]⟩
abbrev S4 : Shape := ⟨1, ![4]⟩
abbrev S4x1 : Shape := ⟨2, ![4, 1]⟩
abbrev S1x32 : Shape := ⟨2, ![1, 32]⟩
abbrev S4x32 : Shape := ⟨2, ![4, 32]⟩
abbrev S16 : Shape := ⟨1, ![16]⟩
abbrev S1x16 : Shape := ⟨2, ![1, 16]⟩
abbrev S4x16 : Shape := ⟨2, ![4, 16]⟩
abbrev S4x1x32 : Shape := ⟨3, ![4, 1, 32]⟩
abbrev S4x16x1 : Shape := ⟨3, ![4, 16, 1]⟩
abbrev S4x16x32 : Shape := ⟨3, ![4, 16, 32]⟩
abbrev S32x4x16x8x64 : Shape := ⟨5, ![32, 4, 16, 8, 64]⟩
abbrev S8x32x4x16x64 : Shape := ⟨5, ![8, 32, 4, 16, 64]⟩
abbrev S32x64x8x64 : Shape := ⟨4, ![32, 64, 8, 64]⟩
abbrev S8x32x64x64 : Shape := ⟨4, ![8, 32, 64, 64]⟩
abbrev S32x1x8x1 : Shape := ⟨4, ![32, 1, 8, 1]⟩
abbrev S1x4x1x32 : Shape := ⟨4, ![1, 4, 1, 32]⟩
abbrev S32x4x8x32 : Shape := ⟨4, ![32, 4, 8, 32]⟩
abbrev S32x4x8x32x1 : Shape := ⟨5, ![32, 4, 8, 32, 1]⟩
abbrev S32x4x8x32x2 : Shape := ⟨5, ![32, 4, 8, 32, 2]⟩
abbrev S8x32x4x8x32x64 : Shape := ⟨6, ![8, 32, 4, 8, 32, 64]⟩
abbrev S8x32x4x16x8x32 : Shape := ⟨6, ![8, 32, 4, 16, 8, 32]⟩
abbrev S32x1x1x8x1 : Shape := ⟨5, ![32, 1, 1, 8, 1]⟩
abbrev S1x4x16x1x32 : Shape := ⟨5, ![1, 4, 16, 1, 32]⟩
abbrev S32x4x16x8x32 : Shape := ⟨5, ![32, 4, 16, 8, 32]⟩
abbrev S32x4x16x8x32x1 : Shape := ⟨6, ![32, 4, 16, 8, 32, 1]⟩
abbrev S32x4x16x8x32x2 : Shape := ⟨6, ![32, 4, 16, 8, 32, 2]⟩
abbrev S4x16x1x32 : Shape := ⟨4, ![4, 16, 1, 32]⟩
abbrev S8x32x4x16 : Shape := ⟨4, ![8, 32, 4, 16]⟩
abbrev S8x32x4x16x1x1 : Shape := ⟨6, ![8, 32, 4, 16, 1, 1]⟩

abbrev nBuf : Space → Nat
  | .hbm => 200
  | .vmem => 0
  | .smem => 0
  | _ => 0

abbrev hbmTy0_0 (i : Nat) : BufTy := match i % 128 with
  | 0 => ⟨S2048x1536, .f32⟩
  | 1 => ⟨S8x15x31, .f32⟩
  | 2 => ⟨S2048x512, .f32⟩
  | 3 => ⟨S2048x8x64, .f32⟩
  | 4 => ⟨S2048x512, .f32⟩
  | 5 => ⟨S2048x8x64, .f32⟩
  | 6 => ⟨S2048x512, .f32⟩
  | 7 => ⟨S2048x8x64, .f32⟩
  | 8 => ⟨S32, .i32⟩
  | 9 => ⟨S_, .i32⟩
  | 10 => ⟨S32, .i32⟩
  | 11 => ⟨S32, .i32⟩
  | 12 => ⟨S_, .i32⟩
  | 13 => ⟨S_, .i32⟩
  | 14 => ⟨S_, .i32⟩
  | 15 => ⟨S32, .i32⟩
  | 16 => ⟨S32, .i32⟩
  | 17 => ⟨S_, .i32⟩
  | 18 => ⟨S32, .i32⟩
  | 19 => ⟨S32, .i32⟩
  | 20 => ⟨S32x1, .i32⟩
  | 21 => ⟨S8, .i32⟩
  | 22 => ⟨S1x8, .i32⟩
  | 23 => ⟨S32x8, .i32⟩
  | 24 => ⟨S32x8, .i32⟩
  | 25 => ⟨S32x8, .i32⟩
  | 26 => ⟨S4, .i32⟩
  | 27 => ⟨S_, .i32⟩
  | 28 => ⟨S4, .i32⟩
  | 29 => ⟨S4, .i32⟩
  | 30 => ⟨S_, .i32⟩
  | 31 => ⟨S4, .i32⟩
  | 32 => ⟨S4, .i32⟩
  | 33 => ⟨S_, .i32⟩
  | 34 => ⟨S_, .i32⟩
  | 35 => ⟨S_, .i32⟩
  | 36 => ⟨S4, .i32⟩
  | 37 => ⟨S4, .i32⟩
  | 38 => ⟨S_, .i32⟩
  | 39 => ⟨S4, .i32⟩
  | 40 => ⟨S4, .i32⟩
  | 41 => ⟨S4x1, .i32⟩
  | 42 => ⟨S32, .i32⟩
  | 43 => ⟨S1x32, .i32⟩
  | 44 => ⟨S4x32, .i32⟩
  | 45 => ⟨S4x32, .i32⟩
  | 46 => ⟨S4x32, .i32⟩
  | 47 => ⟨S4x1, .i32⟩
  | 48 => ⟨S_, .i32⟩
  | 49 => ⟨S4x1, .i32⟩
  | 50 => ⟨S4x1, .i32⟩
  | 51 => ⟨S16, .i32⟩
  | 52 => ⟨S1x16, .i32⟩
  | 53 => ⟨S4x16, .i32⟩
  | 54 => ⟨S4x16, .i32⟩
  | 55 => ⟨S4x16, .i32⟩
  | 56 => ⟨S_, .i32⟩
  | 57 => ⟨S4x16, .i32⟩
  | 58 => ⟨S4x16, .i32⟩
  | 59 => ⟨S_, .i32⟩
  | 60 => ⟨S_, .i32⟩
  | 61 => ⟨S_, .i32⟩
  | 62 => ⟨S4x16, .i32⟩
  | 63 => ⟨S4x16, .i32⟩
  | 64 => ⟨S_, .i32⟩
  | 65 => ⟨S4x16, .i32⟩
  | 66 => ⟨S4x16, .i32⟩
  | 67 => ⟨S4x1x32, .i32⟩
  | 68 => ⟨S4x16x1, .i32⟩
  | 69 => ⟨S4x16x32, .i32⟩
  | 70 => ⟨S4x16x32, .i32⟩
  | 71 => ⟨S4x16x32, .i1⟩
  | 72 => ⟨S4x16x1, .i32⟩
  | 73 => ⟨S_, .i32⟩
  | 74 => ⟨S4x16x1, .i32⟩
  | 75 => ⟨S4x16x1, .i32⟩
  | 76 => ⟨S4x16x32, .i32⟩
  | 77 => ⟨S4x16x32, .i32⟩
  | 78 => ⟨S4x16x32, .i1⟩
  | 79 => ⟨S4x16x32, .i1⟩
  | 80 => ⟨S32x1, .i32⟩
  | 81 => ⟨S32x8, .i32⟩
  | 82 => ⟨S32x8, .i32⟩
  | 83 => ⟨S_, .i32⟩
  | 84 => ⟨S32x8, .i32⟩
  | 85 => ⟨S32x8, .i32⟩
  | 86 => ⟨S4x16x1, .i32⟩
  | 87 => ⟨S4x16x32, .i32⟩
  | 88 => ⟨S4x16x32, .i32⟩
  | 89 => ⟨S4x16x32, .i32⟩
  | 90 => ⟨S_, .i32⟩
  | 91 => ⟨S_, .i32⟩
  | 92 => ⟨S_, .i32⟩
  | 93 => ⟨S4x16x32, .i32⟩
  | 94 => ⟨S4x16x32, .i32⟩
  | 95 => ⟨S_, .i32⟩
  | 96 => ⟨S4x16x32, .i32⟩
  | 97 => ⟨S4x16x32, .i32⟩
  | 98 => ⟨S_, .i32⟩
  | 99 => ⟨S4x16x32, .i32⟩
  | 100 => ⟨S4x16x32, .i32⟩
  | 101 => ⟨S_, .f32⟩
  | 102 => ⟨S2048x8x64, .f32⟩
  | 103 => ⟨S2048x8x64, .f32⟩
  | 104 => ⟨S32x4x16x8x64, .f32⟩
  | 105 => ⟨S8x32x4x16x64, .f32⟩
  | 106 => ⟨S32x64x8x64, .f32⟩
  | 107 => ⟨S8x32x64x64, .f32⟩
  | 108 => ⟨S32x64x8x64, .f32⟩
  | 109 => ⟨S8x32x64x64, .f32⟩
  | 110 => ⟨S32x1x8x1, .i32⟩
  | 111 => ⟨S1x4x1x32, .i32⟩
  | 112 => ⟨S_, .i32⟩
  | 113 => ⟨S32x1x8x1, .i32⟩
  | 114 => ⟨S32x1x8x1, .i1⟩
  | 115 => ⟨S_, .i32⟩
  | 116 => ⟨S32x1x8x1, .i32⟩
  | 117 => ⟨S32x1x8x1, .i32⟩
  | 118 => ⟨S32x1x8x1, .i32⟩
  | 119 => ⟨S_, .i32⟩
  | 120 => ⟨S1x4x1x32, .i32⟩
  | 121 => ⟨S1x4x1x32, .i1⟩
  | 122 => ⟨S_, .i32⟩
  | 123 => ⟨S1x4x1x32, .i32⟩
  | 124 => ⟨S1x4x1x32, .i32⟩
  | 125 => ⟨S1x4x1x32, .i32⟩
  | 126 => ⟨S32x4x8x32, .i32⟩
  | 127 => ⟨S32x4x8x32, .i32⟩
  | _ => ⟨S2048x1536, .f32⟩

abbrev hbmTy0_1 (i : Nat) : BufTy := match i % 128 with
  | 0 => ⟨S32x4x8x32x1, .i32⟩
  | 1 => ⟨S32x4x8x32x1, .i32⟩
  | 2 => ⟨S32x4x8x32x2, .i32⟩
  | 3 => ⟨S8x32x4x8x32x64, .f32⟩
  | 4 => ⟨S_, .i32⟩
  | 5 => ⟨S32x1x8x1, .i32⟩
  | 6 => ⟨S32x1x8x1, .i1⟩
  | 7 => ⟨S_, .i32⟩
  | 8 => ⟨S32x1x8x1, .i32⟩
  | 9 => ⟨S32x1x8x1, .i32⟩
  | 10 => ⟨S32x1x8x1, .i32⟩
  | 11 => ⟨S_, .i32⟩
  | 12 => ⟨S1x4x1x32, .i32⟩
  | 13 => ⟨S1x4x1x32, .i1⟩
  | 14 => ⟨S_, .i32⟩
  | 15 => ⟨S1x4x1x32, .i32⟩
  | 16 => ⟨S1x4x1x32, .i32⟩
  | 17 => ⟨S1x4x1x32, .i32⟩
  | 18 => ⟨S32x4x8x32, .i32⟩
  | 19 => ⟨S32x4x8x32, .i32⟩
  | 20 => ⟨S32x4x8x32x1, .i32⟩
  | 21 => ⟨S32x4x8x32x1, .i32⟩
  | 22 => ⟨S32x4x8x32x2, .i32⟩
  | 23 => ⟨S8x32x4x8x32x64, .f32⟩
  | 24 => ⟨S8x32x4x16x8x32, .f32⟩
  | 25 => ⟨S32x1x1x8x1, .i32⟩
  | 26 => ⟨S1x4x16x1x32, .i32⟩
  | 27 => ⟨S_, .i32⟩
  | 28 => ⟨S32x1x1x8x1, .i32⟩
  | 29 => ⟨S32x1x1x8x1, .i1⟩
  | 30 => ⟨S_, .i32⟩
  | 31 => ⟨S32x1x1x8x1, .i32⟩
  | 32 => ⟨S32x1x1x8x1, .i32⟩
  | 33 => ⟨S32x1x1x8x1, .i32⟩
  | 34 => ⟨S_, .i32⟩
  | 35 => ⟨S1x4x16x1x32, .i32⟩
  | 36 => ⟨S1x4x16x1x32, .i1⟩
  | 37 => ⟨S_, .i32⟩
  | 38 => ⟨S1x4x16x1x32, .i32⟩
  | 39 => ⟨S1x4x16x1x32, .i32⟩
  | 40 => ⟨S1x4x16x1x32, .i32⟩
  | 41 => ⟨S32x4x16x8x32, .i32⟩
  | 42 => ⟨S32x4x16x8x32, .i32⟩
  | 43 => ⟨S32x4x16x8x32x1, .i32⟩
  | 44 => ⟨S32x4x16x8x32x1, .i32⟩
  | 45 => ⟨S32x4x16x8x32x2, .i32⟩
  | 46 => ⟨S8x32x4x16x8x32, .f32⟩
  | 47 => ⟨S8x32x4x16x8x32, .f32⟩
  | 48 => ⟨S4x16x1x32, .i1⟩
  | 49 => ⟨S_, .f32⟩
  | 50 => ⟨S_, .f32⟩
  | 51 => ⟨S8x32x4x16x8x32, .i1⟩
  | 52 => ⟨S8x32x4x16x8x32, .f32⟩
  | 53 => ⟨S8x32x4x16x8x32, .f32⟩
  | 54 => ⟨S_, .f32⟩
  | 55 => ⟨S8x32x4x16, .f32⟩
  | 56 => ⟨S_, .f32⟩
  | 57 => ⟨S8x32x4x16, .f32⟩
  | 58 => ⟨S8x32x4x16, .f32⟩
  | 59 => ⟨S8x32x4x16x1x1, .f32⟩
  | 60 => ⟨S8x32x4x16x8x32, .f32⟩
  | 61 => ⟨S8x32x4x16x8x32, .f32⟩
  | 62 => ⟨S8x32x4x16x8x32, .f32⟩
  | 63 => ⟨S_, .f32⟩
  | 64 => ⟨S8x32x4x16, .f32⟩
  | 65 => ⟨S8x32x4x16x1x1, .f32⟩
  | 66 => ⟨S8x32x4x16x8x32, .f32⟩
  | 67 => ⟨S8x32x4x16x8x32, .f32⟩
  | 68 => ⟨S8x32x4x16x64, .f32⟩
  | 69 => ⟨S32x4x16x8x64, .f32⟩
  | 70 => ⟨S2048x512, .f32⟩
  | 71 => ⟨S2048x512, .bf16⟩
  | _ => ⟨S2048x1536, .f32⟩

abbrev hbmTy (i : Nat) : BufTy := match i / 128 with
  | 0 => hbmTy0_0 i
  | 1 => hbmTy0_1 i
  | _ => ⟨S2048x1536, .f32⟩

abbrev bufTy : (tb : Table) → Fin (tcTables nBuf tb) → BufTy
  | .hbm, ⟨i, _⟩ => hbmTy i
  | _, _ => ⟨S2048x1536, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_c : Ref sig .tc := ⟨.hbm, 9, rfl⟩
abbrev main_v7 : Ref sig .tc := ⟨.hbm, 10, rfl⟩
abbrev main_v8 : Ref sig .tc := ⟨.hbm, 11, rfl⟩
abbrev main_c_0 : Ref sig .tc := ⟨.hbm, 12, rfl⟩
abbrev main_c_1 : Ref sig .tc := ⟨.hbm, 13, rfl⟩
abbrev main_call0_v0 : Ref sig .tc := ⟨.hbm, 14, rfl⟩
abbrev main_call0_v1 : Ref sig .tc := ⟨.hbm, 15, rfl⟩
abbrev main_call0_v2 : Ref sig .tc := ⟨.hbm, 16, rfl⟩
abbrev main_call0_v3 : Ref sig .tc := ⟨.hbm, 17, rfl⟩
abbrev main_call0_v4 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_c_2 : Ref sig .tc := ⟨.hbm, 27, rfl⟩
abbrev main_v17 : Ref sig .tc := ⟨.hbm, 28, rfl⟩
abbrev main_v18 : Ref sig .tc := ⟨.hbm, 29, rfl⟩
abbrev main_c_3 : Ref sig .tc := ⟨.hbm, 30, rfl⟩
abbrev main_v19 : Ref sig .tc := ⟨.hbm, 31, rfl⟩
abbrev main_v20 : Ref sig .tc := ⟨.hbm, 32, rfl⟩
abbrev main_c_4 : Ref sig .tc := ⟨.hbm, 33, rfl⟩
abbrev main_c_5 : Ref sig .tc := ⟨.hbm, 34, rfl⟩
abbrev main_call1_v0 : Ref sig .tc := ⟨.hbm, 35, rfl⟩
abbrev main_call1_v1 : Ref sig .tc := ⟨.hbm, 36, rfl⟩
abbrev main_call1_v2 : Ref sig .tc := ⟨.hbm, 37, rfl⟩
abbrev main_call1_v3 : Ref sig .tc := ⟨.hbm, 38, rfl⟩
abbrev main_call1_v4 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_c_6 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_c_7 : Ref sig .tc := ⟨.hbm, 56, rfl⟩
abbrev main_v36 : Ref sig .tc := ⟨.hbm, 57, rfl⟩
abbrev main_v37 : Ref sig .tc := ⟨.hbm, 58, rfl⟩
abbrev main_c_8 : Ref sig .tc := ⟨.hbm, 59, rfl⟩
abbrev main_c_9 : Ref sig .tc := ⟨.hbm, 60, rfl⟩
abbrev main_call2_v0 : Ref sig .tc := ⟨.hbm, 61, rfl⟩
abbrev main_call2_v1 : Ref sig .tc := ⟨.hbm, 62, rfl⟩
abbrev main_call2_v2 : Ref sig .tc := ⟨.hbm, 63, rfl⟩
abbrev main_call2_v3 : Ref sig .tc := ⟨.hbm, 64, rfl⟩
abbrev main_call2_v4 : Ref sig .tc := ⟨.hbm, 65, rfl⟩
abbrev main_v38 : Ref sig .tc := ⟨.hbm, 66, rfl⟩
abbrev main_v39 : Ref sig .tc := ⟨.hbm, 67, rfl⟩
abbrev main_v40 : Ref sig .tc := ⟨.hbm, 68, rfl⟩
abbrev main_v41 : Ref sig .tc := ⟨.hbm, 69, rfl⟩
abbrev main_v42 : Ref sig .tc := ⟨.hbm, 70, rfl⟩
abbrev main_v43 : Ref sig .tc := ⟨.hbm, 71, rfl⟩
abbrev main_v44 : Ref sig .tc := ⟨.hbm, 72, rfl⟩
abbrev main_c_10 : Ref sig .tc := ⟨.hbm, 73, rfl⟩
abbrev main_v45 : Ref sig .tc := ⟨.hbm, 74, rfl⟩
abbrev main_v46 : Ref sig .tc := ⟨.hbm, 75, rfl⟩
abbrev main_v47 : Ref sig .tc := ⟨.hbm, 76, rfl⟩
abbrev main_v48 : Ref sig .tc := ⟨.hbm, 77, rfl⟩
abbrev main_v49 : Ref sig .tc := ⟨.hbm, 78, rfl⟩
abbrev main_v50 : Ref sig .tc := ⟨.hbm, 79, rfl⟩
abbrev main_v51 : Ref sig .tc := ⟨.hbm, 80, rfl⟩
abbrev main_v52 : Ref sig .tc := ⟨.hbm, 81, rfl⟩
abbrev main_v53 : Ref sig .tc := ⟨.hbm, 82, rfl⟩
abbrev main_c_11 : Ref sig .tc := ⟨.hbm, 83, rfl⟩
abbrev main_v54 : Ref sig .tc := ⟨.hbm, 84, rfl⟩
abbrev main_v55 : Ref sig .tc := ⟨.hbm, 85, rfl⟩
abbrev main_v56 : Ref sig .tc := ⟨.hbm, 86, rfl⟩
abbrev main_v57 : Ref sig .tc := ⟨.hbm, 87, rfl⟩
abbrev main_v58 : Ref sig .tc := ⟨.hbm, 88, rfl⟩
abbrev main_v59 : Ref sig .tc := ⟨.hbm, 89, rfl⟩
abbrev main_c_12 : Ref sig .tc := ⟨.hbm, 90, rfl⟩
abbrev main_c_13 : Ref sig .tc := ⟨.hbm, 91, rfl⟩
abbrev main_call3_v0 : Ref sig .tc := ⟨.hbm, 92, rfl⟩
abbrev main_call3_v1 : Ref sig .tc := ⟨.hbm, 93, rfl⟩
abbrev main_call3_v2 : Ref sig .tc := ⟨.hbm, 94, rfl⟩
abbrev main_call3_v3 : Ref sig .tc := ⟨.hbm, 95, rfl⟩
abbrev main_call3_v4 : Ref sig .tc := ⟨.hbm, 96, rfl⟩
abbrev main_v60 : Ref sig .tc := ⟨.hbm, 97, rfl⟩
abbrev main_c_14 : Ref sig .tc := ⟨.hbm, 98, rfl⟩
abbrev main_v61 : Ref sig .tc := ⟨.hbm, 99, rfl⟩
abbrev main_v62 : Ref sig .tc := ⟨.hbm, 100, rfl⟩
abbrev main_cst : Ref sig .tc := ⟨.hbm, 101, rfl⟩
abbrev main_v63 : Ref sig .tc := ⟨.hbm, 102, rfl⟩
abbrev main_v64 : Ref sig .tc := ⟨.hbm, 103, rfl⟩
abbrev main_v65 : Ref sig .tc := ⟨.hbm, 104, rfl⟩
abbrev main_v66 : Ref sig .tc := ⟨.hbm, 105, rfl⟩
abbrev main_v67 : Ref sig .tc := ⟨.hbm, 106, rfl⟩
abbrev main_v68 : Ref sig .tc := ⟨.hbm, 107, rfl⟩
abbrev main_v69 : Ref sig .tc := ⟨.hbm, 108, rfl⟩
abbrev main_v70 : Ref sig .tc := ⟨.hbm, 109, rfl⟩
abbrev main_v71 : Ref sig .tc := ⟨.hbm, 110, rfl⟩
abbrev main_v72 : Ref sig .tc := ⟨.hbm, 111, rfl⟩
abbrev main_c_15 : Ref sig .tc := ⟨.hbm, 112, rfl⟩
abbrev main_v73 : Ref sig .tc := ⟨.hbm, 113, rfl⟩
abbrev main_v74 : Ref sig .tc := ⟨.hbm, 114, rfl⟩
abbrev main_c_16 : Ref sig .tc := ⟨.hbm, 115, rfl⟩
abbrev main_v75 : Ref sig .tc := ⟨.hbm, 116, rfl⟩
abbrev main_v76 : Ref sig .tc := ⟨.hbm, 117, rfl⟩
abbrev main_v77 : Ref sig .tc := ⟨.hbm, 118, rfl⟩
abbrev main_c_17 : Ref sig .tc := ⟨.hbm, 119, rfl⟩
abbrev main_v78 : Ref sig .tc := ⟨.hbm, 120, rfl⟩
abbrev main_v79 : Ref sig .tc := ⟨.hbm, 121, rfl⟩
abbrev main_c_18 : Ref sig .tc := ⟨.hbm, 122, rfl⟩
abbrev main_v80 : Ref sig .tc := ⟨.hbm, 123, rfl⟩
abbrev main_v81 : Ref sig .tc := ⟨.hbm, 124, rfl⟩
abbrev main_v82 : Ref sig .tc := ⟨.hbm, 125, rfl⟩
abbrev main_v83 : Ref sig .tc := ⟨.hbm, 126, rfl⟩
abbrev main_v84 : Ref sig .tc := ⟨.hbm, 127, rfl⟩
abbrev main_v85 : Ref sig .tc := ⟨.hbm, 128, rfl⟩
abbrev main_v86 : Ref sig .tc := ⟨.hbm, 129, rfl⟩
abbrev main_v87 : Ref sig .tc := ⟨.hbm, 130, rfl⟩
abbrev main_v88 : Ref sig .tc := ⟨.hbm, 131, rfl⟩
abbrev main_c_19 : Ref sig .tc := ⟨.hbm, 132, rfl⟩
abbrev main_v89 : Ref sig .tc := ⟨.hbm, 133, rfl⟩
abbrev main_v90 : Ref sig .tc := ⟨.hbm, 134, rfl⟩
abbrev main_c_20 : Ref sig .tc := ⟨.hbm, 135, rfl⟩
abbrev main_v91 : Ref sig .tc := ⟨.hbm, 136, rfl⟩
abbrev main_v92 : Ref sig .tc := ⟨.hbm, 137, rfl⟩
abbrev main_v93 : Ref sig .tc := ⟨.hbm, 138, rfl⟩
abbrev main_c_21 : Ref sig .tc := ⟨.hbm, 139, rfl⟩
abbrev main_v94 : Ref sig .tc := ⟨.hbm, 140, rfl⟩
abbrev main_v95 : Ref sig .tc := ⟨.hbm, 141, rfl⟩
abbrev main_c_22 : Ref sig .tc := ⟨.hbm, 142, rfl⟩
abbrev main_v96 : Ref sig .tc := ⟨.hbm, 143, rfl⟩
abbrev main_v97 : Ref sig .tc := ⟨.hbm, 144, rfl⟩
abbrev main_v98 : Ref sig .tc := ⟨.hbm, 145, rfl⟩
abbrev main_v99 : Ref sig .tc := ⟨.hbm, 146, rfl⟩
abbrev main_v100 : Ref sig .tc := ⟨.hbm, 147, rfl⟩
abbrev main_v101 : Ref sig .tc := ⟨.hbm, 148, rfl⟩
abbrev main_v102 : Ref sig .tc := ⟨.hbm, 149, rfl⟩
abbrev main_v103 : Ref sig .tc := ⟨.hbm, 150, rfl⟩
abbrev main_v104 : Ref sig .tc := ⟨.hbm, 151, rfl⟩
abbrev main_v105 : Ref sig .tc := ⟨.hbm, 152, rfl⟩
abbrev main_v106 : Ref sig .tc := ⟨.hbm, 153, rfl⟩
abbrev main_v107 : Ref sig .tc := ⟨.hbm, 154, rfl⟩
abbrev main_c_23 : Ref sig .tc := ⟨.hbm, 155, rfl⟩
abbrev main_v108 : Ref sig .tc := ⟨.hbm, 156, rfl⟩
abbrev main_v109 : Ref sig .tc := ⟨.hbm, 157, rfl⟩
abbrev main_c_24 : Ref sig .tc := ⟨.hbm, 158, rfl⟩
abbrev main_v110 : Ref sig .tc := ⟨.hbm, 159, rfl⟩
abbrev main_v111 : Ref sig .tc := ⟨.hbm, 160, rfl⟩
abbrev main_v112 : Ref sig .tc := ⟨.hbm, 161, rfl⟩
abbrev main_c_25 : Ref sig .tc := ⟨.hbm, 162, rfl⟩
abbrev main_v113 : Ref sig .tc := ⟨.hbm, 163, rfl⟩
abbrev main_v114 : Ref sig .tc := ⟨.hbm, 164, rfl⟩
abbrev main_c_26 : Ref sig .tc := ⟨.hbm, 165, rfl⟩
abbrev main_v115 : Ref sig .tc := ⟨.hbm, 166, rfl⟩
abbrev main_v116 : Ref sig .tc := ⟨.hbm, 167, rfl⟩
abbrev main_v117 : Ref sig .tc := ⟨.hbm, 168, rfl⟩
abbrev main_v118 : Ref sig .tc := ⟨.hbm, 169, rfl⟩
abbrev main_v119 : Ref sig .tc := ⟨.hbm, 170, rfl⟩
abbrev main_v120 : Ref sig .tc := ⟨.hbm, 171, rfl⟩
abbrev main_v121 : Ref sig .tc := ⟨.hbm, 172, rfl⟩
abbrev main_v122 : Ref sig .tc := ⟨.hbm, 173, rfl⟩
abbrev main_v123 : Ref sig .tc := ⟨.hbm, 174, rfl⟩
abbrev main_v124 : Ref sig .tc := ⟨.hbm, 175, rfl⟩
abbrev main_v125 : Ref sig .tc := ⟨.hbm, 176, rfl⟩
abbrev main_cst_27 : Ref sig .tc := ⟨.hbm, 177, rfl⟩
abbrev main_call4_v0 : Ref sig .tc := ⟨.hbm, 178, rfl⟩
abbrev main_call4_v1 : Ref sig .tc := ⟨.hbm, 179, rfl⟩
abbrev main_call4_v2 : Ref sig .tc := ⟨.hbm, 180, rfl⟩
abbrev main_v126 : Ref sig .tc := ⟨.hbm, 181, rfl⟩
abbrev main_cst_28 : Ref sig .tc := ⟨.hbm, 182, rfl⟩
abbrev main_v127 : Ref sig .tc := ⟨.hbm, 183, rfl⟩
abbrev main_cst_29 : Ref sig .tc := ⟨.hbm, 184, rfl⟩
abbrev main_v128 : Ref sig .tc := ⟨.hbm, 185, rfl⟩
abbrev main_v129 : Ref sig .tc := ⟨.hbm, 186, rfl⟩
abbrev main_v130 : Ref sig .tc := ⟨.hbm, 187, rfl⟩
abbrev main_v131 : Ref sig .tc := ⟨.hbm, 188, rfl⟩
abbrev main_v132 : Ref sig .tc := ⟨.hbm, 189, rfl⟩
abbrev main_v133 : Ref sig .tc := ⟨.hbm, 190, rfl⟩
abbrev main_cst_30 : Ref sig .tc := ⟨.hbm, 191, rfl⟩
abbrev main_v134 : Ref sig .tc := ⟨.hbm, 192, rfl⟩
abbrev main_v135 : Ref sig .tc := ⟨.hbm, 193, rfl⟩
abbrev main_v136 : Ref sig .tc := ⟨.hbm, 194, rfl⟩
abbrev main_v137 : Ref sig .tc := ⟨.hbm, 195, rfl⟩
abbrev main_v138 : Ref sig .tc := ⟨.hbm, 196, rfl⟩
abbrev main_v139 : Ref sig .tc := ⟨.hbm, 197, rfl⟩
abbrev main_v140 : Ref sig .tc := ⟨.hbm, 198, rfl⟩
abbrev main_v141 : Ref sig .tc := ⟨.hbm, 199, rfl⟩

abbrev nD : Nat := 1
abbrev τ : Topo := Topo.v7x

variable {F : FTy → Type} [FloatOps F]
-- ==== MixFwd.lean ====
abbrev S2048x1024 : Shape := ⟨2, ![2048, 1024]⟩
abbrev S2048x512 : Shape := ⟨2, ![2048, 512]⟩
abbrev S2048x2048 : Shape := ⟨2, ![2048, 2048]⟩
abbrev S512x1024 : Shape := ⟨2, ![512, 1024]⟩
abbrev S1024x1024 : Shape := ⟨2, ![1024, 1024]⟩
abbrev S1024x512 : Shape := ⟨2, ![1024, 512]⟩
abbrev S256x1024 : Shape := ⟨2, ![256, 1024]⟩
abbrev S256x512 : Shape := ⟨2, ![256, 512]⟩

abbrev nBuf : Space → Nat
  | .hbm => 15
  | .vmem => 17
  | .smem => 0
  | _ => 0

abbrev bufTy : (tb : Table) → Fin (tcTables nBuf tb) → BufTy
  | .hbm, ⟨0, _⟩ => ⟨S2048x1024, .f32⟩
  | .hbm, ⟨1, _⟩ => ⟨S2048x512, .f32⟩
  | .hbm, ⟨2, _⟩ => ⟨S2048x1024, .f32⟩
  | .hbm, ⟨3, _⟩ => ⟨S2048x2048, .f32⟩
  | .hbm, ⟨4, _⟩ => ⟨S512x1024, .f32⟩
  | .hbm, ⟨5, _⟩ => ⟨S1024x1024, .f32⟩
  | .hbm, ⟨6, _⟩ => ⟨S1024x1024, .f32⟩
  | .hbm, ⟨7, _⟩ => ⟨S2048x512, .bf16⟩
  | .hbm, ⟨8, _⟩ => ⟨S2048x1024, .bf16⟩
  | .hbm, ⟨9, _⟩ => ⟨S1024x512, .f32⟩
  | .hbm, ⟨10, _⟩ => ⟨S1024x512, .bf16⟩
  | .hbm, ⟨11, _⟩ => ⟨S1024x1024, .bf16⟩
  | .hbm, ⟨12, _⟩ => ⟨S1024x1024, .bf16⟩
  | .hbm, ⟨13, _⟩ => ⟨S2048x1024, .f32⟩
  | .hbm, ⟨14, _⟩ => ⟨S2048x1024, .bf16⟩
  | .local _ .vmem, ⟨0, _⟩ => ⟨S256x1024, .f32⟩
  | .local _ .vmem, ⟨1, _⟩ => ⟨S256x1024, .f32⟩
  | .local _ .vmem, ⟨2, _⟩ => ⟨S256x512, .bf16⟩
  | .local _ .vmem, ⟨3, _⟩ => ⟨S256x512, .bf16⟩
  | .local _ .vmem, ⟨4, _⟩ => ⟨S256x1024, .bf16⟩
  | .local _ .vmem, ⟨5, _⟩ => ⟨S256x1024, .bf16⟩
  | .local _ .vmem, ⟨6, _⟩ => ⟨S256x1024, .f32⟩
  | .local _ .vmem, ⟨7, _⟩ => ⟨S256x1024, .f32⟩
  | .local _ .vmem, ⟨8, _⟩ => ⟨S256x1024, .f32⟩
  | .local _ .vmem, ⟨9, _⟩ => ⟨S256x1024, .f32⟩
  | .local _ .vmem, ⟨10, _⟩ => ⟨S1024x512, .bf16⟩
  | .local _ .vmem, ⟨11, _⟩ => ⟨S1024x1024, .bf16⟩
  | .local _ .vmem, ⟨12, _⟩ => ⟨S1024x1024, .bf16⟩
  | .local _ .vmem, ⟨13, _⟩ => ⟨S256x1024, .f32⟩
  | .local _ .vmem, ⟨14, _⟩ => ⟨S256x1024, .f32⟩
  | .local _ .vmem, ⟨15, _⟩ => ⟨S256x1024, .bf16⟩
  | .local _ .vmem, ⟨16, _⟩ => ⟨S256x1024, .bf16⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6_0 : Ref sig .tc := ⟨.hbm, 13, rfl⟩
abbrev main_v6_1 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem8_1 : DmaSem sig := 14
abbrev cc0_sem9_0 : DmaSem sig := 15
abbrev cc0_sem9_1 : DmaSem sig := 16

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1024x512 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1024x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S256x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== MixOutIdeal.lean ====
abbrev S2048x1024 : Shape := ⟨2, ![2048, 1024]⟩
abbrev S2048x512 : Shape := ⟨2, ![2048, 512]⟩
abbrev S2048x2048 : Shape := ⟨2, ![2048, 2048]⟩
abbrev S512x1024 : Shape := ⟨2, ![512, 1024]⟩
abbrev S1024x1024 : Shape := ⟨2, ![1024, 1024]⟩
abbrev S_ : Shape := ⟨0, ![]⟩

abbrev nBuf : Space → Nat
  | .hbm => 33
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S2048x512, .f32⟩
  | .hbm, ⟨2, _⟩ => ⟨S2048x1024, .f32⟩
  | .hbm, ⟨3, _⟩ => ⟨S2048x2048, .f32⟩
  | .hbm, ⟨4, _⟩ => ⟨S512x1024, .f32⟩
  | .hbm, ⟨5, _⟩ => ⟨S1024x1024, .f32⟩
  | .hbm, ⟨6, _⟩ => ⟨S1024x1024, .f32⟩
  | .hbm, ⟨7, _⟩ => ⟨S2048x1024, .f32⟩
  | .hbm, ⟨8, _⟩ => ⟨S2048x1024, .f32⟩
  | .hbm, ⟨9, _⟩ => ⟨S2048x1024, .f32⟩
  | .hbm, ⟨10, _⟩ => ⟨S2048x1024, .f32⟩
  | .hbm, ⟨11, _⟩ => ⟨S2048x1024, .f32⟩
  | .hbm, ⟨12, _⟩ => ⟨S2048x1024, .f32⟩
  | .hbm, ⟨13, _⟩ => ⟨S_, .f32⟩
  | .hbm, ⟨14, _⟩ => ⟨S2048x1024, .f32⟩
  | .hbm, ⟨15, _⟩ => ⟨S2048x1024, .f32⟩
  | .hbm, ⟨16, _⟩ => ⟨S_, .f32⟩
  | .hbm, ⟨17, _⟩ => ⟨S2048x1024, .f32⟩
  | .hbm, ⟨18, _⟩ => ⟨S2048x1024, .f32⟩
  | .hbm, ⟨19, _⟩ => ⟨S2048x1024, .f32⟩
  | .hbm, ⟨20, _⟩ => ⟨S2048x1024, .f32⟩
  | .hbm, ⟨21, _⟩ => ⟨S2048x1024, .f32⟩
  | .hbm, ⟨22, _⟩ => ⟨S_, .f32⟩
  | .hbm, ⟨23, _⟩ => ⟨S2048x1024, .f32⟩
  | .hbm, ⟨24, _⟩ => ⟨S2048x1024, .f32⟩
  | .hbm, ⟨25, _⟩ => ⟨S_, .f32⟩
  | .hbm, ⟨26, _⟩ => ⟨S2048x1024, .f32⟩
  | .hbm, ⟨27, _⟩ => ⟨S2048x1024, .f32⟩
  | .hbm, ⟨28, _⟩ => ⟨S2048x1024, .f32⟩
  | .hbm, ⟨29, _⟩ => ⟨S2048x1024, .f32⟩
  | .hbm, ⟨30, _⟩ => ⟨S2048x1024, .f32⟩
  | .hbm, ⟨31, _⟩ => ⟨S2048x1024, .f32⟩
  | .hbm, ⟨32, _⟩ => ⟨S2048x1024, .bf16⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst : Ref sig .tc := ⟨.hbm, 13, rfl⟩
abbrev main_v6 : Ref sig .tc := ⟨.hbm, 14, rfl⟩
abbrev main_v7 : Ref sig .tc := ⟨.hbm, 15, rfl⟩
abbrev main_cst_0 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_1 : Ref sig .tc := ⟨.hbm, 22, rfl⟩
abbrev main_v13 : Ref sig .tc := ⟨.hbm, 23, rfl⟩
abbrev main_v14 : Ref sig .tc := ⟨.hbm, 24, rfl⟩
abbrev main_cst_2 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩

abbrev nD : Nat := 1
abbrev τ : Topo := Topo.v7x

variable {F : FTy → Type} [FloatOps F]
-- ==== ProjFwd.lean ====
abbrev S2048x1024 : Shape := ⟨2, ![2048, 1024]⟩
abbrev S1x1024 : Shape := ⟨2, ![1, 1024]⟩
abbrev S1024x5632 : Shape := ⟨2, ![1024, 5632]⟩
abbrev S1x5632 : Shape := ⟨2, ![1, 5632]⟩
abbrev S5632x1024 : Shape := ⟨2, ![5632, 1024]⟩
abbrev S_ : Shape := ⟨0, ![]⟩
abbrev S8x128 : Shape := ⟨2, ![8, 128]⟩
abbrev S2048x1536 : Shape := ⟨2, ![2048, 1536]⟩
abbrev S2048x2048 : Shape := ⟨2, ![2048, 2048]⟩
abbrev S512x1024 : Shape := ⟨2, ![512, 1024]⟩
abbrev S512x1536 : Shape := ⟨2, ![512, 1536]⟩
abbrev S512x2048 : Shape := ⟨2, ![512, 2048]⟩
abbrev S512 : Shape := ⟨1, ![512]⟩
abbrev S512x1 : Shape := ⟨2, ![512, 1]⟩
abbrev S512x512 : Shape := ⟨2, ![512, 512]⟩
abbrev S1x512 : Shape := ⟨2, ![1, 512]⟩

abbrev nBuf : Space → Nat
  | .hbm => 12
  | .vmem => 13
  | .smem => 0
  | _ => 0

abbrev bufTy : (tb : Table) → Fin (tcTables nBuf tb) → BufTy
  | .hbm, ⟨0, _⟩ => ⟨S2048x1024, .f32⟩
  | .hbm, ⟨1, _⟩ => ⟨S1x1024, .f32⟩
  | .hbm, ⟨2, _⟩ => ⟨S1024x5632, .f32⟩
  | .hbm, ⟨3, _⟩ => ⟨S1x5632, .f32⟩
  | .hbm, ⟨4, _⟩ => ⟨S5632x1024, .f32⟩
  | .hbm, ⟨5, _⟩ => ⟨S5632x1024, .bf16⟩
  | .hbm, ⟨6, _⟩ => ⟨S_, .f32⟩
  | .hbm, ⟨7, _⟩ => ⟨S8x128, .f32⟩
  | .hbm, ⟨8, _⟩ => ⟨S2048x1536, .bf16⟩
  | .hbm, ⟨9, _⟩ => ⟨S2048x2048, .f32⟩
  | .hbm, ⟨10, _⟩ => ⟨S2048x2048, .f32⟩
  | .hbm, ⟨11, _⟩ => ⟨S2048x1024, .bf16⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1x5632, .f32⟩
  | .local _ .vmem, ⟨4, _⟩ => ⟨S512x1536, .bf16⟩
  | .local _ .vmem, ⟨5, _⟩ => ⟨S512x1536, .bf16⟩
  | .local _ .vmem, ⟨6, _⟩ => ⟨S512x2048, .f32⟩
  | .local _ .vmem, ⟨7, _⟩ => ⟨S512x2048, .f32⟩
  | .local _ .vmem, ⟨8, _⟩ => ⟨S512x2048, .f32⟩
  | .local _ .vmem, ⟨9, _⟩ => ⟨S512x2048, .f32⟩
  | .local _ .vmem, ⟨10, _⟩ => ⟨S512x1024, .bf16⟩
  | .local _ .vmem, ⟨11, _⟩ => ⟨S512x1024, .bf16⟩
  | .local _ .vmem, ⟨12, _⟩ => ⟨S5632x1024, .bf16⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3_0 : Ref sig .tc := ⟨.hbm, 8, rfl⟩
abbrev main_v3_1 : Ref sig .tc := ⟨.hbm, 9, rfl⟩
abbrev main_v3_2 : Ref sig .tc := ⟨.hbm, 10, rfl⟩
abbrev main_v3_3 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x5632 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x1536 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== ProjOutIdeal.lean ====
abbrev S2048x1024 : Shape := ⟨2, ![2048, 1024]⟩
abbrev S1x1024 : Shape := ⟨2, ![1, 1024]⟩
abbrev S1024x5632 : Shape := ⟨2, ![1024, 5632]⟩
abbrev S1x5632 : Shape := ⟨2, ![1, 5632]⟩
abbrev S_ : Shape := ⟨0, ![]⟩
abbrev S2048 : Shape := ⟨1, ![2048]⟩
abbrev S2048x1 : Shape := ⟨2, ![2048, 1]⟩
abbrev S2048x5632 : Shape := ⟨2, ![2048, 5632]⟩
abbrev S2048x1536 : Shape := ⟨2, ![2048, 1536]⟩
abbrev S2048x2048 : Shape := ⟨2, ![2048, 2048]⟩

abbrev nBuf : Space → Nat
  | .hbm => 27
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S1x1024, .f32⟩
  | .hbm, ⟨2, _⟩ => ⟨S1024x5632, .f32⟩
  | .hbm, ⟨3, _⟩ => ⟨S1x5632, .f32⟩
  | .hbm, ⟨4, _⟩ => ⟨S2048x1024, .f32⟩
  | .hbm, ⟨5, _⟩ => ⟨S_, .f32⟩
  | .hbm, ⟨6, _⟩ => ⟨S2048, .f32⟩
  | .hbm, ⟨7, _⟩ => ⟨S2048x1, .f32⟩
  | .hbm, ⟨8, _⟩ => ⟨S_, .f32⟩
  | .hbm, ⟨9, _⟩ => ⟨S2048x1, .f32⟩
  | .hbm, ⟨10, _⟩ => ⟨S2048x1, .f32⟩
  | .hbm, ⟨11, _⟩ => ⟨S_, .f32⟩
  | .hbm, ⟨12, _⟩ => ⟨S2048x1, .f32⟩
  | .hbm, ⟨13, _⟩ => ⟨S2048x1, .f32⟩
  | .hbm, ⟨14, _⟩ => ⟨S2048x1, .f32⟩
  | .hbm, ⟨15, _⟩ => ⟨S2048x1024, .f32⟩
  | .hbm, ⟨16, _⟩ => ⟨S2048x1024, .f32⟩
  | .hbm, ⟨17, _⟩ => ⟨S2048x1024, .f32⟩
  | .hbm, ⟨18, _⟩ => ⟨S2048x1024, .f32⟩
  | .hbm, ⟨19, _⟩ => ⟨S2048x5632, .f32⟩
  | .hbm, ⟨20, _⟩ => ⟨S2048x5632, .f32⟩
  | .hbm, ⟨21, _⟩ => ⟨S2048x5632, .f32⟩
  | .hbm, ⟨22, _⟩ => ⟨S2048x1536, .f32⟩
  | .hbm, ⟨23, _⟩ => ⟨S2048x2048, .f32⟩
  | .hbm, ⟨24, _⟩ => ⟨S2048x2048, .f32⟩
  | .hbm, ⟨25, _⟩ => ⟨S2048x1536, .bf16⟩
  | .hbm, ⟨26, _⟩ => ⟨S2048x1024, .bf16⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩

abbrev nD : Nat := 1
abbrev τ : Topo := Topo.v7x

variable {F : FTy → Type} [FloatOps F]
-- ==== RecFwd.lean ====
abbrev S2048x2048 : Shape := ⟨2, ![2048, 2048]⟩
abbrev S4x1024 : Shape := ⟨2, ![4, 1024]⟩
abbrev S1024 : Shape := ⟨1, ![1024]⟩
abbrev S2x16x64x64 : Shape := ⟨4, ![2, 16, 64, 64]⟩
abbrev S2x1024 : Shape := ⟨2, ![2, 1024]⟩
abbrev S1x1024 : Shape := ⟨2, ![1, 1024]⟩
abbrev S2x8x128x64 : Shape := ⟨4, ![2, 8, 128, 64]⟩
abbrev S128 : Shape := ⟨1, ![128]⟩
abbrev S_ : Shape := ⟨0, ![]⟩
abbrev S1x128 : Shape := ⟨2, ![1, 128]⟩
abbrev S64 : Shape := ⟨1, ![64]⟩
abbrev S64x1 : Shape := ⟨2, ![64, 1]⟩
abbrev S64x128 : Shape := ⟨2, ![64, 128]⟩
abbrev S128x1 : Shape := ⟨2, ![128, 1]⟩
abbrev S128x128 : Shape := ⟨2, ![128, 128]⟩
abbrev S2048x1024 : Shape := ⟨2, ![2048, 1024]⟩
abbrev S4x2048x1024 : Shape := ⟨3, ![4, 2048, 1024]⟩
abbrev S2048x128 : Shape := ⟨2, ![2048, 128]⟩
abbrev S4x128 : Shape := ⟨2, ![4, 128]⟩
abbrev S2x1x128x64 : Shape := ⟨4, ![2, 1, 128, 64]⟩
abbrev S2x128 : Shape := ⟨2, ![2, 128]⟩
abbrev S4x2048x128 : Shape := ⟨3, ![4, 2048, 128]⟩
abbrev S1x1x128x64 : Shape := ⟨4, ![1, 1, 128, 64]⟩
abbrev S128x64 : Shape := ⟨2, ![128, 64]⟩
abbrev S1x2048x128 : Shape := ⟨3, ![1, 2048, 128]⟩
abbrev S8x128 : Shape := ⟨2, ![8, 128]⟩
abbrev S1x2048x1024 : Shape := ⟨3, ![1, 2048, 1024]⟩

abbrev nBuf : Space → Nat
  | .hbm => 75
  | .vmem => 30
  | .smem => 0
  | _ => 0

abbrev bufTy : (tb : Table) → Fin (tcTables nBuf tb) → BufTy
  | .hbm, ⟨0, _⟩ => ⟨S2048x2048, .f32⟩
  | .hbm, ⟨1, _⟩ => ⟨S4x1024, .f32⟩
  | .hbm, ⟨2, _⟩ => ⟨S1024, .f32⟩
  | .hbm, ⟨3, _⟩ => ⟨S2x16x64x64, .f32⟩
  | .hbm, ⟨4, _⟩ => ⟨S2x1024, .f32⟩
  | .hbm, ⟨5, _⟩ => ⟨S2x16x64x64, .f32⟩
  | .hbm, ⟨6, _⟩ => ⟨S2x1024, .f32⟩
  | .hbm, ⟨7, _⟩ => ⟨S2x1024, .f32⟩
  | .hbm, ⟨8, _⟩ => ⟨S1x1024, .f32⟩
  | .hbm, ⟨9, _⟩ => ⟨S2x8x128x64, .f32⟩
  | .hbm, ⟨10, _⟩ => ⟨S2x8x128x64, .f32⟩
  | .hbm, ⟨11, _⟩ => ⟨S128, .i32⟩
  | .hbm, ⟨12, _⟩ => ⟨S_, .i32⟩
  | .hbm, ⟨13, _⟩ => ⟨S_, .i32⟩
  | .hbm, ⟨14, _⟩ => ⟨S128, .i32⟩
  | .hbm, ⟨15, _⟩ => ⟨S128, .i32⟩
  | .hbm, ⟨16, _⟩ => ⟨S128, .i32⟩
  | .hbm, ⟨17, _⟩ => ⟨S_, .i32⟩
  | .hbm, ⟨18, _⟩ => ⟨S128, .i32⟩
  | .hbm, ⟨19, _⟩ => ⟨S128, .i1⟩
  | .hbm, ⟨20, _⟩ => ⟨S128, .i32⟩
  | .hbm, ⟨21, _⟩ => ⟨S128, .i32⟩
  | .hbm, ⟨22, _⟩ => ⟨S_, .i32⟩
  | .hbm, ⟨23, _⟩ => ⟨S128, .i32⟩
  | .hbm, ⟨24, _⟩ => ⟨S128, .i1⟩
  | .hbm, ⟨25, _⟩ => ⟨S128, .i1⟩
  | .hbm, ⟨26, _⟩ => ⟨S_, .i32⟩
  | .hbm, ⟨27, _⟩ => ⟨S128, .i32⟩
  | .hbm, ⟨28, _⟩ => ⟨S128, .i32⟩
  | .hbm, ⟨29, _⟩ => ⟨S128, .i32⟩
  | .hbm, ⟨30, _⟩ => ⟨S128, .i32⟩
  | .hbm, ⟨31, _⟩ => ⟨S1x128, .i32⟩
  | .hbm, ⟨32, _⟩ => ⟨S_, .i32⟩
  | .hbm, ⟨33, _⟩ => ⟨S_, .i32⟩
  | .hbm, ⟨34, _⟩ => ⟨S_, .i32⟩
  | .hbm, ⟨35, _⟩ => ⟨S_, .i1⟩
  | .hbm, ⟨36, _⟩ => ⟨S_, .i32⟩
  | .hbm, ⟨37, _⟩ => ⟨S_, .i32⟩
  | .hbm, ⟨38, _⟩ => ⟨S1x128, .i32⟩
  | .hbm, ⟨39, _⟩ => ⟨S1x128, .i32⟩
  | .hbm, ⟨40, _⟩ => ⟨S_, .i32⟩
  | .hbm, ⟨41, _⟩ => ⟨S1x128, .i32⟩
  | .hbm, ⟨42, _⟩ => ⟨S1x128, .i1⟩
  | .hbm, ⟨43, _⟩ => ⟨S_, .i32⟩
  | .hbm, ⟨44, _⟩ => ⟨S1x128, .i32⟩
  | .hbm, ⟨45, _⟩ => ⟨S1x128, .i1⟩
  | .hbm, ⟨46, _⟩ => ⟨S_, .i32⟩
  | .hbm, ⟨47, _⟩ => ⟨S_, .i1⟩
  | .hbm, ⟨48, _⟩ => ⟨S1x128, .i1⟩
  | .hbm, ⟨49, _⟩ => ⟨S1x128, .i1⟩
  | .hbm, ⟨50, _⟩ => ⟨S1x128, .i1⟩
  | .hbm, ⟨51, _⟩ => ⟨S1x128, .i32⟩
  | .hbm, ⟨52, _⟩ => ⟨S1x128, .i32⟩
  | .hbm, ⟨53, _⟩ => ⟨S1x128, .i32⟩
  | .hbm, ⟨54, _⟩ => ⟨S64, .i32⟩
  | .hbm, ⟨55, _⟩ => ⟨S64x1, .i32⟩
  | .hbm, ⟨56, _⟩ => ⟨S64x128, .i32⟩
  | .hbm, ⟨57, _⟩ => ⟨S64x128, .i32⟩
  | .hbm, ⟨58, _⟩ => ⟨S64x128, .i1⟩
  | .hbm, ⟨59, _⟩ => ⟨S64x128, .f32⟩
  | .hbm, ⟨60, _⟩ => ⟨S128x1, .i32⟩
  | .hbm, ⟨61, _⟩ => ⟨S1x128, .i32⟩
  | .hbm, ⟨62, _⟩ => ⟨S128x128, .i32⟩
  | .hbm, ⟨63, _⟩ => ⟨S128x128, .i32⟩
  | .hbm, ⟨64, _⟩ => ⟨S128x128, .i1⟩
  | .hbm, ⟨65, _⟩ => ⟨S128x128, .f32⟩
  | .hbm, ⟨66, _⟩ => ⟨S64x128, .bf16⟩
  | .hbm, ⟨67, _⟩ => ⟨S2048x1024, .f32⟩
  | .hbm, ⟨68, _⟩ => ⟨S2048x1024, .f32⟩
  | .hbm, ⟨69, _⟩ => ⟨S2048x1024, .bf16⟩
  | .hbm, ⟨70, _⟩ => ⟨S4x2048x1024, .f32⟩
  | .hbm, ⟨71, _⟩ => ⟨S1x2048x1024, .f32⟩
  | .hbm, ⟨72, _⟩ => ⟨S2048x1024, .f32⟩
  | .hbm, ⟨73, _⟩ => ⟨S1x2048x1024, .f32⟩
  | .hbm, ⟨74, _⟩ => ⟨S2048x1024, .f32⟩
  | .local _ .vmem, ⟨0, _⟩ => ⟨S2048x128, .f32⟩
  | .local _ .vmem, ⟨1, _⟩ => ⟨S2048x128, .f32⟩
  | .local _ .vmem, ⟨2, _⟩ => ⟨S2048x128, .f32⟩
  | .local _ .vmem, ⟨3, _⟩ => ⟨S2048x128, .f32⟩
  | .local _ .vmem, ⟨4, _⟩ => ⟨S4x128, .f32⟩
  | .local _ .vmem, ⟨5, _⟩ => ⟨S4x128, .f32⟩
  | .local _ .vmem, ⟨6, _⟩ => ⟨S1x128, .f32⟩
  | .local _ .vmem, ⟨7, _⟩ => ⟨S1x128, .f32⟩
  | .local _ .vmem, ⟨8, _⟩ => ⟨S2x1x128x64, .f32⟩
  | .local _ .vmem, ⟨9, _⟩ => ⟨S2x1x128x64, .f32⟩
  | .local _ .vmem, ⟨10, _⟩ => ⟨S2x128, .f32⟩
  | .local _ .vmem, ⟨11, _⟩ => ⟨S2x128, .f32⟩
  | .local _ .vmem, ⟨12, _⟩ => ⟨S2x1x128x64, .f32⟩
  | .local _ .vmem, ⟨13, _⟩ => ⟨S2x1x128x64, .f32⟩
  | .local _ .vmem, ⟨14, _⟩ => ⟨S2x128, .f32⟩
  | .local _ .vmem, ⟨15, _⟩ => ⟨S2x128, .f32⟩
  | .local _ .vmem, ⟨16, _⟩ => ⟨S2x128, .f32⟩
  | .local _ .vmem, ⟨17, _⟩ => ⟨S2x128, .f32⟩
  | .local _ .vmem, ⟨18, _⟩ => ⟨S64x128, .bf16⟩
  | .local _ .vmem, ⟨19, _⟩ => ⟨S128x128, .f32⟩
  | .local _ .vmem, ⟨20, _⟩ => ⟨S2048x128, .f32⟩
  | .local _ .vmem, ⟨21, _⟩ => ⟨S2048x128, .f32⟩
  | .local _ .vmem, ⟨22, _⟩ => ⟨S2048x128, .f32⟩
  | .local _ .vmem, ⟨23, _⟩ => ⟨S2048x128, .f32⟩
  | .local _ .vmem, ⟨24, _⟩ => ⟨S2048x128, .bf16⟩
  | .local _ .vmem, ⟨25, _⟩ => ⟨S2048x128, .bf16⟩
  | .local _ .vmem, ⟨26, _⟩ => ⟨S4x2048x128, .f32⟩
  | .local _ .vmem, ⟨27, _⟩ => ⟨S4x2048x128, .f32⟩
  | .local _ .vmem, ⟨28, _⟩ => ⟨S2048x128, .f32⟩
  | .local _ .vmem, ⟨29, _⟩ => ⟨S2048x128, .f32⟩
  | _, _ => ⟨S2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_c : Ref sig .tc := ⟨.hbm, 12, rfl⟩
abbrev main_call0_v0 : Ref sig .tc := ⟨.hbm, 13, rfl⟩
abbrev main_call0_v1 : Ref sig .tc := ⟨.hbm, 14, rfl⟩
abbrev main_call0_v2 : Ref sig .tc := ⟨.hbm, 15, rfl⟩
abbrev main_call0_v3 : Ref sig .tc := ⟨.hbm, 16, rfl⟩
abbrev main_call0_v4 : Ref sig .tc := ⟨.hbm, 17, rfl⟩
abbrev main_call0_v5 : Ref sig .tc := ⟨.hbm, 18, rfl⟩
abbrev main_call0_v6 : Ref sig .tc := ⟨.hbm, 19, rfl⟩
abbrev main_call0_v7 : Ref sig .tc := ⟨.hbm, 20, rfl⟩
abbrev main_call0_v8 : Ref sig .tc := ⟨.hbm, 21, rfl⟩
abbrev main_call0_c : Ref sig .tc := ⟨.hbm, 22, rfl⟩
abbrev main_call0_v9 : Ref sig .tc := ⟨.hbm, 23, rfl⟩
abbrev main_call0_v10 : Ref sig .tc := ⟨.hbm, 24, rfl⟩
abbrev main_call0_v11 : Ref sig .tc := ⟨.hbm, 25, rfl⟩
abbrev main_call0_c_0 : Ref sig .tc := ⟨.hbm, 26, rfl⟩
abbrev main_call0_v12 : Ref sig .tc := ⟨.hbm, 27, rfl⟩
abbrev main_call0_v13 : Ref sig .tc := ⟨.hbm, 28, rfl⟩
abbrev main_v4 : Ref sig .tc := ⟨.hbm, 29, rfl⟩
abbrev main_v5 : Ref sig .tc := ⟨.hbm, 30, rfl⟩
abbrev main_v6 : Ref sig .tc := ⟨.hbm, 31, rfl⟩
abbrev main_c_0 : Ref sig .tc := ⟨.hbm, 32, rfl⟩
abbrev main_call1_v0 : Ref sig .tc := ⟨.hbm, 33, rfl⟩
abbrev main_call1_c : Ref sig .tc := ⟨.hbm, 34, rfl⟩
abbrev main_call1_v1 : Ref sig .tc := ⟨.hbm, 35, rfl⟩
abbrev main_call1_c_0 : Ref sig .tc := ⟨.hbm, 36, rfl⟩
abbrev main_call1_v2 : Ref sig .tc := ⟨.hbm, 37, rfl⟩
abbrev main_call1_v3 : Ref sig .tc := ⟨.hbm, 38, rfl⟩
abbrev main_call1_v4 : Ref sig .tc := ⟨.hbm, 39, rfl⟩
abbrev main_call1_c_1 : Ref sig .tc := ⟨.hbm, 40, rfl⟩
abbrev main_call1_v5 : Ref sig .tc := ⟨.hbm, 41, rfl⟩
abbrev main_call1_v6 : Ref sig .tc := ⟨.hbm, 42, rfl⟩
abbrev main_call1_c_2 : Ref sig .tc := ⟨.hbm, 43, rfl⟩
abbrev main_call1_v7 : Ref sig .tc := ⟨.hbm, 44, rfl⟩
abbrev main_call1_v8 : Ref sig .tc := ⟨.hbm, 45, rfl⟩
abbrev main_call1_c_3 : Ref sig .tc := ⟨.hbm, 46, rfl⟩
abbrev main_call1_v9 : Ref sig .tc := ⟨.hbm, 47, rfl⟩
abbrev main_call1_v10 : Ref sig .tc := ⟨.hbm, 48, rfl⟩
abbrev main_call1_v11 : Ref sig .tc := ⟨.hbm, 49, rfl⟩
abbrev main_call1_v12 : Ref sig .tc := ⟨.hbm, 50, rfl⟩
abbrev main_call1_v13 : Ref sig .tc := ⟨.hbm, 51, rfl⟩
abbrev main_call1_v14 : Ref sig .tc := ⟨.hbm, 52, rfl⟩
abbrev main_v7 : Ref sig .tc := ⟨.hbm, 53, rfl⟩
abbrev main_v8 : Ref sig .tc := ⟨.hbm, 54, rfl⟩
abbrev main_v9 : Ref sig .tc := ⟨.hbm, 55, rfl⟩
abbrev main_v10 : Ref sig .tc := ⟨.hbm, 56, rfl⟩
abbrev main_v11 : Ref sig .tc := ⟨.hbm, 57, rfl⟩
abbrev main_v12 : Ref sig .tc := ⟨.hbm, 58, rfl⟩
abbrev main_v13 : Ref sig .tc := ⟨.hbm, 59, rfl⟩
abbrev main_v14 : Ref sig .tc := ⟨.hbm, 60, rfl⟩
abbrev main_v15 : Ref sig .tc := ⟨.hbm, 61, rfl⟩
abbrev main_v16 : Ref sig .tc := ⟨.hbm, 62, rfl⟩
abbrev main_v17 : Ref sig .tc := ⟨.hbm, 63, rfl⟩
abbrev main_v18 : Ref sig .tc := ⟨.hbm, 64, rfl⟩
abbrev main_v19 : Ref sig .tc := ⟨.hbm, 65, rfl⟩
abbrev main_v20 : Ref sig .tc := ⟨.hbm, 66, rfl⟩
abbrev main_v21_0 : Ref sig .tc := ⟨.hbm, 67, rfl⟩
abbrev main_v21_1 : Ref sig .tc := ⟨.hbm, 68, rfl⟩
abbrev main_v21_2 : Ref sig .tc := ⟨.hbm, 69, rfl⟩
abbrev main_v21_3 : Ref sig .tc := ⟨.hbm, 70, rfl⟩
abbrev main_v22 : Ref sig .tc := ⟨.hbm, 71, rfl⟩
abbrev main_v23 : Ref sig .tc := ⟨.hbm, 72, rfl⟩
abbrev main_v24 : Ref sig .tc := ⟨.hbm, 73, rfl⟩
abbrev main_v25 : Ref sig .tc := ⟨.hbm, 74, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg10_0 : Ref sig .tc := ⟨.vmem, 19, rfl⟩
abbrev cc0_stg11_0 : Ref sig .tc := ⟨.vmem, 20, rfl⟩
abbrev cc0_stg11_1 : Ref sig .tc := ⟨.vmem, 21, rfl⟩
abbrev cc0_stg12_0 : Ref sig .tc := ⟨.vmem, 22, rfl⟩
abbrev cc0_stg12_1 : Ref sig .tc := ⟨.vmem, 23, rfl⟩
abbrev cc0_stg13_0 : Ref sig .tc := ⟨.vmem, 24, rfl⟩
abbrev cc0_stg13_1 : Ref sig .tc := ⟨.vmem, 25, rfl⟩
abbrev cc0_stg14_0 : Ref sig .tc := ⟨.vmem, 26, rfl⟩
abbrev cc0_stg14_1 : Ref sig .tc := ⟨.vmem, 27, rfl⟩
abbrev cc0_scratch0 : Ref sig .tc := ⟨.vmem, 28, rfl⟩
abbrev cc0_scratch1 : Ref sig .tc := ⟨.vmem, 29, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem10_0 : DmaSem sig := 19
abbrev cc0_sem11_0 : DmaSem sig := 20
abbrev cc0_sem11_1 : DmaSem sig := 21
abbrev cc0_sem12_0 : DmaSem sig := 22
abbrev cc0_sem12_1 : DmaSem sig := 23
abbrev cc0_sem13_0 : DmaSem sig := 24
abbrev cc0_sem13_1 : DmaSem sig := 25
abbrev cc0_sem14_0 : DmaSem sig := 26
abbrev cc0_sem14_1 : DmaSem sig := 27

abbrev nD : Nat := 1
abbrev τ : Topo := Topo.v7x

variable {F : FTy → Type} [FloatOps F]

abbrev grid0 : Pipeline.Grid := ⟨1, ![8], ![false]⟩

@[reducible] def k0_t1_loop : Scf.Loop 32 :=
  let c0_i32_115 : BitVec 32 := 0#32
  let c32_i32 : BitVec 32 := 32#32
  let v220 : BitVec 32 := Scalar.addi c0_i32_115 c32_i32
  let c1_i32_116 : BitVec 32 := 1#32
  ⟨c0_i32_115, v220, c1_i32_116⟩
def k0_mult1 (k0_t1 : Fin k0_t1_loop.trips) : BitVec 32 :=
  let c0_i32_115 : BitVec 32 := 0#32
  let c1_i32_116 : BitVec 32 := 1#32
  let arg18 : BitVec 32 := Scf.iv c0_i32_115 c1_i32_116 k0_t1
  let c8_i32 : BitVec 32 := 8#32
  let v244 : BitVec 32 := Scalar.muli arg18 c8_i32
  let c0_i32_130 : BitVec 32 := 0#32
  let v245 : BitVec 32 := Scalar.addi v244 c0_i32_130
  let c8_i32_131 : BitVec 32 := 8#32
  let v246 : BitVec 32 := Scalar.muli v245 c8_i32_131
  v246
def k0_off1 (k0_t1 : Fin k0_t1_loop.trips) (c0_i32_130 : BitVec 32) : Fin 2 → Nat :=
  let c0_i32_115 : BitVec 32 := 0#32
  let c1_i32_116 : BitVec 32 := 1#32
  let arg18 : BitVec 32 := Scf.iv c0_i32_115 c1_i32_116 k0_t1
  let c8_i32 : BitVec 32 := 8#32
  let v244 : BitVec 32 := Scalar.muli arg18 c8_i32
  let v245 : BitVec 32 := Scalar.addi v244 c0_i32_130
  let c8_i32_131 : BitVec 32 := 8#32
  let v246 : BitVec 32 := Scalar.muli v245 c8_i32_131
  let v247 : BitVec 32 := v246
  let v250 : Index := Scalar.indexCast v247
  let c0_134 : Index := 0#32
  ![v250.toNat, 0]
def k0_mult2 (k0_t1 : Fin k0_t1_loop.trips) : BitVec 32 :=
  let c0_i32_115 : BitVec 32 := 0#32
  let c1_i32_116 : BitVec 32 := 1#32
  let arg18 : BitVec 32 := Scf.iv c0_i32_115 c1_i32_116 k0_t1
  let c8_i32_151 : BitVec 32 := 8#32
  let v295 : BitVec 32 := Scalar.muli arg18 c8_i32_151
  let c1_i32_152 : BitVec 32 := 1#32
  let v296 : BitVec 32 := Scalar.addi v295 c1_i32_152
  let c8_i32_153 : BitVec 32 := 8#32
  let v297 : BitVec 32 := Scalar.muli v296 c8_i32_153
  v297
def k0_mult3 (k0_t1 : Fin k0_t1_loop.trips) : BitVec 32 :=
  let c0_i32_115 : BitVec 32 := 0#32
  let c1_i32_116 : BitVec 32 := 1#32
  let arg18 : BitVec 32 := Scf.iv c0_i32_115 c1_i32_116 k0_t1
  let c8_i32_174 : BitVec 32 := 8#32
  let v346 : BitVec 32 := Scalar.muli arg18 c8_i32_174
  let c2_i32_175 : BitVec 32 := 2#32
  let v347 : BitVec 32 := Scalar.addi v346 c2_i32_175
  let c8_i32_176 : BitVec 32 := 8#32
  let v348 : BitVec 32 := Scalar.muli v347 c8_i32_176
  v348
def k0_mult4 (k0_t1 : Fin k0_t1_loop.trips) : BitVec 32 :=
  let c0_i32_115 : BitVec 32 := 0#32
  let c1_i32_116 : BitVec 32 := 1#32
  let arg18 : BitVec 32 := Scf.iv c0_i32_115 c1_i32_116 k0_t1
  let c8_i32_197 : BitVec 32 := 8#32
  let v397 : BitVec 32 := Scalar.muli arg18 c8_i32_197
  let c3_i32 : BitVec 32 := 3#32
  let v398 : BitVec 32 := Scalar.addi v397 c3_i32
  let c8_i32_198 : BitVec 32 := 8#32
  let v399 : BitVec 32 := Scalar.muli v398 c8_i32_198
  v399
def k0_mult5 (k0_t1 : Fin k0_t1_loop.trips) : BitVec 32 :=
  let c0_i32_115 : BitVec 32 := 0#32
  let c1_i32_116 : BitVec 32 := 1#32
  let arg18 : BitVec 32 := Scf.iv c0_i32_115 c1_i32_116 k0_t1
  let c8_i32_219 : BitVec 32 := 8#32
  let v448 : BitVec 32 := Scalar.muli arg18 c8_i32_219
  let c4_i32_220 : BitVec 32 := 4#32
  let v449 : BitVec 32 := Scalar.addi v448 c4_i32_220
  let c8_i32_221 : BitVec 32 := 8#32
  let v450 : BitVec 32 := Scalar.muli v449 c8_i32_221
  v450
def k0_mult6 (k0_t1 : Fin k0_t1_loop.trips) : BitVec 32 :=
  let c0_i32_115 : BitVec 32 := 0#32
  let c1_i32_116 : BitVec 32 := 1#32
  let arg18 : BitVec 32 := Scf.iv c0_i32_115 c1_i32_116 k0_t1
  let c8_i32_242 : BitVec 32 := 8#32
  let v499 : BitVec 32 := Scalar.muli arg18 c8_i32_242
  let c5_i32 : BitVec 32 := 5#32
  let v500 : BitVec 32 := Scalar.addi v499 c5_i32
  let c8_i32_243 : BitVec 32 := 8#32
  let v501 : BitVec 32 := Scalar.muli v500 c8_i32_243
  v501
def k0_mult7 (k0_t1 : Fin k0_t1_loop.trips) : BitVec 32 :=
  let c0_i32_115 : BitVec 32 := 0#32
  let c1_i32_116 : BitVec 32 := 1#32
  let arg18 : BitVec 32 := Scf.iv c0_i32_115 c1_i32_116 k0_t1
  let c8_i32_264 : BitVec 32 := 8#32
  let v550 : BitVec 32 := Scalar.muli arg18 c8_i32_264
  let c6_i32 : BitVec 32 := 6#32
  let v551 : BitVec 32 := Scalar.addi v550 c6_i32
  let c8_i32_265 : BitVec 32 := 8#32
  let v552 : BitVec 32 := Scalar.muli v551 c8_i32_265
  v552
def k0_mult8 (k0_t1 : Fin k0_t1_loop.trips) : BitVec 32 :=
  let c0_i32_115 : BitVec 32 := 0#32
  let c1_i32_116 : BitVec 32 := 1#32
  let arg18 : BitVec 32 := Scf.iv c0_i32_115 c1_i32_116 k0_t1
  let c8_i32_286 : BitVec 32 := 8#32
  let v601 : BitVec 32 := Scalar.muli arg18 c8_i32_286
  let c7_i32 : BitVec 32 := 7#32
  let v602 : BitVec 32 := Scalar.addi v601 c7_i32
  let c8_i32_287 : BitVec 32 := 8#32
  let v603 : BitVec 32 := Scalar.muli v602 c8_i32_287
  v603
def k0_mult9 (k0_t1 : Fin k0_t1_loop.trips) : BitVec 32 :=
  let c255_i32 : BitVec 32 := 255#32
  let c0_i32_115 : BitVec 32 := 0#32
  let c1_i32_116 : BitVec 32 := 1#32
  let arg18 : BitVec 32 := Scf.iv c0_i32_115 c1_i32_116 k0_t1
  let c8_i32_308 : BitVec 32 := 8#32
  let v652 : BitVec 32 := Scalar.muli arg18 c8_i32_308
  let c0_i32_309 : BitVec 32 := 0#32
  let v653 : BitVec 32 := Scalar.addi v652 c0_i32_309
  let v654 : BitVec 32 := Scalar.subi c255_i32 v653
  let c8_i32_310 : BitVec 32 := 8#32
  let v655 : BitVec 32 := Scalar.muli v654 c8_i32_310
  v655
def k0_off2 (k0_t1 : Fin k0_t1_loop.trips) (c0_i32_309 : BitVec 32) : Fin 2 → Nat :=
  let c255_i32 : BitVec 32 := 255#32
  let c0_i32_115 : BitVec 32 := 0#32
  let c1_i32_116 : BitVec 32 := 1#32
  let arg18 : BitVec 32 := Scf.iv c0_i32_115 c1_i32_116 k0_t1
  let c8_i32_308 : BitVec 32 := 8#32
  let v652 : BitVec 32 := Scalar.muli arg18 c8_i32_308
  let v653 : BitVec 32 := Scalar.addi v652 c0_i32_309
  let v654 : BitVec 32 := Scalar.subi c255_i32 v653
  let c8_i32_310 : BitVec 32 := 8#32
  let v655 : BitVec 32 := Scalar.muli v654 c8_i32_310
  let v656 : BitVec 32 := v655
  let v659 : Index := Scalar.indexCast v656
  let c0_313 : Index := 0#32
  ![v659.toNat, 0]
def k0_mult10 (k0_t1 : Fin k0_t1_loop.trips) : BitVec 32 :=
  let c255_i32_333 : BitVec 32 := 255#32
  let c0_i32_115 : BitVec 32 := 0#32
  let c1_i32_116 : BitVec 32 := 1#32
  let arg18 : BitVec 32 := Scf.iv c0_i32_115 c1_i32_116 k0_t1
  let c8_i32_331 : BitVec 32 := 8#32
  let v704 : BitVec 32 := Scalar.muli arg18 c8_i32_331
  let c1_i32_332 : BitVec 32 := 1#32
  let v705 : BitVec 32 := Scalar.addi v704 c1_i32_332
  let v706 : BitVec 32 := Scalar.subi c255_i32_333 v705
  let c8_i32_334 : BitVec 32 := 8#32
  let v707 : BitVec 32 := Scalar.muli v706 c8_i32_334
  v707
def k0_mult11 (k0_t1 : Fin k0_t1_loop.trips) : BitVec 32 :=
  let c255_i32_357 : BitVec 32 := 255#32
  let c0_i32_115 : BitVec 32 := 0#32
  let c1_i32_116 : BitVec 32 := 1#32
  let arg18 : BitVec 32 := Scf.iv c0_i32_115 c1_i32_116 k0_t1
  let c8_i32_355 : BitVec 32 := 8#32
  let v756 : BitVec 32 := Scalar.muli arg18 c8_i32_355
  let c2_i32_356 : BitVec 32 := 2#32
  let v757 : BitVec 32 := Scalar.addi v756 c2_i32_356
  let v758 : BitVec 32 := Scalar.subi c255_i32_357 v757
  let c8_i32_358 : BitVec 32 := 8#32
  let v759 : BitVec 32 := Scalar.muli v758 c8_i32_358
  v759
def k0_mult12 (k0_t1 : Fin k0_t1_loop.trips) : BitVec 32 :=
  let c255_i32_381 : BitVec 32 := 255#32
  let c0_i32_115 : BitVec 32 := 0#32
  let c1_i32_116 : BitVec 32 := 1#32
  let arg18 : BitVec 32 := Scf.iv c0_i32_115 c1_i32_116 k0_t1
  let c8_i32_379 : BitVec 32 := 8#32
  let v808 : BitVec 32 := Scalar.muli arg18 c8_i32_379
  let c3_i32_380 : BitVec 32 := 3#32
  let v809 : BitVec 32 := Scalar.addi v808 c3_i32_380
  let v810 : BitVec 32 := Scalar.subi c255_i32_381 v809
  let c8_i32_382 : BitVec 32 := 8#32
  let v811 : BitVec 32 := Scalar.muli v810 c8_i32_382
  v811
def k0_mult13 (k0_t1 : Fin k0_t1_loop.trips) : BitVec 32 :=
  let c255_i32_405 : BitVec 32 := 255#32
  let c0_i32_115 : BitVec 32 := 0#32
  let c1_i32_116 : BitVec 32 := 1#32
  let arg18 : BitVec 32 := Scf.iv c0_i32_115 c1_i32_116 k0_t1
  let c8_i32_403 : BitVec 32 := 8#32
  let v860 : BitVec 32 := Scalar.muli arg18 c8_i32_403
  let c4_i32_404 : BitVec 32 := 4#32
  let v861 : BitVec 32 := Scalar.addi v860 c4_i32_404
  let v862 : BitVec 32 := Scalar.subi c255_i32_405 v861
  let c8_i32_406 : BitVec 32 := 8#32
  let v863 : BitVec 32 := Scalar.muli v862 c8_i32_406
  v863
def k0_mult14 (k0_t1 : Fin k0_t1_loop.trips) : BitVec 32 :=
  let c255_i32_429 : BitVec 32 := 255#32
  let c0_i32_115 : BitVec 32 := 0#32
  let c1_i32_116 : BitVec 32 := 1#32
  let arg18 : BitVec 32 := Scf.iv c0_i32_115 c1_i32_116 k0_t1
  let c8_i32_427 : BitVec 32 := 8#32
  let v912 : BitVec 32 := Scalar.muli arg18 c8_i32_427
  let c5_i32_428 : BitVec 32 := 5#32
  let v913 : BitVec 32 := Scalar.addi v912 c5_i32_428
  let v914 : BitVec 32 := Scalar.subi c255_i32_429 v913
  let c8_i32_430 : BitVec 32 := 8#32
  let v915 : BitVec 32 := Scalar.muli v914 c8_i32_430
  v915
def k0_mult15 (k0_t1 : Fin k0_t1_loop.trips) : BitVec 32 :=
  let c255_i32_453 : BitVec 32 := 255#32
  let c0_i32_115 : BitVec 32 := 0#32
  let c1_i32_116 : BitVec 32 := 1#32
  let arg18 : BitVec 32 := Scf.iv c0_i32_115 c1_i32_116 k0_t1
  let c8_i32_451 : BitVec 32 := 8#32
  let v964 : BitVec 32 := Scalar.muli arg18 c8_i32_451
  let c6_i32_452 : BitVec 32 := 6#32
  let v965 : BitVec 32 := Scalar.addi v964 c6_i32_452
  let v966 : BitVec 32 := Scalar.subi c255_i32_453 v965
  let c8_i32_454 : BitVec 32 := 8#32
  let v967 : BitVec 32 := Scalar.muli v966 c8_i32_454
  v967
def k0_mult16 (k0_t1 : Fin k0_t1_loop.trips) : BitVec 32 :=
  let c255_i32_477 : BitVec 32 := 255#32
  let c0_i32_115 : BitVec 32 := 0#32
  let c1_i32_116 : BitVec 32 := 1#32
  let arg18 : BitVec 32 := Scf.iv c0_i32_115 c1_i32_116 k0_t1
  let c8_i32_475 : BitVec 32 := 8#32
  let v1016 : BitVec 32 := Scalar.muli arg18 c8_i32_475
  let c7_i32_476 : BitVec 32 := 7#32
  let v1017 : BitVec 32 := Scalar.addi v1016 c7_i32_476
  let v1018 : BitVec 32 := Scalar.subi c255_i32_477 v1017
  let c8_i32_478 : BitVec 32 := 8#32
  let v1019 : BitVec 32 := Scalar.muli v1018 c8_i32_478
  v1019
def cc0_transform_0 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![c0_i32_0.toNat, v0.toNat]

def cc0_transform_1 (i : grid0.Coords) : Fin 2 → Nat :=
  let arg0 : BitVec 32 := BitVec.ofNat 32 (i 0).val
  let c8_i32 : BitVec 32 := 8#32
  let v0 : BitVec 32 := Scalar.addi arg0 c8_i32
  let c0_i32 : BitVec 32 := 0#32
  let c0_i32_0 : BitVec 32 := 0#32
  ![c0_i32.toNat, v0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

def cc0_transform_5 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_6 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

def cc0_transform_7 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![c0_i32_0.toNat, v0.toNat]

def cc0_transform_12 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![c0_i32_0.toNat, v0.toNat]

def cc0_transform_13 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![c0_i32_0.toNat, v0.toNat]

def cc0_transform_14 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

abbrev stage0_0 : Fin 2 → Memref sig .tc .vmem S2048x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2048x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S4x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S2x1x128x64 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S2x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S2x1x128x64 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S2x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S2x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S64x128 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S128x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S2048x128 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S2048x128 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S2048x128 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S4x2048x128 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]
-- ==== RecDecayIdeal.lean ====
abbrev S2048x2048 : Shape := ⟨2, ![2048, 2048]⟩
abbrev S4x1024 : Shape := ⟨2, ![4, 1024]⟩
abbrev S1024 : Shape := ⟨1, ![1024]⟩
abbrev S2x16x64x64 : Shape := ⟨4, ![2, 16, 64, 64]⟩
abbrev S2x1024 : Shape := ⟨2, ![2, 1024]⟩
abbrev S2048x1024 : Shape := ⟨2, ![2048, 1024]⟩
abbrev S_ : Shape := ⟨0, ![]⟩
abbrev S2051x1024 : Shape := ⟨2, ![2051, 1024]⟩
abbrev S1x1024 : Shape := ⟨2, ![1, 1024]⟩
abbrev S1x16x64x64 : Shape := ⟨4, ![1, 16, 64, 64]⟩
abbrev S16x64x64 : Shape := ⟨3, ![16, 64, 64]⟩
abbrev S2048x16x64 : Shape := ⟨3, ![2048, 16, 64]⟩
abbrev S16x64x2048 : Shape := ⟨3, ![16, 64, 2048]⟩

abbrev nBuf : Space → Nat
  | .hbm => 128
  | .vmem => 0
  | .smem => 0
  | _ => 0

abbrev bufTy : (tb : Table) → Fin (tcTables nBuf tb) → BufTy
  | .hbm, ⟨0, _⟩ => ⟨S2048x2048, .f32⟩
  | .hbm, ⟨1, _⟩ => ⟨S4x1024, .f32⟩
  | .hbm, ⟨2, _⟩ => ⟨S1024, .f32⟩
  | .hbm, ⟨3, _⟩ => ⟨S2x16x64x64, .f32⟩
  | .hbm, ⟨4, _⟩ => ⟨S2x1024, .f32⟩
  | .hbm, ⟨5, _⟩ => ⟨S2x16x64x64, .f32⟩
  | .hbm, ⟨6, _⟩ => ⟨S2x1024, .f32⟩
  | .hbm, ⟨7, _⟩ => ⟨S2x1024, .f32⟩
  | .hbm, ⟨8, _⟩ => ⟨S2048x1024, .f32⟩
  | .hbm, ⟨9, _⟩ => ⟨S_, .i32⟩
  | .hbm, ⟨10, _⟩ => ⟨S_, .f32⟩
  | .hbm, ⟨11, _⟩ => ⟨S2051x1024, .f32⟩
  | .hbm, ⟨12, _⟩ => ⟨S2048x1024, .f32⟩
  | .hbm, ⟨13, _⟩ => ⟨S1x1024, .f32⟩
  | .hbm, ⟨14, _⟩ => ⟨S1024, .f32⟩
  | .hbm, ⟨15, _⟩ => ⟨S1x1024, .f32⟩
  | .hbm, ⟨16, _⟩ => ⟨S2048x1024, .f32⟩
  | .hbm, ⟨17, _⟩ => ⟨S2048x1024, .f32⟩
  | .hbm, ⟨18, _⟩ => ⟨S1x1024, .f32⟩
  | .hbm, ⟨19, _⟩ => ⟨S2048x1024, .f32⟩
  | .hbm, ⟨20, _⟩ => ⟨S2048x1024, .f32⟩
  | .hbm, ⟨21, _⟩ => ⟨S2048x1024, .f32⟩
  | .hbm, ⟨22, _⟩ => ⟨S1x1024, .f32⟩
  | .hbm, ⟨23, _⟩ => ⟨S1024, .f32⟩
  | .hbm, ⟨24, _⟩ => ⟨S1x1024, .f32⟩
  | .hbm, ⟨25, _⟩ => ⟨S2048x1024, .f32⟩
  | .hbm, ⟨26, _⟩ => ⟨S2048x1024, .f32⟩
  | .hbm, ⟨27, _⟩ => ⟨S2048x1024, .f32⟩
  | .hbm, ⟨28, _⟩ => ⟨S2048x1024, .f32⟩
  | .hbm, ⟨29, _⟩ => ⟨S1x1024, .f32⟩
  | .hbm, ⟨30, _⟩ => ⟨S1024, .f32⟩
  | .hbm, ⟨31, _⟩ => ⟨S1x1024, .f32⟩
  | .hbm, ⟨32, _⟩ => ⟨S2048x1024, .f32⟩
  | .hbm, ⟨33, _⟩ => ⟨S2048x1024, .f32⟩
  | .hbm, ⟨34, _⟩ => ⟨S2048x1024, .f32⟩
  | .hbm, ⟨35, _⟩ => ⟨S2048x1024, .f32⟩
  | .hbm, ⟨36, _⟩ => ⟨S1x1024, .f32⟩
  | .hbm, ⟨37, _⟩ => ⟨S1024, .f32⟩
  | .hbm, ⟨38, _⟩ => ⟨S1x1024, .f32⟩
  | .hbm, ⟨39, _⟩ => ⟨S2048x1024, .f32⟩
  | .hbm, ⟨40, _⟩ => ⟨S2048x1024, .f32⟩
  | .hbm, ⟨41, _⟩ => ⟨S2048x1024, .f32⟩
  | .hbm, ⟨42, _⟩ => ⟨S1x16x64x64, .f32⟩
  | .hbm, ⟨43, _⟩ => ⟨S16x64x64, .f32⟩
  | .hbm, ⟨44, _⟩ => ⟨S1x1024, .f32⟩
  | .hbm, ⟨45, _⟩ => ⟨S1024, .f32⟩
  | .hbm, ⟨46, _⟩ => ⟨S1x1024, .f32⟩
  | .hbm, ⟨47, _⟩ => ⟨S1024, .f32⟩
  | .hbm, ⟨48, _⟩ => ⟨S2048x16x64, .f32⟩
  | .hbm, ⟨49, _⟩ => ⟨S16x64x2048, .f32⟩
  | .hbm, ⟨50, _⟩ => ⟨S2048x16x64, .f32⟩
  | .hbm, ⟨51, _⟩ => ⟨S2048x1024, .f32⟩
  | .hbm, ⟨52, _⟩ => ⟨S1x1024, .f32⟩
  | .hbm, ⟨53, _⟩ => ⟨S2048x1024, .f32⟩
  | .hbm, ⟨54, _⟩ => ⟨S2048x1024, .f32⟩
  | .hbm, ⟨55, _⟩ => ⟨S2048x1024, .f32⟩
  | .hbm, ⟨56, _⟩ => ⟨S2048x1024, .f32⟩
  | .hbm, ⟨57, _⟩ => ⟨S_, .f32⟩
  | .hbm, ⟨58, _⟩ => ⟨S2048x1024, .f32⟩
  | .hbm, ⟨59, _⟩ => ⟨S2048x1024, .f32⟩
  | .hbm, ⟨60, _⟩ => ⟨S_, .f32⟩
  | .hbm, ⟨61, _⟩ => ⟨S2048x1024, .f32⟩
  | .hbm, ⟨62, _⟩ => ⟨S2048x1024, .f32⟩
  | .hbm, ⟨63, _⟩ => ⟨S_, .f32⟩
  | .hbm, ⟨64, _⟩ => ⟨S2048x1024, .f32⟩
  | .hbm, ⟨65, _⟩ => ⟨S2048x1024, .f32⟩
  | .hbm, ⟨66, _⟩ => ⟨S1024, .f32⟩
  | .hbm, ⟨67, _⟩ => ⟨S_, .f32⟩
  | .hbm, ⟨68, _⟩ => ⟨S1024, .f32⟩
  | .hbm, ⟨69, _⟩ => ⟨S1024, .f32⟩
  | .hbm, ⟨70, _⟩ => ⟨S1024, .f32⟩
  | .hbm, ⟨71, _⟩ => ⟨S1024, .f32⟩
  | .hbm, ⟨72, _⟩ => ⟨S1024, .i1⟩
  | .hbm, ⟨73, _⟩ => ⟨S1024, .f32⟩
  | .hbm, ⟨74, _⟩ => ⟨S1024, .f32⟩
  | .hbm, ⟨75, _⟩ => ⟨S1024, .f32⟩
  | .hbm, ⟨76, _⟩ => ⟨S1024, .f32⟩
  | .hbm, ⟨77, _⟩ => ⟨S1024, .f32⟩
  | .hbm, ⟨78, _⟩ => ⟨S1024, .f32⟩
  | .hbm, ⟨79, _⟩ => ⟨S1024, .f32⟩
  | .hbm, ⟨80, _⟩ => ⟨S1024, .f32⟩
  | .hbm, ⟨81, _⟩ => ⟨S1x1024, .f32⟩
  | .hbm, ⟨82, _⟩ => ⟨S2048x1024, .f32⟩
  | .hbm, ⟨83, _⟩ => ⟨S2048x1024, .f32⟩
  | .hbm, ⟨84, _⟩ => ⟨S2048x1024, .f32⟩
  | .hbm, ⟨85, _⟩ => ⟨S1x16x64x64, .f32⟩
  | .hbm, ⟨86, _⟩ => ⟨S16x64x64, .f32⟩
  | .hbm, ⟨87, _⟩ => ⟨S1x1024, .f32⟩
  | .hbm, ⟨88, _⟩ => ⟨S1024, .f32⟩
  | .hbm, ⟨89, _⟩ => ⟨S1x1024, .f32⟩
  | .hbm, ⟨90, _⟩ => ⟨S1024, .f32⟩
  | .hbm, ⟨91, _⟩ => ⟨S2048x16x64, .f32⟩
  | .hbm, ⟨92, _⟩ => ⟨S16x64x2048, .f32⟩
  | .hbm, ⟨93, _⟩ => ⟨S2048x16x64, .f32⟩
  | .hbm, ⟨94, _⟩ => ⟨S2048x1024, .f32⟩
  | .hbm, ⟨95, _⟩ => ⟨S1x1024, .f32⟩
  | .hbm, ⟨96, _⟩ => ⟨S2048x1024, .f32⟩
  | .hbm, ⟨97, _⟩ => ⟨S2048x1024, .f32⟩
  | .hbm, ⟨98, _⟩ => ⟨S2048x1024, .f32⟩
  | .hbm, ⟨99, _⟩ => ⟨S2048x1024, .f32⟩
  | .hbm, ⟨100, _⟩ => ⟨S_, .f32⟩
  | .hbm, ⟨101, _⟩ => ⟨S2048x1024, .f32⟩
  | .hbm, ⟨102, _⟩ => ⟨S2048x1024, .f32⟩
  | .hbm, ⟨103, _⟩ => ⟨S_, .f32⟩
  | .hbm, ⟨104, _⟩ => ⟨S2048x1024, .f32⟩
  | .hbm, ⟨105, _⟩ => ⟨S2048x1024, .f32⟩
  | .hbm, ⟨106, _⟩ => ⟨S_, .f32⟩
  | .hbm, ⟨107, _⟩ => ⟨S2048x1024, .f32⟩
  | .hbm, ⟨108, _⟩ => ⟨S2048x1024, .f32⟩
  | .hbm, ⟨109, _⟩ => ⟨S1024, .f32⟩
  | .hbm, ⟨110, _⟩ => ⟨S_, .f32⟩
  | .hbm, ⟨111, _⟩ => ⟨S1024, .f32⟩
  | .hbm, ⟨112, _⟩ => ⟨S1024, .f32⟩
  | .hbm, ⟨113, _⟩ => ⟨S1024, .f32⟩
  | .hbm, ⟨114, _⟩ => ⟨S1024, .f32⟩
  | .hbm, ⟨115, _⟩ => ⟨S1024, .i1⟩
  | .hbm, ⟨116, _⟩ => ⟨S1024, .f32⟩
  | .hbm, ⟨117, _⟩ => ⟨S1024, .f32⟩
  | .hbm, ⟨118, _⟩ => ⟨S1024, .f32⟩
  | .hbm, ⟨119, _⟩ => ⟨S1024, .f32⟩
  | .hbm, ⟨120, _⟩ => ⟨S1024, .f32⟩
  | .hbm, ⟨121, _⟩ => ⟨S1024, .f32⟩
  | .hbm, ⟨122, _⟩ => ⟨S1024, .f32⟩
  | .hbm, ⟨123, _⟩ => ⟨S1024, .f32⟩
  | .hbm, ⟨124, _⟩ => ⟨S1x1024, .f32⟩
  | .hbm, ⟨125, _⟩ => ⟨S2048x1024, .f32⟩
  | .hbm, ⟨126, _⟩ => ⟨S2048x1024, .f32⟩
  | .hbm, ⟨127, _⟩ => ⟨S2048x1024, .f32⟩
  | _, _ => ⟨S2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_c : Ref sig .tc := ⟨.hbm, 9, rfl⟩
abbrev main_call0_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_v43 : Ref sig .tc := ⟨.hbm, 53, rfl⟩
abbrev main_v44 : Ref sig .tc := ⟨.hbm, 54, rfl⟩
abbrev main_v45 : Ref sig .tc := ⟨.hbm, 55, rfl⟩
abbrev main_v46 : Ref sig .tc := ⟨.hbm, 56, rfl⟩
abbrev main_cst : Ref sig .tc := ⟨.hbm, 57, rfl⟩
abbrev main_v47 : Ref sig .tc := ⟨.hbm, 58, rfl⟩
abbrev main_v48 : Ref sig .tc := ⟨.hbm, 59, rfl⟩
abbrev main_cst_0 : Ref sig .tc := ⟨.hbm, 60, rfl⟩
abbrev main_v49 : Ref sig .tc := ⟨.hbm, 61, rfl⟩
abbrev main_v50 : Ref sig .tc := ⟨.hbm, 62, rfl⟩
abbrev main_cst_1 : Ref sig .tc := ⟨.hbm, 63, rfl⟩
abbrev main_v51 : Ref sig .tc := ⟨.hbm, 64, rfl⟩
abbrev main_v52 : Ref sig .tc := ⟨.hbm, 65, rfl⟩
abbrev main_v53 : Ref sig .tc := ⟨.hbm, 66, rfl⟩
abbrev main_call1_cst : Ref sig .tc := ⟨.hbm, 67, rfl⟩
abbrev main_call1_v0 : Ref sig .tc := ⟨.hbm, 68, rfl⟩
abbrev main_call1_v1 : Ref sig .tc := ⟨.hbm, 69, rfl⟩
abbrev main_call1_v2 : Ref sig .tc := ⟨.hbm, 70, rfl⟩
abbrev main_call1_v3 : Ref sig .tc := ⟨.hbm, 71, rfl⟩
abbrev main_call1_v4 : Ref sig .tc := ⟨.hbm, 72, rfl⟩
abbrev main_call1_v5 : Ref sig .tc := ⟨.hbm, 73, rfl⟩
abbrev main_call1_v6 : Ref sig .tc := ⟨.hbm, 74, rfl⟩
abbrev main_call1_v7 : Ref sig .tc := ⟨.hbm, 75, rfl⟩
abbrev main_call1_v8 : Ref sig .tc := ⟨.hbm, 76, rfl⟩
abbrev main_call1_v9 : Ref sig .tc := ⟨.hbm, 77, rfl⟩
abbrev main_call1_v10 : Ref sig .tc := ⟨.hbm, 78, rfl⟩
abbrev main_call1_v11 : Ref sig .tc := ⟨.hbm, 79, rfl⟩
abbrev main_v54 : Ref sig .tc := ⟨.hbm, 80, rfl⟩
abbrev main_v55 : Ref sig .tc := ⟨.hbm, 81, rfl⟩
abbrev main_v56 : Ref sig .tc := ⟨.hbm, 82, rfl⟩
abbrev main_v57 : Ref sig .tc := ⟨.hbm, 83, rfl⟩
abbrev main_v58 : Ref sig .tc := ⟨.hbm, 84, rfl⟩
abbrev main_v59 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩
abbrev main_v64 : Ref sig .tc := ⟨.hbm, 90, rfl⟩
abbrev main_v65 : Ref sig .tc := ⟨.hbm, 91, rfl⟩
abbrev main_v66 : Ref sig .tc := ⟨.hbm, 92, rfl⟩
abbrev main_v67 : Ref sig .tc := ⟨.hbm, 93, rfl⟩
abbrev main_v68 : Ref sig .tc := ⟨.hbm, 94, rfl⟩
abbrev main_v69 : Ref sig .tc := ⟨.hbm, 95, rfl⟩
abbrev main_v70 : Ref sig .tc := ⟨.hbm, 96, rfl⟩
abbrev main_v71 : Ref sig .tc := ⟨.hbm, 97, rfl⟩
abbrev main_v72 : Ref sig .tc := ⟨.hbm, 98, rfl⟩
abbrev main_v73 : Ref sig .tc := ⟨.hbm, 99, rfl⟩
abbrev main_cst_2 : Ref sig .tc := ⟨.hbm, 100, rfl⟩
abbrev main_v74 : Ref sig .tc := ⟨.hbm, 101, rfl⟩
abbrev main_v75 : Ref sig .tc := ⟨.hbm, 102, rfl⟩
abbrev main_cst_3 : Ref sig .tc := ⟨.hbm, 103, rfl⟩
abbrev main_v76 : Ref sig .tc := ⟨.hbm, 104, rfl⟩
abbrev main_v77 : Ref sig .tc := ⟨.hbm, 105, rfl⟩
abbrev main_cst_4 : Ref sig .tc := ⟨.hbm, 106, rfl⟩
abbrev main_v78 : Ref sig .tc := ⟨.hbm, 107, rfl⟩
abbrev main_v79 : Ref sig .tc := ⟨.hbm, 108, rfl⟩
abbrev main_v80 : Ref sig .tc := ⟨.hbm, 109, rfl⟩
abbrev main_call2_cst : Ref sig .tc := ⟨.hbm, 110, rfl⟩
abbrev main_call2_v0 : Ref sig .tc := ⟨.hbm, 111, rfl⟩
abbrev main_call2_v1 : Ref sig .tc := ⟨.hbm, 112, rfl⟩
abbrev main_call2_v2 : Ref sig .tc := ⟨.hbm, 113, rfl⟩
abbrev main_call2_v3 : Ref sig .tc := ⟨.hbm, 114, rfl⟩
abbrev main_call2_v4 : Ref sig .tc := ⟨.hbm, 115, rfl⟩
abbrev main_call2_v5 : Ref sig .tc := ⟨.hbm, 116, rfl⟩
abbrev main_call2_v6 : Ref sig .tc := ⟨.hbm, 117, rfl⟩
abbrev main_call2_v7 : Ref sig .tc := ⟨.hbm, 118, rfl⟩
abbrev main_call2_v8 : Ref sig .tc := ⟨.hbm, 119, rfl⟩
abbrev main_call2_v9 : Ref sig .tc := ⟨.hbm, 120, rfl⟩
abbrev main_call2_v10 : Ref sig .tc := ⟨.hbm, 121, rfl⟩
abbrev main_call2_v11 : Ref sig .tc := ⟨.hbm, 122, rfl⟩
abbrev main_v81 : Ref sig .tc := ⟨.hbm, 123, rfl⟩
abbrev main_v82 : Ref sig .tc := ⟨.hbm, 124, rfl⟩
abbrev main_v83 : Ref sig .tc := ⟨.hbm, 125, rfl⟩
abbrev main_v84 : Ref sig .tc := ⟨.hbm, 126, rfl⟩
abbrev main_v85 : Ref sig .tc := ⟨.hbm, 127, rfl⟩

abbrev nD : Nat := 1
abbrev τ : Topo := Topo.v7x

variable {F : FTy → Type} [FloatOps F]
-- ==== Proof.Sigmoid.lean ====
/- The logistic gate in the two forms the programs use: the kernel's `½·tanh(½x) + ½` and the
   reference's `1/(1 + e⁻ˣ)`, equal at every extended real. -/
module

public import Idealize.ShloMosaic.PureOps.Ideal
public import Idealize.ShloMosaic.Lib.Pointwise

@[expose] public section

noncomputable section

namespace Cert.Gate

open Idealize.ShloMosaic

/-- The pattern `0x3F000000` is one half. -/
theorem half : Ideal.ofBits .f32 0x3F000000#32 = ((1 / 2 : ℝ) : EReal) := by
  simp [Ideal.ofBits, Ideal.ieee]; rw [← EReal.coe_mul]; norm_num

/-- The pattern `0x3F800000` is one. -/
theorem one : Ideal.ofBits .f32 0x3F800000#32 = 1 := by
  simp [Ideal.ofBits, Ideal.ieee]; rw [← EReal.coe_mul]; norm_num

/-- `½·tanh(½r) + ½ = 1/(1 + e⁻ʳ)` over the reals. -/
theorem real_sigmoid (r : ℝ) : 1 / 2 * Real.tanh (1 / 2 * r) + 1 / 2 = (1 + Real.exp (-r))⁻¹ := by
  rw [Real.tanh_eq_sinh_div_cosh, Real.sinh_eq, Real.cosh_eq]
  have e : Real.exp (-r) = Real.exp (-(1 / 2 * r)) * Real.exp (-(1 / 2 * r)) := by rw [← Real.exp_add]; ring_nf
  have e1 : Real.exp (1 / 2 * r) * Real.exp (-(1 / 2 * r)) = 1 := by rw [← Real.exp_add]; simp
  have p := Real.exp_pos (1 / 2 * r)
  have q := Real.exp_pos (-(1 / 2 * r))
  rw [e]
  generalize Real.exp (1 / 2 * r) = a at *
  generalize Real.exp (-(1 / 2 * r)) = b at *
  have h : a + b ≠ 0 := by positivity
  have h' : 1 + b * b ≠ 0 := by positivity
  field_simp
  linear_combination (2 : ℝ) * b * e1

/-- The two forms of the gate agree at every extended real, the infinities included. -/
theorem sigmoid (x : EReal) :
    ((1 / 2 : ℝ) : EReal) * Ideal.tanh (((1 / 2 : ℝ) : EReal) * x) + ((1 / 2 : ℝ) : EReal)
      = Ideal.div 1 (1 + Ideal.exp (-x)) := by
  rw [← EReal.coe_one]
  induction x using EReal.rec with
  | bot =>
    rw [EReal.coe_mul_bot_of_pos (by norm_num), EReal.neg_bot]
    show ((1 / 2 : ℝ) : EReal) * (-1) + _ = Ideal.div _ (_ + ⊤)
    rw [EReal.coe_add_top, Ideal.div, if_neg (by simp), EReal.inv_top, mul_zero]
    rw [show (-1 : EReal) = ((-1 : ℝ) : EReal) by simp, ← EReal.coe_mul, ← EReal.coe_add]
    norm_num
  | top =>
    rw [EReal.coe_mul_top_of_pos (by norm_num), EReal.neg_top]
    show ((1 / 2 : ℝ) : EReal) * ((1 : ℝ) : EReal) + _ = Ideal.div _ (_ + 0)
    rw [← EReal.coe_mul,  add_zero, Ideal.div, if_neg (by norm_num), ← EReal.coe_inv, ← EReal.coe_mul, ← EReal.coe_add]
    norm_num
  | coe r =>
    rw [← EReal.coe_mul, ← EReal.coe_neg]
    show ((1 / 2 : ℝ) : EReal) * ((Real.tanh _ : ℝ) : EReal) + _ = Ideal.div _ (_ + ((Real.exp _ : ℝ) : EReal))
    have p := Real.exp_pos (-r)
    rw [← EReal.coe_mul, ← EReal.coe_add, ← EReal.coe_add, Ideal.div,
      if_neg (by rw [EReal.coe_eq_zero]; positivity), ← EReal.coe_inv, ← EReal.coe_mul, real_sigmoid, one_mul]

end Cert.Gate

end
-- ==== Proof.MixValue.lean ====
/- The arrays the mixing step's backward kernel leaves, each equal to the reference's result over the same arguments. -/
module

public import proofs.«01_k».proof.Proof.Gen.MixBwdIdeal.Value
public import proofs.«01_k».proof.Proof.Gen.MixGradIdeal.Read
public import proofs.«01_k».proof.Proof.Sigmoid
public import Idealize.ShloMosaic.Lib.Pipeline.ValueKit
public import Idealize.ShloMosaic.Lib.Pointwise
public import Idealize.ShloMosaic.Lib.Claim

@[expose] public section

set_option maxRecDepth 16384

noncomputable section

namespace Cert.MixBwdIdeal.RefValue

open Cert.MixBwdIdeal Cert.MixBwdIdeal.Gen Idealize.ShloMosaic Idealize.ShloMosaic.TcCoe Idealize.SL.Sem
open Idealize.ShloMosaic.Pipeline (Dat)
open Cert.MixGradIdeal.Read

variable (m : (ℓ : Loc nD τ sig) → Buf (Elt Ideal) ℓ)

/-- Where each block lies at a grid point: row block `t`, the gate's two halves side by side, every weight whole. -/
theorem idx : ∀ t : Fin cfg0.N,
    win0_0.index t = ![t.val, 0] ∧ win0_1.index t = ![t.val, 0] ∧ win0_2.index t = ![t.val, 0]
    ∧ win0_3.index t = ![t.val, 0] ∧ win0_4.index t = ![t.val, 1] ∧ win0_5.index t = ![0, 0]
    ∧ win0_6.index t = ![0, 0] ∧ win0_7.index t = ![0, 0] ∧ win0_8.index t = ![0, t.val, 0]
    ∧ win0_9.index t = ![t.val, 0] ∧ win0_10.index t = ![t.val, 0] ∧ win0_11.index t = ![t.val, 0]
    ∧ win0_12.index t = ![t.val, 0] :=
  (by decide +kernel : ∀ t : Fin grid0.N, _)

/-- The reference's first gate, in the kernel's form. -/
theorem gate_left (x3 : FVec Ideal Cert.MixGradIdeal.S2048x2048 .f32) (i : Cert.MixGradIdeal.S2048x1024.Idx) :
    val_main_v9 (F := Ideal) x3 i
      = ((1 / 2 : ℝ) : EReal) * Ideal.tanh (((1 / 2 : ℝ) : EReal) * val_main_v2 (F := Ideal) x3 i) + ((1 / 2 : ℝ) : EReal) := by
  pointwise [val_main_v9, val_main_v8, val_main_v7, val_main_v6, val_main_v5, val_main_v4, val_main_cst, val_main_cst_0]
  simp only [Gate.one, Gate.sigmoid]

/-- The reference's second gate, in the kernel's form. -/
theorem gate_right (x3 : FVec Ideal Cert.MixGradIdeal.S2048x2048 .f32) (i : Cert.MixGradIdeal.S2048x1024.Idx) :
    val_main_v19 (F := Ideal) x3 i
      = ((1 / 2 : ℝ) : EReal) * Ideal.tanh (((1 / 2 : ℝ) : EReal) * val_main_v3 (F := Ideal) x3 i) + ((1 / 2 : ℝ) : EReal) := by
  pointwise [val_main_v19, val_main_v18, val_main_v17, val_main_v16, val_main_v15, val_main_v14, val_main_cst_2, val_main_cst_3]
  simp only [Gate.one, Gate.sigmoid]

/-- The attention branch's cotangent: the gated cotangent of the mix. -/
theorem final9 (c : Dev nD) : (dats m 0 c).arrAt 9 (cfgs 0).N
    = val_main_v42 (F := Ideal) (m ((c : Thread nD τ).loc main_arg0)) (m ((c : Thread nD τ).loc main_arg3)) (m ((c : Thread nD τ).loc main_arg6)) := by
  refine (dats m 0 c).arrAt_eq_of_covers 9 _ (by decide +kernel) fun t _ y => ?_
  blk_simp
  rw [after0_9]; frame_out
  pointwise [k0_pay3, k0_pay7, k0_pay9, val_main_v42, val_main_v30, val_main_v26]
  simp only [gate_left, Gate.half]
  pointwise [val_main_v2]
  blk_point [iblk, V, idx t]

/-- The recurrent branch's cotangent: the other gate. -/
theorem final10 (c : Dev nD) : (dats m 0 c).arrAt 10 (cfgs 0).N
    = val_main_v43 (F := Ideal) (m ((c : Thread nD τ).loc main_arg0)) (m ((c : Thread nD τ).loc main_arg3)) (m ((c : Thread nD τ).loc main_arg6)) := by
  refine (dats m 0 c).arrAt_eq_of_covers 10 _ (by decide +kernel) fun t _ y => ?_
  blk_simp
  rw [after0_10]; frame_out
  pointwise [k0_pay4, k0_pay7, k0_pay10, val_main_v43, val_main_v27, val_main_v26]
  simp only [gate_right, Gate.half]
  pointwise [val_main_v3]
  blk_point [iblk, V, idx t]

/-- The attention output's cotangent: the gated cotangent times the transposed output weights. -/
theorem final11 (c : Dev nD) : (dats m 0 c).arrAt 11 (cfgs 0).N
    = val_main_v44 (F := Ideal) (m ((c : Thread nD τ).loc main_arg0)) (m ((c : Thread nD τ).loc main_arg3)) (m ((c : Thread nD τ).loc main_arg4)) (m ((c : Thread nD τ).loc main_arg6)) := by
  refine (dats m 0 c).arrAt_eq_of_covers 11 _ (by decide +kernel) fun t _ y => ?_
  blk_simp
  rw [after0_11]; frame_out
  pointwise [k0_pay5, k0_pay3, k0_pay7, k0_pay9, val_main_v44, val_main_v35, val_main_v30, val_main_v26]
  simp only [gate_left, Gate.half]
  pointwise [val_main_v2]
  blk_point [iblk, V, idx t]

/-- The recurrence output's cotangent: the gated cotangent times the transposed output weights. -/
theorem final12 (c : Dev nD) : (dats m 0 c).arrAt 12 (cfgs 0).N
    = val_main_v34 (F := Ideal) (m ((c : Thread nD τ).loc main_arg0)) (m ((c : Thread nD τ).loc main_arg3)) (m ((c : Thread nD τ).loc main_arg5)) (m ((c : Thread nD τ).loc main_arg6)) := by
  refine (dats m 0 c).arrAt_eq_of_covers 12 _ (by decide +kernel) fun t _ y => ?_
  blk_simp
  rw [after0_12]; frame_out
  pointwise [k0_pay6, k0_pay4, k0_pay7, k0_pay10, val_main_v34, val_main_v27, val_main_v26]
  simp only [gate_right, Gate.half]
  pointwise [val_main_v3]
  blk_point [iblk, V, idx t]

/-- Part 0 of the gates' cotangents, read through the reference's stacking. -/
theorem ref_left (x0 : FVec Ideal Cert.MixGradIdeal.S2048x1024 .f32) (x1 : FVec Ideal Cert.MixGradIdeal.S2048x512 .f32)
    (x2 : FVec Ideal Cert.MixGradIdeal.S2048x1024 .f32) (x3 : FVec Ideal Cert.MixGradIdeal.S2048x2048 .f32)
    (x4 : FVec Ideal Cert.MixGradIdeal.S512x1024 .f32) (x5 x6 : FVec Ideal Cert.MixGradIdeal.S1024x1024 .f32)
    (j : Cert.MixGradIdeal.S2x2048x1024.Idx) (h : (j 0 : ℕ) = 0) :
    val_main_v41 (F := Ideal) x0 x1 x2 x3 x4 x5 x6 j = val_main_v32 (F := Ideal) x0 x1 x3 x4 x6 (ix2 (j 1) (j 2)) := by
  pointwise [val_main_v41, val_main_v40, val_main_v39, val_main_v38, val_main_v37, val_main_v36, val_main_v33]
  split
  · rfl
  · omega

/-- Part 1 of the gates' cotangents, read through the reference's stacking. -/
theorem ref_right (x0 : FVec Ideal Cert.MixGradIdeal.S2048x1024 .f32) (x1 : FVec Ideal Cert.MixGradIdeal.S2048x512 .f32)
    (x2 : FVec Ideal Cert.MixGradIdeal.S2048x1024 .f32) (x3 : FVec Ideal Cert.MixGradIdeal.S2048x2048 .f32)
    (x4 : FVec Ideal Cert.MixGradIdeal.S512x1024 .f32) (x5 x6 : FVec Ideal Cert.MixGradIdeal.S1024x1024 .f32)
    (j : Cert.MixGradIdeal.S2x2048x1024.Idx) (h : (j 0 : ℕ) = 1) :
    val_main_v41 (F := Ideal) x0 x1 x2 x3 x4 x5 x6 j = val_main_v29 (F := Ideal) x0 x2 x3 x5 x6 (ix2 (j 1) (j 2)) := by
  pointwise [val_main_v41, val_main_v40, val_main_v39, val_main_v38, val_main_v37, val_main_v36, val_main_v33]
  split
  · omega
  · rfl

/-- The gates' cotangents: first the attention gate's, then the recurrence gate's. -/
theorem final8 (c : Dev nD) : (dats m 0 c).arrAt 8 (cfgs 0).N
    = val_main_v41 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) := by
  refine (dats m 0 c).arrAt_eq_of_covers 8 _ (by decide +kernel) fun t _ y => ?_
  blk_simp
  rw [after0_8]
  have ht : t.val < 8 := lt_of_lt_of_eq t.isLt N_0
  unfold outsAt0
  frame_out
  canon_tiles x h
  case piece0 =>
    refine Eq.trans ?_ (ref_right _ _ _ _ _ _ _ (((cfg0.win 8).blk t).view.emb y) (by blk_simp [idx t]; omega)).symm
    pointwise [k0_pay2, k0_pay7, k0_pay8, k0_pay10, val_main_v29, val_main_v28, val_main_v26, val_main_v1, val_main_v22,
      val_main_v21, val_main_v20, val_main_cst_4]
    simp only [gate_right, Gate.half]
    pointwise [val_main_v3]
    rw [mul_assoc]
    blk_point [iblk, V, idx t]
  case piece1 =>
    refine Eq.trans ?_ (ref_left _ _ _ _ _ _ _ (((cfg0.win 8).blk t).view.emb y) (by blk_simp [idx t]; omega)).symm
    pointwise [k0_pay1, k0_pay7, k0_pay11, k0_pay9, val_main_v32, val_main_v31, val_main_v26, val_main_v0, val_main_v12,
      val_main_v11, val_main_v10, val_main_cst_1]
    simp only [gate_left, Gate.half]
    pointwise [val_main_v2]
    rw [mul_assoc]
    blk_point [iblk, V, idx t]

end Cert.MixBwdIdeal.RefValue

end
-- ==== Proof.MixClaim.lean ====
/- The mixing step's backward pair: the reference's frame and the equality of all five results. -/
module

public import proofs.«01_k».proof.Defs
public import proofs.«01_k».proof.Proof.Gen.MixBwd.Frame
public import proofs.«01_k».proof.Proof.Gen.MixGradIdeal.Run
public import proofs.«01_k».proof.Proof.MixValue

@[expose] public section

set_option maxRecDepth 16384

noncomputable section

namespace Cert.MixClaim

open Idealize.ShloMosaic Idealize.ShloMosaic.TcCoe Idealize.SL.Sem

/-- The reference runs, leaves its arguments as they were and its semaphores at zero. -/
theorem frame_ref : Cert.quiescent_MixGradIdeal := fun m ρ _ =>
  (θ_run Cert.MixGradIdeal.defs _ _).mono (fun r h => ⟨fun c => (h c).2.2.2.2.2,
      Idealize.ShloMosaic.sem_eq_zero_of_no_sems (by decide) r.2⟩)
    (Cert.MixGradIdeal.Value.run (F := Ideal) m ρ)

/-- Kernel and reference end with equal results. -/
theorem algebraic : Cert.algebraic_MixBwdIdeal_MixGradIdeal := by
  pair_intro
  · run_from Cert.MixBwdIdeal.Value.run_blocks m g
  · refine (θ_run Cert.MixGradIdeal.defs _ _).mono (fun r h c => ?_) (Cert.MixGradIdeal.Value.run (F := Ideal) m' g')
    obtain ⟨h0, h1, h2, h3, h4, hargs⟩ := h c
    obtain ⟨a0, a1, a2, a3, a4, a5, a6⟩ := hagree c
    refine ⟨h0.trans ?_, h1.trans ?_, h2.trans ?_, h3.trans ?_, h4.trans ?_, hargs⟩
    · rw [Cert.MixGradIdeal.Read.val_main_v41_eq, a0, a1, a2, a3, a4, a5, a6]
      exact (Cert.MixBwdIdeal.RefValue.final8 m c).symm
    · rw [a0, a3, a6]; exact (Cert.MixBwdIdeal.RefValue.final9 m c).symm
    · rw [a0, a3, a6]; exact (Cert.MixBwdIdeal.RefValue.final10 m c).symm
    · rw [a0, a3, a4, a6]; exact (Cert.MixBwdIdeal.RefValue.final11 m c).symm
    · rw [a0, a3, a5, a6]; exact (Cert.MixBwdIdeal.RefValue.final12 m c).symm

end Cert.MixClaim

end
-- ==== Proof.RmsReal.lean ====
/- Facts about the mean-square norm over finite extended reals, and its backward step written two ways. -/
module

public import Idealize.ShloMosaic.Lib.Claim
public import Idealize.ShloMosaic.Lib.Pointwise

@[expose] public section

noncomputable section

namespace Cert.Rms

open Idealize.ShloMosaic

theorem thousand : Ideal.ofBits .f32 0x44800000#32 = ((1024 : ℝ) : EReal) := by
  simp [Ideal.ofBits, Ideal.ieee]; rw [← EReal.coe_mul]; norm_num

theorem infinity : Ideal.ofBits .f32 0x7F800000#32 = ⊤ := by
  simp [Ideal.ofBits, Ideal.ieee]

theorem neg_half : Ideal.ofBits .f32 0xBF000000#32 = ((-(1 / 2) : ℝ) : EReal) := by
  simp [Ideal.ofBits, Ideal.ieee]; rw [← EReal.coe_mul]; norm_num

/-- The norm's small positive constant. -/
def eps : ℝ := 8796093 * 2 ^ (-43 : ℤ)

theorem eps_pos : 0 < eps := by unfold eps; positivity

theorem eps_bits : Ideal.ofBits .f32 0x358637BD#32 = ((eps : ℝ) : EReal) := by
  simp [Ideal.ofBits, Ideal.ieee, eps]

theorem coe_sum {ι : Type} (s : Finset ι) (f : ι → ℝ) : ∑ i ∈ s, ((f i : ℝ) : EReal) = ((∑ i ∈ s, f i : ℝ) : EReal) := by
  classical
  induction s using Finset.induction_on with
  | empty => simp
  | insert a s ha ih => rw [Finset.sum_insert ha, Finset.sum_insert ha, ih, EReal.coe_add]

theorem div_real (a b : ℝ) (hb : b ≠ 0) : Ideal.div (a : EReal) (b : EReal) = ((a / b : ℝ) : EReal) := by
  rw [Ideal.div_coe hb, ← EReal.coe_mul, mul_one_div]

theorem rsqrt_real (a : ℝ) (ha : 0 < a) : Ideal.rsqrt (a : EReal) = (((Real.sqrt a)⁻¹ : ℝ) : EReal) := by
  rw [Ideal.rsqrt_coe, if_neg ha.le.not_gt, if_neg ha.ne']

/-- A finite extended real. -/
def IsReal (x : EReal) : Prop := ∃ r : ℝ, x = (r : EReal)

theorem IsReal.coe (r : ℝ) : IsReal (r : EReal) := ⟨r, rfl⟩

theorem IsReal.add {x y : EReal} : IsReal x → IsReal y → IsReal (x + y) := by
  rintro ⟨a, rfl⟩ ⟨b, rfl⟩; exact ⟨a + b, (EReal.coe_add a b).symm⟩

theorem IsReal.sub {x y : EReal} : IsReal x → IsReal y → IsReal (x - y) := by
  rintro ⟨a, rfl⟩ ⟨b, rfl⟩; exact ⟨a - b, (EReal.coe_sub a b).symm⟩

theorem IsReal.mul {x y : EReal} : IsReal x → IsReal y → IsReal (x * y) := by
  rintro ⟨a, rfl⟩ ⟨b, rfl⟩; exact ⟨a * b, (EReal.coe_mul a b).symm⟩

theorem IsReal.sum {ι : Type} [Fintype ι] {f : ι → EReal} (h : ∀ i, IsReal (f i)) : IsReal (∑ i, f i) := by
  choose r hr using h
  exact ⟨∑ i, r i, by simp only [hr, coe_sum]⟩

/-- An extended real of absolute value less than infinity. -/
theorem IsReal.of_abs {x : EReal} (h : max x (-x) < ⊤) : IsReal x := by
  refine ⟨x.toReal, (EReal.coe_toReal ?_ ?_).symm⟩
  · intro e; rw [e] at h; simp at h
  · intro e; rw [e] at h; simp at h

/-- The test of finiteness, passed everywhere, makes every entry finite. -/
theorem IsReal.of_test {S : Shape} (x : FVec Ideal S .f32) (hb : (⟨0, ![]⟩ : Shape).BroadcastsInDim S (![] : Fin 0 → Fin S.rank))
    (h : cmpf .olt (Host.absf x) (broadcastInDim S ![] hb (constant ⟨0, ![]⟩ .f32 0x7F800000#32)) = fun _ => 1#1) (i : S.Idx) : IsReal (x i) := by
  have e := congrFun h i
  pointwise at e
  refine IsReal.of_abs (lt_of_lt_of_eq ?_ infinity)
  show FloatOps.absf (F := Ideal) (x i) < _
  by_contra hn
  rw [decide_eq_false hn] at e
  exact absurd e (by decide)

/-- An array of finite extended reals is an array of reals. -/
theorem IsReal.funext {ι : Type} {f : ι → EReal} (h : ∀ i, IsReal (f i)) : ∃ r : ι → ℝ, f = fun i => ((r i : ℝ) : EReal) := by
  choose r hr using h
  exact ⟨r, _root_.funext hr⟩

/-- The norm's backward step: the kernel's projection of the normalised cotangent equals the derivative of the
    normalised row, at real rows. -/
theorem row {ι : Type} [Fintype ι] (b : EReal) (x d : ι → ℝ) (n e : ℝ) (hn : 0 < n) (he : 0 < e) (j : ι) :
    let ms : EReal := Ideal.div (∑ k, (x k : EReal) * (x k : EReal)) (n : EReal) + (e : EReal)
    let r : EReal := Ideal.rsqrt ms
    let q : EReal := Ideal.div ((∑ k, (x k : EReal) * (d k : EReal)) * (((-(1 / 2) : ℝ) : EReal) * Ideal.div r ms)) (n : EReal)
    b + r * ((d j : EReal) - ((x j : EReal) * r) * Ideal.div (∑ k, (d k : EReal) * ((x k : EReal) * r)) (n : EReal))
      = ((b + (d j : EReal) * r) + (x j : EReal) * q) + q * (x j : EReal) := by
  intro ms r q
  have hms : ms = (((∑ k, x k * x k) / n + e : ℝ) : EReal) := by
    simp only [ms, ← EReal.coe_mul, coe_sum, div_real _ _ hn.ne', ← EReal.coe_add]
  set M : ℝ := (∑ k, x k * x k) / n + e with hM
  have hpos : 0 < M := by
    have : 0 ≤ ∑ k, x k * x k := Finset.sum_nonneg fun k _ => mul_self_nonneg _
    positivity
  have hr : r = (((Real.sqrt M)⁻¹ : ℝ) : EReal) := by simp only [r, hms, rsqrt_real _ hpos]
  set R : ℝ := (Real.sqrt M)⁻¹ with hR
  have hRM : R * R = M⁻¹ := by rw [hR, ← mul_inv, Real.mul_self_sqrt hpos.le]
  have hq : q = ((((∑ k, x k * d k) * (-(1 / 2) * (R / M))) / n : ℝ) : EReal) := by
    simp only [q, hms, hr, ← EReal.coe_mul, coe_sum, div_real _ _ hpos.ne', div_real _ _ hn.ne']
  rw [hq, hr]
  simp only [← EReal.coe_mul, coe_sum, div_real _ _ hn.ne', ← EReal.coe_sub]
  rw [add_assoc, add_assoc, ← EReal.coe_add, ← EReal.coe_add]
  congr 2
  have hs : ∑ k, d k * (x k * R) = (∑ k, x k * d k) * R := by
    rw [Finset.sum_mul]; exact Finset.sum_congr rfl fun k _ => by ring
  rw [hs, div_eq_mul_inv R M, ← hRM]
  field_simp
  ring

/-- The norm's factor of a row. -/
def rs {ι : Type} [Fintype ι] (x : ι → EReal) : EReal :=
  Ideal.rsqrt (Ideal.div (∑ k, x k * x k) ((1024 : ℝ) : EReal) + ((eps : ℝ) : EReal))

/-- The factor's derivative, carried back to the row. -/
def rq {ι : Type} [Fintype ι] (x d : ι → EReal) : EReal :=
  Ideal.div ((∑ k, x k * d k) * (((-(1 / 2) : ℝ) : EReal) * Ideal.div (rs x) (Ideal.div (∑ k, x k * x k) ((1024 : ℝ) : EReal) + ((eps : ℝ) : EReal)))) ((1024 : ℝ) : EReal)

/-- The norm's backward step at finite rows. -/
theorem row_real {ι : Type} [Fintype ι] (x d : ι → EReal) (hx : ∀ k, IsReal (x k)) (hd : ∀ k, IsReal (d k)) (j : ι) :
    rs x * (d j - (x j * rs x) * Ideal.div (∑ k, d k * (x k * rs x)) ((1024 : ℝ) : EReal)) = (d j * rs x + x j * rq x d) + rq x d * x j := by
  obtain ⟨X, rfl⟩ := IsReal.funext hx
  obtain ⟨D, rfl⟩ := IsReal.funext hd
  have h := row 0 X D 1024 eps (by norm_num) eps_pos j
  simp only [zero_add] at h
  exact h

theorem IsReal.max {x y : EReal} : IsReal x → IsReal y → IsReal (x ⊔ y) := by
  rintro ⟨a, rfl⟩ ⟨b, rfl⟩
  rcases le_total a b with h | h
  · rw [sup_eq_right.2 (EReal.coe_le_coe_iff.2 h)]; exact ⟨b, rfl⟩
  · rw [sup_eq_left.2 (EReal.coe_le_coe_iff.2 h)]; exact ⟨a, rfl⟩

theorem IsReal.div_thousand {x : EReal} : IsReal x → IsReal (Ideal.div x ((1024 : ℝ) : EReal)) := by
  rintro ⟨a, rfl⟩; exact ⟨a / 1024, div_real a 1024 (by norm_num)⟩

theorem IsReal.rs {ι : Type} [Fintype ι] {x : ι → EReal} (hx : ∀ k, IsReal (x k)) : IsReal (rs x) := by
  obtain ⟨X, rfl⟩ := IsReal.funext hx
  have hp : 0 < (∑ k, X k * X k) / 1024 + eps := by
    have : 0 ≤ ∑ k, X k * X k := Finset.sum_nonneg fun k _ => mul_self_nonneg _
    have := eps_pos
    positivity
  refine ⟨_, Eq.trans ?_ (rsqrt_real _ hp)⟩
  simp only [Rms.rs, ← EReal.coe_mul, coe_sum, div_real _ _ (by norm_num : (1024 : ℝ) ≠ 0), ← EReal.coe_add]

end Cert.Rms

end
-- ==== Proof.NormValue.lean ====
/- The arrays the first norm's backward kernel leaves, each equal to the reference's result over the same arguments. -/
module

public import proofs.«01_k».proof.Proof.Gen.NormBwdIdeal.Value
public import proofs.«01_k».proof.Proof.Gen.NormGradIdeal.Read
public import proofs.«01_k».proof.Proof.RmsReal
public import Idealize.ShloMosaic.Lib.Pipeline.ValueKit
public import Idealize.ShloMosaic.Lib.Pipeline.ReadBack
public import Idealize.ShloMosaic.Lib.Pointwise
public import Idealize.ShloMosaic.Lib.StableHlo.RunRead
public import Idealize.ShloMosaic.Lib.Claim

@[expose] public section

set_option maxRecDepth 16384

noncomputable section

namespace Cert.NormBwdIdeal.RefValue

open Cert.NormBwdIdeal Cert.NormBwdIdeal.Gen Idealize.ShloMosaic Idealize.ShloMosaic.TcCoe Idealize.SL.Sem
open Idealize.ShloMosaic.Pipeline (Dat)
open Cert.NormGradIdeal.Read

variable (m : (ℓ : Loc nD τ sig) → Buf (Elt Ideal) ℓ)

/-- Where each block lies at a grid point: row block `t` of every stream, the gain whole. -/
theorem idx : ∀ t : Fin cfg0.N,
    win0_0.index t = ![0, t.val, 0] ∧ win0_1.index t = ![0, t.val, 0] ∧ win0_2.index t = ![0, t.val, 0]
    ∧ win0_3.index t = ![t.val, 0] ∧ win0_4.index t = ![0, 0] ∧ win0_5.index t = ![t.val, 0]
    ∧ win0_6.index t = ![t.val, 0] ∧ win0_7.index t = ![0, 0] :=
  (by decide +kernel : ∀ t : Fin grid0.N, _)

theorem row_lt (t : Fin cfg0.N) (r : Fin 512) : 512 * t.val + r.val < 2048 := by
  have h4 : cfg0.N = 4 := N_0
  have := t.isLt; have := r.isLt; omega

theorem row_comm (t : Fin cfg0.N) (r : Fin 512) : t.val * 512 + r.val = 512 * t.val + r.val := by omega

/-- The weights as the kernel reads them out of its main memory. -/
def wOf (c : Dev nD) : Vec Ideal S5632x1024 .bf16 := View.read (Elt Ideal) (View.whole main_v4) (V m c main_v4)

/-- They are the host's transpose of the input projection's weights. -/
theorem wOf_apply (c : Dev nD) (i : S5632x1024.Idx) : wOf m c i = m ((c : Thread nD τ).loc main_arg3) (ValueIdx.ix2 (i 1) (i 0)) := by
  show V m c main_v4 i = _
  unfold V
  after_reads_simp
  pointwise
  rfl

theorem canon_whole {s : Shape} {e : EltTy} (w : s.Idx → Elt Ideal e) :
    View.canon [(⟨Rect.whole s, w⟩ : View.Piece (Elt Ideal) s e)] = w := by
  funext y
  have h := View.canon_cons_emb (Val := Elt Ideal) (e := e) (Rect.whole s) w [] y
  rw [show (Rect.whole s).emb y = y from by funext a; apply Fin.ext; simp [Rect.whole]] at h
  exact h

theorem canon_w (c : Dev nD) :
    View.canon [(⟨Rect.whole S5632x1024, ReadAs.same.apply (wOf m c)⟩ : View.Piece (Elt Ideal) S5632x1024 .bf16)] = wOf m c :=
  canon_whole (wOf m c)

theorem ld_w (c : Dev nD) (r : Rect S5632x1024) : (fun j => wOf m c (r.toLoadRect.idx j)) = View.ld (wOf m c) r := rfl

theorem read_w (h : scM0_0.IsWhole) (X : Vec Ideal S5632x1024 .bf16) :
    View.read (Elt Ideal) (View.whole cc0_scratch0) (h.unread X) = X :=
  read_unread_whole cc0_scratch0 h X

/-- The weights stay in the kernel's scratch from the first point on. -/
theorem scratch_eq (c : Dev nD) : ∀ (n : ℕ) (h : n < cfg0.N), (outsAt0 m c n h).2.2 = wOf m c
  | 0, h => by
    have e := outsAt0_A m c ⟨0, h⟩ rfl
    dsimp only at e
    rw [e]; frame_out
    exact canon_w m c
  | n + 1, h => by
    by_cases h0 : (n + 1) % 4 = 0
    · have e := outsAt0_A m c ⟨n + 1, h⟩ h0
      dsimp only at e
      rw [e]; frame_out
      exact canon_w m c
    · have e := outsAt0_B m c ⟨n + 1, h⟩ h0
      dsimp only at e
      rw [e]; frame_out
      exact scratch_eq c n _

/-- The normalised stream's cotangent at a point: the seven products added up. -/
def dhB (b0 : Vec Ideal S3x512x512 .bf16) (b1 b2 : Vec Ideal S2x512x1024 .bf16) (w : Vec Ideal S5632x1024 .bf16) : FVec Ideal S512x1024 .f32 :=
  k0_pay5
    (k0_pay3 (View.ld b0 (Rect.unit ![0, 0, 0] ![1, 512, 512] inb_S3x512x512_S1x512x512_0_0_0))
      (View.ld w (Rect.unit ![0, 0] ![512, 1024] inb_S5632x1024_S512x1024_0_0))
      (View.ld b0 (Rect.unit ![1, 0, 0] ![1, 512, 512] inb_S3x512x512_S1x512x512_1_0_0))
      (View.ld w (Rect.unit ![512, 0] ![512, 1024] inb_S5632x1024_S512x1024_512_0))
      (View.ld b0 (Rect.unit ![2, 0, 0] ![1, 512, 512] inb_S3x512x512_S1x512x512_2_0_0))
      (View.ld w (Rect.unit ![1024, 0] ![512, 1024] inb_S5632x1024_S512x1024_1024_0))
      (View.ld b1 (Rect.unit ![0, 0, 0] ![1, 512, 1024] inb_S2x512x1024_S1x512x1024_0_0_0))
      (View.ld w (Rect.unit ![1536, 0] ![1024, 1024] inb_S5632x1024_S1024x1024_1536_0)))
    (k0_pay4 (View.ld b1 (Rect.unit ![1, 0, 0] ![1, 512, 1024] inb_S2x512x1024_S1x512x1024_1_0_0))
      (View.ld w (Rect.unit ![2560, 0] ![1024, 1024] inb_S5632x1024_S1024x1024_2560_0)))
    (View.ld b2 (Rect.unit ![0, 0, 0] ![1, 512, 1024] inb_S2x512x1024_S1x512x1024_0_0_0))
    (View.ld w (Rect.unit ![3584, 0] ![1024, 1024] inb_S5632x1024_S1024x1024_3584_0))
    (View.ld b2 (Rect.unit ![1, 0, 0] ![1, 512, 1024] inb_S2x512x1024_S1x512x1024_1_0_0))
    (View.ld w (Rect.unit ![4608, 0] ![1024, 1024] inb_S5632x1024_S1024x1024_4608_0))

def dhAt (c : Dev nD) (t : Fin cfg0.N) : FVec Ideal S512x1024 .f32 := dhB (iblk m c 0 t) (iblk m c 1 t) (iblk m c 2 t) (wOf m c)

/-- The stream's gradient after any point. -/
theorem gx_eq (c : Dev nD) (t : Fin cfg0.N) : (outsAt0 m c t.val t.isLt).1
    = k0_pay1 (k0_pay6 (iblk m c 3 t)) (k0_pay7 (iblk m c 3 t)) (iblk m c 5 t)
        (mulf (dhAt m c t) (broadcastTo S512x1024 (iblk m c 4 t) broadcasts_S1x1024_S512x1024)) := by
  by_cases h0 : t.val % 4 = 0
  · rw [outsAt0_A m c t h0]; frame_out
    simp only [View.readCov_eq_canon']
    erw [canon_w m c]
    simp only [ld_w]
    rfl
  · rw [outsAt0_B m c t h0]; frame_out
    simp only [scratch_eq, read_w]
    rfl

/-- The gain's gradient after the first point. -/
theorem dg_A (c : Dev nD) (t : Fin cfg0.N) (h0 : t.val % 4 = 0) : (outsAt0 m c t.val t.isLt).2.1
    = fun y => 0 + ∑ r : Fin 512, dhAt m c t (ValueIdx.ix2 r (y 1)) * k0_pay7 (iblk m c 3 t) (ValueIdx.ix2 r (y 1)) := by
  rw [outsAt0_A m c t h0]; frame_out
  simp only [View.readCov_eq_canon']
  erw [canon_w m c]
  simp only [ld_w]
  funext y
  pointwise [k0_pay8, k0_pay2]
  rfl

/-- The gain's gradient after a later point. -/
theorem dg_B (c : Dev nD) (t : Fin cfg0.N) (h0 : ¬t.val % 4 = 0) : (outsAt0 m c t.val t.isLt).2.1
    = fun y => (outsAt0 m c (t.val - 1) (Nat.lt_of_le_of_lt (Nat.sub_le _ _) t.isLt)).2.1 y
      + ∑ r : Fin 512, dhAt m c t (ValueIdx.ix2 r (y 1)) * k0_pay7 (iblk m c 3 t) (ValueIdx.ix2 r (y 1)) := by
  rw [outsAt0_B m c t h0]; frame_out
  simp only [scratch_eq, read_w]
  funext y
  pointwise [k0_pay8]
  rfl

/-- A sum over the joined columns, cut at the seven joints. -/
theorem cut7 (f : Fin 5632 → EReal) : ∑ k, f k
    = (∑ k : Fin 512, f ⟨k.val, by omega⟩) + (∑ k : Fin 512, f ⟨512 + k.val, by omega⟩) + (∑ k : Fin 512, f ⟨1024 + k.val, by omega⟩)
      + (∑ k : Fin 1024, f ⟨1536 + k.val, by omega⟩) + (∑ k : Fin 1024, f ⟨2560 + k.val, by omega⟩)
      + (∑ k : Fin 1024, f ⟨3584 + k.val, by omega⟩) + (∑ k : Fin 1024, f ⟨4608 + k.val, by omega⟩) := by
  rw [Fin.sum_univ_two_halves 4608 1024 rfl f, Fin.sum_univ_two_halves 3584 1024 rfl, Fin.sum_univ_two_halves 2560 1024 rfl,
    Fin.sum_univ_two_halves 1536 1024 rfl, Fin.sum_univ_two_halves 1024 512 rfl, Fin.sum_univ_two_halves 512 512 rfl]

/-- The seven products are the reference's one. -/
theorem dh_apply (c : Dev nD) (t : Fin cfg0.N) (y : S512x1024.Idx) : dhAt m c t y
    = val_main_v31 (F := Ideal) (m ((c : Thread nD τ).loc main_arg0)) (m ((c : Thread nD τ).loc main_arg1)) (m ((c : Thread nD τ).loc main_arg2)) (m ((c : Thread nD τ).loc main_arg3))
        (ValueIdx.ix2 ⟨512 * t.val + (y 0).val, row_lt t (y 0)⟩ (y 1)) := by
  unfold dhAt dhB
  rw [val_main_v31_apply, cut7]
  pointwise [k0_pay3, k0_pay4, k0_pay5, val_main_v14]
  simp (disch := omega) only [dif_neg, dif_pos]
  pointwise [val_main_v1, val_main_v3, val_main_v5, val_main_v7, val_main_v9, val_main_v11, val_main_v13,
    val_main_v0, val_main_v2, val_main_v4, val_main_v6, val_main_v8, val_main_v10, val_main_v12]
  simp only [wOf_apply]
  blk_point [iblk, V, idx t] <;> rfl

/-- A row of the kernel's stream gradient. -/
theorem ker_row (xb hb db : FVec Ideal S512x1024 .f32) (gb : FVec Ideal S1x1024 .f32) (r : Fin 512) (k : Fin 1024) :
    k0_pay1 (F := Ideal) (k0_pay6 xb) (k0_pay7 xb) hb (mulf db (broadcastTo S512x1024 gb broadcasts_S1x1024_S512x1024)) (ValueIdx.ix2 r k)
      = hb (ValueIdx.ix2 r k)
        + Ideal.rsqrt (Ideal.div (∑ j : Fin 1024, xb (ValueIdx.ix2 r j) * xb (ValueIdx.ix2 r j)) ((1024 : ℝ) : EReal) + ((Rms.eps : ℝ) : EReal))
          * (db (ValueIdx.ix2 r k) * gb (ValueIdx.ix2 0 k)
            - (xb (ValueIdx.ix2 r k) * Ideal.rsqrt (Ideal.div (∑ j : Fin 1024, xb (ValueIdx.ix2 r j) * xb (ValueIdx.ix2 r j)) ((1024 : ℝ) : EReal) + ((Rms.eps : ℝ) : EReal)))
              * Ideal.div (∑ j : Fin 1024, (db (ValueIdx.ix2 r j) * gb (ValueIdx.ix2 0 j)) * (xb (ValueIdx.ix2 r j) * Ideal.rsqrt (Ideal.div (∑ j : Fin 1024, xb (ValueIdx.ix2 r j) * xb (ValueIdx.ix2 r j)) ((1024 : ℝ) : EReal) + ((Rms.eps : ℝ) : EReal)))) ((1024 : ℝ) : EReal)) := by
  pointwise [k0_pay1, k0_pay6, k0_pay7]
  simp only [Rms.thousand, Rms.eps_bits]
  rfl

/-- A row of the reference's stream gradient, its normalised cotangent `D`. -/
theorem ref_row (x0 : FVec Ideal Cert.NormGradIdeal.S3x2048x512 .f32) (x1 x2 : FVec Ideal Cert.NormGradIdeal.S2x2048x1024 .f32)
    (x3 : FVec Ideal Cert.NormGradIdeal.S1024x5632 .f32) (x4 x6 : FVec Ideal Cert.NormGradIdeal.S2048x1024 .f32) (x5 : FVec Ideal Cert.NormGradIdeal.S1x1024 .f32)
    (i : Fin 2048) (k : Fin 1024) :
    val_main_v51 (F := Ideal) x0 x1 x2 x3 x4 x5 x6 (ValueIdx.ix2 i k)
      = ((x6 (ValueIdx.ix2 i k)
        + (val_main_v31 (F := Ideal) x0 x1 x2 x3 (ValueIdx.ix2 i k) * x5 (ValueIdx.ix2 0 k)) * Ideal.rsqrt (Ideal.div (∑ j : Fin 1024, x4 (ValueIdx.ix2 i j) * x4 (ValueIdx.ix2 i j)) ((1024 : ℝ) : EReal) + ((Rms.eps : ℝ) : EReal)))
        + x4 (ValueIdx.ix2 i k) * Ideal.div ((∑ j : Fin 1024, x4 (ValueIdx.ix2 i j) * (val_main_v31 (F := Ideal) x0 x1 x2 x3 (ValueIdx.ix2 i j) * x5 (ValueIdx.ix2 0 j)))
            * (((-(1 / 2) : ℝ) : EReal) * Ideal.div (Ideal.rsqrt (Ideal.div (∑ j : Fin 1024, x4 (ValueIdx.ix2 i j) * x4 (ValueIdx.ix2 i j)) ((1024 : ℝ) : EReal) + ((Rms.eps : ℝ) : EReal))) (Ideal.div (∑ j : Fin 1024, x4 (ValueIdx.ix2 i j) * x4 (ValueIdx.ix2 i j)) ((1024 : ℝ) : EReal) + ((Rms.eps : ℝ) : EReal)))) ((1024 : ℝ) : EReal))
        + Ideal.div ((∑ j : Fin 1024, x4 (ValueIdx.ix2 i j) * (val_main_v31 (F := Ideal) x0 x1 x2 x3 (ValueIdx.ix2 i j) * x5 (ValueIdx.ix2 0 j)))
            * (((-(1 / 2) : ℝ) : EReal) * Ideal.div (Ideal.rsqrt (Ideal.div (∑ j : Fin 1024, x4 (ValueIdx.ix2 i j) * x4 (ValueIdx.ix2 i j)) ((1024 : ℝ) : EReal) + ((Rms.eps : ℝ) : EReal))) (Ideal.div (∑ j : Fin 1024, x4 (ValueIdx.ix2 i j) * x4 (ValueIdx.ix2 i j)) ((1024 : ℝ) : EReal) + ((Rms.eps : ℝ) : EReal)))) ((1024 : ℝ) : EReal) * x4 (ValueIdx.ix2 i k) := by
  pointwise [val_main_v51, val_main_v50, val_main_v49, val_main_v48, val_main_v47, val_main_v46, val_main_v45, val_main_v44,
    val_main_v43, val_main_v42, val_main_v41, val_main_v40, val_main_v39, val_main_v38, val_main_v37, val_main_v36, val_main_v35,
    val_main_v25, val_main_v24, val_main_v23, val_main_v22, val_main_v21, val_main_v20, val_main_v19, val_main_v18, val_main_v17, val_main_v16, val_main_v15,
    val_main_cst_6, val_main_cst_5, val_main_cst_4, val_main_cst_3, val_main_cst_2, val_main_cst_1, val_main_cst_0, val_main_cst]
  simp only [Rms.thousand, Rms.eps_bits, Rms.neg_half, Finset.univ_unique, Finset.sum_singleton]
  rfl

theorem blk_x (c : Dev nD) (t : Fin cfg0.N) (r : Fin 512) (k : Fin 1024) :
    iblk m c 3 t (ValueIdx.ix2 r k) = m ((c : Thread nD τ).loc main_arg4) (ValueIdx.ix2 ⟨512 * t.val + r.val, row_lt t r⟩ k) := by
  blk_point [iblk, V, idx t]; exact row_comm t r

theorem blk_g (c : Dev nD) (t : Fin cfg0.N) (k : Fin 1024) :
    iblk m c 4 t (ValueIdx.ix2 0 k) = m ((c : Thread nD τ).loc main_arg5) (ValueIdx.ix2 0 k) := by
  blk_point [iblk, V, idx t]

theorem blk_h (c : Dev nD) (t : Fin cfg0.N) (r : Fin 512) (k : Fin 1024) :
    iblk m c 5 t (ValueIdx.ix2 r k) = m ((c : Thread nD τ).loc main_arg6) (ValueIdx.ix2 ⟨512 * t.val + r.val, row_lt t r⟩ k) := by
  blk_point [iblk, V, idx t]; exact row_comm t r

theorem dh_at (c : Dev nD) (t : Fin cfg0.N) (r : Fin 512) (k : Fin 1024) : dhAt m c t (ValueIdx.ix2 r k)
    = val_main_v31 (F := Ideal) (m ((c : Thread nD τ).loc main_arg0)) (m ((c : Thread nD τ).loc main_arg1)) (m ((c : Thread nD τ).loc main_arg2)) (m ((c : Thread nD τ).loc main_arg3))
        (ValueIdx.ix2 ⟨512 * t.val + r.val, row_lt t r⟩ k) := dh_apply m c t (ValueIdx.ix2 r k)

/-- The gain's gradient: the normalised stream times its cotangent, summed over the rows. -/
theorem final7 (c : Dev nD) : (dats m 0 c).arrAt 7 (cfgs 0).N
    = val_main_v34 (F := Ideal) (m ((c : Thread nD τ).loc main_arg0)) (m ((c : Thread nD τ).loc main_arg1)) (m ((c : Thread nD τ).loc main_arg2)) (m ((c : Thread nD τ).loc main_arg3)) (m ((c : Thread nD τ).loc main_arg4)) := by
  refine (dats m 0 c).arrAt_eq_of_after_last 7 t0_3 (by decide +kernel) _ fun j => ?_
  blk_simp
  rw [after0_7, Pipeline.eq_sum_fin_of_reset_step_apply_last (fun n h => (outsAt0 m c n h).2.1) 4 (fun _ => 0) _
    (fun t h j => congrFun (dg_A m c t h) j) (fun t h j => congrFun (dg_B m c t h) j) (le_of_eq N_0) t0_3 rfl j, zero_add]
  pointwise [k0_pay7, k0_pay6, val_main_v34, val_main_v33, val_main_v32, val_main_v27, val_main_v26, val_main_v22, val_main_v21, val_main_v20, val_main_v19,
    val_main_v18, val_main_v17, val_main_v16, val_main_v15, val_main_cst_3, val_main_cst_2, val_main_cst_1, val_main_cst_0, val_main_cst]
  simp only [dh_apply, blk_x]
  refine Fin.sum_mul_add_congr (n := 512) fun s k hl => ?_
  rw [show (⟨s.val * 512 + k.val, hl⟩ : Fin 2048) = ⟨512 * s.val + k.val, row_lt s k⟩ from Fin.ext (row_comm s k)]
  refine (mul_comm (_ : EReal) _).trans ?_
  exact congrArg₂ (· * ·) (congrArg₂ (· * ·) (blk_x m c s k (j 1))
    (congrArg (fun z => Ideal.rsqrt (Ideal.div z _ + _)) (Finset.sum_congr rfl fun x _ => congrArg₂ (· * ·) (blk_x m c s k x) (blk_x m c s k x)))) rfl

/-- The reference's cotangent of the normalised stream is finite where its arguments are. -/
theorem real_v31 (x0 : FVec Ideal Cert.NormGradIdeal.S3x2048x512 .f32) (x1 x2 : FVec Ideal Cert.NormGradIdeal.S2x2048x1024 .f32)
    (x3 : FVec Ideal Cert.NormGradIdeal.S1024x5632 .f32) (h0 : ∀ i, Rms.IsReal (x0 i)) (h1 : ∀ i, Rms.IsReal (x1 i)) (h2 : ∀ i, Rms.IsReal (x2 i))
    (h3 : ∀ i, Rms.IsReal (x3 i)) (i : Cert.NormGradIdeal.S2048x1024.Idx) : Rms.IsReal (val_main_v31 (F := Ideal) x0 x1 x2 x3 i) := by
  rw [val_main_v31_apply, cut7]
  pointwise [val_main_v14]
  simp (disch := omega) only [dif_neg, dif_pos]
  pointwise [val_main_v1, val_main_v3, val_main_v5, val_main_v7, val_main_v9, val_main_v11, val_main_v13,
    val_main_v0, val_main_v2, val_main_v4, val_main_v6, val_main_v8, val_main_v10, val_main_v12]
  exact (((((((Rms.IsReal.sum fun k => (h0 _).mul (h3 _)).add (Rms.IsReal.sum fun k => (h0 _).mul (h3 _))).add (Rms.IsReal.sum fun k => (h0 _).mul (h3 _))).add
    (Rms.IsReal.sum fun k => (h1 _).mul (h3 _))).add (Rms.IsReal.sum fun k => (h1 _).mul (h3 _))).add
    (Rms.IsReal.sum fun k => (h2 _).mul (h3 _))).add (Rms.IsReal.sum fun k => (h2 _).mul (h3 _)))

/-- The stream's gradient, where the normalised stream, the gain and the cotangent are finite. -/
theorem final6 (c : Dev nD) (X : S2048x1024.Idx → ℝ) (hX : m ((c : Thread nD τ).loc main_arg4) = fun i => ((X i : ℝ) : EReal))
    (G : S1x1024.Idx → ℝ) (hG : m ((c : Thread nD τ).loc main_arg5) = fun i => ((G i : ℝ) : EReal))
    (D : S2048x1024.Idx → ℝ) (hD : val_main_v31 (F := Ideal) (m ((c : Thread nD τ).loc main_arg0)) (m ((c : Thread nD τ).loc main_arg1)) (m ((c : Thread nD τ).loc main_arg2)) (m ((c : Thread nD τ).loc main_arg3)) = fun i => ((D i : ℝ) : EReal)) :
    (dats m 0 c).arrAt 6 (cfgs 0).N
    = val_main_v51 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) := by
  refine (dats m 0 c).arrAt_eq_of_covers 6 _ (by decide +kernel) fun t _ y => ?_
  blk_simp
  rw [after0_6, gx_eq]
  obtain ⟨r, k, rfl⟩ : ∃ (r : Fin 512) (k : Fin 1024), y = ValueIdx.ix2 r k := ⟨y 0, y 1, ValueIdx.eq_ix2 y⟩
  rw [show ((View.whole main_v6_0).slice (win0_6.rect t)).emb (ValueIdx.ix2 r k) = ValueIdx.ix2 ⟨512 * t.val + r.val, row_lt t r⟩ k from by
    blk_ext [idx t]; exact row_comm t r]
  refine (ker_row _ _ _ _ r k).trans (Eq.trans ?_ (ref_row _ _ _ _ _ _ _ _ k).symm)
  simp only [blk_x, blk_g, blk_h, dh_at, hX, hG, hD, ← EReal.coe_mul]
  exact Rms.row _ _ _ 1024 Rms.eps (by norm_num) Rms.eps_pos k

end Cert.NormBwdIdeal.RefValue

end
-- ==== Proof.NormClaim.lean ====
/- The first norm's backward pair: the reference's frame and the equality of both results, where the arguments are finite. -/
module

public import proofs.«01_k».proof.Defs
public import proofs.«01_k».proof.Proof.Gen.NormBwd.Frame
public import proofs.«01_k».proof.Proof.Gen.NormGradIdeal.Run
public import proofs.«01_k».proof.Proof.NormValue

@[expose] public section

set_option maxRecDepth 16384

noncomputable section

namespace Cert.NormClaim

open Idealize.ShloMosaic Idealize.ShloMosaic.TcCoe Idealize.SL.Sem

/-- The reference runs, leaves its arguments as they were and its semaphores at zero. -/
theorem frame_ref : Cert.quiescent_NormGradIdeal := fun m ρ _ =>
  (θ_run Cert.NormGradIdeal.defs _ _).mono (fun r h => ⟨fun c => (h c).2.2,
      Idealize.ShloMosaic.sem_eq_zero_of_no_sems (by decide) r.2⟩)
    (Cert.NormGradIdeal.Value.run (F := Ideal) m ρ)

theorem pre_facts : Cert.Pre_finite_norm1.Facts := by constructor <;> decide

/-- Kernel and reference end with equal results. -/
theorem algebraic : Cert.algebraic_NormBwdIdeal_NormGradIdeal_pre_finite_norm1 (hPre_finite_norm1 := pre_facts) := by
  pair_intro
  · run_from Cert.NormBwdIdeal.Value.run_blocks m g
  · refine (θ_run Cert.NormGradIdeal.defs _ _).mono (fun r h c => ?_) (Cert.NormGradIdeal.Value.run (F := Ideal) m' g')
    obtain ⟨h0, h1, hargs⟩ := h c
    obtain ⟨a0, a1, a2, a3, a4, a5, a6⟩ := hagree c
    obtain ⟨p0, p1, p2, p3, p4, p5⟩ := hpre c
    obtain ⟨X, hX⟩ := Rms.IsReal.funext (Rms.IsReal.of_test _ _ p4)
    obtain ⟨G, hG⟩ := Rms.IsReal.funext (Rms.IsReal.of_test _ _ p5)
    obtain ⟨D, hD⟩ := Rms.IsReal.funext (Cert.NormBwdIdeal.RefValue.real_v31 _ _ _ _ (Rms.IsReal.of_test _ _ p0)
      (Rms.IsReal.of_test _ _ p1) (Rms.IsReal.of_test _ _ p2) (Rms.IsReal.of_test _ _ p3))
    refine ⟨h0.trans ?_, h1.trans ?_, hargs⟩
    · rw [Cert.NormGradIdeal.Read.val_main_v51_eq, a0, a1, a2, a3, a4, a5, a6]
      exact (Cert.NormBwdIdeal.RefValue.final6 m c X hX G hG D hD).symm
    · rw [Cert.NormGradIdeal.Read.val_main_v34_eq, a0, a1, a2, a3, a4]
      exact (Cert.NormBwdIdeal.RefValue.final7 m c).symm

end Cert.NormClaim

end
-- ==== Proof.FfnOuts.lean ====
/- The arrays the channel mixer and loss kernel leaves, each equal to the reference's result over the same arguments. -/
module

public import proofs.«01_k».proof.Proof.Gen.FfnLossIdeal.Value
public import proofs.«01_k».proof.Proof.RmsReal
public import Idealize.ShloMosaic.Lib.Pipeline.ValueKit
public import Idealize.ShloMosaic.Lib.Pipeline.ReadBack
public import Idealize.ShloMosaic.Lib.Pointwise
public import Idealize.ShloMosaic.Lib.StableHlo.RunRead
public import Idealize.ShloMosaic.Lib.Claim

@[expose] public section

set_option maxRecDepth 16384

noncomputable section

namespace Cert.FfnLossIdeal.RefValue

open Cert.FfnLossIdeal Cert.FfnLossIdeal.Gen Idealize.ShloMosaic Idealize.ShloMosaic.TcCoe Idealize.SL.Sem
open Idealize.ShloMosaic.Pipeline (Dat)

variable (m : (ℓ : Loc nD τ sig) → Buf (Elt Ideal) ℓ)

/-- Where each block lies at a grid point: row block `t` of every stream, the gains and the sums whole. -/
theorem idx : ∀ t : Fin cfg0.N,
    win0_0.index t = ![t.val, 0] ∧ win0_1.index t = ![t.val, 0] ∧ win0_2.index t = ![0, 0] ∧ win0_3.index t = ![0, 0]
    ∧ win0_4.index t = ![0, 0] ∧ win0_5.index t = ![t.val, 0] ∧ win0_6.index t = ![t.val, 0] ∧ win0_7.index t = ![t.val, 0]
    ∧ win0_8.index t = ![t.val, 0] ∧ win0_9.index t = ![t.val, 0] ∧ win0_10.index t = ![0, 0] ∧ win0_11.index t = ![0, 0] :=
  (by decide +kernel : ∀ t : Fin grid0.N, _)

theorem row_lt (t : Fin cfg0.N) (r : Fin 256) : 256 * t.val + r.val < 2048 := by
  have h8 : cfg0.N = 8 := N_0
  have := t.isLt; have := r.isLt; omega

theorem row_comm (t : Fin cfg0.N) (r : Fin 256) : t.val * 256 + r.val = 256 * t.val + r.val := by omega

/-- The first layer's weights as the kernel reads them out of its main memory. -/
def w1Of (c : Dev nD) : Vec Ideal S4096x1024 .bf16 := View.read (Elt Ideal) (View.whole main_v2) (V m c main_v2)

/-- The second layer's weights. -/
def w2Of (c : Dev nD) : Vec Ideal S4096x1024 .bf16 := View.read (Elt Ideal) (View.whole main_v3) (V m c main_v3)

theorem w1Of_apply (c : Dev nD) (i : S4096x1024.Idx) : w1Of m c i = m ((c : Thread nD τ).loc main_arg4) (ValueIdx.ix2 (i 1) (i 0)) := by
  show V m c main_v2 i = _
  unfold V
  after_reads_simp
  pointwise
  rfl

theorem w2Of_apply (c : Dev nD) (i : S4096x1024.Idx) : w2Of m c i = m ((c : Thread nD τ).loc main_arg5) i := by
  show V m c main_v3 i = _
  unfold V
  after_reads_simp
  pointwise

theorem canon_whole {s : Shape} {e : EltTy} (w : s.Idx → Elt Ideal e) :
    View.canon [(⟨Rect.whole s, w⟩ : View.Piece (Elt Ideal) s e)] = w := by
  funext y
  have h := View.canon_cons_emb (Val := Elt Ideal) (e := e) (Rect.whole s) w [] y
  rw [show (Rect.whole s).emb y = y from by funext a; apply Fin.ext; simp [Rect.whole]] at h
  exact h

theorem canon_1 (c : Dev nD) :
    View.canon [(⟨Rect.whole S4096x1024, ReadAs.same.apply (w1Of m c)⟩ : View.Piece (Elt Ideal) S4096x1024 .bf16)] = w1Of m c :=
  canon_whole (w1Of m c)

theorem canon_2 (c : Dev nD) :
    View.canon [(⟨Rect.whole S4096x1024, ReadAs.same.apply (w2Of m c)⟩ : View.Piece (Elt Ideal) S4096x1024 .bf16)] = w2Of m c :=
  canon_whole (w2Of m c)

theorem ld_1 (c : Dev nD) (r : Rect S4096x1024) : (fun j => w1Of m c (r.toLoadRect.idx j)) = View.ld (w1Of m c) r := rfl

theorem ld_2 (c : Dev nD) (r : Rect S4096x1024) : (fun j => w2Of m c (r.toLoadRect.idx j)) = View.ld (w2Of m c) r := rfl

theorem read_1 (h : scM0_0.IsWhole) (X : Vec Ideal S4096x1024 .bf16) :
    View.read (Elt Ideal) (View.whole cc0_scratch0) (h.unread X) = X :=
  read_unread_whole cc0_scratch0 h X

theorem read_2 (h : scM0_1.IsWhole) (X : Vec Ideal S4096x1024 .bf16) :
    View.read (Elt Ideal) (View.whole cc0_scratch1) (h.unread X) = X :=
  read_unread_whole cc0_scratch1 h X

/-- The first layer's weights stay in the kernel's scratch from the first point on. -/
theorem scratch1_eq (c : Dev nD) : ∀ (n : ℕ) (h : n < cfg0.N), (outsAt0 m c n h).2.2.2.2.2.2.2.2.1 = w1Of m c
  | 0, h => by
    have e := outsAt0_A m c ⟨0, h⟩ rfl
    dsimp only at e
    rw [e]; frame_out
    exact canon_1 m c
  | n + 1, h => by
    by_cases h0 : (n + 1) % 8 = 0
    · have e := outsAt0_A m c ⟨n + 1, h⟩ h0
      dsimp only at e
      rw [e]; frame_out
      exact canon_1 m c
    · have e := outsAt0_B m c ⟨n + 1, h⟩ h0
      dsimp only at e
      rw [e]; frame_out
      exact scratch1_eq c n _

/-- So do the second layer's. -/
theorem scratch2_eq (c : Dev nD) : ∀ (n : ℕ) (h : n < cfg0.N), (outsAt0 m c n h).2.2.2.2.2.2.2.2.2 = w2Of m c
  | 0, h => by
    have e := outsAt0_A m c ⟨0, h⟩ rfl
    dsimp only at e
    rw [e]; frame_out
    exact canon_2 m c
  | n + 1, h => by
    by_cases h0 : (n + 1) % 8 = 0
    · have e := outsAt0_A m c ⟨n + 1, h⟩ h0
      dsimp only at e
      rw [e]; frame_out
      exact canon_2 m c
    · have e := outsAt0_B m c ⟨n + 1, h⟩ h0
      dsimp only at e
      rw [e]; frame_out
      exact scratch2_eq c n _

/-- A block of 1024 rows of a layer's weights. -/
abbrev wRow (W : Vec Ideal S4096x1024 .bf16) (o : ℕ) (inb : ∀ a, (![o, 0] : Fin 2 → ℕ) a + S1024x1024.size a ≤ S4096x1024.size a) : Vec Ideal S1024x1024 .bf16 :=
  View.ld W (Rect.unit ![o, 0] ![1024, 1024] inb)

/-- The normalised stream times its gain. -/
def hB (c : Dev nD) (t : Fin cfg0.N) : FVec Ideal S256x1024 .bf16 := k0_pay10 (iblk m c 0 t) (iblk m c 2 t)

/-- A block of 1024 hidden products, the negative ones at zero. -/
abbrev rl (c : Dev nD) (t : Fin cfg0.N) (o : ℕ) (inb : ∀ a, (![o, 0] : Fin 2 → ℕ) a + S1024x1024.size a ≤ S4096x1024.size a) : FVec Ideal S256x1024 .f32 :=
  k0_pay15 (hB m c t) (wRow (w1Of m c) o inb)

/-- The stream after three of the mixer's four blocks. -/
def x3B (c : Dev nD) (t : Fin cfg0.N) : FVec Ideal S256x1024 .f32 :=
  k0_pay21 (hB m c t)
    (k0_pay14 (iblk m c 0 t) (iblk m c 2 t) (wRow (w1Of m c) 0 inb_S4096x1024_S1024x1024_0_0) (wRow (w2Of m c) 0 inb_S4096x1024_S1024x1024_0_0))
    (wRow (w1Of m c) 1024 inb_S4096x1024_S1024x1024_1024_0) (wRow (w2Of m c) 1024 inb_S4096x1024_S1024x1024_1024_0)
    (wRow (w1Of m c) 2048 inb_S4096x1024_S1024x1024_2048_0) (wRow (w2Of m c) 2048 inb_S4096x1024_S1024x1024_2048_0)

/-- The error of the prediction. -/
def errB (c : Dev nD) (t : Fin cfg0.N) : FVec Ideal S256x1024 .f32 :=
  k0_pay28 (x3B m c t) (rl m c t 3072 inb_S4096x1024_S1024x1024_3072_0) (wRow (w2Of m c) 3072 inb_S4096x1024_S1024x1024_3072_0) (iblk m c 3 t) (iblk m c 1 t)

/-- The last norm's factor. -/
def r3B (c : Dev nD) (t : Fin cfg0.N) : FVec Ideal S256x1 .f32 :=
  k0_pay26 (x3B m c t) (rl m c t 3072 inb_S4096x1024_S1024x1024_3072_0) (wRow (w2Of m c) 3072 inb_S4096x1024_S1024x1024_3072_0)

/-- The last normalised stream. -/
def n3B (c : Dev nD) (t : Fin cfg0.N) : FVec Ideal S256x1024 .f32 :=
  k0_pay27 (x3B m c t) (rl m c t 3072 inb_S4096x1024_S1024x1024_3072_0) (wRow (w2Of m c) 3072 inb_S4096x1024_S1024x1024_3072_0)

/-- The leaving stream's gradient. -/
def dx2B (c : Dev nD) (t : Fin cfg0.N) : FVec Ideal S256x1024 .f32 := k0_pay32 (r3B m c t) (n3B m c t) (errB m c t) (iblk m c 3 t)

def dxB (c : Dev nD) (t : Fin cfg0.N) : FVec Ideal S256x1024 .bf16 := k0_pay33 (r3B m c t) (n3B m c t) (errB m c t) (iblk m c 3 t)

/-- A block of 1024 of the hidden products' gradients. -/
abbrev dp (c : Dev nD) (t : Fin cfg0.N) (o : ℕ) (inb : ∀ a, (![o, 0] : Fin 2 → ℕ) a + S1024x1024.size a ≤ S4096x1024.size a) : FVec Ideal S256x1024 .bf16 :=
  k0_pay36 (dxB m c t) (wRow (w2Of m c) o inb) (rl m c t o inb)

/-- The normalised stream's cotangent from three of the four blocks. -/
def d3B (c : Dev nD) (t : Fin cfg0.N) : FVec Ideal S256x1024 .f32 :=
  k0_pay38 (dxB m c t) k0_pay34 (dp m c t 0 inb_S4096x1024_S1024x1024_0_0) (wRow (w1Of m c) 0 inb_S4096x1024_S1024x1024_0_0)
    (wRow (w2Of m c) 1024 inb_S4096x1024_S1024x1024_1024_0) (rl m c t 1024 inb_S4096x1024_S1024x1024_1024_0) (wRow (w1Of m c) 1024 inb_S4096x1024_S1024x1024_1024_0)
    (wRow (w2Of m c) 2048 inb_S4096x1024_S1024x1024_2048_0) (rl m c t 2048 inb_S4096x1024_S1024x1024_2048_0) (wRow (w1Of m c) 2048 inb_S4096x1024_S1024x1024_2048_0)

/-- What the copy of a layer's weights leaves. -/
theorem cp_1 (c : Dev nD) :
    View.canon (Val := Elt Ideal) (s := S4096x1024) (e := .bf16) [@Sigma.mk (Rect S4096x1024) (fun r => r.shape.Idx → Elt Ideal .bf16) (Rect.whole S4096x1024)
      (@ReadAs.apply (Elt Ideal) S4096x1024 S4096x1024 .bf16 .bf16 ReadAs.same (@View.read sig (Elt Ideal) .tc .hbm main_v2.ty.shape main_v2.ty.elt (View.whole main_v2) (V m c main_v2)))] = w1Of m c :=
  canon_whole (w1Of m c)

/-- What the copy of a layer's weights leaves. -/
theorem cp_2 (c : Dev nD) :
    View.canon (Val := Elt Ideal) (s := S4096x1024) (e := .bf16) [@Sigma.mk (Rect S4096x1024) (fun r => r.shape.Idx → Elt Ideal .bf16) (Rect.whole S4096x1024)
      (@ReadAs.apply (Elt Ideal) S4096x1024 S4096x1024 .bf16 .bf16 ReadAs.same (@View.read sig (Elt Ideal) .tc .hbm main_v3.ty.shape main_v3.ty.elt (View.whole main_v3) (V m c main_v3)))] = w2Of m c :=
  canon_whole (w2Of m c)

theorem p12 (x : Vec Ideal S256x1024 .f32) (g : Vec Ideal S1x1024 .f32) (w : Vec Ideal S1024x1024 .bf16) :
    k0_pay12 x g w = k0_pay15 (k0_pay10 x g) w := by
  funext y; pointwise [k0_pay12]; rfl

theorem p16 (h : FVec Ideal S256x1024 .bf16) (w : Vec Ideal S1024x1024 .bf16) : k0_pay16 h w = k0_pay15 h w := by
  funext y; pointwise [k0_pay16]

theorem p19 (h : FVec Ideal S256x1024 .bf16) (w : Vec Ideal S1024x1024 .bf16) : k0_pay19 h w = k0_pay15 h w := by
  funext y; pointwise [k0_pay19]; rfl

theorem p22 (h : FVec Ideal S256x1024 .bf16) (w : Vec Ideal S1024x1024 .bf16) : k0_pay22 h w = k0_pay15 h w := rfl

theorem p23 (v : FVec Ideal S256x1024 .f32) : k0_pay23 v = v := by
  funext y; pointwise [k0_pay23]

theorem p35 (r : FVec Ideal S256x1 .f32) (n e : FVec Ideal S256x1024 .f32) (g : Vec Ideal S1x1024 .f32) (w : Vec Ideal S1024x1024 .bf16) (v : FVec Ideal S256x1024 .f32) :
    k0_pay35 r n e g w v = k0_pay36 (k0_pay33 r n e g) w v := rfl

theorem dx1_eq (c : Dev nD) (t : Fin cfg0.N) : (outsAt0 m c t.val t.isLt).2.1
    = k0_pay4 (k0_pay8 (iblk m c 0 t)) (k0_pay9 (iblk m c 0 t)) (dx2B m c t) (d3B m c t)
        (k0_pay39 (dxB m c t) (wRow (w2Of m c) 3072 inb_S4096x1024_S1024x1024_3072_0)) (rl m c t 3072 inb_S4096x1024_S1024x1024_3072_0)
        (wRow (w1Of m c) 3072 inb_S4096x1024_S1024x1024_3072_0) (iblk m c 2 t) := by
  by_cases h0 : t.val % 8 = 0
  · rw [outsAt0_A m c t h0]; frame_out
    simp (disch := decide) only [↓View.readCov_skip, View.readCov_cons_toLoadRect, p12, p16, p19, p22, p23, p35]
    simp only [View.readCov_eq_canon']
    rw [cp_1 m c, cp_2 m c]
    rfl
  · rw [outsAt0_B m c t h0]; frame_out
    simp only [scratch1_eq, scratch2_eq, read_1, read_2]
    simp (disch := decide) only [↓View.readCov_skip, View.readCov_cons_toLoadRect, p12, p16, p19, p22, p23, p35]
    rfl

end Cert.FfnLossIdeal.RefValue

end
-- ==== Proof.FfnOuts2.lean ====
/- What each block of the channel mixer's kernel holds after a grid point. -/
module

public import proofs.«01_k».proof.Proof.Gen.FfnLossIdeal.Value
public import proofs.«01_k».proof.Proof.RmsReal
public import Idealize.ShloMosaic.Lib.Pipeline.ValueKit
public import Idealize.ShloMosaic.Lib.Pipeline.ReadBack
public import Idealize.ShloMosaic.Lib.Pointwise
public import Idealize.ShloMosaic.Lib.StableHlo.RunRead
public import Idealize.ShloMosaic.Lib.Claim
public import proofs.«01_k».proof.Proof.FfnOuts

@[expose] public section

set_option maxRecDepth 16384

noncomputable section

namespace Cert.FfnLossIdeal.RefValue

open Cert.FfnLossIdeal Cert.FfnLossIdeal.Gen Idealize.ShloMosaic Idealize.ShloMosaic.TcCoe Idealize.SL.Sem
open Idealize.ShloMosaic.Pipeline (Dat)

variable (m : (ℓ : Loc nD τ sig) → Buf (Elt Ideal) ℓ)

/-- The normalised stream's cotangent at a point. -/
def dh2B (c : Dev nD) (t : Fin cfg0.N) : FVec Ideal S256x1024 .f32 :=
  k0_pay2 (d3B m c t) (k0_pay39 (dxB m c t) (wRow (w2Of m c) 3072 inb_S4096x1024_S1024x1024_3072_0)) (rl m c t 3072 inb_S4096x1024_S1024x1024_3072_0)
    (wRow (w1Of m c) 3072 inb_S4096x1024_S1024x1024_3072_0)

theorem h2_eq (c : Dev nD) (t : Fin cfg0.N) : (outsAt0 m c t.val t.isLt).2.2.1 = hB m c t := by
  by_cases h0 : t.val % 8 = 0
  · rw [outsAt0_A m c t h0]; frame_out; rfl
  · rw [outsAt0_B m c t h0]; frame_out; rfl

theorem dx2_eq (c : Dev nD) (t : Fin cfg0.N) : (outsAt0 m c t.val t.isLt).2.2.2.2.2.1 = dxB m c t := by
  by_cases h0 : t.val % 8 = 0
  · rw [outsAt0_A m c t h0]; frame_out
    simp (disch := decide) only [↓View.readCov_skip, View.readCov_cons_toLoadRect, p12, p16, p19, p22, p23, p35]
    simp only [View.readCov_eq_canon']
    rw [cp_1 m c, cp_2 m c]
    rfl
  · rw [outsAt0_B m c t h0]; frame_out
    simp only [scratch1_eq, scratch2_eq, read_1, read_2]
    simp (disch := decide) only [↓View.readCov_skip, View.readCov_cons_toLoadRect, p12, p16, p19, p22, p23, p35]
    rfl

/-- What a point adds to the loss. -/
def lossB (c : Dev nD) (t : Fin cfg0.N) : EReal :=
  Ideal.ofBits .f32 0x3F000000#32 * ∑ r : Fin 256, Ideal.div (∑ k : Fin 1024, errB m c t (ValueIdx.ix2 r k) * errB m c t (ValueIdx.ix2 r k)) (Ideal.ofBits .f32 0x44800000#32)

theorem loss_A' (c : Dev nD) (t : Fin cfg0.N) (h0 : t.val % 8 = 0) : (outsAt0 m c t.val t.isLt).1
    = k0_pay29 (x3B m c t) (rl m c t 3072 inb_S4096x1024_S1024x1024_3072_0) (wRow (w2Of m c) 3072 inb_S4096x1024_S1024x1024_3072_0) (iblk m c 3 t) (iblk m c 1 t) (k0_pay5 (F := Ideal)) := by
  rw [outsAt0_A m c t h0]; frame_out
  simp (disch := decide) only [↓View.readCov_skip, View.readCov_cons_toLoadRect, p12, p16, p19, p22, p23, p35]
  simp only [View.readCov_eq_canon']
  rw [cp_1 m c, cp_2 m c]
  rfl

theorem loss_A (c : Dev nD) (t : Fin cfg0.N) (h0 : t.val % 8 = 0) : (outsAt0 m c t.val t.isLt).1
    = fun y => 0 + lossB m c t := by
  rw [loss_A' m c t h0]
  funext y
  pointwise [k0_pay29, k0_pay5]
  simp only [Finset.univ_unique, Finset.sum_singleton]
  rfl

theorem loss_B' (c : Dev nD) (t : Fin cfg0.N) (h0 : ¬t.val % 8 = 0) : (outsAt0 m c t.val t.isLt).1
    = k0_pay29 (x3B m c t) (rl m c t 3072 inb_S4096x1024_S1024x1024_3072_0) (wRow (w2Of m c) 3072 inb_S4096x1024_S1024x1024_3072_0) (iblk m c 3 t) (iblk m c 1 t) ((outsAt0 m c (t.val - 1) (Nat.lt_of_le_of_lt (Nat.sub_le _ _) t.isLt)).1) := by
  rw [outsAt0_B m c t h0]; frame_out
  simp only [scratch1_eq, scratch2_eq, read_1, read_2]
  simp (disch := decide) only [↓View.readCov_skip, View.readCov_cons_toLoadRect, p12, p16, p19, p22, p23, p35]
  rfl

theorem loss_B (c : Dev nD) (t : Fin cfg0.N) (h0 : ¬t.val % 8 = 0) : (outsAt0 m c t.val t.isLt).1
    = fun y => (outsAt0 m c (t.val - 1) (Nat.lt_of_le_of_lt (Nat.sub_le _ _) t.isLt)).1 y + lossB m c t := by
  rw [loss_B' m c t h0]
  funext y
  pointwise [k0_pay29]
  simp only [Finset.univ_unique, Finset.sum_singleton]
  rfl

theorem dg_A' (c : Dev nD) (t : Fin cfg0.N) (h0 : t.val % 8 = 0) : (outsAt0 m c t.val t.isLt).2.2.2.2.2.2.1
    = k0_pay3 (k0_pay9 (iblk m c 0 t)) (d3B m c t) (k0_pay39 (dxB m c t) (wRow (w2Of m c) 3072 inb_S4096x1024_S1024x1024_3072_0)) (rl m c t 3072 inb_S4096x1024_S1024x1024_3072_0) (wRow (w1Of m c) 3072 inb_S4096x1024_S1024x1024_3072_0) (k0_pay6 (F := Ideal)) := by
  rw [outsAt0_A m c t h0]; frame_out
  simp (disch := decide) only [↓View.readCov_skip, View.readCov_cons_toLoadRect, p12, p16, p19, p22, p23, p35]
  simp only [View.readCov_eq_canon']
  rw [cp_1 m c, cp_2 m c]
  rfl

theorem dg_A (c : Dev nD) (t : Fin cfg0.N) (h0 : t.val % 8 = 0) : (outsAt0 m c t.val t.isLt).2.2.2.2.2.2.1
    = fun y => 0 + ∑ r : Fin 256, dh2B m c t (ValueIdx.ix2 r (y 1)) * k0_pay9 (iblk m c 0 t) (ValueIdx.ix2 r (y 1)) := by
  rw [dg_A' m c t h0]
  funext y
  pointwise [k0_pay3, k0_pay6]

  rfl

theorem dg_B' (c : Dev nD) (t : Fin cfg0.N) (h0 : ¬t.val % 8 = 0) : (outsAt0 m c t.val t.isLt).2.2.2.2.2.2.1
    = k0_pay3 (k0_pay9 (iblk m c 0 t)) (d3B m c t) (k0_pay39 (dxB m c t) (wRow (w2Of m c) 3072 inb_S4096x1024_S1024x1024_3072_0)) (rl m c t 3072 inb_S4096x1024_S1024x1024_3072_0) (wRow (w1Of m c) 3072 inb_S4096x1024_S1024x1024_3072_0) ((outsAt0 m c (t.val - 1) (Nat.lt_of_le_of_lt (Nat.sub_le _ _) t.isLt)).2.2.2.2.2.2.1) := by
  rw [outsAt0_B m c t h0]; frame_out
  simp only [scratch1_eq, scratch2_eq, read_1, read_2]
  simp (disch := decide) only [↓View.readCov_skip, View.readCov_cons_toLoadRect, p12, p16, p19, p22, p23, p35]
  rfl

theorem dg_B (c : Dev nD) (t : Fin cfg0.N) (h0 : ¬t.val % 8 = 0) : (outsAt0 m c t.val t.isLt).2.2.2.2.2.2.1
    = fun y => (outsAt0 m c (t.val - 1) (Nat.lt_of_le_of_lt (Nat.sub_le _ _) t.isLt)).2.2.2.2.2.2.1 y + ∑ r : Fin 256, dh2B m c t (ValueIdx.ix2 r (y 1)) * k0_pay9 (iblk m c 0 t) (ValueIdx.ix2 r (y 1)) := by
  rw [dg_B' m c t h0]
  funext y
  pointwise [k0_pay3]

  rfl

theorem df_A' (c : Dev nD) (t : Fin cfg0.N) (h0 : t.val % 8 = 0) : (outsAt0 m c t.val t.isLt).2.2.2.2.2.2.2.1
    = k0_pay31 (n3B m c t) (errB m c t) (k0_pay7 (F := Ideal)) := by
  rw [outsAt0_A m c t h0]; frame_out
  simp (disch := decide) only [↓View.readCov_skip, View.readCov_cons_toLoadRect, p12, p16, p19, p22, p23, p35]
  simp only [View.readCov_eq_canon']
  rw [cp_1 m c, cp_2 m c]
  rfl

theorem df_A (c : Dev nD) (t : Fin cfg0.N) (h0 : t.val % 8 = 0) : (outsAt0 m c t.val t.isLt).2.2.2.2.2.2.2.1
    = fun y => 0 + ∑ r : Fin 256, k0_pay30 (errB m c t) (ValueIdx.ix2 r (y 1)) * n3B m c t (ValueIdx.ix2 r (y 1)) := by
  rw [df_A' m c t h0]
  funext y
  pointwise [k0_pay31, k0_pay7]

  rfl

theorem df_B' (c : Dev nD) (t : Fin cfg0.N) (h0 : ¬t.val % 8 = 0) : (outsAt0 m c t.val t.isLt).2.2.2.2.2.2.2.1
    = k0_pay31 (n3B m c t) (errB m c t) ((outsAt0 m c (t.val - 1) (Nat.lt_of_le_of_lt (Nat.sub_le _ _) t.isLt)).2.2.2.2.2.2.2.1) := by
  rw [outsAt0_B m c t h0]; frame_out
  simp only [scratch1_eq, scratch2_eq, read_1, read_2]
  simp (disch := decide) only [↓View.readCov_skip, View.readCov_cons_toLoadRect, p12, p16, p19, p22, p23, p35]
  rfl

theorem df_B (c : Dev nD) (t : Fin cfg0.N) (h0 : ¬t.val % 8 = 0) : (outsAt0 m c t.val t.isLt).2.2.2.2.2.2.2.1
    = fun y => (outsAt0 m c (t.val - 1) (Nat.lt_of_le_of_lt (Nat.sub_le _ _) t.isLt)).2.2.2.2.2.2.2.1 y + ∑ r : Fin 256, k0_pay30 (errB m c t) (ValueIdx.ix2 r (y 1)) * n3B m c t (ValueIdx.ix2 r (y 1)) := by
  rw [df_B' m c t h0]
  funext y
  pointwise [k0_pay31]

  rfl

theorem act_eq (c : Dev nD) (t : Fin cfg0.N) (G : S256x4096.Idx → EReal)
    (hG : ∀ (o : ℕ) (inb : ∀ a, (![o, 0] : Fin 2 → ℕ) a + S1024x1024.size a ≤ S4096x1024.size a) (x : S256x1024.Idx) (y : S256x4096.Idx),
      (y 0).val = (x 0).val → (y 1).val = o + (x 1).val → G y = rl m c t o inb x * rl m c t o inb x) :
    (outsAt0 m c t.val t.isLt).2.2.2.1 = G := by
  funext y
  by_cases hc : t.val % 8 = 0
  · rw [outsAt0_A m c t hc]; frame_out
    simp (disch := decide) only [↓View.readCov_skip, View.readCov_cons_toLoadRect, p12, p16, p19, p22, p23, p35]
    simp only [View.readCov_eq_canon']
    rw [cp_1 m c]
    clear hc
    canon_tiles x h
    case piece0 => exact Eq.trans rfl (hG 3072 inb_S4096x1024_S1024x1024_3072_0 x y h0 h1).symm
    case piece1 => exact Eq.trans rfl (hG 2048 inb_S4096x1024_S1024x1024_2048_0 x y h0 h1).symm
    case piece2 => exact Eq.trans rfl (hG 1024 inb_S4096x1024_S1024x1024_1024_0 x y h0 h1).symm
    case piece3 => exact Eq.trans rfl (hG 0 inb_S4096x1024_S1024x1024_0_0 x y h0 (h1.trans (Nat.zero_add _).symm)).symm
  · rw [outsAt0_B m c t hc]; frame_out
    simp only [scratch1_eq, read_1]
    clear hc
    canon_tiles x h
    case piece0 => exact Eq.trans rfl (hG 3072 inb_S4096x1024_S1024x1024_3072_0 x y h0 h1).symm
    case piece1 => exact Eq.trans rfl (hG 2048 inb_S4096x1024_S1024x1024_2048_0 x y h0 h1).symm
    case piece2 => exact Eq.trans rfl (hG 1024 inb_S4096x1024_S1024x1024_1024_0 x y h0 h1).symm
    case piece3 => exact Eq.trans rfl (hG 0 inb_S4096x1024_S1024x1024_0_0 x y h0 (h1.trans (Nat.zero_add _).symm)).symm

theorem dpre_eq (c : Dev nD) (t : Fin cfg0.N) (G : S256x4096.Idx → EReal)
    (hG : ∀ (o : ℕ) (inb : ∀ a, (![o, 0] : Fin 2 → ℕ) a + S1024x1024.size a ≤ S4096x1024.size a) (x : S256x1024.Idx) (y : S256x4096.Idx),
      (y 0).val = (x 0).val → (y 1).val = o + (x 1).val → G y = dp m c t o inb x) :
    (outsAt0 m c t.val t.isLt).2.2.2.2.1 = G := by
  funext y
  by_cases hc : t.val % 8 = 0
  · rw [outsAt0_A m c t hc]; frame_out
    simp (disch := decide) only [↓View.readCov_skip, View.readCov_cons_toLoadRect, p12, p16, p19, p22, p23, p35]
    simp only [View.readCov_eq_canon']
    rw [cp_1 m c, cp_2 m c]
    clear hc
    canon_tiles x h
    case piece0 => exact Eq.trans rfl (hG 3072 inb_S4096x1024_S1024x1024_3072_0 x y h0 h1).symm
    case piece1 => exact Eq.trans rfl (hG 2048 inb_S4096x1024_S1024x1024_2048_0 x y h0 h1).symm
    case piece2 => exact Eq.trans rfl (hG 1024 inb_S4096x1024_S1024x1024_1024_0 x y h0 h1).symm
    case piece3 => exact Eq.trans rfl (hG 0 inb_S4096x1024_S1024x1024_0_0 x y h0 (h1.trans (Nat.zero_add _).symm)).symm
  · rw [outsAt0_B m c t hc]; frame_out
    simp only [scratch1_eq, scratch2_eq, read_1, read_2]
    simp (disch := decide) only [↓View.readCov_skip, View.readCov_cons_toLoadRect, p12, p16, p19, p22, p23, p35]
    clear hc
    canon_tiles x h
    case piece0 => exact Eq.trans rfl (hG 3072 inb_S4096x1024_S1024x1024_3072_0 x y h0 h1).symm
    case piece1 => exact Eq.trans rfl (hG 2048 inb_S4096x1024_S1024x1024_2048_0 x y h0 h1).symm
    case piece2 => exact Eq.trans rfl (hG 1024 inb_S4096x1024_S1024x1024_1024_0 x y h0 h1).symm
    case piece3 => exact Eq.trans rfl (hG 0 inb_S4096x1024_S1024x1024_0_0 x y h0 (h1.trans (Nat.zero_add _).symm)).symm

end Cert.FfnLossIdeal.RefValue

end
-- ==== Proof.FfnValue.lean ====
/- What each block of the channel mixer's kernel holds, in the reference's terms. -/
module

public import proofs.«01_k».proof.Proof.Gen.FfnLossIdeal.Value
public import proofs.«01_k».proof.Proof.RmsReal
public import Idealize.ShloMosaic.Lib.Pipeline.ValueKit
public import Idealize.ShloMosaic.Lib.Pipeline.ReadBack
public import Idealize.ShloMosaic.Lib.Pointwise
public import Idealize.ShloMosaic.Lib.StableHlo.RunRead
public import Idealize.ShloMosaic.Lib.Claim
public import proofs.«01_k».proof.Proof.FfnOuts2
public import proofs.«01_k».proof.Proof.Gen.FfnGradIdeal.Read
public import proofs.«01_k».proof.Proof.RmsReal

@[expose] public section

set_option maxRecDepth 16384

noncomputable section

namespace Cert.FfnLossIdeal.RefValue

open Cert.FfnLossIdeal Cert.FfnLossIdeal.Gen Idealize.ShloMosaic Idealize.ShloMosaic.TcCoe Idealize.SL.Sem
open Idealize.ShloMosaic.Pipeline (Dat)
open Cert.FfnGradIdeal.Read

variable (m : (ℓ : Loc nD τ sig) → Buf (Elt Ideal) ℓ)

/-- The arguments of the call. -/
abbrev A0 (c : Dev nD) : FVec Ideal Cert.FfnGradIdeal.S2048x1024 .f32 := m ((c : Thread nD τ).loc main_arg0)
abbrev A1 (c : Dev nD) : FVec Ideal Cert.FfnGradIdeal.S2048x1024 .f32 := m ((c : Thread nD τ).loc main_arg1)
abbrev A2 (c : Dev nD) : FVec Ideal Cert.FfnGradIdeal.S1x1024 .f32 := m ((c : Thread nD τ).loc main_arg2)
abbrev A3 (c : Dev nD) : FVec Ideal Cert.FfnGradIdeal.S1024 .f32 := m ((c : Thread nD τ).loc main_arg3)
abbrev A4 (c : Dev nD) : FVec Ideal Cert.FfnGradIdeal.S1024x4096 .f32 := m ((c : Thread nD τ).loc main_arg4)
abbrev A5 (c : Dev nD) : FVec Ideal Cert.FfnGradIdeal.S4096x1024 .f32 := m ((c : Thread nD τ).loc main_arg5)

/-- The row of the whole stream a row of a block is. -/
abbrev ro (t : Fin cfg0.N) (r : Fin 256) : Fin 2048 := ⟨256 * t.val + r.val, row_lt t r⟩

theorem blk_x (c : Dev nD) (t : Fin cfg0.N) (r : Fin 256) (k : Fin 1024) : iblk m c 0 t (ValueIdx.ix2 r k) = A0 m c (ValueIdx.ix2 (ro t r) k) := by
  blk_point [iblk, V, idx t]; exact row_comm t r

theorem blk_t (c : Dev nD) (t : Fin cfg0.N) (r : Fin 256) (k : Fin 1024) : iblk m c 1 t (ValueIdx.ix2 r k) = A1 m c (ValueIdx.ix2 (ro t r) k) := by
  blk_point [iblk, V, idx t]; exact row_comm t r

theorem blk_g (c : Dev nD) (t : Fin cfg0.N) (k : Fin 1024) : iblk m c 2 t (ValueIdx.ix2 0 k) = A2 m c (ValueIdx.ix2 0 k) := by
  blk_point [iblk, V, idx t]

theorem blk_f (c : Dev nD) (t : Fin cfg0.N) (k : Fin 1024) : iblk m c 3 t (ValueIdx.ix2 0 k) = A3 m c (ValueIdx.ix1 k) := by
  blk_point [iblk, V, idx t]

/-- The first normalised stream. -/
theorem n2_at (c : Dev nD) (t : Fin cfg0.N) (r : Fin 256) (k : Fin 1024) : k0_pay9 (iblk m c 0 t) (ValueIdx.ix2 r k)
    = val_main_v12 (F := Ideal) (A0 m c) (ValueIdx.ix2 (ro t r) k) := by
  pointwise [k0_pay9, k0_pay8, val_main_v12, val_main_v11, val_main_v10, val_main_v9, val_main_v8, val_main_v7, val_main_v6, val_main_v5, val_main_v4, val_main_v3, val_main_v2, val_main_v1, val_main_v0, val_main_cst, val_main_cst_0, val_main_cst_1, val_main_cst_2]
  exact congrArg₂ (· * ·) (blk_x m c t r k) (congrArg (fun z => Ideal.rsqrt (Ideal.div z _ + _)) (Finset.sum_congr rfl fun x _ => congrArg₂ (· * ·) (blk_x m c t r x) (blk_x m c t r x)))

/-- The stream into the hidden products. -/
theorem h_at (c : Dev nD) (t : Fin cfg0.N) (r : Fin 256) (k : Fin 1024) : hB m c t (ValueIdx.ix2 r k)
    = val_main_v14 (F := Ideal) (A0 m c) (A2 m c) (ValueIdx.ix2 (ro t r) k) := by
  unfold hB
  rw [val_main_v14_apply, ← n2_at m c t r k]
  pointwise [k0_pay10, val_main_v13]
  exact congrArg (k0_pay9 (iblk m c 0 t) (ValueIdx.ix2 r k) * ·) (blk_g m c t k)

theorem w2_at (c : Dev nD) (o : ℕ) (inb : ∀ a, (![o, 0] : Fin 2 → ℕ) a + S1024x1024.size a ≤ S4096x1024.size a) (j k : Fin 1024) (q : Fin 4096) (hq : q.val = o + j.val) :
    wRow (w2Of m c) o inb (ValueIdx.ix2 j k) = A5 m c (ValueIdx.ix2 q k) := by
  refine (w2Of_apply m c _).trans (congrArg (A5 m c) ?_)
  funext a
  fin_cases a
  · refine Fin.ext (Eq.trans ?_ hq.symm); simp [LoadRect.idx, Rect.unit]
  · refine Fin.ext ?_; simp [LoadRect.idx, Rect.unit]

theorem w1_at (c : Dev nD) (o : ℕ) (inb : ∀ a, (![o, 0] : Fin 2 → ℕ) a + S1024x1024.size a ≤ S4096x1024.size a) (j k : Fin 1024) (q : Fin 4096) (hq : q.val = o + j.val) :
    wRow (w1Of m c) o inb (ValueIdx.ix2 j k) = A4 m c (ValueIdx.ix2 k q) := by
  refine (w1Of_apply m c _).trans (congrArg (A4 m c) ?_)
  funext a
  fin_cases a
  · refine Fin.ext ?_; simp [LoadRect.idx, Rect.unit]
  · refine Fin.ext (Eq.trans ?_ hq.symm); simp [LoadRect.idx, Rect.unit]

theorem rl_at (c : Dev nD) (t : Fin cfg0.N) (o : ℕ) (inb : ∀ a, (![o, 0] : Fin 2 → ℕ) a + S1024x1024.size a ≤ S4096x1024.size a) (r : Fin 256) (j : Fin 1024) (q : Fin 4096) (hq : q.val = o + j.val) :
    rl m c t o inb (ValueIdx.ix2 r j) = val_main_v16 (F := Ideal) (A0 m c) (A2 m c) (A4 m c) (ValueIdx.ix2 (ro t r) q) := by
  rw [val_main_v16_apply, val_main_v15_apply]
  pointwise [k0_pay15, val_main_call0_v0, val_main_call0_cst]
  exact congrArg (max · 0) (Finset.sum_congr rfl fun x _ => congrArg₂ (· * ·) (Eq.trans (congrArg (hB m c t) (ValueIdx.eq_ix2 _)) ((h_at m c t r x).trans (congrArg (val_main_v14 (F := Ideal) (A0 m c) (A2 m c)) (ValueIdx.eq_ix2 (lidx_main_v15 (ValueIdx.ix2 (ro t r) q) x)).symm)))
    (Eq.trans (congrArg (wRow (w1Of m c) o inb) (ValueIdx.eq_ix2 (ValueIdx.ix2 j x))) ((w1_at m c o inb j x q hq).trans (congrArg (A4 m c) (ValueIdx.eq_ix2 (ridx_main_v15 (ValueIdx.ix2 (ro t r) q) x)).symm))))

/-- A sum over the hidden products, cut into the four blocks. -/
theorem cut4 (f : Fin 4096 → EReal) : ∑ k, f k
    = (∑ k : Fin 1024, f ⟨0 + k.val, by omega⟩) + (∑ k : Fin 1024, f ⟨1024 + k.val, by omega⟩) + (∑ k : Fin 1024, f ⟨2048 + k.val, by omega⟩)
      + (∑ k : Fin 1024, f ⟨3072 + k.val, by omega⟩) := by
  rw [Fin.sum_univ_two_halves 3072 1024 rfl f, Fin.sum_univ_two_halves 2048 1024 rfl, Fin.sum_univ_two_halves 1024 1024 rfl]
  simp only [Nat.zero_add]

/-- The stream that leaves the mixer. -/
def x2B (c : Dev nD) (t : Fin cfg0.N) : FVec Ideal S256x1024 .f32 :=
  k0_pay25 (x3B m c t) (rl m c t 3072 inb_S4096x1024_S1024x1024_3072_0) (wRow (w2Of m c) 3072 inb_S4096x1024_S1024x1024_3072_0)

theorem x2_sum (c : Dev nD) (t : Fin cfg0.N) (r : Fin 256) (k : Fin 1024) : x2B m c t (ValueIdx.ix2 r k)
    = ((((id (iblk m c 0 t (ValueIdx.ix2 r k)) : EReal)
      + ∑ j : Fin 1024, (rl m c t 0 inb_S4096x1024_S1024x1024_0_0 (ValueIdx.ix2 r j) * rl m c t 0 inb_S4096x1024_S1024x1024_0_0 (ValueIdx.ix2 r j)) * wRow (w2Of m c) 0 inb_S4096x1024_S1024x1024_0_0 (ValueIdx.ix2 j k))
      + ∑ j : Fin 1024, (rl m c t 1024 inb_S4096x1024_S1024x1024_1024_0 (ValueIdx.ix2 r j) * rl m c t 1024 inb_S4096x1024_S1024x1024_1024_0 (ValueIdx.ix2 r j)) * wRow (w2Of m c) 1024 inb_S4096x1024_S1024x1024_1024_0 (ValueIdx.ix2 j k))
      + ∑ j : Fin 1024, (rl m c t 2048 inb_S4096x1024_S1024x1024_2048_0 (ValueIdx.ix2 r j) * rl m c t 2048 inb_S4096x1024_S1024x1024_2048_0 (ValueIdx.ix2 r j)) * wRow (w2Of m c) 2048 inb_S4096x1024_S1024x1024_2048_0 (ValueIdx.ix2 j k))
      + ∑ j : Fin 1024, (rl m c t 3072 inb_S4096x1024_S1024x1024_3072_0 (ValueIdx.ix2 r j) * rl m c t 3072 inb_S4096x1024_S1024x1024_3072_0 (ValueIdx.ix2 r j)) * wRow (w2Of m c) 3072 inb_S4096x1024_S1024x1024_3072_0 (ValueIdx.ix2 j k) := by
  unfold x2B x3B
  pointwise [k0_pay25, k0_pay24, k0_pay21, k0_pay20, k0_pay17, k0_pay14, k0_pay13]
  rfl

theorem x2_at (c : Dev nD) (t : Fin cfg0.N) (r : Fin 256) (k : Fin 1024) : x2B m c t (ValueIdx.ix2 r k)
    = val_main_v24 (F := Ideal) (A0 m c) (A2 m c) (A4 m c) (A5 m c) (ValueIdx.ix2 (ro t r) k) := by
  rw [x2_sum, val_main_v24_apply, val_main_v23_apply, cut4, blk_x]
  simp only [add_assoc]
  refine congrArg (A0 m c (ValueIdx.ix2 (ro t r) k) + ·) ?_
  have e (o : ℕ) (ho : o + 1024 ≤ 4096) (inb : ∀ a, (![o, 0] : Fin 2 → ℕ) a + S1024x1024.size a ≤ S4096x1024.size a) :
      ∑ j : Fin 1024, (rl m c t o inb (ValueIdx.ix2 r j) * rl m c t o inb (ValueIdx.ix2 r j)) * wRow (w2Of m c) o inb (ValueIdx.ix2 j k)
        = ∑ x : Fin 1024, val_main_v20 (F := Ideal) (A0 m c) (A2 m c) (A4 m c) (lidx_main_v23 (ValueIdx.ix2 (ro t r) k) ⟨o + x.val, by omega⟩)
          * A5 m c (ridx_main_v23 (ValueIdx.ix2 (ro t r) k) ⟨o + x.val, by omega⟩) :=
    Finset.sum_congr rfl fun x _ => by
      rw [rl_at m c t o inb r x ⟨o + x.val, by omega⟩ rfl, w2_at m c o inb x k ⟨o + x.val, by omega⟩ rfl, val_main_v20_apply,
        ValueIdx.eq_ix2 (lidx_main_v23 (ValueIdx.ix2 (ro t r) k) ⟨o + x.val, by omega⟩), ValueIdx.eq_ix2 (ridx_main_v23 (ValueIdx.ix2 (ro t r) k) ⟨o + x.val, by omega⟩)]
      rfl
  rw [e 0 (by decide), e 1024 (by decide), e 2048 (by decide), e 3072 (by decide)]

/-- A row of the leaving stream. -/
abbrev X2 (c : Dev nD) (i : Fin 2048) (k : Fin 1024) : EReal := val_main_v24 (F := Ideal) (A0 m c) (A2 m c) (A4 m c) (A5 m c) (ValueIdx.ix2 i k)

theorem r3_at (c : Dev nD) (t : Fin cfg0.N) (r : Fin 256) : r3B m c t (ValueIdx.ix2 r 0) = Rms.rs (X2 m c (ro t r)) := by
  unfold r3B Rms.rs
  pointwise [k0_pay26]
  simp only [Rms.thousand, Rms.eps_bits]
  exact congrArg (fun z => Ideal.rsqrt (Ideal.div z _ + _)) (Finset.sum_congr rfl fun x _ => congrArg₂ (· * ·) (x2_at m c t r x) (x2_at m c t r x))

theorem n3_at (c : Dev nD) (t : Fin cfg0.N) (r : Fin 256) (k : Fin 1024) : n3B m c t (ValueIdx.ix2 r k) = X2 m c (ro t r) k * Rms.rs (X2 m c (ro t r)) := by
  refine Eq.trans ?_ (congrArg₂ (· * ·) (x2_at m c t r k) (r3_at m c t r))
  unfold n3B
  pointwise [k0_pay27]
  rfl

theorem v37_at (c : Dev nD) (i : Fin 2048) (k : Fin 1024) : val_main_v37 (F := Ideal) (A0 m c) (A2 m c) (A4 m c) (A5 m c) (ValueIdx.ix2 i k)
    = X2 m c i k * Rms.rs (X2 m c i) := by
  unfold Rms.rs
  pointwise [val_main_v37, val_main_v36, val_main_v35, val_main_v34, val_main_v33, val_main_v32, val_main_v31, val_main_v30, val_main_v29, val_main_v28, val_main_v27, val_main_v26, val_main_v25,
    val_main_cst_6, val_main_cst_7, val_main_cst_8, val_main_cst_9]
  simp only [Rms.thousand, Rms.eps_bits]
  rfl

theorem err_at (c : Dev nD) (t : Fin cfg0.N) (r : Fin 256) (k : Fin 1024) : errB m c t (ValueIdx.ix2 r k)
    = val_main_v41 (F := Ideal) (A0 m c) (A1 m c) (A2 m c) (A3 m c) (A4 m c) (A5 m c) (ValueIdx.ix2 (ro t r) k) := by
  rw [val_main_v41_apply]
  unfold errB
  pointwise [k0_pay28, val_main_v40, val_main_v39, val_main_v38]
  refine congrArg₂ (· - ·) (congrArg₂ (· * ·) ((n3_at m c t r k).trans (v37_at m c (ro t r) k).symm) ?_) (blk_t m c t r k)
  exact blk_f m c t k

theorem thousandth : Ideal.ofBits .f32 0x3A800000#32 = ((1 / 1024 : ℝ) : EReal) := by
  simp [Ideal.ofBits, Ideal.ieee]; rw [← EReal.coe_mul]; norm_num

theorem half : Ideal.ofBits .f32 0x3F000000#32 = ((1 / 2 : ℝ) : EReal) := by
  simp [Ideal.ofBits, Ideal.ieee]; rw [← EReal.coe_mul]; norm_num

theorem two : Ideal.ofBits .f32 0x40000000#32 = ((2 : ℝ) : EReal) := by
  simp [Ideal.ofBits, Ideal.ieee]; rw [← EReal.coe_mul]; norm_num

theorem one : Ideal.ofBits .f32 0x3F800000#32 = ((1 : ℝ) : EReal) := by
  simp [Ideal.ofBits, Ideal.ieee]; rw [← EReal.coe_mul]; norm_num

theorem dy_at (c : Dev nD) (t : Fin cfg0.N) (r : Fin 256) (k : Fin 1024) : k0_pay30 (errB m c t) (ValueIdx.ix2 r k)
    = val_main_v55 (F := Ideal) (A0 m c) (A1 m c) (A2 m c) (A3 m c) (A4 m c) (A5 m c) (ValueIdx.ix2 (ro t r) k) := by
  pointwise [k0_pay30, val_main_v55, val_main_v54, val_main_v53, val_main_v52, val_main_v51, val_main_v50, val_main_v44, val_main_v43, val_main_cst_10, val_main_cst_15, val_main_cst_16, val_main_cst_17]
  rw [thousandth]
  simp only [half, two, one, Rms.thousand]
  rw [err_at m c t r k, Rms.div_real _ _ (by norm_num), ← mul_assoc, ← EReal.coe_mul, mul_comm (_ : EReal)]
  norm_num

/-- The leaving stream's cotangent, scaled by the gain. -/
abbrev D2 (c : Dev nD) (i : Fin 2048) (k : Fin 1024) : EReal := val_main_v60 (F := Ideal) (A0 m c) (A1 m c) (A2 m c) (A3 m c) (A4 m c) (A5 m c) (ValueIdx.ix2 i k)

theorem v75_at (c : Dev nD) (i : Fin 2048) (k : Fin 1024) : val_main_v75 (F := Ideal) (A0 m c) (A1 m c) (A2 m c) (A3 m c) (A4 m c) (A5 m c) (ValueIdx.ix2 i k)
    = (D2 m c i k * Rms.rs (X2 m c i) + X2 m c i k * Rms.rq (X2 m c i) (D2 m c i)) + Rms.rq (X2 m c i) (D2 m c i) * X2 m c i k := by
  unfold Rms.rq Rms.rs
  pointwise [val_main_v75, val_main_v74, val_main_v73, val_main_v72, val_main_v71, val_main_v70, val_main_v69, val_main_v68, val_main_v67, val_main_v66, val_main_v65, val_main_v64, val_main_v63, val_main_v62,
    val_main_v35, val_main_v34, val_main_v33, val_main_v32, val_main_v31, val_main_v30, val_main_v29, val_main_v28, val_main_v27, val_main_v26, val_main_v25,
    val_main_cst_6, val_main_cst_7, val_main_cst_8, val_main_cst_9, val_main_cst_20, val_main_cst_21, val_main_cst_22]
  simp only [Rms.thousand, Rms.eps_bits, Rms.neg_half, Finset.univ_unique, Finset.sum_singleton]
  rfl

theorem g3_at (c : Dev nD) (t : Fin cfg0.N) (r : Fin 256) (k : Fin 1024) :
    (k0_pay30 (errB m c t) (ValueIdx.ix2 r k) : EReal) * iblk m c 3 t (ValueIdx.ix2 0 k) = D2 m c (ro t r) k := by
  refine (congrArg₂ (· * ·) (dy_at m c t r k) (blk_f m c t k)).trans ?_
  unfold D2
  rw [val_main_v60_apply]
  pointwise [val_main_v59, val_main_v38]
  rfl

/-- The kernel's gradient of the leaving stream. -/
theorem dx2_row (c : Dev nD) (t : Fin cfg0.N) (r : Fin 256) (k : Fin 1024) : dx2B m c t (ValueIdx.ix2 r k)
    = Rms.rs (X2 m c (ro t r)) * (D2 m c (ro t r) k - (X2 m c (ro t r) k * Rms.rs (X2 m c (ro t r)))
      * Ideal.div (∑ j, D2 m c (ro t r) j * (X2 m c (ro t r) j * Rms.rs (X2 m c (ro t r)))) ((1024 : ℝ) : EReal)) := by
  unfold dx2B
  pointwise [k0_pay32]
  simp only [Rms.thousand]
  exact congrArg₂ (· * ·) (r3_at m c t r) (congrArg₂ (· - ·) (g3_at m c t r k) (congrArg₂ (· * ·) (n3_at m c t r k)
    (congrArg (Ideal.div · _) (Finset.sum_congr rfl fun x _ => congrArg₂ (· * ·) (g3_at m c t r x) (n3_at m c t r x)))))

/-- Where the arguments are finite. -/
def Fin6 (c : Dev nD) : Prop := (∀ i, Rms.IsReal (A0 m c i)) ∧ (∀ i, Rms.IsReal (A1 m c i)) ∧ (∀ i, Rms.IsReal (A2 m c i)) ∧ (∀ i, Rms.IsReal (A3 m c i))
  ∧ (∀ i, Rms.IsReal (A4 m c i)) ∧ (∀ i, Rms.IsReal (A5 m c i))

theorem v12_real (c : Dev nD) (h : Fin6 m c) (i : Fin 2048) (k : Fin 1024) : Rms.IsReal (val_main_v12 (F := Ideal) (A0 m c) (ValueIdx.ix2 i k)) := by
  have e : val_main_v12 (F := Ideal) (A0 m c) (ValueIdx.ix2 i k) = A0 m c (ValueIdx.ix2 i k) * Rms.rs fun j => A0 m c (ValueIdx.ix2 i j) := by
    unfold Rms.rs
    pointwise [val_main_v12, val_main_v11, val_main_v10, val_main_v9, val_main_v8, val_main_v7, val_main_v6, val_main_v5, val_main_v4, val_main_v3, val_main_v2, val_main_v1, val_main_v0, val_main_cst, val_main_cst_0, val_main_cst_1, val_main_cst_2]
    simp only [Rms.thousand, Rms.eps_bits]
    rfl
  rw [e]; exact (h.1 _).mul (Rms.IsReal.rs fun j => h.1 _)

theorem v15_real (c : Dev nD) (h : Fin6 m c) (i : S2048x4096.Idx) : Rms.IsReal (val_main_v15 (F := Ideal) (A0 m c) (A2 m c) (A4 m c) i) := by
  rw [val_main_v15_apply]
  refine Rms.IsReal.sum fun k => Rms.IsReal.mul ?_ (h.2.2.2.2.1 _)
  rw [val_main_v14_apply, val_main_v13_apply]
  refine Rms.IsReal.mul ?_ (h.2.2.1 _)
  rw [ValueIdx.eq_ix2 (lidx_main_v15 i k)]
  exact v12_real m c h _ _

theorem v16_real (c : Dev nD) (h : Fin6 m c) (i : S2048x4096.Idx) : Rms.IsReal (val_main_v16 (F := Ideal) (A0 m c) (A2 m c) (A4 m c) i) := by
  rw [val_main_v16_apply]
  refine Rms.IsReal.max (v15_real m c h i) ⟨0, ?_⟩
  pointwise [val_main_call0_v0, val_main_call0_cst]
  rfl

theorem X2_real (c : Dev nD) (h : Fin6 m c) (i : Fin 2048) (k : Fin 1024) : Rms.IsReal (X2 m c i k) := by
  unfold X2
  rw [val_main_v24_apply, val_main_v23_apply]
  exact (h.1 _).add (Rms.IsReal.sum fun j => ((v16_real m c h _).mul (v16_real m c h _)).mul (h.2.2.2.2.2 _))

theorem D2_real (c : Dev nD) (h : Fin6 m c) (i : Fin 2048) (k : Fin 1024) : Rms.IsReal (D2 m c i k) := by
  have e : val_main_v55 (F := Ideal) (A0 m c) (A1 m c) (A2 m c) (A3 m c) (A4 m c) (A5 m c) (ValueIdx.ix2 i k) = ((1 / 1024 : ℝ) : EReal) * (X2 m c i k * Rms.rs (X2 m c i) * A3 m c (ValueIdx.ix1 k) - A1 m c (ValueIdx.ix2 i k)) := by
    rw [← v37_at]
    pointwise [val_main_v55, val_main_v54, val_main_v53, val_main_v52, val_main_v51, val_main_v50, val_main_v44, val_main_v43, val_main_cst_10, val_main_cst_15, val_main_cst_16, val_main_cst_17,
      val_main_v41, val_main_v40, val_main_v39, val_main_v38]
    simp only [half, two, one, Rms.thousand]
    rw [Rms.div_real _ _ (by norm_num), ← mul_assoc, ← EReal.coe_mul]
    norm_num
    rfl
  unfold D2
  rw [val_main_v60_apply]
  refine Rms.IsReal.mul ?_ ?_
  · rw [e]; exact (Rms.IsReal.coe _).mul ((((X2_real m c h i k).mul (Rms.IsReal.rs (X2_real m c h i))).mul (h.2.2.2.1 _)).sub (h.2.1 _))
  · pointwise [val_main_v59]; exact h.2.2.2.1 _

/-- The gradient of the leaving stream. -/
theorem dx2_at (c : Dev nD) (h : Fin6 m c) (t : Fin cfg0.N) (r : Fin 256) (k : Fin 1024) : dx2B m c t (ValueIdx.ix2 r k)
    = val_main_v75 (F := Ideal) (A0 m c) (A1 m c) (A2 m c) (A3 m c) (A4 m c) (A5 m c) (ValueIdx.ix2 (ro t r) k) := by
  rw [dx2_row, v75_at]
  exact Rms.row_real _ _ (X2_real m c h _) (D2_real m c h _) k

theorem v75_real (c : Dev nD) (h : Fin6 m c) (i : Fin 2048) (k : Fin 1024) : Rms.IsReal (val_main_v75 (F := Ideal) (A0 m c) (A1 m c) (A2 m c) (A3 m c) (A4 m c) (A5 m c) (ValueIdx.ix2 i k)) := by
  rw [v75_at, ← Rms.row_real _ _ (X2_real m c h _) (D2_real m c h _) k]
  have hx := X2_real m c h i
  exact (Rms.IsReal.rs hx).mul ((D2_real m c h i k).sub (((hx k).mul (Rms.IsReal.rs hx)).mul
    (Rms.IsReal.div_thousand (Rms.IsReal.sum fun j => (D2_real m c h i j).mul ((hx j).mul (Rms.IsReal.rs hx))))))

theorem dp_at (c : Dev nD) (h : Fin6 m c) (t : Fin cfg0.N) (o : ℕ) (inb : ∀ a, (![o, 0] : Fin 2 → ℕ) a + S1024x1024.size a ≤ S4096x1024.size a) (r : Fin 256) (j : Fin 1024) (q : Fin 4096) (hq : q.val = o + j.val) :
    dp m c t o inb (ValueIdx.ix2 r j) = val_main_v79 (F := Ideal) (A0 m c) (A1 m c) (A2 m c) (A3 m c) (A4 m c) (A5 m c) (ValueIdx.ix2 (ro t r) q) := by
  have e : ∑ x : Fin 1024, dx2B m c t (ValueIdx.ix2 r x) * wRow (w2Of m c) o inb (ValueIdx.ix2 j x)
      = val_main_v76 (F := Ideal) (A0 m c) (A1 m c) (A2 m c) (A3 m c) (A4 m c) (A5 m c) (ValueIdx.ix2 (ro t r) q) := by
    rw [val_main_v76_apply]
    refine Finset.sum_congr rfl fun x _ => ?_
    rw [dx2_at m c h t r x, w2_at m c o inb j x q hq, ValueIdx.eq_ix2 (lidx_main_v76 (ValueIdx.ix2 (ro t r) q) x), ValueIdx.eq_ix2 (ridx_main_v76 (ValueIdx.ix2 (ro t r) q) x)]
    rfl
  have k : dp m c t o inb (ValueIdx.ix2 r j) = (∑ x : Fin 1024, dx2B m c t (ValueIdx.ix2 r x) * wRow (w2Of m c) o inb (ValueIdx.ix2 j x))
      * (((2 : ℝ) : EReal) * rl m c t o inb (ValueIdx.ix2 r j)) := by
    unfold dp dxB dx2B
    pointwise [k0_pay36, k0_pay33]
    simp only [two]
    rfl
  rw [k, e, rl_at m c t o inb r j q hq]
  pointwise [val_main_v79, val_main_v78, val_main_v77, val_main_v22, val_main_v21, val_main_v18, val_main_v17, val_main_cst_3, val_main_cst_5, val_main_cst_23]
  rw [two]
  split_ifs with hp
  · rfl
  · have z : val_main_v16 (F := Ideal) (A0 m c) (A2 m c) (A4 m c) (ValueIdx.ix2 (ro t r) q) = 0 := by
      rw [val_main_v16_apply]
      refine (congrArg (FloatOps.maximumf (F := Ideal) (φ := .f32) _) (?_ : _ = (0 : EReal))).trans (sup_eq_right.2 (not_lt.1 hp))
      pointwise [val_main_call0_v0, val_main_call0_cst]
    rw [z, mul_zero, mul_zero]

theorem dh2_sum (c : Dev nD) (t : Fin cfg0.N) (r : Fin 256) (k : Fin 1024) : dh2B m c t (ValueIdx.ix2 r k)
    = (∑ j : Fin 1024, dp m c t 0 inb_S4096x1024_S1024x1024_0_0 (ValueIdx.ix2 r j) * wRow (w1Of m c) 0 inb_S4096x1024_S1024x1024_0_0 (ValueIdx.ix2 j k)) + (∑ j : Fin 1024, dp m c t 1024 inb_S4096x1024_S1024x1024_1024_0 (ValueIdx.ix2 r j) * wRow (w1Of m c) 1024 inb_S4096x1024_S1024x1024_1024_0 (ValueIdx.ix2 j k)) + (∑ j : Fin 1024, dp m c t 2048 inb_S4096x1024_S1024x1024_2048_0 (ValueIdx.ix2 r j) * wRow (w1Of m c) 2048 inb_S4096x1024_S1024x1024_2048_0 (ValueIdx.ix2 j k)) + (∑ j : Fin 1024, dp m c t 3072 inb_S4096x1024_S1024x1024_3072_0 (ValueIdx.ix2 r j) * wRow (w1Of m c) 3072 inb_S4096x1024_S1024x1024_3072_0 (ValueIdx.ix2 j k)) := by
  unfold dh2B d3B
  pointwise [k0_pay2, k0_pay1, k0_pay39, k0_pay38, k0_pay37, k0_pay36, k0_pay34]
  rfl

/-- The normalised stream's cotangent. -/
theorem dh2_at (c : Dev nD) (h : Fin6 m c) (t : Fin cfg0.N) (r : Fin 256) (k : Fin 1024) : dh2B m c t (ValueIdx.ix2 r k)
    = val_main_v80 (F := Ideal) (A0 m c) (A1 m c) (A2 m c) (A3 m c) (A4 m c) (A5 m c) (ValueIdx.ix2 (ro t r) k) := by
  rw [dh2_sum, val_main_v80_apply, cut4]
  have e (o : ℕ) (ho : o + 1024 ≤ 4096) (inb : ∀ a, (![o, 0] : Fin 2 → ℕ) a + S1024x1024.size a ≤ S4096x1024.size a) :
      ∑ j : Fin 1024, dp m c t o inb (ValueIdx.ix2 r j) * wRow (w1Of m c) o inb (ValueIdx.ix2 j k)
        = ∑ x : Fin 1024, val_main_v79 (F := Ideal) (A0 m c) (A1 m c) (A2 m c) (A3 m c) (A4 m c) (A5 m c) (lidx_main_v80 (ValueIdx.ix2 (ro t r) k) ⟨o + x.val, by omega⟩)
          * A4 m c (ridx_main_v80 (ValueIdx.ix2 (ro t r) k) ⟨o + x.val, by omega⟩) :=
    Finset.sum_congr rfl fun x _ => by
      rw [dp_at m c h t o inb r x ⟨o + x.val, by omega⟩ rfl, w1_at m c o inb x k ⟨o + x.val, by omega⟩ rfl,
        ValueIdx.eq_ix2 (lidx_main_v80 (ValueIdx.ix2 (ro t r) k) ⟨o + x.val, by omega⟩), ValueIdx.eq_ix2 (ridx_main_v80 (ValueIdx.ix2 (ro t r) k) ⟨o + x.val, by omega⟩)]
      rfl
  rw [e 0 (by decide), e 1024 (by decide), e 2048 (by decide), e 3072 (by decide)]

/-- A row of the entering stream, and its normalised form's cotangent scaled by the gain. -/
abbrev X1 (c : Dev nD) (i : Fin 2048) (k : Fin 1024) : EReal := A0 m c (ValueIdx.ix2 i k)
abbrev D1 (c : Dev nD) (i : Fin 2048) (k : Fin 1024) : EReal := val_main_v85 (F := Ideal) (A0 m c) (A1 m c) (A2 m c) (A3 m c) (A4 m c) (A5 m c) (ValueIdx.ix2 i k)

theorem v99_at (c : Dev nD) (i : Fin 2048) (k : Fin 1024) : val_main_v99 (F := Ideal) (A0 m c) (A1 m c) (A2 m c) (A3 m c) (A4 m c) (A5 m c) (ValueIdx.ix2 i k)
    = (D1 m c i k * Rms.rs (X1 m c i) + X1 m c i k * Rms.rq (X1 m c i) (D1 m c i)) + Rms.rq (X1 m c i) (D1 m c i) * X1 m c i k := by
  unfold Rms.rq Rms.rs
  pointwise [val_main_v99, val_main_v98, val_main_v97, val_main_v96, val_main_v95, val_main_v94, val_main_v93, val_main_v92, val_main_v91, val_main_v90, val_main_v89, val_main_v88, val_main_v87, val_main_v86,
    val_main_v10, val_main_v9, val_main_v8, val_main_v7, val_main_v6, val_main_v5, val_main_v4, val_main_v3, val_main_v2, val_main_v1, val_main_v0, val_main_cst, val_main_cst_0, val_main_cst_1, val_main_cst_2,
    val_main_cst_25, val_main_cst_26, val_main_cst_27]
  simp only [Rms.thousand, Rms.eps_bits, Rms.neg_half, Finset.univ_unique, Finset.sum_singleton]
  rfl

theorem D1_real (c : Dev nD) (h : Fin6 m c) (i : Fin 2048) (k : Fin 1024) : Rms.IsReal (D1 m c i k) := by
  unfold D1
  rw [val_main_v85_apply, val_main_v84_apply, val_main_v80_apply]
  refine Rms.IsReal.mul (Rms.IsReal.sum fun j => Rms.IsReal.mul ?_ (h.2.2.2.2.1 _)) (h.2.2.1 _)
  have z : val_main_v79 (F := Ideal) (A0 m c) (A1 m c) (A2 m c) (A3 m c) (A4 m c) (A5 m c) (lidx_main_v80 (ValueIdx.ix2 i k) j)
      = if 0 < val_main_v15 (F := Ideal) (A0 m c) (A2 m c) (A4 m c) (lidx_main_v80 (ValueIdx.ix2 i k) j) then
        val_main_v76 (F := Ideal) (A0 m c) (A1 m c) (A2 m c) (A3 m c) (A4 m c) (A5 m c) (lidx_main_v80 (ValueIdx.ix2 i k) j) * (((2 : ℝ) : EReal) * val_main_v16 (F := Ideal) (A0 m c) (A2 m c) (A4 m c) (lidx_main_v80 (ValueIdx.ix2 i k) j)) else 0 := by
    pointwise [val_main_v79, val_main_v78, val_main_v77, val_main_v22, val_main_v21, val_main_v18, val_main_v17, val_main_cst_3, val_main_cst_5, val_main_cst_23]
    rw [two]
  rw [z]
  split_ifs
  · refine Rms.IsReal.mul ?_ ((Rms.IsReal.coe 2).mul (v16_real m c h _))
    rw [val_main_v76_apply]
    refine Rms.IsReal.sum fun x => Rms.IsReal.mul ?_ (h.2.2.2.2.2 _)
    rw [ValueIdx.eq_ix2 (lidx_main_v76 _ x)]
    exact v75_real m c h _ _
  · exact ⟨0, rfl⟩

theorem r2_at (c : Dev nD) (t : Fin cfg0.N) (r : Fin 256) : k0_pay8 (iblk m c 0 t) (ValueIdx.ix2 r 0) = Rms.rs (X1 m c (ro t r)) := by
  unfold Rms.rs
  pointwise [k0_pay8]
  simp only [Rms.thousand, Rms.eps_bits]
  exact congrArg (fun z => Ideal.rsqrt (Ideal.div z _ + _)) (Finset.sum_congr rfl fun x _ => congrArg₂ (· * ·) (blk_x m c t r x) (blk_x m c t r x))

theorem n2_row (c : Dev nD) (t : Fin cfg0.N) (r : Fin 256) (k : Fin 1024) : k0_pay9 (iblk m c 0 t) (ValueIdx.ix2 r k) = X1 m c (ro t r) k * Rms.rs (X1 m c (ro t r)) := by
  refine Eq.trans ?_ (congrArg₂ (· * ·) (blk_x m c t r k) (r2_at m c t r))
  pointwise [k0_pay9]
  rfl

theorem g2_at (c : Dev nD) (h : Fin6 m c) (t : Fin cfg0.N) (r : Fin 256) (k : Fin 1024) :
    (dh2B m c t (ValueIdx.ix2 r k) : EReal) * iblk m c 2 t (ValueIdx.ix2 0 k) = D1 m c (ro t r) k := by
  refine (congrArg₂ (· * ·) (dh2_at m c h t r k) (blk_g m c t k)).trans ?_
  unfold D1
  rw [val_main_v85_apply]
  pointwise [val_main_v84]
  rfl

/-- The entering stream's gradient. -/
theorem dx1_at (c : Dev nD) (h : Fin6 m c) (t : Fin cfg0.N) (r : Fin 256) (k : Fin 1024) : (outsAt0 m c t.val t.isLt).2.1 (ValueIdx.ix2 r k)
    = val_main_v101 (F := Ideal) (A0 m c) (A1 m c) (A2 m c) (A3 m c) (A4 m c) (A5 m c) (ValueIdx.ix2 (ro t r) k) := by
  rw [dx1_eq, val_main_v101_apply, ← dx2_at m c h t r k, v99_at, ← Rms.row_real _ _ (fun j => h.1 _) (D1_real m c h _) k]
  pointwise [k0_pay4]
  simp only [Rms.thousand]
  refine congrArg (dx2B m c t (ValueIdx.ix2 r k) + ·) ?_
  exact congrArg₂ (· * ·) (r2_at m c t r) (congrArg₂ (· - ·) (g2_at m c h t r k) (congrArg₂ (· * ·) (n2_row m c t r k)
    (congrArg (Ideal.div · _) (Finset.sum_congr rfl fun x _ => congrArg₂ (· * ·) (g2_at m c h t r x) (n2_row m c t r x)))))

end Cert.FfnLossIdeal.RefValue

end
-- ==== Proof.FfnFinal.lean ====
/- The arrays the channel mixer's kernel leaves, each equal to the reference's result over the same arguments. -/
module

public import proofs.«01_k».proof.Proof.Gen.FfnLossIdeal.Value
public import proofs.«01_k».proof.Proof.RmsReal
public import Idealize.ShloMosaic.Lib.Pipeline.ValueKit
public import Idealize.ShloMosaic.Lib.Pipeline.ReadBack
public import Idealize.ShloMosaic.Lib.Pointwise
public import Idealize.ShloMosaic.Lib.StableHlo.RunRead
public import Idealize.ShloMosaic.Lib.Claim
public import proofs.«01_k».proof.Proof.FfnValue
public import proofs.«01_k».proof.Proof.Gen.FfnGradIdeal.Read
public import proofs.«01_k».proof.Proof.RmsReal

@[expose] public section

set_option maxRecDepth 16384

noncomputable section

namespace Cert.FfnLossIdeal.RefValue

open Cert.FfnLossIdeal Cert.FfnLossIdeal.Gen Idealize.ShloMosaic Idealize.ShloMosaic.TcCoe Idealize.SL.Sem
open Idealize.ShloMosaic.Pipeline (Dat)
open Cert.FfnGradIdeal.Read

variable (m : (ℓ : Loc nD τ sig) → Buf (Elt Ideal) ℓ)

/-- The entering stream's gradient. -/
theorem final5 (c : Dev nD) (h : Fin6 m c) : (dats m 0 c).arrAt 5 (cfgs 0).N = val_main_v101 (F := Ideal) (A0 m c) (A1 m c) (A2 m c) (A3 m c) (A4 m c) (A5 m c) := by
  refine (dats m 0 c).arrAt_eq_of_covers 5 _ (by decide +kernel) fun t _ y => ?_
  blk_simp
  obtain ⟨r, k, rfl⟩ : ∃ (r : Fin 256) (k : Fin 1024), y = ValueIdx.ix2 r k := ⟨y 0, y 1, ValueIdx.eq_ix2 y⟩
  rw [after0_5, show ((View.whole main_v4_1).slice (win0_5.rect t)).emb (ValueIdx.ix2 r k) = ValueIdx.ix2 (ro t r) k from by
    blk_ext [idx t]; exact row_comm t r]
  exact dx1_at m c h t r k

/-- The stream into the hidden products. -/
theorem final6 (c : Dev nD) : (dats m 0 c).arrAt 6 (cfgs 0).N = val_main_v14 (F := Ideal) (A0 m c) (A2 m c) := by
  refine (dats m 0 c).arrAt_eq_of_covers 6 _ (by decide +kernel) fun t _ y => ?_
  blk_simp
  obtain ⟨r, k, rfl⟩ : ∃ (r : Fin 256) (k : Fin 1024), y = ValueIdx.ix2 r k := ⟨y 0, y 1, ValueIdx.eq_ix2 y⟩
  rw [after0_6, show ((View.whole main_v4_2).slice (win0_6.rect t)).emb (ValueIdx.ix2 r k) = ValueIdx.ix2 (ro t r) k from by
    blk_ext [idx t]; exact row_comm t r]
  rw [h2_eq]; exact h_at m c t r k

/-- The leaving stream's gradient. -/
theorem final9 (c : Dev nD) (h : Fin6 m c) : (dats m 0 c).arrAt 9 (cfgs 0).N = val_main_v75 (F := Ideal) (A0 m c) (A1 m c) (A2 m c) (A3 m c) (A4 m c) (A5 m c) := by
  refine (dats m 0 c).arrAt_eq_of_covers 9 _ (by decide +kernel) fun t _ y => ?_
  blk_simp
  obtain ⟨r, k, rfl⟩ : ∃ (r : Fin 256) (k : Fin 1024), y = ValueIdx.ix2 r k := ⟨y 0, y 1, ValueIdx.eq_ix2 y⟩
  rw [after0_9, show ((View.whole main_v4_5).slice (win0_9.rect t)).emb (ValueIdx.ix2 r k) = ValueIdx.ix2 (ro t r) k from by
    blk_ext [idx t]; exact row_comm t r]
  rw [dx2_eq]; exact dx2_at m c h t r k

/-- The hidden products' squares. -/
theorem final7 (c : Dev nD) : (dats m 0 c).arrAt 7 (cfgs 0).N = val_main_v20 (F := Ideal) (A0 m c) (A2 m c) (A4 m c) := by
  refine (dats m 0 c).arrAt_eq_of_covers 7 _ (by decide +kernel) fun t _ y => ?_
  blk_simp
  obtain ⟨r, k, rfl⟩ : ∃ (r : Fin 256) (k : Fin 4096), y = ValueIdx.ix2 r k := ⟨y 0, y 1, ValueIdx.eq_ix2 y⟩
  rw [after0_7, show ((View.whole main_v4_3).slice (win0_7.rect t)).emb (ValueIdx.ix2 r k) = ValueIdx.ix2 (ro t r) k from by
    blk_ext [idx t]; exact row_comm t r]
  refine congrFun (act_eq m c t (fun y => val_main_v20 (F := Ideal) (A0 m c) (A2 m c) (A4 m c) (ValueIdx.ix2 (ro t (y 0)) (y 1))) fun o inb x y h0 h1 => ?_) (ValueIdx.ix2 r k)
  have e0 : y 0 = x 0 := Fin.ext h0
  rw [ValueIdx.eq_ix2 x]
  dsimp only
  rw [e0]
  have e := (rl_at m c t o inb (x 0) (x 1) (y 1) h1).symm
  exact congrArg₂ (· * ·) e e

/-- The hidden products' gradients. -/
theorem final8 (c : Dev nD) (h : Fin6 m c) : (dats m 0 c).arrAt 8 (cfgs 0).N = val_main_v79 (F := Ideal) (A0 m c) (A1 m c) (A2 m c) (A3 m c) (A4 m c) (A5 m c) := by
  refine (dats m 0 c).arrAt_eq_of_covers 8 _ (by decide +kernel) fun t _ y => ?_
  blk_simp
  obtain ⟨r, k, rfl⟩ : ∃ (r : Fin 256) (k : Fin 4096), y = ValueIdx.ix2 r k := ⟨y 0, y 1, ValueIdx.eq_ix2 y⟩
  rw [after0_8, show ((View.whole main_v4_4).slice (win0_8.rect t)).emb (ValueIdx.ix2 r k) = ValueIdx.ix2 (ro t r) k from by
    blk_ext [idx t]; exact row_comm t r]
  refine congrFun (dpre_eq m c t (fun y => val_main_v79 (F := Ideal) (A0 m c) (A1 m c) (A2 m c) (A3 m c) (A4 m c) (A5 m c) (ValueIdx.ix2 (ro t (y 0)) (y 1))) fun o inb x y h0 h1 => ?_) (ValueIdx.ix2 r k)
  have e0 : y 0 = x 0 := Fin.ext h0
  rw [ValueIdx.eq_ix2 x]
  dsimp only
  rw [e0]
  exact (dp_at m c h t o inb (x 0) (x 1) (y 1) h1).symm

/-- The first gain's gradient. -/
theorem final10 (c : Dev nD) (h : Fin6 m c) : (dats m 0 c).arrAt 10 (cfgs 0).N = val_main_v83 (F := Ideal) (A0 m c) (A1 m c) (A2 m c) (A3 m c) (A4 m c) (A5 m c) := by
  refine (dats m 0 c).arrAt_eq_of_after_last 10 t0_7 (by decide +kernel) _ fun j => ?_
  blk_simp
  rw [after0_10, Pipeline.eq_sum_fin_of_reset_step_apply_last (fun n h => (outsAt0 m c n h).2.2.2.2.2.2.1) 8 (fun _ => 0) _
    (fun t h j => congrFun (dg_A m c t h) j) (fun t h j => congrFun (dg_B m c t h) j) (le_of_eq N_0) t0_7 rfl j, zero_add]
  pointwise [val_main_v83, val_main_v82, val_main_v81, val_main_cst_24]
  refine Fin.sum_mul_add_congr (n := 256) fun s k hl => ?_
  rw [show (⟨s.val * 256 + k.val, hl⟩ : Fin 2048) = ⟨256 * s.val + k.val, row_lt s k⟩ from Fin.ext (row_comm s k)]
  refine (mul_comm (_ : EReal) _).trans ?_
  exact congrArg₂ (· * ·) (n2_at m c s k (j 1)) (dh2_at m c h s k (j 1))

/-- The last gain's gradient. -/
theorem final11 (c : Dev nD) : (dats m 0 c).arrAt 11 (cfgs 0).N = val_main_v106 (F := Ideal) (A0 m c) (A1 m c) (A2 m c) (A3 m c) (A4 m c) (A5 m c) := by
  refine (dats m 0 c).arrAt_eq_of_after_last 11 t0_7 (by decide +kernel) _ fun j => ?_
  blk_simp
  rw [after0_11, Pipeline.eq_sum_fin_of_reset_step_apply_last (fun n h => (outsAt0 m c n h).2.2.2.2.2.2.2.1) 8 (fun _ => 0) _
    (fun t h j => congrFun (df_A m c t h) j) (fun t h j => congrFun (df_B m c t h) j) (le_of_eq N_0) t0_7 rfl j, zero_add]
  pointwise [val_main_v106, val_main_v61, val_main_v58, val_main_v57, val_main_v56, val_main_cst_18, val_main_cst_19]
  simp only [Finset.univ_unique, Finset.sum_singleton]
  refine Fin.sum_mul_add_congr (n := 256) fun s k hl => ?_
  rw [show (⟨s.val * 256 + k.val, hl⟩ : Fin 2048) = ⟨256 * s.val + k.val, row_lt s k⟩ from Fin.ext (row_comm s k)]
  refine (mul_comm (_ : EReal) _).trans ?_
  exact congrArg₂ (· * ·) ((n3_at m c s k (j 1)).trans (v37_at m c (ro s k) (j 1)).symm) (dy_at m c s k (j 1))

theorem half_sum {n : ℕ} (f : Fin n → EReal) : ∑ k, ((1 / 2 : ℝ) : EReal) * f k = ((1 / 2 : ℝ) : EReal) * ∑ k, f k := by
  induction n with
  | zero => simp
  | succ n ih =>
    rw [Fin.sum_univ_succ, Fin.sum_univ_succ, ih, EReal.left_distrib_of_nonneg_of_ne_top (EReal.coe_nonneg.2 (by norm_num)) (EReal.coe_ne_top _)]

/-- The loss. -/
theorem final4 (c : Dev nD) : (dats m 0 c).arrAt 4 (cfgs 0).N = val_main_v100 (F := Ideal) (A0 m c) (A1 m c) (A2 m c) (A3 m c) (A4 m c) (A5 m c) := by
  refine (dats m 0 c).arrAt_eq_of_after_last 4 t0_7 (by decide +kernel) _ fun j => ?_
  blk_simp
  rw [after0_4, Pipeline.eq_sum_fin_of_reset_step_apply_last (fun n h => (outsAt0 m c n h).1) 8 (fun _ => 0) _
    (fun t h j => congrFun (loss_A m c t h) j) (fun t h j => congrFun (loss_B m c t h) j) (le_of_eq N_0) t0_7 rfl j, zero_add]
  unfold lossB
  simp only [half, half_sum]
  pointwise [val_main_v100, val_main_v49, val_main_v48, val_main_v47, val_main_v46, val_main_v45, val_main_v42, val_main_cst_11, val_main_cst_12, val_main_cst_13, val_main_cst_14]
  simp only [half]
  refine congrArg (((1 / 2 : ℝ) : EReal) * ·) (Fin.sum_mul_add_congr (n := 256) fun s k hl => ?_)
  rw [show (⟨s.val * 256 + k.val, hl⟩ : Fin 2048) = ⟨256 * s.val + k.val, row_lt s k⟩ from Fin.ext (row_comm s k)]
  exact congrArg (Ideal.div · _) (Finset.sum_congr rfl fun x _ => congrArg₂ (· * ·) (err_at m c s k x) (err_at m c s k x))

end Cert.FfnLossIdeal.RefValue

end
-- ==== Proof.FfnClaim.lean ====
/- The feed-forward and loss pair: the reference's frame and the equality of all eight results, where the arguments are finite. -/
module

public import proofs.«01_k».proof.Defs
public import proofs.«01_k».proof.Proof.Gen.FfnLoss.Frame
public import proofs.«01_k».proof.Proof.Gen.FfnGradIdeal.Run
public import proofs.«01_k».proof.Proof.FfnFinal

@[expose] public section

set_option maxRecDepth 16384

noncomputable section

namespace Cert.FfnClaim

open Idealize.ShloMosaic Idealize.ShloMosaic.TcCoe Idealize.SL.Sem

/-- The reference runs, leaves its arguments as they were and its semaphores at zero. -/
theorem frame_ref : Cert.quiescent_FfnGradIdeal := fun m ρ _ =>
  (θ_run Cert.FfnGradIdeal.defs _ _).mono (fun r h => ⟨fun c => (h c).2.2.2.2.2.2.2.2,
      Idealize.ShloMosaic.sem_eq_zero_of_no_sems (by decide) r.2⟩)
    (Cert.FfnGradIdeal.Value.run (F := Ideal) m ρ)

theorem pre_facts : Cert.Pre_finite_ffn.Facts := by constructor <;> decide

/-- Kernel and reference end with equal results. -/
theorem algebraic : Cert.algebraic_FfnLossIdeal_FfnGradIdeal_pre_finite_ffn (hPre_finite_ffn := pre_facts) := by
  pair_intro
  · run_from Cert.FfnLossIdeal.Value.run_blocks m g
  · refine (θ_run Cert.FfnGradIdeal.defs _ _).mono (fun r h c => ?_) (Cert.FfnGradIdeal.Value.run (F := Ideal) m' g')
    obtain ⟨h0, h1, h2, h3, h4, h5, h6, h7, hargs⟩ := h c
    obtain ⟨a0, a1, a2, a3, a4, a5⟩ := hagree c
    obtain ⟨p0, p1, p2, p3, p4, p5⟩ := hpre c
    have fin : Cert.FfnLossIdeal.RefValue.Fin6 m c := ⟨Rms.IsReal.of_test _ _ p0, Rms.IsReal.of_test _ _ p1, Rms.IsReal.of_test _ _ p2,
      Rms.IsReal.of_test _ _ p3, Rms.IsReal.of_test _ _ p4, Rms.IsReal.of_test _ _ p5⟩
    have b0 : StableHlo.launchContents m' c (Proc.devRef .tc Cert.FfnGradIdeal.main_arg0) = m ((c.tc : Thread Cert.FfnLossIdeal.nD Cert.FfnLossIdeal.τ).loc Cert.FfnLossIdeal.main_arg0) := a0
    have b1 : StableHlo.launchContents m' c (Proc.devRef .tc Cert.FfnGradIdeal.main_arg1) = m ((c.tc : Thread Cert.FfnLossIdeal.nD Cert.FfnLossIdeal.τ).loc Cert.FfnLossIdeal.main_arg1) := a1
    have b2 : StableHlo.launchContents m' c (Proc.devRef .tc Cert.FfnGradIdeal.main_arg2) = m ((c.tc : Thread Cert.FfnLossIdeal.nD Cert.FfnLossIdeal.τ).loc Cert.FfnLossIdeal.main_arg2) := a2
    have b3 : StableHlo.launchContents m' c (Proc.devRef .tc Cert.FfnGradIdeal.main_arg3) = m ((c.tc : Thread Cert.FfnLossIdeal.nD Cert.FfnLossIdeal.τ).loc Cert.FfnLossIdeal.main_arg3) := a3
    have b4 : StableHlo.launchContents m' c (Proc.devRef .tc Cert.FfnGradIdeal.main_arg4) = m ((c.tc : Thread Cert.FfnLossIdeal.nD Cert.FfnLossIdeal.τ).loc Cert.FfnLossIdeal.main_arg4) := a4
    have b5 : StableHlo.launchContents m' c (Proc.devRef .tc Cert.FfnGradIdeal.main_arg5) = m ((c.tc : Thread Cert.FfnLossIdeal.nD Cert.FfnLossIdeal.τ).loc Cert.FfnLossIdeal.main_arg5) := a5
    refine ⟨h0.trans ?_, h1.trans ?_, h2.trans ?_, h3.trans ?_, h4.trans ?_, h5.trans ?_, h6.trans ?_, h7.trans ?_, hargs⟩
    · rw [Cert.FfnGradIdeal.Read.val_main_v100_eq, b0, b1, b2, b3, b4, b5]
      exact (Cert.FfnLossIdeal.RefValue.final4 m c).symm
    · rw [Cert.FfnGradIdeal.Read.val_main_v101_eq, b0, b1, b2, b3, b4, b5]
      exact (Cert.FfnLossIdeal.RefValue.final5 m c fin).symm
    · rw [Cert.FfnGradIdeal.Read.val_main_v102_eq, b0, b2]
      exact (Cert.FfnLossIdeal.RefValue.final6 m c).symm
    · rw [Cert.FfnGradIdeal.Read.val_main_v103_eq, b0, b2, b4]
      exact (Cert.FfnLossIdeal.RefValue.final7 m c).symm
    · rw [Cert.FfnGradIdeal.Read.val_main_v104_eq, b0, b1, b2, b3, b4, b5]
      exact (Cert.FfnLossIdeal.RefValue.final8 m c fin).symm
    · rw [Cert.FfnGradIdeal.Read.val_main_v105_eq, b0, b1, b2, b3, b4, b5]
      exact (Cert.FfnLossIdeal.RefValue.final9 m c fin).symm
    · rw [Cert.FfnGradIdeal.Read.val_main_v83_eq, b0, b1, b2, b3, b4, b5]
      exact (Cert.FfnLossIdeal.RefValue.final10 m c fin).symm
    · rw [Cert.FfnGradIdeal.Read.val_main_v106_eq, b0, b1, b2, b3, b4, b5]
      exact (Cert.FfnLossIdeal.RefValue.final11 m c).symm

end Cert.FfnClaim

end
-- ==== Proof.AttBits.lean ====
module

public import proofs.«01_k».proof.Proof.Gen.AttBwd.Frame
public import proofs.«01_k».proof.Proof.Gen.AttBwd.Loops
public import Idealize.ShloMosaic.Lib.Claim

/-!
The attention's backward kernel as printed, over any floats: it runs over its grid to the end and changes no argument.
Nothing is named of what its outputs hold.
-/

@[expose] public section

set_option maxRecDepth 16384

noncomputable section

namespace Cert.AttBwd.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation)
open Cert.AttBwd.Gen

variable {F : FTy → Type} [FloatOps F]

local notation "𝕄" => MT nD τ sig Unit (Elt F) ℕ (UR sig nD τ) ℕ

section

variable {arg1 : Memref sig .tc .vmem S2048x256 .bf16} (harg1 : arg1.IsWhole)
variable {arg2 : Memref sig .tc .vmem S2048x256 .bf16} (harg2 : arg2.IsWhole)
variable {arg3 : Memref sig .tc .vmem S2048x256 .bf16} (harg3 : arg3.IsWhole)
variable {arg4 : Memref sig .tc .vmem S2048x256 .bf16} (harg4 : arg4.IsWhole)
variable {arg5 : Memref sig .tc .vmem S8x1x4x512 .f32} (harg5 : arg5.IsWhole)
variable {arg6 : Memref sig .tc .vmem S64x512 .f32} (harg6 : arg6.IsWhole)
variable {arg7 : Memref sig .tc .vmem S256x256 .f32} (harg7 : arg7.IsWhole)
variable {arg8 : Memref sig .tc .vmem S64x64 .f32} (harg8 : arg8.IsWhole)
variable {arg10 : Memref sig .tc .vmem S3x2048x256 .bf16} (harg10 : arg10.IsWhole)
variable {arg11 : Memref sig .tc .vmem S1x8x4x512 .f32} (harg11 : arg11.IsWhole)
variable {arg12 : Memref sig .tc .vmem S2048x256 .f32} (harg12 : arg12.IsWhole)
variable {arg13 : Memref sig .tc .vmem S2048x256 .f32} (harg13 : arg13.IsWhole)
variable {arg14 : Memref sig .tc .vmem S8x256x512 .f32} (harg14 : arg14.IsWhole)
variable {arg15 : Memref sig .tc .vmem S8x256x512 .f32} (harg15 : arg15.IsWhole)

set_option maxHeartbeats 3200000 in
/-- The body on whole memrefs: it leaves the inputs as they were, and the outputs and the scratch at some contents. -/
theorem run (c : Dev nD) (i : grid0.Coords) (x0 : Vec F S2048x256 .bf16) (x1 : Vec F S2048x256 .bf16) (x2 : Vec F S2048x256 .bf16) (x3 : Vec F S2048x256 .bf16) (x4 : Vec F S8x1x4x512 .f32) (x5 : Vec F S64x512 .f32) (x6 : Vec F S256x256 .f32) (x7 : Vec F S64x64 .f32)
    (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d)) -∗ K ⟨⟩))
      ⊢ wp frame (wpE (defs₀ (F := F)) Variants.none c none) E (cc0_att_bwd i arg1 harg1 arg2 harg2 arg3 harg3 arg4 harg4 arg5 harg5 arg6 harg6 arg7 harg7 arg8 harg8 (Memref.whole main_v28) (Memref.isWhole_whole _) arg10 harg10 arg11 harg11 arg12 harg12 arg13 harg13 arg14 harg14 arg15 harg15) K := by
  simp only [cc0_att_bwd_eq_skeleton]; unfold cc0_att_bwd_skel
  simp only [k0_part32_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%d9, %f9, -, H9⟩, ⟨%d10, %f10, -, H10⟩, ⟨%d11, %f11, -, H11⟩, ⟨%d12, %f12, -, H12⟩, ⟨%d13, %f13, -, H13⟩, Hk⟩
  obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7
  sl_exec
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  isplitl [H4]
  · iexists _; isplitr; · ipureintro; exact harg5.read_unread _
    iexact H4
  isplitl [H5]
  · iexists _; isplitr; · ipureintro; exact harg6.read_unread _
    iexact H5
  isplitl [H6]
  · iexists _; isplitr; · ipureintro; exact harg7.read_unread _
    iexact H6
  isplitl [H7]
  · iexists _; isplitr; · ipureintro; exact harg8.read_unread _
    iexact H7
  isplitl [H8]
  · iexists _, _; isplitr; swap; · iexact H8
    ipureintro; rfl
  isplitl [H9]
  · iexists _, _; isplitr; swap; · iexact H9
    ipureintro; rfl
  isplitl [H10]
  · iexists _, _; isplitr; swap; · iexact H10
    ipureintro; rfl
  isplitl [H11]
  · iexists _, _; isplitr; swap; · iexact H11
    ipureintro; rfl
  isplitl [H12]
  · iexists _, _; isplitr; swap; · iexact H12
    ipureintro; rfl
  iexists _, _; isplitr; swap; · iexact H13
  ipureintro; rfl

end

variable (m : (ℓ : Loc nD τ sig) → Buf (Elt F) ℓ) (ρ : Dev nD → PrngReg)

/-- The two outputs are left open. -/
def loose : Fin 10 → Bool := fun w => 8 ≤ w.val

/-- The pipeline's data: inputs at their blocks, the outputs unnamed. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, h⟩ => Pipeline.Dat.unnamed (cfg := cfg0) ⟨8, h⟩ t
    | ⟨9, h⟩ => Pipeline.Dat.unnamed (cfg := cfg0) ⟨9, h⟩ t
  Φ _ := Pipeline.ΦA spec0 c
  q w := Pipeline.shareOf spec0 w
  owed _ := 0

theorem arr_entry (c : Dev nD) (w : Fin cfg0.W) : (dats m 0 c).A w = V m c (Pipeline.arrRef spec0 w) := by
  dsimp only [dats]

theorem aft0 (c : Dev nD) (t : Fin cfg0.N) : (dats m 0 c).after 0 t = iblk m c 0 t := by dsimp only [dats]
theorem aft1 (c : Dev nD) (t : Fin cfg0.N) : (dats m 0 c).after 1 t = iblk m c 1 t := by dsimp only [dats]
theorem aft2 (c : Dev nD) (t : Fin cfg0.N) : (dats m 0 c).after 2 t = iblk m c 2 t := by dsimp only [dats]
theorem aft3 (c : Dev nD) (t : Fin cfg0.N) : (dats m 0 c).after 3 t = iblk m c 3 t := by dsimp only [dats]
theorem aft4 (c : Dev nD) (t : Fin cfg0.N) : (dats m 0 c).after 4 t = iblk m c 4 t := by dsimp only [dats]
theorem aft5 (c : Dev nD) (t : Fin cfg0.N) : (dats m 0 c).after 5 t = iblk m c 5 t := by dsimp only [dats]
theorem aft6 (c : Dev nD) (t : Fin cfg0.N) : (dats m 0 c).after 6 t = iblk m c 6 t := by dsimp only [dats]
theorem aft7 (c : Dev nD) (t : Fin cfg0.N) : (dats m 0 c).after 7 t = iblk m c 7 t := by dsimp only [dats]
theorem bef0 (c : Dev nD) (t : Fin cfg0.N) (d) : (dats m 0 c).before 0 t d = iblk m c 0 t :=
  before0_0_of m (dats m 0 c) (arr_entry m c 0) (aft0 m c) t d
theorem bef1 (c : Dev nD) (t : Fin cfg0.N) (d) : (dats m 0 c).before 1 t d = iblk m c 1 t :=
  before0_1_of m (dats m 0 c) (arr_entry m c 1) (aft1 m c) t d
theorem bef2 (c : Dev nD) (t : Fin cfg0.N) (d) : (dats m 0 c).before 2 t d = iblk m c 2 t :=
  before0_2_of m (dats m 0 c) (arr_entry m c 2) (aft2 m c) t d
theorem bef3 (c : Dev nD) (t : Fin cfg0.N) (d) : (dats m 0 c).before 3 t d = iblk m c 3 t :=
  before0_3_of m (dats m 0 c) (arr_entry m c 3) (aft3 m c) t d
theorem bef4 (c : Dev nD) (t : Fin cfg0.N) (d) : (dats m 0 c).before 4 t d = iblk m c 4 t :=
  before0_4_of m (dats m 0 c) (arr_entry m c 4) (aft4 m c) t d
theorem bef5 (c : Dev nD) (t : Fin cfg0.N) (d) : (dats m 0 c).before 5 t d = iblk m c 5 t :=
  before0_5_of m (dats m 0 c) (arr_entry m c 5) (aft5 m c) t d
theorem bef6 (c : Dev nD) (t : Fin cfg0.N) (d) : (dats m 0 c).before 6 t d = iblk m c 6 t :=
  before0_6_of m (dats m 0 c) (arr_entry m c 6) (aft6 m c) t d
theorem bef7 (c : Dev nD) (t : Fin cfg0.N) (d) : (dats m 0 c).before 7 t d = iblk m c 7 t :=
  before0_7_of m (dats m 0 c) (arr_entry m c 7) (aft7 m c) t d

abbrev mem0 (t : Fin cfg0.N) : Memref sig .tc .vmem S2048x256 .bf16 := win0_0.stage (cfg0.slots t 0)
abbrev whole0 (t : Fin cfg0.N) : (mem0 t).IsWhole := hstage0_0 ((cfg0.slots t 0).cast nbuf0_0)
abbrev mem1 (t : Fin cfg0.N) : Memref sig .tc .vmem S2048x256 .bf16 := win0_1.stage (cfg0.slots t 1)
abbrev whole1 (t : Fin cfg0.N) : (mem1 t).IsWhole := hstage0_1 ((cfg0.slots t 1).cast nbuf0_1)
abbrev mem2 (t : Fin cfg0.N) : Memref sig .tc .vmem S2048x256 .bf16 := win0_2.stage (cfg0.slots t 2)
abbrev whole2 (t : Fin cfg0.N) : (mem2 t).IsWhole := hstage0_2 ((cfg0.slots t 2).cast nbuf0_2)
abbrev mem3 (t : Fin cfg0.N) : Memref sig .tc .vmem S2048x256 .bf16 := win0_3.stage (cfg0.slots t 3)
abbrev whole3 (t : Fin cfg0.N) : (mem3 t).IsWhole := hstage0_3 ((cfg0.slots t 3).cast nbuf0_3)
abbrev mem4 (t : Fin cfg0.N) : Memref sig .tc .vmem S8x1x4x512 .f32 := win0_4.stage (cfg0.slots t 4)
abbrev whole4 (t : Fin cfg0.N) : (mem4 t).IsWhole := hstage0_4 ((cfg0.slots t 4).cast nbuf0_4)
abbrev mem5 (t : Fin cfg0.N) : Memref sig .tc .vmem S64x512 .f32 := win0_5.stage (cfg0.slots t 5)
abbrev whole5 (t : Fin cfg0.N) : (mem5 t).IsWhole := hstage0_5 ((cfg0.slots t 5).cast nbuf0_5)
abbrev mem6 (t : Fin cfg0.N) : Memref sig .tc .vmem S256x256 .f32 := win0_6.stage (cfg0.slots t 6)
abbrev whole6 (t : Fin cfg0.N) : (mem6 t).IsWhole := hstage0_6 ((cfg0.slots t 6).cast nbuf0_6)
abbrev mem7 (t : Fin cfg0.N) : Memref sig .tc .vmem S64x64 .f32 := win0_7.stage (cfg0.slots t 7)
abbrev whole7 (t : Fin cfg0.N) : (mem7 t).IsWhole := hstage0_7 ((cfg0.slots t 7).cast nbuf0_7)
abbrev mem8 (t : Fin cfg0.N) : Memref sig .tc .vmem S3x2048x256 .bf16 := win0_8.stage (cfg0.slots t 8)
abbrev whole8 (t : Fin cfg0.N) : (mem8 t).IsWhole := hstage0_8 ((cfg0.slots t 8).cast nbuf0_8)
abbrev mem9 (t : Fin cfg0.N) : Memref sig .tc .vmem S1x8x4x512 .f32 := win0_9.stage (cfg0.slots t 9)
abbrev whole9 (t : Fin cfg0.N) : (mem9 t).IsWhole := hstage0_9 ((cfg0.slots t 9).cast nbuf0_9)

/-- What stays with a core between points: its scratch at some contents, and the generator. -/
theorem kept_eq (c : Dev nD) : (Pipeline.ΦA spec0 c : sProp 𝕄)
    = iprop(iprop((∃ d, owns (c : Thread nD τ) (Memref.whole cc0_scratch0) fullShare d) ∗ (∃ d, owns (c : Thread nD τ) (Memref.whole cc0_scratch1) fullShare d) ∗ (∃ d, owns (c : Thread nD τ) (Memref.whole cc0_scratch2) fullShare d) ∗ (∃ d, owns (c : Thread nD τ) (Memref.whole cc0_scratch3) fullShare d)) ∗ (∃ r, prngReg c r)) := by
  unfold Pipeline.ΦA; rw [scopedRest0_eq]; simp only [owns_whole]; try rfl

def given (c : Dev nD) (t : Fin cfg0.N) : sProp 𝕄 :=
  iprop((dats m 0 c).Φ t.castSucc ∗ (dats m 0 c).owesAt () t.castSucc
    ∗ (∃ d, owns (c : Thread nD τ) (mem0 t) fullShare ((dats m 0 c).before 0 t d))
    ∗ (∃ d, owns (c : Thread nD τ) (mem1 t) fullShare ((dats m 0 c).before 1 t d))
    ∗ (∃ d, owns (c : Thread nD τ) (mem2 t) fullShare ((dats m 0 c).before 2 t d))
    ∗ (∃ d, owns (c : Thread nD τ) (mem3 t) fullShare ((dats m 0 c).before 3 t d))
    ∗ (∃ d, owns (c : Thread nD τ) (mem4 t) fullShare ((dats m 0 c).before 4 t d))
    ∗ (∃ d, owns (c : Thread nD τ) (mem5 t) fullShare ((dats m 0 c).before 5 t d))
    ∗ (∃ d, owns (c : Thread nD τ) (mem6 t) fullShare ((dats m 0 c).before 6 t d))
    ∗ (∃ d, owns (c : Thread nD τ) (mem7 t) fullShare ((dats m 0 c).before 7 t d))
    ∗ (∃ d, owns (c : Thread nD τ) (mem8 t) fullShare d)
    ∗ (∃ d, owns (c : Thread nD τ) (mem9 t) fullShare d))

def returned (c : Dev nD) (t : Fin cfg0.N) : sProp 𝕄 :=
  iprop((dats m 0 c).Φ t.succ ∗ (dats m 0 c).owesAt () t.succ
    ∗ owns (c : Thread nD τ) (mem0 t) fullShare ((dats m 0 c).after 0 t)
    ∗ owns (c : Thread nD τ) (mem1 t) fullShare ((dats m 0 c).after 1 t)
    ∗ owns (c : Thread nD τ) (mem2 t) fullShare ((dats m 0 c).after 2 t)
    ∗ owns (c : Thread nD τ) (mem3 t) fullShare ((dats m 0 c).after 3 t)
    ∗ owns (c : Thread nD τ) (mem4 t) fullShare ((dats m 0 c).after 4 t)
    ∗ owns (c : Thread nD τ) (mem5 t) fullShare ((dats m 0 c).after 5 t)
    ∗ owns (c : Thread nD τ) (mem6 t) fullShare ((dats m 0 c).after 6 t)
    ∗ owns (c : Thread nD τ) (mem7 t) fullShare ((dats m 0 c).after 7 t)
    ∗ (∃ d, owns (c : Thread nD τ) (mem8 t) fullShare d)
    ∗ (∃ d, owns (c : Thread nD τ) (mem9 t) fullShare d))

set_option maxHeartbeats 1600000 in
/-- A point of the grid: the inputs stay as they were. -/
theorem point_sound (c : Dev nD) (t : Fin cfg0.N) :
    given m c t ⊢ wp frame (wpE (defs₀ (F := F)) Variants.none c none) Set.univ (bodyAt0 t) (fun _ => returned m c t) := by
  unfold given returned bodyAt0
  simp only [bef0, bef1, bef2, bef3, bef4, bef5, bef6, bef7]
  rw [show (dats m 0 c).Φ t.succ = (dats m 0 c).Φ t.castSucc from rfl,
    show (dats m 0 c).owesAt () t.succ = (dats m 0 c).owesAt () t.castSucc from rfl,
    aft0, aft1, aft2, aft3, aft4, aft5, aft6, aft7]
  rw [show (dats m 0 c).Φ t.castSucc = Pipeline.ΦA spec0 c from rfl, kept_eq]
  iintro ⟨⟨⟨HS0, HS1, HS2, HS3⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, H8, H9⟩
  iapply (run (whole0 t) (whole1 t) (whole2 t) (whole3 t) (whole4 t) (whole5 t) (whole6 t) (whole7 t) (whole8 t) (whole9 t) (Memref.isWhole_whole cc0_scratch0) (Memref.isWhole_whole cc0_scratch1) (Memref.isWhole_whole cc0_scratch2) (Memref.isWhole_whole cc0_scratch3) c _ _ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [HS0]; · iexact HS0
  isplitl [HS1]; · iexact HS1
  isplitl [HS2]; · iexact HS2
  isplitl [HS3]; · iexact HS3
  iintro ⟨H0, H1, H2, H3, H4, H5, H6, H7, H8, H9, HS0, HS1, HS2, HS3⟩
  isplitl [HS0 HS1 HS2 HS3 Hg]
  · isplitl [HS0 HS1 HS2 HS3]
    · isplitl [HS0]; · iexact HS0
      isplitl [HS1]; · iexact HS1
      isplitl [HS2]; · iexact HS2
      iexact HS3
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact H9

theorem row_eq (t : Fin cfg0.N) : defs₀ (F := F) .tc cfg0.body (cfg0.bodyArgs t (cfg0.slots t)) = bodyAt0 t := by
  unfold defs₀; rw [Defs.onTc_tc]

theorem obligation (c : Dev nD) : BodyObligation (dats m 0 c) (defs₀ (F := F)) Variants.none () Set.univ loose := fun t => by
  rw [bigSep_W0, bigSep_W0, row_eq]
  exact triple_restated (point_sound m c t) rfl .rfl fun _ => .rfl

set_option backward.isDefEq.respectTransparency.types false in
theorem run_quiet : θ_run defs (onTc (τ := τ) (main (F := F))) (s₀ m ρ) (fun r => (Pipeline.RDat.FramePost (cfgs 0) (fun c => (dats m 0 c).toRForget loose) (V m)) r ∧ r.2.sem = fun _ => 0) :=
  Pipeline.θ_run_frame_forget_shared (Q' := _) cfgs (dats m) (0 : Fin 1) launch₀0 defs₀ Variants.none loose m ρ main
    (hbody := fun c => (obligation m c).loose) (hq := fun _ _ _ => rfl)
    (howed := fun _ _ => rfl) (V := V m) (hmain := hmain m Variants.none) (hA := arr_entry m) (hΦ := fun _ _ => rfl)

/-- The run ends, the arguments unchanged and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  (θ_run defs _ _).mono (fun r h => ⟨fun c =>
    ⟨((h.1 c).2 main_arg0 (Pipeline.mem_restRefs_of main_arg0 (by decide) (by decide))).trans (V_main_arg0 m c),
    ((h.1 c).2 main_arg1 (Pipeline.mem_restRefs_of main_arg1 (by decide) (by decide))).trans (V_main_arg1 m c),
    ((h.1 c).2 main_arg2 (Pipeline.mem_restRefs_of main_arg2 (by decide) (by decide))).trans (V_main_arg2 m c)⟩, h.2⟩) (run_quiet m ρ)

end Cert.AttBwd.Body
-- ==== Proof.AttRun.lean ====
module

public import proofs.«01_k».proof.Proof.Gen.AttBwdIdeal.Frame
public import proofs.«01_k».proof.Proof.Gen.AttBwdIdeal.Loops

/-!
The neighbourhood attention's backward kernel, run once: the body's triple with the contents of its gradient output
named (whatever the buffers held before), and nothing said of its bias rows nor of what its scratch ends with.
-/

@[expose] public section

set_option maxRecDepth 16384

noncomputable section

namespace Cert.AttBwdIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.AttBwdIdeal.Gen

variable {F : FTy → Type} [FloatOps F] [Named F]

local notation "𝕄" => MT nD τ sig Unit (Elt F) ℕ (UR sig nD τ) ℕ
local notation "Held" a => BufTy.Contents (Elt F) (View.ty (Memref.view a))

variable {arg1 : Memref sig .tc .vmem S2048x256 .bf16} (harg1 : arg1.IsWhole)
variable {arg2 : Memref sig .tc .vmem S2048x256 .bf16} (harg2 : arg2.IsWhole)
variable {arg3 : Memref sig .tc .vmem S2048x256 .bf16} (harg3 : arg3.IsWhole)
variable {arg4 : Memref sig .tc .vmem S2048x256 .bf16} (harg4 : arg4.IsWhole)
variable {arg5 : Memref sig .tc .vmem S8x1x4x512 .f32} (harg5 : arg5.IsWhole)
variable {arg6 : Memref sig .tc .vmem S64x512 .f32} (harg6 : arg6.IsWhole)
variable {arg7 : Memref sig .tc .vmem S256x256 .f32} (harg7 : arg7.IsWhole)
variable {arg8 : Memref sig .tc .vmem S64x64 .f32} (harg8 : arg8.IsWhole)
variable {arg10 : Memref sig .tc .vmem S3x2048x256 .bf16} (harg10 : arg10.IsWhole)
variable {arg11 : Memref sig .tc .vmem S1x8x4x512 .f32} (harg11 : arg11.IsWhole)
variable {arg12 : Memref sig .tc .vmem S2048x256 .f32} (harg12 : arg12.IsWhole)
variable {arg13 : Memref sig .tc .vmem S2048x256 .f32} (harg13 : arg13.IsWhole)
variable {arg14 : Memref sig .tc .vmem S8x256x512 .f32} (harg14 : arg14.IsWhole)
variable {arg15 : Memref sig .tc .vmem S8x256x512 .f32} (harg15 : arg15.IsWhole)

set_option maxHeartbeats 3200000 in
/-- The body on whole memrefs: the inputs at their blocks, the gradient output holding anything `g`, the scratch anything
    `s0 … s3`; it ends with the inputs as they were and the gradient output at the contents found here. -/
def run (c : Dev nD) (i : grid0.Coords) (x0 : Vec F S2048x256 .bf16) (x1 : Vec F S2048x256 .bf16) (x2 : Vec F S2048x256 .bf16) (x3 : Vec F S2048x256 .bf16) (x4 : Vec F S8x1x4x512 .f32) (x5 : Vec F S64x512 .f32) (x6 : Vec F S256x256 .f32) (x7 : Vec F S64x64 .f32)
    (g : Held arg10) (s0 : Held arg12) (s1 : Held arg13) (s2 : Held arg14) (s3 : Held arg15) :
    { G : Held arg10 // ∀ (E : Set ℕ) (K : PUnit → sProp 𝕄),
      iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ (arg10.view.loc (c : Thread nD τ) ↦[arg10.view.set]{fullShare} g) ∗ (∃ d, owns (c : Thread nD τ) arg11 fullShare d) ∗ (arg12.view.loc (c : Thread nD τ) ↦[arg12.view.set]{fullShare} s0) ∗ (arg13.view.loc (c : Thread nD τ) ↦[arg13.view.set]{fullShare} s1) ∗ (arg14.view.loc (c : Thread nD τ) ↦[arg14.view.set]{fullShare} s2) ∗ (arg15.view.loc (c : Thread nD τ) ↦[arg15.view.set]{fullShare} s3)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ (arg10.view.loc (c : Thread nD τ) ↦[arg10.view.set]{fullShare} G) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d)) -∗ K ⟨⟩))
      ⊢ wp frame (wpE (defs₀ (F := F)) Variants.none c none) E (cc0_att_bwd i arg1 harg1 arg2 harg2 arg3 harg3 arg4 harg4 arg5 harg5 arg6 harg6 arg7 harg7 arg8 harg8 (Memref.whole main_v28) (Memref.isWhole_whole _) arg10 harg10 arg11 harg11 arg12 harg12 arg13 harg13 arg14 harg14 arg15 harg15) K } := by
  refine ⟨?_, fun E K => ?_⟩
  case refine_2 =>
    simp only [cc0_att_bwd_eq_skeleton]; unfold cc0_att_bwd_skel
    simp only [k0_part32_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, H8, ⟨%d9, %f9, -, H9⟩, HS0, HS1, HS2, HS3, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7
    sl_exec
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexact H8
    isplitl [H9]
    · iexists _, _; isplitr; swap; · iexact H9
      ipureintro; rfl
    isplitl [HS0]
    · iexists _, _; isplitr; swap; · iexact HS0
      ipureintro; rfl
    isplitl [HS1]
    · iexists _, _; isplitr; swap; · iexact HS1
      ipureintro; rfl
    isplitl [HS2]
    · iexists _, _; isplitr; swap; · iexact HS2
      ipureintro; rfl
    iexists _, _; isplitr; swap; · iexact HS3
    ipureintro; rfl

end Cert.AttBwdIdeal.Body

end
-- ==== Proof.AttTrip.lean ====
module

public import proofs.«01_k».proof.Proof.AttRun

/-!
One trip of the kernel's loop over the query rows, as the pieces it writes: the query row's gradient, and its
contributions added to the key and value accumulators.
-/

@[expose] public section

set_option maxRecDepth 16384

noncomputable section

namespace Cert.AttBwdIdeal.Body

open Idealize.ShloMosaic Idealize.ShloMosaic.TcCoe Idealize.ShloMosaic.Tactic
open Idealize.SL.Sem
open Cert.AttBwdIdeal.Gen

variable {F : FTy → Type} [FloatOps F] [Named F]

local notation "Held" a => BufTy.Contents (Elt F) (View.ty (Memref.view a))

/-- The 64 rows of trip `k`'s query row, and the 512 rows of its key window, of what a memref holds. -/
def rows64 {e : EltTy} (a : Memref sig .tc .vmem S2048x256 e) (X : Held a) (k : Fin k0_t1_loop.trips) : Vec F S64x256 e :=
  View.readAt (Elt F) a.view (Rect.unit (s := S2048x256) (k0_off1 k) S64x256.size (k0_off1_inb k)).toLoadRect X
def rows512 {e : EltTy} (a : Memref sig .tc .vmem S2048x256 e) (X : Held a) (k : Fin k0_t1_loop.trips) : Vec F S512x256 e :=
  View.readAt (Elt F) a.view (Rect.unit (s := S2048x256) (k0_off2 k) S512x256.size (k0_off2_inb k)).toLoadRect X
/-- The bias tile of trip `k`'s row offset. -/
def tileOf (a : Memref sig .tc .vmem S8x256x512 .f32) (X : Held a) (k : Fin k0_t1_loop.trips) : Vec F S1x256x512 .f32 :=
  View.readAt (Elt F) a.view (Rect.unit (s := S8x256x512) (k0_off3 k) S1x256x512.size (k0_off3_inb k)).toLoadRect X

section
variable (v : IVec S256x256 1) (Q D : Vec F S64x256 .bf16) (K W : Vec F S512x256 .bf16) (B : Vec F S1x256x512 .f32)
/-- The trip's stored values off the rows it loads. -/
def stepV (old : Vec F S512x256 .f32) : Vec F S512x256 .f32 :=
  k0_pay10 (k0_pay4 v Q K B) (k0_pay5 v Q K B) (k0_pay6 v D) old
def stepK (old : Vec F S512x256 .f32) : Vec F S512x256 .f32 :=
  k0_pay11 (k0_pay2 v Q) (k0_pay4 v Q K B) (k0_pay5 v Q K B) (k0_pay6 v D) W old
def stepQ : Vec F S1x64x256 .bf16 :=
  k0_pay52 (k0_pay12 (k0_pay3 K) (k0_pay4 v Q K B) (k0_pay5 v Q K B) (k0_pay6 v D) W)
    (iota .tc S64x256 32 [1] iota_S64x256_d1_w32) (64#32) k0_pay13 k0_pay14 1#32 0#32
end

variable {arg1 : Memref sig .tc .vmem S2048x256 .bf16} (harg1 : arg1.IsWhole)
variable {arg2 : Memref sig .tc .vmem S2048x256 .bf16} (harg2 : arg2.IsWhole)
variable {arg3 : Memref sig .tc .vmem S2048x256 .bf16} (harg3 : arg3.IsWhole)
variable {arg4 : Memref sig .tc .vmem S2048x256 .bf16} (harg4 : arg4.IsWhole)
variable {arg5 : Memref sig .tc .vmem S8x1x4x512 .f32} (harg5 : arg5.IsWhole)
variable {arg6 : Memref sig .tc .vmem S64x512 .f32} (harg6 : arg6.IsWhole)
variable {arg7 : Memref sig .tc .vmem S256x256 .f32} (harg7 : arg7.IsWhole)
variable {arg8 : Memref sig .tc .vmem S64x64 .f32} (harg8 : arg8.IsWhole)
variable {arg10 : Memref sig .tc .vmem S3x2048x256 .bf16} (harg10 : arg10.IsWhole)
variable {arg11 : Memref sig .tc .vmem S1x8x4x512 .f32} (harg11 : arg11.IsWhole)
variable {arg12 : Memref sig .tc .vmem S2048x256 .f32} (harg12 : arg12.IsWhole)
variable {arg13 : Memref sig .tc .vmem S2048x256 .f32} (harg13 : arg13.IsWhole)
variable {arg14 : Memref sig .tc .vmem S8x256x512 .f32} (harg14 : arg14.IsWhole)
variable {arg15 : Memref sig .tc .vmem S8x256x512 .f32} (harg15 : arg15.IsWhole)
variable {arg9 : Memref sig .tc .hbm S8x128 .f32} (harg9 : arg9.IsWhole)
theorem trip_q (c : Dev nD) (i : grid0.Coords) (v3 : IVec S256x256 1) (v18 : IVec S64x512 1) (X1 : Held arg1) (X2 : Held arg2) (X3 : Held arg3) (X4 : Held arg4) (X14 : Held arg14) (k : Fin k0_t1_loop.trips) (f10 : Held arg10) (f12 : Held arg12) (f13 : Held arg13) (f15 : Held arg15) :
    (trip_k0_t1 (F := F) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 v3 v18 X1 X2 X3 X4 X14 k).1 f10 f12 f13 f15 = [⟨Rect.unit (s := S3x2048x256) (k0_off4 k) S1x64x256.size (k0_off4_inb k), stepQ v3 (rows64 arg1 X1 k) (rows64 arg4 X4 k) (rows512 arg2 X2 k) (rows512 arg3 X3 k) (tileOf arg14 X14 k)⟩] := by
  unfold trip_k0_t1; rfl
theorem trip_k (c : Dev nD) (i : grid0.Coords) (v3 : IVec S256x256 1) (v18 : IVec S64x512 1) (X1 : Held arg1) (X2 : Held arg2) (X3 : Held arg3) (X4 : Held arg4) (X14 : Held arg14) (k : Fin k0_t1_loop.trips) (f10 : Held arg10) (f12 : Held arg12) (f13 : Held arg13) (f15 : Held arg15) :
    (trip_k0_t1 (F := F) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 v3 v18 X1 X2 X3 X4 X14 k).2.1 f10 f12 f13 f15 = [⟨Rect.unit (s := S2048x256) (k0_off2 k) S512x256.size (k0_off2_inb k),
      stepK v3 (rows64 arg1 X1 k) (rows64 arg4 X4 k) (rows512 arg2 X2 k) (rows512 arg3 X3 k) (tileOf arg14 X14 k) (rows512 arg12 f12 k)⟩] := by
  unfold trip_k0_t1; rfl
theorem trip_v (c : Dev nD) (i : grid0.Coords) (v3 : IVec S256x256 1) (v18 : IVec S64x512 1) (X1 : Held arg1) (X2 : Held arg2) (X3 : Held arg3) (X4 : Held arg4) (X14 : Held arg14) (k : Fin k0_t1_loop.trips) (f10 : Held arg10) (f12 : Held arg12) (f13 : Held arg13) (f15 : Held arg15) :
    (trip_k0_t1 (F := F) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 v3 v18 X1 X2 X3 X4 X14 k).2.2.1 f10 f12 f13 f15 = [⟨Rect.unit (s := S2048x256) (k0_off2 k) S512x256.size (k0_off2_inb k),
      stepV v3 (rows64 arg1 X1 k) (rows64 arg4 X4 k) (rows512 arg2 X2 k) (tileOf arg14 X14 k) (rows512 arg13 f13 k)⟩] := by
  unfold trip_k0_t1; rfl

end Cert.AttBwdIdeal.Body

end
-- ==== Proof.AttPure.lean ====
module

public import proofs.«01_k».proof.Proof.AttTrip
public import Idealize.ShloMosaic.Lib.Pointwise

/-!
One trip of the kernel's loop, read at an index: the scores of a query row against its window of key rows, the
softmax over the window, and the row's contributions to the three gradients.
-/

@[expose] public section

set_option maxRecDepth 16384

noncomputable section

namespace Cert.AttBwdIdeal.Body

open Idealize.ShloMosaic Idealize.ShloMosaic.TcCoe Idealize.ShloMosaic.Tactic
open Idealize.SL.Sem
open Cert.AttBwdIdeal.Gen

section
variable (v : IVec S256x256 1) (Q D : Vec Ideal S64x256 .bf16) (K W : Vec Ideal S512x256 .bf16) (B : Vec Ideal S1x256x512 .f32)

/-- A row of a query block, repeated for each head of the group and kept to that head's lanes. -/
def onHead (x : Fin 64 → Fin 256 → EReal) (a l : Fin 256) : EReal :=
  Scalar.select (v (ix2 a l)) (x ⟨a.val % 64, Nat.mod_lt _ (by norm_num)⟩ l) (0 : EReal)

/-- The scaled query. -/
def qScaled (a : Fin 64) (l : Fin 256) : EReal := Q (ix2 a l) * Ideal.ofBits .bf16 0x3E00#16

theorem stack_at {α : Sort*} (f : Fin 64 → α) (a : Fin 256) :
    (if h : (a : ℕ) < 64 then f ⟨a, h⟩ else if h : (a : ℕ) - 64 < 64 then f ⟨a - 64, h⟩ else
      if h : (a : ℕ) - 64 - 64 < 64 then f ⟨a - 64 - 64, h⟩ else f ⟨a - 64 - 64 - 64, by omega⟩)
      = f ⟨a.val % 64, Nat.mod_lt _ (by norm_num)⟩ := by
  have := a.isLt
  split_ifs <;> exact congrArg f (Fin.ext (by simp only []; omega))

theorem pay2_at (a l : Fin 256) : k0_pay2 (F := Ideal) v Q (ix2 a l) = onHead v (qScaled Q) a l := by
  pointwise [k0_pay2]
  exact congrArg (fun z => Scalar.select (v (ix2 a l)) z (0 : EReal)) (stack_at (fun i => qScaled Q i l) a)

theorem pay6_at (a l : Fin 256) : k0_pay6 (F := Ideal) v D (ix2 a l) = onHead v (fun a l => D (ix2 a l)) a l := by
  pointwise [k0_pay6]
  exact congrArg (fun z => Scalar.select (v (ix2 a l)) z (0 : EReal)) (stack_at (fun i => (D (ix2 i l) : EReal)) a)

/-- The scores of one query row: its scaled query against the window's keys, and the bias. -/
def score (a : Fin 256) (j : Fin 512) : EReal :=
  (∑ l : Fin 256, onHead v (qScaled Q) a l * K (ix2 j l)) + B (ix3 0 a j)

/-- The exponentials of the scores less their largest. -/
def expo (a : Fin 256) (j : Fin 512) : EReal :=
  Ideal.exp (score v Q K B a j - Finset.univ.fold max (Ideal.ofBits .f32 0xFF800000#32) fun j => score v Q K B a j)

theorem pay4_at (a : Fin 256) (j : Fin 512) : k0_pay4 (F := Ideal) v Q K B (ix2 a j) = expo v Q K B a j := by
  have h : ∀ l, k0_pay2 (F := Ideal) v Q (ix2 a l) = onHead v (qScaled Q) a l := fun l => pay2_at v Q a l
  pointwise [k0_pay4, k0_pay3, h]
  rfl

theorem pay5_at (a : Fin 256) : k0_pay5 (F := Ideal) v Q K B (ix2 a 0) = Ideal.div 1 (∑ j, expo v Q K B a j) := by
  have h : ∀ j, k0_pay4 (F := Ideal) v Q K B (ix2 a j) = expo v Q K B a j := fun j => pay4_at v Q K B a j
  pointwise [k0_pay5, h]

/-- The softmax over the window. -/
def prob (a : Fin 256) (j : Fin 512) : EReal := expo v Q K B a j * Ideal.div 1 (∑ j, expo v Q K B a j)

theorem pay7_at (a : Fin 256) (j : Fin 512) :
    k0_pay7 (F := Ideal) (k0_pay4 v Q K B) (k0_pay5 v Q K B) (ix2 a j) = prob v Q K B a j := by
  pointwise [k0_pay7]
  exact congrArg₂ _ (pay4_at v Q K B a j) (pay5_at v Q K B a)

/-- The cotangent of the softmax. -/
def dprob (a : Fin 256) (j : Fin 512) : EReal := ∑ l : Fin 256, onHead v (fun a l => D (ix2 a l)) a l * W (ix2 j l)

/-- The cotangent of the scores. -/
def dscore (a : Fin 256) (j : Fin 512) : EReal :=
  prob v Q K B a j * (dprob v D W a j - ∑ j, dprob v D W a j * prob v Q K B a j)

theorem pay8_at (a : Fin 256) (j : Fin 512) :
    k0_pay8 (F := Ideal) (k0_pay4 v Q K B) (k0_pay5 v Q K B) (k0_pay6 v D) W (ix2 a j) = dscore v Q D K W B a j := by
  have h : ∀ j, k0_pay7 (F := Ideal) (k0_pay4 v Q K B) (k0_pay5 v Q K B) (ix2 a j) = prob v Q K B a j := fun j => pay7_at v Q K B a j
  have h6 : ∀ l, k0_pay6 (F := Ideal) v D (ix2 a l) = onHead v (fun a l => D (ix2 a l)) a l := fun l => pay6_at v D a l
  pointwise [k0_pay8, h, h6]
  rfl

theorem stepV_at (old : Vec Ideal S512x256 .f32) (j : Fin 512) (l : Fin 256) :
    stepV (F := Ideal) v Q D K B old (ix2 j l) = old (ix2 j l) + ∑ a : Fin 256, prob v Q K B a j * onHead v (fun a l => D (ix2 a l)) a l := by
  have h : ∀ a j, k0_pay7 (F := Ideal) (k0_pay4 v Q K B) (k0_pay5 v Q K B) (ix2 a j) = prob v Q K B a j := fun a j => pay7_at v Q K B a j
  have h6 : ∀ a l, k0_pay6 (F := Ideal) v D (ix2 a l) = onHead v (fun a l => D (ix2 a l)) a l := fun a l => pay6_at v D a l
  pointwise [stepV, k0_pay10, h, h6]

theorem stepK_at (old : Vec Ideal S512x256 .f32) (j : Fin 512) (l : Fin 256) :
    stepK (F := Ideal) v Q D K W B old (ix2 j l) = old (ix2 j l) + ∑ a : Fin 256, dscore v Q D K W B a j * onHead v (qScaled Q) a l := by
  have h : ∀ a j, k0_pay8 (F := Ideal) (k0_pay4 v Q K B) (k0_pay5 v Q K B) (k0_pay6 v D) W (ix2 a j) = dscore v Q D K W B a j := fun a j => pay8_at v Q D K W B a j
  have h2 : ∀ a l, k0_pay2 (F := Ideal) v Q (ix2 a l) = onHead v (qScaled Q) a l := fun a l => pay2_at v Q a l
  pointwise [stepK, k0_pay11, k0_pay9, h, h2]

theorem pay12_at (a l : Fin 256) :
    k0_pay12 (F := Ideal) (k0_pay3 K) (k0_pay4 v Q K B) (k0_pay5 v Q K B) (k0_pay6 v D) W (ix2 a l)
      = (∑ j : Fin 512, dscore v Q D K W B a j * K (ix2 j l)) * Ideal.ofBits .f32 0x3E000000#32 := by
  have h : ∀ a j, k0_pay8 (F := Ideal) (k0_pay4 v Q K B) (k0_pay5 v Q K B) (k0_pay6 v D) W (ix2 a j) = dscore v Q D K W B a j := fun a j => pay8_at v Q D K W B a j
  pointwise [k0_pay12, k0_pay9, k0_pay3, h]

/-- The head a lane belongs to, as the kernel counts it. -/
def headWord (l : Fin 256) : BitVec 32 :=
  Scalar.select
    (IntOp.andi
      (IntOp.cmpi CmpIPredicate.ne (k0_pay14 (ix2 0 l)) (Scalar.subi (1#32) (Scalar.extui (Scalar.cmpi CmpIPredicate.slt 64#32 0#32))))
      (IntOp.cmpi CmpIPredicate.ne (IntOp.remsi ArithUnit.vector (BitVec.ofNat 32 ↑l) 64#32) 0#32))
    (IntOp.subi (k0_pay13 (ix2 0 l)) 1#32) (k0_pay13 (ix2 0 l))

theorem headWord_eq : ∀ l : Fin 256, headWord l = BitVec.ofNat 32 (l.val / 64) := by decide +kernel

theorem head_pick {α : Type} (f : Fin 256 → α) (c : Fin 64) (l : Fin 256) :
    Scalar.select (IntOp.cmpi CmpIPredicate.eq (headWord l) 3#32) (f ⟨192 + c, by omega⟩)
      (Scalar.select (IntOp.cmpi CmpIPredicate.eq (headWord l) 2#32) (f ⟨128 + c, by omega⟩)
        (Scalar.select (IntOp.cmpi CmpIPredicate.eq (headWord l) 1#32) (f ⟨64 + c, by omega⟩) (f ⟨c, by omega⟩)))
      = f ⟨l.val / 64 * 64 + c.val, by have := l.isLt; have := c.isLt; omega⟩ := by
  rw [headWord_eq]
  have hl : l.val / 64 < 4 := by have := l.isLt; omega
  have key : ∀ n : ℕ, ∀ h : n < 4, l.val / 64 = n →
      f ⟨l.val / 64 * 64 + c.val, by have := l.isLt; have := c.isLt; omega⟩ = f ⟨n * 64 + c.val, by have := c.isLt; omega⟩ :=
    fun n h e => congrArg f (Fin.ext (by simp only [e]))
  have hn : l.val / 64 = 0 ∨ l.val / 64 = 1 ∨ l.val / 64 = 2 ∨ l.val / 64 = 3 := by omega
  rcases hn with h | h | h | h <;> rw [key _ (by norm_num) h, h] <;> simp [Scalar.select, IntOp.cmpi]

theorem stepQ_at (c : Fin 64) (l : Fin 256) :
    stepQ (F := Ideal) v Q D K W B (ix3 0 c l)
      = (∑ j : Fin 512, dscore v Q D K W B ⟨l.val / 64 * 64 + c.val, by have := l.isLt; have := c.isLt; omega⟩ j * K (ix2 j l)) * Ideal.ofBits .f32 0x3E000000#32 := by
  pointwise [stepQ, k0_pay52]
  refine Eq.trans ?_ (pay12_at v Q D K W B _ l)
  exact head_pick (fun a => k0_pay12 (F := Ideal) (k0_pay3 K) (k0_pay4 v Q K B) (k0_pay5 v Q K B) (k0_pay6 v D) W (ix2 a l)) c l

end
end Cert.AttBwdIdeal.Body

end
-- ==== Proof.AttLoop.lean ====
module

public import proofs.«01_k».proof.Proof.AttPure
public import Idealize.ShloMosaic.Lib.WritesUnit

/-!
The kernel's loop over the query rows, by induction on its trips: what the key and value accumulators and the query
gradient hold after every trip.
-/

@[expose] public section

set_option maxRecDepth 16384

noncomputable section

namespace Cert.AttBwdIdeal.Body

open Idealize.ShloMosaic Idealize.ShloMosaic.TcCoe Idealize.ShloMosaic.Tactic
open Idealize.SL.Sem
open Cert.AttBwdIdeal.Gen

local notation "Held" a => BufTy.Contents (Elt Ideal) (View.ty (Memref.view a))

theorem trips_eq : k0_t1_loop.trips = 32 := by decide +kernel

/-- The first key row of a query row's window. -/
abbrev rs (r : ℕ) : ℕ := min (r - 4) 24

theorem off1_eq : ∀ k : Fin k0_t1_loop.trips, k0_off1 k = ![k.val * 64, 0] := by decide +kernel
theorem off2_eq : ∀ k : Fin k0_t1_loop.trips, k0_off2 k = ![rs k.val * 64, 0] := by decide +kernel
theorem off3_eq : ∀ k : Fin k0_t1_loop.trips, k0_off3 k = ![k.val - rs k.val, 0, 0] := by decide +kernel
theorem off4_eq : ∀ k : Fin k0_t1_loop.trips, k0_off4 k = ![0, k.val * 64, 0] := by decide +kernel

theorem rs_lt (k : Fin k0_t1_loop.trips) : rs k.val ≤ 24 := Nat.min_le_right _ _
theorem k_lt (k : Fin k0_t1_loop.trips) : k.val < 32 := lt_of_lt_of_eq k.isLt trips_eq
theorem off_lt (k : Fin k0_t1_loop.trips) : k.val - rs k.val < 8 := by have := k_lt k; unfold rs; omega

theorem rows64_at {e : EltTy} (a : Memref sig .tc .vmem S2048x256 e) (X : Held a) (k : Fin k0_t1_loop.trips) (c : Fin 64) (l : Fin 256) :
    rows64 (F := Ideal) a X k (ix2 c l) = a.view.read (Elt Ideal) X (ix2 ⟨k.val * 64 + c.val, by have := k_lt k; omega⟩ l) := by
  unfold rows64
  refine congrArg (a.view.read (Elt Ideal) X) (funext fun ax => Fin.ext ?_)
  have h := congrFun (off1_eq k) ax
  match ax with
  | 0 => exact (congrArg (· + _) h).trans (by simp)
  | 1 => exact (congrArg (· + _) h).trans (by simp)

theorem rows512_at {e : EltTy} (a : Memref sig .tc .vmem S2048x256 e) (X : Held a) (k : Fin k0_t1_loop.trips) (c : Fin 512) (l : Fin 256) :
    rows512 (F := Ideal) a X k (ix2 c l) = a.view.read (Elt Ideal) X (ix2 ⟨rs k.val * 64 + c.val, by have := rs_lt k; omega⟩ l) := by
  unfold rows512
  refine congrArg (a.view.read (Elt Ideal) X) (funext fun ax => Fin.ext ?_)
  have h := congrFun (off2_eq k) ax
  match ax with
  | 0 => exact (congrArg (· + _) h).trans (by simp)
  | 1 => exact (congrArg (· + _) h).trans (by simp)

theorem tileOf_at (a : Memref sig .tc .vmem S8x256x512 .f32) (X : Held a) (k : Fin k0_t1_loop.trips) (p : Fin 256) (q : Fin 512) :
    tileOf (F := Ideal) a X k (ix3 0 p q) = a.view.read (Elt Ideal) X (ix3 ⟨k.val - rs k.val, off_lt k⟩ p q) := by
  unfold tileOf
  refine congrArg (a.view.read (Elt Ideal) X) (funext fun ax => Fin.ext ?_)
  have h := congrFun (off3_eq k) ax
  match ax with
  | 0 => exact (congrArg (· + _) h).trans (by simp)
  | 1 => exact (congrArg (· + _) h).trans (by simp)
  | 2 => exact (congrArg (· + _) h).trans (by simp)

variable {arg1 : Memref sig .tc .vmem S2048x256 .bf16} (harg1 : arg1.IsWhole)
variable {arg2 : Memref sig .tc .vmem S2048x256 .bf16} (harg2 : arg2.IsWhole)
variable {arg3 : Memref sig .tc .vmem S2048x256 .bf16} (harg3 : arg3.IsWhole)
variable {arg4 : Memref sig .tc .vmem S2048x256 .bf16} (harg4 : arg4.IsWhole)
variable {arg5 : Memref sig .tc .vmem S8x1x4x512 .f32} (harg5 : arg5.IsWhole)
variable {arg6 : Memref sig .tc .vmem S64x512 .f32} (harg6 : arg6.IsWhole)
variable {arg7 : Memref sig .tc .vmem S256x256 .f32} (harg7 : arg7.IsWhole)
variable {arg8 : Memref sig .tc .vmem S64x64 .f32} (harg8 : arg8.IsWhole)
variable {arg10 : Memref sig .tc .vmem S3x2048x256 .bf16} (harg10 : arg10.IsWhole)
variable {arg11 : Memref sig .tc .vmem S1x8x4x512 .f32} (harg11 : arg11.IsWhole)
variable {arg12 : Memref sig .tc .vmem S2048x256 .f32} (harg12 : arg12.IsWhole)
variable {arg13 : Memref sig .tc .vmem S2048x256 .f32} (harg13 : arg13.IsWhole)
variable {arg14 : Memref sig .tc .vmem S8x256x512 .f32} (harg14 : arg14.IsWhole)
variable {arg15 : Memref sig .tc .vmem S8x256x512 .f32} (harg15 : arg15.IsWhole)
variable {arg9 : Memref sig .tc .hbm S8x128 .f32} (harg9 : arg9.IsWhole)

/-- A query row's contribution to the gradient of its window's keys. -/
def dkPart (v3 : IVec S256x256 1) (v18 : IVec S64x512 1) (X1 : Held arg1) (X2 : Held arg2) (X3 : Held arg3) (X4 : Held arg4) (X14 : Held arg14) (k : Fin k0_t1_loop.trips) (j : Fin 512) (l : Fin 256) : EReal := ∑ a : Fin 256, dscore v3 (rows64 (F := Ideal) arg1 X1 k) (rows64 (F := Ideal) arg4 X4 k) (rows512 (F := Ideal) arg2 X2 k) (rows512 (F := Ideal) arg3 X3 k) (tileOf (F := Ideal) arg14 X14 k) a j * onHead v3 (qScaled (rows64 (F := Ideal) arg1 X1 k)) a l

theorem dk_succ (c : Dev nD) (i : grid0.Coords) (v3 : IVec S256x256 1) (v18 : IVec S64x512 1) (X1 : Held arg1) (X2 : Held arg2) (X3 : Held arg3) (X4 : Held arg4) (X14 : Held arg14) (G10 : Held arg10) (G12 : Held arg12) (G13 : Held arg13) (G15 : Held arg15) (k : Fin k0_t1_loop.trips) (y : Fin 2048) (l : Fin 256) :
    arg12.view.read (Elt Ideal) (arg12.view.writes (Elt Ideal) G12 (pb_k0_t1 (F := Ideal) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 v3 v18 X1 X2 X3 X4 X14 G10 G12 G13 G15 (k.val + 1)).2.1) (ix2 y l)
      = arg12.view.read (Elt Ideal) (arg12.view.writes (Elt Ideal) G12 (pb_k0_t1 (F := Ideal) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 v3 v18 X1 X2 X3 X4 X14 G10 G12 G13 G15 k.val).2.1) (ix2 y l)
        + (if h : rs k.val * 64 ≤ y.val ∧ y.val < rs k.val * 64 + 512 then dkPart v3 v18 X1 X2 X3 X4 X14 k ⟨y.val - rs k.val * 64, by omega⟩ l else 0 : EReal) := by
  rw [pb_k0_t1_succ]
  dsimp only [tripL_k0_t1]
  rw [trip_k, List.singleton_append]
  refine (View.read_writes_cons_rows arg12.view G12 (W := 512) (size := S512x256.size) (k0_off2_inb k) _ _ (ix2 y l) (off2_eq k) rfl rfl).trans ?_
  by_cases h : rs k.val * 64 ≤ y.val ∧ y.val < rs k.val * 64 + 512
  · rw [dif_pos h]
    refine (dif_pos h).trans ?_
    rw [show Rect.unitLocal (s := S2048x256) (off := ![rs k.val * 64, 0]) (size := S512x256.size) (ix2 y l) (Rect.unit_rows_mem (ix2 y l) rfl rfl h)
      = ix2 (⟨y.val - rs k.val * 64, by omega⟩ : Fin 512) l from funext fun ax => Fin.ext (by
        rw [Rect.unitLocal_val]; match ax with | 0 => rfl | 1 => rfl)]
    refine (stepK_at v3 (rows64 (F := Ideal) arg1 X1 k) (rows64 (F := Ideal) arg4 X4 k) (rows512 (F := Ideal) arg2 X2 k) (rows512 (F := Ideal) arg3 X3 k) (tileOf (F := Ideal) arg14 X14 k) _ _ l).trans ?_
    rw [rows512_at]
    refine congrArg₂ (· + ·) (congrArg (View.read (Elt Ideal) _ _) ?_) rfl
    refine funext fun ax => Fin.ext ?_
    match ax with
    | 0 => exact Nat.add_sub_of_le h.1
    | 1 => rfl
  · rw [dif_neg h, add_zero]
    exact dif_neg h

theorem dk_upto (c : Dev nD) (i : grid0.Coords) (v3 : IVec S256x256 1) (v18 : IVec S64x512 1) (X1 : Held arg1) (X2 : Held arg2) (X3 : Held arg3) (X4 : Held arg4) (X14 : Held arg14) (G10 : Held arg10) (G12 : Held arg12) (G13 : Held arg13) (G15 : Held arg15) (y : Fin 2048) (l : Fin 256) (n : ℕ) (hn : n ≤ k0_t1_loop.trips) :
    arg12.view.read (Elt Ideal) (arg12.view.writes (Elt Ideal) G12 (pb_k0_t1 (F := Ideal) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 v3 v18 X1 X2 X3 X4 X14 G10 G12 G13 G15 n).2.1) (ix2 y l)
      = arg12.view.read (Elt Ideal) G12 (ix2 y l)
        + (∑ k ∈ Finset.range n, if hk : k < k0_t1_loop.trips then (if h : rs k * 64 ≤ y.val ∧ y.val < rs k * 64 + 512 then dkPart v3 v18 X1 X2 X3 X4 X14 ⟨k, hk⟩ ⟨y.val - rs k * 64, by omega⟩ l else 0) else 0 : EReal) := by
  induction n with
  | zero => exact (add_zero (_ : EReal)).symm
  | succ n ih =>
    rw [dk_succ harg1 harg2 harg3 harg4 harg5 harg6 harg7 harg8 harg10 harg11 harg12 harg13 harg14 harg15 harg9 c i v3 v18 X1 X2 X3 X4 X14 G10 G12 G13 G15 ⟨n, hn⟩ y l, Finset.sum_range_succ, ← add_assoc, dif_pos (show n < _ from hn)]
    exact congrArg (· + _) (ih (Nat.le_of_succ_le hn))

theorem dk_total (c : Dev nD) (i : grid0.Coords) (v3 : IVec S256x256 1) (v18 : IVec S64x512 1) (X1 : Held arg1) (X2 : Held arg2) (X3 : Held arg3) (X4 : Held arg4) (X14 : Held arg14) (G10 : Held arg10) (G12 : Held arg12) (G13 : Held arg13) (G15 : Held arg15) (y : Fin 2048) (l : Fin 256) :
    arg12.view.read (Elt Ideal) (arg12.view.writes (Elt Ideal) G12 (pb_k0_t1 (F := Ideal) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 v3 v18 X1 X2 X3 X4 X14 G10 G12 G13 G15 k0_t1_loop.trips).2.1) (ix2 y l)
      = arg12.view.read (Elt Ideal) G12 (ix2 y l)
        + (∑ k : Fin k0_t1_loop.trips, if h : rs k.val * 64 ≤ y.val ∧ y.val < rs k.val * 64 + 512 then dkPart v3 v18 X1 X2 X3 X4 X14 k ⟨y.val - rs k.val * 64, by omega⟩ l else 0 : EReal) := by
  rw [dk_upto harg1 harg2 harg3 harg4 harg5 harg6 harg7 harg8 harg10 harg11 harg12 harg13 harg14 harg15 harg9 c i v3 v18 X1 X2 X3 X4 X14 G10 G12 G13 G15 y l _ le_rfl, Finset.sum_range]
  refine congrArg₂ (· + ·) rfl (Finset.sum_congr rfl fun k _ => ?_)
  rw [dif_pos k.isLt]

/-- A query row's contribution to the gradient of its window's values. -/
def dvPart (v3 : IVec S256x256 1) (v18 : IVec S64x512 1) (X1 : Held arg1) (X2 : Held arg2) (X3 : Held arg3) (X4 : Held arg4) (X14 : Held arg14) (k : Fin k0_t1_loop.trips) (j : Fin 512) (l : Fin 256) : EReal := ∑ a : Fin 256, prob v3 (rows64 (F := Ideal) arg1 X1 k) (rows512 (F := Ideal) arg2 X2 k) (tileOf (F := Ideal) arg14 X14 k) a j * onHead v3 (fun a l => rows64 (F := Ideal) arg4 X4 k (ix2 a l)) a l

theorem dv_succ (c : Dev nD) (i : grid0.Coords) (v3 : IVec S256x256 1) (v18 : IVec S64x512 1) (X1 : Held arg1) (X2 : Held arg2) (X3 : Held arg3) (X4 : Held arg4) (X14 : Held arg14) (G10 : Held arg10) (G12 : Held arg12) (G13 : Held arg13) (G15 : Held arg15) (k : Fin k0_t1_loop.trips) (y : Fin 2048) (l : Fin 256) :
    arg13.view.read (Elt Ideal) (arg13.view.writes (Elt Ideal) G13 (pb_k0_t1 (F := Ideal) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 v3 v18 X1 X2 X3 X4 X14 G10 G12 G13 G15 (k.val + 1)).2.2.1) (ix2 y l)
      = arg13.view.read (Elt Ideal) (arg13.view.writes (Elt Ideal) G13 (pb_k0_t1 (F := Ideal) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 v3 v18 X1 X2 X3 X4 X14 G10 G12 G13 G15 k.val).2.2.1) (ix2 y l)
        + (if h : rs k.val * 64 ≤ y.val ∧ y.val < rs k.val * 64 + 512 then dvPart v3 v18 X1 X2 X3 X4 X14 k ⟨y.val - rs k.val * 64, by omega⟩ l else 0 : EReal) := by
  rw [pb_k0_t1_succ]
  dsimp only [tripL_k0_t1]
  rw [trip_v, List.singleton_append]
  refine (View.read_writes_cons_rows arg13.view G13 (W := 512) (size := S512x256.size) (k0_off2_inb k) _ _ (ix2 y l) (off2_eq k) rfl rfl).trans ?_
  by_cases h : rs k.val * 64 ≤ y.val ∧ y.val < rs k.val * 64 + 512
  · rw [dif_pos h]
    refine (dif_pos h).trans ?_
    rw [show Rect.unitLocal (s := S2048x256) (off := ![rs k.val * 64, 0]) (size := S512x256.size) (ix2 y l) (Rect.unit_rows_mem (ix2 y l) rfl rfl h)
      = ix2 (⟨y.val - rs k.val * 64, by omega⟩ : Fin 512) l from funext fun ax => Fin.ext (by
        rw [Rect.unitLocal_val]; match ax with | 0 => rfl | 1 => rfl)]
    refine (stepV_at v3 (rows64 (F := Ideal) arg1 X1 k) (rows64 (F := Ideal) arg4 X4 k) (rows512 (F := Ideal) arg2 X2 k) (tileOf (F := Ideal) arg14 X14 k) _ _ l).trans ?_
    rw [rows512_at]
    refine congrArg₂ (· + ·) (congrArg (View.read (Elt Ideal) _ _) ?_) rfl
    refine funext fun ax => Fin.ext ?_
    match ax with
    | 0 => exact Nat.add_sub_of_le h.1
    | 1 => rfl
  · rw [dif_neg h, add_zero]
    exact dif_neg h

theorem dv_upto (c : Dev nD) (i : grid0.Coords) (v3 : IVec S256x256 1) (v18 : IVec S64x512 1) (X1 : Held arg1) (X2 : Held arg2) (X3 : Held arg3) (X4 : Held arg4) (X14 : Held arg14) (G10 : Held arg10) (G12 : Held arg12) (G13 : Held arg13) (G15 : Held arg15) (y : Fin 2048) (l : Fin 256) (n : ℕ) (hn : n ≤ k0_t1_loop.trips) :
    arg13.view.read (Elt Ideal) (arg13.view.writes (Elt Ideal) G13 (pb_k0_t1 (F := Ideal) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 v3 v18 X1 X2 X3 X4 X14 G10 G12 G13 G15 n).2.2.1) (ix2 y l)
      = arg13.view.read (Elt Ideal) G13 (ix2 y l)
        + (∑ k ∈ Finset.range n, if hk : k < k0_t1_loop.trips then (if h : rs k * 64 ≤ y.val ∧ y.val < rs k * 64 + 512 then dvPart v3 v18 X1 X2 X3 X4 X14 ⟨k, hk⟩ ⟨y.val - rs k * 64, by omega⟩ l else 0) else 0 : EReal) := by
  induction n with
  | zero => exact (add_zero (_ : EReal)).symm
  | succ n ih =>
    rw [dv_succ harg1 harg2 harg3 harg4 harg5 harg6 harg7 harg8 harg10 harg11 harg12 harg13 harg14 harg15 harg9 c i v3 v18 X1 X2 X3 X4 X14 G10 G12 G13 G15 ⟨n, hn⟩ y l, Finset.sum_range_succ, ← add_assoc, dif_pos (show n < _ from hn)]
    exact congrArg (· + _) (ih (Nat.le_of_succ_le hn))

theorem dv_total (c : Dev nD) (i : grid0.Coords) (v3 : IVec S256x256 1) (v18 : IVec S64x512 1) (X1 : Held arg1) (X2 : Held arg2) (X3 : Held arg3) (X4 : Held arg4) (X14 : Held arg14) (G10 : Held arg10) (G12 : Held arg12) (G13 : Held arg13) (G15 : Held arg15) (y : Fin 2048) (l : Fin 256) :
    arg13.view.read (Elt Ideal) (arg13.view.writes (Elt Ideal) G13 (pb_k0_t1 (F := Ideal) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 v3 v18 X1 X2 X3 X4 X14 G10 G12 G13 G15 k0_t1_loop.trips).2.2.1) (ix2 y l)
      = arg13.view.read (Elt Ideal) G13 (ix2 y l)
        + (∑ k : Fin k0_t1_loop.trips, if h : rs k.val * 64 ≤ y.val ∧ y.val < rs k.val * 64 + 512 then dvPart v3 v18 X1 X2 X3 X4 X14 k ⟨y.val - rs k.val * 64, by omega⟩ l else 0 : EReal) := by
  rw [dv_upto harg1 harg2 harg3 harg4 harg5 harg6 harg7 harg8 harg10 harg11 harg12 harg13 harg14 harg15 harg9 c i v3 v18 X1 X2 X3 X4 X14 G10 G12 G13 G15 y l _ le_rfl, Finset.sum_range]
  refine congrArg₂ (· + ·) rfl (Finset.sum_congr rfl fun k _ => ?_)
  rw [dif_pos k.isLt]

/-- A query row's own gradient. -/
def dqPart (v3 : IVec S256x256 1) (v18 : IVec S64x512 1) (X1 : Held arg1) (X2 : Held arg2) (X3 : Held arg3) (X4 : Held arg4) (X14 : Held arg14) (k : Fin k0_t1_loop.trips) (c : Fin 64) (l : Fin 256) : EReal :=
  (∑ j : Fin 512, dscore v3 (rows64 (F := Ideal) arg1 X1 k) (rows64 (F := Ideal) arg4 X4 k) (rows512 (F := Ideal) arg2 X2 k) (rows512 (F := Ideal) arg3 X3 k) (tileOf (F := Ideal) arg14 X14 k) ⟨l.val / 64 * 64 + c.val, by have := l.isLt; have := c.isLt; omega⟩ j * rows512 (F := Ideal) arg2 X2 k (ix2 j l)) * Ideal.ofBits .f32 0x3E000000#32

theorem dq_succ (c : Dev nD) (i : grid0.Coords) (v3 : IVec S256x256 1) (v18 : IVec S64x512 1) (X1 : Held arg1) (X2 : Held arg2) (X3 : Held arg3) (X4 : Held arg4) (X14 : Held arg14) (G10 : Held arg10) (G12 : Held arg12) (G13 : Held arg13) (G15 : Held arg15) (k : Fin k0_t1_loop.trips) (y : Fin 2048) (l : Fin 256) :
    arg10.view.read (Elt Ideal) (arg10.view.writes (Elt Ideal) G10 (pb_k0_t1 (F := Ideal) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 v3 v18 X1 X2 X3 X4 X14 G10 G12 G13 G15 (k.val + 1)).1) (ix3 0 y l)
      = if h : k.val * 64 ≤ y.val ∧ y.val < k.val * 64 + 64 then dqPart v3 v18 X1 X2 X3 X4 X14 k ⟨y.val - k.val * 64, by omega⟩ l
        else arg10.view.read (Elt Ideal) (arg10.view.writes (Elt Ideal) G10 (pb_k0_t1 (F := Ideal) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 v3 v18 X1 X2 X3 X4 X14 G10 G12 G13 G15 k.val).1) (ix3 0 y l) := by
  rw [pb_k0_t1_succ]
  dsimp only [tripL_k0_t1]
  rw [trip_q, List.singleton_append]
  by_cases h : k.val * 64 ≤ y.val ∧ y.val < k.val * 64 + 64
  · rw [dif_pos h]
    refine (View.read_writes_cons_unit_of_mem arg10.view G10 (size := S1x64x256.size) (k0_off4_inb k) _ _ (ix3 0 y l)
      (ix3 (0 : Fin 1) (⟨y.val - k.val * 64, by omega⟩ : Fin 64) l) (off4_eq k) ?_).trans (stepQ_at v3 (rows64 (F := Ideal) arg1 X1 k) (rows64 (F := Ideal) arg4 X4 k) (rows512 (F := Ideal) arg2 X2 k) (rows512 (F := Ideal) arg3 X3 k) (tileOf (F := Ideal) arg14 X14 k) _ l)
    intro ax
    match ax with
    | 0 => rfl
    | 1 => exact (Nat.add_sub_of_le h.1).symm
    | 2 => exact (Nat.zero_add _).symm
  · rw [dif_neg h]
    exact View.read_writes_cons_unit_of_not_mem arg10.view G10 (size := S1x64x256.size) (k0_off4_inb k) _ _ (ix3 0 y l) (off4_eq k) 1
      (by show y.val < k.val * 64 ∨ k.val * 64 + 64 ≤ y.val; omega)

theorem dq_upto (c : Dev nD) (i : grid0.Coords) (v3 : IVec S256x256 1) (v18 : IVec S64x512 1) (X1 : Held arg1) (X2 : Held arg2) (X3 : Held arg3) (X4 : Held arg4) (X14 : Held arg14) (G10 : Held arg10) (G12 : Held arg12) (G13 : Held arg13) (G15 : Held arg15) (k : Fin k0_t1_loop.trips) (p : Fin 64) (l : Fin 256) (n : ℕ) (hk : k.val < n) (hn : n ≤ k0_t1_loop.trips) :
    arg10.view.read (Elt Ideal) (arg10.view.writes (Elt Ideal) G10 (pb_k0_t1 (F := Ideal) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 v3 v18 X1 X2 X3 X4 X14 G10 G12 G13 G15 n).1) (ix3 0 ⟨k.val * 64 + p.val, by have := k_lt k; omega⟩ l)
      = dqPart v3 v18 X1 X2 X3 X4 X14 k p l := by
  induction n with
  | zero => exact absurd hk (Nat.not_lt_zero _)
  | succ n ih =>
    rw [dq_succ harg1 harg2 harg3 harg4 harg5 harg6 harg7 harg8 harg10 harg11 harg12 harg13 harg14 harg15 harg9 c i v3 v18 X1 X2 X3 X4 X14 G10 G12 G13 G15 ⟨n, hn⟩ _ l]
    by_cases e : k.val = n
    · subst e
      rw [dif_pos ⟨Nat.le_add_right _ _, Nat.add_lt_add_left p.isLt _⟩]
      exact congrArg (fun z => dqPart v3 v18 X1 X2 X3 X4 X14 k z l) (Fin.ext (Nat.add_sub_cancel_left _ _))
    · rw [dif_neg (by have := p.isLt; show ¬(n * 64 ≤ k.val * 64 + p.val ∧ k.val * 64 + p.val < n * 64 + 64); omega)]
      exact ih (by omega) (Nat.le_of_succ_le hn)

end Cert.AttBwdIdeal.Body

end
-- ==== Proof.AttBias.lean ====
module

public import proofs.«01_k».proof.Proof.AttLoop

/-!
The kernel's bias tiles: for every row offset and head, the bias row rotated to each query column, and negative
infinity at the keys outside the neighbourhood.
-/

@[expose] public section

set_option maxRecDepth 16384

noncomputable section

namespace Cert.AttBwdIdeal.Body

open Idealize.ShloMosaic Idealize.ShloMosaic.TcCoe Idealize.ShloMosaic.Tactic
open Idealize.SL.Sem
open Cert.AttBwdIdeal.Gen

local notation "Held" a => BufTy.Contents (Elt Ideal) (View.ty (Memref.view a))

/-- Tile stores that each miss an index on some axis, but for one that has it: the index reads that one's payload. -/
theorem read_tiles {sig : RefSig} {κ : Kind} {sp : Space} {s : Shape} {e : EltTy} {Val : EltTy → Type} {NT : ℕ}
    (v : View sig κ sp s e) (f : v.ty.Contents Val) (tsz : Fin s.rank → ℕ) (off : Fin NT → Fin s.rank → ℕ)
    (inb : ∀ i a, off i a + tsz a ≤ s.size a) (P : Fin NT → (⟨s.rank, tsz⟩ : Shape).Idx → Val e)
    (j : ℕ) (hj : j ≤ NT) (y : s.Idx) (i : Fin NT) (hi : i.val < j) (x : (⟨s.rank, tsz⟩ : Shape).Idx)
    (hx : ∀ a, (y a).val = off i a + (x a).val)
    (hdis : ∀ i' : Fin NT, i' ≠ i → ∃ ax, (y ax).val < off i' ax ∨ off i' ax + tsz ax ≤ (y ax).val) :
    v.read Val (v.writes Val f (View.tilePieces tsz off inb P j hj)) y = P i x := by
  induction j with
  | zero => exact absurd hi (Nat.not_lt_zero _)
  | succ j ih =>
    rw [View.tilePieces_succ]
    by_cases hn : (⟨j, hj⟩ : Fin NT) = i
    · subst hn
      exact View.read_writes_cons_unit_of_mem v f (inb ⟨j, hj⟩) (P ⟨j, hj⟩) _ y x rfl hx
    · obtain ⟨ax, h⟩ := hdis ⟨j, hj⟩ hn
      rw [View.read_writes_cons_unit_of_not_mem v f (inb ⟨j, hj⟩) (P ⟨j, hj⟩) _ y rfl ax h]
      exact ih (Nat.le_of_succ_le hj) (by
        have : i.val ≠ j := fun h => hn (Fin.ext h.symm)
        omega)

theorem skew_at (x : FVec Ideal S64x512 .f32) (c : Fin 64) (j : Fin 512) :
    dynamicRotate 1 497#32 (some (1, 0)) x rotates_S64x512_d1s1a0 (ix2 c j)
      = x (ix2 c ⟨(j.val + 512 - (497 + c.val) % 512) % 512, Nat.mod_lt _ (by norm_num)⟩) := by
  unfold dynamicRotate
  refine congrArg x (funext fun b => ?_)
  match b with
  | 0 => rfl
  | 1 => exact Fin.ext (by simp)

theorem pay21_at (v : IVec S64x512 1) (R : Vec Ideal S1x1x1x512 .f32) (c : Fin 64) (j : Fin 512) :
    k0_pay21 (F := Ideal) v R (ix3 0 c j)
      = Scalar.select (v (ix2 c j)) (R (ix4 0 0 0 ⟨(j.val + 512 - (497 + c.val) % 512) % 512, Nat.mod_lt _ (by norm_num)⟩)) (⊥ : EReal) := by
  pointwise [k0_pay21, skew_at]
  rfl

variable {arg5 : Memref sig .tc .vmem S8x1x4x512 .f32} (harg5 : arg5.IsWhole)
variable {arg6 : Memref sig .tc .vmem S64x512 .f32} (harg6 : arg6.IsWhole)
variable {arg14 : Memref sig .tc .vmem S8x256x512 .f32} (harg14 : arg14.IsWhole)

def biasOff (i : Fin 32) : Fin 3 → ℕ := ![i.val / 4, i.val % 4 * 64, 0]
theorem biasOff_inb : ∀ (i : Fin 32) (a : Fin 3), biasOff i a + S1x64x512.size a ≤ S8x256x512.size a := by decide
def rowOff (i : Fin 32) : Fin 4 → ℕ := ![i.val / 4, 0, i.val % 4, 0]
theorem rowOff_inb : ∀ (i : Fin 32) (a : Fin 4), rowOff i a + S1x1x1x512.size a ≤ S8x1x4x512.size a := by decide

/-- The tile stored at a row offset and head. -/
def biasTile (v : IVec S64x512 1) (x4 : Vec Ideal S8x1x4x512 .f32) (i : Fin 32) : Vec Ideal S1x64x512 .f32 :=
  k0_pay21 (F := Ideal) v (View.readAt (Elt Ideal) arg5.view (Rect.unit (s := S8x1x4x512) (rowOff i) S1x1x1x512.size (rowOff_inb i)).toLoadRect (harg5.unread x4))

theorem tiles_eq (c : Dev nD) (x4 : Vec Ideal S8x1x4x512 .f32) (x5 : Vec Ideal S64x512 .f32) :
    run.sl.HS2_32 (F := Ideal) harg5 harg6 c x4 x5
      = View.tilePieces (s := S8x256x512) S1x64x512.size biasOff biasOff_inb (fun i => biasTile harg5 (run.sl.r_1 (F := Ideal) harg6 c x5) x4 i) 32 le_rfl := by
  rfl

theorem bias_at (c : Dev nD) (x4 : Vec Ideal S8x1x4x512 .f32) (x5 : Vec Ideal S64x512 .f32) (G : Held arg14) (o : Fin 8) (a : Fin 256) (j : Fin 512) :
    arg14.view.read (Elt Ideal) (arg14.view.writes (Elt Ideal) G (run.sl.HS2_32 (F := Ideal) harg5 harg6 c x4 x5)) (ix3 o a j)
      = Scalar.select (run.sl.r_1 (F := Ideal) harg6 c x5 (ix2 ⟨a.val % 64, Nat.mod_lt _ (by norm_num)⟩ j))
          (x4 (ix4 o 0 ⟨a.val / 64, by have := a.isLt; omega⟩ ⟨(j.val + 512 - (497 + a.val % 64) % 512) % 512, Nat.mod_lt _ (by norm_num)⟩)) (⊥ : EReal) := by
  have ho := o.isLt
  have ha := a.isLt
  rw [tiles_eq]
  refine (read_tiles arg14.view G S1x64x512.size biasOff biasOff_inb _ 32 le_rfl (ix3 o a j) ⟨o.val * 4 + a.val / 64, by omega⟩ (by show _ < 32; simp only []; omega)
    (ix3 (0 : Fin 1) (⟨a.val % 64, Nat.mod_lt _ (by norm_num)⟩ : Fin 64) j) ?_ ?_).trans ?_
  · intro ax
    match ax with
    | 0 => show o.val = (o.val * 4 + a.val / 64) / 4 + 0; omega
    | 1 => show a.val = (o.val * 4 + a.val / 64) % 4 * 64 + a.val % 64; omega
    | 2 => exact (Nat.zero_add _).symm
  · intro i' hne
    have hi' : i'.val ≠ o.val * 4 + a.val / 64 := fun h => hne (Fin.ext h)
    by_cases h : i'.val / 4 = o.val
    · refine ⟨1, ?_⟩
      show a.val < i'.val % 4 * 64 ∨ i'.val % 4 * 64 + 64 ≤ a.val
      omega
    · refine ⟨0, ?_⟩
      show o.val < i'.val / 4 ∨ i'.val / 4 + 1 ≤ o.val
      omega
  · unfold biasTile
    refine (pay21_at _ _ _ j).trans ?_
    refine congrArg (fun z => Scalar.select _ z (⊥ : EReal)) ?_
    refine (congrFun (harg5.read_unread x4) _).trans (congrArg x4 (funext fun ax => Fin.ext ?_))
    match ax with
    | 0 => show (o.val * 4 + a.val / 64) / 4 + 1 * 0 = o.val; omega
    | 1 => rfl
    | 2 => show (o.val * 4 + a.val / 64) % 4 + 1 * 0 = a.val / 64; omega
    | 3 => show 0 + 1 * _ = _; simp

end Cert.AttBwdIdeal.Body

end
-- ==== Proof.AttOut.lean ====
module

public import proofs.«01_k».proof.Proof.AttBias
public import Idealize.ShloMosaic.Lib.VecWindow

/-!
What one run of the body leaves in its gradient output: the query gradient of every row, and the key and value
gradients as the sums of the rows' contributions.
-/

@[expose] public section

set_option maxRecDepth 16384

noncomputable section

namespace Cert.AttBwdIdeal.Body

open Idealize.ShloMosaic Idealize.ShloMosaic.TcCoe Idealize.ShloMosaic.Tactic
open Idealize.SL.Sem
open Cert.AttBwdIdeal.Gen

local notation "Held" a => BufTy.Contents (Elt Ideal) (View.ty (Memref.view a))

variable {arg1 : Memref sig .tc .vmem S2048x256 .bf16} (harg1 : arg1.IsWhole)
variable {arg2 : Memref sig .tc .vmem S2048x256 .bf16} (harg2 : arg2.IsWhole)
variable {arg3 : Memref sig .tc .vmem S2048x256 .bf16} (harg3 : arg3.IsWhole)
variable {arg4 : Memref sig .tc .vmem S2048x256 .bf16} (harg4 : arg4.IsWhole)
variable {arg5 : Memref sig .tc .vmem S8x1x4x512 .f32} (harg5 : arg5.IsWhole)
variable {arg6 : Memref sig .tc .vmem S64x512 .f32} (harg6 : arg6.IsWhole)
variable {arg7 : Memref sig .tc .vmem S256x256 .f32} (harg7 : arg7.IsWhole)
variable {arg8 : Memref sig .tc .vmem S64x64 .f32} (harg8 : arg8.IsWhole)
variable {arg10 : Memref sig .tc .vmem S3x2048x256 .bf16} (harg10 : arg10.IsWhole)
variable {arg11 : Memref sig .tc .vmem S1x8x4x512 .f32} (harg11 : arg11.IsWhole)
variable {arg12 : Memref sig .tc .vmem S2048x256 .f32} (harg12 : arg12.IsWhole)
variable {arg13 : Memref sig .tc .vmem S2048x256 .f32} (harg13 : arg13.IsWhole)
variable {arg14 : Memref sig .tc .vmem S8x256x512 .f32} (harg14 : arg14.IsWhole)
variable {arg15 : Memref sig .tc .vmem S8x256x512 .f32} (harg15 : arg15.IsWhole)

theorem pay54_at (w : Vec Ideal S2048x256 .f32) (y : Fin 2048) (l : Fin 256) : k0_pay54 (F := Ideal) w (ix3 0 y l) = w (ix2 y l) := by
  pointwise [k0_pay54]

theorem pay55_at (w : Vec Ideal S2048x256 .f32) (y : Fin 2048) (l : Fin 256) : k0_pay55 (F := Ideal) w (ix3 0 y l) = w (ix2 y l) := by
  pointwise [k0_pay55]

theorem out_q (c : Dev nD) (i : grid0.Coords) (x0 : Vec Ideal S2048x256 .bf16) (x1 : Vec Ideal S2048x256 .bf16) (x2 : Vec Ideal S2048x256 .bf16) (x3 : Vec Ideal S2048x256 .bf16) (x4 : Vec Ideal S8x1x4x512 .f32) (x5 : Vec Ideal S64x512 .f32) (x6 : Vec Ideal S256x256 .f32) (x7 : Vec Ideal S64x64 .f32) (g : Held arg10) (s0 : Held arg12) (s1 : Held arg13) (s2 : Held arg14) (s3 : Held arg15) (k : Fin k0_t1_loop.trips) (p : Fin 64) (l : Fin 256) :
    arg10.view.read (Elt Ideal) (run (F := Ideal) harg1 harg2 harg3 harg4 harg5 harg6 harg7 harg8 harg10 harg11 harg12 harg13 harg14 harg15 c i x0 x1 x2 x3 x4 x5 x6 x7 g s0 s1 s2 s3).1 (ix3 0 ⟨k.val * 64 + p.val, by have := k_lt k; omega⟩ l)
      = dqPart (arg1 := arg1) (arg2 := arg2) (arg3 := arg3) (arg4 := arg4) (arg14 := arg14) (run.sl.r (F := Ideal) harg7 c x6) (run.sl.r_1 (F := Ideal) harg6 c x5) (harg1.unread x0) (harg2.unread x1) (harg3.unread x2) (harg4.unread x3) (arg14.view.writes (Elt Ideal) arg14.view.junk (run.sl.HS2_32 (F := Ideal) harg5 harg6 c x4 x5)) k p l := by
  unfold run; dsimp only
  refine (View.read_writes_cons_unit_of_not_mem arg10.view _ (size := S1x2048x256.size) _ _ _ (ix3 0 _ l) rfl 0 (Or.inl (by show 0 < 2; omega))).trans ?_
  refine (View.read_writes_cons_unit_of_not_mem arg10.view _ (size := S1x2048x256.size) _ _ _ (ix3 0 _ l) rfl 0 (Or.inl (by show 0 < 1; omega))).trans ?_
  exact dq_upto harg1 harg2 harg3 harg4 harg5 harg6 harg7 harg8 harg10 harg11 harg12 harg13 harg14 harg15 (Memref.isWhole_whole main_v28) c i (run.sl.r (F := Ideal) harg7 c x6) (run.sl.r_1 (F := Ideal) harg6 c x5) (harg1.unread x0) (harg2.unread x1) (harg3.unread x2) (harg4.unread x3) (arg14.view.writes (Elt Ideal) arg14.view.junk (run.sl.HS2_32 (F := Ideal) harg5 harg6 c x4 x5)) _ _ _ _ k p l _ k.isLt le_rfl

theorem out_k (c : Dev nD) (i : grid0.Coords) (x0 : Vec Ideal S2048x256 .bf16) (x1 : Vec Ideal S2048x256 .bf16) (x2 : Vec Ideal S2048x256 .bf16) (x3 : Vec Ideal S2048x256 .bf16) (x4 : Vec Ideal S8x1x4x512 .f32) (x5 : Vec Ideal S64x512 .f32) (x6 : Vec Ideal S256x256 .f32) (x7 : Vec Ideal S64x64 .f32) (g : Held arg10) (s0 : Held arg12) (s1 : Held arg13) (s2 : Held arg14) (s3 : Held arg15) (y : Fin 2048) (l : Fin 256) :
    arg10.view.read (Elt Ideal) (run (F := Ideal) harg1 harg2 harg3 harg4 harg5 harg6 harg7 harg8 harg10 harg11 harg12 harg13 harg14 harg15 c i x0 x1 x2 x3 x4 x5 x6 x7 g s0 s1 s2 s3).1 (ix3 1 y l)
      = (∑ k : Fin k0_t1_loop.trips, if h : rs k.val * 64 ≤ y.val ∧ y.val < rs k.val * 64 + 512 then dkPart (arg1 := arg1) (arg2 := arg2) (arg3 := arg3) (arg4 := arg4) (arg14 := arg14) (run.sl.r (F := Ideal) harg7 c x6) (run.sl.r_1 (F := Ideal) harg6 c x5) (harg1.unread x0) (harg2.unread x1) (harg3.unread x2) (harg4.unread x3) (arg14.view.writes (Elt Ideal) arg14.view.junk (run.sl.HS2_32 (F := Ideal) harg5 harg6 c x4 x5)) k ⟨y.val - rs k.val * 64, by omega⟩ l else 0 : EReal) := by
  unfold run; dsimp only
  refine (View.read_writes_cons_unit_of_not_mem arg10.view _ (size := S1x2048x256.size) _ _ _ (ix3 1 _ l) rfl 0 (Or.inl (by show 1 < 2; omega))).trans ?_
  refine (View.read_writes_cons_unit_of_mem arg10.view _ (size := S1x2048x256.size) _ _ _ (ix3 1 _ l) (ix3 0 y l) rfl ?_).trans ?_
  · intro ax
    match ax with
    | 0 => rfl
    | 1 => exact (Nat.zero_add _).symm
    | 2 => exact (Nat.zero_add _).symm
  refine (pay54_at _ y l).trans ?_
  unfold run.sl.v341 View.readCov
  refine (congrFun (View.readAt_full arg12.view _ _) (ix2 y l)).trans ?_
  rw [View.writes_append]
  refine (dk_total harg1 harg2 harg3 harg4 harg5 harg6 harg7 harg8 harg10 harg11 harg12 harg13 harg14 harg15 (Memref.isWhole_whole main_v28) c i (run.sl.r (F := Ideal) harg7 c x6) (run.sl.r_1 (F := Ideal) harg6 c x5) (harg1.unread x0) (harg2.unread x1) (harg3.unread x2) (harg4.unread x3) (arg14.view.writes (Elt Ideal) arg14.view.junk (run.sl.HS2_32 (F := Ideal) harg5 harg6 c x4 x5)) _ _ _ _ y l).trans ?_
  refine (congrArg (· + _) ?_).trans (zero_add (_ : EReal))
  unfold run.sl.HS0_1
  refine (View.read_writes_cons_unit_of_mem arg12.view _ (size := S2048x256.size) _ _ _ (ix2 y l) (ix2 y l) rfl ?_).trans ?_
  · intro ax
    match ax with
    | 0 => exact (Nat.zero_add _).symm
    | 1 => exact (Nat.zero_add _).symm
  · pointwise [k0_pay16]

theorem out_v (c : Dev nD) (i : grid0.Coords) (x0 : Vec Ideal S2048x256 .bf16) (x1 : Vec Ideal S2048x256 .bf16) (x2 : Vec Ideal S2048x256 .bf16) (x3 : Vec Ideal S2048x256 .bf16) (x4 : Vec Ideal S8x1x4x512 .f32) (x5 : Vec Ideal S64x512 .f32) (x6 : Vec Ideal S256x256 .f32) (x7 : Vec Ideal S64x64 .f32) (g : Held arg10) (s0 : Held arg12) (s1 : Held arg13) (s2 : Held arg14) (s3 : Held arg15) (y : Fin 2048) (l : Fin 256) :
    arg10.view.read (Elt Ideal) (run (F := Ideal) harg1 harg2 harg3 harg4 harg5 harg6 harg7 harg8 harg10 harg11 harg12 harg13 harg14 harg15 c i x0 x1 x2 x3 x4 x5 x6 x7 g s0 s1 s2 s3).1 (ix3 2 y l)
      = (∑ k : Fin k0_t1_loop.trips, if h : rs k.val * 64 ≤ y.val ∧ y.val < rs k.val * 64 + 512 then dvPart (arg1 := arg1) (arg2 := arg2) (arg3 := arg3) (arg4 := arg4) (arg14 := arg14) (run.sl.r (F := Ideal) harg7 c x6) (run.sl.r_1 (F := Ideal) harg6 c x5) (harg1.unread x0) (harg2.unread x1) (harg3.unread x2) (harg4.unread x3) (arg14.view.writes (Elt Ideal) arg14.view.junk (run.sl.HS2_32 (F := Ideal) harg5 harg6 c x4 x5)) k ⟨y.val - rs k.val * 64, by omega⟩ l else 0 : EReal) := by
  unfold run; dsimp only
  refine (View.read_writes_cons_unit_of_mem arg10.view _ (size := S1x2048x256.size) _ _ _ (ix3 2 _ l) (ix3 0 y l) rfl ?_).trans ?_
  · intro ax
    match ax with
    | 0 => rfl
    | 1 => exact (Nat.zero_add _).symm
    | 2 => exact (Nat.zero_add _).symm
  refine (pay55_at _ y l).trans ?_
  unfold run.sl.v346 View.readCov
  refine (congrFun (View.readAt_full arg13.view _ _) (ix2 y l)).trans ?_
  rw [View.writes_append]
  refine (dv_total harg1 harg2 harg3 harg4 harg5 harg6 harg7 harg8 harg10 harg11 harg12 harg13 harg14 harg15 (Memref.isWhole_whole main_v28) c i (run.sl.r (F := Ideal) harg7 c x6) (run.sl.r_1 (F := Ideal) harg6 c x5) (harg1.unread x0) (harg2.unread x1) (harg3.unread x2) (harg4.unread x3) (arg14.view.writes (Elt Ideal) arg14.view.junk (run.sl.HS2_32 (F := Ideal) harg5 harg6 c x4 x5)) _ _ _ _ y l).trans ?_
  refine (congrArg (· + _) ?_).trans (zero_add (_ : EReal))
  unfold run.sl.HS1_1
  refine (View.read_writes_cons_unit_of_mem arg13.view _ (size := S2048x256.size) _ _ _ (ix2 y l) (ix2 y l) rfl ?_).trans ?_
  · intro ax
    match ax with
    | 0 => exact (Nat.zero_add _).symm
    | 1 => exact (Nat.zero_add _).symm
  · pointwise [k0_pay17]

end Cert.AttBwdIdeal.Body

end
-- ==== Proof.AttSpec.lean ====
module

public import proofs.«01_k».proof.Proof.AttOut

/-!
What one run of the body leaves in its gradient output, as a function of the blocks it reads.
-/

@[expose] public section

set_option maxRecDepth 16384

noncomputable section

namespace Cert.AttBwdIdeal.Body

open Idealize.ShloMosaic Idealize.ShloMosaic.TcCoe Idealize.ShloMosaic.Tactic
open Idealize.SL.Sem
open Cert.AttBwdIdeal.Gen

local notation "Held" a => BufTy.Contents (Elt Ideal) (View.ty (Memref.view a))

/-- The rows of a block a trip reads: its query row, and its window of key rows. -/
def rowsQ (x : Vec Ideal S2048x256 .bf16) (k : Fin k0_t1_loop.trips) : Vec Ideal S64x256 .bf16 := fun j => x (ix2 ⟨k.val * 64 + (j 0).val, by have := k_lt k; have : (j 0).val < 64 := (j 0).isLt; omega⟩ (j 1))
def rowsW (x : Vec Ideal S2048x256 .bf16) (k : Fin k0_t1_loop.trips) : Vec Ideal S512x256 .bf16 := fun j => x (ix2 ⟨rs k.val * 64 + (j 0).val, by have := rs_lt k; have : (j 0).val < 512 := (j 0).isLt; omega⟩ (j 1))
/-- The bias tile of a trip. -/
def tileK (v : IVec S64x512 1) (x4 : Vec Ideal S8x1x4x512 .f32) (k : Fin k0_t1_loop.trips) : Vec Ideal S1x256x512 .f32 := fun j =>
  Scalar.select (v (ix2 ⟨(j 1).val % 64, Nat.mod_lt _ (by norm_num)⟩ (j 2)))
    (x4 (ix4 ⟨k.val - rs k.val, off_lt k⟩ 0 ⟨(j 1).val / 64, by have : (j 1).val < 256 := (j 1).isLt; omega⟩ ⟨((j 2).val + 512 - (497 + (j 1).val % 64) % 512) % 512, Nat.mod_lt _ (by norm_num)⟩)) (⊥ : EReal)

section
variable (x0 x1 x2 x3 : Vec Ideal S2048x256 .bf16) (x4 : Vec Ideal S8x1x4x512 .f32) (x5 : Vec Ideal S64x512 .f32) (x6 : Vec Ideal S256x256 .f32)

def probOf (k : Fin k0_t1_loop.trips) : Fin 256 → Fin 512 → EReal := prob (k0_pay15 (F := Ideal) x6) (rowsQ x0 k) (rowsW x1 k) (tileK (k0_pay19 (F := Ideal) x5) x4 k)
def dscoreOf (k : Fin k0_t1_loop.trips) : Fin 256 → Fin 512 → EReal :=
  dscore (k0_pay15 (F := Ideal) x6) (rowsQ x0 k) (rowsQ x3 k) (rowsW x1 k) (rowsW x2 k) (tileK (k0_pay19 (F := Ideal) x5) x4 k)
def dqOf (k : Fin k0_t1_loop.trips) (p : Fin 64) (l : Fin 256) : EReal :=
  (∑ j : Fin 512, dscoreOf x0 x1 x2 x3 x4 x5 x6 k ⟨l.val / 64 * 64 + p.val, by have := l.isLt; have := p.isLt; omega⟩ j * rowsW x1 k (ix2 j l)) * Ideal.ofBits .f32 0x3E000000#32
def dkOf (k : Fin k0_t1_loop.trips) (j : Fin 512) (l : Fin 256) : EReal :=
  ∑ a : Fin 256, dscoreOf x0 x1 x2 x3 x4 x5 x6 k a j * onHead (k0_pay15 (F := Ideal) x6) (qScaled (rowsQ x0 k)) a l
def dvOf (k : Fin k0_t1_loop.trips) (j : Fin 512) (l : Fin 256) : EReal :=
  ∑ a : Fin 256, probOf x0 x1 x4 x5 x6 k a j * onHead (k0_pay15 (F := Ideal) x6) (fun a l => rowsQ x3 k (ix2 a l)) a l

/-- The gradient output of one run over these blocks. -/
def gradsAt (s : Fin 3) (y : Fin 2048) (l : Fin 256) : EReal :=
  if s = 0 then dqOf x0 x1 x2 x3 x4 x5 x6 ⟨y.val / 64, by rw [trips_eq]; omega⟩ ⟨y.val % 64, Nat.mod_lt _ (by norm_num)⟩ l
  else if s = 1 then ∑ k : Fin k0_t1_loop.trips, if h : rs k.val * 64 ≤ y.val ∧ y.val < rs k.val * 64 + 512 then dkOf x0 x1 x2 x3 x4 x5 x6 k ⟨y.val - rs k.val * 64, by omega⟩ l else 0
  else ∑ k : Fin k0_t1_loop.trips, if h : rs k.val * 64 ≤ y.val ∧ y.val < rs k.val * 64 + 512 then dvOf x0 x1 x3 x4 x5 x6 k ⟨y.val - rs k.val * 64, by omega⟩ l else 0
def grads : Vec Ideal S3x2048x256 .bf16 := fun j => gradsAt x0 x1 x2 x3 x4 x5 x6 (j 0) (j 1) (j 2)
end

variable {arg1 : Memref sig .tc .vmem S2048x256 .bf16} (harg1 : arg1.IsWhole)
variable {arg2 : Memref sig .tc .vmem S2048x256 .bf16} (harg2 : arg2.IsWhole)
variable {arg3 : Memref sig .tc .vmem S2048x256 .bf16} (harg3 : arg3.IsWhole)
variable {arg4 : Memref sig .tc .vmem S2048x256 .bf16} (harg4 : arg4.IsWhole)
variable {arg5 : Memref sig .tc .vmem S8x1x4x512 .f32} (harg5 : arg5.IsWhole)
variable {arg6 : Memref sig .tc .vmem S64x512 .f32} (harg6 : arg6.IsWhole)
variable {arg7 : Memref sig .tc .vmem S256x256 .f32} (harg7 : arg7.IsWhole)
variable {arg8 : Memref sig .tc .vmem S64x64 .f32} (harg8 : arg8.IsWhole)
variable {arg10 : Memref sig .tc .vmem S3x2048x256 .bf16} (harg10 : arg10.IsWhole)
variable {arg11 : Memref sig .tc .vmem S1x8x4x512 .f32} (harg11 : arg11.IsWhole)
variable {arg12 : Memref sig .tc .vmem S2048x256 .f32} (harg12 : arg12.IsWhole)
variable {arg13 : Memref sig .tc .vmem S2048x256 .f32} (harg13 : arg13.IsWhole)
variable {arg14 : Memref sig .tc .vmem S8x256x512 .f32} (harg14 : arg14.IsWhole)
variable {arg15 : Memref sig .tc .vmem S8x256x512 .f32} (harg15 : arg15.IsWhole)

theorem rowsQ_eq {a : Memref sig .tc .vmem S2048x256 .bf16} (ha : a.IsWhole) (x : Vec Ideal S2048x256 .bf16) (k : Fin k0_t1_loop.trips) :
    rows64 (F := Ideal) a (ha.unread x) k = rowsQ x k := by
  funext j
  rw [eq_ix2 j]
  exact (rows64_at a (ha.unread x) k (j 0) (j 1)).trans (congrFun (ha.read_unread x) _)

theorem rowsW_eq {a : Memref sig .tc .vmem S2048x256 .bf16} (ha : a.IsWhole) (x : Vec Ideal S2048x256 .bf16) (k : Fin k0_t1_loop.trips) :
    rows512 (F := Ideal) a (ha.unread x) k = rowsW x k := by
  funext j
  rw [eq_ix2 j]
  exact (rows512_at a (ha.unread x) k (j 0) (j 1)).trans (congrFun (ha.read_unread x) _)

theorem r_eq (c : Dev nD) (x6 : Vec Ideal S256x256 .f32) : run.sl.r (F := Ideal) harg7 c x6 = k0_pay15 (F := Ideal) x6 :=
  congrArg (k0_pay15 (F := Ideal)) ((View.readAt_full arg7.view _ _).trans (harg7.read_unread x6))

theorem r_1_eq (c : Dev nD) (x5 : Vec Ideal S64x512 .f32) : run.sl.r_1 (F := Ideal) harg6 c x5 = k0_pay19 (F := Ideal) x5 :=
  congrArg (k0_pay19 (F := Ideal)) ((View.readAt_full arg6.view _ _).trans (harg6.read_unread x5))

theorem tile_eq (c : Dev nD) (x4 : Vec Ideal S8x1x4x512 .f32) (x5 : Vec Ideal S64x512 .f32) (G : Held arg14) (k : Fin k0_t1_loop.trips) :
    tileOf (F := Ideal) arg14 (arg14.view.writes (Elt Ideal) G (run.sl.HS2_32 (F := Ideal) harg5 harg6 c x4 x5)) k = tileK (k0_pay19 (F := Ideal) x5) x4 k := by
  funext j
  rw [eq_ix3 j]
  have h0 : j 0 = (0 : Fin 1) := Subsingleton.elim (α := Fin 1) _ _
  rw [h0]
  refine (tileOf_at arg14 _ k (j 1) (j 2)).trans ((bias_at harg5 harg6 c x4 x5 G _ (j 1) (j 2)).trans ?_)
  rw [r_1_eq]
  rfl

theorem read_run (c : Dev nD) (i : grid0.Coords) (x0 : Vec Ideal S2048x256 .bf16) (x1 : Vec Ideal S2048x256 .bf16) (x2 : Vec Ideal S2048x256 .bf16) (x3 : Vec Ideal S2048x256 .bf16) (x4 : Vec Ideal S8x1x4x512 .f32) (x5 : Vec Ideal S64x512 .f32) (x6 : Vec Ideal S256x256 .f32) (x7 : Vec Ideal S64x64 .f32) (g : Held arg10) (s0 : Held arg12) (s1 : Held arg13) (s2 : Held arg14) (s3 : Held arg15) : arg10.view.read (Elt Ideal) (run (F := Ideal) harg1 harg2 harg3 harg4 harg5 harg6 harg7 harg8 harg10 harg11 harg12 harg13 harg14 harg15 c i x0 x1 x2 x3 x4 x5 x6 x7 g s0 s1 s2 s3).1 = grads x0 x1 x2 x3 x4 x5 x6 := by
  funext j
  rw [eq_ix3 j]
  show _ = gradsAt x0 x1 x2 x3 x4 x5 x6 (j 0) (j 1) (j 2)
  generalize j 0 = s
  generalize j 1 = y
  generalize j 2 = l
  change Fin 3 at s; change Fin 2048 at y; change Fin 256 at l
  match s with
  | 0 =>
    have hy : y = ⟨y.val / 64 * 64 + y.val % 64, by have := y.isLt; omega⟩ := Fin.ext (by simp only []; omega)
    have h := out_q harg1 harg2 harg3 harg4 harg5 harg6 harg7 harg8 harg10 harg11 harg12 harg13 harg14 harg15 c i x0 x1 x2 x3 x4 x5 x6 x7 g s0 s1 s2 s3 ⟨y.val / 64, by rw [trips_eq]; omega⟩ ⟨y.val % 64, Nat.mod_lt _ (by norm_num)⟩ l
    simp only [dqPart, rowsQ_eq, rowsW_eq, r_eq, r_1_eq, tile_eq] at h
    refine (congrArg (fun z => View.read (Elt Ideal) arg10.view _ (ix3 0 z l)) hy).trans (h.trans ?_)
    rfl
  | 1 =>
    refine (out_k harg1 harg2 harg3 harg4 harg5 harg6 harg7 harg8 harg10 harg11 harg12 harg13 harg14 harg15 c i x0 x1 x2 x3 x4 x5 x6 x7 g s0 s1 s2 s3 y l).trans ?_
    simp only [dkPart, rowsQ_eq, rowsW_eq, r_eq, r_1_eq, tile_eq]
    rfl
  | 2 =>
    refine (out_v harg1 harg2 harg3 harg4 harg5 harg6 harg7 harg8 harg10 harg11 harg12 harg13 harg14 harg15 c i x0 x1 x2 x3 x4 x5 x6 x7 g s0 s1 s2 s3 y l).trans ?_
    simp only [dvPart, rowsQ_eq, rowsW_eq, r_eq, r_1_eq, tile_eq]
    rfl

end Cert.AttBwdIdeal.Body

end
-- ==== Proof.AttFrame.lean ====
module

public import proofs.«01_k».proof.Proof.AttSpec
public import Idealize.ShloMosaic.Lib.Pipeline.ValueKit
public import Idealize.ShloMosaic.Lib.Claim

/-!
The attention's backward kernel run over its grid: each group of four heads leaves `grads` of the blocks it reads in its
block of the gradients, and leaves its bias rows at something not named here.
-/

@[expose] public section

set_option maxRecDepth 16384

noncomputable section

namespace Cert.AttBwdIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation)
open Cert.AttBwdIdeal.Gen

local notation "𝕄" => MT nD τ sig Unit (Elt Ideal) ℕ (UR sig nD τ) ℕ

variable (m : (ℓ : Loc nD τ sig) → Buf (Elt Ideal) ℓ) (ρ : Dev nD → PrngReg)

/-- The last output, the bias rows, is the one whose contents are left open. -/
def loose : Fin 10 → Bool := fun w => w.val == 9

/-- What a group's block of the gradients is left holding. -/
def left (c : Dev nD) (t : Fin cfg0.N) : Vec Ideal S3x2048x256 .bf16 :=
  grads (iblk m c 0 t) (iblk m c 1 t) (iblk m c 2 t) (iblk m c 3 t) (iblk m c 4 t) (iblk m c 5 t) (iblk m c 6 t)

/-- The pipeline's data: inputs at their blocks, the gradients at `left`, the bias rows unnamed. -/
def dats (_ : Fin 1) (c : Dev nD) : Dat τ (Elt Ideal) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => left m c t
    | ⟨9, h⟩ => Pipeline.Dat.unnamed (cfg := cfg0) ⟨9, h⟩ t
  Φ _ := Pipeline.ΦA spec0 c
  q w := Pipeline.shareOf spec0 w
  owed _ := 0

theorem arr_entry (c : Dev nD) (w : Fin cfg0.W) : (dats m 0 c).A w = V m c (Pipeline.arrRef spec0 w) := by
  dsimp only [dats]

theorem aft0 (c : Dev nD) (t : Fin cfg0.N) : (dats m 0 c).after 0 t = iblk m c 0 t := by dsimp only [dats]
theorem aft1 (c : Dev nD) (t : Fin cfg0.N) : (dats m 0 c).after 1 t = iblk m c 1 t := by dsimp only [dats]
theorem aft2 (c : Dev nD) (t : Fin cfg0.N) : (dats m 0 c).after 2 t = iblk m c 2 t := by dsimp only [dats]
theorem aft3 (c : Dev nD) (t : Fin cfg0.N) : (dats m 0 c).after 3 t = iblk m c 3 t := by dsimp only [dats]
theorem aft4 (c : Dev nD) (t : Fin cfg0.N) : (dats m 0 c).after 4 t = iblk m c 4 t := by dsimp only [dats]
theorem aft5 (c : Dev nD) (t : Fin cfg0.N) : (dats m 0 c).after 5 t = iblk m c 5 t := by dsimp only [dats]
theorem aft6 (c : Dev nD) (t : Fin cfg0.N) : (dats m 0 c).after 6 t = iblk m c 6 t := by dsimp only [dats]
theorem aft7 (c : Dev nD) (t : Fin cfg0.N) : (dats m 0 c).after 7 t = iblk m c 7 t := by dsimp only [dats]
theorem aft8 (c : Dev nD) (t : Fin cfg0.N) : (dats m 0 c).after 8 t = left m c t := by dsimp only [dats]
theorem bef0 (c : Dev nD) (t : Fin cfg0.N) (d) : (dats m 0 c).before 0 t d = iblk m c 0 t :=
  before0_0_of m (dats m 0 c) (arr_entry m c 0) (aft0 m c) t d
theorem bef1 (c : Dev nD) (t : Fin cfg0.N) (d) : (dats m 0 c).before 1 t d = iblk m c 1 t :=
  before0_1_of m (dats m 0 c) (arr_entry m c 1) (aft1 m c) t d
theorem bef2 (c : Dev nD) (t : Fin cfg0.N) (d) : (dats m 0 c).before 2 t d = iblk m c 2 t :=
  before0_2_of m (dats m 0 c) (arr_entry m c 2) (aft2 m c) t d
theorem bef3 (c : Dev nD) (t : Fin cfg0.N) (d) : (dats m 0 c).before 3 t d = iblk m c 3 t :=
  before0_3_of m (dats m 0 c) (arr_entry m c 3) (aft3 m c) t d
theorem bef4 (c : Dev nD) (t : Fin cfg0.N) (d) : (dats m 0 c).before 4 t d = iblk m c 4 t :=
  before0_4_of m (dats m 0 c) (arr_entry m c 4) (aft4 m c) t d
theorem bef5 (c : Dev nD) (t : Fin cfg0.N) (d) : (dats m 0 c).before 5 t d = iblk m c 5 t :=
  before0_5_of m (dats m 0 c) (arr_entry m c 5) (aft5 m c) t d
theorem bef6 (c : Dev nD) (t : Fin cfg0.N) (d) : (dats m 0 c).before 6 t d = iblk m c 6 t :=
  before0_6_of m (dats m 0 c) (arr_entry m c 6) (aft6 m c) t d
theorem bef7 (c : Dev nD) (t : Fin cfg0.N) (d) : (dats m 0 c).before 7 t d = iblk m c 7 t :=
  before0_7_of m (dats m 0 c) (arr_entry m c 7) (aft7 m c) t d

abbrev mem0 (t : Fin cfg0.N) : Memref sig .tc .vmem S2048x256 .bf16 := win0_0.stage (cfg0.slots t 0)
abbrev whole0 (t : Fin cfg0.N) : (mem0 t).IsWhole := hstage0_0 ((cfg0.slots t 0).cast nbuf0_0)
abbrev mem1 (t : Fin cfg0.N) : Memref sig .tc .vmem S2048x256 .bf16 := win0_1.stage (cfg0.slots t 1)
abbrev whole1 (t : Fin cfg0.N) : (mem1 t).IsWhole := hstage0_1 ((cfg0.slots t 1).cast nbuf0_1)
abbrev mem2 (t : Fin cfg0.N) : Memref sig .tc .vmem S2048x256 .bf16 := win0_2.stage (cfg0.slots t 2)
abbrev whole2 (t : Fin cfg0.N) : (mem2 t).IsWhole := hstage0_2 ((cfg0.slots t 2).cast nbuf0_2)
abbrev mem3 (t : Fin cfg0.N) : Memref sig .tc .vmem S2048x256 .bf16 := win0_3.stage (cfg0.slots t 3)
abbrev whole3 (t : Fin cfg0.N) : (mem3 t).IsWhole := hstage0_3 ((cfg0.slots t 3).cast nbuf0_3)
abbrev mem4 (t : Fin cfg0.N) : Memref sig .tc .vmem S8x1x4x512 .f32 := win0_4.stage (cfg0.slots t 4)
abbrev whole4 (t : Fin cfg0.N) : (mem4 t).IsWhole := hstage0_4 ((cfg0.slots t 4).cast nbuf0_4)
abbrev mem5 (t : Fin cfg0.N) : Memref sig .tc .vmem S64x512 .f32 := win0_5.stage (cfg0.slots t 5)
abbrev whole5 (t : Fin cfg0.N) : (mem5 t).IsWhole := hstage0_5 ((cfg0.slots t 5).cast nbuf0_5)
abbrev mem6 (t : Fin cfg0.N) : Memref sig .tc .vmem S256x256 .f32 := win0_6.stage (cfg0.slots t 6)
abbrev whole6 (t : Fin cfg0.N) : (mem6 t).IsWhole := hstage0_6 ((cfg0.slots t 6).cast nbuf0_6)
abbrev mem7 (t : Fin cfg0.N) : Memref sig .tc .vmem S64x64 .f32 := win0_7.stage (cfg0.slots t 7)
abbrev whole7 (t : Fin cfg0.N) : (mem7 t).IsWhole := hstage0_7 ((cfg0.slots t 7).cast nbuf0_7)
abbrev mem8 (t : Fin cfg0.N) : Memref sig .tc .vmem S3x2048x256 .bf16 := win0_8.stage (cfg0.slots t 8)
abbrev whole8 (t : Fin cfg0.N) : (mem8 t).IsWhole := hstage0_8 ((cfg0.slots t 8).cast nbuf0_8)
abbrev mem9 (t : Fin cfg0.N) : Memref sig .tc .vmem S1x8x4x512 .f32 := win0_9.stage (cfg0.slots t 9)
abbrev whole9 (t : Fin cfg0.N) : (mem9 t).IsWhole := hstage0_9 ((cfg0.slots t 9).cast nbuf0_9)

/-- A buffer held at some contents, its points-to laid open. -/
theorem opened (c : Dev nD) {sp : Space} {sh : Shape} {e : EltTy} (b : Memref sig .tc sp sh e) :
    iprop(∃ d, owns (c : Thread nD τ) b fullShare d) ⊢ (iprop(∃ f, b.view.loc (c : Thread nD τ) ↦[b.view.set]{fullShare} f) : sProp 𝕄) := by
  unfold owns; iintro ⟨%d, %f, -, H⟩; iexists f; iexact H

/-- What stays with a core between points: its scratch at some contents, and the generator. -/
theorem kept_eq (c : Dev nD) : (Pipeline.ΦA spec0 c : sProp 𝕄)
    = iprop(iprop((∃ d, owns (c : Thread nD τ) (Memref.whole cc0_scratch0) fullShare d) ∗ (∃ d, owns (c : Thread nD τ) (Memref.whole cc0_scratch1) fullShare d) ∗ (∃ d, owns (c : Thread nD τ) (Memref.whole cc0_scratch2) fullShare d) ∗ (∃ d, owns (c : Thread nD τ) (Memref.whole cc0_scratch3) fullShare d)) ∗ (∃ r, prngReg c r)) := by
  unfold Pipeline.ΦA; rw [scopedRest0_eq]; simp only [owns_whole]; try rfl

def given (c : Dev nD) (t : Fin cfg0.N) : sProp 𝕄 :=
  iprop((dats m 0 c).Φ t.castSucc ∗ (dats m 0 c).owesAt () t.castSucc
    ∗ (∃ d, owns (c : Thread nD τ) (mem0 t) fullShare ((dats m 0 c).before 0 t d))
    ∗ (∃ d, owns (c : Thread nD τ) (mem1 t) fullShare ((dats m 0 c).before 1 t d))
    ∗ (∃ d, owns (c : Thread nD τ) (mem2 t) fullShare ((dats m 0 c).before 2 t d))
    ∗ (∃ d, owns (c : Thread nD τ) (mem3 t) fullShare ((dats m 0 c).before 3 t d))
    ∗ (∃ d, owns (c : Thread nD τ) (mem4 t) fullShare ((dats m 0 c).before 4 t d))
    ∗ (∃ d, owns (c : Thread nD τ) (mem5 t) fullShare ((dats m 0 c).before 5 t d))
    ∗ (∃ d, owns (c : Thread nD τ) (mem6 t) fullShare ((dats m 0 c).before 6 t d))
    ∗ (∃ d, owns (c : Thread nD τ) (mem7 t) fullShare ((dats m 0 c).before 7 t d))
    ∗ (∃ d, owns (c : Thread nD τ) (mem8 t) fullShare ((dats m 0 c).before 8 t d))
    ∗ (∃ d, owns (c : Thread nD τ) (mem9 t) fullShare d))

def returned (c : Dev nD) (t : Fin cfg0.N) : sProp 𝕄 :=
  iprop((dats m 0 c).Φ t.succ ∗ (dats m 0 c).owesAt () t.succ
    ∗ owns (c : Thread nD τ) (mem0 t) fullShare ((dats m 0 c).after 0 t)
    ∗ owns (c : Thread nD τ) (mem1 t) fullShare ((dats m 0 c).after 1 t)
    ∗ owns (c : Thread nD τ) (mem2 t) fullShare ((dats m 0 c).after 2 t)
    ∗ owns (c : Thread nD τ) (mem3 t) fullShare ((dats m 0 c).after 3 t)
    ∗ owns (c : Thread nD τ) (mem4 t) fullShare ((dats m 0 c).after 4 t)
    ∗ owns (c : Thread nD τ) (mem5 t) fullShare ((dats m 0 c).after 5 t)
    ∗ owns (c : Thread nD τ) (mem6 t) fullShare ((dats m 0 c).after 6 t)
    ∗ owns (c : Thread nD τ) (mem7 t) fullShare ((dats m 0 c).after 7 t)
    ∗ owns (c : Thread nD τ) (mem8 t) fullShare ((dats m 0 c).after 8 t)
    ∗ (∃ d, owns (c : Thread nD τ) (mem9 t) fullShare d))

set_option maxHeartbeats 1600000 in
/-- A point of the grid: the blocks in, the gradients out. -/
theorem point_sound (c : Dev nD) (t : Fin cfg0.N) :
    given m c t ⊢ wp frame (wpE (defs₀ (F := Ideal)) Variants.none c none) Set.univ (bodyAt0 t) (fun _ => returned m c t) := by
  unfold given returned bodyAt0
  simp only [bef0, bef1, bef2, bef3, bef4, bef5, bef6, bef7]
  rw [show (dats m 0 c).Φ t.succ = (dats m 0 c).Φ t.castSucc from rfl,
    show (dats m 0 c).owesAt () t.succ = (dats m 0 c).owesAt () t.castSucc from rfl,
    aft0, aft1, aft2, aft3, aft4, aft5, aft6, aft7, aft8]
  rw [show (dats m 0 c).Φ t.castSucc = Pipeline.ΦA spec0 c from rfl, kept_eq]
  iintro ⟨⟨⟨HS0, HS1, HS2, HS3⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  ihave H8 := (opened c (mem8 t)) $$ [H8]
  · iexists _; iexact H8
  icases H8 with ⟨%f8, H8⟩
  ihave HS0 := (opened c (Memref.whole cc0_scratch0)) $$ HS0
  icases HS0 with ⟨%f0, HS0⟩
  ihave HS1 := (opened c (Memref.whole cc0_scratch1)) $$ HS1
  icases HS1 with ⟨%f1, HS1⟩
  ihave HS2 := (opened c (Memref.whole cc0_scratch2)) $$ HS2
  icases HS2 with ⟨%f2, HS2⟩
  ihave HS3 := (opened c (Memref.whole cc0_scratch3)) $$ HS3
  icases HS3 with ⟨%f3, HS3⟩
  iapply ((run (F := Ideal) (whole0 t) (whole1 t) (whole2 t) (whole3 t) (whole4 t) (whole5 t) (whole6 t) (whole7 t) (whole8 t) (whole9 t) (Memref.isWhole_whole cc0_scratch0) (Memref.isWhole_whole cc0_scratch1) (Memref.isWhole_whole cc0_scratch2) (Memref.isWhole_whole cc0_scratch3) c (grid0.coords t) (iblk m c 0 t) (iblk m c 1 t) (iblk m c 2 t) (iblk m c 3 t) (iblk m c 4 t) (iblk m c 5 t) (iblk m c 6 t) (iblk m c 7 t) f8 f0 f1 f2 f3).2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexists _; iexact H9
  isplitl [HS0]; · iexact HS0
  isplitl [HS1]; · iexact HS1
  isplitl [HS2]; · iexact HS2
  isplitl [HS3]; · iexact HS3
  iintro ⟨H0, H1, H2, H3, H4, H5, H6, H7, H8, H9, HS0, HS1, HS2, HS3⟩
  isplitl [HS0 HS1 HS2 HS3 Hg]
  · isplitl [HS0 HS1 HS2 HS3]
    · isplitl [HS0]; · iexact HS0
      isplitl [HS1]; · iexact HS1
      isplitl [HS2]; · iexact HS2
      iexact HS3
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]
  · unfold owns; iexists _; isplitr
    · ipureintro
      exact read_run (whole0 t) (whole1 t) (whole2 t) (whole3 t) (whole4 t) (whole5 t) (whole6 t) (whole7 t) (whole8 t) (whole9 t) (Memref.isWhole_whole cc0_scratch0) (Memref.isWhole_whole cc0_scratch1) (Memref.isWhole_whole cc0_scratch2) (Memref.isWhole_whole cc0_scratch3) c (grid0.coords t) (iblk m c 0 t) (iblk m c 1 t) (iblk m c 2 t) (iblk m c 3 t) (iblk m c 4 t) (iblk m c 5 t) (iblk m c 6 t) (iblk m c 7 t) f8 f0 f1 f2 f3
    iexact H8
  iexact H9

theorem row_eq (t : Fin cfg0.N) : defs₀ (F := Ideal) .tc cfg0.body (cfg0.bodyArgs t (cfg0.slots t)) = bodyAt0 t := by
  unfold defs₀; rw [Defs.onTc_tc]

theorem obligation (c : Dev nD) : BodyObligation (dats m 0 c) (defs₀ (F := Ideal)) Variants.none () Set.univ loose := fun t => by
  rw [bigSep_W0, bigSep_W0, row_eq]
  exact triple_restated (point_sound m c t) rfl .rfl fun _ => .rfl

set_option backward.isDefEq.respectTransparency.types false in
theorem run_quiet : θ_run defs (onTc (τ := τ) (main (F := Ideal))) (s₀ m ρ) (fun r => (Pipeline.RDat.FramePost (cfgs 0) (fun c => (dats m 0 c).toRForget loose) (V m)) r ∧ r.2.sem = fun _ => 0) :=
  Pipeline.θ_run_frame_forget_shared (Q' := _) cfgs (dats m) (0 : Fin 1) launch₀0 defs₀ Variants.none loose m ρ main
    (hbody := fun c => (obligation m c).loose) (hq := fun _ _ _ => rfl)
    (howed := fun _ _ => rfl) (V := V m) (hmain := hmain m Variants.none) (hA := arr_entry m) (hΦ := fun _ _ => rfl)

/-- The arguments end as they were, and the gradients' array ends at the blocks written into it. -/
theorem run_arr : θ_run defs (onTc (τ := τ) (main (F := Ideal))) (s₀ m ρ) (fun r => ∀ c : Dev nD,
      (r.2.mem (((cfgs 0).spec 8).arr.view.loc (c.tc : Thread nD τ)) = (dats m 0 c).arrAt 8 cfg0.N)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun r h c => ⟨(Pipeline.Dat.toRForget_arrAt_iff (dat := dats m 0 c) (fgt := loose) (w := 8) rfl _ _).mp ((h.1 c).1 8),
    ((h.1 c).2 main_arg0 (Pipeline.mem_restRefs_of main_arg0 (by decide) (by decide))).trans (V_main_arg0 m c),
    ((h.1 c).2 main_arg1 (Pipeline.mem_restRefs_of main_arg1 (by decide) (by decide))).trans (V_main_arg1 m c),
    ((h.1 c).2 main_arg2 (Pipeline.mem_restRefs_of main_arg2 (by decide) (by decide))).trans (V_main_arg2 m c)⟩) (run_quiet m ρ)

/-- The run ends, the arguments unchanged and every counter at zero. -/
theorem frame : θ_run defs (onTc (τ := τ) (main (F := Ideal))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  θ_run_and ((θ_run defs _ _).mono (fun _ h c => (h c).2) (run_arr m ρ)) ((θ_run defs _ _).mono (fun _ h => h.2) (run_quiet m ρ))

end Cert.AttBwdIdeal.Body
-- ==== Proof.AttMath.lean ====
module

public import Idealize.ShloMosaic.Lib.IdealHost
public import Mathlib.Data.Finset.Fold
public import Idealize.ShloMosaic.PureOps.Ideal.Laws

/-!
Neighbourhood attention over a grid of 32 rows and 64 columns, one head of it, and its gradients, in plain terms: a query
in row `r`, column `c` attends the rows `top r … top r + 7` and, of those, the columns `near c` says.
-/

@[expose] public section

noncomputable section

namespace Cert.Att

open Idealize.ShloMosaic

/-- The first row a query's window holds. -/
abbrev top (r : ℕ) : ℕ := min (r - 4) 24
/-- The first column a query's window holds. -/
abbrev west (c : ℕ) : ℕ := min (c - 8) 48
/-- The first column a block of sixteen queries gathers. -/
abbrev edge (n : ℕ) : ℕ := min (16 * n - 8) 32
/-- The columns a query attends. -/
abbrev near (c x : ℕ) : Prop := west c ≤ x ∧ x < west c + 16

/-- An eighth, the scores' scale. -/
abbrev scale : EReal := Ideal.ofBits .f32 0x3E000000#32

theorem scale_coe : scale = ((1 / 8 : ℝ) : EReal) := by
  simp [scale, Ideal.ofBits, Ideal.ieee]; rw [← EReal.coe_mul]; norm_num

theorem scale_bf16 : Ideal.ofBits .bf16 0x3E00#16 = scale := by
  rw [scale_coe]; simp [Ideal.ofBits, Ideal.ieee]; rw [← EReal.coe_mul]; norm_num

theorem floor_bits : Ideal.ofBits .f32 0xFF800000#32 = ⊥ := by
  simp [Ideal.ofBits, Ideal.ieee]

/-- One head: queries, keys, values and cotangent by row, column and channel, and the bias by offset. -/
structure Head where
  q : ℕ → ℕ → ℕ → EReal
  k : ℕ → ℕ → ℕ → EReal
  v : ℕ → ℕ → ℕ → EReal
  o : ℕ → ℕ → ℕ → EReal
  b : ℕ → ℕ → EReal

namespace Head
variable (H : Head)

def dot (r c i x : ℕ) : EReal := ∑ d : Fin 64, (H.q r c d.val * scale) * H.k (top r + i) x d.val
def S (r c i x : ℕ) : EReal := if near c x then H.dot r c i x + H.b (i + top r + 7 - r) (x + 15 - c) else ⊥
def M (r c : ℕ) : EReal := Finset.univ.fold max ⊥ fun j : Fin 512 => H.S r c (j.val / 64) (j.val % 64)
def E (r c i x : ℕ) : EReal := Ideal.exp (H.S r c i x - H.M r c)
def L (r c : ℕ) : EReal := ∑ j : Fin 512, H.E r c (j.val / 64) (j.val % 64)
def P (r c i x : ℕ) : EReal := H.E r c i x * Ideal.div 1 (H.L r c)
def DP (r c i x : ℕ) : EReal := ∑ d : Fin 64, H.o r c d.val * H.v (top r + i) x d.val
def Tot (r c : ℕ) : EReal := ∑ j : Fin 512, H.DP r c (j.val / 64) (j.val % 64) * H.P r c (j.val / 64) (j.val % 64)
def DS (r c i x : ℕ) : EReal := H.P r c i x * (H.DP r c i x - H.Tot r c)

/-- The gradients of the queries, the keys and the values. -/
def gq (r c d : ℕ) : EReal := (∑ j : Fin 512, H.DS r c (j.val / 64) (j.val % 64) * H.k (top r + j.val / 64) (j.val % 64) d) * scale
def gk (y x d : ℕ) : EReal := ∑ r : Fin 32, if top r.val ≤ y ∧ y < top r.val + 8 then ∑ c : Fin 64, H.DS r.val c.val (y - top r.val) x * (H.q r.val c.val d * scale) else 0
def gv (y x d : ℕ) : EReal := ∑ r : Fin 32, if top r.val ≤ y ∧ y < top r.val + 8 then ∑ c : Fin 64, H.P r.val c.val (y - top r.val) x * H.o r.val c.val d else 0

theorem S_far {r c i x : ℕ} (h : ¬ near c x) : H.S r c i x = ⊥ := if_neg h

theorem E_far {r c i x : ℕ} (h : ¬ near c x) : H.E r c i x = 0 := by
  unfold E; rw [H.S_far h, EReal.bot_sub]; rfl

theorem P_far {r c i x : ℕ} (h : ¬ near c x) : H.P r c i x = 0 := by
  unfold P; rw [H.E_far h, zero_mul]

theorem DS_far {r c i x : ℕ} (h : ¬ near c x) : H.DS r c i x = 0 := by
  unfold DS; rw [H.P_far h, zero_mul]

/-- Whatever vanishes away from the window sums the same over the columns a block gathers. -/
theorem sum_window {c : ℕ} (hc : c < 64) (f : ℕ → ℕ → EReal) (hf : ∀ i x, ¬ near c x → f i x = 0) :
    ∑ j : Fin 512, f (j.val / 64) (j.val % 64) = ∑ i : Fin 8, ∑ k : Fin 32, f i.val (edge (c / 16) + k.val) := by
  rw [← Finset.sum_product']
  refine (Finset.sum_of_injOn (fun p : Fin 8 × Fin 32 => (⟨p.1.val * 64 + (edge (c / 16) + p.2.val), by have := p.1.isLt; have := p.2.isLt; unfold edge; omega⟩ : Fin 512)) ?_ ?_ ?_ ?_).symm
  · rintro ⟨a, b⟩ - ⟨a', b'⟩ - h
    have h := congrArg Fin.val h
    have := a.isLt; have := a'.isLt; have := b.isLt; have := b'.isLt
    simp only [] at h
    have e1 : a = a' := Fin.ext (by unfold edge at h; omega)
    have e2 : b = b' := Fin.ext (by unfold edge at h; omega)
    rw [e1, e2]
  · intro _ _; exact Finset.mem_coe.mpr (Finset.mem_univ _)
  · intro j _ hj
    apply hf
    intro hn
    apply hj
    have := j.isLt
    unfold near west at hn
    have hk : j.val % 64 - edge (c / 16) < 32 := by unfold edge; omega
    refine ⟨(⟨j.val / 64, by omega⟩, ⟨j.val % 64 - edge (c / 16), hk⟩), by simp, Fin.ext ?_⟩
    simp only []
    unfold edge; omega
  · rintro ⟨a, b⟩ -
    have := a.isLt; have := b.isLt
    simp only []
    have e1 : (a.val * 64 + (edge (c / 16) + b.val)) / 64 = a.val := by unfold edge; omega
    have e2 : (a.val * 64 + (edge (c / 16) + b.val)) % 64 = edge (c / 16) + b.val := by unfold edge; omega
    rw [e1, e2]

/-- What a sum over the query's columns is, block of sixteen by block. -/
theorem sum_cols (f : ℕ → EReal) : ∑ c : Fin 64, f c.val = ∑ n : Fin 4, ∑ cc : Fin 16, f (n.val * 16 + cc.val) := by
  rw [← Finset.sum_product']
  refine (Finset.sum_of_injOn (fun p : Fin 4 × Fin 16 => (⟨p.1.val * 16 + p.2.val, by have := p.1.isLt; have := p.2.isLt; omega⟩ : Fin 64)) ?_ ?_ ?_ ?_).symm
  · rintro ⟨a, b⟩ - ⟨a', b'⟩ - h
    have h := congrArg Fin.val h
    have := a.isLt; have := a'.isLt; have := b.isLt; have := b'.isLt
    simp only [] at h
    have e1 : a = a' := Fin.ext (by omega)
    have e2 : b = b' := Fin.ext (by omega)
    rw [e1, e2]
  · intro _ _; exact Finset.mem_coe.mpr (Finset.mem_univ _)
  · intro j _ hj
    exact absurd ⟨(⟨j.val / 16, by have := j.isLt; omega⟩, ⟨j.val % 16, by omega⟩), by simp, Fin.ext (by simp only []; omega)⟩ hj
  · rintro ⟨a, b⟩ -; rfl

/-- A real factor that is not negative comes out of a sum. -/
theorem sum_mul_real {ι : Type} (s : Finset ι) (f : ι → EReal) {a : ℝ} (ha : 0 ≤ a) : (∑ i ∈ s, f i) * (a : EReal) = ∑ i ∈ s, f i * (a : EReal) := by
  classical
  induction s using Finset.induction_on with
  | empty => simp
  | insert i s hi ih =>
    rw [Finset.sum_insert hi, Finset.sum_insert hi, ← ih, mul_comm, EReal.left_distrib_of_nonneg_of_ne_top (by exact_mod_cast ha) (EReal.coe_ne_top a),
      mul_comm _ (f i), mul_comm (a : EReal) (∑ x ∈ s, f x)]

/-- The scores' cotangent as differentiation writes it is the one in terms of the probabilities. -/
theorem cotangent {ι : Type} [Fintype ι] (dp e : ι → EReal) {L : EReal} {l : ℝ} (hl : 0 < l) (hL : L = l) (x y : EReal) :
    (Ideal.div x L + -(∑ i, dp i * Ideal.div 1 (L * L) * e i)) * y
      = (y * Ideal.div 1 L) * (x - ∑ i, dp i * (e i * Ideal.div 1 L)) := by
  have h0 : L ≠ 0 := by rw [hL]; exact_mod_cast hl.ne'
  have h1 : L * L ≠ 0 := by rw [hL, ← EReal.coe_mul]; exact_mod_cast (mul_pos hl hl).ne'
  have i1 : Ideal.div 1 L = ((l⁻¹ : ℝ) : EReal) := by
    unfold Ideal.div; rw [if_neg h0, one_mul, hL, EReal.coe_inv]
  have i2 : Ideal.div 1 (L * L) = ((l⁻¹ : ℝ) : EReal) * ((l⁻¹ : ℝ) : EReal) := by
    unfold Ideal.div; rw [if_neg h1, one_mul, hL, ← EReal.coe_mul, ← EReal.coe_inv, ← EReal.coe_mul, mul_inv]
  have i3 : Ideal.div x L = x * ((l⁻¹ : ℝ) : EReal) := by
    unfold Ideal.div; rw [if_neg h0, hL, EReal.coe_inv]
  have hp : (0 : ℝ) ≤ l⁻¹ := (inv_pos.mpr hl).le
  have s : ∑ i, dp i * Ideal.div 1 (L * L) * e i = (∑ i, dp i * (e i * Ideal.div 1 L)) * ((l⁻¹ : ℝ) : EReal) := by
    rw [sum_mul_real _ _ hp]
    refine Finset.sum_congr rfl fun i _ => ?_
    rw [i1, i2]
    ac_rfl
  rw [s, i3, i1, ← EReal.neg_mul, mul_comm x, mul_comm (-_), ← EReal.left_distrib_of_nonneg_of_ne_top (by exact_mod_cast hp) (EReal.coe_ne_top _), sub_eq_add_neg]
  ac_rfl

/-- The head's queries, keys and biases are real numbers. -/
def Real' : Prop := (∀ r c d, ∃ a : ℝ, H.q r c d = a) ∧ (∀ r c d, ∃ a : ℝ, H.k r c d = a) ∧ ∀ i j, ∃ a : ℝ, H.b i j = a

theorem coe_sum {ι : Type} (s : Finset ι) (g : ι → ℝ) : ((∑ i ∈ s, g i : ℝ) : EReal) = ∑ i ∈ s, (g i : EReal) := by
  classical
  induction s using Finset.induction_on with
  | empty => simp
  | insert i s hi ih => rw [Finset.sum_insert hi, Finset.sum_insert hi, EReal.coe_add, ih]

theorem sum_real {ι : Type} (s : Finset ι) (f : ι → EReal) (hf : ∀ i, ∃ a : ℝ, f i = a) : ∃ a : ℝ, ∑ i ∈ s, f i = a := by
  choose g hg using hf
  exact ⟨∑ i ∈ s, g i, by rw [coe_sum]; exact Finset.sum_congr rfl fun i _ => hg i⟩

variable {H}

theorem S_real (h : H.Real') {r c i x : ℕ} (hn : near c x) : ∃ a : ℝ, H.S r c i x = a := by
  obtain ⟨hq, hk, hb⟩ := h
  have hd : ∃ a : ℝ, H.dot r c i x = a := sum_real _ _ fun d => by
    obtain ⟨a, ha⟩ := hq r c d.val
    obtain ⟨b, hb⟩ := hk (top r + i) x d.val
    exact ⟨a * (1 / 8) * b, by rw [ha, hb, scale_coe, ← EReal.coe_mul, ← EReal.coe_mul]⟩
  obtain ⟨a, ha⟩ := hd
  obtain ⟨b, hb⟩ := hb (i + top r + 7 - r) (x + 15 - c)
  exact ⟨a + b, by unfold S; rw [if_pos hn, ha, hb, EReal.coe_add]⟩

theorem S_lt_top (h : H.Real') (r c i x : ℕ) : H.S r c i x < ⊤ := by
  by_cases hn : near c x
  · obtain ⟨a, ha⟩ := S_real h (r := r) (i := i) hn; rw [ha]; exact EReal.coe_lt_top a
  · rw [H.S_far hn]; exact bot_lt_top

theorem near_self {c : ℕ} (hc : c < 64) : near c c := by unfold near west; omega

theorem M_real (h : H.Real') (r : ℕ) {c : ℕ} (hc : c < 64) : ∃ a : ℝ, H.M r c = a := by
  have h1 : H.M r c < ⊤ := (Finset.fold_max_lt (β := EReal) _).mpr ⟨bot_lt_top, fun j _ => S_lt_top h _ _ _ _⟩
  have h2 : ⊥ < H.M r c := by
    obtain ⟨a, ha⟩ := S_real h (r := r) (i := 0) (near_self hc)
    refine (Finset.lt_fold_max (β := EReal) _).mpr (Or.inr ⟨⟨c, by omega⟩, Finset.mem_univ _, ?_⟩)
    simp only []
    rw [Nat.div_eq_of_lt hc, Nat.mod_eq_of_lt hc, ha]
    exact EReal.bot_lt_coe a
  exact ⟨(H.M r c).toReal, (EReal.coe_toReal h1.ne h2.ne').symm⟩

theorem E_real (h : H.Real') (r : ℕ) {c : ℕ} (hc : c < 64) (i x : ℕ) : ∃ a : ℝ, 0 ≤ a ∧ H.E r c i x = a := by
  by_cases hn : near c x
  · obtain ⟨a, ha⟩ := S_real h (r := r) (i := i) hn
    obtain ⟨b, hb⟩ := M_real h r hc
    exact ⟨Real.exp (a - b), (Real.exp_pos _).le, by unfold E; rw [ha, hb, ← EReal.coe_sub]; rfl⟩
  · exact ⟨0, le_rfl, by rw [H.E_far hn]; rfl⟩

theorem L_real (h : H.Real') (r : ℕ) {c : ℕ} (hc : c < 64) : ∃ l : ℝ, 0 < l ∧ H.L r c = l := by
  choose g hg0 hg using fun j : Fin 512 => E_real h r hc (j.val / 64) (j.val % 64)
  refine ⟨∑ j, g j, ?_, ?_⟩
  · refine Finset.sum_pos' (fun j _ => hg0 j) ⟨⟨c, by omega⟩, Finset.mem_univ _, ?_⟩
    have hc' := hg ⟨c, by omega⟩
    simp only [] at hc'
    rw [Nat.div_eq_of_lt hc, Nat.mod_eq_of_lt hc] at hc'
    obtain ⟨a, ha⟩ := S_real h (r := r) (i := 0) (near_self hc)
    obtain ⟨b, hb⟩ := M_real h r hc
    unfold E at hc'
    rw [ha, hb, ← EReal.coe_sub] at hc'
    have : Real.exp (a - b) = g ⟨c, by omega⟩ := EReal.coe_injective hc'
    rw [← this]; exact Real.exp_pos _
  · unfold L
    rw [Finset.sum_congr rfl fun j _ => hg j]
    exact (coe_sum _ _).symm

end Head
end Cert.Att
-- ==== Proof.AttHead.lean ====
module

public import proofs.«01_k».proof.Proof.AttMath
public import Idealize.ShloMosaic.Lib.Pipeline.ValueKit

/-!
The heads of the call's arguments.
-/

@[expose] public section

noncomputable section

namespace Cert.Att

open Idealize.ShloMosaic

/-- Head `h` of the queries, keys and values beside each other, the biases and the cotangent. -/
def headOf (X : FVec Ideal ⟨2, ![2048, 1536]⟩ .f32) (R : FVec Ideal ⟨3, ![8, 15, 31]⟩ .f32) (D : FVec Ideal ⟨2, ![2048, 512]⟩ .f32) (h : ℕ) : Head where
  q r c d := X (ix2 ⟨(r * 64 + c) % 2048, Nat.mod_lt _ (by norm_num)⟩ ⟨(h * 64 + d) % 1536, Nat.mod_lt _ (by norm_num)⟩)
  k r c d := X (ix2 ⟨(r * 64 + c) % 2048, Nat.mod_lt _ (by norm_num)⟩ ⟨(512 + h * 64 + d) % 1536, Nat.mod_lt _ (by norm_num)⟩)
  v r c d := X (ix2 ⟨(r * 64 + c) % 2048, Nat.mod_lt _ (by norm_num)⟩ ⟨(1024 + h * 64 + d) % 1536, Nat.mod_lt _ (by norm_num)⟩)
  o r c d := D (ix2 ⟨(r * 64 + c) % 2048, Nat.mod_lt _ (by norm_num)⟩ ⟨(h * 64 + d) % 512, Nat.mod_lt _ (by norm_num)⟩)
  b i j := R (ix3 ⟨h % 8, Nat.mod_lt _ (by norm_num)⟩ ⟨i % 15, Nat.mod_lt _ (by norm_num)⟩ ⟨j % 31, Nat.mod_lt _ (by norm_num)⟩)

theorem headOf_real {X : FVec Ideal ⟨2, ![2048, 1536]⟩ .f32} {R : FVec Ideal ⟨3, ![8, 15, 31]⟩ .f32} (D : FVec Ideal ⟨2, ![2048, 512]⟩ .f32) (h : ℕ)
    (hX : ∀ j, ∃ a : ℝ, (X j : EReal) = a) (hR : ∀ j, ∃ a : ℝ, (R j : EReal) = a) : (headOf X R D h).Real' :=
  ⟨fun _ _ _ => hX _, fun _ _ _ => hX _, fun _ _ => hR _⟩

theorem ix2_of {n m : ℕ} {a a' b b' : ℕ} (ha : a < n) (ha' : a' < n) (hb : b < m) (hb' : b' < m) (e : a = a') (e' : b = b') :
    ix2 (⟨a, ha⟩ : Fin n) (⟨b, hb⟩ : Fin m) = ix2 ⟨a', ha'⟩ ⟨b', hb'⟩ := by subst e; subst e'; rfl

theorem ix3_of {n m l : ℕ} {a a' b b' c c' : ℕ} (ha : a < n) (ha' : a' < n) (hb : b < m) (hb' : b' < m) (hc : c < l) (hc' : c' < l)
    (e : a = a') (e' : b = b') (e'' : c = c') :
    ix3 (⟨a, ha⟩ : Fin n) (⟨b, hb⟩ : Fin m) (⟨c, hc⟩ : Fin l) = ix3 ⟨a', ha'⟩ ⟨b', hb'⟩ ⟨c', hc'⟩ := by subst e; subst e'; subst e''; rfl

/-- A sum over the lanes of a group of heads of what vanishes off one head is the sum over that head's channels. -/
theorem sum_lanes (g : ℕ) (hg : g < 4) (f : Fin 256 → EReal) (hf : ∀ l, l.val / 64 ≠ g → f l = 0) :
    ∑ l : Fin 256, f l = ∑ d : Fin 64, f ⟨g * 64 + d.val, by omega⟩ := by
  refine (Finset.sum_of_injOn (fun d : Fin 64 => (⟨g * 64 + d.val, by omega⟩ : Fin 256)) ?_ ?_ ?_ ?_).symm
  · rintro a - b - h
    have h := congrArg Fin.val h
    simp only [] at h
    exact Fin.ext (by omega)
  · intro _ _; exact Finset.mem_coe.mpr (Finset.mem_univ _)
  · intro l _ hl
    refine hf l fun h => hl ⟨⟨l.val % 64, by omega⟩, by simp, Fin.ext (by simp only []; omega)⟩
  · intro _ _; rfl

end Cert.Att
-- ==== Proof.AttIdx.lean ====
module

public import proofs.«01_k».proof.Proof.Gen.AttGradIdeal.Read
public import proofs.«01_k».proof.Proof.AttHead
public import Idealize.ShloMosaic.Lib.Pointwise
public import Idealize.ShloMosaic.Lib.Routing.OpsPair

/-!
Where the reference's gathers read and its scatters write.
-/

@[expose] public section

set_option maxRecDepth 16384

noncomputable section

namespace Cert.AttGradIdeal.Att

open Cert.AttGradIdeal Cert.AttGradIdeal.Gen Cert.AttGradIdeal.Read
open Idealize.ShloMosaic Idealize.ShloMosaic.TcCoe Idealize.SL.Sem

theorem toInt_ofNat {n : ℕ} (h : n < 2 ^ 31) : (BitVec.ofNat 32 n).toInt = n := by
  rw [BitVec.toInt_eq_toNat_of_lt (by rw [BitVec.toNat_ofNat]; omega), BitVec.toNat_ofNat]; omega

local notation "GK" => gather_S8x32x64x64_S32x4x8x32x2_S8x32x4x8x32x64_05_12_n_n_12_4_81164

theorem gather_kv {α : Type} (x : S8x32x64x64.Idx → α) (w : IVec S32x4x8x32x2 32) (h : Fin 8) (r : Fin 32) (n : Fin 4) (i : Fin 8) (k : Fin 32) (d : Fin 64)
    {a b : ℕ} (ha : a < 32) (hb : b < 64) (e0 : w (ix5 r n i k 0) = BitVec.ofNat 32 a) (e1 : w (ix5 r n i k 1) = BitVec.ofNat 32 b) :
    Host.gather GK x w (ix6 h r n i k d) = x (ix4 h ⟨a, ha⟩ ⟨b, hb⟩ d) := by
  refine congrArg x (funext fun ax => Fin.ext ?_)
  have hbt : ∀ ax, GatherDims.batchCoord GK (ix6 h r n i k d) ax = 0 := fun ax => GatherDims.batchCoord_eq_zero _ _ _ List.not_mem_nil
  have o0 : GatherDims.offCoord GK (ix6 h r n i k d) (0 : Fin 4) = h.val := by
    unfold GatherDims.offCoord; rw [dif_pos (show (0 : Fin 4) ∈ GatherDims.sKept GK by decide)]; rfl
  have s0 : GatherDims.start GK (ix6 h r n i k d) w (0 : Fin 4) = 0 := by
    unfold GatherDims.start; exact dif_neg (show ¬ (0 : Fin 4) ∈ GatherDims.startIndexMap GK by decide)
  have o1 : GatherDims.offCoord GK (ix6 h r n i k d) (1 : Fin 4) = 0 := by
    unfold GatherDims.offCoord; exact dif_neg (show ¬ (1 : Fin 4) ∈ GatherDims.sKept GK by decide)
  have s1 : GatherDims.start GK (ix6 h r n i k d) w (1 : Fin 4) = a := by
    unfold GatherDims.start
    rw [dif_pos (show (1 : Fin 4) ∈ GatherDims.startIndexMap GK by decide)]
    have e : GatherDims.siIdx GK (ix6 h r n i k d) ⟨List.idxOf (1 : Fin 4) (GatherDims.startIndexMap GK), List.idxOf_lt_length_iff.2 (by decide)⟩ = ix5 r n i k 0 :=
      funext fun c => match c with | ⟨0, _⟩ => rfl | ⟨1, _⟩ => rfl | ⟨2, _⟩ => rfl | ⟨3, _⟩ => rfl | ⟨4, _⟩ => rfl
    refine (congrArg (fun z => min (BitVec.toInt (w z)).toNat 31) e).trans ?_
    show min (BitVec.toInt (w (ix5 r n i k 0))).toNat 31 = a
    rw [e0, toInt_ofNat (by omega)]; omega
  have o2 : GatherDims.offCoord GK (ix6 h r n i k d) (2 : Fin 4) = 0 := by
    unfold GatherDims.offCoord; exact dif_neg (show ¬ (2 : Fin 4) ∈ GatherDims.sKept GK by decide)
  have s2 : GatherDims.start GK (ix6 h r n i k d) w (2 : Fin 4) = b := by
    unfold GatherDims.start
    rw [dif_pos (show (2 : Fin 4) ∈ GatherDims.startIndexMap GK by decide)]
    have e : GatherDims.siIdx GK (ix6 h r n i k d) ⟨List.idxOf (2 : Fin 4) (GatherDims.startIndexMap GK), List.idxOf_lt_length_iff.2 (by decide)⟩ = ix5 r n i k 1 :=
      funext fun c => match c with | ⟨0, _⟩ => rfl | ⟨1, _⟩ => rfl | ⟨2, _⟩ => rfl | ⟨3, _⟩ => rfl | ⟨4, _⟩ => rfl
    refine (congrArg (fun z => min (BitVec.toInt (w z)).toNat 63) e).trans ?_
    show min (BitVec.toInt (w (ix5 r n i k 1))).toNat 63 = b
    rw [e1, toInt_ofNat (by omega)]; omega
  have o3 : GatherDims.offCoord GK (ix6 h r n i k d) (3 : Fin 4) = d.val := by
    unfold GatherDims.offCoord; rw [dif_pos (show (3 : Fin 4) ∈ GatherDims.sKept GK by decide)]; rfl
  have s3 : GatherDims.start GK (ix6 h r n i k d) w (3 : Fin 4) = 0 := by
    unfold GatherDims.start; exact dif_neg (show ¬ (3 : Fin 4) ∈ GatherDims.startIndexMap GK by decide)
  match ax with
  | ⟨0, _⟩ => show GatherDims.start GK (ix6 h r n i k d) w (0 : Fin 4) + GatherDims.batchCoord GK (ix6 h r n i k d) (0 : Fin 4) + GatherDims.offCoord GK (ix6 h r n i k d) (0 : Fin 4) = h.val; rw [hbt, s0, o0]; omega
  | ⟨1, _⟩ => show GatherDims.start GK (ix6 h r n i k d) w (1 : Fin 4) + GatherDims.batchCoord GK (ix6 h r n i k d) (1 : Fin 4) + GatherDims.offCoord GK (ix6 h r n i k d) (1 : Fin 4) = a; rw [hbt, s1, o1]; omega
  | ⟨2, _⟩ => show GatherDims.start GK (ix6 h r n i k d) w (2 : Fin 4) + GatherDims.batchCoord GK (ix6 h r n i k d) (2 : Fin 4) + GatherDims.offCoord GK (ix6 h r n i k d) (2 : Fin 4) = b; rw [hbt, s2, o2]; omega
  | ⟨3, _⟩ => show GatherDims.start GK (ix6 h r n i k d) w (3 : Fin 4) + GatherDims.batchCoord GK (ix6 h r n i k d) (3 : Fin 4) + GatherDims.offCoord GK (ix6 h r n i k d) (3 : Fin 4) = d.val; rw [hbt, s3, o3]; omega

local notation "GB" => gather_S8x15x31_S32x4x16x8x32x2_S8x32x4x16x8x32_0_12_n_n_12_5_811

theorem gather_b {α : Type} (x : S8x15x31.Idx → α) (w : IVec S32x4x16x8x32x2 32) (h : Fin 8) (r : Fin 32) (n : Fin 4) (cc : Fin 16) (i : Fin 8) (k : Fin 32)
    {a b : ℕ} (ha : a < 15) (hb : b < 31) (e0 : w (ix6 r n cc i k 0) = BitVec.ofNat 32 a) (e1 : w (ix6 r n cc i k 1) = BitVec.ofNat 32 b) :
    Host.gather GB x w (ix6 h r n cc i k) = x (ix3 h ⟨a, ha⟩ ⟨b, hb⟩) := by
  refine congrArg x (funext fun ax => Fin.ext ?_)
  have hbt : ∀ ax, GatherDims.batchCoord GB (ix6 h r n cc i k) ax = 0 := fun ax => GatherDims.batchCoord_eq_zero _ _ _ List.not_mem_nil
  have o0 : GatherDims.offCoord GB (ix6 h r n cc i k) (0 : Fin 3) = h.val := by
    unfold GatherDims.offCoord; rw [dif_pos (show (0 : Fin 3) ∈ GatherDims.sKept GB by decide)]; rfl
  have s0 : GatherDims.start GB (ix6 h r n cc i k) w (0 : Fin 3) = 0 := by
    unfold GatherDims.start; exact dif_neg (show ¬ (0 : Fin 3) ∈ GatherDims.startIndexMap GB by decide)
  have o1 : GatherDims.offCoord GB (ix6 h r n cc i k) (1 : Fin 3) = 0 := by
    unfold GatherDims.offCoord; exact dif_neg (show ¬ (1 : Fin 3) ∈ GatherDims.sKept GB by decide)
  have s1 : GatherDims.start GB (ix6 h r n cc i k) w (1 : Fin 3) = a := by
    unfold GatherDims.start
    rw [dif_pos (show (1 : Fin 3) ∈ GatherDims.startIndexMap GB by decide)]
    have e : GatherDims.siIdx GB (ix6 h r n cc i k) ⟨List.idxOf (1 : Fin 3) (GatherDims.startIndexMap GB), List.idxOf_lt_length_iff.2 (by decide)⟩ = ix6 r n cc i k 0 :=
      funext fun c => match c with | ⟨0, _⟩ => rfl | ⟨1, _⟩ => rfl | ⟨2, _⟩ => rfl | ⟨3, _⟩ => rfl | ⟨4, _⟩ => rfl | ⟨5, _⟩ => rfl
    refine (congrArg (fun z => min (BitVec.toInt (w z)).toNat 14) e).trans ?_
    show min (BitVec.toInt (w (ix6 r n cc i k 0))).toNat 14 = a
    rw [e0, toInt_ofNat (by omega)]; omega
  have o2 : GatherDims.offCoord GB (ix6 h r n cc i k) (2 : Fin 3) = 0 := by
    unfold GatherDims.offCoord; exact dif_neg (show ¬ (2 : Fin 3) ∈ GatherDims.sKept GB by decide)
  have s2 : GatherDims.start GB (ix6 h r n cc i k) w (2 : Fin 3) = b := by
    unfold GatherDims.start
    rw [dif_pos (show (2 : Fin 3) ∈ GatherDims.startIndexMap GB by decide)]
    have e : GatherDims.siIdx GB (ix6 h r n cc i k) ⟨List.idxOf (2 : Fin 3) (GatherDims.startIndexMap GB), List.idxOf_lt_length_iff.2 (by decide)⟩ = ix6 r n cc i k 1 :=
      funext fun c => match c with | ⟨0, _⟩ => rfl | ⟨1, _⟩ => rfl | ⟨2, _⟩ => rfl | ⟨3, _⟩ => rfl | ⟨4, _⟩ => rfl | ⟨5, _⟩ => rfl
    refine (congrArg (fun z => min (BitVec.toInt (w z)).toNat 30) e).trans ?_
    show min (BitVec.toInt (w (ix6 r n cc i k 1))).toNat 30 = b
    rw [e1, toInt_ofNat (by omega)]; omega
  match ax with
  | ⟨0, _⟩ => show GatherDims.start GB (ix6 h r n cc i k) w (0 : Fin 3) + GatherDims.batchCoord GB (ix6 h r n cc i k) (0 : Fin 3) + GatherDims.offCoord GB (ix6 h r n cc i k) (0 : Fin 3) = h.val; rw [hbt, s0, o0]; omega
  | ⟨1, _⟩ => show GatherDims.start GB (ix6 h r n cc i k) w (1 : Fin 3) + GatherDims.batchCoord GB (ix6 h r n cc i k) (1 : Fin 3) + GatherDims.offCoord GB (ix6 h r n cc i k) (1 : Fin 3) = a; rw [hbt, s1, o1]; omega
  | ⟨2, _⟩ => show GatherDims.start GB (ix6 h r n cc i k) w (2 : Fin 3) + GatherDims.batchCoord GB (ix6 h r n cc i k) (2 : Fin 3) + GatherDims.offCoord GB (ix6 h r n cc i k) (2 : Fin 3) = b; rw [hbt, s2, o2]; omega

local notation "SC" => scatter_S8x32x64x64_S32x4x8x32x2_S8x32x4x8x32x64_05_12_12_4

/-- Where an update lands. -/
theorem lands (w : IVec S32x4x8x32x2 32) (h : Fin 8) (r : Fin 32) (n : Fin 4) (i : Fin 8) (k : Fin 32) (d : Fin 64)
    {a b : ℕ} (ha : a < 32) (hb : b < 64) (e0 : w (ix5 r n i k 0) = BitVec.ofNat 32 a) (e1 : w (ix5 r n i k 1) = BitVec.ofNat 32 b)
    (h' : Fin 8) (y : Fin 32) (x : Fin 64) (d' : Fin 64) :
    ScatterDims.resultIdx? SC (ix6 h r n i k d) w = some (ix4 h' y x d') ↔ (h = h' ∧ d = d') ∧ a = y.val ∧ b = x.val := by
  rw [Routing.resultIdx?_eq_some]
  have s0 : ScatterDims.start SC (ix6 h r n i k d) w (0 : Fin 4) = 0 := by
    unfold ScatterDims.start; exact dif_neg (show ¬ (0 : Fin 4) ∈ ScatterDims.scatterDimsToOperandDims SC by decide)
  have s3 : ScatterDims.start SC (ix6 h r n i k d) w (3 : Fin 4) = 0 := by
    unfold ScatterDims.start; exact dif_neg (show ¬ (3 : Fin 4) ∈ ScatterDims.scatterDimsToOperandDims SC by decide)
  have s1 : ScatterDims.start SC (ix6 h r n i k d) w (1 : Fin 4) = a := by
    unfold ScatterDims.start
    rw [dif_pos (show (1 : Fin 4) ∈ ScatterDims.scatterDimsToOperandDims SC by decide)]
    have e : ScatterDims.siIdx SC (ix6 h r n i k d) ⟨List.idxOf (1 : Fin 4) (ScatterDims.scatterDimsToOperandDims SC), List.idxOf_lt_length_iff.2 (by decide)⟩ = ix5 r n i k 0 :=
      funext fun c => match c with | ⟨0, _⟩ => rfl | ⟨1, _⟩ => rfl | ⟨2, _⟩ => rfl | ⟨3, _⟩ => rfl | ⟨4, _⟩ => rfl
    refine (congrArg (fun z => BitVec.toInt (w z)) e).trans ?_
    show BitVec.toInt (w (ix5 r n i k 0)) = a
    rw [e0, toInt_ofNat (by omega)]
  have s2 : ScatterDims.start SC (ix6 h r n i k d) w (2 : Fin 4) = b := by
    unfold ScatterDims.start
    rw [dif_pos (show (2 : Fin 4) ∈ ScatterDims.scatterDimsToOperandDims SC by decide)]
    have e : ScatterDims.siIdx SC (ix6 h r n i k d) ⟨List.idxOf (2 : Fin 4) (ScatterDims.scatterDimsToOperandDims SC), List.idxOf_lt_length_iff.2 (by decide)⟩ = ix5 r n i k 1 :=
      funext fun c => match c with | ⟨0, _⟩ => rfl | ⟨1, _⟩ => rfl | ⟨2, _⟩ => rfl | ⟨3, _⟩ => rfl | ⟨4, _⟩ => rfl
    refine (congrArg (fun z => BitVec.toInt (w z)) e).trans ?_
    show BitVec.toInt (w (ix5 r n i k 1)) = b
    rw [e1, toInt_ofNat (by omega)]
  have w0 : ScatterDims.window SC (ix6 h r n i k d) (0 : Fin 4) = h.val := by
    unfold ScatterDims.window; rw [dif_pos (show (0 : Fin 4) ∈ ScatterDims.sKept SC by decide)]; rfl
  have w1 : ScatterDims.window SC (ix6 h r n i k d) (1 : Fin 4) = 0 := by
    unfold ScatterDims.window; exact dif_neg (show ¬ (1 : Fin 4) ∈ ScatterDims.sKept SC by decide)
  have w2 : ScatterDims.window SC (ix6 h r n i k d) (2 : Fin 4) = 0 := by
    unfold ScatterDims.window; exact dif_neg (show ¬ (2 : Fin 4) ∈ ScatterDims.sKept SC by decide)
  have w3 : ScatterDims.window SC (ix6 h r n i k d) (3 : Fin 4) = d.val := by
    unfold ScatterDims.window; rw [dif_pos (show (3 : Fin 4) ∈ ScatterDims.sKept SC by decide)]; rfl
  constructor
  · intro q
    have q0 : _ = ((h'.val : ℕ) : Int) := q (0 : Fin 4)
    have q1 : _ = ((y.val : ℕ) : Int) := q (1 : Fin 4)
    have q2 : _ = ((x.val : ℕ) : Int) := q (2 : Fin 4)
    have q3 : _ = ((d'.val : ℕ) : Int) := q (3 : Fin 4)
    rw [s0, w0] at q0; rw [s1, w1] at q1; rw [s2, w2] at q2; rw [s3, w3] at q3
    exact ⟨⟨Fin.ext (by omega), Fin.ext (by omega)⟩, by omega, by omega⟩
  · rintro ⟨⟨rfl, rfl⟩, rfl, rfl⟩ ax
    match ax with
    | ⟨0, _⟩ => show ScatterDims.start SC _ w (0 : Fin 4) + (ScatterDims.window SC _ (0 : Fin 4) : Int) = ((h.val : ℕ) : Int); rw [s0, w0]; omega
    | ⟨1, _⟩ => show ScatterDims.start SC _ w (1 : Fin 4) + (ScatterDims.window SC _ (1 : Fin 4) : Int) = ((y.val : ℕ) : Int); rw [s1, w1]; omega
    | ⟨2, _⟩ => show ScatterDims.start SC _ w (2 : Fin 4) + (ScatterDims.window SC _ (2 : Fin 4) : Int) = ((x.val : ℕ) : Int); rw [s2, w2]; omega
    | ⟨3, _⟩ => show ScatterDims.start SC _ w (3 : Fin 4) + (ScatterDims.window SC _ (3 : Fin 4) : Int) = ((d.val : ℕ) : Int); rw [s3, w3]; omega

/-- A scatter that adds, at one element: the sum of the updates that land there. -/
theorem scatter_kv (x : FVec Ideal S8x32x64x64 .f32) (w : IVec S32x4x8x32x2 32) (u : FVec Ideal S8x32x4x8x32x64 .f32)
    (a b : ℕ → ℕ → ℕ) (ha : ∀ (r : Fin 32) (i : Fin 8), a r.val i.val < 32) (hb : ∀ (n : Fin 4) (k : Fin 32), b n.val k.val < 64)
    (e0 : ∀ r n i k, w (ix5 r n i k 0) = BitVec.ofNat 32 (a r.val i.val)) (e1 : ∀ r n i k, w (ix5 r n i k 1) = BitVec.ofNat 32 (b n.val k.val))
    (h : Fin 8) (y : Fin 32) (z : Fin 64) (d : Fin 64) :
    Host.scatterAdd SC x w u (ix4 h y z d) = (x (ix4 h y z d) : EReal)
      + ∑ r : Fin 32, ∑ n : Fin 4, ∑ i : Fin 8, ∑ k : Fin 32, if a r.val i.val = y.val ∧ b n.val k.val = z.val then (u (ix6 h r n i k d) : EReal) else 0 := by
  show (x (ix4 h y z d) : EReal) + (∑ j ∈ Finset.univ.filter (fun j => ScatterDims.resultIdx? SC j w = some (ix4 h y z d)), (u j : EReal)) = _
  refine congrArg (_ + ·) ?_
  have hl : ∀ h' r n i k d', (ScatterDims.resultIdx? SC (ix6 h' r n i k d') w = some (ix4 h y z d)) ↔ (h' = h ∧ d' = d) ∧ a r.val i.val = y.val ∧ b n.val k.val = z.val :=
    fun h' r n i k d' => lands w h' r n i k d' (ha r i) (hb n k) (e0 r n i k) (e1 r n i k) h y z d
  rw [Finset.sum_filter, sum_idx6]
  simp only [hl]
  rw [Finset.sum_eq_single h (fun h' _ hh => Finset.sum_eq_zero fun r _ => Finset.sum_eq_zero fun n _ => Finset.sum_eq_zero fun i _ => Finset.sum_eq_zero fun k _ =>
    Finset.sum_eq_zero fun d' _ => if_neg fun q => hh q.1.1) (fun q => absurd (Finset.mem_univ _) q)]
  refine Finset.sum_congr rfl fun r _ => Finset.sum_congr rfl fun n _ => Finset.sum_congr rfl fun i _ => Finset.sum_congr rfl fun k _ => ?_
  rw [Finset.sum_eq_single d (fun d' _ hh => if_neg fun q => hh q.1.2) (fun q => absurd (Finset.mem_univ _) q)]
  simp only [true_and]

end Cert.AttGradIdeal.Att
-- ==== Proof.AttWord.lean ====
module

public import proofs.«01_k».proof.Proof.AttIdx

/-!
The index words of the reference: the rows and the columns a window gathers, the bias entries it reads and which of the
gathered columns a query attends.
-/

@[expose] public section

noncomputable section

namespace Cert.AttGradIdeal.Att

open Cert.AttGradIdeal Cert.AttGradIdeal.Gen Cert.AttGradIdeal.Read Idealize.ShloMosaic Cert.Att

theorem row_word : ∀ (r : Fin 32) (i : Fin 8), val_main_v77 (F := Ideal) (ix4 r 0 i 0) = BitVec.ofNat 32 (top r.val + i.val) := by decide +kernel
theorem row_word' : ∀ (r : Fin 32) (i : Fin 8), val_main_v93 (F := Ideal) (ix4 r 0 i 0) = BitVec.ofNat 32 (top r.val + i.val) := by decide +kernel
theorem col_word : ∀ (n : Fin 4) (k : Fin 32), val_main_v82 (F := Ideal) (ix4 0 n 0 k) = BitVec.ofNat 32 (edge n.val + k.val) := by decide +kernel
theorem col_word' : ∀ (n : Fin 4) (k : Fin 32), val_main_v98 (F := Ideal) (ix4 0 n 0 k) = BitVec.ofNat 32 (edge n.val + k.val) := by decide +kernel
theorem bias_row : ∀ (r : Fin 32) (i : Fin 8), val_main_v112 (F := Ideal) (ix5 r 0 0 i 0) = BitVec.ofNat 32 (i.val + top r.val + 7 - r.val) := by decide +kernel
theorem bias_col : ∀ (n : Fin 4) (cc : Fin 16) (k : Fin 32), near (n.val * 16 + cc.val) (edge n.val + k.val) →
    val_main_v117 (F := Ideal) (ix5 0 n cc 0 k) = BitVec.ofNat 32 (edge n.val + k.val + 15 - (n.val * 16 + cc.val)) := by decide +kernel
theorem near_bit : ∀ (n : Fin 4) (cc : Fin 16) (k : Fin 32), val_main_v50 (F := Ideal) (ix3 n cc k) = BitVec.ofBool (decide (near (n.val * 16 + cc.val) (edge n.val + k.val))) := by
  decide +kernel

theorem gathers_row (r : Fin 32) (n : Fin 4) (i : Fin 8) (k : Fin 32) : val_main_v87 (F := Ideal) (ix5 r n i k 0) = BitVec.ofNat 32 (top r.val + i.val) := by
  pointwise [val_main_v87, val_main_v85, val_main_v83]
  exact row_word r i
theorem gathers_col (r : Fin 32) (n : Fin 4) (i : Fin 8) (k : Fin 32) : val_main_v87 (F := Ideal) (ix5 r n i k 1) = BitVec.ofNat 32 (edge n.val + k.val) := by
  pointwise [val_main_v87, val_main_v86, val_main_v84]
  exact col_word n k
theorem gathers_row' (r : Fin 32) (n : Fin 4) (i : Fin 8) (k : Fin 32) : val_main_v103 (F := Ideal) (ix5 r n i k 0) = BitVec.ofNat 32 (top r.val + i.val) := by
  pointwise [val_main_v103, val_main_v101, val_main_v99]
  exact row_word' r i
theorem gathers_col' (r : Fin 32) (n : Fin 4) (i : Fin 8) (k : Fin 32) : val_main_v103 (F := Ideal) (ix5 r n i k 1) = BitVec.ofNat 32 (edge n.val + k.val) := by
  pointwise [val_main_v103, val_main_v102, val_main_v100]
  exact col_word' n k
theorem reads_row (r : Fin 32) (n : Fin 4) (cc : Fin 16) (i : Fin 8) (k : Fin 32) :
    val_main_v122 (F := Ideal) (ix6 r n cc i k 0) = BitVec.ofNat 32 (i.val + top r.val + 7 - r.val) := by
  pointwise [val_main_v122, val_main_v120, val_main_v118]
  exact bias_row r i
theorem reads_col (r : Fin 32) (n : Fin 4) (cc : Fin 16) (i : Fin 8) (k : Fin 32) (h : near (n.val * 16 + cc.val) (edge n.val + k.val)) :
    val_main_v122 (F := Ideal) (ix6 r n cc i k 1) = BitVec.ofNat 32 (edge n.val + k.val + 15 - (n.val * 16 + cc.val)) := by
  pointwise [val_main_v122, val_main_v121, val_main_v119]
  exact bias_col n cc k h

end Cert.AttGradIdeal.Att
-- ==== Proof.AttSum.lean ====
module

public import proofs.«01_k».proof.Proof.AttMath

/-!
Sums and maxima over the columns a block of queries gathers.
-/

@[expose] public section

noncomputable section

namespace Cert.Att

open Idealize.ShloMosaic

namespace Head
variable (H : Head)

/-- The largest score of the window is the largest over the gathered columns. -/
theorem max_window (r : ℕ) {c : ℕ} (hc : c < 64) :
    (Finset.univ : Finset (Fin 8 × Fin 32)).fold max ⊥ (fun p => H.S r c p.1.val (edge (c / 16) + p.2.val)) = H.M r c := by
  unfold M
  refine le_antisymm ((Finset.fold_max_le (β := EReal) _).mpr ⟨bot_le, fun p _ => ?_⟩) ((Finset.fold_max_le (β := EReal) _).mpr ⟨bot_le, fun j _ => ?_⟩)
  · have h1 := p.1.isLt
    have h2 := p.2.isLt
    refine (Finset.le_fold_max (β := EReal) _).mpr (Or.inr ⟨⟨p.1.val * 64 + (edge (c / 16) + p.2.val), by unfold edge; omega⟩, Finset.mem_univ _, le_of_eq ?_⟩)
    simp only []
    have e1 : (p.1.val * 64 + (edge (c / 16) + p.2.val)) / 64 = p.1.val := by unfold edge; omega
    have e2 : (p.1.val * 64 + (edge (c / 16) + p.2.val)) % 64 = edge (c / 16) + p.2.val := by unfold edge; omega
    rw [e1, e2]
  · by_cases hn : near c (j.val % 64)
    · have := j.isLt
      have hk : j.val % 64 - edge (c / 16) < 32 := by unfold near west at hn; unfold edge; omega
      refine (Finset.le_fold_max (β := EReal) _).mpr (Or.inr ⟨(⟨j.val / 64, by omega⟩, ⟨j.val % 64 - edge (c / 16), hk⟩), Finset.mem_univ _, le_of_eq ?_⟩)
      simp only []
      have e : edge (c / 16) + (j.val % 64 - edge (c / 16)) = j.val % 64 := by unfold near west at hn; unfold edge; omega
      rw [e]
    · rw [H.S_far hn]; exact bot_le

end Head

/-- One number of a range adds its term. -/
theorem sum_hit {n : ℕ} (a y : ℕ) (f : ℕ → EReal) :
    (∑ i : Fin n, if a + i.val = y then f i.val else 0) = if a ≤ y ∧ y < a + n then f (y - a) else 0 := by
  by_cases h : a ≤ y ∧ y < a + n
  · rw [if_pos h, Finset.sum_eq_single (⟨y - a, by omega⟩ : Fin n)]
    · rw [if_pos (by simp only []; omega)]
    · intro i _ hi
      exact if_neg fun e => hi (Fin.ext (by simp only []; omega))
    · intro h'; exact absurd (Finset.mem_univ _) h'
  · rw [if_neg h]
    exact Finset.sum_eq_zero fun i _ => if_neg (by have := i.isLt; omega)

/-- What the gathered columns' gradients sum to where they are scattered back: the sum over the queries that attend the
    place. -/
theorem scatter_sum (y x : ℕ) (f : ℕ → ℕ → ℕ → ℕ → EReal) (hf : ∀ r c i, ¬ near c x → f r c i x = 0) :
    (∑ r : Fin 32, ∑ n : Fin 4, ∑ i : Fin 8, ∑ k : Fin 32, if top r.val + i.val = y ∧ edge n.val + k.val = x then
        ∑ cc : Fin 16, f r.val (n.val * 16 + cc.val) i.val x else 0)
      = ∑ r : Fin 32, if top r.val ≤ y ∧ y < top r.val + 8 then ∑ c : Fin 64, f r.val c.val (y - top r.val) x else 0 := by
  refine Finset.sum_congr rfl fun r _ => ?_
  have h1 : ∀ n : Fin 4, (∑ i : Fin 8, ∑ k : Fin 32, if top r.val + i.val = y ∧ edge n.val + k.val = x then
        ∑ cc : Fin 16, f r.val (n.val * 16 + cc.val) i.val x else 0)
      = if top r.val ≤ y ∧ y < top r.val + 8 then ∑ cc : Fin 16, f r.val (n.val * 16 + cc.val) (y - top r.val) x else 0 := by
    intro n
    have h2 : ∀ i : Fin 8, (∑ k : Fin 32, if top r.val + i.val = y ∧ edge n.val + k.val = x then
        ∑ cc : Fin 16, f r.val (n.val * 16 + cc.val) i.val x else 0)
        = if top r.val + i.val = y then (∑ cc : Fin 16, f r.val (n.val * 16 + cc.val) i.val x) else 0 := by
      intro i
      simp only [ite_and]
      by_cases hy : top r.val + i.val = y
      · simp only [if_pos hy]
        rw [sum_hit (edge n.val) x fun _ => ∑ cc : Fin 16, f r.val (n.val * 16 + cc.val) i.val x]
        split_ifs with hx
        · rfl
        · refine (Finset.sum_eq_zero fun cc _ => hf _ _ _ ?_).symm
          have := cc.isLt; have := n.isLt
          unfold near west; unfold edge at hx; omega
      · simp only [if_neg hy, Finset.sum_const_zero]
    simp only [h2]
    exact sum_hit (top r.val) y fun i => ∑ cc : Fin 16, f r.val (n.val * 16 + cc.val) i x
  simp only [h1]
  split_ifs
  · exact (Head.sum_cols fun c => f r.val c (y - top r.val) x).symm
  · exact Finset.sum_const_zero

end Cert.Att
-- ==== Proof.AttElem.lean ====
module

public import proofs.«01_k».proof.Proof.AttWord
public import proofs.«01_k».proof.Proof.AttSum

/-!
What the reference's forward lines hold, in terms of a head: its queries, keys, values and cotangent, the scores, their
largest and the exponentials.
-/

@[expose] public section

noncomputable section

namespace Cert.AttGradIdeal.Att

open Cert.AttGradIdeal Cert.AttGradIdeal.Gen Cert.AttGradIdeal.Read Idealize.ShloMosaic Cert.Att

/-! Reductions of the last two of six axes. -/

section reduce
variable {n0 n1 n2 n3 n4 n5 : ℕ} (h : (⟨6, ![n0, n1, n2, n3, n4, n5]⟩ : Shape).ReducesTo [4, 5] ⟨4, ![n0, n1, n2, n3]⟩)

theorem fiber45 (a : Fin n0) (b : Fin n1) (c : Fin n2) (d : Fin n3) (i : (⟨6, ![n0, n1, n2, n3, n4, n5]⟩ : Shape).Idx) :
    h.drop i = ix4 a b c d ↔ ∃ p : Fin n4 × Fin n5, ix6 a b c d p.1 p.2 = i := by
  constructor
  · intro e
    refine ⟨(i 4, i 5), funext fun ax => Fin.ext ?_⟩
    match ax with
    | ⟨0, _⟩ => exact (congrArg Fin.val (congrFun e 0)).symm
    | ⟨1, _⟩ => exact (congrArg Fin.val (congrFun e 1)).symm
    | ⟨2, _⟩ => exact (congrArg Fin.val (congrFun e 2)).symm
    | ⟨3, _⟩ => exact (congrArg Fin.val (congrFun e 3)).symm
    | ⟨4, _⟩ => rfl
    | ⟨5, _⟩ => rfl
  · rintro ⟨p, rfl⟩
    funext ax
    apply Fin.ext
    match ax with
    | ⟨0, _⟩ => rfl
    | ⟨1, _⟩ => rfl
    | ⟨2, _⟩ => rfl
    | ⟨3, _⟩ => rfl

theorem inj45 (a : Fin n0) (b : Fin n1) (c : Fin n2) (d : Fin n3) : ∀ p q : Fin n4 × Fin n5, ix6 a b c d p.1 p.2 = ix6 a b c d q.1 q.2 → p = q := by
  rintro ⟨p, p'⟩ ⟨q, q'⟩ e
  obtain ⟨-, -, -, -, e, e'⟩ := (ix6_inj _ _ _ _ _ _ _ _ _ _ _ _).mp e
  exact Prod.ext e e'

theorem sum45 (x : FVec Ideal (⟨6, ![n0, n1, n2, n3, n4, n5]⟩ : Shape) .f32) (init : FVec Ideal S_ .f32) (a : Fin n0) (b : Fin n1) (c : Fin n2) (d : Fin n3) :
    Host.reduceAdd x init h h_S_ (ix4 a b c d) = (init (Shape.Idx.first h_S_) : EReal) + ∑ i : Fin n4, ∑ k : Fin n5, (x (ix6 a b c d i k) : EReal) := by
  refine congrArg ((init (Shape.Idx.first h_S_) : EReal) + ·) ?_
  rw [← Finset.sum_product' Finset.univ Finset.univ (fun i k => (x (ix6 a b c d i k) : EReal))]
  exact Finset.sum_filter_eq_sum_of_fiber _ (fun p : Fin n4 × Fin n5 => ix6 a b c d p.1 p.2) (inj45 a b c d) (fiber45 h a b c d) x

theorem max45 (x : FVec Ideal (⟨6, ![n0, n1, n2, n3, n4, n5]⟩ : Shape) .f32) (init : FVec Ideal S_ .f32) (a : Fin n0) (b : Fin n1) (c : Fin n2) (d : Fin n3) :
    Host.reduce FloatOps.maximumf x init h h_S_ (ix4 a b c d)
      = (Finset.univ : Finset (Fin n4 × Fin n5)).fold max (init (Shape.Idx.first h_S_) : EReal) (fun p => (x (ix6 a b c d p.1 p.2) : EReal)) :=
  (Host.reduce_eq_fold FloatOps.maximumf x init h h_S_ _).trans
    (Finset.fold_filter_eq_fold_of_fiber _ _ (fun p : Fin n4 × Fin n5 => ix6 a b c d p.1 p.2) (inj45 a b c d) (fiber45 h a b c d) _ x)

end reduce

variable (X : FVec Ideal S2048x1536 .f32) (R : FVec Ideal S8x15x31 .f32) (D : FVec Ideal S2048x512 .f32)

theorem q_at (h : Fin 8) (r : Fin 32) (n : Fin 4) (cc : Fin 16) (d : Fin 64) :
    (val_main_v66 (F := Ideal) X (ix5 h r n cc d) : EReal) = (headOf X R D h.val).q r.val (n.val * 16 + cc.val) d.val * scale := by
  pointwise [val_main_v66, val_main_v65, val_main_v64, val_main_v63, val_main_cst, val_main_v1, val_main_v0]
  exact congrArg (fun z => (X z : EReal) * scale) (ix2_of _ _ _ _ (by omega) (by omega))

theorem k_at (h : Fin 8) (y : Fin 32) (x : Fin 64) (d : Fin 64) :
    (val_main_v68 (F := Ideal) X (ix4 h y x d) : EReal) = (headOf X R D h.val).k y.val x.val d.val := by
  pointwise [val_main_v68, val_main_v67, val_main_v3, val_main_v2]
  exact congrArg (fun z => (X z : EReal)) (ix2_of _ _ _ _ (by omega) (by omega))

theorem v_at (h : Fin 8) (y : Fin 32) (x : Fin 64) (d : Fin 64) :
    (val_main_v70 (F := Ideal) X (ix4 h y x d) : EReal) = (headOf X R D h.val).v y.val x.val d.val := by
  pointwise [val_main_v70, val_main_v69, val_main_v5, val_main_v4]
  exact congrArg (fun z => (X z : EReal)) (ix2_of _ _ _ _ (by omega) (by omega))

theorem o_at (h : Fin 8) (r : Fin 32) (n : Fin 4) (cc : Fin 16) (d : Fin 64) :
    (val_main_v159 (F := Ideal) D (ix5 h r n cc d) : EReal) = (headOf X R D h.val).o r.val (n.val * 16 + cc.val) d.val := by
  pointwise [val_main_v159, val_main_v158]
  exact congrArg (fun z => (D z : EReal)) (ix2_of _ _ _ _ (by omega) (by omega))

theorem row_lt (r : Fin 32) (i : Fin 8) : top r.val + i.val < 32 := by unfold top; omega
theorem col_lt (n : Fin 4) (k : Fin 32) : edge n.val + k.val < 64 := by unfold edge; omega

theorem gk_at (h : Fin 8) (r : Fin 32) (n : Fin 4) (i : Fin 8) (k : Fin 32) (d : Fin 64) :
    (val_main_v88 (F := Ideal) X (ix6 h r n i k d) : EReal) = (headOf X R D h.val).k (top r.val + i.val) (edge n.val + k.val) d.val := by
  unfold val_main_v88
  rw [gather_kv _ _ h r n i k d (row_lt r i) (col_lt n k) (gathers_row r n i k) (gathers_col r n i k)]
  exact k_at X R D h _ _ d

theorem gv_at (h : Fin 8) (r : Fin 32) (n : Fin 4) (i : Fin 8) (k : Fin 32) (d : Fin 64) :
    (val_main_v104 (F := Ideal) X (ix6 h r n i k d) : EReal) = (headOf X R D h.val).v (top r.val + i.val) (edge n.val + k.val) d.val := by
  unfold val_main_v104
  rw [gather_kv _ _ h r n i k d (row_lt r i) (col_lt n k) (gathers_row' r n i k) (gathers_col' r n i k)]
  exact v_at X R D h _ _ d

theorem dot_at (h : Fin 8) (r : Fin 32) (n : Fin 4) (cc : Fin 16) (i : Fin 8) (k : Fin 32) :
    (val_main_v105 (F := Ideal) X (ix6 h r n cc i k) : EReal) = (headOf X R D h.val).dot r.val (n.val * 16 + cc.val) i.val (edge n.val + k.val) := by
  pointwise [val_main_v105]
  exact Finset.sum_congr rfl fun d _ => congrArg₂ (· * ·) (q_at X R D h r n cc d) (gk_at X R D h r n i k d)

theorem dp_at (h : Fin 8) (r : Fin 32) (n : Fin 4) (cc : Fin 16) (i : Fin 8) (k : Fin 32) :
    (val_main_v162 (F := Ideal) X D (ix6 h r n cc i k) : EReal) = (headOf X R D h.val).DP r.val (n.val * 16 + cc.val) i.val (edge n.val + k.val) := by
  pointwise [val_main_v162]
  exact Finset.sum_congr rfl fun d _ => congrArg₂ (· * ·) (o_at X R D h r n cc d) (gv_at X R D h r n i k d)

theorem bias_at (h : Fin 8) (r : Fin 32) (n : Fin 4) (cc : Fin 16) (i : Fin 8) (k : Fin 32) (hn : near (n.val * 16 + cc.val) (edge n.val + k.val)) :
    (val_main_v123 (F := Ideal) R (ix6 h r n cc i k) : EReal)
      = (headOf X R D h.val).b (i.val + top r.val + 7 - r.val) (edge n.val + k.val + 15 - (n.val * 16 + cc.val)) := by
  have h1 : i.val + top r.val + 7 - r.val < 15 := by unfold top; omega
  have h2 : edge n.val + k.val + 15 - (n.val * 16 + cc.val) < 31 := by unfold near west at hn; omega
  unfold val_main_v123
  rw [gather_b _ _ h r n cc i k h1 h2 (reads_row r n cc i k) (reads_col r n cc i k hn)]
  exact congrArg (fun z => (R z : EReal)) (ix3_of _ _ _ _ _ _ (Nat.mod_eq_of_lt h.isLt).symm (Nat.mod_eq_of_lt h1).symm (Nat.mod_eq_of_lt h2).symm)

theorem bit_at (h : Fin 8) (r : Fin 32) (n : Fin 4) (cc : Fin 16) (i : Fin 8) (k : Fin 32) :
    val_main_v126_1 (F := Ideal) (ix6 h r n cc i k) = BitVec.ofBool (decide (near (n.val * 16 + cc.val) (edge n.val + k.val))) := by
  pointwise [val_main_v126_1, val_main_v125]
  exact near_bit n cc k

theorem s_at (h : Fin 8) (r : Fin 32) (n : Fin 4) (cc : Fin 16) (i : Fin 8) (k : Fin 32) :
    (val_main_v126_0 (F := Ideal) X R (ix6 h r n cc i k) : EReal) = (headOf X R D h.val).S r.val (n.val * 16 + cc.val) i.val (edge n.val + k.val) := by
  unfold val_main_v126_0
  show (if val_main_v126_1 (F := Ideal) (ix6 h r n cc i k) = 1#1 then (val_main_v105 (F := Ideal) X (ix6 h r n cc i k) : EReal) + val_main_v123 (F := Ideal) R (ix6 h r n cc i k)
    else val_main_call4_v2 (F := Ideal) (ix6 h r n cc i k)) = _
  rw [bit_at]
  unfold Head.S
  by_cases hn : near (n.val * 16 + cc.val) (edge n.val + k.val)
  · rw [decide_eq_true hn, if_pos (by decide), if_pos hn, dot_at X R D, bias_at X R D h r n cc i k hn]
  · rw [decide_eq_false hn, if_neg (by decide), if_neg hn]
    rw [val_main_call4_v2_apply]
    exact floor_bits

end Cert.AttGradIdeal.Att
-- ==== Proof.AttSoft.lean ====
module

public import proofs.«01_k».proof.Proof.AttElem

/-!
The reference's largest scores, exponentials and their sums, in terms of a head.
-/

@[expose] public section

noncomputable section

namespace Cert.AttGradIdeal.Att

open Cert.AttGradIdeal Cert.AttGradIdeal.Gen Cert.AttGradIdeal.Read Idealize.ShloMosaic Cert.Att

variable (X : FVec Ideal S2048x1536 .f32) (R : FVec Ideal S8x15x31 .f32) (D : FVec Ideal S2048x512 .f32)

theorem m_at (h : Fin 8) (r : Fin 32) (n : Fin 4) (cc : Fin 16) :
    (val_main_v127 (F := Ideal) X R (ix4 h r n cc) : EReal) = (headOf X R D h.val).M r.val (n.val * 16 + cc.val) := by
  have hc : (n.val * 16 + cc.val) / 16 = n.val := by omega
  unfold val_main_v127
  rw [max45, ← Head.max_window _ r.val (show n.val * 16 + cc.val < 64 by omega), hc]
  have e : (val_main_cst_28 (F := Ideal) (Shape.Idx.first h_S_) : EReal) = ⊥ := floor_bits
  rw [e]
  exact Finset.fold_congr fun p _ => s_at X R D h r n cc p.1 p.2

theorem m'_at (h : Fin 8) (r : Fin 32) (n : Fin 4) (cc : Fin 16) (i : Fin 8) (k : Fin 32) :
    (val_main_v145 (F := Ideal) X R (ix6 h r n cc i k) : EReal) = (headOf X R D h.val).M r.val (n.val * 16 + cc.val) := by
  rw [val_main_v145_apply, val_main_v144_apply]
  have e : idx_main_v144 (idx_main_v145 (ix6 h r n cc i k)) = ix4 h r n cc := funext fun ax => match ax with
    | ⟨0, _⟩ => rfl | ⟨1, _⟩ => rfl | ⟨2, _⟩ => rfl | ⟨3, _⟩ => rfl
  rw [e]
  rw [val_main_v134_apply]
  have e'' : (val_main_v133 (F := Ideal) (ix4 h r n cc) : EReal) = ⊥ := by rw [val_main_v133_apply]; exact floor_bits
  rw [m_at X R D, e'']
  exact max_eq_right bot_le

theorem e_at (h : Fin 8) (r : Fin 32) (n : Fin 4) (cc : Fin 16) (i : Fin 8) (k : Fin 32) :
    (val_main_v147 (F := Ideal) X R (ix6 h r n cc i k) : EReal) = (headOf X R D h.val).E r.val (n.val * 16 + cc.val) i.val (edge n.val + k.val) := by
  have e : (val_main_v147 (F := Ideal) X R (ix6 h r n cc i k) : EReal)
    = Ideal.exp ((val_main_v126_0 (F := Ideal) X R (ix6 h r n cc i k) : EReal) - val_main_v145 (F := Ideal) X R (ix6 h r n cc i k)) := rfl
  unfold Head.E
  rw [e, s_at X R D, m'_at X R D]

theorem l_at (h : Fin 8) (r : Fin 32) (n : Fin 4) (cc : Fin 16) :
    (val_main_v148 (F := Ideal) X R (ix4 h r n cc) : EReal) = (headOf X R D h.val).L r.val (n.val * 16 + cc.val) := by
  have hc : (n.val * 16 + cc.val) / 16 = n.val := by omega
  have e : (val_main_cst_36 (F := Ideal) (Shape.Idx.first h_S_) : EReal) = 0 := by pointwise [val_main_cst_36]
  have w := Head.sum_window (show n.val * 16 + cc.val < 64 by omega) (fun i x => (headOf X R D h.val).E r.val (n.val * 16 + cc.val) i x) (fun i x hx => Head.E_far _ hx)
  unfold val_main_v148
  refine (sum45 _ _ _ h r n cc).trans ?_
  rw [e, zero_add]
  refine Eq.trans ?_ w.symm
  rw [hc]
  exact Finset.sum_congr rfl fun i _ => Finset.sum_congr rfl fun k _ => e_at X R D h r n cc i k

end Cert.AttGradIdeal.Att
-- ==== Proof.AttBack.lean ====
module

public import proofs.«01_k».proof.Proof.AttSoft

/-!
The reference's backward lines in terms of a head: the probabilities and the scores' cotangent.
-/

@[expose] public section

noncomputable section

namespace Cert.AttGradIdeal.Att

open Cert.AttGradIdeal Cert.AttGradIdeal.Gen Cert.AttGradIdeal.Read Idealize.ShloMosaic Cert.Att

variable (X : FVec Ideal S2048x1536 .f32) (R : FVec Ideal S8x15x31 .f32) (D : FVec Ideal S2048x512 .f32)

theorem one_bits : Ideal.ofBits .f32 0x3F800000#32 = 1 := by
  simp [Ideal.ofBits, Ideal.ieee]; rw [← EReal.coe_mul]; norm_num

theorem l1_at (h : Fin 8) (r : Fin 32) (n : Fin 4) (cc : Fin 16) :
    (val_main_v149 (F := Ideal) X R (ix6 h r n cc 0 0) : EReal) = (headOf X R D h.val).L r.val (n.val * 16 + cc.val) := by
  rw [val_main_v149_apply]
  have e : idx_main_v149 (ix6 h r n cc 0 0) = ix4 h r n cc := funext fun ax => match ax with
    | ⟨0, _⟩ => rfl | ⟨1, _⟩ => rfl | ⟨2, _⟩ => rfl | ⟨3, _⟩ => rfl
  rw [e, l_at X R D]

theorem l2_at (h : Fin 8) (r : Fin 32) (n : Fin 4) (cc : Fin 16) (i : Fin 8) (k : Fin 32) :
    (val_main_v150 (F := Ideal) X R (ix6 h r n cc i k) : EReal) = (headOf X R D h.val).L r.val (n.val * 16 + cc.val) := by
  rw [val_main_v150_apply]
  have e : idx_main_v150 (ix6 h r n cc i k) = ix6 h r n cc 0 0 := funext fun ax => match ax with
    | ⟨0, _⟩ => rfl | ⟨1, _⟩ => rfl | ⟨2, _⟩ => rfl | ⟨3, _⟩ => rfl | ⟨4, _⟩ => rfl | ⟨5, _⟩ => rfl
  rw [e, l1_at X R D]

theorem l3_at (h : Fin 8) (r : Fin 32) (n : Fin 4) (cc : Fin 16) (i : Fin 8) (k : Fin 32) :
    (val_main_v169 (F := Ideal) X R (ix6 h r n cc i k) : EReal) = (headOf X R D h.val).L r.val (n.val * 16 + cc.val) := by
  rw [val_main_v169_apply]
  have e : idx_main_v169 (ix6 h r n cc i k) = ix6 h r n cc 0 0 := funext fun ax => match ax with
    | ⟨0, _⟩ => rfl | ⟨1, _⟩ => rfl | ⟨2, _⟩ => rfl | ⟨3, _⟩ => rfl | ⟨4, _⟩ => rfl | ⟨5, _⟩ => rfl
  rw [e, l1_at X R D]

theorem inv_at (h : Fin 8) (r : Fin 32) (n : Fin 4) (cc : Fin 16) (i : Fin 8) (k : Fin 32) :
    (val_main_v163 (F := Ideal) X R (ix6 h r n cc i k) : EReal)
      = Ideal.div 1 ((headOf X R D h.val).L r.val (n.val * 16 + cc.val) * (headOf X R D h.val).L r.val (n.val * 16 + cc.val)) := by
  rw [val_main_v163_apply]
  have e : idx_main_v163 (ix6 h r n cc i k) = ix6 h r n cc 0 0 := funext fun ax => match ax with
    | ⟨0, _⟩ => rfl | ⟨1, _⟩ => rfl | ⟨2, _⟩ => rfl | ⟨3, _⟩ => rfl | ⟨4, _⟩ => rfl | ⟨5, _⟩ => rfl
  have e1 : (val_main_v153 (F := Ideal) (ix6 h r n cc 0 0) : EReal) = 1 := by rw [val_main_v153_apply]; exact one_bits
  rw [e, val_main_v154_apply, val_main_v152_apply, l1_at X R D, e1]
  rfl

/-- Dividing by the sum is multiplying by its inverse. -/
theorem div_L {H : Head} (hR : H.Real') (r : ℕ) {c : ℕ} (hc : c < 64) (x : EReal) : Ideal.div x (H.L r c) = x * Ideal.div 1 (H.L r c) := by
  obtain ⟨l, hl, hL⟩ := H.L_real hR r hc
  have h0 : H.L r c ≠ 0 := by rw [hL]; exact_mod_cast hl.ne'
  unfold Ideal.div
  rw [if_neg h0, if_neg h0, one_mul]

variable (hX : ∀ j, ∃ a : ℝ, (X j : EReal) = a) (hR : ∀ j, ∃ a : ℝ, (R j : EReal) = a)
include hX hR

theorem p_at (h : Fin 8) (r : Fin 32) (n : Fin 4) (cc : Fin 16) (i : Fin 8) (k : Fin 32) :
    (val_main_v151 (F := Ideal) X R (ix6 h r n cc i k) : EReal) = (headOf X R D h.val).P r.val (n.val * 16 + cc.val) i.val (edge n.val + k.val) := by
  rw [val_main_v151_apply, e_at X R D, l2_at X R D]
  exact div_L (headOf_real D h.val hX hR) r.val (show n.val * 16 + cc.val < 64 by omega) _

omit hX hR in
theorem t_at (h : Fin 8) (r : Fin 32) (n : Fin 4) (cc : Fin 16) :
    (val_main_v166 (F := Ideal) X R D (ix4 h r n cc) : EReal)
      = ∑ j : Fin 512, (headOf X R D h.val).DP r.val (n.val * 16 + cc.val) (j.val / 64) (j.val % 64)
          * Ideal.div 1 ((headOf X R D h.val).L r.val (n.val * 16 + cc.val) * (headOf X R D h.val).L r.val (n.val * 16 + cc.val))
          * (headOf X R D h.val).E r.val (n.val * 16 + cc.val) (j.val / 64) (j.val % 64) := by
  have hc : (n.val * 16 + cc.val) / 16 = n.val := by omega
  have e : (val_main_cst_38 (F := Ideal) (Shape.Idx.first h_S_) : EReal) = 0 := by pointwise [val_main_cst_38]
  have w := Head.sum_window (show n.val * 16 + cc.val < 64 by omega) (fun i x => (headOf X R D h.val).DP r.val (n.val * 16 + cc.val) i x
          * Ideal.div 1 ((headOf X R D h.val).L r.val (n.val * 16 + cc.val) * (headOf X R D h.val).L r.val (n.val * 16 + cc.val))
          * (headOf X R D h.val).E r.val (n.val * 16 + cc.val) i x) (fun i x hx => by rw [Head.E_far _ hx, mul_zero])
  unfold val_main_v166
  refine (sum45 _ _ _ h r n cc).trans ?_
  rw [e, zero_add]
  refine Eq.trans ?_ w.symm
  rw [hc]
  refine Finset.sum_congr rfl fun i _ => Finset.sum_congr rfl fun k _ => ?_
  rw [val_main_v165_apply, val_main_v164_apply, dp_at X R D, inv_at X R D, e_at X R D]
  rfl

omit hX hR in
theorem u_at (h : Fin 8) (r : Fin 32) (n : Fin 4) (cc : Fin 16) (i : Fin 8) (k : Fin 32) :
    (val_main_v172 (F := Ideal) X R D (ix6 h r n cc i k) : EReal) = -(val_main_v166 (F := Ideal) X R D (ix4 h r n cc) : EReal) := by
  rw [val_main_v172_apply]
  have e : idx_main_v172 (ix6 h r n cc i k) = ix4 h r n cc := funext fun ax => match ax with
    | ⟨0, _⟩ => rfl | ⟨1, _⟩ => rfl | ⟨2, _⟩ => rfl | ⟨3, _⟩ => rfl
  have e0 : (val_main_cst_39 (F := Ideal) (Shape.Idx.first h_S_) : EReal) = 0 := by pointwise [val_main_cst_39]
  rw [e]
  unfold val_main_v171
  refine (sum45 _ _ _ h r n cc).trans ?_
  rw [e0, zero_add, Fin.sum_univ_one, Fin.sum_univ_one, val_main_v168_apply]
  have e1 : val_main_v167 (F := Ideal) X R D (ix6 h r n cc 0 0) = val_main_v166 (F := Ideal) X R D (ix4 h r n cc) := by
    unfold val_main_v167
    generalize val_main_v166 (F := Ideal) X R D = y
    pointwise []
  rw [e1]
  rfl

theorem ds_at (h : Fin 8) (r : Fin 32) (n : Fin 4) (cc : Fin 16) (i : Fin 8) (k : Fin 32) :
    (val_main_v175 (F := Ideal) X R D (ix6 h r n cc i k) : EReal) = (headOf X R D h.val).DS r.val (n.val * 16 + cc.val) i.val (edge n.val + k.val) := by
  unfold val_main_v175
  show (if val_main_v126_1 (F := Ideal) (ix6 h r n cc i k) = 1#1 then (val_main_v174 (F := Ideal) X R D (ix6 h r n cc i k) : EReal)
    else val_main_call5_v0 (F := Ideal) (ix6 h r n cc i k)) = _
  rw [bit_at]
  by_cases hn : near (n.val * 16 + cc.val) (edge n.val + k.val)
  · rw [decide_eq_true hn, if_pos (by decide), val_main_v174_apply, val_main_v173_apply, val_main_v170_apply, dp_at X R D, l3_at X R D, u_at X R D, t_at X R D, e_at X R D]
    obtain ⟨l, hl, hL⟩ := (headOf X R D h.val).L_real (headOf_real D h.val hX hR) r.val (show n.val * 16 + cc.val < 64 by omega)
    exact Head.cotangent (fun j : Fin 512 => (headOf X R D h.val).DP r.val (n.val * 16 + cc.val) (j.val / 64) (j.val % 64))
      (fun j : Fin 512 => (headOf X R D h.val).E r.val (n.val * 16 + cc.val) (j.val / 64) (j.val % 64)) hl hL _ _
  · rw [decide_eq_false hn, if_neg (by decide), Head.DS_far _ hn]
    pointwise [val_main_call5_v0, val_main_call5_cst]

end Cert.AttGradIdeal.Att
-- ==== Proof.AttBlk.lean ====
module

public import proofs.«01_k».proof.Proof.AttFrame
public import proofs.«01_k».proof.Proof.AttMath
public import Idealize.ShloMosaic.Lib.Pipeline.ValueKit
public import Idealize.ShloMosaic.Lib.Pipeline.ReadBack
public import Idealize.ShloMosaic.Lib.Pointwise
public import Idealize.ShloMosaic.Lib.StableHlo.RunRead
public import Idealize.ShloMosaic.Lib.StableHlo.ReadAt

/-!
The blocks a group of heads reads, in terms of the call's arguments.
-/

@[expose] public section

set_option maxRecDepth 16384

noncomputable section

namespace Cert.AttBwdIdeal.Body

open Idealize.ShloMosaic Idealize.ShloMosaic.TcCoe Idealize.ShloMosaic.Tactic
open Idealize.SL.Sem
open Idealize.ShloMosaic.Pipeline (Dat)
open Cert.AttBwdIdeal.Gen

variable (m : (ℓ : Loc nD τ sig) → Buf (Elt Ideal) ℓ)

/-- The arguments of the call. -/
abbrev A0 (c : Dev nD) : FVec Ideal S2048x1536 .f32 := m ((c : Thread nD τ).loc main_arg0)
abbrev A1 (c : Dev nD) : FVec Ideal S8x15x31 .f32 := m ((c : Thread nD τ).loc main_arg1)
abbrev A2 (c : Dev nD) : FVec Ideal S2048x512 .f32 := m ((c : Thread nD τ).loc main_arg2)

/-- Where each block lies. -/
theorem idx : ∀ t : Fin cfg0.N,
    win0_0.index t = ![0, t.val] ∧ win0_1.index t = ![0, t.val + 2] ∧ win0_2.index t = ![0, t.val + 4] ∧ win0_3.index t = ![0, t.val]
    ∧ win0_4.index t = ![0, t.val, 0, 0] ∧ win0_5.index t = ![0, 0] ∧ win0_6.index t = ![0, 0] ∧ win0_8.index t = ![0, 0, t.val] :=
  (by decide +kernel : ∀ t : Fin grid0.N, _)

theorem grp (t : Fin cfg0.N) : t.val < 2 := lt_of_lt_of_eq t.isLt N_0

theorem blk_q (c : Dev nD) (t : Fin cfg0.N) (y : Fin 2048) (l : Fin 256) :
    iblk m c 0 t (ix2 y l) = A0 m c (ix2 y ⟨t.val * 256 + l.val, by have := grp t; omega⟩) := by
  blk_point [iblk, V, idx t]

theorem blk_o (c : Dev nD) (t : Fin cfg0.N) (y : Fin 2048) (l : Fin 256) :
    iblk m c 3 t (ix2 y l) = A2 m c (ix2 y ⟨t.val * 256 + l.val, by have := grp t; omega⟩) := by
  blk_point [iblk, V, idx t]

theorem blk_valid (c : Dev nD) (t : Fin cfg0.N) (a : Fin 64) (j : Fin 512) :
    iblk m c 5 t (ix2 a j) = V m c main_v57 (ix2 a j) := by
  blk_point [iblk, idx t]

theorem blk_head (c : Dev nD) (t : Fin cfg0.N) (a : Fin 256) (j : Fin 256) :
    iblk m c 6 t (ix2 a j) = V m c main_v58 (ix2 a j) := by
  blk_point [iblk, idx t]

theorem blk_bias (c : Dev nD) (t : Fin cfg0.N) (i : Fin 8) (hh : Fin 4) (j : Fin 512) :
    iblk m c 4 t (ix4 i 0 hh j) = V m c main_v26 (ix4 i ⟨t.val, grp t⟩ hh j) := by
  blk_point [iblk, idx t]

/-- The column a flat key index stands in, as the words compute it. -/
def colWord (x : BitVec 32) : BitVec 32 :=
  let n := Scalar.select (IntOp.cmpi CmpIPredicate.eq 64#32 0#32) (1#32) 64#32
  let r := IntOp.remsi ArithUnit.host x n
  Scalar.select (IntOp.andi (IntOp.cmpi CmpIPredicate.ne (IntOp.cmpi CmpIPredicate.slt r 0#32) (IntOp.cmpi CmpIPredicate.slt n 0#32)) (IntOp.cmpi CmpIPredicate.ne r 0#32))
    (IntOp.addi r n) r

/-- The first column of a query's window, as the words compute it. -/
def westWord (x : BitVec 32) : BitVec 32 := IntOp.minsi 48#32 (IntOp.maxsi 0#32 (IntOp.subi x 8#32))

theorem colWord_eq : ∀ j : Fin 512, colWord (BitVec.ofNat 32 j.val) = BitVec.ofNat 32 (j.val % 64) := by decide +kernel
theorem westWord_eq : ∀ a : Fin 64, westWord (BitVec.ofNat 32 a.val) = BitVec.ofNat 32 (Att.west a.val) := by decide +kernel
theorem nearWord : ∀ a x : Fin 64, IntOp.andi (IntOp.cmpi CmpIPredicate.sge (BitVec.ofNat 32 x.val) (BitVec.ofNat 32 (Att.west a.val)))
    (IntOp.cmpi CmpIPredicate.slt (BitVec.ofNat 32 x.val) (IntOp.addi (BitVec.ofNat 32 (Att.west a.val)) 16#32)) = if Att.near a.val x.val then 1#1 else 0#1 := by decide +kernel

theorem valid_at (c : Dev nD) (a : Fin 64) (j : Fin 512) :
    V m c main_v57 (ix2 a j) = FloatOps.uitofp (F := Ideal) .f32 (if Att.near a.val (j.val % 64) then 1#1 else 0#1) := by
  unfold V
  after_reads_at
  show FloatOps.uitofp (F := Ideal) .f32 (IntOp.andi (IntOp.cmpi CmpIPredicate.sge (colWord (BitVec.ofNat 32 j.val)) (westWord (BitVec.ofNat 32 a.val)))
    (IntOp.cmpi CmpIPredicate.slt (colWord (BitVec.ofNat 32 j.val)) (IntOp.addi (westWord (BitVec.ofNat 32 a.val)) 16#32))) = _
  rw [colWord_eq, westWord_eq]
  exact congrArg (FloatOps.uitofp (F := Ideal) .f32) (nearWord a ⟨j.val % 64, Nat.mod_lt _ (by norm_num)⟩)

theorem blk_k (c : Dev nD) (t : Fin cfg0.N) (y : Fin 2048) (l : Fin 256) :
    iblk m c 1 t (ix2 y l) = A0 m c (ix2 y ⟨512 + t.val * 256 + l.val, by have := grp t; omega⟩) := by
  blk_point [iblk, V, idx t]

theorem blk_v (c : Dev nD) (t : Fin cfg0.N) (y : Fin 2048) (l : Fin 256) :
    iblk m c 2 t (ix2 y l) = A0 m c (ix2 y ⟨1024 + t.val * 256 + l.val, by have := grp t; omega⟩) := by
  blk_point [iblk, V, idx t]

/-- A sign, and the head a flat index stands in, as the words compute them. -/
def signWord (x : BitVec 32) : BitVec 32 := if x = 0#32 then 0#32 else if x.msb then -1#32 else 1#32
def headOfWord (x : BitVec 32) : BitVec 32 :=
  Scalar.select (IntOp.andi (IntOp.cmpi CmpIPredicate.ne (signWord x) (signWord 64#32)) (IntOp.cmpi CmpIPredicate.ne (IntOp.remsi ArithUnit.host x 64#32) 0#32))
    (IntOp.subi (IntOp.divsi ArithUnit.host x 64#32) 1#32) (IntOp.divsi ArithUnit.host x 64#32)

theorem headOfWord_eq : ∀ a : Fin 256, headOfWord (BitVec.ofNat 32 a.val) = BitVec.ofNat 32 (a.val / 64) := by decide +kernel
theorem sameWord : ∀ a b : Fin 4, IntOp.cmpi CmpIPredicate.eq (BitVec.ofNat 32 a.val) (BitVec.ofNat 32 b.val) = if a.val = b.val then 1#1 else 0#1 := by decide +kernel

theorem head_at (c : Dev nD) (a b : Fin 256) :
    V m c main_v58 (ix2 a b) = FloatOps.uitofp (F := Ideal) .f32 (if a.val / 64 = b.val / 64 then 1#1 else 0#1) := by
  unfold V
  after_reads_at
  show FloatOps.uitofp (F := Ideal) .f32 (IntOp.cmpi CmpIPredicate.eq (headOfWord (BitVec.ofNat 32 a.val)) (headOfWord (BitVec.ofNat 32 b.val))) = _
  rw [headOfWord_eq, headOfWord_eq]
  exact congrArg (FloatOps.uitofp (F := Ideal) .f32) (sameWord ⟨a.val / 64, by omega⟩ ⟨b.val / 64, by omega⟩)

/-- One row of the padded bias table, cut and regrouped. -/
theorem row_piece (x : FVec Ideal S8x15x31 .f32) (z : FVec Ideal S_ .f32) (n : ℕ) (hn : n ≤ 7) (hs : S8x15x64.Slices ![0, n, 0] S8x8x64)
    (g : Fin 2) (hh : Fin 4) (j : Fin 512) (hj : j.val % 64 < 31) :
    broadcastInDim S1x2x4x512 ![1, 2, 3] bcast_S2x4x512_S1x2x4x512_1_2_3 (shapeCast S2x4x512 (extractStridedSlice S8x8x64 ![0, n, 0]
      (pad S8x15x64 ![0, 0, 0] ![0, 0, 33] ![0, 0, 0] x z pads_S8x15x31_S8x15x64_000_000_0330 h_S_) hs) shapeCasts_S8x8x64_S2x4x512)
      (ix4 0 g hh j) = x (ix3 ⟨g.val * 4 + hh.val, by omega⟩ ⟨n + j.val / 64, by omega⟩ ⟨j.val % 64, hj⟩) := by
  pointwise []
  rw [dif_pos (by omega)]

theorem bias_rows_at (c : Dev nD) (i : Fin 8) (g : Fin 2) (hh : Fin 4) (j : Fin 512) (hj : j.val % 64 < 31) :
    V m c main_v26 (ix4 i g hh j) = A1 m c (ix3 ⟨g.val * 4 + hh.val, by omega⟩ ⟨7 - i.val + j.val / 64, by omega⟩ ⟨j.val % 64, hj⟩) := by
  unfold V
  after_reads_at
  match i with
  | 0 =>
    rw [dif_pos (by decide)]
    after_reads_simp
    exact row_piece (A1 m c) _ 7 (by norm_num) slices_S8x15x64_S8x8x64_0_7_0 g hh j hj
  | 1 =>
    iterate 1 rw [dif_neg (by decide)]
    rw [dif_pos (by decide)]
    after_reads_simp
    exact row_piece (A1 m c) _ 6 (by norm_num) slices_S8x15x64_S8x8x64_0_6_0 g hh j hj
  | 2 =>
    iterate 2 rw [dif_neg (by decide)]
    rw [dif_pos (by decide)]
    after_reads_simp
    exact row_piece (A1 m c) _ 5 (by norm_num) slices_S8x15x64_S8x8x64_0_5_0 g hh j hj
  | 3 =>
    iterate 3 rw [dif_neg (by decide)]
    rw [dif_pos (by decide)]
    after_reads_simp
    exact row_piece (A1 m c) _ 4 (by norm_num) slices_S8x15x64_S8x8x64_0_4_0 g hh j hj
  | 4 =>
    iterate 4 rw [dif_neg (by decide)]
    rw [dif_pos (by decide)]
    after_reads_simp
    exact row_piece (A1 m c) _ 3 (by norm_num) slices_S8x15x64_S8x8x64_0_3_0 g hh j hj
  | 5 =>
    iterate 5 rw [dif_neg (by decide)]
    rw [dif_pos (by decide)]
    after_reads_simp
    exact row_piece (A1 m c) _ 2 (by norm_num) slices_S8x15x64_S8x8x64_0_2_0 g hh j hj
  | 6 =>
    iterate 6 rw [dif_neg (by decide)]
    rw [dif_pos (by decide)]
    after_reads_simp
    exact row_piece (A1 m c) _ 1 (by norm_num) slices_S8x15x64_S8x8x64_0_1_0 g hh j hj
  | 7 =>
    iterate 7 rw [dif_neg (by decide)]
    after_reads_simp
    exact row_piece (A1 m c) _ 0 (by norm_num) slices_S8x15x64_S8x8x64_0_0_0 g hh j hj

end Cert.AttBwdIdeal.Body
-- ==== Proof.AttKer.lean ====
module

public import proofs.«01_k».proof.Proof.AttBlk
public import proofs.«01_k».proof.Proof.AttHead

/-!
What the body computes of a group's blocks is the gradients of its four heads.
-/

@[expose] public section

set_option maxRecDepth 16384

noncomputable section

namespace Cert.AttBwdIdeal.Body

open Idealize.ShloMosaic Idealize.ShloMosaic.TcCoe Idealize.ShloMosaic.Tactic
open Idealize.SL.Sem
open Idealize.ShloMosaic.Pipeline (Dat)
open Cert.AttBwdIdeal.Gen
open Cert.Att (top near scale ix2_of ix3_of sum_lanes)

variable (m : (ℓ : Loc nD τ sig) → Buf (Elt Ideal) ℓ) (c : Dev nD) (t : Fin cfg0.N)

/-- A zero or one is above a half exactly as its bit says. -/
theorem above_half (b : BitVec 1) : Ideal.cmp .ogt (((b.toNat : ℝ) : EReal)) (Ideal.ofBits .f32 0x3F000000#32) = b := by
  have h : Ideal.ofBits .f32 0x3F000000#32 = ((1 / 2 : ℝ) : EReal) := by
    simp [Ideal.ofBits, Ideal.ieee]; rw [← EReal.coe_mul]; norm_num
  rw [h]
  unfold Ideal.cmp
  obtain rfl | rfl : b = 0#1 ∨ b = 1#1 := by revert b; decide
  · simp only [EReal.coe_lt_coe_iff]; norm_num; rfl
  · simp only [EReal.coe_lt_coe_iff]; norm_num; rfl

theorem same_bit (a l : Fin 256) : k0_pay15 (F := Ideal) (iblk m c 6 t) (ix2 a l) = if a.val / 64 = l.val / 64 then 1#1 else 0#1 := by
  have h : iblk m c 6 t (ix2 a l) = FloatOps.uitofp (F := Ideal) .f32 (if a.val / 64 = l.val / 64 then 1#1 else 0#1) := (blk_head m c t a l).trans (head_at m c a l)
  have h' : k0_pay15 (F := Ideal) (iblk m c 6 t) (ix2 a l) = Ideal.cmp .ogt (iblk m c 6 t (ix2 a l) : EReal) (Ideal.ofBits .f32 0x3F000000#32) := by
    pointwise [k0_pay15]
  rw [h', h]
  exact above_half _

theorem near_bit (a : Fin 64) (j : Fin 512) : k0_pay19 (F := Ideal) (iblk m c 5 t) (ix2 a j) = if near a.val (j.val % 64) then 1#1 else 0#1 := by
  have h : iblk m c 5 t (ix2 a j) = FloatOps.uitofp (F := Ideal) .f32 (if near a.val (j.val % 64) then 1#1 else 0#1) := (blk_valid m c t a j).trans (valid_at m c a j)
  have h' : k0_pay19 (F := Ideal) (iblk m c 5 t) (ix2 a j) = Ideal.cmp .ogt (iblk m c 5 t (ix2 a j) : EReal) (Ideal.ofBits .f32 0x3F000000#32) := by
    pointwise [k0_pay19]
  rw [h', h]
  exact above_half _

theorem onHead_eq (x : Fin 64 → Fin 256 → EReal) (a l : Fin 256) :
    onHead (k0_pay15 (F := Ideal) (iblk m c 6 t)) x a l = if a.val / 64 = l.val / 64 then x ⟨a.val % 64, Nat.mod_lt _ (by norm_num)⟩ l else 0 := by
  unfold onHead
  rw [same_bit]
  split_ifs <;> rfl

/-- A product over the group's lanes with rows kept to one head. -/
theorem lanes_eq (x : Fin 64 → Fin 256 → EReal) (w : Fin 256 → EReal) (a : Fin 256) :
    ∑ l : Fin 256, onHead (k0_pay15 (F := Ideal) (iblk m c 6 t)) x a l * w l
      = ∑ d : Fin 64, x ⟨a.val % 64, Nat.mod_lt _ (by norm_num)⟩ ⟨a.val / 64 * 64 + d.val, by omega⟩ * w ⟨a.val / 64 * 64 + d.val, by omega⟩ := by
  rw [sum_lanes (a.val / 64) (by omega) _ fun l hl => by rw [onHead_eq, if_neg (Ne.symm hl), zero_mul]]
  refine Finset.sum_congr rfl fun d _ => ?_
  rw [onHead_eq, if_pos (by simp only []; omega)]

/-- A sum over the group's rows against rows kept to one head. -/
theorem rows_eq (x : Fin 64 → Fin 256 → EReal) (w : Fin 256 → EReal) (l : Fin 256) :
    ∑ a : Fin 256, w a * onHead (k0_pay15 (F := Ideal) (iblk m c 6 t)) x a l
      = ∑ p : Fin 64, w ⟨l.val / 64 * 64 + p.val, by omega⟩ * x p l := by
  rw [sum_lanes (l.val / 64) (by omega) _ fun a ha => by rw [onHead_eq, if_neg ha, mul_zero]]
  refine Finset.sum_congr rfl fun p _ => ?_
  rw [onHead_eq, if_pos (by simp only []; omega)]
  exact congrArg (fun z => _ * x z l) (Fin.ext (by simp only []; omega))

/-- Head `n` of the arguments. -/
abbrev H (n : ℕ) : Att.Head := Att.headOf (A0 m c) (A1 m c) (A2 m c) n

variable (k : Fin k0_t1_loop.trips)

theorem q_at (p : Fin 64) (l : Fin 256) : rowsQ (iblk m c 0 t) k (ix2 p l) = (H m c (t.val * 4 + l.val / 64)).q k.val p.val (l.val % 64) := by
  have := grp t; have := k_lt k
  refine (blk_q m c t _ _).trans (congrArg (A0 m c) (ix2_of _ _ _ _ ?_ ?_)) <;> simp only [ix2_0, ix2_1] <;> omega

theorem o_at (p : Fin 64) (l : Fin 256) : rowsQ (iblk m c 3 t) k (ix2 p l) = (H m c (t.val * 4 + l.val / 64)).o k.val p.val (l.val % 64) := by
  have := grp t; have := k_lt k
  refine (blk_o m c t _ _).trans (congrArg (A2 m c) (ix2_of _ _ _ _ ?_ ?_)) <;> simp only [ix2_0, ix2_1] <;> omega

theorem k_at (j : Fin 512) (l : Fin 256) : rowsW (iblk m c 1 t) k (ix2 j l) = (H m c (t.val * 4 + l.val / 64)).k (top k.val + j.val / 64) (j.val % 64) (l.val % 64) := by
  have := grp t; have := k_lt k; have hr : rs k.val = min (k.val - 4) 24 := rfl
  refine (blk_k m c t _ _).trans (congrArg (A0 m c) (ix2_of _ _ _ _ ?_ ?_)) <;> simp only [ix2_0, ix2_1] <;> (try unfold top) <;> omega

theorem v_at (j : Fin 512) (l : Fin 256) : rowsW (iblk m c 2 t) k (ix2 j l) = (H m c (t.val * 4 + l.val / 64)).v (top k.val + j.val / 64) (j.val % 64) (l.val % 64) := by
  have := grp t; have := k_lt k; have hr : rs k.val = min (k.val - 4) 24 := rfl
  refine (blk_v m c t _ _).trans (congrArg (A0 m c) (ix2_of _ _ _ _ ?_ ?_)) <;> simp only [ix2_0, ix2_1] <;> (try unfold top) <;> omega

theorem tile_at (a : Fin 256) (j : Fin 512) : tileK (k0_pay19 (F := Ideal) (iblk m c 5 t)) (iblk m c 4 t) k (ix3 0 a j)
    = if near (a.val % 64) (j.val % 64) then (H m c (t.val * 4 + a.val / 64)).b (j.val / 64 + top k.val + 7 - k.val) (j.val % 64 + 15 - a.val % 64) else ⊥ := by
  have h2 := grp t; have h3 := k_lt k
  unfold tileK
  show Scalar.select (k0_pay19 (F := Ideal) (iblk m c 5 t) (ix2 ⟨a.val % 64, _⟩ j)) (iblk m c 4 t (ix4 ⟨k.val - rs k.val, _⟩ 0 ⟨a.val / 64, _⟩ ⟨(j.val + 512 - (497 + a.val % 64) % 512) % 512, _⟩)) (⊥ : EReal) = _
  rw [near_bit]
  simp only []
  split_ifs with hn
  · refine (blk_bias m c t _ _ _).trans ?_
    unfold near Att.west at hn
    refine (bias_rows_at m c _ _ _ _ (by simp only []; omega)).trans (congrArg (A1 m c) (ix3_of _ _ _ _ _ _ ?_ ?_ ?_)) <;> simp only [] <;> (try unfold top) <;> (try unfold rs) <;> omega
  · rfl

theorem score_eq (a : Fin 256) (j : Fin 512) :
    score (k0_pay15 (F := Ideal) (iblk m c 6 t)) (rowsQ (iblk m c 0 t) k) (rowsW (iblk m c 1 t) k) (tileK (k0_pay19 (F := Ideal) (iblk m c 5 t)) (iblk m c 4 t) k) a j
      = (H m c (t.val * 4 + a.val / 64)).S k.val (a.val % 64) (j.val / 64) (j.val % 64) := by
  unfold score
  rw [lanes_eq m c t (qScaled (rowsQ (iblk m c 0 t) k)) (fun l => rowsW (iblk m c 1 t) k (ix2 j l)), tile_at]
  unfold Att.Head.S
  split_ifs with hn
  · refine congrArg (· + _) ?_
    unfold Att.Head.dot
    refine Finset.sum_congr rfl fun d _ => ?_
    have e1 : (a.val / 64 * 64 + d.val) / 64 = a.val / 64 := by omega
    have e2 : (a.val / 64 * 64 + d.val) % 64 = d.val := by omega
    unfold qScaled
    rw [q_at, k_at, Att.scale_bf16]
    simp only [e1, e2]
  · exact EReal.add_bot _

theorem expo_eq (a : Fin 256) (j : Fin 512) :
    expo (k0_pay15 (F := Ideal) (iblk m c 6 t)) (rowsQ (iblk m c 0 t) k) (rowsW (iblk m c 1 t) k) (tileK (k0_pay19 (F := Ideal) (iblk m c 5 t)) (iblk m c 4 t) k) a j
      = (H m c (t.val * 4 + a.val / 64)).E k.val (a.val % 64) (j.val / 64) (j.val % 64) := by
  unfold expo Att.Head.E Att.Head.M
  rw [score_eq, Att.floor_bits]
  simp only [score_eq]

theorem prob_eq (a : Fin 256) (j : Fin 512) :
    probOf (iblk m c 0 t) (iblk m c 1 t) (iblk m c 4 t) (iblk m c 5 t) (iblk m c 6 t) k a j
      = (H m c (t.val * 4 + a.val / 64)).P k.val (a.val % 64) (j.val / 64) (j.val % 64) := by
  unfold probOf prob Att.Head.P Att.Head.L
  simp only [expo_eq]

theorem dprob_eq (a : Fin 256) (j : Fin 512) :
    dprob (k0_pay15 (F := Ideal) (iblk m c 6 t)) (rowsQ (iblk m c 3 t) k) (rowsW (iblk m c 2 t) k) a j
      = (H m c (t.val * 4 + a.val / 64)).DP k.val (a.val % 64) (j.val / 64) (j.val % 64) := by
  unfold dprob
  rw [lanes_eq m c t (fun a l => rowsQ (iblk m c 3 t) k (ix2 a l)) (fun l => rowsW (iblk m c 2 t) k (ix2 j l))]
  unfold Att.Head.DP
  refine Finset.sum_congr rfl fun d _ => ?_
  have e1 : (a.val / 64 * 64 + d.val) / 64 = a.val / 64 := by omega
  have e2 : (a.val / 64 * 64 + d.val) % 64 = d.val := by omega
  rw [o_at, v_at]
  simp only [e1, e2]

theorem dscore_eq (a : Fin 256) (j : Fin 512) :
    dscoreOf (iblk m c 0 t) (iblk m c 1 t) (iblk m c 2 t) (iblk m c 3 t) (iblk m c 4 t) (iblk m c 5 t) (iblk m c 6 t) k a j
      = (H m c (t.val * 4 + a.val / 64)).DS k.val (a.val % 64) (j.val / 64) (j.val % 64) := by
  have h : ∀ j, prob (k0_pay15 (F := Ideal) (iblk m c 6 t)) (rowsQ (iblk m c 0 t) k) (rowsW (iblk m c 1 t) k) (tileK (k0_pay19 (F := Ideal) (iblk m c 5 t)) (iblk m c 4 t) k) a j
      = (H m c (t.val * 4 + a.val / 64)).P k.val (a.val % 64) (j.val / 64) (j.val % 64) := fun j => prob_eq m c t k a j
  unfold dscoreOf dscore Att.Head.DS Att.Head.Tot
  simp only [h, dprob_eq]

theorem dq_eq (p : Fin 64) (l : Fin 256) :
    dqOf (iblk m c 0 t) (iblk m c 1 t) (iblk m c 2 t) (iblk m c 3 t) (iblk m c 4 t) (iblk m c 5 t) (iblk m c 6 t) k p l
      = (H m c (t.val * 4 + l.val / 64)).gq k.val p.val (l.val % 64) := by
  have e1 : (l.val / 64 * 64 + p.val) / 64 = l.val / 64 := by omega
  have e2 : (l.val / 64 * 64 + p.val) % 64 = p.val := by omega
  unfold dqOf Att.Head.gq
  simp only [dscore_eq, k_at, e1, e2]

theorem dk_eq (j : Fin 512) (l : Fin 256) :
    dkOf (iblk m c 0 t) (iblk m c 1 t) (iblk m c 2 t) (iblk m c 3 t) (iblk m c 4 t) (iblk m c 5 t) (iblk m c 6 t) k j l
      = ∑ p : Fin 64, (H m c (t.val * 4 + l.val / 64)).DS k.val p.val (j.val / 64) (j.val % 64) * ((H m c (t.val * 4 + l.val / 64)).q k.val p.val (l.val % 64) * scale) := by
  unfold dkOf
  rw [rows_eq m c t (qScaled (rowsQ (iblk m c 0 t) k)) (fun a => dscoreOf (iblk m c 0 t) (iblk m c 1 t) (iblk m c 2 t) (iblk m c 3 t) (iblk m c 4 t) (iblk m c 5 t) (iblk m c 6 t) k a j)]
  refine Finset.sum_congr rfl fun p _ => ?_
  have e1 : (l.val / 64 * 64 + p.val) / 64 = l.val / 64 := by omega
  have e2 : (l.val / 64 * 64 + p.val) % 64 = p.val := by omega
  unfold qScaled
  rw [dscore_eq, q_at, Att.scale_bf16]
  simp only [e1, e2]

theorem dv_eq (j : Fin 512) (l : Fin 256) :
    dvOf (iblk m c 0 t) (iblk m c 1 t) (iblk m c 3 t) (iblk m c 4 t) (iblk m c 5 t) (iblk m c 6 t) k j l
      = ∑ p : Fin 64, (H m c (t.val * 4 + l.val / 64)).P k.val p.val (j.val / 64) (j.val % 64) * (H m c (t.val * 4 + l.val / 64)).o k.val p.val (l.val % 64) := by
  unfold dvOf
  rw [rows_eq m c t (fun a l => rowsQ (iblk m c 3 t) k (ix2 a l)) (fun a => probOf (iblk m c 0 t) (iblk m c 1 t) (iblk m c 4 t) (iblk m c 5 t) (iblk m c 6 t) k a j)]
  refine Finset.sum_congr rfl fun p _ => ?_
  have e1 : (l.val / 64 * 64 + p.val) / 64 = l.val / 64 := by omega
  have e2 : (l.val / 64 * 64 + p.val) % 64 = p.val := by omega
  rw [prob_eq, o_at]
  simp only [e1, e2]

/-- The gradient a head's channel has at a row of the grid's cells. -/
def gradAt (G : Att.Head) (s : Fin 3) (y d : ℕ) : EReal :=
  if s = 0 then G.gq (y / 64) (y % 64) d else if s = 1 then G.gk (y / 64) (y % 64) d else G.gv (y / 64) (y % 64) d

/-- A sum over trips of what the window's rows add is the sum over the rows whose windows hold the row. -/
theorem trips_sum (y : Fin 2048) (f : Fin k0_t1_loop.trips → Fin 512 → EReal) (g : ℕ → ℕ → ℕ → EReal)
    (hf : ∀ k j, f k j = g k.val (j.val / 64) (j.val % 64)) :
    (∑ k : Fin k0_t1_loop.trips, if h : rs k.val * 64 ≤ y.val ∧ y.val < rs k.val * 64 + 512 then f k ⟨y.val - rs k.val * 64, by omega⟩ else 0)
      = ∑ r : Fin 32, if top r.val ≤ y.val / 64 ∧ y.val / 64 < top r.val + 8 then g r.val (y.val / 64 - top r.val) (y.val % 64) else 0 := by
  refine Fintype.sum_equiv (finCongr trips_eq) _ _ fun k => ?_
  show _ = if top k.val ≤ y.val / 64 ∧ y.val / 64 < top k.val + 8 then g k.val (y.val / 64 - top k.val) (y.val % 64) else 0
  by_cases h : rs k.val * 64 ≤ y.val ∧ y.val < rs k.val * 64 + 512
  · rw [dif_pos h, if_pos (by unfold rs at h; unfold top; omega), hf]
    simp only []
    have e1 : (y.val - rs k.val * 64) / 64 = y.val / 64 - top k.val := by unfold rs at *; unfold top; omega
    have e2 : (y.val - rs k.val * 64) % 64 = y.val % 64 := by unfold rs at *; omega
    rw [e1, e2]
  · rw [dif_neg h, if_neg (by unfold rs at h; unfold top; omega)]

theorem grads_eq (s : Fin 3) (y : Fin 2048) (l : Fin 256) :
    gradsAt (iblk m c 0 t) (iblk m c 1 t) (iblk m c 2 t) (iblk m c 3 t) (iblk m c 4 t) (iblk m c 5 t) (iblk m c 6 t) s y l
      = gradAt (H m c (t.val * 4 + l.val / 64)) s y.val (l.val % 64) := by
  match s with
  | 0 => exact dq_eq m c t _ _ _
  | 1 =>
    refine (trips_sum y (fun k j => dkOf (iblk m c 0 t) (iblk m c 1 t) (iblk m c 2 t) (iblk m c 3 t) (iblk m c 4 t) (iblk m c 5 t) (iblk m c 6 t) k j l) (fun r i x => ∑ p : Fin 64, (H m c (t.val * 4 + l.val / 64)).DS r p.val i x * ((H m c (t.val * 4 + l.val / 64)).q r p.val (l.val % 64) * scale)) fun k j => dk_eq m c t k j l).trans ?_
    unfold gradAt Att.Head.gk
    rfl
  | 2 =>
    refine (trips_sum y (fun k j => dvOf (iblk m c 0 t) (iblk m c 1 t) (iblk m c 3 t) (iblk m c 4 t) (iblk m c 5 t) (iblk m c 6 t) k j l) (fun r i x => ∑ p : Fin 64, (H m c (t.val * 4 + l.val / 64)).P r p.val i x * (H m c (t.val * 4 + l.val / 64)).o r p.val (l.val % 64)) fun k j => dv_eq m c t k j l).trans ?_
    unfold gradAt Att.Head.gv
    rfl

/-- The output the call leaves: every head's gradients. -/
def outOf : Vec Ideal S3x2048x512 .bf16 := fun j => gradAt (H m c ((j 2).val / 64)) (j 0) (j 1).val ((j 2).val % 64)

theorem final8 : (dats m 0 c).arrAt 8 cfg0.N = outOf m c := by
  refine (dats m 0 c).arrAt_eq_of_covers 8 _ (by decide +kernel) fun t _ y => ?_
  blk_simp
  obtain ⟨s, r, l, rfl⟩ : ∃ (s : Fin 3) (r : Fin 2048) (l : Fin 256), y = ix3 s r l := ⟨y 0, y 1, y 2, eq_ix3 y⟩
  rw [aft8, show ((View.whole main_v59_0).slice (win0_8.rect t)).emb (ix3 s r l) = ix3 s r ⟨t.val * 256 + l.val, by have := grp t; omega⟩ from by
    blk_ext [idx t]]
  refine (grads_eq m c t s r l).trans ?_
  show gradAt (H m c (t.val * 4 + l.val / 64)) s r.val (l.val % 64) = gradAt (H m c ((t.val * 256 + l.val) / 64)) s r.val ((t.val * 256 + l.val) % 64)
  rw [show (t.val * 256 + l.val) / 64 = t.val * 4 + l.val / 64 by omega, show (t.val * 256 + l.val) % 64 = l.val % 64 by omega]

end Cert.AttBwdIdeal.Body
-- ==== Proof.AttRef.lean ====
module

public import proofs.«01_k».proof.Proof.AttBack
public import proofs.«01_k».proof.Proof.AttKer

/-!
The reference's result: the gradients of every head, beside each other.
-/

@[expose] public section

noncomputable section

namespace Cert.AttGradIdeal.Att

open Cert.AttGradIdeal Cert.AttGradIdeal.Gen Cert.AttGradIdeal.Read Idealize.ShloMosaic Cert.Att

variable (X : FVec Ideal S2048x1536 .f32) (R : FVec Ideal S8x15x31 .f32) (D : FVec Ideal S2048x512 .f32)
variable (hX : ∀ j, ∃ a : ℝ, (X j : EReal) = a) (hR : ∀ j, ∃ a : ℝ, (R j : EReal) = a)
include hX hR

theorem kpart_at (h : Fin 8) (r : Fin 32) (n : Fin 4) (i : Fin 8) (k : Fin 32) (d : Fin 64) :
    (val_main_v176 (F := Ideal) X R D (ix6 h r n i k d) : EReal)
      = ∑ cc : Fin 16, (headOf X R D h.val).DS r.val (n.val * 16 + cc.val) i.val (edge n.val + k.val) * ((headOf X R D h.val).q r.val (n.val * 16 + cc.val) d.val * scale) := by
  rw [val_main_v176_apply]
  refine Finset.sum_congr rfl fun cc _ => ?_
  have e : lidx_main_v176 (ix6 h r n i k d) cc = ix6 h r n cc i k := funext fun ax => match ax with
    | ⟨0, _⟩ => rfl | ⟨1, _⟩ => rfl | ⟨2, _⟩ => rfl | ⟨3, _⟩ => rfl | ⟨4, _⟩ => rfl | ⟨5, _⟩ => rfl
  have e' : ridx_main_v176 (ix6 h r n i k d) cc = ix5 h r n cc d := funext fun ax => match ax with
    | ⟨0, _⟩ => rfl | ⟨1, _⟩ => rfl | ⟨2, _⟩ => rfl | ⟨3, _⟩ => rfl | ⟨4, _⟩ => rfl
  rw [e, e', ds_at X R D hX hR, q_at X R D]

theorem vpart_at (h : Fin 8) (r : Fin 32) (n : Fin 4) (i : Fin 8) (k : Fin 32) (d : Fin 64) :
    (val_main_v161 (F := Ideal) X R D (ix6 h r n i k d) : EReal)
      = ∑ cc : Fin 16, (headOf X R D h.val).P r.val (n.val * 16 + cc.val) i.val (edge n.val + k.val) * (headOf X R D h.val).o r.val (n.val * 16 + cc.val) d.val := by
  have e0 : idx_main_v161 (ix6 h r n i k d) = ix6 h r n d i k := funext fun ax => match ax with
    | ⟨0, _⟩ => rfl | ⟨1, _⟩ => rfl | ⟨2, _⟩ => rfl | ⟨3, _⟩ => rfl | ⟨4, _⟩ => rfl | ⟨5, _⟩ => rfl
  rw [val_main_v161_apply, e0, val_main_v160_apply]
  refine Finset.sum_congr rfl fun cc _ => ?_
  have e : lidx_main_v160 (ix6 h r n d i k) cc = ix5 h r n cc d := funext fun ax => match ax with
    | ⟨0, _⟩ => rfl | ⟨1, _⟩ => rfl | ⟨2, _⟩ => rfl | ⟨3, _⟩ => rfl | ⟨4, _⟩ => rfl
  have e' : ridx_main_v160 (ix6 h r n d i k) cc = ix6 h r n cc i k := funext fun ax => match ax with
    | ⟨0, _⟩ => rfl | ⟨1, _⟩ => rfl | ⟨2, _⟩ => rfl | ⟨3, _⟩ => rfl | ⟨4, _⟩ => rfl | ⟨5, _⟩ => rfl
  rw [e, e', o_at X R D, p_at X R D hX hR]
  exact mul_comm _ _

theorem qpart_at (h : Fin 8) (r : Fin 32) (n : Fin 4) (cc : Fin 16) (d : Fin 64) :
    (val_main_v177 (F := Ideal) X R D (ix5 h r n cc d) : EReal)
      = ∑ j : Fin 512, (headOf X R D h.val).DS r.val (n.val * 16 + cc.val) (j.val / 64) (j.val % 64) * (headOf X R D h.val).k (top r.val + j.val / 64) (j.val % 64) d.val := by
  have hc : (n.val * 16 + cc.val) / 16 = n.val := by omega
  have w := Head.sum_window (show n.val * 16 + cc.val < 64 by omega) (fun i x => (headOf X R D h.val).DS r.val (n.val * 16 + cc.val) i x
          * (headOf X R D h.val).k (top r.val + i) x d.val) (fun i x hx => by rw [Head.DS_far _ hx, zero_mul])
  refine Eq.trans ?_ w.symm
  rw [hc]
  unfold val_main_v177
  have f : ∀ (r' : Fin 32) (n' : Fin 4) (cc' : Fin 16) (i : Fin 8) (k : Fin 32), _ := fun r' n' cc' i k => ds_at X R D hX hR h r' n' cc' i k
  have g : ∀ (i : Fin 8) (k : Fin 32), _ := fun i k => gk_at X R D h r n i k d
  generalize val_main_v175 (F := Ideal) X R D = y at f ⊢
  generalize val_main_v88 (F := Ideal) X = z at g ⊢
  pointwise []
  refine Finset.sum_congr rfl fun i _ => Finset.sum_congr rfl fun k _ => ?_
  exact congrArg₂ (· * ·) (f r n cc i k) (g i k)

theorem keys_at (h : Fin 8) (y : Fin 32) (x : Fin 64) (d : Fin 64) :
    (val_main_v181 (F := Ideal) X R D (ix4 h y x d) : EReal) = (headOf X R D h.val).gk y.val x.val d.val := by
  have e : (val_main_v180 (F := Ideal) (ix4 h y x d) : EReal) = 0 := by pointwise [val_main_v180, val_main_cst_41]
  unfold val_main_v181
  rw [scatter_kv _ _ _ (fun r i => top r + i) (fun n k => edge n + k) row_lt col_lt gathers_row gathers_col, e, zero_add]
  refine Eq.trans ?_ (scatter_sum y.val x.val (fun r c i x => (headOf X R D h.val).DS r c i x * ((headOf X R D h.val).q r c d.val * scale))
    (fun r c i hx => by rw [Head.DS_far _ hx, zero_mul]))
  refine Finset.sum_congr rfl fun r _ => Finset.sum_congr rfl fun n _ => Finset.sum_congr rfl fun i _ => Finset.sum_congr rfl fun k _ => ?_
  refine ite_congr rfl (fun hh => ?_) (fun _ => rfl)
  rw [kpart_at X R D hX hR, hh.2]

theorem values_at (h : Fin 8) (y : Fin 32) (x : Fin 64) (d : Fin 64) :
    (val_main_v179 (F := Ideal) X R D (ix4 h y x d) : EReal) = (headOf X R D h.val).gv y.val x.val d.val := by
  have e : (val_main_v178 (F := Ideal) (ix4 h y x d) : EReal) = 0 := by pointwise [val_main_v178, val_main_cst_40]
  unfold val_main_v179
  rw [scatter_kv _ _ _ (fun r i => top r + i) (fun n k => edge n + k) row_lt col_lt gathers_row' gathers_col', e, zero_add]
  refine Eq.trans ?_ (scatter_sum y.val x.val (fun r c i x => (headOf X R D h.val).P r c i x * (headOf X R D h.val).o r c d.val)
    (fun r c i hx => by rw [Head.P_far _ hx, zero_mul]))
  refine Finset.sum_congr rfl fun r _ => Finset.sum_congr rfl fun n _ => Finset.sum_congr rfl fun i _ => Finset.sum_congr rfl fun k _ => ?_
  refine ite_congr rfl (fun hh => ?_) (fun _ => rfl)
  rw [vpart_at X R D hX hR, hh.2]

theorem dq_at (y : Fin 2048) (l : Fin 512) :
    (val_main_v190 (F := Ideal) X R D (ix2 y l) : EReal) = (headOf X R D (l.val / 64)).gq (y.val / 64) (y.val % 64) (l.val % 64) := by
  have f := qpart_at X R D hX hR ⟨l.val / 64, by omega⟩ ⟨y.val / 64, by omega⟩ ⟨y.val % 64 / 16, by omega⟩ ⟨y.val % 16, by omega⟩ ⟨l.val % 64, by omega⟩
  unfold val_main_v190 val_main_v189 val_main_v187 val_main_v186
  generalize val_main_v177 (F := Ideal) X R D = z at f ⊢
  pointwise [val_main_v188, val_main_cst_42]
  unfold Head.gq
  rw [show y.val % 64 = y.val % 64 / 16 * 16 + y.val % 16 by omega]
  refine congrArg (· * scale) (Eq.trans (congrArg (fun j => (z j : EReal)) ?_) f)
  exact (ix5_inj _ _ _ _ _ _ _ _ _ _).mpr ⟨Fin.ext (by first | omega | (simp only []; omega) | simp), Fin.ext (by first | omega | (simp only []; omega) | simp), Fin.ext (by first | omega | (simp only []; omega) | simp),
    Fin.ext (by first | omega | (simp only []; omega) | simp), Fin.ext (by first | omega | (simp only []; omega) | simp)⟩

theorem dk_at (y : Fin 2048) (l : Fin 512) :
    (val_main_v191 (F := Ideal) X R D (ix2 y l) : EReal) = (headOf X R D (l.val / 64)).gk (y.val / 64) (y.val % 64) (l.val % 64) := by
  have f := keys_at X R D hX hR ⟨l.val / 64, by omega⟩ ⟨y.val / 64, by omega⟩ ⟨y.val % 64, by omega⟩ ⟨l.val % 64, by omega⟩
  unfold val_main_v191 val_main_v185 val_main_v184
  generalize val_main_v181 (F := Ideal) X R D = z at f ⊢
  pointwise []
  refine Eq.trans (congrArg (fun j => (z j : EReal)) ?_) f
  exact (ix4_inj _ _ _ _ _ _ _ _).mpr ⟨Fin.ext (by first | omega | (simp only []; omega) | simp), Fin.ext (by first | omega | (simp only []; omega) | simp), Fin.ext (by first | omega | (simp only []; omega) | simp),
    Fin.ext (by first | omega | (simp only []; omega) | simp)⟩

theorem dv_at (y : Fin 2048) (l : Fin 512) :
    (val_main_v192 (F := Ideal) X R D (ix2 y l) : EReal) = (headOf X R D (l.val / 64)).gv (y.val / 64) (y.val % 64) (l.val % 64) := by
  have f := values_at X R D hX hR ⟨l.val / 64, by omega⟩ ⟨y.val / 64, by omega⟩ ⟨y.val % 64, by omega⟩ ⟨l.val % 64, by omega⟩
  unfold val_main_v192 val_main_v183 val_main_v182
  generalize val_main_v179 (F := Ideal) X R D = z at f ⊢
  pointwise []
  refine Eq.trans (congrArg (fun j => (z j : EReal)) ?_) f
  exact (ix4_inj _ _ _ _ _ _ _ _).mpr ⟨Fin.ext (by first | omega | (simp only []; omega) | simp), Fin.ext (by first | omega | (simp only []; omega) | simp), Fin.ext (by first | omega | (simp only []; omega) | simp),
    Fin.ext (by first | omega | (simp only []; omega) | simp)⟩

/-- The result at any place is the gradient of its head. -/
theorem grads_at (s : Fin 3) (y : Fin 2048) (l : Fin 512) :
    (val_main_v197 (F := Ideal) X R D (ix3 s y l) : EReal) = Cert.AttBwdIdeal.Body.gradAt (headOf X R D (l.val / 64)) s y.val (l.val % 64) := by
  have f0 := dq_at X R D hX hR y l
  have f1 := dk_at X R D hX hR y l
  have f2 := dv_at X R D hX hR y l
  unfold val_main_v197 val_main_v196 val_main_v193 val_main_v194 val_main_v195
  generalize val_main_v190 (F := Ideal) X R D = z0 at f0 ⊢
  generalize val_main_v191 (F := Ideal) X R D = z1 at f1 ⊢
  generalize val_main_v192 (F := Ideal) X R D = z2 at f2 ⊢
  match s with
  | 0 => pointwise []; exact f0
  | 1 => pointwise []; exact f1
  | 2 => pointwise []; exact f2

end Cert.AttGradIdeal.Att
-- ==== Proof.AttClaim.lean ====
/- The attention's backward pair: the reference's frame and the equality of the gradients, where the queries, keys, values and
   biases are finite. -/
module

public import proofs.«01_k».proof.Defs
public import proofs.«01_k».proof.Proof.AttBits
public import proofs.«01_k».proof.Proof.Gen.AttGradIdeal.Run
public import proofs.«01_k».proof.Proof.AttFrame
public import proofs.«01_k».proof.Proof.AttRef
public import proofs.«01_k».proof.Proof.RmsReal

@[expose] public section

set_option maxRecDepth 16384

noncomputable section

namespace Cert.AttClaim

open Idealize.ShloMosaic Idealize.ShloMosaic.TcCoe Idealize.SL.Sem

/-- The reference runs, leaves its arguments as they were and its semaphores at zero. -/
theorem frame_ref : Cert.quiescent_AttGradIdeal := fun m ρ _ =>
  (θ_run Cert.AttGradIdeal.defs _ _).mono (fun r h => ⟨fun c => (h c).2,
      Idealize.ShloMosaic.sem_eq_zero_of_no_sems (by decide) r.2⟩)
    (Cert.AttGradIdeal.Value.run (F := Ideal) m ρ)

theorem pre_facts : Cert.Pre_finite_att.Facts := by constructor <;> decide

/-- Kernel and reference end with equal gradients. -/
theorem algebraic : Cert.algebraic_AttBwdIdeal_AttGradIdeal_pre_finite_att (hPre_finite_att := pre_facts) := by
  pair_intro
  · run_from Cert.AttBwdIdeal.Body.run_arr m g
  · refine (θ_run Cert.AttGradIdeal.defs _ _).mono (fun r h c => ?_) (Cert.AttGradIdeal.Value.run (F := Ideal) m' g')
    obtain ⟨h0, hargs⟩ := h c
    obtain ⟨a0, a1, a2⟩ := hagree c
    obtain ⟨p0, p1⟩ := hpre c
    refine ⟨h0.trans ?_, hargs⟩
    rw [Cert.AttGradIdeal.Read.val_main_v197_eq]
    have b0 : StableHlo.launchContents m' c (Proc.devRef .tc Cert.AttGradIdeal.main_arg0) = m ((c.tc : Thread Cert.AttBwdIdeal.nD Cert.AttBwdIdeal.τ).loc Cert.AttBwdIdeal.main_arg0) := a0
    have b1 : StableHlo.launchContents m' c (Proc.devRef .tc Cert.AttGradIdeal.main_arg1) = m ((c.tc : Thread Cert.AttBwdIdeal.nD Cert.AttBwdIdeal.τ).loc Cert.AttBwdIdeal.main_arg1) := a1
    have b2 : StableHlo.launchContents m' c (Proc.devRef .tc Cert.AttGradIdeal.main_arg2) = m ((c.tc : Thread Cert.AttBwdIdeal.nD Cert.AttBwdIdeal.τ).loc Cert.AttBwdIdeal.main_arg2) := a2
    rw [b0, b1, b2]
    refine Eq.trans (funext fun j => ?_) (Cert.AttBwdIdeal.Body.final8 m c).symm
    obtain ⟨s, y, l, rfl⟩ : ∃ (s : Fin 3) (y : Fin 2048) (l : Fin 512), j = ix3 s y l := ⟨j 0, j 1, j 2, eq_ix3 j⟩
    exact Cert.AttGradIdeal.Att.grads_at _ _ _ (Rms.IsReal.of_test _ _ p0) (Rms.IsReal.of_test _ _ p1) s y l

end Cert.AttClaim

end
-- ==== Proof.FwdRun.lean ====
module

public import proofs.«01_k».proof.Proof.AttSpec
public import proofs.«01_k».proof.Proof.Gen.AttFwdIdeal.Value

/-!
The neighbourhood attention's forward kernel, one run over the blocks of a point: every output row is the softmax of
its window's scores against the window's values, each lane taking its own head's row.
-/

@[expose] public section

set_option maxRecDepth 16384

noncomputable section

namespace Cert.AttFwdIdeal.Body

open Idealize.ShloMosaic Idealize.ShloMosaic.TcCoe Idealize.ShloMosaic.Tactic
open Idealize.SL.Sem
open Cert.AttFwdIdeal.Gen
open Cert.AttBwdIdeal.Body (onHead qScaled score expo prob stack_at headWord head_pick skew_at read_tiles rs biasOff biasOff_inb rowOff rowOff_inb)

local notation "Held" a => BufTy.Contents (Elt Ideal) (View.ty (Memref.view a))

/-! ## One trip's values -/

section
variable (v : IVec S256x256 1) (Q : Vec Ideal S64x256 .bf16) (K W : Vec Ideal S512x256 .bf16) (B : Vec Ideal S1x256x512 .f32)

/-- A head's row of the window's values, weighted by the softmax. -/
def mixed (a l : Fin 256) : EReal := ∑ j : Fin 512, prob v Q K B a j * W (ix2 j l)

theorem pay1_at (a l : Fin 256) : k0_pay1 (F := Ideal) v Q K B W (ix2 a l) = mixed v Q K W B a l := by
  have h4 : ∀ j, Cert.AttBwdIdeal.Gen.k0_pay4 (F := Ideal) v Q K B (ix2 a j) = expo v Q K B a j := fun j => Cert.AttBwdIdeal.Body.pay4_at v Q K B a j
  have h7 : ∀ j, Cert.AttBwdIdeal.Gen.k0_pay7 (F := Ideal) (Cert.AttBwdIdeal.Gen.k0_pay4 v Q K B) (Cert.AttBwdIdeal.Gen.k0_pay5 v Q K B) (ix2 a j) = prob v Q K B a j :=
    fun j => Cert.AttBwdIdeal.Body.pay7_at v Q K B a j
  have e : k0_pay1 (F := Ideal) v Q K B W
      = matmul dot_S256x512_S512x256_S256x256_1_0_0_1_n_n none
          (truncf .bf16 (Cert.AttBwdIdeal.Gen.k0_pay7 (F := Ideal) (Cert.AttBwdIdeal.Gen.k0_pay4 v Q K B) (Cert.AttBwdIdeal.Gen.k0_pay5 v Q K B)) bitsLt_bf16_f32)
          (shapeCast S512x256 W shapeCasts_S512x256_S512x256) (constant S256x256 .f32 0x00000000#32) := rfl
  rw [e]
  pointwise [h7]
  rfl

/-- The head a lane belongs to, as this kernel counts it. -/
def laneWord (l : Fin 256) : BitVec 32 :=
  Scalar.select
    (IntOp.andi
      (IntOp.cmpi CmpIPredicate.ne
        (IntOp.subi (BitVec.setWidth 32 (IntOp.cmpi CmpIPredicate.sgt (BitVec.ofNat 32 ↑l) 0#32)) (BitVec.setWidth 32 (IntOp.cmpi CmpIPredicate.slt (BitVec.ofNat 32 ↑l) 0#32)))
        (Scalar.subi (Scalar.extui (Scalar.cmpi CmpIPredicate.sgt 64#32 0#32)) (Scalar.extui (Scalar.cmpi CmpIPredicate.slt 64#32 0#32))))
      (IntOp.cmpi CmpIPredicate.ne (IntOp.remsi ArithUnit.vector (BitVec.ofNat 32 ↑l) 64#32) 0#32))
    (IntOp.subi (IntOp.divsi ArithUnit.vector (BitVec.ofNat 32 ↑l) 64#32) 1#32)
    (IntOp.divsi ArithUnit.vector (BitVec.ofNat 32 ↑l) 64#32)

theorem laneWord_eq : ∀ l : Fin 256, laneWord l = headWord l := by decide +kernel

/-- The row a trip stores. -/
def stepO : Vec Ideal S64x256 .bf16 := k0_pay36 (F := Ideal) (k0_pay1 v Q K B W) (iota .tc S64x256 32 [1] iota_S64x256_d1_w32) 64#32

theorem stepO_at (c : Fin 64) (l : Fin 256) :
    stepO v Q K W B (ix2 c l) = mixed v Q K W B ⟨l.val / 64 * 64 + c.val, by have := l.isLt; have := c.isLt; omega⟩ l := by
  pointwise [stepO, k0_pay36]
  refine Eq.trans ?_ (pay1_at v Q K W B _ l)
  have e := laneWord_eq l
  unfold laneWord at e
  rw [e]
  exact head_pick (fun a => k0_pay1 (F := Ideal) v Q K B W (ix2 a l)) c l
end

/-! ## The loop -/

theorem trips_eq : k0_t1_loop.trips = 32 := by decide +kernel
theorem off1_eq : ∀ k : Fin k0_t1_loop.trips, k0_off1 k = ![k.val * 64, 0] := by decide +kernel
theorem off2_eq : ∀ k : Fin k0_t1_loop.trips, k0_off2 k = ![rs k.val * 64, 0] := by decide +kernel
theorem off3_eq : ∀ k : Fin k0_t1_loop.trips, k0_off3 k = ![k.val - rs k.val, 0, 0] := by decide +kernel
theorem k_lt (k : Fin k0_t1_loop.trips) : k.val < 32 := lt_of_lt_of_eq k.isLt trips_eq

/-- What a trip reads: its query row, its window's rows, its bias tile. -/
def rows64 (a : Memref sig .tc .vmem S2048x256 .bf16) (X : Held a) (k : Fin k0_t1_loop.trips) : Vec Ideal S64x256 .bf16 :=
  View.readAt (Elt Ideal) a.view (Rect.unit (s := S2048x256) (k0_off1 k) S64x256.size (k0_off1_inb k)).toLoadRect X
def rows512 (a : Memref sig .tc .vmem S2048x256 .bf16) (X : Held a) (k : Fin k0_t1_loop.trips) : Vec Ideal S512x256 .bf16 :=
  View.readAt (Elt Ideal) a.view (Rect.unit (s := S2048x256) (k0_off2 k) S512x256.size (k0_off2_inb k)).toLoadRect X
def tileOf (a : Memref sig .tc .vmem S8x256x512 .f32) (X : Held a) (k : Fin k0_t1_loop.trips) : Vec Ideal S1x256x512 .f32 :=
  View.readAt (Elt Ideal) a.view (Rect.unit (s := S8x256x512) (k0_off3 k) S1x256x512.size (k0_off3_inb k)).toLoadRect X

variable {arg1 : Memref sig .tc .vmem S2048x256 .bf16} (harg1 : arg1.IsWhole)
variable {arg2 : Memref sig .tc .vmem S2048x256 .bf16} (harg2 : arg2.IsWhole)
variable {arg3 : Memref sig .tc .vmem S2048x256 .bf16} (harg3 : arg3.IsWhole)
variable {arg4 : Memref sig .tc .vmem S8x1x4x512 .f32} (harg4 : arg4.IsWhole)
variable {arg5 : Memref sig .tc .vmem S64x512 .f32} (harg5 : arg5.IsWhole)
variable {arg6 : Memref sig .tc .vmem S256x256 .f32} (harg6 : arg6.IsWhole)
variable {arg7 : Memref sig .tc .hbm S8x128 .f32} (harg7 : arg7.IsWhole)
variable {arg8 : Memref sig .tc .vmem S2048x256 .bf16} (harg8 : arg8.IsWhole)
variable {arg9 : Memref sig .tc .vmem S8x256x512 .f32} (harg9 : arg9.IsWhole)

theorem trip_o (c : Dev nD) (i : grid0.Coords) (v3 : IVec S256x256 1) (v7 : IVec S64x512 1) (v298 : Vec Ideal S1x1x1x512 .f32)
    (X1 : Held arg1) (X2 : Held arg2) (X3 : Held arg3) (X9 : Held arg9) (k : Fin k0_t1_loop.trips) :
    (trip_k0_t1 (F := Ideal) Variants.none c none i arg1 harg1 arg2 harg2 arg3 harg3 arg4 harg4 arg5 harg5 arg6 harg6 arg7 harg7 arg8 harg8 arg9 harg9 v3 v7 v298 X1 X2 X3 X9 k).1
      = [⟨Rect.unit (s := S2048x256) (k0_off1 k) S64x256.size (k0_off1_inb k), stepO v3 (rows64 arg1 X1 k) (rows512 arg2 X2 k) (rows512 arg3 X3 k) (tileOf arg9 X9 k)⟩] := by
  unfold trip_k0_t1; rfl

theorem out_upto (c : Dev nD) (i : grid0.Coords) (v3 : IVec S256x256 1) (v7 : IVec S64x512 1) (v298 : Vec Ideal S1x1x1x512 .f32)
    (X1 : Held arg1) (X2 : Held arg2) (X3 : Held arg3) (X9 : Held arg9) (u : View sig .tc .vmem S2048x256 .bf16) (G : BufTy.Contents (Elt Ideal) u.ty)
    (k : Fin k0_t1_loop.trips) (p : Fin 64) (l : Fin 256) (n : ℕ) (hk : k.val < n) (hn : n ≤ k0_t1_loop.trips) :
    u.read (Elt Ideal) (u.writes (Elt Ideal) G (pb_k0_t1 (F := Ideal) Variants.none c none i arg1 harg1 arg2 harg2 arg3 harg3 arg4 harg4 arg5 harg5 arg6 harg6 arg7 harg7 arg8 harg8 arg9 harg9 v3 v7 v298 X1 X2 X3 X9 n)) (ix2 ⟨k.val * 64 + p.val, by have := k_lt k; omega⟩ l)
      = stepO v3 (rows64 arg1 X1 k) (rows512 arg2 X2 k) (rows512 arg3 X3 k) (tileOf arg9 X9 k) (ix2 p l) := by
  induction n with
  | zero => exact absurd hk (Nat.not_lt_zero _)
  | succ n ih =>
    rw [show pb_k0_t1 (F := Ideal) Variants.none c none i arg1 harg1 arg2 harg2 arg3 harg3 arg4 harg4 arg5 harg5 arg6 harg6 arg7 harg7 arg8 harg8 arg9 harg9 v3 v7 v298 X1 X2 X3 X9 (n + 1) = _ from
      pb_k0_t1_succ Variants.none c none i arg1 harg1 arg2 harg2 arg3 harg3 arg4 harg4 arg5 harg5 arg6 harg6 arg7 harg7 arg8 harg8 arg9 harg9 v3 v7 v298 X1 X2 X3 X9 ⟨n, hn⟩]
    dsimp only [tripL_k0_t1]
    rw [trip_o, List.singleton_append]
    by_cases e : k.val = n
    · subst e
      refine View.read_writes_cons_unit_of_mem u G (size := S64x256.size) (k0_off1_inb k) _ _ _ (ix2 p l) (off1_eq k) ?_
      intro ax
      match ax with
      | 0 => rfl
      | 1 => exact (Nat.zero_add _).symm
    · refine (View.read_writes_cons_unit_of_not_mem u G (size := S64x256.size) (k0_off1_inb ⟨n, hn⟩) _ _ _ (off1_eq ⟨n, hn⟩) 0 ?_).trans ?_
      · have := p.isLt; show k.val * 64 + p.val < n * 64 ∨ n * 64 + 64 ≤ k.val * 64 + p.val; omega
      · exact ih (by omega) (Nat.le_of_succ_le hn)

/-! ## The bias tiles -/

theorem pay6_at (v : IVec S64x512 1) (R : Vec Ideal S1x1x1x512 .f32) (c : Fin 64) (j : Fin 512) :
    k0_pay6 (F := Ideal) v R (ix3 0 c j)
      = Scalar.select (v (ix2 c j)) (R (ix4 0 0 0 ⟨(j.val + 512 - (497 + c.val) % 512) % 512, Nat.mod_lt _ (by norm_num)⟩)) (⊥ : EReal) := by
  pointwise [k0_pay6, skew_at]
  rfl

/-- The tile stored at a row offset and head. -/
def biasTile (v : IVec S64x512 1) (x3 : Vec Ideal S8x1x4x512 .f32) (i : Fin 32) : Vec Ideal S1x64x512 .f32 :=
  k0_pay6 (F := Ideal) v (View.readAt (Elt Ideal) arg4.view (Rect.unit (s := S8x1x4x512) (rowOff i) S1x1x1x512.size (rowOff_inb i)).toLoadRect (harg4.unread x3))

theorem tiles_eq (c : Dev nD) (x3 : Vec Ideal S8x1x4x512 .f32) (x4 : Vec Ideal S64x512 .f32) :
    kernelRun0_A.sl.HS0_32 (F := Ideal) c arg4 harg4 arg5 harg5 x3 x4
      = View.tilePieces (s := S8x256x512) S1x64x512.size biasOff biasOff_inb (fun i => biasTile harg4 (kernelRun0_A.sl.r_1 (F := Ideal) c arg5 harg5 x4) x3 i) 32 le_rfl := by
  rfl

theorem bias_at (c : Dev nD) (x3 : Vec Ideal S8x1x4x512 .f32) (x4 : Vec Ideal S64x512 .f32) (G : Held arg9) (o : Fin 8) (a : Fin 256) (j : Fin 512) :
    arg9.view.read (Elt Ideal) (arg9.view.writes (Elt Ideal) G (kernelRun0_A.sl.HS0_32 (F := Ideal) c arg4 harg4 arg5 harg5 x3 x4)) (ix3 o a j)
      = Scalar.select (kernelRun0_A.sl.r_1 (F := Ideal) c arg5 harg5 x4 (ix2 ⟨a.val % 64, Nat.mod_lt _ (by norm_num)⟩ j))
          (x3 (ix4 o 0 ⟨a.val / 64, by have := a.isLt; omega⟩ ⟨(j.val + 512 - (497 + a.val % 64) % 512) % 512, Nat.mod_lt _ (by norm_num)⟩)) (⊥ : EReal) := by
  have ho := o.isLt
  have ha := a.isLt
  rw [tiles_eq]
  refine (read_tiles arg9.view G S1x64x512.size biasOff biasOff_inb _ 32 le_rfl (ix3 o a j) ⟨o.val * 4 + a.val / 64, by omega⟩ (by show _ < 32; simp only []; omega)
    (ix3 (0 : Fin 1) (⟨a.val % 64, Nat.mod_lt _ (by norm_num)⟩ : Fin 64) j) ?_ ?_).trans ?_
  · intro ax
    match ax with
    | 0 => show o.val = (o.val * 4 + a.val / 64) / 4 + 0; omega
    | 1 => show a.val = (o.val * 4 + a.val / 64) % 4 * 64 + a.val % 64; omega
    | 2 => exact (Nat.zero_add _).symm
  · intro i' hne
    have hi' : i'.val ≠ o.val * 4 + a.val / 64 := fun h => hne (Fin.ext h)
    by_cases h : i'.val / 4 = o.val
    · refine ⟨1, ?_⟩
      show a.val < i'.val % 4 * 64 ∨ i'.val % 4 * 64 + 64 ≤ a.val
      omega
    · refine ⟨0, ?_⟩
      show o.val < i'.val / 4 ∨ i'.val / 4 + 1 ≤ o.val
      omega
  · unfold biasTile
    refine (pay6_at _ _ _ j).trans ?_
    refine congrArg (fun z => Scalar.select _ z (⊥ : EReal)) ?_
    refine (congrFun (harg4.read_unread x3) _).trans (congrArg x3 (funext fun ax => Fin.ext ?_))
    match ax with
    | 0 => show (o.val * 4 + a.val / 64) / 4 + 1 * 0 = o.val; omega
    | 1 => rfl
    | 2 => show (o.val * 4 + a.val / 64) % 4 + 1 * 0 = a.val / 64; omega
    | 3 => show 0 + 1 * _ = _; simp

/-! ## What a run leaves -/

theorem rows64_at (a : Memref sig .tc .vmem S2048x256 .bf16) (ha : a.IsWhole) (x : Vec Ideal S2048x256 .bf16) (k : Fin k0_t1_loop.trips) (c : Fin 64) (l : Fin 256) :
    rows64 a (ha.unread x) k (ix2 c l) = x (ix2 ⟨k.val * 64 + c.val, by have := k_lt k; omega⟩ l) := by
  unfold rows64
  refine (congrFun (ha.read_unread x) _).trans (congrArg x (funext fun ax => Fin.ext ?_))
  have h := congrFun (off1_eq k) ax
  match ax with
  | 0 => exact (congrArg (· + _) h).trans (by simp)
  | 1 => exact (congrArg (· + _) h).trans (by simp)

theorem rows512_at (a : Memref sig .tc .vmem S2048x256 .bf16) (ha : a.IsWhole) (x : Vec Ideal S2048x256 .bf16) (k : Fin k0_t1_loop.trips) (c : Fin 512) (l : Fin 256) :
    rows512 a (ha.unread x) k (ix2 c l) = x (ix2 ⟨rs k.val * 64 + c.val, by unfold rs; omega⟩ l) := by
  unfold rows512
  refine (congrFun (ha.read_unread x) _).trans (congrArg x (funext fun ax => Fin.ext ?_))
  have h := congrFun (off2_eq k) ax
  match ax with
  | 0 => exact (congrArg (· + _) h).trans (by simp)
  | 1 => exact (congrArg (· + _) h).trans (by simp)

theorem tileOf_at (a : Memref sig .tc .vmem S8x256x512 .f32) (X : Held a) (k : Fin k0_t1_loop.trips) (p : Fin 256) (q : Fin 512) :
    tileOf a X k (ix3 0 p q) = a.view.read (Elt Ideal) X (ix3 ⟨k.val - rs k.val, by have := k_lt k; unfold rs; omega⟩ p q) := by
  unfold tileOf
  refine congrArg (a.view.read (Elt Ideal) X) (funext fun ax => Fin.ext ?_)
  have h := congrFun (off3_eq k) ax
  match ax with
  | 0 => exact (congrArg (· + _) h).trans (by simp)
  | 1 => exact (congrArg (· + _) h).trans (by simp)
  | 2 => exact (congrArg (· + _) h).trans (by simp)

theorem r_eq (c : Dev nD) (x5 : Vec Ideal S256x256 .f32) : kernelRun0_A.sl.r (F := Ideal) c arg6 harg6 x5 = k0_pay2 (F := Ideal) x5 :=
  congrArg (k0_pay2 (F := Ideal)) ((View.readAt_full arg6.view _ _).trans (harg6.read_unread x5))

theorem r_1_eq (c : Dev nD) (x4 : Vec Ideal S64x512 .f32) : kernelRun0_A.sl.r_1 (F := Ideal) c arg5 harg5 x4 = k0_pay3 (F := Ideal) x4 :=
  congrArg (k0_pay3 (F := Ideal)) ((View.readAt_full arg5.view _ _).trans (harg5.read_unread x4))

end Cert.AttFwdIdeal.Body

end
-- ==== Proof.FwdKer.lean ====
module

public import proofs.«01_k».proof.Proof.FwdRun
public import proofs.«01_k».proof.Proof.AttKer

/-!
What the forward body leaves of a group's blocks: the attention of its four heads.
-/

@[expose] public section

set_option maxRecDepth 16384

noncomputable section

namespace Cert.AttFwdIdeal.Body

open Idealize.ShloMosaic Idealize.ShloMosaic.TcCoe Idealize.ShloMosaic.Tactic
open Idealize.SL.Sem
open Idealize.ShloMosaic.Pipeline (Dat)
open Cert.AttFwdIdeal.Gen
open Cert.Att (top near scale ix2_of ix3_of sum_lanes)
open Cert.AttBwdIdeal.Body (onHead qScaled score expo prob rs above_half colWord westWord colWord_eq westWord_eq nearWord headOfWord headOfWord_eq sameWord row_piece)

/-! ## A group's rows, from what its blocks hold -/

section
variable (G : ℕ → Att.Head) (v : IVec S256x256 1) (Q : Vec Ideal S64x256 .bf16) (K W : Vec Ideal S512x256 .bf16) (B : Vec Ideal S1x256x512 .f32) (r : ℕ)
  (hv : ∀ a l, v (ix2 a l) = if a.val / 64 = l.val / 64 then 1#1 else 0#1)
  (hQ : ∀ p l, Q (ix2 p l) = (G (l.val / 64)).q r p.val (l.val % 64))
  (hK : ∀ j l, K (ix2 j l) = (G (l.val / 64)).k (top r + j.val / 64) (j.val % 64) (l.val % 64))
  (hW : ∀ j l, W (ix2 j l) = (G (l.val / 64)).v (top r + j.val / 64) (j.val % 64) (l.val % 64))
  (hB : ∀ a j, B (ix3 0 a j) = if near (a.val % 64) (j.val % 64) then (G (a.val / 64)).b (j.val / 64 + top r + 7 - r) (j.val % 64 + 15 - a.val % 64) else ⊥)
include hv hQ hK hB

theorem lanes_sum (x : Fin 64 → Fin 256 → EReal) (w : Fin 256 → EReal) (a : Fin 256) :
    ∑ l : Fin 256, onHead v x a l * w l
      = ∑ d : Fin 64, x ⟨a.val % 64, Nat.mod_lt _ (by norm_num)⟩ ⟨a.val / 64 * 64 + d.val, by omega⟩ * w ⟨a.val / 64 * 64 + d.val, by omega⟩ := by
  have h : ∀ l, onHead v x a l = if a.val / 64 = l.val / 64 then x ⟨a.val % 64, Nat.mod_lt _ (by norm_num)⟩ l else 0 := fun l => by
    unfold onHead; rw [hv]; split_ifs <;> rfl
  rw [sum_lanes (a.val / 64) (by omega) _ fun l hl => by rw [h, if_neg (Ne.symm hl), zero_mul]]
  refine Finset.sum_congr rfl fun d _ => ?_
  rw [h, if_pos (by simp only []; omega)]

theorem score_head (a : Fin 256) (j : Fin 512) : score v Q K B a j = (G (a.val / 64)).S r (a.val % 64) (j.val / 64) (j.val % 64) := by
  unfold score
  rw [lanes_sum G v Q K B r hv hQ hK hB (qScaled Q) (fun l => K (ix2 j l)), hB]
  unfold Att.Head.S
  split_ifs with hn
  · refine congrArg (· + _) ?_
    unfold Att.Head.dot
    refine Finset.sum_congr rfl fun d _ => ?_
    have e1 : (a.val / 64 * 64 + d.val) / 64 = a.val / 64 := by omega
    have e2 : (a.val / 64 * 64 + d.val) % 64 = d.val := by omega
    unfold qScaled
    rw [hQ, hK, Att.scale_bf16]
    simp only [e1, e2]
  · exact EReal.add_bot _

theorem prob_head (a : Fin 256) (j : Fin 512) : prob v Q K B a j = (G (a.val / 64)).P r (a.val % 64) (j.val / 64) (j.val % 64) := by
  have e : ∀ j, expo v Q K B a j = (G (a.val / 64)).E r (a.val % 64) (j.val / 64) (j.val % 64) := fun j => by
    unfold expo Att.Head.E Att.Head.M
    rw [score_head G v Q K B r hv hQ hK hB, Att.floor_bits]
    simp only [score_head G v Q K B r hv hQ hK hB]
  unfold prob Att.Head.P Att.Head.L
  simp only [e]

include hW in
theorem step_head (p : Fin 64) (l : Fin 256) :
    stepO v Q K W B (ix2 p l) = ∑ j : Fin 512, (G (l.val / 64)).P r p.val (j.val / 64) (j.val % 64) * (G (l.val / 64)).v (top r + j.val / 64) (j.val % 64) (l.val % 64) := by
  rw [stepO_at]
  unfold mixed
  refine Finset.sum_congr rfl fun j _ => ?_
  have e1 : (l.val / 64 * 64 + p.val) / 64 = l.val / 64 := by omega
  have e2 : (l.val / 64 * 64 + p.val) % 64 = p.val := by omega
  rw [prob_head G v Q K B r hv hQ hK hB, hW]
  simp only [e1, e2]
end

/-! ## The blocks -/

variable (m : (ℓ : Loc nD τ sig) → Buf (Elt Ideal) ℓ)

/-- The arguments of the call. -/
abbrev A0 (c : Dev nD) : FVec Ideal S2048x1536 .f32 := m ((c : Thread nD τ).loc main_arg0)
abbrev A1 (c : Dev nD) : FVec Ideal S8x15x31 .f32 := m ((c : Thread nD τ).loc main_arg1)

/-- Where each block lies. -/
theorem idx : ∀ t : Fin cfg0.N,
    win0_0.index t = ![0, t.val] ∧ win0_1.index t = ![0, t.val + 2] ∧ win0_2.index t = ![0, t.val + 4] ∧ win0_3.index t = ![0, t.val, 0, 0]
    ∧ win0_4.index t = ![0, 0] ∧ win0_5.index t = ![0, 0] ∧ win0_6.index t = ![0, t.val] :=
  (by decide +kernel : ∀ t : Fin grid0.N, _)

theorem grp (t : Fin cfg0.N) : t.val < 2 := lt_of_lt_of_eq t.isLt N_0

theorem blk_q (c : Dev nD) (t : Fin cfg0.N) (y : Fin 2048) (l : Fin 256) :
    iblk m c 0 t (ix2 y l) = A0 m c (ix2 y ⟨t.val * 256 + l.val, by have := grp t; omega⟩) := by
  blk_point [iblk, V, idx t]

theorem blk_k (c : Dev nD) (t : Fin cfg0.N) (y : Fin 2048) (l : Fin 256) :
    iblk m c 1 t (ix2 y l) = A0 m c (ix2 y ⟨512 + t.val * 256 + l.val, by have := grp t; omega⟩) := by
  blk_point [iblk, V, idx t]

theorem blk_v (c : Dev nD) (t : Fin cfg0.N) (y : Fin 2048) (l : Fin 256) :
    iblk m c 2 t (ix2 y l) = A0 m c (ix2 y ⟨1024 + t.val * 256 + l.val, by have := grp t; omega⟩) := by
  blk_point [iblk, V, idx t]

theorem blk_bias (c : Dev nD) (t : Fin cfg0.N) (i : Fin 8) (hh : Fin 4) (j : Fin 512) :
    iblk m c 3 t (ix4 i 0 hh j) = V m c main_v26 (ix4 i ⟨t.val, grp t⟩ hh j) := by
  blk_point [iblk, idx t]

theorem blk_near (c : Dev nD) (t : Fin cfg0.N) (a : Fin 64) (j : Fin 512) : iblk m c 4 t (ix2 a j) = V m c main_v56 (ix2 a j) := by
  blk_point [iblk, idx t]

theorem blk_same (c : Dev nD) (t : Fin cfg0.N) (a : Fin 256) (j : Fin 256) : iblk m c 5 t (ix2 a j) = V m c main_v57 (ix2 a j) := by
  blk_point [iblk, idx t]

theorem valid_at (c : Dev nD) (a : Fin 64) (j : Fin 512) :
    V m c main_v56 (ix2 a j) = FloatOps.uitofp (F := Ideal) .f32 (if near a.val (j.val % 64) then 1#1 else 0#1) := by
  unfold V
  after_reads_at
  show FloatOps.uitofp (F := Ideal) .f32 (IntOp.andi (IntOp.cmpi CmpIPredicate.sge (colWord (BitVec.ofNat 32 j.val)) (westWord (BitVec.ofNat 32 a.val)))
    (IntOp.cmpi CmpIPredicate.slt (colWord (BitVec.ofNat 32 j.val)) (IntOp.addi (westWord (BitVec.ofNat 32 a.val)) 16#32))) = _
  rw [colWord_eq, westWord_eq]
  exact congrArg (FloatOps.uitofp (F := Ideal) .f32) (nearWord a ⟨j.val % 64, Nat.mod_lt _ (by norm_num)⟩)

theorem head_at (c : Dev nD) (a b : Fin 256) :
    V m c main_v57 (ix2 a b) = FloatOps.uitofp (F := Ideal) .f32 (if a.val / 64 = b.val / 64 then 1#1 else 0#1) := by
  unfold V
  after_reads_at
  show FloatOps.uitofp (F := Ideal) .f32 (IntOp.cmpi CmpIPredicate.eq (headOfWord (BitVec.ofNat 32 a.val)) (headOfWord (BitVec.ofNat 32 b.val))) = _
  rw [headOfWord_eq, headOfWord_eq]
  exact congrArg (FloatOps.uitofp (F := Ideal) .f32) (sameWord ⟨a.val / 64, by omega⟩ ⟨b.val / 64, by omega⟩)

theorem bias_rows_at (c : Dev nD) (i : Fin 8) (g : Fin 2) (hh : Fin 4) (j : Fin 512) (hj : j.val % 64 < 31) :
    V m c main_v26 (ix4 i g hh j) = A1 m c (ix3 ⟨g.val * 4 + hh.val, by omega⟩ ⟨7 - i.val + j.val / 64, by omega⟩ ⟨j.val % 64, hj⟩) := by
  unfold V
  after_reads_at
  match i with
  | 0 =>
    rw [dif_pos (by decide)]
    after_reads_simp
    exact row_piece (A1 m c) _ 7 (by norm_num) slices_S8x15x64_S8x8x64_0_7_0 g hh j hj
  | 1 =>
    iterate 1 rw [dif_neg (by decide)]
    rw [dif_pos (by decide)]
    after_reads_simp
    exact row_piece (A1 m c) _ 6 (by norm_num) slices_S8x15x64_S8x8x64_0_6_0 g hh j hj
  | 2 =>
    iterate 2 rw [dif_neg (by decide)]
    rw [dif_pos (by decide)]
    after_reads_simp
    exact row_piece (A1 m c) _ 5 (by norm_num) slices_S8x15x64_S8x8x64_0_5_0 g hh j hj
  | 3 =>
    iterate 3 rw [dif_neg (by decide)]
    rw [dif_pos (by decide)]
    after_reads_simp
    exact row_piece (A1 m c) _ 4 (by norm_num) slices_S8x15x64_S8x8x64_0_4_0 g hh j hj
  | 4 =>
    iterate 4 rw [dif_neg (by decide)]
    rw [dif_pos (by decide)]
    after_reads_simp
    exact row_piece (A1 m c) _ 3 (by norm_num) slices_S8x15x64_S8x8x64_0_3_0 g hh j hj
  | 5 =>
    iterate 5 rw [dif_neg (by decide)]
    rw [dif_pos (by decide)]
    after_reads_simp
    exact row_piece (A1 m c) _ 2 (by norm_num) slices_S8x15x64_S8x8x64_0_2_0 g hh j hj
  | 6 =>
    iterate 6 rw [dif_neg (by decide)]
    rw [dif_pos (by decide)]
    after_reads_simp
    exact row_piece (A1 m c) _ 1 (by norm_num) slices_S8x15x64_S8x8x64_0_1_0 g hh j hj
  | 7 =>
    iterate 7 rw [dif_neg (by decide)]
    after_reads_simp
    exact row_piece (A1 m c) _ 0 (by norm_num) slices_S8x15x64_S8x8x64_0_0_0 g hh j hj

theorem same_bit (c : Dev nD) (t : Fin cfg0.N) (a l : Fin 256) : k0_pay2 (F := Ideal) (iblk m c 5 t) (ix2 a l) = if a.val / 64 = l.val / 64 then 1#1 else 0#1 := by
  have h : iblk m c 5 t (ix2 a l) = FloatOps.uitofp (F := Ideal) .f32 (if a.val / 64 = l.val / 64 then 1#1 else 0#1) := (blk_same m c t a l).trans (head_at m c a l)
  have h' : k0_pay2 (F := Ideal) (iblk m c 5 t) (ix2 a l) = Ideal.cmp .ogt (iblk m c 5 t (ix2 a l) : EReal) (Ideal.ofBits .f32 0x3F000000#32) := by
    pointwise [k0_pay2]
  rw [h', h]
  exact above_half _

theorem near_bit (c : Dev nD) (t : Fin cfg0.N) (a : Fin 64) (j : Fin 512) : k0_pay3 (F := Ideal) (iblk m c 4 t) (ix2 a j) = if near a.val (j.val % 64) then 1#1 else 0#1 := by
  have h : iblk m c 4 t (ix2 a j) = FloatOps.uitofp (F := Ideal) .f32 (if near a.val (j.val % 64) then 1#1 else 0#1) := (blk_near m c t a j).trans (valid_at m c a j)
  have h' : k0_pay3 (F := Ideal) (iblk m c 4 t) (ix2 a j) = Ideal.cmp .ogt (iblk m c 4 t (ix2 a j) : EReal) (Ideal.ofBits .f32 0x3F000000#32) := by
    pointwise [k0_pay3]
  rw [h', h]
  exact above_half _

/-! ## What the call leaves -/

/-- Head `n` of the arguments; the forward call has no cotangent. -/
abbrev H (c : Dev nD) (n : ℕ) : Att.Head := Att.headOf (A0 m c) (A1 m c) (fun _ => (0 : EReal)) n

/-- A head's attention at a row of the grid's cells. -/
def attAt (G : Att.Head) (y d : ℕ) : EReal :=
  ∑ j : Fin 512, G.P (y / 64) (y % 64) (j.val / 64) (j.val % 64) * G.v (top (y / 64) + j.val / 64) (j.val % 64) d

/-- The output the call leaves: every head's attention. -/
def outOf (c : Dev nD) : Vec Ideal S2048x512 .bf16 := fun j => attAt (H m c ((j 1).val / 64)) (j 0).val ((j 1).val % 64)

/-- What one run leaves in a query row's lanes. -/
theorem out_at {arg1 : Memref sig .tc .vmem S2048x256 .bf16} (harg1 : arg1.IsWhole) {arg2 : Memref sig .tc .vmem S2048x256 .bf16} (harg2 : arg2.IsWhole)
    {arg3 : Memref sig .tc .vmem S2048x256 .bf16} (harg3 : arg3.IsWhole) {arg4 : Memref sig .tc .vmem S8x1x4x512 .f32} (harg4 : arg4.IsWhole)
    {arg5 : Memref sig .tc .vmem S64x512 .f32} (harg5 : arg5.IsWhole) {arg6 : Memref sig .tc .vmem S256x256 .f32} (harg6 : arg6.IsWhole)
    {arg8 : Memref sig .tc .vmem S2048x256 .bf16} (harg8 : arg8.IsWhole) {arg9 : Memref sig .tc .vmem S8x256x512 .f32} (harg9 : arg9.IsWhole)
    (c : Dev nD) (i : grid0.Coords) (x0 x1 x2 : Vec Ideal S2048x256 .bf16) (x3 : Vec Ideal S8x1x4x512 .f32) (x4 : Vec Ideal S64x512 .f32) (x5 : Vec Ideal S256x256 .f32)
    (k : Fin k0_t1_loop.trips) (p : Fin 64) (l : Fin 256) :
    out0_A_6 (F := Ideal) c i arg1 harg1 arg2 harg2 arg3 harg3 arg4 harg4 arg5 harg5 arg6 harg6 arg8 harg8 arg9 harg9 x0 x1 x2 x3 x4 x5 (ix2 ⟨k.val * 64 + p.val, by have := k_lt k; omega⟩ l)
      = stepO (k0_pay2 (F := Ideal) x5) (rows64 arg1 (harg1.unread x0) k) (rows512 arg2 (harg2.unread x1) k) (rows512 arg3 (harg3.unread x2) k)
          (tileOf arg9 (arg9.view.writes (Elt Ideal) arg9.view.junk (kernelRun0_A.sl.HS0_32 (F := Ideal) c arg4 harg4 arg5 harg5 x3 x4)) k) (ix2 p l) := by
  unfold out0_A_6 kernelRun0_A
  dsimp only
  rw [out_upto harg1 harg2 harg3 harg4 harg5 harg6 (Memref.isWhole_whole _) harg8 harg9 c i _ _ _ _ _ _ _ VO0_6 VO0_6.junk k p l _ k.isLt le_rfl, r_eq]

theorem group_at (c : Dev nD) (t : Fin cfg0.N) (k : Fin k0_t1_loop.trips) (p : Fin 64) (l : Fin 256) :
    outsAt0 m c t (ix2 ⟨k.val * 64 + p.val, by have := k_lt k; omega⟩ l) = attAt (H m c (t.val * 4 + l.val / 64)) (k.val * 64 + p.val) (l.val % 64) := by
  have h2 := grp t
  have h3 := k_lt k
  have hr : rs k.val = min (k.val - 4) 24 := rfl
  unfold outsAt0
  rw [out_at]
  refine (step_head (fun n => H m c (t.val * 4 + n)) _ _ _ _ _ k.val (fun a l => same_bit m c t a l) ?_ ?_ ?_ ?_ p l).trans ?_
  · intro p l
    rw [rows64_at]
    refine (blk_q m c t _ _).trans (congrArg (A0 m c) (ix2_of _ _ _ _ ?_ ?_)) <;> (try simp only [ix2_0, ix2_1]) <;> omega
  · intro j l
    rw [rows512_at]
    refine (blk_k m c t _ _).trans (congrArg (A0 m c) (ix2_of _ _ _ _ ?_ ?_)) <;> (try simp only [ix2_0, ix2_1]) <;> (try unfold top) <;> omega
  · intro j l
    rw [rows512_at]
    refine (blk_v m c t _ _).trans (congrArg (A0 m c) (ix2_of _ _ _ _ ?_ ?_)) <;> (try simp only [ix2_0, ix2_1]) <;> (try unfold top) <;> omega
  · intro a j
    rw [tileOf_at, bias_at, r_1_eq, near_bit]
    simp only []
    split_ifs with hn
    · refine (blk_bias m c t _ _ _).trans ?_
      unfold near Att.west at hn
      refine (bias_rows_at m c _ _ _ _ (by simp only []; omega)).trans (congrArg (A1 m c) (ix3_of _ _ _ _ _ _ ?_ ?_ ?_)) <;> simp only [] <;> (try unfold top) <;> (try unfold rs) <;> omega
    · rfl
  · unfold attAt
    rw [show (k.val * 64 + p.val) / 64 = k.val by omega, show (k.val * 64 + p.val) % 64 = p.val by omega]

theorem final6 (c : Dev nD) : (dats m 0 c).arrAt 6 cfg0.N = outOf m c := by
  refine (dats m 0 c).arrAt_eq_of_covers 6 _ (by decide +kernel) fun t _ y => ?_
  blk_simp
  obtain ⟨r, l, rfl⟩ : ∃ (r : Fin 2048) (l : Fin 256), y = ix2 r l := ⟨y 0, y 1, eq_ix2 y⟩
  rw [after0_6, show ((View.whole main_v58).slice (win0_6.rect t)).emb (ix2 r l) = ix2 r ⟨t.val * 256 + l.val, by have := grp t; omega⟩ from by
    blk_ext [idx t]]
  have g := group_at m c t ⟨r.val / 64, by rw [trips_eq]; omega⟩ ⟨r.val % 64, Nat.mod_lt _ (by norm_num)⟩ l
  have e : r.val / 64 * 64 + r.val % 64 = r.val := by omega
  simp only [e] at g
  refine g.trans ?_
  show attAt (H m c (t.val * 4 + l.val / 64)) r.val (l.val % 64) = attAt (H m c ((t.val * 256 + l.val) / 64)) r.val ((t.val * 256 + l.val) % 64)
  rw [show (t.val * 256 + l.val) / 64 = t.val * 4 + l.val / 64 by omega, show (t.val * 256 + l.val) % 64 = l.val % 64 by omega]

end Cert.AttFwdIdeal.Body
-- ==== Proof.FwdRef.lean ====
module

public import proofs.«01_k».proof.Proof.AttRef
public import proofs.«01_k».proof.Proof.FwdKer
public import proofs.«01_k».proof.Proof.Gen.AttOutIdeal.Read

/-!
The forward reference's output, in terms of a head. Its lines up to the masked scores are those of the gradients' reference.
-/

@[expose] public section

noncomputable section

namespace Cert.AttOutIdeal.Att

open Cert.AttOutIdeal Cert.AttOutIdeal.Gen Cert.AttOutIdeal.Read Idealize.ShloMosaic Cert.Att
open Cert.AttGradIdeal.Att (sum45 max45 div_L)

variable (X : FVec Ideal S2048x1536 .f32) (R : FVec Ideal S8x15x31 .f32) (D : FVec Ideal S2048x512 .f32)

/-! The lines the two references share. -/

theorem values_eq : val_main_v104 (F := Ideal) X = Cert.AttGradIdeal.Read.val_main_v104 (F := Ideal) X := rfl
theorem dots_eq : val_main_v105 (F := Ideal) X = Cert.AttGradIdeal.Read.val_main_v105 (F := Ideal) X := rfl
theorem bias_eq : val_main_v123 (F := Ideal) R = Cert.AttGradIdeal.Read.val_main_v123 (F := Ideal) R := rfl
theorem near_eq : val_main_call4_v1 (F := Ideal) = Cert.AttGradIdeal.Read.val_main_v126_1 (F := Ideal) := rfl

theorem s_at (h : Fin 8) (r : Fin 32) (n : Fin 4) (cc : Fin 16) (i : Fin 8) (k : Fin 32) :
    (val_main_v126 (F := Ideal) X R (ix6 h r n cc i k) : EReal) = (headOf X R D h.val).S r.val (n.val * 16 + cc.val) i.val (edge n.val + k.val) := by
  rw [val_main_v126_apply, near_eq, val_main_v124_apply, dots_eq, bias_eq, Cert.AttGradIdeal.Att.bit_at]
  show (if BitVec.ofBool (decide (near (n.val * 16 + cc.val) (edge n.val + k.val))) = 1#1
    then (Cert.AttGradIdeal.Read.val_main_v105 (F := Ideal) X (ix6 h r n cc i k) : EReal) + Cert.AttGradIdeal.Read.val_main_v123 (F := Ideal) R (ix6 h r n cc i k)
    else val_main_call4_v2 (F := Ideal) (ix6 h r n cc i k)) = _
  unfold Head.S
  by_cases hn : near (n.val * 16 + cc.val) (edge n.val + k.val)
  · rw [decide_eq_true hn, if_pos (by decide), if_pos hn, Cert.AttGradIdeal.Att.dot_at X R D, Cert.AttGradIdeal.Att.bias_at X R D h r n cc i k hn]
  · rw [decide_eq_false hn, if_neg (by decide), if_neg hn]
    rw [val_main_call4_v2_apply]
    exact floor_bits

theorem m_at (h : Fin 8) (r : Fin 32) (n : Fin 4) (cc : Fin 16) :
    (val_main_v127 (F := Ideal) X R (ix4 h r n cc) : EReal) = (headOf X R D h.val).M r.val (n.val * 16 + cc.val) := by
  have hc : (n.val * 16 + cc.val) / 16 = n.val := by omega
  unfold val_main_v127
  rw [max45, ← Head.max_window _ r.val (show n.val * 16 + cc.val < 64 by omega), hc]
  have e : (val_main_cst_28 (F := Ideal) (Shape.Idx.first h_S_) : EReal) = ⊥ := floor_bits
  rw [e]
  exact Finset.fold_congr fun p _ => s_at X R D h r n cc p.1 p.2

theorem m'_at (h : Fin 8) (r : Fin 32) (n : Fin 4) (cc : Fin 16) (i : Fin 8) (k : Fin 32) :
    (val_main_v131 (F := Ideal) X R (ix6 h r n cc i k) : EReal) = (headOf X R D h.val).M r.val (n.val * 16 + cc.val) := by
  rw [val_main_v131_apply, val_main_v130_apply]
  have e : idx_main_v130 (idx_main_v131 (ix6 h r n cc i k)) = ix4 h r n cc := funext fun ax => match ax with
    | ⟨0, _⟩ => rfl | ⟨1, _⟩ => rfl | ⟨2, _⟩ => rfl | ⟨3, _⟩ => rfl
  rw [e]
  rw [val_main_v129_apply]
  have e'' : (val_main_v128 (F := Ideal) (ix4 h r n cc) : EReal) = ⊥ := by rw [val_main_v128_apply]; exact floor_bits
  rw [m_at X R D, e'']
  exact max_eq_right bot_le

theorem e_at (h : Fin 8) (r : Fin 32) (n : Fin 4) (cc : Fin 16) (i : Fin 8) (k : Fin 32) :
    (val_main_v133 (F := Ideal) X R (ix6 h r n cc i k) : EReal) = (headOf X R D h.val).E r.val (n.val * 16 + cc.val) i.val (edge n.val + k.val) := by
  have e : (val_main_v133 (F := Ideal) X R (ix6 h r n cc i k) : EReal)
    = Ideal.exp ((val_main_v126 (F := Ideal) X R (ix6 h r n cc i k) : EReal) - val_main_v131 (F := Ideal) X R (ix6 h r n cc i k)) := rfl
  unfold Head.E
  rw [e, s_at X R D, m'_at X R D]

theorem l_at (h : Fin 8) (r : Fin 32) (n : Fin 4) (cc : Fin 16) :
    (val_main_v134 (F := Ideal) X R (ix4 h r n cc) : EReal) = (headOf X R D h.val).L r.val (n.val * 16 + cc.val) := by
  have hc : (n.val * 16 + cc.val) / 16 = n.val := by omega
  have e : (val_main_cst_30 (F := Ideal) (Shape.Idx.first h_S_) : EReal) = 0 := by pointwise [val_main_cst_30]
  have w := Head.sum_window (show n.val * 16 + cc.val < 64 by omega) (fun i x => (headOf X R D h.val).E r.val (n.val * 16 + cc.val) i x) (fun i x hx => Head.E_far _ hx)
  unfold val_main_v134
  refine (sum45 _ _ _ h r n cc).trans ?_
  rw [e, zero_add]
  refine Eq.trans ?_ w.symm
  rw [hc]
  exact Finset.sum_congr rfl fun i _ => Finset.sum_congr rfl fun k _ => e_at X R D h r n cc i k

theorem l'_at (h : Fin 8) (r : Fin 32) (n : Fin 4) (cc : Fin 16) (i : Fin 8) (k : Fin 32) :
    (val_main_v136 (F := Ideal) X R (ix6 h r n cc i k) : EReal) = (headOf X R D h.val).L r.val (n.val * 16 + cc.val) := by
  rw [val_main_v136_apply, val_main_v135_apply]
  have e : idx_main_v135 (idx_main_v136 (ix6 h r n cc i k)) = ix4 h r n cc := funext fun ax => match ax with
    | ⟨0, _⟩ => rfl | ⟨1, _⟩ => rfl | ⟨2, _⟩ => rfl | ⟨3, _⟩ => rfl
  rw [e]
  exact l_at X R D h r n cc

variable (hX : ∀ j, ∃ a : ℝ, (X j : EReal) = a) (hR : ∀ j, ∃ a : ℝ, (R j : EReal) = a)
include hX hR

theorem p_at (h : Fin 8) (r : Fin 32) (n : Fin 4) (cc : Fin 16) (i : Fin 8) (k : Fin 32) :
    (val_main_v137 (F := Ideal) X R (ix6 h r n cc i k) : EReal) = (headOf X R D h.val).P r.val (n.val * 16 + cc.val) i.val (edge n.val + k.val) := by
  have e : (val_main_v137 (F := Ideal) X R (ix6 h r n cc i k) : EReal)
    = Ideal.div (val_main_v133 (F := Ideal) X R (ix6 h r n cc i k) : EReal) (val_main_v136 (F := Ideal) X R (ix6 h r n cc i k)) := rfl
  rw [e, e_at X R D, l'_at X R D]
  exact div_L (headOf_real D h.val hX hR) r.val (show n.val * 16 + cc.val < 64 by omega) _

theorem mix_at (h : Fin 8) (r : Fin 32) (n : Fin 4) (cc : Fin 16) (d : Fin 64) :
    (val_main_v138 (F := Ideal) X R (ix5 h r n cc d) : EReal)
      = ∑ j : Fin 512, (headOf X R D h.val).P r.val (n.val * 16 + cc.val) (j.val / 64) (j.val % 64) * (headOf X R D h.val).v (top r.val + j.val / 64) (j.val % 64) d.val := by
  have hc : (n.val * 16 + cc.val) / 16 = n.val := by omega
  have w := Head.sum_window (show n.val * 16 + cc.val < 64 by omega) (fun i x => (headOf X R D h.val).P r.val (n.val * 16 + cc.val) i x
          * (headOf X R D h.val).v (top r.val + i) x d.val) (fun i x hx => by rw [Head.P_far _ hx, zero_mul])
  refine Eq.trans ?_ w.symm
  rw [hc]
  unfold val_main_v138
  have f : ∀ (r' : Fin 32) (n' : Fin 4) (cc' : Fin 16) (i : Fin 8) (k : Fin 32), _ := fun r' n' cc' i k => p_at X R D hX hR h r' n' cc' i k
  have g : ∀ (i : Fin 8) (k : Fin 32), _ := fun i k => Cert.AttGradIdeal.Att.gv_at X R D h r n i k d
  rw [values_eq]
  generalize val_main_v137 (F := Ideal) X R = y at f ⊢
  generalize Cert.AttGradIdeal.Read.val_main_v104 (F := Ideal) X = z at g ⊢
  pointwise []
  refine Finset.sum_congr rfl fun i _ => Finset.sum_congr rfl fun k _ => ?_
  exact congrArg₂ (· * ·) (f r n cc i k) (g i k)

/-- The result at any place is the attention of its head. -/
theorem out_at (y : Fin 2048) (l : Fin 512) :
    (val_main_v141 (F := Ideal) X R (ix2 y l) : EReal) = Cert.AttFwdIdeal.Body.attAt (headOf X R D (l.val / 64)) y.val (l.val % 64) := by
  have f := mix_at X R D hX hR ⟨l.val / 64, by omega⟩ ⟨y.val / 64, by omega⟩ ⟨y.val % 64 / 16, by omega⟩ ⟨y.val % 16, by omega⟩ ⟨l.val % 64, by omega⟩
  unfold val_main_v141 val_main_v140 val_main_v139
  generalize val_main_v138 (F := Ideal) X R = z at f ⊢
  pointwise []
  unfold Cert.AttFwdIdeal.Body.attAt
  rw [show y.val % 64 = y.val % 64 / 16 * 16 + y.val % 16 by omega]
  refine Eq.trans (congrArg (fun j => (z j : EReal)) ?_) f
  exact (ix5_inj _ _ _ _ _ _ _ _ _ _).mpr ⟨Fin.ext (by first | omega | (simp only []; omega) | simp), Fin.ext (by first | omega | (simp only []; omega) | simp), Fin.ext (by first | omega | (simp only []; omega) | simp),
    Fin.ext (by first | omega | (simp only []; omega) | simp), Fin.ext (by first | omega | (simp only []; omega) | simp)⟩

end Cert.AttOutIdeal.Att
-- ==== Proof.OutClaim.lean ====
/- The attention's forward pair: the reference's frame and the equality of the outputs, where the queries, keys, values and
   biases are finite. -/
module

public import proofs.«01_k».proof.Defs
public import proofs.«01_k».proof.Proof.Gen.AttFwd.Frame
public import proofs.«01_k».proof.Proof.Gen.AttOutIdeal.Run
public import proofs.«01_k».proof.Proof.FwdRef
public import proofs.«01_k».proof.Proof.RmsReal

@[expose] public section

set_option maxRecDepth 16384

noncomputable section

namespace Cert.OutClaim

open Idealize.ShloMosaic Idealize.ShloMosaic.TcCoe Idealize.SL.Sem

/-- The reference runs, leaves its arguments as they were and its semaphores at zero. -/
theorem frame_ref : Cert.quiescent_AttOutIdeal := fun m ρ _ =>
  (θ_run Cert.AttOutIdeal.defs _ _).mono (fun r h => ⟨fun c => (h c).2,
      Idealize.ShloMosaic.sem_eq_zero_of_no_sems (by decide) r.2⟩)
    (Cert.AttOutIdeal.Value.run (F := Ideal) m ρ)

theorem pre_facts : Cert.Pre_finite_out.Facts := by constructor <;> decide

/-- Kernel and reference end with equal outputs. -/
theorem algebraic : Cert.algebraic_AttFwdIdeal_AttOutIdeal_pre_finite_out (hPre_finite_out := pre_facts) := by
  pair_intro
  · run_from Cert.AttFwdIdeal.Value.run_blocks m g
  · refine (θ_run Cert.AttOutIdeal.defs _ _).mono (fun r h c => ?_) (Cert.AttOutIdeal.Value.run (F := Ideal) m' g')
    obtain ⟨h0, hargs⟩ := h c
    obtain ⟨a0, a1⟩ := hagree c
    obtain ⟨p0, p1⟩ := hpre c
    refine ⟨h0.trans ?_, hargs⟩
    rw [Cert.AttOutIdeal.Read.val_main_v141_eq]
    have b0 : StableHlo.launchContents m' c (Proc.devRef .tc Cert.AttOutIdeal.main_arg0) = m ((c.tc : Thread Cert.AttFwdIdeal.nD Cert.AttFwdIdeal.τ).loc Cert.AttFwdIdeal.main_arg0) := a0
    have b1 : StableHlo.launchContents m' c (Proc.devRef .tc Cert.AttOutIdeal.main_arg1) = m ((c.tc : Thread Cert.AttFwdIdeal.nD Cert.AttFwdIdeal.τ).loc Cert.AttFwdIdeal.main_arg1) := a1
    rw [b0, b1]
    refine Eq.trans (funext fun j => ?_) (Cert.AttFwdIdeal.Body.final6 m c).symm
    obtain ⟨y, l, rfl⟩ : ∃ (y : Fin 2048) (l : Fin 512), j = ix2 y l := ⟨j 0, j 1, eq_ix2 j⟩
    exact Cert.AttOutIdeal.Att.out_at _ _ _ (Rms.IsReal.of_test _ _ p0) (Rms.IsReal.of_test _ _ p1) y l

end Cert.OutClaim

end
-- ==== Proof.MergeValue.lean ====
/- The arrays the gated merge's forward kernel leaves, each equal to the reference's result over the same arguments. -/
module

public import proofs.«01_k».proof.Proof.Gen.MixFwdIdeal.Value
public import proofs.«01_k».proof.Proof.Gen.MixOutIdeal.Read
public import proofs.«01_k».proof.Proof.Sigmoid
public import Idealize.ShloMosaic.Lib.Pipeline.ValueKit
public import Idealize.ShloMosaic.Lib.Pointwise
public import Idealize.ShloMosaic.Lib.Claim

@[expose] public section

set_option maxRecDepth 16384

noncomputable section

namespace Cert.MixFwdIdeal.RefValue

open Cert.MixFwdIdeal Cert.MixFwdIdeal.Gen Idealize.ShloMosaic Idealize.ShloMosaic.TcCoe Idealize.SL.Sem
open Idealize.ShloMosaic.Pipeline (Dat)
open Cert.MixOutIdeal.Read

variable (m : (ℓ : Loc nD τ sig) → Buf (Elt Ideal) ℓ)

/-- Where each block lies at a grid point: row block `t`, the gate's two halves side by side, every weight whole. -/
theorem idx : ∀ t : Fin cfg0.N,
    win0_0.index t = ![t.val, 0] ∧ win0_1.index t = ![t.val, 0] ∧ win0_2.index t = ![t.val, 0]
    ∧ win0_3.index t = ![t.val, 0] ∧ win0_4.index t = ![t.val, 1] ∧ win0_5.index t = ![0, 0]
    ∧ win0_6.index t = ![0, 0] ∧ win0_7.index t = ![0, 0] ∧ win0_8.index t = ![t.val, 0]
    ∧ win0_9.index t = ![t.val, 0] :=
  (by decide +kernel : ∀ t : Fin grid0.N, _)

/-- The reference's attention gate, in the kernel's form. -/
theorem gate_att (x3 : FVec Ideal Cert.MixOutIdeal.S2048x2048 .f32) (i : Cert.MixOutIdeal.S2048x1024.Idx) :
    val_main_v9 (F := Ideal) x3 i
      = ((1 / 2 : ℝ) : EReal) * Ideal.tanh (((1 / 2 : ℝ) : EReal) * val_main_v2 (F := Ideal) x3 i) + ((1 / 2 : ℝ) : EReal) := by
  pointwise [val_main_v9, val_main_v8, val_main_v7, val_main_v6, val_main_v5, val_main_v4, val_main_cst, val_main_cst_0]
  simp only [Gate.one, Gate.sigmoid]

/-- The reference's recurrence gate, in the kernel's form. -/
theorem gate_rec (x3 : FVec Ideal Cert.MixOutIdeal.S2048x2048 .f32) (i : Cert.MixOutIdeal.S2048x1024.Idx) :
    val_main_v16 (F := Ideal) x3 i
      = ((1 / 2 : ℝ) : EReal) * Ideal.tanh (((1 / 2 : ℝ) : EReal) * val_main_v3 (F := Ideal) x3 i) + ((1 / 2 : ℝ) : EReal) := by
  pointwise [val_main_v16, val_main_v15, val_main_v14, val_main_v13, val_main_v12, val_main_v11, val_main_cst_1, val_main_cst_2]
  simp only [Gate.one, Gate.sigmoid]

/-- The mixed branches: each branch's product by its gate, added up. -/
theorem final9 (c : Dev nD) : (dats m 0 c).arrAt 9 (cfgs 0).N
    = val_main_v21 (F := Ideal) (m ((c : Thread nD τ).loc main_arg1)) (m ((c : Thread nD τ).loc main_arg2)) (m ((c : Thread nD τ).loc main_arg3)) (m ((c : Thread nD τ).loc main_arg4)) (m ((c : Thread nD τ).loc main_arg5)) := by
  refine (dats m 0 c).arrAt_eq_of_covers 9 _ (by decide +kernel) fun t _ y => ?_
  blk_simp
  rw [after0_9]; frame_out
  pointwise [k0_pay2, val_main_v21, val_main_v18, val_main_v10, val_main_v17, val_main_v0, val_main_v1]
  simp only [gate_att, gate_rec, Gate.half]
  pointwise [val_main_v2, val_main_v3]
  blk_point [iblk, V, idx t]

/-- The layer's new stream: the old one and the mixed branches' product. -/
theorem final8 (c : Dev nD) : (dats m 0 c).arrAt 8 (cfgs 0).N
    = val_main_v20 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) := by
  refine (dats m 0 c).arrAt_eq_of_covers 8 _ (by decide +kernel) fun t _ y => ?_
  blk_simp
  rw [after0_8]; frame_out
  pointwise [k0_pay1, k0_pay2, val_main_v20, val_main_v19, val_main_v18, val_main_v10, val_main_v17, val_main_v0, val_main_v1]
  simp only [gate_att, gate_rec, Gate.half]
  pointwise [val_main_v2, val_main_v3]
  blk_point [iblk, V, idx t]

end Cert.MixFwdIdeal.RefValue

end
-- ==== Proof.MergeClaim.lean ====
/- The gated merge's forward pair: the reference's frame and the equality of both results. -/
module

public import proofs.«01_k».proof.Defs
public import proofs.«01_k».proof.Proof.Gen.MixFwd.Frame
public import proofs.«01_k».proof.Proof.Gen.MixOutIdeal.Run
public import proofs.«01_k».proof.Proof.MergeValue

@[expose] public section

set_option maxRecDepth 16384

noncomputable section

namespace Cert.MergeClaim

open Idealize.ShloMosaic Idealize.ShloMosaic.TcCoe Idealize.SL.Sem

/-- The reference runs, leaves its arguments as they were and its semaphores at zero. -/
theorem frame_ref : Cert.quiescent_MixOutIdeal := fun m ρ _ =>
  (θ_run Cert.MixOutIdeal.defs _ _).mono (fun r h => ⟨fun c => (h c).2.2,
      Idealize.ShloMosaic.sem_eq_zero_of_no_sems (by decide) r.2⟩)
    (Cert.MixOutIdeal.Value.run (F := Ideal) m ρ)

/-- Kernel and reference end with equal results. -/
theorem algebraic : Cert.algebraic_MixFwdIdeal_MixOutIdeal := by
  pair_intro
  · run_from Cert.MixFwdIdeal.Value.run_blocks m g
  · refine (θ_run Cert.MixOutIdeal.defs _ _).mono (fun r h c => ?_) (Cert.MixOutIdeal.Value.run (F := Ideal) m' g')
    obtain ⟨h0, h1, hargs⟩ := h c
    obtain ⟨a0, a1, a2, a3, a4, a5, a6⟩ := hagree c
    refine ⟨h0.trans ?_, h1.trans ?_, hargs⟩
    · rw [Cert.MixOutIdeal.Read.val_main_v20_eq, a0, a1, a2, a3, a4, a5, a6]
      exact (Cert.MixFwdIdeal.RefValue.final8 m c).symm
    · rw [Cert.MixOutIdeal.Read.val_main_v21_eq, a1, a2, a3, a4, a5]
      exact (Cert.MixFwdIdeal.RefValue.final9 m c).symm

end Cert.MergeClaim

end
-- ==== Proof.ProjValue.lean ====
/- The arrays the input projection's forward kernel leaves, each equal to the reference's result over the same arguments. -/
module

public import proofs.«01_k».proof.Proof.Gen.ProjFwdIdeal.Value
public import proofs.«01_k».proof.Proof.Gen.ProjOutIdeal.Read
public import proofs.«01_k».proof.Proof.NormValue
public import Idealize.ShloMosaic.Lib.Pipeline.ValueKit
public import Idealize.ShloMosaic.Lib.Pipeline.ReadBack
public import Idealize.ShloMosaic.Lib.Pointwise
public import Idealize.ShloMosaic.Lib.StableHlo.RunRead
public import Idealize.ShloMosaic.Lib.Claim

@[expose] public section

set_option maxRecDepth 16384

noncomputable section

namespace Cert.ProjFwdIdeal.RefValue

open Cert.ProjFwdIdeal Cert.ProjFwdIdeal.Gen Idealize.ShloMosaic Idealize.ShloMosaic.TcCoe Idealize.SL.Sem
open Idealize.ShloMosaic.Pipeline (Dat)
open Cert.ProjOutIdeal.Read

variable (m : (ℓ : Loc nD τ sig) → Buf (Elt Ideal) ℓ)

/-- Where each block lies at a grid point: row block `t` of every stream, the gain and the bias whole. -/
theorem idx : ∀ t : Fin cfg0.N,
    win0_0.index t = ![t.val, 0] ∧ win0_1.index t = ![0, 0] ∧ win0_2.index t = ![0, 0]
    ∧ win0_3.index t = ![t.val, 0] ∧ win0_4.index t = ![t.val, 0] ∧ win0_5.index t = ![t.val, 0]
    ∧ win0_6.index t = ![t.val, 0] :=
  (by decide +kernel : ∀ t : Fin grid0.N, _)

theorem row_lt (t : Fin cfg0.N) (r : Fin 512) : 512 * t.val + r.val < 2048 := by
  have h4 : cfg0.N = 4 := N_0
  have := t.isLt; have := r.isLt; omega

/-- The weights as the kernel reads them out of its main memory. -/
def wOf (c : Dev nD) : Vec Ideal S5632x1024 .bf16 := View.read (Elt Ideal) (View.whole main_v1) (V m c main_v1)

/-- They are the host's transpose of the input projection's weights. -/
theorem wOf_apply (c : Dev nD) (i : S5632x1024.Idx) : wOf m c i = m ((c : Thread nD τ).loc main_arg2) (ValueIdx.ix2 (i 1) (i 0)) := by
  show V m c main_v1 i = _
  unfold V
  after_reads_simp
  pointwise
  rfl

theorem canon_w (c : Dev nD) :
    View.canon [(⟨Rect.whole S5632x1024, ReadAs.same.apply (wOf m c)⟩ : View.Piece (Elt Ideal) S5632x1024 .bf16)] = wOf m c :=
  NormBwdIdeal.RefValue.canon_whole (wOf m c)

theorem ld_w (c : Dev nD) (r : Rect S5632x1024) : (fun j => wOf m c (r.toLoadRect.idx j)) = View.ld (wOf m c) r := rfl

theorem read_w (h : scM0_0.IsWhole) (X : Vec Ideal S5632x1024 .bf16) :
    View.read (Elt Ideal) (View.whole cc0_scratch0) (h.unread X) = X :=
  read_unread_whole cc0_scratch0 h X

/-- The weights stay in the kernel's scratch from the first point on. -/
theorem scratch_eq (c : Dev nD) : ∀ (n : ℕ) (h : n < cfg0.N), (outsAt0 m c n h).2.2.2.2 = wOf m c
  | 0, h => by
    have e := outsAt0_A m c ⟨0, h⟩ rfl
    dsimp only at e
    rw [e]; frame_out
    exact canon_w m c
  | n + 1, h => by
    by_cases h0 : (n + 1) % 4 = 0
    · have e := outsAt0_A m c ⟨n + 1, h⟩ h0
      dsimp only at e
      rw [e]; frame_out
      exact canon_w m c
    · have e := outsAt0_B m c ⟨n + 1, h⟩ h0
      dsimp only at e
      rw [e]; frame_out
      exact scratch_eq c n _

/-- An entry of the projection at a point: row `r` of the normalised block by row `n` of the transposed weights. -/
def zAt (c : Dev nD) (t : Fin cfg0.N) (r : Fin 512) (n : Fin 5632) : EReal :=
  (∑ k : Fin 1024, k0_pay2 (iblk m c 0 t) (iblk m c 1 t) (ValueIdx.ix2 r k) * wOf m c (ValueIdx.ix2 n k))
    + iblk m c 2 t (ValueIdx.ix2 0 n)

theorem z_tile (c : Dev nD) (t : Fin cfg0.N) {r r' : Fin 512} {n n' : Fin 5632} (hr : r'.val = r.val) (hn : n'.val = n.val) :
    (∑ k : Fin 1024, k0_pay2 (iblk m c 0 t) (iblk m c 1 t) (ValueIdx.ix2 r k) * wOf m c (ValueIdx.ix2 n k))
      + iblk m c 2 t (ValueIdx.ix2 0 n) = zAt m c t r' n' := by
  rw [Fin.ext hr, Fin.ext hn]
  rfl

/-- An entry of the normalised block is the reference's. -/
theorem h_at (c : Dev nD) (t : Fin cfg0.N) (r : Fin 512) (k : Fin 1024) :
    k0_pay2 (iblk m c 0 t) (iblk m c 1 t) (ValueIdx.ix2 r k)
      = val_main_v11 (F := Ideal) (m ((c : Thread nD τ).loc main_arg0)) (m ((c : Thread nD τ).loc main_arg1)) (ValueIdx.ix2 ⟨512 * t.val + r.val, row_lt t r⟩ k) := by
  pointwise [k0_pay2, val_main_v11, val_main_v10, val_main_v9, val_main_v8, val_main_v7, val_main_v6, val_main_v5,
    val_main_v4, val_main_v3, val_main_v2, val_main_v1, val_main_v0, val_main_cst, val_main_cst_0, val_main_cst_1]
  blk_point [iblk, V, idx t]
  all_goals (show t.val * 512 + r.val = 512 * t.val + r.val; omega)

/-- An entry of the projection is the reference's. -/
theorem z_at (c : Dev nD) (t : Fin cfg0.N) (r : Fin 512) (n : Fin 5632) :
    zAt m c t r n = val_main_v14 (F := Ideal) (m ((c : Thread nD τ).loc main_arg0)) (m ((c : Thread nD τ).loc main_arg1)) (m ((c : Thread nD τ).loc main_arg2)) (m ((c : Thread nD τ).loc main_arg3)) (ValueIdx.ix2 ⟨512 * t.val + r.val, row_lt t r⟩ n) := by
  unfold zAt
  simp only [h_at, wOf_apply]
  pointwise [val_main_v14, val_main_v13, val_main_v12]
  blk_point [iblk, V, idx t]

set_option maxHeartbeats 1000000 in
/-- The attention's columns after any point. -/
theorem qkv_eq (c : Dev nD) (t : Fin cfg0.N) : (outsAt0 m c t.val t.isLt).1
    = fun y : S512x1536.Idx => zAt m c t (y 0) ⟨(y 1).val, by have : (y 1).val < 1536 := (y 1).isLt; omega⟩ := by
  by_cases hb : t.val % 4 = 0
  · rw [outsAt0_A m c t hb]; frame_out
    simp only [View.readCov_eq_canon']
    erw [canon_w m c]
    simp only [ld_w]
    funext y
    canon_tiles x h <;> (pointwise [k0_pay5, k0_pay4, k0_pay3]; exact z_tile m c t h0 (by dsimp only; omega))
  · rw [outsAt0_B m c t hb]; frame_out
    simp only [scratch_eq, read_w]
    funext y
    canon_tiles x h <;> (pointwise [k0_pay5, k0_pay4, k0_pay3]; exact z_tile m c t h0 (by dsimp only; omega))

set_option maxHeartbeats 1000000 in
/-- The recurrent branch's columns after any point. -/
theorem uy_eq (c : Dev nD) (t : Fin cfg0.N) : (outsAt0 m c t.val t.isLt).2.1
    = fun y : S512x2048.Idx => zAt m c t (y 0) ⟨1536 + (y 1).val, by have : (y 1).val < 2048 := (y 1).isLt; omega⟩ := by
  by_cases hb : t.val % 4 = 0
  · rw [outsAt0_A m c t hb]; frame_out
    simp only [View.readCov_eq_canon']
    erw [canon_w m c]
    simp only [ld_w]
    funext y
    canon_tiles x h <;> (pointwise [k0_pay6, k0_pay7, k0_pay8, k0_pay9]; exact z_tile m c t h0 (by dsimp only; omega))
  · rw [outsAt0_B m c t hb]; frame_out
    simp only [scratch_eq, read_w]
    funext y
    canon_tiles x h <;> (pointwise [k0_pay6, k0_pay7, k0_pay8, k0_pay9]; exact z_tile m c t h0 (by dsimp only; omega))

set_option maxHeartbeats 1000000 in
/-- The gates' columns after any point. -/
theorem gg_eq (c : Dev nD) (t : Fin cfg0.N) : (outsAt0 m c t.val t.isLt).2.2.1
    = fun y : S512x2048.Idx => zAt m c t (y 0) ⟨3584 + (y 1).val, by have : (y 1).val < 2048 := (y 1).isLt; omega⟩ := by
  by_cases hb : t.val % 4 = 0
  · rw [outsAt0_A m c t hb]; frame_out
    simp only [View.readCov_eq_canon']
    erw [canon_w m c]
    simp only [ld_w]
    funext y
    canon_tiles x h <;> (pointwise [k0_pay10, k0_pay11, k0_pay12, k0_pay1]; exact z_tile m c t h0 (by dsimp only; omega))
  · rw [outsAt0_B m c t hb]; frame_out
    simp only [scratch_eq, read_w]
    funext y
    canon_tiles x h <;> (pointwise [k0_pay10, k0_pay11, k0_pay12, k0_pay1]; exact z_tile m c t h0 (by dsimp only; omega))

/-- The normalised block after any point. -/
theorem h_eq (c : Dev nD) (t : Fin cfg0.N) : (outsAt0 m c t.val t.isLt).2.2.2.1 = k0_pay2 (iblk m c 0 t) (iblk m c 1 t) := by
  by_cases hb : t.val % 4 = 0
  · rw [outsAt0_A m c t hb]; frame_out
  · rw [outsAt0_B m c t hb]; frame_out

/-- The attention's columns of the projection. -/
theorem final3 (c : Dev nD) : (dats m 0 c).arrAt 3 (cfgs 0).N
    = val_main_v18 (F := Ideal) (m ((c : Thread nD τ).loc main_arg0)) (m ((c : Thread nD τ).loc main_arg1)) (m ((c : Thread nD τ).loc main_arg2)) (m ((c : Thread nD τ).loc main_arg3)) := by
  refine (dats m 0 c).arrAt_eq_of_covers 3 _ (by decide +kernel) fun t _ y => ?_
  blk_simp
  rw [after0_3, qkv_eq]
  refine (z_at m c t _ _).trans ?_
  pointwise [val_main_v18, val_main_v15]
  blk_point [idx t]

/-- The recurrent branch's columns of the projection. -/
theorem final4 (c : Dev nD) : (dats m 0 c).arrAt 4 (cfgs 0).N
    = val_main_v16 (F := Ideal) (m ((c : Thread nD τ).loc main_arg0)) (m ((c : Thread nD τ).loc main_arg1)) (m ((c : Thread nD τ).loc main_arg2)) (m ((c : Thread nD τ).loc main_arg3)) := by
  refine (dats m 0 c).arrAt_eq_of_covers 4 _ (by decide +kernel) fun t _ y => ?_
  blk_simp
  rw [after0_4, uy_eq]
  refine (z_at m c t _ _).trans ?_
  pointwise [val_main_v16]
  blk_point [idx t]

/-- The gates' columns of the projection. -/
theorem final5 (c : Dev nD) : (dats m 0 c).arrAt 5 (cfgs 0).N
    = val_main_v17 (F := Ideal) (m ((c : Thread nD τ).loc main_arg0)) (m ((c : Thread nD τ).loc main_arg1)) (m ((c : Thread nD τ).loc main_arg2)) (m ((c : Thread nD τ).loc main_arg3)) := by
  refine (dats m 0 c).arrAt_eq_of_covers 5 _ (by decide +kernel) fun t _ y => ?_
  blk_simp
  rw [after0_5, gg_eq]
  refine (z_at m c t _ _).trans ?_
  pointwise [val_main_v17]
  blk_point [idx t]

/-- The normalised stream. -/
theorem final6 (c : Dev nD) : (dats m 0 c).arrAt 6 (cfgs 0).N = val_main_v19 (F := Ideal) (m ((c : Thread nD τ).loc main_arg0)) (m ((c : Thread nD τ).loc main_arg1)) := by
  refine (dats m 0 c).arrAt_eq_of_covers 6 _ (by decide +kernel) fun t _ y => ?_
  blk_simp
  rw [after0_6, h_eq]
  pointwise [val_main_v19]
  refine (congrArg _ (ValueIdx.eq_ix2 y)).trans ((h_at m c t _ _).trans ?_)
  blk_point [idx t]

end Cert.ProjFwdIdeal.RefValue

end
-- ==== Proof.ProjClaim.lean ====
/- The input projection's forward pair: the reference's frame and the equality of all four results. -/
module

public import proofs.«01_k».proof.Defs
public import proofs.«01_k».proof.Proof.Gen.ProjFwd.Frame
public import proofs.«01_k».proof.Proof.Gen.ProjOutIdeal.Run
public import proofs.«01_k».proof.Proof.ProjValue

@[expose] public section

set_option maxRecDepth 16384

noncomputable section

namespace Cert.ProjClaim

open Idealize.ShloMosaic Idealize.ShloMosaic.TcCoe Idealize.SL.Sem

/-- The reference runs, leaves its arguments as they were and its semaphores at zero. -/
theorem frame_ref : Cert.quiescent_ProjOutIdeal := fun m ρ _ =>
  (θ_run Cert.ProjOutIdeal.defs _ _).mono (fun r h => ⟨fun c => (h c).2.2.2.2,
      Idealize.ShloMosaic.sem_eq_zero_of_no_sems (by decide) r.2⟩)
    (Cert.ProjOutIdeal.Value.run (F := Ideal) m ρ)

/-- Kernel and reference end with equal results. -/
theorem algebraic : Cert.algebraic_ProjFwdIdeal_ProjOutIdeal := by
  pair_intro
  · run_from Cert.ProjFwdIdeal.Value.run_blocks m g
  · refine (θ_run Cert.ProjOutIdeal.defs _ _).mono (fun r h c => ?_) (Cert.ProjOutIdeal.Value.run (F := Ideal) m' g')
    obtain ⟨h0, h1, h2, h3, hargs⟩ := h c
    obtain ⟨a0, a1, a2, a3⟩ := hagree c
    refine ⟨h0.trans ?_, h1.trans ?_, h2.trans ?_, h3.trans ?_, hargs⟩
    · rw [Cert.ProjOutIdeal.Read.val_main_v18_eq, a0, a1, a2, a3]
      exact (Cert.ProjFwdIdeal.RefValue.final3 m c).symm
    · rw [Cert.ProjOutIdeal.Read.val_main_v16_eq, a0, a1, a2, a3]
      exact (Cert.ProjFwdIdeal.RefValue.final4 m c).symm
    · rw [Cert.ProjOutIdeal.Read.val_main_v17_eq, a0, a1, a2, a3]
      exact (Cert.ProjFwdIdeal.RefValue.final5 m c).symm
    · rw [Cert.ProjOutIdeal.Read.val_main_v19_eq, a0, a1]
      exact (Cert.ProjFwdIdeal.RefValue.final6 m c).symm

end Cert.ProjClaim

end
-- ==== Proof.RecTail.lean ====
module

public import Idealize.ShloMosaic.Lib.Pipeline.FrameSuffix
public import Idealize.ShloMosaic.Lib.Claim

/-!
A kernel with windows whose contents are left open, followed by host lines: what the lines leave is their outcome over
the arrays at some contents the kernel may leave, the named windows at what is named.
-/

@[expose] public section

noncomputable section

namespace Cert.Tail

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Pipeline Idealize.ShloMosaic.Rounds

variable {nD : Nat} {τ : Topo} {sig : RefSig} {Val : EltTy → Type} [∀ e, Nonempty (Val e)] {Λ₀ : Idealize.SL.Sem.Labels}
variable {P : Type} [Fintype P] [DecidableEq P]

local notation "𝕄" => MT nD τ sig Unit Val ℕ (UR sig nD τ) ℕ

variable (cfgs : P → Cfg sig Λ₀) (p : P) (kit : LaunchFacts₀ (nD := nD) (τ := τ) cfgs p)
  (rd : (c : Dev nD) → RDat τ Val Unit ℕ (UR sig nD τ) ℕ (cfgs p) c) (V₀ : Dev nD → Valuation τ sig Val)

/-- Contents the windows' arrays may hold once every block is written back. -/
def fits (c : Dev nD) (A : (w : Fin (cfgs p).W) → Buf Val (((cfgs p).spec w).arr.view.loc (c.tc : Thread nD τ))) : Prop :=
  ∀ w, (rd c).ArrAt w (cfgs p).N (A w)

/-- What a buffer holds after host lines that follow the kernel, from the contents it left in the arrays. -/
def ending (opss : List (List (HloOp τ sig Val))) (c : Dev nD)
    (A : (w : Fin (cfgs p).W) → Buf Val (((cfgs p).spec w).arr.view.loc (c.tc : Thread nD τ))) (b : Ref sig .tc) : Buf Val ((c.tc : Thread nD τ).loc b) :=
  StableHlo.after opss.flatten (withArrays (cfgs p).spec c (V₀ c) A) (Proc.devRef .tc b)

/-- The arrays at some contents they may hold, named together. -/
theorem arrays_named (c : Dev nD) :
    ((rd c).arraysAt (cfgs p).N : sProp 𝕄) ⊢ iprop(∃ A, ⌜fits cfgs p rd c A⌝ ∗ (rd c).arrays A) := by
  unfold RDat.arraysAt RDat.arrays
  refine (BI.bigSep_exists_pi Finset.univ _).trans ?_
  iintro ⟨%A, H⟩
  ihave H := (BI.bigSep_pure_sep Finset.univ (fun w => (rd c).ArrAt w (cfgs p).N (A w)) _) $$ H
  icases H with ⟨%h, H⟩
  iexists A
  isplitr
  · ipureintro; exact fun w => h w (Finset.mem_univ w)
  iexact H

theorem arrays_closed (c : Dev nD) (A) (h : fits cfgs p rd c A) :
    ((rd c).arrays A : sProp 𝕄) ⊢ (rd c).arraysAt (cfgs p).N := by
  unfold RDat.arraysAt RDat.arrays
  refine BI.bigSep_mono fun w _ => ?_
  show (((cfgs p).spec w).arr.view.loc (c.tc : Thread nD τ) ↦[((cfgs p).spec w).arr.view.set]{(rd c).share w} A w : sProp 𝕄)
    ⊢ iprop(∃ G, ⌜(rd c).ArrAt w (cfgs p).N G⌝ ∗ ((cfgs p).spec w).arr.view.loc (c.tc : Thread nD τ) ↦[((cfgs p).spec w).arr.view.set]{(rd c).share w} G)
  iintro H
  iexists (A w)
  isplitr
  · ipureintro; exact h w
  iexact H

include kit in
theorem arrays_bufs (hq : ∀ c w, ((cfgs p).spec w).isOut = false → (rd c).q w = shareOf (cfgs p).spec w)
    (hA : ∀ c w, (rd c).A w = V₀ c (Proc.devRef .tc (arrRef (cfgs p).spec w))) (c : Dev nD) (A) (h : fits cfgs p rd c A) :
    ((rd c).arrays A : sProp 𝕄) = arrBufs (cfgs p).spec c (fun b => withArrays (cfgs p).spec c (V₀ c) A (Proc.devRef .tc b)) :=
  ((rd c).arrBufs_eq_arrays kit.sharedIn kit.arr_whole (hq c) _ A fun w =>
    (withArrays_arr_shared (cfgs p).spec c (V₀ c) A ((rd c).ArrAt_sharedIn kit.sharedIn (V₀ c) (hA c) (cfgs p).N A h) w).symm).symm

/-- The buffers outside the arrays once the program ended. -/
def rested (opss : List (List (HloOp τ sig Val))) (c : Dev nD) : sProp 𝕄 :=
  iprop(∃ A, ⌜fits cfgs p rd c A⌝ ∗ unscopedRestP (Ix := Unit) (Name := ℕ) (U := UR sig nD τ) (Lvl := ℕ) Prefetch.none (cfgs p).spec c (ending cfgs p V₀ opss c A))

variable (defs₀ : Defs nD τ sig Val Λ₀) (𝒱₀ : Variants)

include kit in
/-- The whole program: each array at contents the kernel may leave, each other buffer at what the lines leave of them. -/
theorem run_named (m : (ℓ : Loc nD τ sig) → Buf Val ℓ) (g : Dev nD → PrngReg)
    (main : Dev nD → Prog (TpuEff nD τ sig Val (Sig Λ₀ P fun p => ((cfgs p).toPCfg (Val := Val)).Adm) .tc) PUnit)
    (hbody : ∀ c, (rd c).BodyObligation defs₀ 𝒱₀ () Set.univ)
    (hq : ∀ c w, ((cfgs p).spec w).isOut = false → (rd c).q w = shareOf (cfgs p).spec w) (howed : ∀ c t, (rd c).owed t = 0)
    (opss : List (List (HloOp τ sig Val)))
    (hsub : ∀ ops ∈ opss, ∀ op ∈ ops, op.bufs ⊆ tailRefs sig Prefetch.none (cfgs p).spec)
    (hfresh : ∀ ops ∈ opss, ∀ op ∈ ops, op.fresh = ∅)
    (hkeep : ∀ ops ∈ opss, ∀ op ∈ ops, ∀ w, Proc.devRef .tc (arrRef (cfgs p).spec w) ∉ op.writes)
    (hmain : HMainK (Ix := Unit) (Name := ℕ) (U := UR sig nD τ) (Lvl := ℕ) cfgs p defs₀ 𝒱₀ m main
      (fun c b => V₀ c (Proc.devRef .tc b)) (fun _ => chain (opss.map StableHlo.seq)))
    (hA : ∀ c w, (rd c).A w = V₀ c (Proc.devRef .tc (arrRef (cfgs p).spec w)))
    (hΦ : ∀ c t, (rd c).Φ t = ΦA (cfgs p).spec c) :
    θ_run (Pipeline.defs (fun q => (cfgs q).toPCfg (Val := Val)) defs₀) (onTc main) (s₀ m g) (fun r => (∀ c : Dev nD,
      (∀ w, (rd c).ArrAt w (cfgs p).N (r.2.mem (((cfgs p).spec w).arr.view.loc (c.tc : Thread nD τ))))
      ∧ ∃ A, fits cfgs p rd c A ∧ ∀ b ∈ restRefsP sig Prefetch.none (cfgs p).spec, r.2.mem ((c.tc : Thread nD τ).loc b) = ending cfgs p V₀ opss c A b)
      ∧ r.2.sem = fun _ => 0) := by
  classical
  have self : ∀ c, RDat.familyOf (fun q => (cfgs q).toPCfg (Val := Val)) (fun q => (cfgs q).toPCfg_adm) p rd p c = rd c :=
    fun c => RDat.familyOf_self ..
  let u := initOf (cells (pin (fun q => (cfgs q).toPCfg (Val := Val)) fun q => (cfgs q).toPCfg_adm) (kit.toP.cellOf_inj _)) (launchToks (pin (fun q => (cfgs q).toPCfg (Val := Val)) fun q => (cfgs q).toPCfg_adm) (kit.toP.cellOf_inj _))
  refine RDat.θ_run_region_pf_tail_quiescent (fun q => (cfgs q).toPCfg (Val := Val)) (fun q => (cfgs q).toPCfg_adm)
    (RDat.familyOf _ _ p rd) () (kit.toP.cellOf_inj _) p kit.toP.win (OwnSemFacts.none (cfgs p).spec) kit.toP.pre emb₁ defs₀ 𝒱₀ m g main
    (fun _ => chain (opss.map StableHlo.seq)) (fun c => by rw [self]; exact hbody c)
    kit.block_pos kit.arr_whole kit.stage_whole (fun c t => by rw [self]; exact howed c t)
    (fun _ => iprop(emp)) u ?_ (fun c b => V₀ c (Proc.devRef .tc b)) hmain ?_ (fun _ k => k.elim0)
    (fun c => iprop(∃ r, prngReg c r)) (fun c => iprop(∃ r, prngReg c r))
    (fun c => unscopedRestP (Ix := Unit) (Name := ℕ) (U := UR sig nD τ) (Lvl := ℕ) Prefetch.none (cfgs p).spec c fun b => V₀ c (Proc.devRef .tc b)) (rested cfgs p rd V₀ opss)
    ?_ ?_ ?_ ?_ (fun c s => ∃ A, fits cfgs p rd c A ∧ ∀ b ∈ restRefsP sig Prefetch.none (cfgs p).spec, s.mem ((c.tc : Thread nD τ).loc b) = ending cfgs p V₀ opss c A b) ?_ ?_
  · refine .trans ?_ fupd_intro
    iintro H
    isplitl [H]
    · iapply (show (ownU u : sProp 𝕄) ⊢ BI.own (emb₁ u) from .rfl)
      iexact H
    iapply (show (BI.emp : sProp 𝕄) ⊢ bigSep Finset.univ (fun _ : Dev nD => (BI.emp : sProp 𝕄)) from by rw [BI.bigSep_emp_const])
    iempintro
  · intro c
    rw [self]
    exact (rd c).arrays_split_shared kit.sharedIn kit.arr_whole (hq c) _ _ (hA c)
  · intro c
    refine .trans ?_ fupd_intro
    iintro ⟨HU, -, -, Hp, -⟩
    isplitl [Hp]; · iexists _; iexact Hp
    iexact HU
  · intro c
    rw [self, hΦ]
    unfold ΦA
    iintro ⟨Hp, -, Hr⟩
    isplitl [Hr]; · iexact Hr
    iexact Hp
  · intro c
    rw [self, hΦ, ownSems0_none]
    unfold ΦA
    iintro ⟨Hr, Hp⟩
    isplitl [Hp]; · iexact Hp
    isplitr; · iempintro
    iexact Hr
  · intro c K
    rw [self]
    iintro ⟨Hk, Hb, Ha, HZ⟩
    ihave Ha := (arrays_named cfgs p rd c) $$ Ha
    icases Ha with ⟨%A, %hfit, Ha⟩
    have hB := arrays_bufs cfgs p kit rd V₀ hq hA c A hfit
    iapply (tail_seqs_bufs_b (fun q => (cfgs q).toPCfg (Val := Val)) defs₀ 𝒱₀ Prefetch.none (cfgs p).spec c (V₀ c) A opss hsub hfresh hkeep K)
    isplitl [Hk]
    · iintro ⟨Hb, Ha, Hu⟩
      iapply Hk
      isplitl [Hb]; · iexact Hb
      isplitl [Ha]
      · iapply (arrays_closed cfgs p rd c A hfit)
        iapply (Entails.of_eq hB.symm)
        iexact Ha
      unfold rested
      iexists A
      isplitr
      · ipureintro; exact hfit
      iexact Hu
    isplitl [Hb]; · iexact Hb
    isplitl [Ha]
    · iapply (Entails.of_eq hB); iexact Ha
    iexact HZ
  · intro c s'
    refine .trans ?_ fupd_intro
    unfold rested unscopedRestP
    iintro ⟨-, HZ, HSI⟩
    icases HZ with ⟨%A, %hfit, HZ⟩
    ihave H := (pointsTo_read_all (restRefsP sig Prefetch.none (cfgs p).spec) (fun b => (c.tc : Thread nD τ).loc b) (ending cfgs p V₀ opss c A) s') $$ [HZ HSI]
    · isplitl [HZ] <;> iassumption
    icases H with ⟨%h, HSI⟩
    isplitr
    · ipureintro; exact ⟨A, hfit, h⟩
    iexact HSI
  · intro s h hz
    exact ⟨fun c => ⟨fun w => by simpa only [self] using (h c).1 w, (h c).2.2⟩, hz⟩

end Cert.Tail

end
-- ==== Proof.RecWordRun.lean ====
module

public import proofs.«01_k».proof.Proof.RecWordFrame
public import proofs.«01_k».proof.Proof.RecTail

/-!
The recurrence's forward program to its end: its arguments unchanged, and each direction's decay a layer of the array
the kernel leaves.
-/

@[expose] public section

set_option maxRecDepth 16384

noncomputable section

namespace Cert.RecFwd.Body

open Idealize.ShloMosaic Idealize.ShloMosaic.TcCoe Idealize.ShloMosaic.Tactic
open Idealize.SL Idealize.SL.RA Idealize.SL.BI
open Idealize.SL.Sem
open Cert.RecFwd.Gen Cert.Tail

variable {F : FTy → Type} [FloatOps F]
variable (m : (ℓ : Loc nD τ sig) → Buf (Elt F) ℓ) (ρ : Dev nD → PrngReg)

/-- The pipeline's data with the unnamed windows open. -/
abbrev opened (c : Dev nD) : Pipeline.RDat τ (Elt F) Unit ℕ (UR sig nD τ) ℕ cfg0 c := (dats m 0 c).toRForget loose

set_option backward.isDefEq.respectTransparency.types false in
theorem run_quiet : θ_run defs (onTc (τ := τ) (main (F := F))) (s₀ m ρ) (fun r => (∀ c : Dev nD,
      (∀ w, (opened m c).ArrAt w cfg0.N (r.2.mem ((spec0 w).arr.view.loc (c.tc : Thread nD τ))))
      ∧ ∃ A, fits cfgs 0 (opened m) c A ∧ ∀ b ∈ Pipeline.restRefsP sig Pipeline.Prefetch.none spec0, r.2.mem ((c.tc : Thread nD τ).loc b) = ending cfgs 0 (V0 m) [hostOps1] c A b)
      ∧ r.2.sem = fun _ => 0) :=
  run_named cfgs 0 launch₀0 (opened m) (V0 m) defs₀ Variants.none m ρ main (fun c => (obligation m c).loose.toRForget)
    (fun _ _ _ => rfl) (fun _ _ => rfl) [hostOps1] sfx_sub sfx_fresh sfx_keeps (hmain m Variants.none) (arr_entry m) (fun _ _ => rfl)

/-- What the host lines do not write stays as the kernel found it. -/
theorem ending_of (c : Dev nD) (A) (b : Ref sig .tc) (h22 : b ≠ main_v22) (h23 : b ≠ main_v23) (h24 : b ≠ main_v24) (h25 : b ≠ main_v25)
    (hw : ∀ w, Pipeline.arrRef spec0 w ≠ b) : ending cfgs 0 (V0 m) [hostOps1] c A b = V m c b := by
  unfold ending
  rw [StableHlo.after_of_forall_not_mem (b := Proc.devRef .tc b) _ _ (List.forall_iff_forall_mem.mp (by
      simp only [hostOps1, List.flatten_cons, List.flatten_nil, List.append_nil, List.Forall, StableHlo.unary_writes, StableHlo.reshape_writes, Finset.mem_singleton]
      exact ⟨StableHlo.devRef_ne_of_ne h22, StableHlo.devRef_ne_of_ne h23, StableHlo.devRef_ne_of_ne h24, StableHlo.devRef_ne_of_ne h25⟩)),
    Pipeline.withArrays_of_ne _ c (V0 m c) _ b hw]

theorem rest_of (b : Ref sig .tc) (hs : b.isScoped = false) (hw : ∀ w, Pipeline.arrRef spec0 w ≠ b) : b ∈ Pipeline.restRefsP sig Pipeline.Prefetch.none spec0 :=
  Finset.mem_sdiff.mpr ⟨Pipeline.mem_restRefs_of b hs hw, fun h => ((Finset.mem_image.mp h).elim fun k _ => k.elim0)⟩

/-- A window whose contents are named ends at what the named blocks make of it. -/
theorem named (c : Dev nD) (w : Fin 15) (hw : loose w = false) (x) (h : (opened m c).ArrAt w cfg0.N x) : x = (dats m 0 c).arrAt w cfg0.N :=
  (Pipeline.Dat.toRForget_arrAt_iff (dat := dats m 0 c) (fgt := loose) (w := w) hw _ _).mp h

/-- The arguments at the end. -/
theorem run_arr : θ_run defs (onTc (τ := τ) (main (F := F))) (s₀ m ρ) (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) := by
  refine (θ_run defs _ _).mono (fun r h c => ?_) (run_quiet m ρ)
  obtain ⟨hw, A, hA, hr⟩ := h.1 c
  have keep : ∀ b : Ref sig .tc, b.isScoped = false → (∀ w, Pipeline.arrRef spec0 w ≠ b) → b ≠ main_v22 → b ≠ main_v23 → b ≠ main_v24 → b ≠ main_v25 →
      r.2.mem ((c.tc : Thread nD τ).loc b) = V m c b := fun b hs hb h22 h23 h24 h25 =>
    (hr b (rest_of b hs hb)).trans (ending_of m c A b h22 h23 h24 h25 hb)
  have ins : ∀ w : Fin 15, loose w = false → (cfg0.win w).isOut = false → r.2.mem ((spec0 w).arr.view.loc (c.tc : Thread nD τ)) = V m c (Pipeline.arrRef spec0 w) := fun w hl hi =>
    (named m c w hl _ (hw w)).trans (((dats m 0 c).arrAt_in w hi _).trans (arr_entry m c w))
  exact ⟨(ins 1 rfl rfl).trans (V_main_arg0 m c),
    (ins 2 rfl rfl).trans (V_main_arg1 m c),
    (keep main_arg2 (by decide) (by decide) (by decide) (by decide) (by decide) (by decide)).trans (V_main_arg2 m c),
    (keep main_arg3 (by decide) (by decide) (by decide) (by decide) (by decide) (by decide)).trans (V_main_arg3 m c),
    (ins 5 rfl rfl).trans (V_main_arg4 m c),
    (keep main_arg5 (by decide) (by decide) (by decide) (by decide) (by decide) (by decide)).trans (V_main_arg5 m c),
    (ins 7 rfl rfl).trans (V_main_arg6 m c),
    (ins 8 rfl rfl).trans (V_main_arg7 m c)⟩

/-- The run ends, the arguments unchanged and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7))
      ∧ r.2.sem = fun _ => 0) :=
  θ_run_and ((θ_run defs _ _).mono (fun _ h c => h c) (run_arr m ρ)) ((θ_run defs _ _).mono (fun _ h => h.2) (run_quiet m ρ))

end Cert.RecFwd.Body

end
-- ==== Proof.RecPure.lean ====
module

public import proofs.«01_k».proof.Proof.Gen.RecFwdIdeal.Skeleton
public import proofs.«01_k».proof.Proof.Sigmoid
public import Idealize.ShloMosaic.Lib.Pointwise

/-!
The recurrent branch's decays, read at an index: the depthwise convolution over four rows, the gate's product with a
block-diagonal matrix of two blocks, and the exponential of the gated softplus.
-/

@[expose] public section

set_option maxRecDepth 16384

noncomputable section

namespace Cert.RecFwdIdeal.Pure

open Idealize.ShloMosaic Idealize.ShloMosaic.TcCoe Idealize.ShloMosaic.Tactic
open Cert.RecFwdIdeal Cert.RecFwdIdeal.Gen

/-- A stream's entry `k` rows earlier, zero before the first row. -/
def past (x : Fin 2048 → EReal) (k : ℕ) (s : Fin 2048) : EReal := if k ≤ s.val then x ⟨s.val - k, by have := s.isLt; omega⟩ else 0

/-- A stream's entry one row later, zero after the last row. -/
def next (x : Fin 2048 → EReal) (s : Fin 2048) : EReal := if h : s.val + 1 < 2048 then x ⟨s.val + 1, h⟩ else 0

/-- The centred convolution of four taps. -/
def conv (x : Fin 2048 → EReal) (w : Fin 4 → EReal) (b : EReal) (s : Fin 2048) : EReal :=
  b + past x 2 s * w 0 + past x 1 s * w 1 + x s * w 2 + next x s * w 3

/-- The softplus as the larger of the entry and zero, and a logarithm. -/
def softplus (y : EReal) : EReal := max y 0 + Ideal.log (1 + Ideal.exp (-(FloatOps.absf (F := Ideal) (φ := .f32) y)))

/-- A decay from its gate's argument and its parameter. -/
def decay (g lam : EReal) : EReal := Ideal.exp (Ideal.ofBits .f32 0xC1000000#32 * Ideal.div 1 (1 + Ideal.exp (-g)) * softplus (-lam))

theorem sge_two : ∀ s : Fin 2048, IntOp.cmpi .sge (BitVec.ofNat 32 s.val) 2#32 = if 2 ≤ s.val then 1#1 else 0#1 := by decide +kernel
theorem sge_one : ∀ s : Fin 2048, IntOp.cmpi .sge (BitVec.ofNat 32 s.val) 1#32 = if 1 ≤ s.val then 1#1 else 0#1 := by decide +kernel
theorem slt_last : ∀ s : Fin 2048, IntOp.cmpi .slt (BitVec.ofNat 32 s.val) 2047#32 = if s.val + 1 < 2048 then 1#1 else 0#1 := by decide +kernel

theorem turn_at (n : BitVec 32) (x : FVec Ideal S2048x128 .f32) (s : Fin 2048) (l : Fin 128) :
    dynamicRotate 0 n none x rotates_S2048x128_d0 (ix2 s l) = x (ix2 ⟨(s.val + 2048 - n.toNat % 2048) % 2048, Nat.mod_lt _ (by norm_num)⟩ l) := by
  unfold dynamicRotate
  refine congrArg x (funext fun b => ?_)
  match b with
  | 0 => exact Fin.ext (by simp)
  | 1 => rfl

theorem pay119_at (x : Vec Ideal S2048x128 .f32) (s : Fin 2048) (l : Fin 128) :
    k0_pay119 (F := Ideal) x (ix2 s l) = next (fun s => x (ix2 s l)) s := by
  pointwise [k0_pay119, turn_at]
  rw [slt_last]
  unfold next
  split
  · rename_i h
    exact congrArg (fun i => x (ix2 i l)) (Fin.ext (by show (s.val + 2048 - 2047) % 2048 = s.val + 1; omega))
  · rfl

theorem pay120_at (x : Vec Ideal S2048x128 .f32) (b w0 w1 : Vec Ideal S1x128 .f32) (s : Fin 2048) (l : Fin 128) :
    k0_pay120 (F := Ideal) x b w0 w1 (ix2 s l) = b (ix2 0 l) + past (fun s => x (ix2 s l)) 2 s * w0 (ix2 0 l) + past (fun s => x (ix2 s l)) 1 s * w1 (ix2 0 l) := by
  pointwise [k0_pay120, turn_at]
  rw [sge_two, sge_one]
  refine congrArg₂ _ (congrArg _ ?_) ?_
  · unfold past
    split
    · rename_i h
      exact congrArg (fun i => x (ix2 i l) * w0 (ix2 0 l)) (Fin.ext (by show (s.val + 2048 - 2) % 2048 = s.val - 2; omega))
    · exact (zero_mul _).symm
  · unfold past
    split
    · rename_i h
      exact congrArg (fun i => x (ix2 i l) * w1 (ix2 0 l)) (Fin.ext (by show (s.val + 2048 - 1) % 2048 = s.val - 1; omega))
    · exact (zero_mul _).symm

theorem pay121_at (x : Vec Ideal S2048x128 .f32) (n v : FVec Ideal S2048x128 .f32) (w2 w3 : Vec Ideal S1x128 .f32) (s : Fin 2048) (l : Fin 128) :
    k0_pay121 (F := Ideal) x n v w2 w3 (ix2 s l) = v (ix2 s l) + x (ix2 s l) * w2 (ix2 0 l) + n (ix2 s l) * w3 (ix2 0 l) := by
  pointwise [k0_pay121]

theorem pay138_at (d : FVec Ideal S64x128 .bf16) (v : IVec S128x128 1) (w : Vec Ideal S1x1x128x64 .f32) (k l : Fin 128) :
    k0_pay138 (F := Ideal) d v w (ix2 k l) = Scalar.select (v (ix2 k l)) (∑ e : Fin 64, w (ix4 0 0 k e) * d (ix2 e l)) 0 := by
  pointwise [k0_pay138]

theorem pay142_at (u : FVec Ideal S2048x128 .bf16) (W : FVec Ideal S128x128 .bf16) (b lam : Vec Ideal S1x128 .f32) (s : Fin 2048) (l : Fin 128) :
    k0_pay142 (F := Ideal) u W b lam (ix2 s l) = decay ((∑ k : Fin 128, u (ix2 s k) * W (ix2 k l)) + b (ix2 0 l)) (lam (ix2 0 l)) := by
  unfold decay
  rw [← Cert.Gate.sigmoid]
  pointwise [k0_pay142, k0_pay141]
  unfold softplus
  simp only [zero_sub, Cert.Gate.half]

/-- A sum over two blocks of 64 that is zero outside block `a`. -/
theorem block_sum (f : Fin 128 → EReal) (a : ℕ) (ha : a < 2) (h : ∀ k : Fin 128, k.val / 64 ≠ a → f k = 0) :
    ∑ k : Fin 128, f k = ∑ c : Fin 64, f ⟨64 * a + c.val, by have := c.isLt; omega⟩ := by
  rw [← Fintype.sum_equiv (finProdFinEquiv (m := 2) (n := 64)) (fun q => f (finProdFinEquiv q)) f fun _ => rfl, Fintype.sum_prod_type]
  rw [Finset.sum_eq_single (⟨a, ha⟩ : Fin 2)]
  · exact Finset.sum_congr rfl fun c _ => congrArg f (Fin.ext (by show c.val + 64 * a = 64 * a + c.val; omega))
  · intro b _ hb
    refine Finset.sum_eq_zero fun c _ => h _ ?_
    show (c.val + 64 * b.val) / 64 ≠ a
    have := c.isLt
    have hb' : b.val ≠ a := fun e => hb (Fin.ext e)
    omega
  · intro hh; exact absurd (Finset.mem_univ _) hh

/-- The block-diagonal product, from the duplicating table and the table of equal blocks. -/
theorem gate_sum (u : Fin 128 → EReal) (w : Fin 128 → Fin 64 → EReal) (d : Fin 64 → EReal) (v : Fin 128 → BitVec 1) (l : Fin 128)
    (hd : ∀ e : Fin 64, d e = if l.val % 64 = e.val then 1 else 0) (hv : ∀ k : Fin 128, v k = if k.val / 64 = l.val / 64 then 1#1 else 0#1) :
    ∑ k : Fin 128, u k * Scalar.select (v k) (∑ e : Fin 64, w k e * d e) 0
      = ∑ c : Fin 64, u ⟨64 * (l.val / 64) + c.val, by have := c.isLt; have := l.isLt; omega⟩ * w ⟨64 * (l.val / 64) + c.val, by have := c.isLt; have := l.isLt; omega⟩ ⟨l.val % 64, Nat.mod_lt _ (by norm_num)⟩ := by
  have hw : ∀ k, ∑ e : Fin 64, w k e * d e = w k ⟨l.val % 64, Nat.mod_lt _ (by norm_num)⟩ := fun k => by
    rw [Finset.sum_eq_single (⟨l.val % 64, Nat.mod_lt _ (by norm_num)⟩ : Fin 64)]
    · rw [hd, if_pos rfl, mul_one]
    · intro e _ he
      rw [hd, if_neg fun h => he (Fin.ext h.symm), mul_zero]
    · intro hh; exact absurd (Finset.mem_univ _) hh
  rw [block_sum _ (l.val / 64) (by have := l.isLt; omega) fun k hk => ?_]
  · refine Finset.sum_congr rfl fun c _ => ?_
    rw [hv, if_pos (by show (64 * (l.val / 64) + c.val) / 64 = l.val / 64; have := c.isLt; omega), hw]
    rfl
  · show u k * Scalar.select (v k) _ 0 = 0
    rw [hv, if_neg hk]
    exact mul_zero _

end Cert.RecFwdIdeal.Pure

end
-- ==== Proof.RecBits.lean ====
module

public import proofs.«01_k».proof.Proof.Gen.RecFwdIdeal.Frame
public import proofs.«01_k».proof.Proof.Gen.RecFwdIdeal.Loops
public import Idealize.ShloMosaic.Lib.Claim

/-!
The body of the recurrence's forward kernel run once over the exact program: its reads, its stores and its two scans.
-/

@[expose] public section

set_option maxRecDepth 16384

noncomputable section

namespace Cert.RecFwdIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation)
open Cert.RecFwdIdeal.Gen

variable {F : FTy → Type} [FloatOps F]

local notation "𝕄" => MT nD τ sig Unit (Elt F) ℕ (UR sig nD τ) ℕ
local notation "Held" a => BufTy.Contents (Elt F) (View.ty (Memref.view a))

section

variable {arg1 : Memref sig .tc .vmem S2048x128 .f32} (harg1 : arg1.IsWhole)
variable {arg2 : Memref sig .tc .vmem S2048x128 .f32} (harg2 : arg2.IsWhole)
variable {arg3 : Memref sig .tc .vmem S4x128 .f32} (harg3 : arg3.IsWhole)
variable {arg4 : Memref sig .tc .vmem S1x128 .f32} (harg4 : arg4.IsWhole)
variable {arg5 : Memref sig .tc .vmem S2x1x128x64 .f32} (harg5 : arg5.IsWhole)
variable {arg6 : Memref sig .tc .vmem S2x128 .f32} (harg6 : arg6.IsWhole)
variable {arg7 : Memref sig .tc .vmem S2x1x128x64 .f32} (harg7 : arg7.IsWhole)
variable {arg8 : Memref sig .tc .vmem S2x128 .f32} (harg8 : arg8.IsWhole)
variable {arg9 : Memref sig .tc .vmem S2x128 .f32} (harg9 : arg9.IsWhole)
variable {arg10 : Memref sig .tc .vmem S64x128 .bf16} (harg10 : arg10.IsWhole)
variable {arg11 : Memref sig .tc .vmem S128x128 .f32} (harg11 : arg11.IsWhole)
variable {arg12 : Memref sig .tc .vmem S2048x128 .f32} (harg12 : arg12.IsWhole)
variable {arg13 : Memref sig .tc .vmem S2048x128 .f32} (harg13 : arg13.IsWhole)
variable {arg14 : Memref sig .tc .vmem S2048x128 .bf16} (harg14 : arg14.IsWhole)
variable {arg15 : Memref sig .tc .vmem S4x2048x128 .f32} (harg15 : arg15.IsWhole)
variable {arg16 : Memref sig .tc .vmem S2048x128 .f32} (harg16 : arg16.IsWhole)
variable {arg17 : Memref sig .tc .vmem S2048x128 .f32} (harg17 : arg17.IsWhole)

abbrev layer0 (a : Memref sig .tc .vmem S4x2048x128 .f32) : Memref sig .tc .vmem S2048x128 .f32 :=
  (a.slice (Rect.unit (s := S4x2048x128) ![0, 0, 0] S1x2048x128.size inb_S4x2048x128_S1x2048x128_0_0_0) (fun _ => rfl)).squeeze S2048x128 squeezes_S1x2048x128_S2048x128
abbrev layer2 (a : Memref sig .tc .vmem S4x2048x128 .f32) : Memref sig .tc .vmem S2048x128 .f32 :=
  (a.slice (Rect.unit (s := S4x2048x128) ![2, 0, 0] S1x2048x128.size inb_S4x2048x128_S1x2048x128_2_0_0) (fun _ => rfl)).squeeze S2048x128 squeezes_S1x2048x128_S2048x128

theorem set0 (a : Memref sig .tc .vmem S4x2048x128 .f32) : (layer0 a).view.set = (a.view.slice (Rect.unit (s := S4x2048x128) ![0, 0, 0] S1x2048x128.size inb_S4x2048x128_S1x2048x128_0_0_0)).set :=
  View.set_reshape _ _
theorem set2 (a : Memref sig .tc .vmem S4x2048x128 .f32) : (layer2 a).view.set = (a.view.slice (Rect.unit (s := S4x2048x128) ![2, 0, 0] S1x2048x128.size inb_S4x2048x128_S1x2048x128_2_0_0)).set :=
  View.set_reshape _ _

theorem sub2 (a : Memref sig .tc .vmem S4x2048x128 .f32) : (layer2 a).view.set ⊆ a.view.set \ (layer0 a).view.set := by
  rw [set0, set2]
  refine Finset.subset_sdiff.mpr ⟨a.view.set_slice_subset _, ?_⟩
  rw [View.set_slice, View.set_slice]
  exact (Finset.disjoint_map _).mpr (Rect.unit_disjoint 0 (Or.inr (by decide)))

/-- The array's two layers of decays apart from the rest of it. -/
theorem lend (c : Dev nD) (a : Memref sig .tc .vmem S4x2048x128 .f32) (f : BufTy.Contents (Elt F) a.view.ty) :
    (a.view.loc (c : Thread nD τ) ↦[a.view.set]{fullShare} f : sProp 𝕄)
      ⊣⊢ iprop(((layer0 a).view.loc (c : Thread nD τ) ↦[(layer0 a).view.set]{fullShare} f) ∗ ((layer2 a).view.loc (c : Thread nD τ) ↦[(layer2 a).view.set]{fullShare} f)
          ∗ (a.view.loc (c : Thread nD τ) ↦[(a.view.set \ (layer0 a).view.set) \ (layer2 a).view.set]{fullShare} f)) := by
  have h0 : (layer0 a).view.set ⊆ a.view.set := by rw [set0]; exact a.view.set_slice_subset _
  exact (pointsTo_split_subset h0).trans (sep_congr .rfl (pointsTo_split_subset (sub2 a)))

set_option warn.classDefReducibility false in
/-- The scans' loop, its decays read from the array's two layers. -/
@[sl_loop] def scans (c : Dev nD) (E : Set ℕ) (i : grid0.Coords) (v43 v167 v184 v186 v188 : FVec F S2048x128 .f32) (e : F .f32) (v217 : IVec S8x128 32)
    (X16 : BufTy.Contents (Elt F) arg16.view.ty) (X17 : BufTy.Contents (Elt F) arg17.view.ty) (X0 : BufTy.Contents (Elt F) (layer0 arg15).view.ty) (X2 : BufTy.Contents (Elt F) (layer2 arg15).view.ty)
    (G12 : BufTy.Contents (Elt F) arg12.view.ty) (G13 : BufTy.Contents (Elt F) arg13.view.ty) (init : FVec F S8x128 .f32 × FVec F S8x128 .f32) :=
  loopInv_k0_t1 Variants.none c none E i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v43 v167 v184 v186 v188 e v217 (layer0 arg15) rfl (layer2 arg15) rfl X16 X17 X0 X2 G12 G13 init

set_option maxHeartbeats 3200000 in
/-- The body on whole memrefs: it leaves the inputs as they were, the decays' array, which held anything `g`, at the
    contents found here, and the other outputs and the scratch at some contents. -/
def run (c : Dev nD) (i : grid0.Coords) (x0 : Vec F S2048x128 .f32) (x1 : Vec F S2048x128 .f32) (x2 : Vec F S4x128 .f32) (x3 : Vec F S1x128 .f32) (x4 : Vec F S2x1x128x64 .f32) (x5 : Vec F S2x128 .f32) (x6 : Vec F S2x1x128x64 .f32) (x7 : Vec F S2x128 .f32) (x8 : Vec F S2x128 .f32) (x9 : Vec F S64x128 .bf16) (x10 : Vec F S128x128 .f32) (g : Held arg15) :
    { G : Held arg15 // ∀ (E : Set ℕ) (K : PUnit → sProp 𝕄),
      iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ (∃ d, owns (c : Thread nD τ) arg12 fullShare d) ∗ (∃ d, owns (c : Thread nD τ) arg13 fullShare d) ∗ (∃ d, owns (c : Thread nD τ) arg14 fullShare d) ∗ (∃ d, owns (c : Thread nD τ) arg16 fullShare d) ∗ (∃ d, owns (c : Thread nD τ) arg17 fullShare d) ∗ (arg15.view.loc (c : Thread nD τ) ↦[arg15.view.set]{fullShare} g)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ (∃ d, owns (c : Thread nD τ) arg12 fullShare d) ∗ (∃ d, owns (c : Thread nD τ) arg13 fullShare d) ∗ (∃ d, owns (c : Thread nD τ) arg14 fullShare d) ∗ (∃ d, owns (c : Thread nD τ) arg16 fullShare d) ∗ (∃ d, owns (c : Thread nD τ) arg17 fullShare d) ∗ (arg15.view.loc (c : Thread nD τ) ↦[arg15.view.set]{fullShare} G)) -∗ K ⟨⟩))
      ⊢ wp frame (wpE (defs₀ (F := F)) Variants.none c none) E (cc0_rec_fwd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17) K } := by
  refine ⟨?_, fun E K => ?_⟩
  case refine_2 =>
    simp only [cc0_rec_fwd_eq_skeleton]; unfold cc0_rec_fwd_skel
    simp only [k0_part21_eq_skeleton, k0_part22_eq_skeleton, k0_part23_eq_skeleton, k0_part24_eq_skeleton, k0_part25_eq_skeleton, k0_part26_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%d11, %f11, -, H11⟩, ⟨%d12, %f12, -, H12⟩, ⟨%d13, %f13, -, H13⟩, ⟨%d15, %f15, -, H15⟩, ⟨%d16, %f16, -, H16⟩, H14, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9; obtain rfl := harg11.eq_unread hf10
    sl_exec
    ihave H14 := (lend c arg15 _).1 $$ H14
    icases H14 with ⟨HA, HB, HR⟩
    sl_exec
    ihave H14 := (lend c arg15 _).2 $$ [HA HB HR]
    · isplitl [HA]; · iexact HA
      isplitl [HB]; · iexact HB
      iexact HR
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]
    · iexists _; isplitr; · ipureintro; exact harg10.read_unread _
      iexact H9
    isplitl [H10]
    · iexists _; isplitr; · ipureintro; exact harg11.read_unread _
      iexact H10
    isplitl [H11]
    · iexists _, _; isplitr; swap; · iexact H11
      ipureintro; rfl
    isplitl [H12]
    · iexists _, _; isplitr; swap; · iexact H12
      ipureintro; rfl
    isplitl [H13]
    · iexists _, _; isplitr; swap; · iexact H13
      ipureintro; rfl
    isplitl [H15]
    · iexists _, _; isplitr; swap; · iexact H15
      ipureintro; rfl
    isplitl [H16]
    · iexists _, _; isplitr; swap; · iexact H16
      ipureintro; rfl
    iexact H14

end

end Cert.RecFwdIdeal.Body

end
-- ==== Proof.RecFrame.lean ====
module

public import proofs.«01_k».proof.Proof.RecBits
public import Idealize.ShloMosaic.Lib.Pipeline.ValueKit
public import Idealize.ShloMosaic.Lib.WritesUnit
public import Idealize.ShloMosaic.Lib.Claim

/-!
The recurrence's forward kernel run over its grid: each block of columns leaves its decays and multipliers at the four
layers the body stores; the two states and the output are left at something not named here.
-/

@[expose] public section

set_option maxRecDepth 16384

noncomputable section

namespace Cert.RecFwdIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation)
open Cert.RecFwdIdeal.Gen

variable {F : FTy → Type} [FloatOps F]

local notation "𝕄" => MT nD τ sig Unit (Elt F) ℕ (UR sig nD τ) ℕ
local notation "Held" a => BufTy.Contents (Elt F) (View.ty (Memref.view a))

variable (m : (ℓ : Loc nD τ sig) → Buf (Elt F) ℓ) (ρ : Dev nD → PrngReg)

/-- The states and the output are the ones whose contents are left open. -/
def loose : Fin 15 → Bool := fun w => w.val == 11 || w.val == 12 || w.val == 13

abbrev mem0 (t : Fin cfg0.N) : Memref sig .tc .vmem S2048x128 .f32 := win0_0.stage (cfg0.slots t 0)
abbrev whole0 (t : Fin cfg0.N) : (mem0 t).IsWhole := hstage0_0 ((cfg0.slots t 0).cast nbuf0_0)
abbrev mem1 (t : Fin cfg0.N) : Memref sig .tc .vmem S2048x128 .f32 := win0_1.stage (cfg0.slots t 1)
abbrev whole1 (t : Fin cfg0.N) : (mem1 t).IsWhole := hstage0_1 ((cfg0.slots t 1).cast nbuf0_1)
abbrev mem2 (t : Fin cfg0.N) : Memref sig .tc .vmem S4x128 .f32 := win0_2.stage (cfg0.slots t 2)
abbrev whole2 (t : Fin cfg0.N) : (mem2 t).IsWhole := hstage0_2 ((cfg0.slots t 2).cast nbuf0_2)
abbrev mem3 (t : Fin cfg0.N) : Memref sig .tc .vmem S1x128 .f32 := win0_3.stage (cfg0.slots t 3)
abbrev whole3 (t : Fin cfg0.N) : (mem3 t).IsWhole := hstage0_3 ((cfg0.slots t 3).cast nbuf0_3)
abbrev mem4 (t : Fin cfg0.N) : Memref sig .tc .vmem S2x1x128x64 .f32 := win0_4.stage (cfg0.slots t 4)
abbrev whole4 (t : Fin cfg0.N) : (mem4 t).IsWhole := hstage0_4 ((cfg0.slots t 4).cast nbuf0_4)
abbrev mem5 (t : Fin cfg0.N) : Memref sig .tc .vmem S2x128 .f32 := win0_5.stage (cfg0.slots t 5)
abbrev whole5 (t : Fin cfg0.N) : (mem5 t).IsWhole := hstage0_5 ((cfg0.slots t 5).cast nbuf0_5)
abbrev mem6 (t : Fin cfg0.N) : Memref sig .tc .vmem S2x1x128x64 .f32 := win0_6.stage (cfg0.slots t 6)
abbrev whole6 (t : Fin cfg0.N) : (mem6 t).IsWhole := hstage0_6 ((cfg0.slots t 6).cast nbuf0_6)
abbrev mem7 (t : Fin cfg0.N) : Memref sig .tc .vmem S2x128 .f32 := win0_7.stage (cfg0.slots t 7)
abbrev whole7 (t : Fin cfg0.N) : (mem7 t).IsWhole := hstage0_7 ((cfg0.slots t 7).cast nbuf0_7)
abbrev mem8 (t : Fin cfg0.N) : Memref sig .tc .vmem S2x128 .f32 := win0_8.stage (cfg0.slots t 8)
abbrev whole8 (t : Fin cfg0.N) : (mem8 t).IsWhole := hstage0_8 ((cfg0.slots t 8).cast nbuf0_8)
abbrev mem9 (t : Fin cfg0.N) : Memref sig .tc .vmem S64x128 .bf16 := win0_9.stage (cfg0.slots t 9)
abbrev whole9 (t : Fin cfg0.N) : (mem9 t).IsWhole := hstage0_9 ((cfg0.slots t 9).cast nbuf0_9)
abbrev mem10 (t : Fin cfg0.N) : Memref sig .tc .vmem S128x128 .f32 := win0_10.stage (cfg0.slots t 10)
abbrev whole10 (t : Fin cfg0.N) : (mem10 t).IsWhole := hstage0_10 ((cfg0.slots t 10).cast nbuf0_10)
abbrev mem11 (t : Fin cfg0.N) : Memref sig .tc .vmem S2048x128 .f32 := win0_11.stage (cfg0.slots t 11)
abbrev whole11 (t : Fin cfg0.N) : (mem11 t).IsWhole := hstage0_11 ((cfg0.slots t 11).cast nbuf0_11)
abbrev mem12 (t : Fin cfg0.N) : Memref sig .tc .vmem S2048x128 .f32 := win0_12.stage (cfg0.slots t 12)
abbrev whole12 (t : Fin cfg0.N) : (mem12 t).IsWhole := hstage0_12 ((cfg0.slots t 12).cast nbuf0_12)
abbrev mem13 (t : Fin cfg0.N) : Memref sig .tc .vmem S2048x128 .bf16 := win0_13.stage (cfg0.slots t 13)
abbrev whole13 (t : Fin cfg0.N) : (mem13 t).IsWhole := hstage0_13 ((cfg0.slots t 13).cast nbuf0_13)
abbrev mem14 (t : Fin cfg0.N) : Memref sig .tc .vmem S4x2048x128 .f32 := win0_14.stage (cfg0.slots t 14)
abbrev whole14 (t : Fin cfg0.N) : (mem14 t).IsWhole := hstage0_14 ((cfg0.slots t 14).cast nbuf0_14)

/-- Four layers put one on the other. -/
def pile (l0 l1 l2 l3 : Vec F S1x2048x128 .f32) : Vec F S4x2048x128 .f32 := fun y =>
  (![l0, l1, l2, l3] : Fin 4 → Vec F S1x2048x128 .f32) (y 0) (ix3 0 (y 1) (y 2))

/-- Four stores, a layer each, leave the four layers, whatever was there before. -/
theorem read_pile {b : Memref sig .tc .vmem S4x2048x128 .f32} (f : Held b) (l0 l1 l2 l3 : Vec F S1x2048x128 .f32) (h0 h1 h2 h3) :
    View.read (Elt F) b.view (b.view.writes (Elt F) f [⟨Rect.unit ![3, 0, 0] S1x2048x128.size h3, l3⟩, ⟨Rect.unit ![2, 0, 0] S1x2048x128.size h2, l2⟩,
      ⟨Rect.unit ![1, 0, 0] S1x2048x128.size h1, l1⟩, ⟨Rect.unit ![0, 0, 0] S1x2048x128.size h0, l0⟩]) = pile l0 l1 l2 l3 := by
  funext y
  rw [eq_ix3 y]
  show _ = (![l0, l1, l2, l3] : Fin 4 → Vec F S1x2048x128 .f32) (y 0) (ix3 0 (y 1) (y 2))
  generalize y 0 = q
  generalize y 1 = r
  generalize y 2 = l
  change Fin 4 at q; change Fin 2048 at r; change Fin 128 at l
  match q with
  | 3 =>
    exact View.read_writes_cons_unit_of_mem _ _ h3 _ _ (ix3 3 r l) (ix3 0 r l) rfl (fun a => by fin_cases a <;> first | rfl | simp [ix3])
  | 2 =>
    refine (View.read_writes_cons_unit_of_not_mem _ _ h3 _ _ (ix3 2 r l) rfl 0 (by simp [ix3])).trans ?_
    exact View.read_writes_cons_unit_of_mem _ _ h2 _ _ (ix3 2 r l) (ix3 0 r l) rfl (fun a => by fin_cases a <;> first | rfl | simp [ix3])
  | 1 =>
    refine (View.read_writes_cons_unit_of_not_mem _ _ h3 _ _ (ix3 1 r l) rfl 0 (by simp [ix3])).trans ?_
    refine (View.read_writes_cons_unit_of_not_mem _ _ h2 _ _ (ix3 1 r l) rfl 0 (by simp [ix3])).trans ?_
    exact View.read_writes_cons_unit_of_mem _ _ h1 _ _ (ix3 1 r l) (ix3 0 r l) rfl (fun a => by fin_cases a <;> first | rfl | simp [ix3])
  | 0 =>
    refine (View.read_writes_cons_unit_of_not_mem _ _ h3 _ _ (ix3 0 r l) rfl 0 (by simp [ix3])).trans ?_
    refine (View.read_writes_cons_unit_of_not_mem _ _ h2 _ _ (ix3 0 r l) rfl 0 (by simp [ix3])).trans ?_
    refine (View.read_writes_cons_unit_of_not_mem _ _ h1 _ _ (ix3 0 r l) rfl 0 (by simp [ix3])).trans ?_
    exact View.read_writes_cons_unit_of_mem _ _ h0 _ _ (ix3 0 r l) (ix3 0 r l) rfl (fun a => by fin_cases a <;> first | rfl | simp [ix3])

section

variable {arg1 : Memref sig .tc .vmem S2048x128 .f32} (harg1 : arg1.IsWhole)
variable {arg2 : Memref sig .tc .vmem S2048x128 .f32} (harg2 : arg2.IsWhole)
variable {arg3 : Memref sig .tc .vmem S4x128 .f32} (harg3 : arg3.IsWhole)
variable {arg4 : Memref sig .tc .vmem S1x128 .f32} (harg4 : arg4.IsWhole)
variable {arg5 : Memref sig .tc .vmem S2x1x128x64 .f32} (harg5 : arg5.IsWhole)
variable {arg6 : Memref sig .tc .vmem S2x128 .f32} (harg6 : arg6.IsWhole)
variable {arg7 : Memref sig .tc .vmem S2x1x128x64 .f32} (harg7 : arg7.IsWhole)
variable {arg8 : Memref sig .tc .vmem S2x128 .f32} (harg8 : arg8.IsWhole)
variable {arg9 : Memref sig .tc .vmem S2x128 .f32} (harg9 : arg9.IsWhole)
variable {arg10 : Memref sig .tc .vmem S64x128 .bf16} (harg10 : arg10.IsWhole)
variable {arg11 : Memref sig .tc .vmem S128x128 .f32} (harg11 : arg11.IsWhole)
variable {arg12 : Memref sig .tc .vmem S2048x128 .f32} (harg12 : arg12.IsWhole)
variable {arg13 : Memref sig .tc .vmem S2048x128 .f32} (harg13 : arg13.IsWhole)
variable {arg14 : Memref sig .tc .vmem S2048x128 .bf16} (harg14 : arg14.IsWhole)
variable {arg15 : Memref sig .tc .vmem S4x2048x128 .f32} (harg15 : arg15.IsWhole)
variable {arg16 : Memref sig .tc .vmem S2048x128 .f32} (harg16 : arg16.IsWhole)
variable {arg17 : Memref sig .tc .vmem S2048x128 .f32} (harg17 : arg17.IsWhole)

/-- The four layers the body stores, from the blocks it reads. -/
def made (c : Dev nD) (x0 : Vec F S2048x128 .f32) (x2 : Vec F S4x128 .f32) (x3 : Vec F S1x128 .f32) (x4 : Vec F S2x1x128x64 .f32) (x5 : Vec F S2x128 .f32) (x8 : Vec F S2x128 .f32) (x9 : Vec F S64x128 .bf16) (x10 : Vec F S128x128 .f32) : Vec F S4x2048x128 .f32 :=
  pile (k0_pay135 (run.sl.r_12 harg1 harg3 harg4 harg5 harg6 harg9 harg10 harg11 c x0 x2 x3 x4 x5 x8 x9 x10))
    (k0_pay136 (run.sl.r_13 harg1 harg3 harg4 harg5 harg6 harg9 harg10 harg11 c x0 x2 x3 x4 x5 x8 x9 x10) (run.sl.r_14 harg1 harg3 harg4 harg5 harg6 harg9 harg10 harg11 c x0 x2 x3 x4 x5 x8 x9 x10) (run.sl.r_15 harg1 harg3 harg4 harg5 harg6 harg9 harg10 harg11 c x0 x2 x3 x4 x5 x8 x9 x10) k0_pay133)
    (k0_pay146 (run.sl.r_21 harg1 harg3 harg4 harg5 harg6 harg9 harg10 harg11 c x0 x2 x3 x4 x5 x8 x9 x10))
    (k0_pay147 (run.sl.r_21 harg1 harg3 harg4 harg5 harg6 harg9 harg10 harg11 c x0 x2 x3 x4 x5 x8 x9 x10) (run.sl.r_22 harg1 harg3 harg4 harg5 harg6 harg9 harg10 harg11 c x0 x2 x3 x4 x5 x8 x9 x10) (run.sl.r_23 harg1 harg3 harg4 harg5 harg6 harg9 harg10 harg11 c x0 x2 x3 x4 x5 x8 x9 x10) run.sl.cst_98)

theorem run_val (c : Dev nD) (i : grid0.Coords) (x0 : Vec F S2048x128 .f32) (x1 : Vec F S2048x128 .f32) (x2 : Vec F S4x128 .f32) (x3 : Vec F S1x128 .f32) (x4 : Vec F S2x1x128x64 .f32) (x5 : Vec F S2x128 .f32) (x6 : Vec F S2x1x128x64 .f32) (x7 : Vec F S2x128 .f32) (x8 : Vec F S2x128 .f32) (x9 : Vec F S64x128 .bf16) (x10 : Vec F S128x128 .f32) (g : Held arg15) :
    (run harg1 harg2 harg3 harg4 harg5 harg6 harg7 harg8 harg9 harg10 harg11 harg12 harg13 harg14 harg15 harg16 harg17 c i x0 x1 x2 x3 x4 x5 x6 x7 x8 x9 x10 g).1 = arg15.view.writes (Elt F) arg15.view.junk (run.sl.H14_4 harg1 harg3 harg4 harg5 harg6 harg9 harg10 harg11 c x0 x2 x3 x4 x5 x8 x9 x10) := by
  unfold run
  dsimp only

theorem read_run (c : Dev nD) (i : grid0.Coords) (x0 : Vec F S2048x128 .f32) (x1 : Vec F S2048x128 .f32) (x2 : Vec F S4x128 .f32) (x3 : Vec F S1x128 .f32) (x4 : Vec F S2x1x128x64 .f32) (x5 : Vec F S2x128 .f32) (x6 : Vec F S2x1x128x64 .f32) (x7 : Vec F S2x128 .f32) (x8 : Vec F S2x128 .f32) (x9 : Vec F S64x128 .bf16) (x10 : Vec F S128x128 .f32) (g : Held arg15) :
    View.read (Elt F) arg15.view (run harg1 harg2 harg3 harg4 harg5 harg6 harg7 harg8 harg9 harg10 harg11 harg12 harg13 harg14 harg15 harg16 harg17 c i x0 x1 x2 x3 x4 x5 x6 x7 x8 x9 x10 g).1 = made harg1 harg3 harg4 harg5 harg6 harg9 harg10 harg11 c x0 x2 x3 x4 x5 x8 x9 x10 := by
  rw [run_val]
  exact read_pile _ _ _ _ _ _ _ _ _

end

/-- What a block of the decays and multipliers is left holding. -/
def left (c : Dev nD) (t : Fin cfg0.N) : Vec F S4x2048x128 .f32 :=
  made (whole0 t) (whole2 t) (whole3 t) (whole4 t) (whole5 t) (whole8 t) (whole9 t) (whole10 t) c (iblk m c 0 t) (iblk m c 2 t) (iblk m c 3 t) (iblk m c 4 t) (iblk m c 5 t) (iblk m c 8 t) (iblk m c 9 t) (iblk m c 10 t)

theorem read_stored (c : Dev nD) (t : Fin cfg0.N) (g : Held (mem14 t)) :
    (mem14 t).view.read (Elt F) (run (whole0 t) (whole1 t) (whole2 t) (whole3 t) (whole4 t) (whole5 t) (whole6 t) (whole7 t) (whole8 t) (whole9 t) (whole10 t) (whole11 t) (whole12 t) (whole13 t) (whole14 t) (Memref.isWhole_whole cc0_scratch0) (Memref.isWhole_whole cc0_scratch1) c (grid0.coords t) (iblk m c 0 t) (iblk m c 1 t) (iblk m c 2 t) (iblk m c 3 t) (iblk m c 4 t) (iblk m c 5 t) (iblk m c 6 t) (iblk m c 7 t) (iblk m c 8 t) (iblk m c 9 t) (iblk m c 10 t) g).1 = left m c t :=
  read_run (whole0 t) (whole1 t) (whole2 t) (whole3 t) (whole4 t) (whole5 t) (whole6 t) (whole7 t) (whole8 t) (whole9 t) (whole10 t) (whole11 t) (whole12 t) (whole13 t) (whole14 t) (Memref.isWhole_whole cc0_scratch0) (Memref.isWhole_whole cc0_scratch1) c (grid0.coords t) (iblk m c 0 t) (iblk m c 1 t) (iblk m c 2 t) (iblk m c 3 t) (iblk m c 4 t) (iblk m c 5 t) (iblk m c 6 t) (iblk m c 7 t) (iblk m c 8 t) (iblk m c 9 t) (iblk m c 10 t) g

/-- The pipeline's data: inputs at their blocks, the decays and multipliers at `left`, the rest unnamed. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, h⟩ => Pipeline.Dat.unnamed (cfg := cfg0) ⟨11, h⟩ t
    | ⟨12, h⟩ => Pipeline.Dat.unnamed (cfg := cfg0) ⟨12, h⟩ t
    | ⟨13, h⟩ => Pipeline.Dat.unnamed (cfg := cfg0) ⟨13, h⟩ t
    | ⟨14, _⟩ => left m c t
  Φ _ := Pipeline.ΦA spec0 c
  q w := Pipeline.shareOf spec0 w
  owed _ := 0

theorem arr_entry (c : Dev nD) (w : Fin cfg0.W) : (dats m 0 c).A w = V m c (Pipeline.arrRef spec0 w) := by
  dsimp only [dats]

theorem aft0 (c : Dev nD) (t : Fin cfg0.N) : (dats m 0 c).after 0 t = iblk m c 0 t := by dsimp only [dats]
theorem aft1 (c : Dev nD) (t : Fin cfg0.N) : (dats m 0 c).after 1 t = iblk m c 1 t := by dsimp only [dats]
theorem aft2 (c : Dev nD) (t : Fin cfg0.N) : (dats m 0 c).after 2 t = iblk m c 2 t := by dsimp only [dats]
theorem aft3 (c : Dev nD) (t : Fin cfg0.N) : (dats m 0 c).after 3 t = iblk m c 3 t := by dsimp only [dats]
theorem aft4 (c : Dev nD) (t : Fin cfg0.N) : (dats m 0 c).after 4 t = iblk m c 4 t := by dsimp only [dats]
theorem aft5 (c : Dev nD) (t : Fin cfg0.N) : (dats m 0 c).after 5 t = iblk m c 5 t := by dsimp only [dats]
theorem aft6 (c : Dev nD) (t : Fin cfg0.N) : (dats m 0 c).after 6 t = iblk m c 6 t := by dsimp only [dats]
theorem aft7 (c : Dev nD) (t : Fin cfg0.N) : (dats m 0 c).after 7 t = iblk m c 7 t := by dsimp only [dats]
theorem aft8 (c : Dev nD) (t : Fin cfg0.N) : (dats m 0 c).after 8 t = iblk m c 8 t := by dsimp only [dats]
theorem aft9 (c : Dev nD) (t : Fin cfg0.N) : (dats m 0 c).after 9 t = iblk m c 9 t := by dsimp only [dats]
theorem aft10 (c : Dev nD) (t : Fin cfg0.N) : (dats m 0 c).after 10 t = iblk m c 10 t := by dsimp only [dats]
theorem aft14 (c : Dev nD) (t : Fin cfg0.N) : (dats m 0 c).after 14 t = left m c t := by dsimp only [dats]
theorem bef0 (c : Dev nD) (t : Fin cfg0.N) (d) : (dats m 0 c).before 0 t d = iblk m c 0 t :=
  before0_0_of m (dats m 0 c) (arr_entry m c 0) (aft0 m c) t d
theorem bef1 (c : Dev nD) (t : Fin cfg0.N) (d) : (dats m 0 c).before 1 t d = iblk m c 1 t :=
  before0_1_of m (dats m 0 c) (arr_entry m c 1) (aft1 m c) t d
theorem bef2 (c : Dev nD) (t : Fin cfg0.N) (d) : (dats m 0 c).before 2 t d = iblk m c 2 t :=
  before0_2_of m (dats m 0 c) (arr_entry m c 2) (aft2 m c) t d
theorem bef3 (c : Dev nD) (t : Fin cfg0.N) (d) : (dats m 0 c).before 3 t d = iblk m c 3 t :=
  before0_3_of m (dats m 0 c) (arr_entry m c 3) (aft3 m c) t d
theorem bef4 (c : Dev nD) (t : Fin cfg0.N) (d) : (dats m 0 c).before 4 t d = iblk m c 4 t :=
  before0_4_of m (dats m 0 c) (arr_entry m c 4) (aft4 m c) t d
theorem bef5 (c : Dev nD) (t : Fin cfg0.N) (d) : (dats m 0 c).before 5 t d = iblk m c 5 t :=
  before0_5_of m (dats m 0 c) (arr_entry m c 5) (aft5 m c) t d
theorem bef6 (c : Dev nD) (t : Fin cfg0.N) (d) : (dats m 0 c).before 6 t d = iblk m c 6 t :=
  before0_6_of m (dats m 0 c) (arr_entry m c 6) (aft6 m c) t d
theorem bef7 (c : Dev nD) (t : Fin cfg0.N) (d) : (dats m 0 c).before 7 t d = iblk m c 7 t :=
  before0_7_of m (dats m 0 c) (arr_entry m c 7) (aft7 m c) t d
theorem bef8 (c : Dev nD) (t : Fin cfg0.N) (d) : (dats m 0 c).before 8 t d = iblk m c 8 t :=
  before0_8_of m (dats m 0 c) (arr_entry m c 8) (aft8 m c) t d
theorem bef9 (c : Dev nD) (t : Fin cfg0.N) (d) : (dats m 0 c).before 9 t d = iblk m c 9 t :=
  before0_9_of m (dats m 0 c) (arr_entry m c 9) (aft9 m c) t d
theorem bef10 (c : Dev nD) (t : Fin cfg0.N) (d) : (dats m 0 c).before 10 t d = iblk m c 10 t :=
  before0_10_of m (dats m 0 c) (arr_entry m c 10) (aft10 m c) t d

/-- What stays with a core between points: its scratch at some contents, and the generator. -/
theorem kept_eq (c : Dev nD) : (Pipeline.ΦA spec0 c : sProp 𝕄)
    = iprop(iprop((∃ d, owns (c : Thread nD τ) (Memref.whole cc0_scratch0) fullShare d) ∗ (∃ d, owns (c : Thread nD τ) (Memref.whole cc0_scratch1) fullShare d)) ∗ (∃ r, prngReg c r)) := by
  unfold Pipeline.ΦA; rw [scopedRest0_eq]; simp only [owns_whole]; try rfl

def given (c : Dev nD) (t : Fin cfg0.N) : sProp 𝕄 :=
  iprop((dats m 0 c).Φ t.castSucc ∗ (dats m 0 c).owesAt () t.castSucc
    ∗ (∃ d, owns (c : Thread nD τ) (mem0 t) fullShare ((dats m 0 c).before 0 t d))
    ∗ (∃ d, owns (c : Thread nD τ) (mem1 t) fullShare ((dats m 0 c).before 1 t d))
    ∗ (∃ d, owns (c : Thread nD τ) (mem2 t) fullShare ((dats m 0 c).before 2 t d))
    ∗ (∃ d, owns (c : Thread nD τ) (mem3 t) fullShare ((dats m 0 c).before 3 t d))
    ∗ (∃ d, owns (c : Thread nD τ) (mem4 t) fullShare ((dats m 0 c).before 4 t d))
    ∗ (∃ d, owns (c : Thread nD τ) (mem5 t) fullShare ((dats m 0 c).before 5 t d))
    ∗ (∃ d, owns (c : Thread nD τ) (mem6 t) fullShare ((dats m 0 c).before 6 t d))
    ∗ (∃ d, owns (c : Thread nD τ) (mem7 t) fullShare ((dats m 0 c).before 7 t d))
    ∗ (∃ d, owns (c : Thread nD τ) (mem8 t) fullShare ((dats m 0 c).before 8 t d))
    ∗ (∃ d, owns (c : Thread nD τ) (mem9 t) fullShare ((dats m 0 c).before 9 t d))
    ∗ (∃ d, owns (c : Thread nD τ) (mem10 t) fullShare ((dats m 0 c).before 10 t d))
    ∗ (∃ d, owns (c : Thread nD τ) (mem11 t) fullShare d)
    ∗ (∃ d, owns (c : Thread nD τ) (mem12 t) fullShare d)
    ∗ (∃ d, owns (c : Thread nD τ) (mem13 t) fullShare d)
    ∗ (∃ d, owns (c : Thread nD τ) (mem14 t) fullShare ((dats m 0 c).before 14 t d)))

def returned (c : Dev nD) (t : Fin cfg0.N) : sProp 𝕄 :=
  iprop((dats m 0 c).Φ t.succ ∗ (dats m 0 c).owesAt () t.succ
    ∗ owns (c : Thread nD τ) (mem0 t) fullShare ((dats m 0 c).after 0 t)
    ∗ owns (c : Thread nD τ) (mem1 t) fullShare ((dats m 0 c).after 1 t)
    ∗ owns (c : Thread nD τ) (mem2 t) fullShare ((dats m 0 c).after 2 t)
    ∗ owns (c : Thread nD τ) (mem3 t) fullShare ((dats m 0 c).after 3 t)
    ∗ owns (c : Thread nD τ) (mem4 t) fullShare ((dats m 0 c).after 4 t)
    ∗ owns (c : Thread nD τ) (mem5 t) fullShare ((dats m 0 c).after 5 t)
    ∗ owns (c : Thread nD τ) (mem6 t) fullShare ((dats m 0 c).after 6 t)
    ∗ owns (c : Thread nD τ) (mem7 t) fullShare ((dats m 0 c).after 7 t)
    ∗ owns (c : Thread nD τ) (mem8 t) fullShare ((dats m 0 c).after 8 t)
    ∗ owns (c : Thread nD τ) (mem9 t) fullShare ((dats m 0 c).after 9 t)
    ∗ owns (c : Thread nD τ) (mem10 t) fullShare ((dats m 0 c).after 10 t)
    ∗ (∃ d, owns (c : Thread nD τ) (mem11 t) fullShare d)
    ∗ (∃ d, owns (c : Thread nD τ) (mem12 t) fullShare d)
    ∗ (∃ d, owns (c : Thread nD τ) (mem13 t) fullShare d)
    ∗ owns (c : Thread nD τ) (mem14 t) fullShare ((dats m 0 c).after 14 t))

set_option maxHeartbeats 1600000 in
/-- A point of the grid: the blocks in, the decays and multipliers out. -/
theorem point_sound (c : Dev nD) (t : Fin cfg0.N) :
    given m c t ⊢ wp frame (wpE (defs₀ (F := F)) Variants.none c none) Set.univ (bodyAt0 t) (fun _ => returned m c t) := by
  unfold given returned bodyAt0
  simp only [bef0, bef1, bef2, bef3, bef4, bef5, bef6, bef7, bef8, bef9, bef10]
  rw [show (dats m 0 c).Φ t.succ = (dats m 0 c).Φ t.castSucc from rfl,
    show (dats m 0 c).owesAt () t.succ = (dats m 0 c).owesAt () t.castSucc from rfl,
    aft0, aft1, aft2, aft3, aft4, aft5, aft6, aft7, aft8, aft9, aft10, aft14]
  rw [show (dats m 0 c).Φ t.castSucc = Pipeline.ΦA spec0 c from rfl, kept_eq]
  iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, H11, H12, H13, ⟨%d14, H14⟩⟩
  ihave H14 := (show owns (c : Thread nD τ) (mem14 t) fullShare _ ⊢ (iprop(∃ f, (mem14 t).view.loc (c : Thread nD τ) ↦[(mem14 t).view.set]{fullShare} f) : sProp 𝕄) from by
      unfold owns; iintro ⟨%f, -, H⟩; iexists f; iexact H) $$ H14
  icases H14 with ⟨%f14, H14⟩
  iapply ((run (whole0 t) (whole1 t) (whole2 t) (whole3 t) (whole4 t) (whole5 t) (whole6 t) (whole7 t) (whole8 t) (whole9 t) (whole10 t) (whole11 t) (whole12 t) (whole13 t) (whole14 t) (Memref.isWhole_whole cc0_scratch0) (Memref.isWhole_whole cc0_scratch1) c (grid0.coords t) (iblk m c 0 t) (iblk m c 1 t) (iblk m c 2 t) (iblk m c 3 t) (iblk m c 4 t) (iblk m c 5 t) (iblk m c 6 t) (iblk m c 7 t) (iblk m c 8 t) (iblk m c 9 t) (iblk m c 10 t) f14).2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [HS0]; · iexact HS0
  isplitl [HS1]; · iexact HS1
  isplitl [H14]; · iexact H14
  iintro ⟨H0, H1, H2, H3, H4, H5, H6, H7, H8, H9, H10, H11, H12, H13, HS0, HS1, H14⟩
  isplitl [HS0 HS1 Hg]
  · isplitl [HS0 HS1]
    · isplitl [HS0]; · iexact HS0
      iexact HS1
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  unfold owns; iexists _; isplitr
  · ipureintro
    exact read_stored m c t f14
  iexact H14

theorem row_eq (t : Fin cfg0.N) : defs₀ (F := F) .tc cfg0.body (cfg0.bodyArgs t (cfg0.slots t)) = bodyAt0 t := by
  unfold defs₀; rw [Defs.onTc_tc]

theorem obligation (c : Dev nD) : BodyObligation (dats m 0 c) (defs₀ (F := F)) Variants.none () Set.univ loose := fun t => by
  rw [bigSep_W0, bigSep_W0, row_eq]
  exact triple_restated (point_sound m c t) rfl .rfl fun _ => .rfl

end Cert.RecFwdIdeal.Body

end
-- ==== Proof.RecLayer.lean ====
module

public import proofs.«01_k».proof.Proof.RecPure
public import proofs.«01_k».proof.Proof.RecFrame

/-!
The two layers of the kept array that hold the decays, read at an index.
-/

@[expose] public section

set_option maxRecDepth 16384

noncomputable section

namespace Cert.RecFwdIdeal.Body

open Idealize.ShloMosaic Idealize.ShloMosaic.TcCoe Idealize.ShloMosaic.Tactic
open Idealize.SL.Sem
open Cert.RecFwdIdeal.Gen Cert.RecFwdIdeal.Pure

variable {arg1 : Memref sig .tc .vmem S2048x128 .f32} (harg1 : arg1.IsWhole)
variable {arg3 : Memref sig .tc .vmem S4x128 .f32} (harg3 : arg3.IsWhole)
variable {arg4 : Memref sig .tc .vmem S1x128 .f32} (harg4 : arg4.IsWhole)
variable {arg5 : Memref sig .tc .vmem S2x1x128x64 .f32} (harg5 : arg5.IsWhole)
variable {arg6 : Memref sig .tc .vmem S2x128 .f32} (harg6 : arg6.IsWhole)
variable {arg9 : Memref sig .tc .vmem S2x128 .f32} (harg9 : arg9.IsWhole)
variable {arg10 : Memref sig .tc .vmem S64x128 .bf16} (harg10 : arg10.IsWhole)
variable {arg11 : Memref sig .tc .vmem S128x128 .f32} (harg11 : arg11.IsWhole)
variable (c : Dev nD) (x0 : Vec Ideal S2048x128 .f32) (x2 : Vec Ideal S4x128 .f32) (x3 : Vec Ideal S1x128 .f32) (x4 : Vec Ideal S2x1x128x64 .f32)
variable (x5 x8 : Vec Ideal S2x128 .f32) (x9 : Vec Ideal S64x128 .bf16) (x10 : Vec Ideal S128x128 .f32)

/-- A read through a rectangle of a whole buffer is the contents at the rectangle's place. -/
theorem read_at {s : Shape} {e : EltTy} {b : Memref sig .tc .vmem s e} (h : b.IsWhole) (x : Vec Ideal s e) (r : LoadRect s) (j : r.shape.Idx) :
    View.readAt (Elt Ideal) b.view r (h.unread x) j = x (r.idx j) := congrFun (h.read_unread x) _

theorem at2 {n k : ℕ} (off : Fin 2 → ℕ) (size : Fin 2 → ℕ) (h) (j : (Rect.unit (s := (⟨2, ![n, k]⟩ : Shape)) off size h).shape.Idx) (a : Fin n) (b : Fin k)
    (h0 : off 0 + (j 0).val = a.val) (h1 : off 1 + (j 1).val = b.val) : (Rect.unit (s := (⟨2, ![n, k]⟩ : Shape)) off size h).idx j = ix2 a b := by
  funext ax
  match ax with
  | 0 => exact Fin.ext (by simpa using h0)
  | 1 => exact Fin.ext (by simpa using h1)

theorem at4 {n k i q : ℕ} (off : Fin 4 → ℕ) (size : Fin 4 → ℕ) (h) (j : (Rect.unit (s := (⟨4, ![n, k, i, q]⟩ : Shape)) off size h).shape.Idx) (a : Fin n) (b : Fin k) (d : Fin i) (e : Fin q)
    (h0 : off 0 + (j 0).val = a.val) (h1 : off 1 + (j 1).val = b.val) (h2 : off 2 + (j 2).val = d.val) (h3 : off 3 + (j 3).val = e.val) :
    (Rect.unit (s := (⟨4, ![n, k, i, q]⟩ : Shape)) off size h).idx j = ix4 a b d e := by
  funext ax
  match ax with
  | 0 => exact Fin.ext (by simpa using h0)
  | 1 => exact Fin.ext (by simpa using h1)
  | 2 => exact Fin.ext (by simpa using h2)
  | 3 => exact Fin.ext (by simpa using h3)

theorem above_half (p : Prop) [Decidable p] : BitVec.ofBool (decide (Ideal.ofBits FTy.f32 1056964608#32 < if p then (1 : EReal) else 0)) = if p then 1#1 else 0#1 := by
  rw [show Ideal.ofBits FTy.f32 1056964608#32 = ((1 / 2 : ℝ) : EReal) from Cert.Gate.half]
  have h1 : ((1 / 2 : ℝ) : EReal) < 1 := by exact_mod_cast (by norm_num : (1 / 2 : ℝ) < 1)
  have h0 : ¬ ((1 / 2 : ℝ) : EReal) < 0 := by
    rw [not_lt]; exact_mod_cast (by norm_num : (0 : ℝ) ≤ 1 / 2)
  split
  · rw [decide_eq_true h1]; rfl
  · rw [decide_eq_false h0]; rfl

/-- The stream after the convolution. -/
theorem u_at (s : Fin 2048) (k : Fin 128) :
    run.sl.r_6 (F := Ideal) harg1 harg3 harg4 c x0 x2 x3 (ix2 s k) = conv (fun s => x0 (ix2 s k)) (fun j => x2 (ix2 j k)) (x3 (ix2 0 k)) s := by
  show k0_pay121 (F := Ideal) _ _ _ _ _ (ix2 s k) = _
  rw [pay121_at]
  unfold run.sl.r_3 run.sl.r_4 run.sl.r_2
  rw [pay119_at, pay120_at]
  simp only [read_at]
  have e0 : ∀ s : Fin 2048, (Rect.unit (s := S2048x128) ![0, 0] S2048x128.size inb_S2048x128_S2048x128_0_0).idx (ix2 s k) = ix2 s k :=
    fun s => at2 _ _ _ _ s k (by simp [ix2]) (by simp [ix2])
  have eb : (Rect.unit (s := S1x128) ![0, 0] S1x128.size inb_S1x128_S1x128_0_0).idx (ix2 0 k) = ix2 0 k := at2 _ _ _ _ 0 k (by simp [ix2]) (by simp [ix2])
  have ew : ∀ (j : Fin 4) (h), (Rect.unit (s := S4x128) ![j.val, 0] S1x128.size h).idx (ix2 0 k) = ix2 j k :=
    fun j h => at2 _ _ _ _ j k (by simp [ix2]) (by simp [ix2]; rfl)
  unfold conv
  refine congrArg₂ _ (congrArg₂ _ (congrArg₂ _ (congrArg₂ _ (congrArg x3 eb) ?_) ?_) ?_) ?_
  · exact congrArg₂ _ (congrArg (past · 2 s) (funext fun s => congrArg x0 (e0 s))) (congrArg x2 (ew 0 _))
  · exact congrArg₂ _ (congrArg (past · 1 s) (funext fun s => congrArg x0 (e0 s))) (congrArg x2 (ew 1 _))
  · exact congrArg₂ _ (congrArg x0 (e0 s)) (congrArg x2 (ew 2 _))
  · exact congrArg₂ _ (congrArg (next · s) (funext fun s => congrArg x0 (e0 s))) (congrArg x2 (ew 3 _))

theorem dup_at (e : Fin 64) (l : Fin 128) : run.sl.r (F := Ideal) harg10 c x9 (ix2 e l) = x9 (ix2 e l) := by
  unfold run.sl.r
  pointwise [k0_pay117]
  rw [read_at]
  exact congrArg x9 (at2 _ _ _ _ e l (by simp [ix2]) (by simp [ix2]))

theorem same_at (k l : Fin 128) (h : x10 (ix2 k l) = if k.val / 64 = l.val / 64 then 1 else 0) :
    run.sl.r_1 (F := Ideal) harg11 c x10 (ix2 k l) = if k.val / 64 = l.val / 64 then 1#1 else 0#1 := by
  unfold run.sl.r_1
  pointwise [k0_pay118]
  rw [read_at]
  rw [at2 _ _ _ _ k l (by simp [ix2]) (by simp [ix2]), h]
  exact above_half _

/-- A gate's argument: the block's stream by its 64 columns of the weights, and the bias. -/
def gateArg (p : Fin 2) (s : Fin 2048) (l : Fin 128) : EReal :=
  (∑ e : Fin 64, conv (fun s => x0 (ix2 s ⟨64 * (l.val / 64) + e.val, by have := e.isLt; have := l.isLt; omega⟩))
      (fun j => x2 (ix2 j ⟨64 * (l.val / 64) + e.val, by have := e.isLt; have := l.isLt; omega⟩))
      (x3 (ix2 0 ⟨64 * (l.val / 64) + e.val, by have := e.isLt; have := l.isLt; omega⟩)) s
    * x4 (ix4 p 0 ⟨64 * (l.val / 64) + e.val, by have := e.isLt; have := l.isLt; omega⟩ ⟨l.val % 64, Nat.mod_lt _ (by norm_num)⟩))
  + x5 (ix2 p l)

variable (hd : ∀ (e : Fin 64) (l : Fin 128), x9 (ix2 e l) = if l.val % 64 = e.val then 1 else 0)
variable (hs : ∀ k l : Fin 128, x10 (ix2 k l) = if k.val / 64 = l.val / 64 then 1 else 0)

include hd hs in
/-- The forward direction's layer. -/
theorem layer0_at (s : Fin 2048) (l : Fin 128) :
    k0_pay135 (run.sl.r_12 (F := Ideal) harg1 harg3 harg4 harg5 harg6 harg9 harg10 harg11 c x0 x2 x3 x4 x5 x8 x9 x10) (ix3 0 s l)
      = decay (gateArg x0 x2 x3 x4 x5 0 s l) (x8 (ix2 0 l)) := by
  pointwise [k0_pay135]
  change k0_pay142 (run.sl.r_6 harg1 harg3 harg4 c x0 x2 x3) (k0_pay138 (run.sl.r harg10 c x9) (run.sl.r_1 harg11 c x10)
    (View.readAt (Elt Ideal) arg5.view (Rect.unit (s := S2x1x128x64) ![0, 0, 0, 0] S1x1x128x64.size inb_S2x1x128x64_S1x1x128x64_0_0_0_0).toLoadRect (harg5.unread x4)))
    (View.readAt (Elt Ideal) arg6.view (Rect.unit (s := S2x128) ![0, 0] S1x128.size inb_S2x128_S1x128_0_0).toLoadRect (harg6.unread x5))
    (View.readAt (Elt Ideal) arg9.view (Rect.unit (s := S2x128) ![0, 0] S1x128.size inb_S2x128_S1x128_0_0).toLoadRect (harg9.unread x8)) (ix2 s l) = _
  rw [pay142_at]
  simp only [pay138_at, dup_at, u_at, same_at harg11 c x10 _ _ (hs _ _)]
  rw [gate_sum _ _ _ _ l (fun e => hd e l) fun k => rfl]
  simp only [read_at]
  rw [at2 (n := 2) ![0, 0] _ _ _ 0 l (by simp [ix2]) (by simp [ix2])]
  unfold gateArg
  refine congrArg (fun g => decay (g + x5 (ix2 0 l)) (x8 (ix2 0 l))) (Finset.sum_congr rfl fun e _ => ?_)
  exact congrArg (fun k => _ * x4 k) (at4 _ _ _ _ _ _ _ _ (by simp [ix4]) (by simp [ix4]) (by simp [ix4]) (by simp [ix4]))

include hd hs in
/-- The backward direction's layer. -/
theorem layer2_at (s : Fin 2048) (l : Fin 128) :
    k0_pay146 (run.sl.r_21 (F := Ideal) harg1 harg3 harg4 harg5 harg6 harg9 harg10 harg11 c x0 x2 x3 x4 x5 x8 x9 x10) (ix3 0 s l)
      = decay (gateArg x0 x2 x3 x4 x5 1 s l) (x8 (ix2 1 l)) := by
  pointwise [k0_pay146]
  unfold run.sl.r_21 run.sl.r_16 run.sl.r_18
  rw [pay142_at]
  simp only [pay138_at, dup_at, u_at, same_at harg11 c x10 _ _ (hs _ _)]
  rw [gate_sum _ _ _ _ l (fun e => hd e l) fun k => rfl]
  simp only [read_at]
  rw [at2 (n := 2) ![1, 0] _ _ _ 1 l (by simp [ix2]) (by simp [ix2])]
  unfold gateArg
  refine congrArg (fun g => decay (g + x5 (ix2 1 l)) (x8 (ix2 1 l))) (Finset.sum_congr rfl fun e _ => ?_)
  exact congrArg (fun k => _ * x4 k) (at4 _ _ _ _ _ _ _ _ (by simp [ix4]) (by simp [ix4]) (by simp [ix4]) (by simp [ix4]))

end Cert.RecFwdIdeal.Body

end
-- ==== Proof.RecRef.lean ====
module

public import proofs.«01_k».proof.Proof.RecPure
public import proofs.«01_k».proof.Proof.Gen.RecDecayIdeal.Read
public import Idealize.ShloMosaic.Lib.KernelVsHost

/-!
The reference's decays, read at an index.
-/

@[expose] public section

set_option maxRecDepth 16384

noncomputable section

namespace Cert.RecFwdIdeal.Ref

open Idealize.ShloMosaic Idealize.ShloMosaic.TcCoe Idealize.ShloMosaic.Tactic
open Cert.RecDecayIdeal Cert.RecDecayIdeal.Read
open Cert.RecFwdIdeal.Pure

variable (x0 : Vec Ideal S2048x2048 .f32) (x1 : Vec Ideal S4x1024 .f32) (x2 : Vec Ideal S1024 .f32) (x3 : Vec Ideal S2x16x64x64 .f32)
variable (x4 x7 : Vec Ideal S2x1024 .f32)

/-- A column of the branch's stream. -/
def col (l : Fin 1024) (s : Fin 2048) : EReal := x0 (ix2 s ⟨l.val, by have := l.isLt; omega⟩)

/-- The branch's stream after its convolution. -/
def convAt (s : Fin 2048) (l : Fin 1024) : EReal := conv (col x0 l) (fun j => x1 (ix2 j l)) (x2 (ix1 l)) s

theorem pad_in (s : Fin 2051) (l : Fin 1024) (h : 2 ≤ s.val) (h' : s.val - 2 < 2048) :
    val_main_v1 (F := Ideal) x0 (ix2 s l) = col x0 l ⟨s.val - 2, h'⟩ := by
  unfold val_main_v1
  refine (pad_apply_of_inside _ _ _ _ _ _ _ _ (ix2 ⟨s.val - 2, h'⟩ l) ?_).trans ?_
  · intro a
    match a with
    | 0 => show s.val = 2 + (s.val - 2) * 1; omega
    | 1 => show l.val = 0 + l.val * 1; omega
  · pointwise [val_main_v0]
    rfl

theorem sitofp_zero : FloatOps.sitofp (F := Ideal) FTy.f32 (0#32) = 0 := by
  show (((0#32 : BitVec 32).toInt : ℝ) : EReal) = 0
  simp

theorem pad_out (s : Fin 2051) (l : Fin 1024) (h : s.val < 2 ∨ 2050 ≤ s.val) : val_main_v1 (F := Ideal) x0 (ix2 s l) = 0 := by
  unfold val_main_v1
  refine (pad_apply_of_not_inside _ _ _ _ _ _ _ _ 0 ?_).trans ?_
  · show ¬(2 ≤ s.val ∧ (s.val - 2) % 1 = 0 ∧ (s.val - 2) / 1 < 2048)
    omega
  · pointwise [val_main_call0_v0, val_main_c]
    exact sitofp_zero

theorem conv_at (s : Fin 2048) (l : Fin 1024) : val_main_v31 (F := Ideal) x0 x1 x2 (ix2 s l) = convAt x0 x1 x2 s l := by
  pointwise [val_main_v31, val_main_v30, val_main_v29, val_main_v28, val_main_v27, val_main_v26, val_main_v25, val_main_v24, val_main_v23, val_main_v22, val_main_v21, val_main_v20, val_main_v19, val_main_v18, val_main_v17, val_main_v16, val_main_v15, val_main_v14, val_main_v13, val_main_v12, val_main_v11, val_main_v10, val_main_v9, val_main_v8, val_main_v7, val_main_v6, val_main_v5, val_main_v4, val_main_v3, val_main_v2]
  unfold convAt conv
  refine congrArg₂ _ (congrArg₂ _ (congrArg₂ _ (congrArg₂ _ rfl ?_) ?_) ?_) ?_
  · refine congrArg (· * x1 (ix2 0 l)) ?_
    unfold past
    split
    · rename_i h
      exact pad_in x0 _ l h _
    · rename_i h
      exact pad_out x0 _ l (.inl (by show s.val < 2; omega))
  · refine congrArg (· * x1 (ix2 1 l)) ?_
    unfold past
    split
    · rename_i h
      exact (pad_in x0 _ l (by show 2 ≤ 1 + s.val; omega) (by show 1 + s.val - 2 < 2048; have := s.isLt; omega)).trans (congrArg (col x0 l) (Fin.ext (by show 1 + s.val - 2 = s.val - 1; omega)))
    · rename_i h
      exact pad_out x0 _ l (.inl (by show 1 + s.val < 2; omega))
  · refine congrArg (· * x1 (ix2 2 l)) ?_
    exact (pad_in x0 _ l (by show 2 ≤ 2 + s.val; omega) (by show 2 + s.val - 2 < 2048; have := s.isLt; omega)).trans (congrArg (col x0 l) (Fin.ext (by show 2 + s.val - 2 = s.val; omega)))
  · refine congrArg (· * x1 (ix2 3 l)) ?_
    unfold next
    split
    · rename_i h
      exact (pad_in x0 _ l (by show 2 ≤ 3 + s.val; omega) (by show 3 + s.val - 2 < 2048; omega)).trans (congrArg (col x0 l) (Fin.ext (by show 3 + s.val - 2 = s.val + 1; omega)))
    · rename_i h
      exact pad_out x0 _ l (.inr (by show 2050 ≤ 3 + s.val; omega))

theorem gate0_at (s : Fin 2048) (l : Fin 1024) : val_main_v44 (F := Ideal) x0 x1 x2 x3 x4 (ix2 s l)
    = (∑ c : Fin 64, convAt x0 x1 x2 s ⟨64 * (l.val / 64) + c.val, by have := c.isLt; have := l.isLt; omega⟩
        * x3 (ix4 0 ⟨l.val / 64, by have := l.isLt; omega⟩ c ⟨l.val % 64, Nat.mod_lt _ (by norm_num)⟩)) + x4 (ix2 0 l) := by
  pointwise [val_main_v44, val_main_v43, val_main_v42, val_main_v41, val_main_v40, val_main_v39, val_main_v38, val_main_v35, val_main_v34, val_main_v33, val_main_v32]
  refine congrArg (· + x4 (ix2 0 l)) (Finset.sum_congr rfl fun c _ => ?_)
  rw [conv_at, mul_comm]
  exact congrArg (fun k => convAt x0 x1 x2 s k * x3 (ix4 0 ⟨l.val / 64, by have := l.isLt; omega⟩ c ⟨l.val % 64, Nat.mod_lt _ (by norm_num)⟩)) (Fin.ext (by show l.val / 64 * 64 + c.val = 64 * (l.val / 64) + c.val; omega))

theorem soft0_at (l : Fin 1024) : val_main_v54 (F := Ideal) x7 (ix1 l) = softplus (-(x7 (ix2 0 l))) := by
  pointwise [val_main_v54, val_main_v53, val_main_v37, val_main_v36, val_main_call1_v11, val_main_call1_v10, val_main_call1_v9, val_main_call1_v8, val_main_call1_v7, val_main_call1_v6, val_main_call1_v5, val_main_call1_v4, val_main_call1_v3, val_main_call1_v2, val_main_call1_v1, val_main_call1_v0, val_main_call1_cst]
  rw [if_neg (fun h => h rfl)]
  rfl

theorem gate1_at (s : Fin 2048) (l : Fin 1024) : val_main_v71 (F := Ideal) x0 x1 x2 x3 x4 (ix2 s l)
    = (∑ c : Fin 64, convAt x0 x1 x2 s ⟨64 * (l.val / 64) + c.val, by have := c.isLt; have := l.isLt; omega⟩
        * x3 (ix4 1 ⟨l.val / 64, by have := l.isLt; omega⟩ c ⟨l.val % 64, Nat.mod_lt _ (by norm_num)⟩)) + x4 (ix2 1 l) := by
  pointwise [val_main_v71, val_main_v70, val_main_v69, val_main_v68, val_main_v67, val_main_v66, val_main_v65, val_main_v62, val_main_v61, val_main_v60, val_main_v59]
  refine congrArg (· + x4 (ix2 1 l)) (Finset.sum_congr rfl fun c _ => ?_)
  rw [conv_at, mul_comm]
  exact congrArg (fun k => convAt x0 x1 x2 s k * x3 (ix4 1 ⟨l.val / 64, by have := l.isLt; omega⟩ c ⟨l.val % 64, Nat.mod_lt _ (by norm_num)⟩)) (Fin.ext (by show l.val / 64 * 64 + c.val = 64 * (l.val / 64) + c.val; omega))

theorem soft1_at (l : Fin 1024) : val_main_v81 (F := Ideal) x7 (ix1 l) = softplus (-(x7 (ix2 1 l))) := by
  pointwise [val_main_v81, val_main_v80, val_main_v64, val_main_v63, val_main_call2_v11, val_main_call2_v10, val_main_call2_v9, val_main_call2_v8, val_main_call2_v7, val_main_call2_v6, val_main_call2_v5, val_main_call2_v4, val_main_call2_v3, val_main_call2_v2, val_main_call2_v1, val_main_call2_v0, val_main_call2_cst]
  rw [if_neg (fun h => h rfl)]
  rfl

/-- The forward direction's decay. -/
theorem ref0_at (s : Fin 2048) (l : Fin 1024) : val_main_v58 (F := Ideal) x0 x1 x2 x3 x4 x7 (ix2 s l)
    = decay ((∑ c : Fin 64, convAt x0 x1 x2 s ⟨64 * (l.val / 64) + c.val, by have := c.isLt; have := l.isLt; omega⟩
        * x3 (ix4 0 ⟨l.val / 64, by have := l.isLt; omega⟩ c ⟨l.val % 64, Nat.mod_lt _ (by norm_num)⟩)) + x4 (ix2 0 l)) (x7 (ix2 0 l)) := by
  pointwise [val_main_v58, val_main_v57, val_main_v56, val_main_v55, val_main_v52, val_main_v51, val_main_v50, val_main_v49, val_main_v48, val_main_v47, val_main_v46, val_main_v45, val_main_cst, val_main_cst_0, val_main_cst_1]
  rw [gate0_at, soft0_at]
  rfl

/-- The backward direction's decay. -/
theorem ref1_at (s : Fin 2048) (l : Fin 1024) : val_main_v85 (F := Ideal) x0 x1 x2 x3 x4 x7 (ix2 s l)
    = decay ((∑ c : Fin 64, convAt x0 x1 x2 s ⟨64 * (l.val / 64) + c.val, by have := c.isLt; have := l.isLt; omega⟩
        * x3 (ix4 1 ⟨l.val / 64, by have := l.isLt; omega⟩ c ⟨l.val % 64, Nat.mod_lt _ (by norm_num)⟩)) + x4 (ix2 1 l)) (x7 (ix2 1 l)) := by
  pointwise [val_main_v85, val_main_v84, val_main_v83, val_main_v82, val_main_v79, val_main_v78, val_main_v77, val_main_v76, val_main_v75, val_main_v74, val_main_v73, val_main_v72, val_main_cst_2, val_main_cst_3, val_main_cst_4]
  rw [gate1_at, soft1_at]
  rfl

end Cert.RecFwdIdeal.Ref

end
-- ==== Proof.RecRun.lean ====
module

public import proofs.«01_k».proof.Proof.RecFrame
public import proofs.«01_k».proof.Proof.RecTail

/-!
The recurrence's forward program to its end: its arguments unchanged, and each direction's decay a layer of the array
the kernel leaves.
-/

@[expose] public section

set_option maxRecDepth 16384

noncomputable section

namespace Cert.RecFwdIdeal.Body

open Idealize.ShloMosaic Idealize.ShloMosaic.TcCoe Idealize.ShloMosaic.Tactic
open Idealize.SL Idealize.SL.RA Idealize.SL.BI
open Idealize.SL.Sem
open Cert.RecFwdIdeal.Gen Cert.Tail

variable {F : FTy → Type} [FloatOps F]
variable (m : (ℓ : Loc nD τ sig) → Buf (Elt F) ℓ) (ρ : Dev nD → PrngReg)

/-- The pipeline's data with the unnamed windows open. -/
abbrev opened (c : Dev nD) : Pipeline.RDat τ (Elt F) Unit ℕ (UR sig nD τ) ℕ cfg0 c := (dats m 0 c).toRForget loose

set_option backward.isDefEq.respectTransparency.types false in
theorem run_quiet : θ_run defs (onTc (τ := τ) (main (F := F))) (s₀ m ρ) (fun r => (∀ c : Dev nD,
      (∀ w, (opened m c).ArrAt w cfg0.N (r.2.mem ((spec0 w).arr.view.loc (c.tc : Thread nD τ))))
      ∧ ∃ A, fits cfgs 0 (opened m) c A ∧ ∀ b ∈ Pipeline.restRefsP sig Pipeline.Prefetch.none spec0, r.2.mem ((c.tc : Thread nD τ).loc b) = ending cfgs 0 (V0 m) [hostOps1] c A b)
      ∧ r.2.sem = fun _ => 0) :=
  run_named cfgs 0 launch₀0 (opened m) (V0 m) defs₀ Variants.none m ρ main (fun c => (obligation m c).loose.toRForget)
    (fun _ _ _ => rfl) (fun _ _ => rfl) [hostOps1] sfx_sub sfx_fresh sfx_keeps (hmain m Variants.none) (arr_entry m) (fun _ _ => rfl)

/-- What the host lines do not write stays as the kernel found it. -/
theorem ending_of (c : Dev nD) (A) (b : Ref sig .tc) (h22 : b ≠ main_v22) (h23 : b ≠ main_v23) (h24 : b ≠ main_v24) (h25 : b ≠ main_v25)
    (hw : ∀ w, Pipeline.arrRef spec0 w ≠ b) : ending cfgs 0 (V0 m) [hostOps1] c A b = V m c b := by
  unfold ending
  rw [StableHlo.after_of_forall_not_mem (b := Proc.devRef .tc b) _ _ (List.forall_iff_forall_mem.mp (by
      simp only [hostOps1, List.flatten_cons, List.flatten_nil, List.append_nil, List.Forall, StableHlo.unary_writes, StableHlo.reshape_writes, Finset.mem_singleton]
      exact ⟨StableHlo.devRef_ne_of_ne h22, StableHlo.devRef_ne_of_ne h23, StableHlo.devRef_ne_of_ne h24, StableHlo.devRef_ne_of_ne h25⟩)),
    Pipeline.withArrays_of_ne _ c (V0 m c) _ b hw]

theorem rest_of (b : Ref sig .tc) (hs : b.isScoped = false) (hw : ∀ w, Pipeline.arrRef spec0 w ≠ b) : b ∈ Pipeline.restRefsP sig Pipeline.Prefetch.none spec0 :=
  Finset.mem_sdiff.mpr ⟨Pipeline.mem_restRefs_of b hs hw, fun h => ((Finset.mem_image.mp h).elim fun k _ => k.elim0)⟩

/-- A window whose contents are named ends at what the named blocks make of it. -/
theorem named (c : Dev nD) (w : Fin 15) (hw : loose w = false) (x) (h : (opened m c).ArrAt w cfg0.N x) : x = (dats m 0 c).arrAt w cfg0.N :=
  (Pipeline.Dat.toRForget_arrAt_iff (dat := dats m 0 c) (fgt := loose) (w := w) hw _ _).mp h

/-- The forward decay cut out of the array. -/
def cut0 (c : Dev nD) : Vec F S2048x1024 .f32 :=
  shapeCast S2048x1024 (extractStridedSlice S1x2048x1024 ![0, 0, 0] ((dats m 0 c).arrAt 14 cfg0.N : Vec F S4x2048x1024 .f32) slices_S4x2048x1024_S1x2048x1024_0_0_0) shapeCasts_S1x2048x1024_S2048x1024

/-- The backward decay cut out of the array. -/
def cut1 (c : Dev nD) : Vec F S2048x1024 .f32 :=
  shapeCast S2048x1024 (extractStridedSlice S1x2048x1024 ![2, 0, 0] ((dats m 0 c).arrAt 14 cfg0.N : Vec F S4x2048x1024 .f32) slices_S4x2048x1024_S1x2048x1024_2_0_0) shapeCasts_S1x2048x1024_S2048x1024

theorem after_cut0 (W : Valuation τ sig (Elt F)) : StableHlo.after (List.flatten [hostOps1]) W (Proc.devRef .tc main_v23) =
    shapeCast S2048x1024 (extractStridedSlice S1x2048x1024 ![0, 0, 0] (W (Proc.devRef .tc main_v21_3) : Vec F S4x2048x1024 .f32) slices_S4x2048x1024_S1x2048x1024_0_0_0) shapeCasts_S1x2048x1024_S2048x1024 := by
  simp only [List.flatten_cons, List.flatten_nil, List.append_nil, hostOps1]
  after_results
  rfl

theorem after_cut1 (W : Valuation τ sig (Elt F)) : StableHlo.after (List.flatten [hostOps1]) W (Proc.devRef .tc main_v25) =
    shapeCast S2048x1024 (extractStridedSlice S1x2048x1024 ![2, 0, 0] (W (Proc.devRef .tc main_v21_3) : Vec F S4x2048x1024 .f32) slices_S4x2048x1024_S1x2048x1024_2_0_0) shapeCasts_S1x2048x1024_S2048x1024 := by
  simp only [List.flatten_cons, List.flatten_nil, List.append_nil, hostOps1]
  after_results
  rfl

/-- The kept array before the lines that follow the kernel. -/
theorem before_cut (c : Dev nD) (A) (h : fits cfgs 0 (opened m) c A) :
    Pipeline.withArrays (cfgs 0).spec c (V0 m c) A (Proc.devRef .tc main_v21_3) = A 14 :=
  Pipeline.withArrays_arr_shared (cfgs 0).spec c (V0 m c) A
    ((opened m c).ArrAt_sharedIn launch₀0.sharedIn (V0 m c) (fun w => arr_entry m c w) cfg0.N A h) 14

theorem ending_cut0 (c : Dev nD) (A) (h : fits cfgs 0 (opened m) c A) : ending cfgs 0 (V0 m) [hostOps1] c A main_v23 = cut0 m c := by
  have e : A 14 = (dats m 0 c).arrAt 14 cfg0.N := named m c 14 rfl _ (h 14)
  unfold ending cut0
  rw [← e, after_cut0]
  exact congrArg (fun a : Vec F S4x2048x1024 .f32 => shapeCast S2048x1024 (extractStridedSlice S1x2048x1024 ![0, 0, 0] a slices_S4x2048x1024_S1x2048x1024_0_0_0) shapeCasts_S1x2048x1024_S2048x1024) (before_cut m c A h)

theorem ending_cut1 (c : Dev nD) (A) (h : fits cfgs 0 (opened m) c A) : ending cfgs 0 (V0 m) [hostOps1] c A main_v25 = cut1 m c := by
  have e : A 14 = (dats m 0 c).arrAt 14 cfg0.N := named m c 14 rfl _ (h 14)
  unfold ending cut1
  rw [← e, after_cut1]
  exact congrArg (fun a : Vec F S4x2048x1024 .f32 => shapeCast S2048x1024 (extractStridedSlice S1x2048x1024 ![2, 0, 0] a slices_S4x2048x1024_S1x2048x1024_2_0_0) shapeCasts_S1x2048x1024_S2048x1024) (before_cut m c A h)

/-- The results and the arguments at the end. -/
theorem run_arr : θ_run defs (onTc (τ := τ) (main (F := F))) (s₀ m ρ) (fun r => ∀ c : Dev nD,
      (r.2.mem ((c.tc : Thread nD τ).loc main_v23) = cut0 m c ∧ r.2.mem ((c.tc : Thread nD τ).loc main_v25) = cut1 m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) := by
  refine (θ_run defs _ _).mono (fun r h c => ?_) (run_quiet m ρ)
  obtain ⟨hw, A, hA, hr⟩ := h.1 c
  have keep : ∀ b : Ref sig .tc, b.isScoped = false → (∀ w, Pipeline.arrRef spec0 w ≠ b) → b ≠ main_v22 → b ≠ main_v23 → b ≠ main_v24 → b ≠ main_v25 →
      r.2.mem ((c.tc : Thread nD τ).loc b) = V m c b := fun b hs hb h22 h23 h24 h25 =>
    (hr b (rest_of b hs hb)).trans (ending_of m c A b h22 h23 h24 h25 hb)
  have ins : ∀ w : Fin 15, loose w = false → (cfg0.win w).isOut = false → r.2.mem ((spec0 w).arr.view.loc (c.tc : Thread nD τ)) = V m c (Pipeline.arrRef spec0 w) := fun w hl hi =>
    (named m c w hl _ (hw w)).trans (((dats m 0 c).arrAt_in w hi _).trans (arr_entry m c w))
  refine ⟨⟨(hr main_v23 (rest_of _ (by decide) (by decide))).trans (ending_cut0 m c A hA), (hr main_v25 (rest_of _ (by decide) (by decide))).trans (ending_cut1 m c A hA)⟩, ?_⟩
  exact ⟨(ins 1 rfl rfl).trans (V_main_arg0 m c),
    (ins 2 rfl rfl).trans (V_main_arg1 m c),
    (keep main_arg2 (by decide) (by decide) (by decide) (by decide) (by decide) (by decide)).trans (V_main_arg2 m c),
    (keep main_arg3 (by decide) (by decide) (by decide) (by decide) (by decide) (by decide)).trans (V_main_arg3 m c),
    (ins 5 rfl rfl).trans (V_main_arg4 m c),
    (keep main_arg5 (by decide) (by decide) (by decide) (by decide) (by decide) (by decide)).trans (V_main_arg5 m c),
    (ins 7 rfl rfl).trans (V_main_arg6 m c),
    (ins 8 rfl rfl).trans (V_main_arg7 m c)⟩

/-- The run ends, the arguments unchanged and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7))
      ∧ r.2.sem = fun _ => 0) :=
  θ_run_and ((θ_run defs _ _).mono (fun _ h c => (h c).2) (run_arr m ρ)) ((θ_run defs _ _).mono (fun _ h => h.2) (run_quiet m ρ))

end Cert.RecFwdIdeal.Body

end
-- ==== Proof.RecTables.lean ====
/- The two tables of zeros and ones the host makes for the recurrence's forward kernel. -/
module

public import proofs.«01_k».proof.Proof.RecFrame
public import Idealize.ShloMosaic.Lib.Pipeline.ReadBack
public import Idealize.ShloMosaic.Lib.Pointwise
public import Idealize.ShloMosaic.Lib.StableHlo.RunRead

@[expose] public section

set_option maxRecDepth 16384

noncomputable section

namespace Cert.RecFwdIdeal.Body

open Cert.RecFwdIdeal Cert.RecFwdIdeal.Gen Idealize.ShloMosaic Idealize.ShloMosaic.TcCoe Idealize.SL.Sem

variable (m : (ℓ : Loc nD τ sig) → Buf (Elt Ideal) ℓ)

/-- A flag as a number. -/
theorem flag (b : BitVec 1) (p : Prop) [Decidable p] (h : b = if p then 1#1 else 0#1) :
    (FloatOps.uitofp .f32 b : Ideal .f32) = if p then 1 else 0 := by
  rw [h]; split
  · exact (by norm_num : ((1 : ℕ) : EReal) = 1)
  · exact (by norm_num : ((0 : ℕ) : EReal) = 0)

/-- Two tables of flags are equal where their entries are. -/
theorem all_eq {n k : ℕ} (f g : Fin n → Fin k → BitVec 1) (h : (List.finRange n).all (fun a => (List.finRange k).all fun b => f a b == g a b) = true) (a : Fin n) (b : Fin k) :
    f a b = g a b := by
  have := List.all_eq_true.mp (List.all_eq_true.mp h a (List.mem_finRange a)) b (List.mem_finRange b)
  exact eq_of_beq this

theorem half_table (c : Dev nD) (k l : Fin 128) : V m c main_v19 (ix2 k l) = if k.val / 64 = l.val / 64 then (1 : EReal) else 0 := by
  unfold V
  after_reads_simp
  refine flag _ _ ?_
  revert k l
  refine all_eq _ (fun k l => if k.val / 64 = l.val / 64 then 1#1 else 0#1) ?_
  clear * -
  decide +kernel

theorem dup_table (c : Dev nD) (e : Fin 64) (l : Fin 128) : V m c main_v20 (ix2 e l) = if l.val % 64 = e.val then (1 : EReal) else 0 := by
  unfold V
  after_reads_simp
  refine flag _ _ ?_
  revert e l
  refine all_eq _ (fun e l => if l.val % 64 = e.val then 1#1 else 0#1) ?_
  clear * -
  decide +kernel

end Cert.RecFwdIdeal.Body

end
-- ==== Proof.RecValue.lean ====
/- The decays the recurrence's forward kernel leaves, each equal to the reference's result over the same arguments. -/
module

public import proofs.«01_k».proof.Proof.RecLayer
public import proofs.«01_k».proof.Proof.RecRef
public import proofs.«01_k».proof.Proof.RecRun
public import proofs.«01_k».proof.Proof.RecTables
public import Idealize.ShloMosaic.Lib.Pipeline.ReadBack
public import Idealize.ShloMosaic.Lib.Pointwise
public import Idealize.ShloMosaic.Lib.StableHlo.RunRead

@[expose] public section

set_option maxRecDepth 16384

noncomputable section

namespace Cert.RecFwdIdeal.Body

open Cert.RecFwdIdeal Cert.RecFwdIdeal.Gen Idealize.ShloMosaic Idealize.ShloMosaic.TcCoe Idealize.SL.Sem
open Idealize.ShloMosaic.Pipeline (Dat)
open Cert.RecFwdIdeal.Pure Cert.RecFwdIdeal.Ref

variable (m : (ℓ : Loc nD τ sig) → Buf (Elt Ideal) ℓ)

/-- Where each block lies at a grid point: column block `t` of every stream and parameter, the two tables whole. -/
theorem idx : ∀ t : Fin cfg0.N,
    win0_0.index t = ![0, t.val] ∧ win0_2.index t = ![0, t.val] ∧ win0_3.index t = ![0, t.val]
    ∧ win0_4.index t = ![0, t.val, 0, 0] ∧ win0_5.index t = ![0, t.val] ∧ win0_8.index t = ![0, t.val]
    ∧ win0_9.index t = ![0, 0] ∧ win0_10.index t = ![0, 0] ∧ win0_14.index t = ![0, 0, t.val] :=
  (by decide +kernel : ∀ t : Fin grid0.N, _)

theorem lane_lt (t : Fin cfg0.N) (l : Fin 128) : 128 * t.val + l.val < 1024 := by
  have h8 : cfg0.N = 8 := N_0
  have := t.isLt; have := l.isLt; omega

/-- A block's lane as a column of the branch. -/
def lane (t : Fin cfg0.N) (l : Fin 128) : Fin 1024 := ⟨128 * t.val + l.val, lane_lt t l⟩

theorem stream_at (c : Dev nD) (t : Fin cfg0.N) (s : Fin 2048) (l : Fin 128) :
    iblk m c 0 t (ix2 s l) = col (m ((c : Thread nD τ).loc main_arg0)) (lane t l) s := by
  unfold col lane
  blk_point [iblk, V, idx t]

theorem taps_at (c : Dev nD) (t : Fin cfg0.N) (j : Fin 4) (l : Fin 128) :
    iblk m c 2 t (ix2 j l) = m ((c : Thread nD τ).loc main_arg1) (ix2 j (lane t l)) := by
  unfold lane
  blk_point [iblk, V, idx t]

theorem bias_at (c : Dev nD) (t : Fin cfg0.N) (l : Fin 128) :
    iblk m c 3 t (ix2 0 l) = m ((c : Thread nD τ).loc main_arg2) (ix1 (lane t l)) := by
  unfold lane
  have e : ∀ i, V m c main_v0 i = m ((c : Thread nD τ).loc main_arg2) (ix1 (i 1)) := fun i => by
    unfold V
    after_reads_simp
    pointwise
  blk_point [iblk, e, idx t]

theorem weight_at (c : Dev nD) (t : Fin cfg0.N) (p : Fin 2) (k : Fin 128) (d : Fin 64) :
    iblk m c 4 t (ix4 p 0 k d) = m ((c : Thread nD τ).loc main_arg3) (ix4 p ⟨(lane t k).val / 64, by have := (lane t k).isLt; omega⟩ ⟨k.val % 64, Nat.mod_lt _ (by norm_num)⟩ d) := by
  unfold lane
  have e : ∀ i, V m c main_v1 i = m ((c : Thread nD τ).loc main_arg3) (ix4 (i 0) ⟨(i 1).val * 2 + (i 2).val / 64, by have h1 : (i 1).val < 8 := (i 1).isLt; have h2 : (i 2).val < 128 := (i 2).isLt; omega⟩ ⟨(i 2).val % 64, Nat.mod_lt _ (by norm_num)⟩ (i 3)) := fun i => by
    unfold V
    after_reads_simp
    pointwise
  blk_point [iblk, e, idx t]

theorem gate_bias_at (c : Dev nD) (t : Fin cfg0.N) (p : Fin 2) (l : Fin 128) :
    iblk m c 5 t (ix2 p l) = m ((c : Thread nD τ).loc main_arg4) (ix2 p (lane t l)) := by
  unfold lane
  blk_point [iblk, V, idx t]

theorem lambda_at (c : Dev nD) (t : Fin cfg0.N) (p : Fin 2) (l : Fin 128) :
    iblk m c 8 t (ix2 p l) = m ((c : Thread nD τ).loc main_arg7) (ix2 p (lane t l)) := by
  unfold lane
  blk_point [iblk, V, idx t]

theorem table_at (c : Dev nD) (t : Fin cfg0.N) (e : Fin 64) (l : Fin 128) :
    iblk m c 9 t (ix2 e l) = if l.val % 64 = e.val then (1 : EReal) else 0 := by
  refine Eq.trans ?_ (dup_table m c e l)
  blk_point [iblk, idx t]

theorem halves_at (c : Dev nD) (t : Fin cfg0.N) (k l : Fin 128) :
    iblk m c 10 t (ix2 k l) = if k.val / 64 = l.val / 64 then (1 : EReal) else 0 := by
  refine Eq.trans ?_ (half_table m c k l)
  blk_point [iblk, idx t]

/-- A gate's argument over the blocks is the one over the whole arrays. -/
theorem gate_at (c : Dev nD) (t : Fin cfg0.N) (p : Fin 2) (s : Fin 2048) (l : Fin 128) :
    gateArg (iblk m c 0 t) (iblk m c 2 t) (iblk m c 3 t) (iblk m c 4 t) (iblk m c 5 t) p s l
      = (∑ e : Fin 64, convAt (m ((c : Thread nD τ).loc main_arg0)) (m ((c : Thread nD τ).loc main_arg1)) (m ((c : Thread nD τ).loc main_arg2)) s
            ⟨64 * ((lane t l).val / 64) + e.val, by have := e.isLt; have := (lane t l).isLt; omega⟩
          * m ((c : Thread nD τ).loc main_arg3) (ix4 p ⟨(lane t l).val / 64, by have := (lane t l).isLt; omega⟩ e ⟨(lane t l).val % 64, Nat.mod_lt _ (by norm_num)⟩))
        + m ((c : Thread nD τ).loc main_arg4) (ix2 p (lane t l)) := by
  unfold gateArg
  refine congrArg₂ (· + ·) (Finset.sum_congr rfl fun e _ => ?_) (gate_bias_at m c t p l)
  simp only [stream_at, taps_at, bias_at, weight_at]
  have hl : l.val < 128 := l.isLt
  have he : e.val < 64 := e.isLt
  have hk : lane t ⟨64 * (l.val / 64) + e.val, by omega⟩ = ⟨64 * ((lane t l).val / 64) + e.val, by have := (lane t l).isLt; omega⟩ :=
    Fin.ext (by show 128 * t.val + (64 * (l.val / 64) + e.val) = 64 * ((128 * t.val + l.val) / 64) + e.val; omega)
  refine congrArg₂ (· * ·) (congrArg (convAt (m ((c : Thread nD τ).loc main_arg0)) (m ((c : Thread nD τ).loc main_arg1)) (m ((c : Thread nD τ).loc main_arg2)) s) hk) (congrArg _ ?_)
  have e1 : (⟨(lane t ⟨64 * (l.val / 64) + e.val, by omega⟩).val / 64, by have := (lane t ⟨64 * (l.val / 64) + e.val, by omega⟩).isLt; omega⟩ : Fin 16)
      = ⟨(lane t l).val / 64, by have := (lane t l).isLt; omega⟩ :=
    Fin.ext (by show (128 * t.val + (64 * (l.val / 64) + e.val)) / 64 = (128 * t.val + l.val) / 64; omega)
  have e2 : (⟨(64 * (l.val / 64) + e.val) % 64, Nat.mod_lt _ (by norm_num)⟩ : Fin 64) = e := Fin.ext (by show (64 * (l.val / 64) + e.val) % 64 = e.val; omega)
  have e3 : (⟨l.val % 64, Nat.mod_lt _ (by norm_num)⟩ : Fin 64) = ⟨(lane t l).val % 64, Nat.mod_lt _ (by norm_num)⟩ :=
    Fin.ext (by show l.val % 64 = (128 * t.val + l.val) % 64; omega)
  rw [e1, e2, e3]

/-- The forward direction's decay over the arguments. -/
abbrev ref0 (c : Dev nD) : Vec Ideal S2048x1024 .f32 :=
  Cert.RecDecayIdeal.Read.val_main_v58 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg7))

/-- The backward direction's decay over the arguments. -/
abbrev ref1 (c : Dev nD) : Vec Ideal S2048x1024 .f32 :=
  Cert.RecDecayIdeal.Read.val_main_v85 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg7))

theorem left0_at (c : Dev nD) (t : Fin cfg0.N) (s : Fin 2048) (l : Fin 128) : left m c t (ix3 0 s l) = ref0 m c (ix2 s (lane t l)) := by
  refine (layer0_at _ _ _ _ _ _ _ _ c _ _ _ _ _ _ _ _ (table_at m c t) (halves_at m c t) s l).trans ?_
  rw [gate_at, lambda_at]
  exact (ref0_at _ _ _ _ _ _ s (lane t l)).symm

theorem left2_at (c : Dev nD) (t : Fin cfg0.N) (s : Fin 2048) (l : Fin 128) : left m c t (ix3 2 s l) = ref1 m c (ix2 s (lane t l)) := by
  refine (layer2_at _ _ _ _ _ _ _ _ c _ _ _ _ _ _ _ _ (table_at m c t) (halves_at m c t) s l).trans ?_
  rw [gate_at, lambda_at]
  exact (ref1_at _ _ _ _ _ _ s (lane t l)).symm

/-- The array of decays and multipliers, block by block. -/
def kept (c : Dev nD) : Vec Ideal S4x2048x1024 .f32 := fun i =>
  left m c ⟨(i 2).val / 128, by have h : (i 2).val < 1024 := (i 2).isLt; have h8 : cfg0.N = 8 := N_0; omega⟩
    (ix3 (i 0) (i 1) ⟨(i 2).val % 128, Nat.mod_lt _ (by norm_num)⟩)

theorem final14 (c : Dev nD) : (dats m 0 c).arrAt 14 cfg0.N = kept m c := by
  refine (dats m 0 c).arrAt_eq_of_covers 14 _ (by decide +kernel) fun t _ y => ?_
  blk_simp
  rw [aft14]
  have h8 : cfg0.N = 8 := N_0
  have ht := t.isLt
  have hl : (y 2).val < 128 := (y 2).isLt
  have hv : ∀ a, ((win0_14.blk t).view.emb y a).val = _ := fun a => win0_14.rect_emb_val t y a
  have v0 : ((win0_14.blk t).view.emb y 0).val = (y 0).val := (hv 0).trans (by rw [(idx t).2.2.2.2.2.2.2.2]; simp)
  have v1 : ((win0_14.blk t).view.emb y 1).val = (y 1).val := (hv 1).trans (by rw [(idx t).2.2.2.2.2.2.2.2]; simp)
  have v2 : ((win0_14.blk t).view.emb y 2).val = 128 * t.val + (y 2).val :=
    (hv 2).trans (by rw [(idx t).2.2.2.2.2.2.2.2]; show t.val * 128 + (y 2).val = _; omega)
  unfold kept
  refine congr (congrArg (left m c) (Fin.ext ?_)) (funext fun a => ?_)
  · show t.val = ((win0_14.blk t).view.emb y 2).val / 128
    rw [v2]; omega
  · match a with
    | 0 => exact Fin.ext v0.symm
    | 1 => exact Fin.ext v1.symm
    | 2 => exact Fin.ext (by show (y 2).val = ((win0_14.blk t).view.emb y 2).val % 128; rw [v2]; omega)

theorem kept_layer (c : Dev nD) (q : Fin 4) (s : Fin 2048) (l : Fin 1024) : kept m c (ix3 q s l)
    = left m c ⟨l.val / 128, by have h : l.val < 1024 := l.isLt; have h8 : cfg0.N = 8 := N_0; omega⟩ (ix3 q s ⟨l.val % 128, Nat.mod_lt _ (by norm_num)⟩) := rfl

theorem lane_div (l : Fin 1024) (h) : lane ⟨l.val / 128, h⟩ ⟨l.val % 128, Nat.mod_lt _ (by norm_num)⟩ = l :=
  Fin.ext (by show 128 * (l.val / 128) + l.val % 128 = l.val; omega)

theorem cut0_eq (c : Dev nD) : cut0 m c = ref0 m c := by
  unfold cut0
  rw [final14]
  funext i
  pointwise
  refine (kept_layer m c 0 (i 0) (i 1)).trans ((left0_at m c _ _ _).trans ?_)
  exact congrArg (ref0 m c) ((congrArg (ix2 (i 0)) (lane_div (i 1) _)).trans (eq_ix2 i).symm)

theorem cut1_eq (c : Dev nD) : cut1 m c = ref1 m c := by
  unfold cut1
  rw [final14]
  funext i
  pointwise
  refine (kept_layer m c 2 (i 0) (i 1)).trans ((left2_at m c _ _ _).trans ?_)
  exact congrArg (ref1 m c) ((congrArg (ix2 (i 0)) (lane_div (i 1) _)).trans (eq_ix2 i).symm)

end Cert.RecFwdIdeal.Body

end
-- ==== Proof.RecClaim.lean ====
/- The recurrence's forward pair: the three frames and the equality of both directions' decays. -/
module

public import proofs.«01_k».proof.Defs
public import proofs.«01_k».proof.Proof.RecWordRun
public import proofs.«01_k».proof.Proof.Gen.RecDecayIdeal.Run
public import proofs.«01_k».proof.Proof.RecValue
public import Idealize.ShloMosaic.Lib.Claim

@[expose] public section

set_option maxRecDepth 16384

noncomputable section

namespace Cert.RecClaim

open Idealize.ShloMosaic Idealize.ShloMosaic.TcCoe Idealize.SL.Sem

/-- The kernel over machine words runs, leaves its arguments as they were and its semaphores at zero. -/
theorem frame_bits : Cert.quiescent_RecFwd (hRecFwd := Cert.RecFwd.Gen.facts) := fun m ρ _ => Cert.RecFwd.Body.frame (F := Bits) m ρ

/-- So does the kernel over the extended reals. -/
theorem frame_ideal : Cert.quiescent_RecFwdIdeal (hRecFwdIdeal := Cert.RecFwdIdeal.Gen.facts) := fun m ρ _ => Cert.RecFwdIdeal.Body.frame (F := Ideal) m ρ

/-- The reference runs, leaves its arguments as they were and its semaphores at zero. -/
theorem frame_ref : Cert.quiescent_RecDecayIdeal := fun m ρ _ =>
  (θ_run Cert.RecDecayIdeal.defs _ _).mono (fun r h => ⟨fun c => (h c).2.2,
      Idealize.ShloMosaic.sem_eq_zero_of_no_sems (by decide) r.2⟩)
    (Cert.RecDecayIdeal.Value.run (F := Ideal) m ρ)

/-- Kernel and reference end with equal decays. -/
theorem algebraic : Cert.algebraic_RecFwdIdeal_RecDecayIdeal := by
  pair_intro
  · run_from Cert.RecFwdIdeal.Body.run_arr m g
  · refine (θ_run Cert.RecDecayIdeal.defs _ _).mono (fun r h c => ?_) (Cert.RecDecayIdeal.Value.run (F := Ideal) m' g')
    obtain ⟨h0, h1, hargs⟩ := h c
    obtain ⟨a0, a1, a2, a3, a4, a5, a6, a7⟩ := hagree c
    refine ⟨h0.trans ?_, h1.trans ?_, hargs⟩
    · rw [Cert.RecDecayIdeal.Read.val_main_v58_eq, a0, a1, a2, a3, a4, a7]
      exact (Cert.RecFwdIdeal.Body.cut0_eq m c).symm
    · rw [Cert.RecDecayIdeal.Read.val_main_v85_eq, a0, a1, a2, a3, a4, a7]
      exact (Cert.RecFwdIdeal.Body.cut1_eq m c).symm

end Cert.RecClaim

end
-- ==== Proof.lean ====
/- The certificate: the claims of each program pair, put together. -/
module

public import proofs.«01_k».proof.Defs
public import proofs.«01_k».proof.Proof.MixClaim
public import proofs.«01_k».proof.Proof.NormClaim
public import proofs.«01_k».proof.Proof.FfnClaim
public import proofs.«01_k».proof.Proof.AttClaim
public import proofs.«01_k».proof.Proof.OutClaim
public import proofs.«01_k».proof.Proof.MergeClaim
public import proofs.«01_k».proof.Proof.ProjClaim
public import proofs.«01_k».proof.Proof.RecClaim

@[expose] public section

theorem Cert.Proof.claim : Cert.Claim :=
  ⟨Cert.MixBwd.Gen.facts, Cert.MixBwdIdeal.Gen.facts, Cert.MixGradIdeal.Gen.facts,
    Cert.NormBwd.Gen.facts, Cert.NormBwdIdeal.Gen.facts, Cert.NormGradIdeal.Gen.facts, Cert.FfnLoss.Gen.facts, Cert.FfnLossIdeal.Gen.facts, Cert.FfnGradIdeal.Gen.facts,
    Cert.AttBwd.Gen.facts, Cert.AttBwdIdeal.Gen.facts, Cert.AttGradIdeal.Gen.facts,
    Cert.AttFwd.Gen.facts, Cert.AttFwdIdeal.Gen.facts, Cert.AttOutIdeal.Gen.facts,
    Cert.MixFwd.Gen.facts, Cert.MixFwdIdeal.Gen.facts, Cert.MixOutIdeal.Gen.facts, Cert.ProjFwd.Gen.facts, Cert.ProjFwdIdeal.Gen.facts, Cert.ProjOutIdeal.Gen.facts,
    Cert.RecFwd.Gen.facts, Cert.RecFwdIdeal.Gen.facts, Cert.RecDecayIdeal.Gen.facts,
    Cert.NormClaim.pre_facts, Cert.FfnClaim.pre_facts, Cert.AttClaim.pre_facts, Cert.OutClaim.pre_facts,
    fun m ρ _ => Cert.MixBwd.Gen.frame m ρ, fun m ρ _ => Cert.MixBwdIdeal.Gen.frame m ρ, Cert.MixClaim.frame_ref,
    fun m ρ _ => Cert.NormBwd.Gen.frame m ρ, fun m ρ _ => Cert.NormBwdIdeal.Gen.frame m ρ, fun m ρ _ => Cert.NormBwdIdeal.Gen.frame m ρ,
    Cert.NormClaim.frame_ref, fun m ρ _ => Cert.NormClaim.frame_ref m ρ trivial,
    fun m ρ _ => Cert.FfnLoss.Gen.frame m ρ, fun m ρ _ => Cert.FfnLossIdeal.Gen.frame m ρ, fun m ρ _ => Cert.FfnLossIdeal.Gen.frame m ρ,
    Cert.FfnClaim.frame_ref, fun m ρ _ => Cert.FfnClaim.frame_ref m ρ trivial,
    fun m ρ _ => Cert.AttBwd.Body.frame m ρ, fun m ρ _ => Cert.AttBwdIdeal.Body.frame m ρ, fun m ρ _ => Cert.AttBwdIdeal.Body.frame m ρ,
    Cert.AttClaim.frame_ref, fun m ρ _ => Cert.AttClaim.frame_ref m ρ trivial,
    fun m ρ _ => Cert.AttFwd.Gen.frame m ρ, fun m ρ _ => Cert.AttFwdIdeal.Gen.frame m ρ, fun m ρ _ => Cert.AttFwdIdeal.Gen.frame m ρ,
    Cert.OutClaim.frame_ref, fun m ρ _ => Cert.OutClaim.frame_ref m ρ trivial,
    fun m ρ _ => Cert.MixFwd.Gen.frame m ρ, fun m ρ _ => Cert.MixFwdIdeal.Gen.frame m ρ, Cert.MergeClaim.frame_ref,
    fun m ρ _ => Cert.ProjFwd.Gen.frame m ρ, fun m ρ _ => Cert.ProjFwdIdeal.Gen.frame m ρ, Cert.ProjClaim.frame_ref,
    Cert.RecClaim.frame_bits, Cert.RecClaim.frame_ideal, Cert.RecClaim.frame_ref,
    trivial, Cert.MixClaim.algebraic, trivial, Cert.NormClaim.algebraic,
    trivial, Cert.FfnClaim.algebraic, Idealize.ShloMosaic.IdealRules.named_const.statement Cert.AttBwdIdeal.κ "mask" .f32 0xF149F2CA#32 ⊥ rfl, Cert.AttClaim.algebraic,
    Idealize.ShloMosaic.IdealRules.named_const.statement Cert.AttFwdIdeal.κ "mask" .f32 0xF149F2CA#32 ⊥ rfl, Cert.OutClaim.algebraic,
    trivial, Cert.MergeClaim.algebraic, trivial, Cert.ProjClaim.algebraic, trivial, Cert.RecClaim.algebraic⟩

end
